-- ==== Defs.lean ====
def Pre_Kernel [hPre_pi_keeps_Kernel : Cert.Pre_pi_keeps_Kernel.Facts] (m : (ℓ : Loc Cert.Kernel.nD Cert.Kernel.τ Cert.Kernel.sig) → Buf (Elt Bits) ℓ) : Prop :=
  ∀ c : Dev Cert.Kernel.nD,
    (Cert.Pre_pi_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_swaps_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_keeps_Kernel : Cert.Pre_pi_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_swaps_Kernel [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_keeps_ReferenceIdeal [hPre_pi_keeps_ReferenceIdeal : Cert.Pre_pi_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_swaps_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel_pi_swaps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_swaps_Kernel [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_swaps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_keeps_ReferenceIdeal [hReferenceIdeal : Cert.ReferenceIdeal.Facts] [hPre_pi_keeps_ReferenceIdeal : Cert.Pre_pi_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_swaps_Kernel [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_swaps_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_keeps_Kernel : Cert.Pre_pi_keeps_Kernel.Facts) (hPre_pi_swaps_Kernel : Cert.Pre_pi_swaps_Kernel.Facts) (hPre_pi_keeps_ReferenceIdeal : Cert.Pre_pi_keeps_ReferenceIdeal.Facts) (hPre_pi_swaps_ReferenceIdeal : Cert.Pre_pi_swaps_ReferenceIdeal.Facts),
    quiescent_Kernel (hKernel := hKernel) (hPre_pi_keeps_Kernel := hPre_pi_keeps_Kernel)
    ∧ quiescent_Kernel_pre_pi_swaps_Kernel (hKernel := hKernel) (hPre_pi_swaps_Kernel := hPre_pi_swaps_Kernel)
    ∧ quiescent_KernelIdeal (hKernelIdeal := hKernelIdeal) (hPre_pi_keeps_Kernel := hPre_pi_keeps_Kernel)
    ∧ quiescent_KernelIdeal_pre_pi_swaps_Kernel (hKernelIdeal := hKernelIdeal) (hPre_pi_swaps_Kernel := hPre_pi_swaps_Kernel)
    ∧ quiescent_ReferenceIdeal (hReferenceIdeal := hReferenceIdeal)
    ∧ quiescent_ReferenceIdeal_pre_pi_keeps_ReferenceIdeal (hReferenceIdeal := hReferenceIdeal) (hPre_pi_keeps_ReferenceIdeal := hPre_pi_keeps_ReferenceIdeal)
    ∧ quiescent_ReferenceIdeal_pre_pi_swaps_ReferenceIdeal (hReferenceIdeal := hReferenceIdeal) (hPre_pi_swaps_ReferenceIdeal := hPre_pi_swaps_ReferenceIdeal)
    ∧ preserves_Kernel_KernelIdeal
    ∧ algebraic_KernelIdeal_ReferenceIdeal (hKernelIdeal := hKernelIdeal) (hReferenceIdeal := hReferenceIdeal) (hPre_pi_keeps_Kernel := hPre_pi_keeps_Kernel)
    ∧ algebraic_KernelIdeal_ReferenceIdeal_pre_pi_swaps_Kernel (hKernelIdeal := hKernelIdeal) (hReferenceIdeal := hReferenceIdeal) (hPre_pi_swaps_Kernel := hPre_pi_swaps_Kernel)
-- ==== Pre_pi_keeps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_keeps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_swaps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S2x128x1024 : Shape := ⟨3, ![2, 128, 1024]⟩
abbrev S4x224x256 : Shape := ⟨3, ![4, 224, 256]⟩
abbrev S10 : Shape := ⟨1, ![10]⟩
abbrev S4x4 : Shape := ⟨2, ![4, 4]⟩
abbrev S1 : Shape := ⟨1, ![1]⟩
abbrev S_ : Shape := ⟨0, ![]⟩
abbrev S1x224x256 : Shape := ⟨3, ![1, 224, 256]⟩
abbrev S224x256 : Shape := ⟨2, ![224, 256]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 3
  | .vmem => 5
  | .smem => 1
  | _ => 0

abbrev bufTy : (tb : Table) → Fin (tcTables nBuf tb) → BufTy
  | .hbm, ⟨0, _⟩ => ⟨S1x2048x1024, .bf16⟩
  | .hbm, ⟨1, _⟩ => ⟨S2, .i32⟩
  | .hbm, ⟨2, _⟩ => ⟨S1x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2x128x1024, .bf16⟩
  | .local _ .vmem, ⟨3, _⟩ => ⟨S4x224x256, .bf16⟩
  | .local _ .vmem, ⟨4, _⟩ => ⟨S4x224x256, .bf16⟩
  | .local _ .smem, ⟨0, _⟩ => ⟨S2, .i32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  (ofTc nBuf bufTy 1 111 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c16_i32_4 : BitVec 32 := 16#32
  let v15 : BitVec 32 := Scalar.muli v10 c16_i32_4
  let v16 : BitVec 32 := Scalar.addi c0_i32_5 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v17 : BitVec 32 := Scalar.muli v5 c4_i32_6
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.muli v8 c1_i32_7
  let v20 : BitVec 32 := Scalar.addi v18 v19
  v20.toNat

def k0_dev2 (d0 : Dev nD) (v11 : BitVec 32) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v12 : BitVec 1 := Scalar.cmpi .eq v11 v2
  let c0_i32 : BitVec 32 := 0#32
  let c1_i32_2 : BitVec 32 := 1#32
  let v13 : BitVec 32 := Scalar.select v12 c0_i32 c1_i32_2
  let c16_i32_9 : BitVec 32 := 16#32
  let v21 : BitVec 32 := Scalar.muli v13 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat

def k0_chk2 (d0 : Dev nD) (v11 : BitVec 32) : Prop :=
  ((k0_dev2 d0 v11) < nD)
theorem k0_dev2_lt : ∀ (d0 : Dev nD) (v11 : BitVec 32) (k0_hw2 : k0_chk2 d0 v11), (k0_dev2 d0 v11) < nD := fun d0 v11 k0_hw2 => k0_hw2

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_13 : BitVec 32 := 0#32
  let v27 : BitVec 1 := Scalar.cmpi .sgt v5 c0_i32_13
  let v28 : BitVec 32 := Scalar.extui v27
  let c0_i32_14 : BitVec 32 := 0#32
  let v29 : BitVec 1 := Scalar.cmpi .ne v28 c0_i32_14
  v29

def k0_dev3 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1092 : BitVec 32 := 16#32
  let v1570 : BitVec 32 := Scalar.muli v2 c16_i32_1092
  let v1571 : BitVec 32 := Scalar.addi c0_i32_1093 v1570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1090 : BitVec 32 := 1#32
  let v1569 : BitVec 32 := Scalar.subi v5 c1_i32_1090
  let c4_i32_1094 : BitVec 32 := 4#32
  let v1572 : BitVec 32 := Scalar.muli v1569 c4_i32_1094
  let v1573 : BitVec 32 := Scalar.addi v1571 v1572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1574 : BitVec 32 := Scalar.muli v8 c1_i32_1095
  let v1575 : BitVec 32 := Scalar.addi v1573 v1574
  v1575.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v30 : BitVec 1 := Scalar.cmpi .slt v5 c3_i32
  let v31 : BitVec 32 := Scalar.extui v30
  let c0_i32_15 : BitVec 32 := 0#32
  let v32 : BitVec 1 := Scalar.cmpi .ne v31 c0_i32_15
  v32

def k0_dev4 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1092 : BitVec 32 := 16#32
  let v1570 : BitVec 32 := Scalar.muli v2 c16_i32_1092
  let v1571 : BitVec 32 := Scalar.addi c0_i32_1093 v1570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1090 : BitVec 32 := 1#32
  let v1569 : BitVec 32 := Scalar.addi v5 c1_i32_1090
  let c4_i32_1094 : BitVec 32 := 4#32
  let v1572 : BitVec 32 := Scalar.muli v1569 c4_i32_1094
  let v1573 : BitVec 32 := Scalar.addi v1571 v1572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1574 : BitVec 32 := Scalar.muli v8 c1_i32_1095
  let v1575 : BitVec 32 := Scalar.addi v1573 v1574
  v1575.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_16 : BitVec 32 := 0#32
  let v33 : BitVec 1 := Scalar.cmpi .sgt v8 c0_i32_16
  let v34 : BitVec 32 := Scalar.extui v33
  let c0_i32_17 : BitVec 32 := 0#32
  let v35 : BitVec 1 := Scalar.cmpi .ne v34 c0_i32_17
  v35

def k0_dev5 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1092 : BitVec 32 := 16#32
  let v1570 : BitVec 32 := Scalar.muli v2 c16_i32_1092
  let v1571 : BitVec 32 := Scalar.addi c0_i32_1093 v1570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1094 : BitVec 32 := 4#32
  let v1572 : BitVec 32 := Scalar.muli v5 c4_i32_1094
  let v1573 : BitVec 32 := Scalar.addi v1571 v1572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1090 : BitVec 32 := 1#32
  let v1569 : BitVec 32 := Scalar.subi v8 c1_i32_1090
  let c1_i32_1095 : BitVec 32 := 1#32
  let v1574 : BitVec 32 := Scalar.muli v1569 c1_i32_1095
  let v1575 : BitVec 32 := Scalar.addi v1573 v1574
  v1575.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_18 : BitVec 32 := 3#32
  let v36 : BitVec 1 := Scalar.cmpi .slt v8 c3_i32_18
  let v37 : BitVec 32 := Scalar.extui v36
  let c0_i32_19 : BitVec 32 := 0#32
  let v38 : BitVec 1 := Scalar.cmpi .ne v37 c0_i32_19
  v38

def k0_dev6 (d0 : Dev nD) : Nat :=
  let c0_i32_1093 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1092 : BitVec 32 := 16#32
  let v1570 : BitVec 32 := Scalar.muli v2 c16_i32_1092
  let v1571 : BitVec 32 := Scalar.addi c0_i32_1093 v1570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1094 : BitVec 32 := 4#32
  let v1572 : BitVec 32 := Scalar.muli v5 c4_i32_1094
  let v1573 : BitVec 32 := Scalar.addi v1571 v1572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1090 : BitVec 32 := 1#32
  let v1569 : BitVec 32 := Scalar.addi v8 c1_i32_1090
  let c1_i32_1095 : BitVec 32 := 1#32
  let v1574 : BitVec 32 := Scalar.muli v1569 c1_i32_1095
  let v1575 : BitVec 32 := Scalar.addi v1573 v1574
  v1575.toNat
def k0_amt1 (d0 : Dev nD) : BitVec 32 :=
  let c2_i32_21 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_20 : BitVec 32 := 0#32
  let v39 : BitVec 1 := Scalar.cmpi .sgt v5 c0_i32_20
  let v40 : BitVec 32 := Scalar.extui v39
  let v41 : BitVec 32 := Scalar.addi c2_i32_21 v40
  let c3_i32_22 : BitVec 32 := 3#32
  let v42 : BitVec 1 := Scalar.cmpi .slt v5 c3_i32_22
  let v43 : BitVec 32 := Scalar.extui v42
  let v44 : BitVec 32 := Scalar.addi v41 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v45 : BitVec 1 := Scalar.cmpi .sgt v8 c0_i32_23
  let v46 : BitVec 32 := Scalar.extui v45
  let v47 : BitVec 32 := Scalar.addi v44 v46
  let c3_i32_24 : BitVec 32 := 3#32
  let v48 : BitVec 1 := Scalar.cmpi .slt v8 c3_i32_24
  let v49 : BitVec 32 := Scalar.extui v48
  let v50 : BitVec 32 := Scalar.addi v47 v49
  v50

def k0_off2 (d0 : Dev nD) (c256_i32 : BitVec 32) (c4_i32_0 : BitVec 32) : Fin 3 → Nat :=
  let c0_26 : Index := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let v55 : Index := Scalar.indexCast v52
  let c0_27 : Index := 0#32
  ![0, v55.toNat, 0]
def k0_off2_at (r : Fin 2) : BitVec 32 × BitVec 32 :=
  if r.val < 1 then
    (256#32, 4#32)
  else
    (1152#32, 1#32)
def k0_off3 (d0 : Dev nD) (c4_i32_0 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c0_i32_33 : BitVec 32 := 0#32
  ![v5.toNat, 0]
def k0_off4 (d0 : Dev nD) (c256_i32 : BitVec 32) (c4_i32_0 : BitVec 32) : Fin 3 → Nat :=
  let c0_i32_32 : BitVec 32 := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let c0_i32_39 : BitVec 32 := 0#32
  ![0, v52.toNat, 0]
def k0_off4_at (r : Fin 2) : BitVec 32 × BitVec 32 :=
  if r.val < 1 then
    (256#32, 4#32)
  else
    (1152#32, 1#32)
def k0_dev7 (d0 : Dev nD) (v10 : BitVec 32) : Nat :=
  let c0_i32_36 : BitVec 32 := 0#32
  let c16_i32_35 : BitVec 32 := 16#32
  let v61 : BitVec 32 := Scalar.muli v10 c16_i32_35
  let v62 : BitVec 32 := Scalar.addi c0_i32_36 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v63 : BitVec 32 := Scalar.muli v5 c4_i32_37
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.muli v8 c1_i32_38
  let v66 : BitVec 32 := Scalar.addi v64 v65
  v66.toNat
def k0_dev8 (d0 : Dev nD) (v10 : BitVec 32) : Nat :=
  let c0_i32_52 : BitVec 32 := 0#32
  let c16_i32_51 : BitVec 32 := 16#32
  let v81 : BitVec 32 := Scalar.muli v10 c16_i32_51
  let v82 : BitVec 32 := Scalar.addi c0_i32_52 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v83 : BitVec 32 := Scalar.muli v5 c4_i32_53
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v85 : BitVec 32 := Scalar.muli v8 c1_i32_54
  let v86 : BitVec 32 := Scalar.addi v84 v85
  v86.toNat
def k0_off5 (d0 : Dev nD) (c256_i32 : BitVec 32) (c4_i32_0 : BitVec 32) : Fin 3 → Nat :=
  let c0_58 : Index := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let v95 : Index := Scalar.indexCast v52
  let c256 : Index := 256#32
  ![0, v95.toNat, 256]
def k0_off5_at (r : Fin 2) : BitVec 32 × BitVec 32 :=
  if r.val < 1 then
    (256#32, 4#32)
  else
    (1152#32, 1#32)
def k0_off6 (d0 : Dev nD) (c4_i32_0 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c1_i32_63 : BitVec 32 := 1#32
  ![v5.toNat, 1]
def k0_off7 (d0 : Dev nD) (c256_i32 : BitVec 32) (c4_i32_0 : BitVec 32) : Fin 3 → Nat :=
  let c0_i32_62 : BitVec 32 := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let c256_i32_69 : BitVec 32 := 256#32
  ![0, v52.toNat, 256]
def k0_off7_at (r : Fin 2) : BitVec 32 × BitVec 32 :=
  if r.val < 1 then
    (256#32, 4#32)
  else
    (1152#32, 1#32)
def k0_dev9 (d0 : Dev nD) (v10 : BitVec 32) : Nat :=
  let c0_i32_66 : BitVec 32 := 0#32
  let c16_i32_65 : BitVec 32 := 16#32
  let v101 : BitVec 32 := Scalar.muli v10 c16_i32_65
  let v102 : BitVec 32 := Scalar.addi c0_i32_66 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v103 : BitVec 32 := Scalar.muli v5 c4_i32_67
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v105 : BitVec 32 := Scalar.muli v8 c1_i32_68
  let v106 : BitVec 32 := Scalar.addi v104 v105
  v106.toNat
def k0_dev10 (d0 : Dev nD) (v10 : BitVec 32) : Nat :=
  let c0_i32_82 : BitVec 32 := 0#32
  let c16_i32_81 : BitVec 32 := 16#32
  let v121 : BitVec 32 := Scalar.muli v10 c16_i32_81
  let v122 : BitVec 32 := Scalar.addi c0_i32_82 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v123 : BitVec 32 := Scalar.muli v5 c4_i32_83
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v125 : BitVec 32 := Scalar.muli v8 c1_i32_84
  let v126 : BitVec 32 := Scalar.addi v124 v125
  v126.toNat
def k0_off8 (d0 : Dev nD) (c256_i32 : BitVec 32) (c4_i32_0 : BitVec 32) : Fin 3 → Nat :=
  let c0_88 : Index := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let v135 : Index := Scalar.indexCast v52
  let c512 : Index := 512#32
  ![0, v135.toNat, 512]
def k0_off8_at (r : Fin 2) : BitVec 32 × BitVec 32 :=
  if r.val < 1 then
    (256#32, 4#32)
  else
    (1152#32, 1#32)
def k0_off9 (d0 : Dev nD) (c4_i32_0 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c2_i32_93 : BitVec 32 := 2#32
  ![v5.toNat, 2]
def k0_off10 (d0 : Dev nD) (c256_i32 : BitVec 32) (c4_i32_0 : BitVec 32) : Fin 3 → Nat :=
  let c0_i32_92 : BitVec 32 := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let c512_i32 : BitVec 32 := 512#32
  ![0, v52.toNat, 512]
def k0_off10_at (r : Fin 2) : BitVec 32 × BitVec 32 :=
  if r.val < 1 then
    (256#32, 4#32)
  else
    (1152#32, 1#32)
def k0_dev11 (d0 : Dev nD) (v10 : BitVec 32) : Nat :=
  let c0_i32_96 : BitVec 32 := 0#32
  let c16_i32_95 : BitVec 32 := 16#32
  let v141 : BitVec 32 := Scalar.muli v10 c16_i32_95
  let v142 : BitVec 32 := Scalar.addi c0_i32_96 v141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_97 : BitVec 32 := 4#32
  let v143 : BitVec 32 := Scalar.muli v5 c4_i32_97
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v145 : BitVec 32 := Scalar.muli v8 c1_i32_98
  let v146 : BitVec 32 := Scalar.addi v144 v145
  v146.toNat
def k0_dev12 (d0 : Dev nD) (v10 : BitVec 32) : Nat :=
  let c0_i32_110 : BitVec 32 := 0#32
  let c16_i32_109 : BitVec 32 := 16#32
  let v161 : BitVec 32 := Scalar.muli v10 c16_i32_109
  let v162 : BitVec 32 := Scalar.addi c0_i32_110 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v163 : BitVec 32 := Scalar.muli v5 c4_i32_111
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v165 : BitVec 32 := Scalar.muli v8 c1_i32_112
  let v166 : BitVec 32 := Scalar.addi v164 v165
  v166.toNat
def k0_off11 (d0 : Dev nD) (c256_i32 : BitVec 32) (c4_i32_0 : BitVec 32) : Fin 3 → Nat :=
  let c0_116 : Index := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let v175 : Index := Scalar.indexCast v52
  let c768 : Index := 768#32
  ![0, v175.toNat, 768]
def k0_off11_at (r : Fin 2) : BitVec 32 × BitVec 32 :=
  if r.val < 1 then
    (256#32, 4#32)
  else
    (1152#32, 1#32)
def k0_off12 (d0 : Dev nD) (c4_i32_0 : BitVec 32) : Fin 2 → Nat :=
  let v3 : BitVec 32 := Dev.word d0
  let v4 : BitVec 32 := Scalar.divsi v3 c4_i32_0
  let c4_i32 : BitVec 32 := 4#32
  let v5 : BitVec 32 := Scalar.remsi v4 c4_i32
  let c3_i32_121 : BitVec 32 := 3#32
  ![v5.toNat, 3]
def k0_off13 (d0 : Dev nD) (c256_i32 : BitVec 32) (c4_i32_0 : BitVec 32) : Fin 3 → Nat :=
  let c0_i32_120 : BitVec 32 := 0#32
  let c224_i32 : BitVec 32 := 224#32
  let v3 : BitVec 32 := Dev.word d0
  let v4 : BitVec 32 := Scalar.divsi v3 c4_i32_0
  let c4_i32 : BitVec 32 := 4#32
  let v5 : BitVec 32 := Scalar.remsi v4 c4_i32
  let v51 : BitVec 32 := Scalar.muli c224_i32 v5
  let v52 : BitVec 32 := Scalar.addi c256_i32 v51
  let c768_i32 : BitVec 32 := 768#32
  ![0, v52.toNat, 768]
def k0_off13_at (r : Fin 2) : BitVec 32 × BitVec 32 :=
  if r.val < 1 then
    (256#32, 4#32)
  else
    (1152#32, 1#32)
def k0_dev13 (d0 : Dev nD) (v10 : BitVec 32) : Nat :=
  let c0_i32_123 : BitVec 32 := 0#32
  let c16_i32_122 : BitVec 32 := 16#32
  let v181 : BitVec 32 := Scalar.muli v10 c16_i32_122
  let v182 : BitVec 32 := Scalar.addi c0_i32_123 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_124 : BitVec 32 := 4#32
  let v183 : BitVec 32 := Scalar.muli v5 c4_i32_124
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v185 : BitVec 32 := Scalar.muli v8 c1_i32_125
  let v186 : BitVec 32 := Scalar.addi v184 v185
  v186.toNat
def k0_dev14 (d0 : Dev nD) (v10 : BitVec 32) : Nat :=
  let c0_i32_137 : BitVec 32 := 0#32
  let c16_i32_136 : BitVec 32 := 16#32
  let v201 : BitVec 32 := Scalar.muli v10 c16_i32_136
  let v202 : BitVec 32 := Scalar.addi c0_i32_137 v201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_138 : BitVec 32 := 4#32
  let v203 : BitVec 32 := Scalar.muli v5 c4_i32_138
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v205 : BitVec 32 := Scalar.muli v8 c1_i32_139
  let v206 : BitVec 32 := Scalar.addi v204 v205
  v206.toNat
def k0_dev15 (d0 : Dev nD) (v10 : BitVec 32) : Nat :=
  let c0_i32_153 : BitVec 32 := 0#32
  let c16_i32_152 : BitVec 32 := 16#32
  let v220 : BitVec 32 := Scalar.muli v10 c16_i32_152
  let v221 : BitVec 32 := Scalar.addi c0_i32_153 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v222 : BitVec 32 := Scalar.muli v5 c4_i32_154
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v224 : BitVec 32 := Scalar.muli v8 c1_i32_155
  let v225 : BitVec 32 := Scalar.addi v223 v224
  v225.toNat
def k0_dev16 (d0 : Dev nD) (v10 : BitVec 32) : Nat :=
  let c0_i32_169 : BitVec 32 := 0#32
  let c16_i32_168 : BitVec 32 := 16#32
  let v239 : BitVec 32 := Scalar.muli v10 c16_i32_168
  let v240 : BitVec 32 := Scalar.addi c0_i32_169 v239
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170 : BitVec 32 := 4#32
  let v241 : BitVec 32 := Scalar.muli v5 c4_i32_170
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_171 : BitVec 32 := 1#32
  let v243 : BitVec 32 := Scalar.muli v8 c1_i32_171
  let v244 : BitVec 32 := Scalar.addi v242 v243
  v244.toNat

def k0_chk1 (d0 : Dev nD) (v10 : BitVec 32) : Prop :=
  ((k0_dev1 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev7_lt : ∀ (d0 : Dev nD) (v10 : BitVec 32) (k0_hw1 : k0_chk1 d0 v10), (k0_dev7 d0 v10) < nD := fun d0 v10 k0_hw1 => k0_hw1.2.1
theorem k0_dev8_lt : ∀ (d0 : Dev nD) (v10 : BitVec 32) (k0_hw1 : k0_chk1 d0 v10), (k0_dev8 d0 v10) < nD := fun d0 v10 k0_hw1 => k0_hw1.2.2.1
theorem k0_dev9_lt : ∀ (d0 : Dev nD) (v10 : BitVec 32) (k0_hw1 : k0_chk1 d0 v10), (k0_dev9 d0 v10) < nD := fun d0 v10 k0_hw1 => k0_hw1.2.2.2.1
theorem k0_dev10_lt : ∀ (d0 : Dev nD) (v10 : BitVec 32) (k0_hw1 : k0_chk1 d0 v10), (k0_dev10 d0 v10) < nD := fun d0 v10 k0_hw1 => k0_hw1.2.2.2.2.1
theorem k0_dev11_lt : ∀ (d0 : Dev nD) (v10 : BitVec 32) (k0_hw1 : k0_chk1 d0 v10), (k0_dev11 d0 v10) < nD := fun d0 v10 k0_hw1 => k0_hw1.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.1
theorem k0_dev16_lt : ∀ (d0 : Dev nD) (v10 : BitVec 32) (k0_hw1 : k0_chk1 d0 v10), (k0_dev16 d0 v10) < nD := fun d0 v10 k0_hw1 => k0_hw1.2.2.2.2.2.2.2.2.2.2

def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_177 : BitVec 32 := 0#32
  let v255 : BitVec 1 := Scalar.cmpi .sge v253 c0_i32_177
  let c3_i32_178 : BitVec 32 := 3#32
  let v256 : BitVec 1 := Scalar.cmpi .sle v253 c3_i32_178
  let v257 : BitVec 1 := Scalar.andi v255 v256
  let v263 : BitVec 32 := Scalar.extui v257
  let c0_i32_183 : BitVec 32 := 0#32
  let v264 : BitVec 1 := Scalar.cmpi .ne v263 c0_i32_183
  v264

def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_1094 : BitVec 32 := 0#32
  ![v253.toNat, 0]
def k0_off15 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c0_i32_1100 : BitVec 32 := 0#32
  ![0, v1570.toNat, 0]
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1583 : BitVec 1 := Scalar.cmpi .sle v253 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_1110 : BitVec 32 := 0#32
  ![v253.toNat, 0]
def k0_off17 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c0_i32_1115 : BitVec 32 := 0#32
  ![0, v1570.toNat, 0]
def k0_dev17 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_181 : BitVec 32 := 1#32
  let v261 : BitVec 32 := Scalar.addi v5 c1_i32_181
  let c4_i32_1113 : BitVec 32 := 4#32
  let v1595 : BitVec 32 := Scalar.muli v261 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1588 : BitVec 1 := Scalar.cmpi .sge v253 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off18 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_1110 : BitVec 32 := 0#32
  ![v253.toNat, 0]
def k0_off19 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c0_i32_1115 : BitVec 32 := 0#32
  ![0, v1570.toNat, 0]
def k0_dev18 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_182 : BitVec 32 := 1#32
  let v262 : BitVec 32 := Scalar.subi v5 c1_i32_182
  let c4_i32_1113 : BitVec 32 := 4#32
  let v1595 : BitVec 32 := Scalar.muli v262 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_179 : BitVec 32 := 0#32
  let v258 : BitVec 1 := Scalar.cmpi .sge v254 c0_i32_179
  let c3_i32_180 : BitVec 32 := 3#32
  let v259 : BitVec 1 := Scalar.cmpi .sle v254 c3_i32_180
  let v260 : BitVec 1 := Scalar.andi v258 v259
  let v267 : BitVec 32 := Scalar.extui v260
  let c0_i32_186 : BitVec 32 := 0#32
  let v268 : BitVec 1 := Scalar.cmpi .ne v267 c0_i32_186
  v268

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_1094 : BitVec 32 := 0#32
  ![v254.toNat, 0]
def k0_off21 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c0_i32_1100 : BitVec 32 := 0#32
  ![0, v1570.toNat, 0]
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1583 : BitVec 1 := Scalar.cmpi .sle v254 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_1110 : BitVec 32 := 0#32
  ![v254.toNat, 0]
def k0_off23 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c0_i32_1115 : BitVec 32 := 0#32
  ![0, v1570.toNat, 0]
def k0_dev19 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v265 : BitVec 32 := Scalar.addi v8 c1_i32_184
  let c1_i32_1114 : BitVec 32 := 1#32
  let v1597 : BitVec 32 := Scalar.muli v265 c1_i32_1114
  let v1598 : BitVec 32 := Scalar.addi v1596 v1597
  v1598.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1588 : BitVec 1 := Scalar.cmpi .sge v254 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_1110 : BitVec 32 := 0#32
  ![v254.toNat, 0]
def k0_off25 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c0_i32_1115 : BitVec 32 := 0#32
  ![0, v1570.toNat, 0]
def k0_dev20 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v266 : BitVec 32 := Scalar.subi v8 c1_i32_185
  let c1_i32_1114 : BitVec 32 := 1#32
  let v1597 : BitVec 32 := Scalar.muli v266 c1_i32_1114
  let v1598 : BitVec 32 := Scalar.addi v1596 v1597
  v1598.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_177 : BitVec 32 := 0#32
  let v255 : BitVec 1 := Scalar.cmpi .sge v253 c0_i32_177
  let c3_i32_178 : BitVec 32 := 3#32
  let v256 : BitVec 1 := Scalar.cmpi .sle v253 c3_i32_178
  let v257 : BitVec 1 := Scalar.andi v255 v256
  let v271 : BitVec 32 := Scalar.extui v257
  let c0_i32_189 : BitVec 32 := 0#32
  let v272 : BitVec 1 := Scalar.cmpi .ne v271 c0_i32_189
  v272

def k0_off26 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c1_i32_1094 : BitVec 32 := 1#32
  ![v253.toNat, 1]
def k0_off27 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c256_i32_1100 : BitVec 32 := 256#32
  ![0, v1570.toNat, 256]
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1583 : BitVec 1 := Scalar.cmpi .sle v253 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c1_i32_1110 : BitVec 32 := 1#32
  ![v253.toNat, 1]
def k0_off29 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c256_i32_1115 : BitVec 32 := 256#32
  ![0, v1570.toNat, 256]
def k0_dev21 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_187 : BitVec 32 := 1#32
  let v269 : BitVec 32 := Scalar.addi v5 c1_i32_187
  let c4_i32_1113 : BitVec 32 := 4#32
  let v1595 : BitVec 32 := Scalar.muli v269 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1588 : BitVec 1 := Scalar.cmpi .sge v253 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off30 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c1_i32_1110 : BitVec 32 := 1#32
  ![v253.toNat, 1]
def k0_off31 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c256_i32_1115 : BitVec 32 := 256#32
  ![0, v1570.toNat, 256]
def k0_dev22 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_188 : BitVec 32 := 1#32
  let v270 : BitVec 32 := Scalar.subi v5 c1_i32_188
  let c4_i32_1113 : BitVec 32 := 4#32
  let v1595 : BitVec 32 := Scalar.muli v270 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_179 : BitVec 32 := 0#32
  let v258 : BitVec 1 := Scalar.cmpi .sge v254 c0_i32_179
  let c3_i32_180 : BitVec 32 := 3#32
  let v259 : BitVec 1 := Scalar.cmpi .sle v254 c3_i32_180
  let v260 : BitVec 1 := Scalar.andi v258 v259
  let v275 : BitVec 32 := Scalar.extui v260
  let c0_i32_192 : BitVec 32 := 0#32
  let v276 : BitVec 1 := Scalar.cmpi .ne v275 c0_i32_192
  v276

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c1_i32_1094 : BitVec 32 := 1#32
  ![v254.toNat, 1]
def k0_off33 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c256_i32_1100 : BitVec 32 := 256#32
  ![0, v1570.toNat, 256]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1583 : BitVec 1 := Scalar.cmpi .sle v254 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c1_i32_1110 : BitVec 32 := 1#32
  ![v254.toNat, 1]
def k0_off35 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c256_i32_1115 : BitVec 32 := 256#32
  ![0, v1570.toNat, 256]
def k0_dev23 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v273 : BitVec 32 := Scalar.addi v8 c1_i32_190
  let c1_i32_1114 : BitVec 32 := 1#32
  let v1597 : BitVec 32 := Scalar.muli v273 c1_i32_1114
  let v1598 : BitVec 32 := Scalar.addi v1596 v1597
  v1598.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1588 : BitVec 1 := Scalar.cmpi .sge v254 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c1_i32_1110 : BitVec 32 := 1#32
  ![v254.toNat, 1]
def k0_off37 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c256_i32_1115 : BitVec 32 := 256#32
  ![0, v1570.toNat, 256]
def k0_dev24 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v274 : BitVec 32 := Scalar.subi v8 c1_i32_191
  let c1_i32_1114 : BitVec 32 := 1#32
  let v1597 : BitVec 32 := Scalar.muli v274 c1_i32_1114
  let v1598 : BitVec 32 := Scalar.addi v1596 v1597
  v1598.toNat
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_177 : BitVec 32 := 0#32
  let v255 : BitVec 1 := Scalar.cmpi .sge v253 c0_i32_177
  let c3_i32_178 : BitVec 32 := 3#32
  let v256 : BitVec 1 := Scalar.cmpi .sle v253 c3_i32_178
  let v257 : BitVec 1 := Scalar.andi v255 v256
  let v279 : BitVec 32 := Scalar.extui v257
  let c0_i32_195 : BitVec 32 := 0#32
  let v280 : BitVec 1 := Scalar.cmpi .ne v279 c0_i32_195
  v280

def k0_off38 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c2_i32_1094 : BitVec 32 := 2#32
  ![v253.toNat, 2]
def k0_off39 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c512_i32_1100 : BitVec 32 := 512#32
  ![0, v1570.toNat, 512]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1583 : BitVec 1 := Scalar.cmpi .sle v253 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off40 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c2_i32_1110 : BitVec 32 := 2#32
  ![v253.toNat, 2]
def k0_off41 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c512_i32_1115 : BitVec 32 := 512#32
  ![0, v1570.toNat, 512]
def k0_dev25 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_193 : BitVec 32 := 1#32
  let v277 : BitVec 32 := Scalar.addi v5 c1_i32_193
  let c4_i32_1113 : BitVec 32 := 4#32
  let v1595 : BitVec 32 := Scalar.muli v277 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1588 : BitVec 1 := Scalar.cmpi .sge v253 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off42 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c2_i32_1110 : BitVec 32 := 2#32
  ![v253.toNat, 2]
def k0_off43 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c512_i32_1115 : BitVec 32 := 512#32
  ![0, v1570.toNat, 512]
def k0_dev26 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_194 : BitVec 32 := 1#32
  let v278 : BitVec 32 := Scalar.subi v5 c1_i32_194
  let c4_i32_1113 : BitVec 32 := 4#32
  let v1595 : BitVec 32 := Scalar.muli v278 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_179 : BitVec 32 := 0#32
  let v258 : BitVec 1 := Scalar.cmpi .sge v254 c0_i32_179
  let c3_i32_180 : BitVec 32 := 3#32
  let v259 : BitVec 1 := Scalar.cmpi .sle v254 c3_i32_180
  let v260 : BitVec 1 := Scalar.andi v258 v259
  let v283 : BitVec 32 := Scalar.extui v260
  let c0_i32_198 : BitVec 32 := 0#32
  let v284 : BitVec 1 := Scalar.cmpi .ne v283 c0_i32_198
  v284

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c2_i32_1094 : BitVec 32 := 2#32
  ![v254.toNat, 2]
def k0_off45 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c512_i32_1100 : BitVec 32 := 512#32
  ![0, v1570.toNat, 512]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1583 : BitVec 1 := Scalar.cmpi .sle v254 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c2_i32_1110 : BitVec 32 := 2#32
  ![v254.toNat, 2]
def k0_off47 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c512_i32_1115 : BitVec 32 := 512#32
  ![0, v1570.toNat, 512]
def k0_dev27 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v281 : BitVec 32 := Scalar.addi v8 c1_i32_196
  let c1_i32_1114 : BitVec 32 := 1#32
  let v1597 : BitVec 32 := Scalar.muli v281 c1_i32_1114
  let v1598 : BitVec 32 := Scalar.addi v1596 v1597
  v1598.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1588 : BitVec 1 := Scalar.cmpi .sge v254 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c2_i32_1110 : BitVec 32 := 2#32
  ![v254.toNat, 2]
def k0_off49 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c512_i32_1115 : BitVec 32 := 512#32
  ![0, v1570.toNat, 512]
def k0_dev28 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v282 : BitVec 32 := Scalar.subi v8 c1_i32_197
  let c1_i32_1114 : BitVec 32 := 1#32
  let v1597 : BitVec 32 := Scalar.muli v282 c1_i32_1114
  let v1598 : BitVec 32 := Scalar.addi v1596 v1597
  v1598.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c0_i32_177 : BitVec 32 := 0#32
  let v255 : BitVec 1 := Scalar.cmpi .sge v253 c0_i32_177
  let c3_i32_178 : BitVec 32 := 3#32
  let v256 : BitVec 1 := Scalar.cmpi .sle v253 c3_i32_178
  let v257 : BitVec 1 := Scalar.andi v255 v256
  let v287 : BitVec 32 := Scalar.extui v257
  let c0_i32_201 : BitVec 32 := 0#32
  let v288 : BitVec 1 := Scalar.cmpi .ne v287 c0_i32_201
  v288

def k0_off50 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c3_i32_1094 : BitVec 32 := 3#32
  ![v253.toNat, 3]
def k0_off51 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c768_i32_1100 : BitVec 32 := 768#32
  ![0, v1570.toNat, 768]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1583 : BitVec 1 := Scalar.cmpi .sle v253 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off52 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c3_i32_1110 : BitVec 32 := 3#32
  ![v253.toNat, 3]
def k0_off53 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c768_i32_1115 : BitVec 32 := 768#32
  ![0, v1570.toNat, 768]
def k0_dev29 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_199 : BitVec 32 := 1#32
  let v285 : BitVec 32 := Scalar.addi v5 c1_i32_199
  let c4_i32_1113 : BitVec 32 := 4#32
  let v1595 : BitVec 32 := Scalar.muli v285 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1588 : BitVec 1 := Scalar.cmpi .sge v253 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off54 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let c3_i32_1110 : BitVec 32 := 3#32
  ![v253.toNat, 3]
def k0_off55 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_175 : BitVec 32 := 0#32
  let v253 : BitVec 32 := Scalar.addi v5 c0_i32_175
  let v1569 : BitVec 32 := Scalar.muli c224_i32_1090 v253
  let v1570 : BitVec 32 := Scalar.addi c256_i32_1091 v1569
  let c768_i32_1115 : BitVec 32 := 768#32
  ![0, v1570.toNat, 768]
def k0_dev30 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_200 : BitVec 32 := 1#32
  let v286 : BitVec 32 := Scalar.subi v5 c1_i32_200
  let c4_i32_1113 : BitVec 32 := 4#32
  let v1595 : BitVec 32 := Scalar.muli v286 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c0_i32_179 : BitVec 32 := 0#32
  let v258 : BitVec 1 := Scalar.cmpi .sge v254 c0_i32_179
  let c3_i32_180 : BitVec 32 := 3#32
  let v259 : BitVec 1 := Scalar.cmpi .sle v254 c3_i32_180
  let v260 : BitVec 1 := Scalar.andi v258 v259
  let v291 : BitVec 32 := Scalar.extui v260
  let c0_i32_204 : BitVec 32 := 0#32
  let v292 : BitVec 1 := Scalar.cmpi .ne v291 c0_i32_204
  v292

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c3_i32_1094 : BitVec 32 := 3#32
  ![v254.toNat, 3]
def k0_off57 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c768_i32_1100 : BitVec 32 := 768#32
  ![0, v1570.toNat, 768]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1583 : BitVec 1 := Scalar.cmpi .sle v254 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c3_i32_1110 : BitVec 32 := 3#32
  ![v254.toNat, 3]
def k0_off59 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c768_i32_1115 : BitVec 32 := 768#32
  ![0, v1570.toNat, 768]
def k0_dev31 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v289 : BitVec 32 := Scalar.addi v8 c1_i32_202
  let c1_i32_1114 : BitVec 32 := 1#32
  let v1597 : BitVec 32 := Scalar.muli v289 c1_i32_1114
  let v1598 : BitVec 32 := Scalar.addi v1596 v1597
  v1598.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1588 : BitVec 1 := Scalar.cmpi .sge v254 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let c3_i32_1110 : BitVec 32 := 3#32
  ![v254.toNat, 3]
def k0_off61 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_176 : BitVec 32 := 0#32
  let v254 : BitVec 32 := Scalar.addi v8 c0_i32_176
  let v1569 : BitVec 32 := Scalar.muli c224_i32_1090 v254
  let v1570 : BitVec 32 := Scalar.addi c1152_i32_1091 v1569
  let c768_i32_1115 : BitVec 32 := 768#32
  ![0, v1570.toNat, 768]
def k0_dev32 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v290 : BitVec 32 := Scalar.subi v8 c1_i32_203
  let c1_i32_1114 : BitVec 32 := 1#32
  let v1597 : BitVec 32 := Scalar.muli v290 c1_i32_1114
  let v1598 : BitVec 32 := Scalar.addi v1596 v1597
  v1598.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_207 : BitVec 32 := 0#32
  let v295 : BitVec 1 := Scalar.cmpi .sge v293 c0_i32_207
  let c3_i32_208 : BitVec 32 := 3#32
  let v296 : BitVec 1 := Scalar.cmpi .sle v293 c3_i32_208
  let v297 : BitVec 1 := Scalar.andi v295 v296
  let v303 : BitVec 32 := Scalar.extui v297
  let c0_i32_213 : BitVec 32 := 0#32
  let v304 : BitVec 1 := Scalar.cmpi .ne v303 c0_i32_213
  v304

def k0_off62 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_1094 : BitVec 32 := 0#32
  ![v293.toNat, 0]
def k0_off63 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c0_i32_1100 : BitVec 32 := 0#32
  ![0, v1570.toNat, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1583 : BitVec 1 := Scalar.cmpi .sle v293 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off64 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_1110 : BitVec 32 := 0#32
  ![v293.toNat, 0]
def k0_off65 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c0_i32_1115 : BitVec 32 := 0#32
  ![0, v1570.toNat, 0]
def k0_dev33 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_211 : BitVec 32 := 1#32
  let v301 : BitVec 32 := Scalar.addi v5 c1_i32_211
  let c4_i32_1113 : BitVec 32 := 4#32
  let v1595 : BitVec 32 := Scalar.muli v301 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1588 : BitVec 1 := Scalar.cmpi .sge v293 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off66 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_1110 : BitVec 32 := 0#32
  ![v293.toNat, 0]
def k0_off67 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c0_i32_1115 : BitVec 32 := 0#32
  ![0, v1570.toNat, 0]
def k0_dev34 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_212 : BitVec 32 := 1#32
  let v302 : BitVec 32 := Scalar.subi v5 c1_i32_212
  let c4_i32_1113 : BitVec 32 := 4#32
  let v1595 : BitVec 32 := Scalar.muli v302 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_209 : BitVec 32 := 0#32
  let v298 : BitVec 1 := Scalar.cmpi .sge v294 c0_i32_209
  let c3_i32_210 : BitVec 32 := 3#32
  let v299 : BitVec 1 := Scalar.cmpi .sle v294 c3_i32_210
  let v300 : BitVec 1 := Scalar.andi v298 v299
  let v307 : BitVec 32 := Scalar.extui v300
  let c0_i32_216 : BitVec 32 := 0#32
  let v308 : BitVec 1 := Scalar.cmpi .ne v307 c0_i32_216
  v308

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_1094 : BitVec 32 := 0#32
  ![v294.toNat, 0]
def k0_off69 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c0_i32_1100 : BitVec 32 := 0#32
  ![0, v1570.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1583 : BitVec 1 := Scalar.cmpi .sle v294 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_1110 : BitVec 32 := 0#32
  ![v294.toNat, 0]
def k0_off71 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c0_i32_1115 : BitVec 32 := 0#32
  ![0, v1570.toNat, 0]
def k0_dev35 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v305 : BitVec 32 := Scalar.addi v8 c1_i32_214
  let c1_i32_1114 : BitVec 32 := 1#32
  let v1597 : BitVec 32 := Scalar.muli v305 c1_i32_1114
  let v1598 : BitVec 32 := Scalar.addi v1596 v1597
  v1598.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1588 : BitVec 1 := Scalar.cmpi .sge v294 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_1110 : BitVec 32 := 0#32
  ![v294.toNat, 0]
def k0_off73 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c0_i32_1115 : BitVec 32 := 0#32
  ![0, v1570.toNat, 0]
def k0_dev36 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v306 : BitVec 32 := Scalar.subi v8 c1_i32_215
  let c1_i32_1114 : BitVec 32 := 1#32
  let v1597 : BitVec 32 := Scalar.muli v306 c1_i32_1114
  let v1598 : BitVec 32 := Scalar.addi v1596 v1597
  v1598.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_207 : BitVec 32 := 0#32
  let v295 : BitVec 1 := Scalar.cmpi .sge v293 c0_i32_207
  let c3_i32_208 : BitVec 32 := 3#32
  let v296 : BitVec 1 := Scalar.cmpi .sle v293 c3_i32_208
  let v297 : BitVec 1 := Scalar.andi v295 v296
  let v311 : BitVec 32 := Scalar.extui v297
  let c0_i32_219 : BitVec 32 := 0#32
  let v312 : BitVec 1 := Scalar.cmpi .ne v311 c0_i32_219
  v312

def k0_off74 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c1_i32_1094 : BitVec 32 := 1#32
  ![v293.toNat, 1]
def k0_off75 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c256_i32_1100 : BitVec 32 := 256#32
  ![0, v1570.toNat, 256]
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1583 : BitVec 1 := Scalar.cmpi .sle v293 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off76 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c1_i32_1110 : BitVec 32 := 1#32
  ![v293.toNat, 1]
def k0_off77 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c256_i32_1115 : BitVec 32 := 256#32
  ![0, v1570.toNat, 256]
def k0_dev37 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_217 : BitVec 32 := 1#32
  let v309 : BitVec 32 := Scalar.addi v5 c1_i32_217
  let c4_i32_1113 : BitVec 32 := 4#32
  let v1595 : BitVec 32 := Scalar.muli v309 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1588 : BitVec 1 := Scalar.cmpi .sge v293 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off78 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c1_i32_1110 : BitVec 32 := 1#32
  ![v293.toNat, 1]
def k0_off79 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c256_i32_1115 : BitVec 32 := 256#32
  ![0, v1570.toNat, 256]
def k0_dev38 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_218 : BitVec 32 := 1#32
  let v310 : BitVec 32 := Scalar.subi v5 c1_i32_218
  let c4_i32_1113 : BitVec 32 := 4#32
  let v1595 : BitVec 32 := Scalar.muli v310 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_209 : BitVec 32 := 0#32
  let v298 : BitVec 1 := Scalar.cmpi .sge v294 c0_i32_209
  let c3_i32_210 : BitVec 32 := 3#32
  let v299 : BitVec 1 := Scalar.cmpi .sle v294 c3_i32_210
  let v300 : BitVec 1 := Scalar.andi v298 v299
  let v315 : BitVec 32 := Scalar.extui v300
  let c0_i32_222 : BitVec 32 := 0#32
  let v316 : BitVec 1 := Scalar.cmpi .ne v315 c0_i32_222
  v316

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c1_i32_1094 : BitVec 32 := 1#32
  ![v294.toNat, 1]
def k0_off81 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c256_i32_1100 : BitVec 32 := 256#32
  ![0, v1570.toNat, 256]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1583 : BitVec 1 := Scalar.cmpi .sle v294 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c1_i32_1110 : BitVec 32 := 1#32
  ![v294.toNat, 1]
def k0_off83 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c256_i32_1115 : BitVec 32 := 256#32
  ![0, v1570.toNat, 256]
def k0_dev39 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v313 : BitVec 32 := Scalar.addi v8 c1_i32_220
  let c1_i32_1114 : BitVec 32 := 1#32
  let v1597 : BitVec 32 := Scalar.muli v313 c1_i32_1114
  let v1598 : BitVec 32 := Scalar.addi v1596 v1597
  v1598.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1588 : BitVec 1 := Scalar.cmpi .sge v294 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c1_i32_1110 : BitVec 32 := 1#32
  ![v294.toNat, 1]
def k0_off85 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c256_i32_1115 : BitVec 32 := 256#32
  ![0, v1570.toNat, 256]
def k0_dev40 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v314 : BitVec 32 := Scalar.subi v8 c1_i32_221
  let c1_i32_1114 : BitVec 32 := 1#32
  let v1597 : BitVec 32 := Scalar.muli v314 c1_i32_1114
  let v1598 : BitVec 32 := Scalar.addi v1596 v1597
  v1598.toNat
def k0_cond41 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_207 : BitVec 32 := 0#32
  let v295 : BitVec 1 := Scalar.cmpi .sge v293 c0_i32_207
  let c3_i32_208 : BitVec 32 := 3#32
  let v296 : BitVec 1 := Scalar.cmpi .sle v293 c3_i32_208
  let v297 : BitVec 1 := Scalar.andi v295 v296
  let v319 : BitVec 32 := Scalar.extui v297
  let c0_i32_225 : BitVec 32 := 0#32
  let v320 : BitVec 1 := Scalar.cmpi .ne v319 c0_i32_225
  v320

def k0_off86 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c2_i32_1094 : BitVec 32 := 2#32
  ![v293.toNat, 2]
def k0_off87 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c512_i32_1100 : BitVec 32 := 512#32
  ![0, v1570.toNat, 512]
def k0_cond42 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1583 : BitVec 1 := Scalar.cmpi .sle v293 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off88 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c2_i32_1110 : BitVec 32 := 2#32
  ![v293.toNat, 2]
def k0_off89 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c512_i32_1115 : BitVec 32 := 512#32
  ![0, v1570.toNat, 512]
def k0_dev41 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_223 : BitVec 32 := 1#32
  let v317 : BitVec 32 := Scalar.addi v5 c1_i32_223
  let c4_i32_1113 : BitVec 32 := 4#32
  let v1595 : BitVec 32 := Scalar.muli v317 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1588 : BitVec 1 := Scalar.cmpi .sge v293 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off90 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c2_i32_1110 : BitVec 32 := 2#32
  ![v293.toNat, 2]
def k0_off91 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c512_i32_1115 : BitVec 32 := 512#32
  ![0, v1570.toNat, 512]
def k0_dev42 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_224 : BitVec 32 := 1#32
  let v318 : BitVec 32 := Scalar.subi v5 c1_i32_224
  let c4_i32_1113 : BitVec 32 := 4#32
  let v1595 : BitVec 32 := Scalar.muli v318 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_209 : BitVec 32 := 0#32
  let v298 : BitVec 1 := Scalar.cmpi .sge v294 c0_i32_209
  let c3_i32_210 : BitVec 32 := 3#32
  let v299 : BitVec 1 := Scalar.cmpi .sle v294 c3_i32_210
  let v300 : BitVec 1 := Scalar.andi v298 v299
  let v323 : BitVec 32 := Scalar.extui v300
  let c0_i32_228 : BitVec 32 := 0#32
  let v324 : BitVec 1 := Scalar.cmpi .ne v323 c0_i32_228
  v324

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c2_i32_1094 : BitVec 32 := 2#32
  ![v294.toNat, 2]
def k0_off93 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c512_i32_1100 : BitVec 32 := 512#32
  ![0, v1570.toNat, 512]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1583 : BitVec 1 := Scalar.cmpi .sle v294 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c2_i32_1110 : BitVec 32 := 2#32
  ![v294.toNat, 2]
def k0_off95 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c512_i32_1115 : BitVec 32 := 512#32
  ![0, v1570.toNat, 512]
def k0_dev43 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v321 : BitVec 32 := Scalar.addi v8 c1_i32_226
  let c1_i32_1114 : BitVec 32 := 1#32
  let v1597 : BitVec 32 := Scalar.muli v321 c1_i32_1114
  let v1598 : BitVec 32 := Scalar.addi v1596 v1597
  v1598.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1588 : BitVec 1 := Scalar.cmpi .sge v294 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c2_i32_1110 : BitVec 32 := 2#32
  ![v294.toNat, 2]
def k0_off97 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c512_i32_1115 : BitVec 32 := 512#32
  ![0, v1570.toNat, 512]
def k0_dev44 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v322 : BitVec 32 := Scalar.subi v8 c1_i32_227
  let c1_i32_1114 : BitVec 32 := 1#32
  let v1597 : BitVec 32 := Scalar.muli v322 c1_i32_1114
  let v1598 : BitVec 32 := Scalar.addi v1596 v1597
  v1598.toNat
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c0_i32_207 : BitVec 32 := 0#32
  let v295 : BitVec 1 := Scalar.cmpi .sge v293 c0_i32_207
  let c3_i32_208 : BitVec 32 := 3#32
  let v296 : BitVec 1 := Scalar.cmpi .sle v293 c3_i32_208
  let v297 : BitVec 1 := Scalar.andi v295 v296
  let v327 : BitVec 32 := Scalar.extui v297
  let c0_i32_231 : BitVec 32 := 0#32
  let v328 : BitVec 1 := Scalar.cmpi .ne v327 c0_i32_231
  v328

def k0_off98 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c3_i32_1094 : BitVec 32 := 3#32
  ![v293.toNat, 3]
def k0_off99 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c768_i32_1100 : BitVec 32 := 768#32
  ![0, v1570.toNat, 768]
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1583 : BitVec 1 := Scalar.cmpi .sle v293 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off100 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c3_i32_1110 : BitVec 32 := 3#32
  ![v293.toNat, 3]
def k0_off101 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c768_i32_1115 : BitVec 32 := 768#32
  ![0, v1570.toNat, 768]
def k0_dev45 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_229 : BitVec 32 := 1#32
  let v325 : BitVec 32 := Scalar.addi v5 c1_i32_229
  let c4_i32_1113 : BitVec 32 := 4#32
  let v1595 : BitVec 32 := Scalar.muli v325 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond49 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1588 : BitVec 1 := Scalar.cmpi .sge v293 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off102 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let c3_i32_1110 : BitVec 32 := 3#32
  ![v293.toNat, 3]
def k0_off103 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_205 : BitVec 32 := 1#32
  let v293 : BitVec 32 := Scalar.addi v5 c1_i32_205
  let v1569 : BitVec 32 := Scalar.muli c224_i32_1090 v293
  let v1570 : BitVec 32 := Scalar.addi c256_i32_1091 v1569
  let c768_i32_1115 : BitVec 32 := 768#32
  ![0, v1570.toNat, 768]
def k0_dev46 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_230 : BitVec 32 := 1#32
  let v326 : BitVec 32 := Scalar.subi v5 c1_i32_230
  let c4_i32_1113 : BitVec 32 := 4#32
  let v1595 : BitVec 32 := Scalar.muli v326 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c0_i32_209 : BitVec 32 := 0#32
  let v298 : BitVec 1 := Scalar.cmpi .sge v294 c0_i32_209
  let c3_i32_210 : BitVec 32 := 3#32
  let v299 : BitVec 1 := Scalar.cmpi .sle v294 c3_i32_210
  let v300 : BitVec 1 := Scalar.andi v298 v299
  let v331 : BitVec 32 := Scalar.extui v300
  let c0_i32_234 : BitVec 32 := 0#32
  let v332 : BitVec 1 := Scalar.cmpi .ne v331 c0_i32_234
  v332

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c3_i32_1094 : BitVec 32 := 3#32
  ![v294.toNat, 3]
def k0_off105 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c768_i32_1100 : BitVec 32 := 768#32
  ![0, v1570.toNat, 768]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1583 : BitVec 1 := Scalar.cmpi .sle v294 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c3_i32_1110 : BitVec 32 := 3#32
  ![v294.toNat, 3]
def k0_off107 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c768_i32_1115 : BitVec 32 := 768#32
  ![0, v1570.toNat, 768]
def k0_dev47 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v329 : BitVec 32 := Scalar.addi v8 c1_i32_232
  let c1_i32_1114 : BitVec 32 := 1#32
  let v1597 : BitVec 32 := Scalar.muli v329 c1_i32_1114
  let v1598 : BitVec 32 := Scalar.addi v1596 v1597
  v1598.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1588 : BitVec 1 := Scalar.cmpi .sge v294 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let c3_i32_1110 : BitVec 32 := 3#32
  ![v294.toNat, 3]
def k0_off109 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v294 : BitVec 32 := Scalar.addi v8 c1_i32_206
  let v1569 : BitVec 32 := Scalar.muli c224_i32_1090 v294
  let v1570 : BitVec 32 := Scalar.addi c1152_i32_1091 v1569
  let c768_i32_1115 : BitVec 32 := 768#32
  ![0, v1570.toNat, 768]
def k0_dev48 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v330 : BitVec 32 := Scalar.subi v8 c1_i32_233
  let c1_i32_1114 : BitVec 32 := 1#32
  let v1597 : BitVec 32 := Scalar.muli v330 c1_i32_1114
  let v1598 : BitVec 32 := Scalar.addi v1596 v1597
  v1598.toNat
def k0_cond53 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_236 : BitVec 32 := 0#32
  let v335 : BitVec 1 := Scalar.cmpi .sge v333 c0_i32_236
  let c3_i32_237 : BitVec 32 := 3#32
  let v336 : BitVec 1 := Scalar.cmpi .sle v333 c3_i32_237
  let v337 : BitVec 1 := Scalar.andi v335 v336
  let v343 : BitVec 32 := Scalar.extui v337
  let c0_i32_242 : BitVec 32 := 0#32
  let v344 : BitVec 1 := Scalar.cmpi .ne v343 c0_i32_242
  v344

def k0_off110 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_1094 : BitVec 32 := 0#32
  ![v333.toNat, 0]
def k0_off111 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c0_i32_1100 : BitVec 32 := 0#32
  ![0, v1570.toNat, 0]
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1583 : BitVec 1 := Scalar.cmpi .sle v333 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off112 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_1110 : BitVec 32 := 0#32
  ![v333.toNat, 0]
def k0_off113 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c0_i32_1115 : BitVec 32 := 0#32
  ![0, v1570.toNat, 0]
def k0_dev49 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_240 : BitVec 32 := 1#32
  let v341 : BitVec 32 := Scalar.addi v5 c1_i32_240
  let c4_i32_1113 : BitVec 32 := 4#32
  let v1595 : BitVec 32 := Scalar.muli v341 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1588 : BitVec 1 := Scalar.cmpi .sge v333 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off114 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_1110 : BitVec 32 := 0#32
  ![v333.toNat, 0]
def k0_off115 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c0_i32_1115 : BitVec 32 := 0#32
  ![0, v1570.toNat, 0]
def k0_dev50 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_241 : BitVec 32 := 1#32
  let v342 : BitVec 32 := Scalar.subi v5 c1_i32_241
  let c4_i32_1113 : BitVec 32 := 4#32
  let v1595 : BitVec 32 := Scalar.muli v342 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_238 : BitVec 32 := 0#32
  let v338 : BitVec 1 := Scalar.cmpi .sge v334 c0_i32_238
  let c3_i32_239 : BitVec 32 := 3#32
  let v339 : BitVec 1 := Scalar.cmpi .sle v334 c3_i32_239
  let v340 : BitVec 1 := Scalar.andi v338 v339
  let v347 : BitVec 32 := Scalar.extui v340
  let c0_i32_245 : BitVec 32 := 0#32
  let v348 : BitVec 1 := Scalar.cmpi .ne v347 c0_i32_245
  v348

def k0_off116 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_1094 : BitVec 32 := 0#32
  ![v334.toNat, 0]
def k0_off117 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c0_i32_1100 : BitVec 32 := 0#32
  ![0, v1570.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1583 : BitVec 1 := Scalar.cmpi .sle v334 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off118 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_1110 : BitVec 32 := 0#32
  ![v334.toNat, 0]
def k0_off119 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c0_i32_1115 : BitVec 32 := 0#32
  ![0, v1570.toNat, 0]
def k0_dev51 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v345 : BitVec 32 := Scalar.addi v8 c1_i32_243
  let c1_i32_1114 : BitVec 32 := 1#32
  let v1597 : BitVec 32 := Scalar.muli v345 c1_i32_1114
  let v1598 : BitVec 32 := Scalar.addi v1596 v1597
  v1598.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1588 : BitVec 1 := Scalar.cmpi .sge v334 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_1110 : BitVec 32 := 0#32
  ![v334.toNat, 0]
def k0_off121 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c0_i32_1115 : BitVec 32 := 0#32
  ![0, v1570.toNat, 0]
def k0_dev52 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v346 : BitVec 32 := Scalar.subi v8 c1_i32_244
  let c1_i32_1114 : BitVec 32 := 1#32
  let v1597 : BitVec 32 := Scalar.muli v346 c1_i32_1114
  let v1598 : BitVec 32 := Scalar.addi v1596 v1597
  v1598.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_236 : BitVec 32 := 0#32
  let v335 : BitVec 1 := Scalar.cmpi .sge v333 c0_i32_236
  let c3_i32_237 : BitVec 32 := 3#32
  let v336 : BitVec 1 := Scalar.cmpi .sle v333 c3_i32_237
  let v337 : BitVec 1 := Scalar.andi v335 v336
  let v351 : BitVec 32 := Scalar.extui v337
  let c0_i32_248 : BitVec 32 := 0#32
  let v352 : BitVec 1 := Scalar.cmpi .ne v351 c0_i32_248
  v352

def k0_off122 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c1_i32_1094 : BitVec 32 := 1#32
  ![v333.toNat, 1]
def k0_off123 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c256_i32_1100 : BitVec 32 := 256#32
  ![0, v1570.toNat, 256]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1583 : BitVec 1 := Scalar.cmpi .sle v333 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off124 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c1_i32_1110 : BitVec 32 := 1#32
  ![v333.toNat, 1]
def k0_off125 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c256_i32_1115 : BitVec 32 := 256#32
  ![0, v1570.toNat, 256]
def k0_dev53 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_246 : BitVec 32 := 1#32
  let v349 : BitVec 32 := Scalar.addi v5 c1_i32_246
  let c4_i32_1113 : BitVec 32 := 4#32
  let v1595 : BitVec 32 := Scalar.muli v349 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond61 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1588 : BitVec 1 := Scalar.cmpi .sge v333 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off126 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c1_i32_1110 : BitVec 32 := 1#32
  ![v333.toNat, 1]
def k0_off127 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c256_i32_1115 : BitVec 32 := 256#32
  ![0, v1570.toNat, 256]
def k0_dev54 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_247 : BitVec 32 := 1#32
  let v350 : BitVec 32 := Scalar.subi v5 c1_i32_247
  let c4_i32_1113 : BitVec 32 := 4#32
  let v1595 : BitVec 32 := Scalar.muli v350 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_238 : BitVec 32 := 0#32
  let v338 : BitVec 1 := Scalar.cmpi .sge v334 c0_i32_238
  let c3_i32_239 : BitVec 32 := 3#32
  let v339 : BitVec 1 := Scalar.cmpi .sle v334 c3_i32_239
  let v340 : BitVec 1 := Scalar.andi v338 v339
  let v355 : BitVec 32 := Scalar.extui v340
  let c0_i32_251 : BitVec 32 := 0#32
  let v356 : BitVec 1 := Scalar.cmpi .ne v355 c0_i32_251
  v356

def k0_off128 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c1_i32_1094 : BitVec 32 := 1#32
  ![v334.toNat, 1]
def k0_off129 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c256_i32_1100 : BitVec 32 := 256#32
  ![0, v1570.toNat, 256]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1583 : BitVec 1 := Scalar.cmpi .sle v334 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off130 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c1_i32_1110 : BitVec 32 := 1#32
  ![v334.toNat, 1]
def k0_off131 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c256_i32_1115 : BitVec 32 := 256#32
  ![0, v1570.toNat, 256]
def k0_dev55 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v353 : BitVec 32 := Scalar.addi v8 c1_i32_249
  let c1_i32_1114 : BitVec 32 := 1#32
  let v1597 : BitVec 32 := Scalar.muli v353 c1_i32_1114
  let v1598 : BitVec 32 := Scalar.addi v1596 v1597
  v1598.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1588 : BitVec 1 := Scalar.cmpi .sge v334 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off132 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c1_i32_1110 : BitVec 32 := 1#32
  ![v334.toNat, 1]
def k0_off133 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c256_i32_1115 : BitVec 32 := 256#32
  ![0, v1570.toNat, 256]
def k0_dev56 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v354 : BitVec 32 := Scalar.subi v8 c1_i32_250
  let c1_i32_1114 : BitVec 32 := 1#32
  let v1597 : BitVec 32 := Scalar.muli v354 c1_i32_1114
  let v1598 : BitVec 32 := Scalar.addi v1596 v1597
  v1598.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_236 : BitVec 32 := 0#32
  let v335 : BitVec 1 := Scalar.cmpi .sge v333 c0_i32_236
  let c3_i32_237 : BitVec 32 := 3#32
  let v336 : BitVec 1 := Scalar.cmpi .sle v333 c3_i32_237
  let v337 : BitVec 1 := Scalar.andi v335 v336
  let v359 : BitVec 32 := Scalar.extui v337
  let c0_i32_254 : BitVec 32 := 0#32
  let v360 : BitVec 1 := Scalar.cmpi .ne v359 c0_i32_254
  v360

def k0_off134 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c2_i32_1094 : BitVec 32 := 2#32
  ![v333.toNat, 2]
def k0_off135 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c512_i32_1100 : BitVec 32 := 512#32
  ![0, v1570.toNat, 512]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1583 : BitVec 1 := Scalar.cmpi .sle v333 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off136 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c2_i32_1110 : BitVec 32 := 2#32
  ![v333.toNat, 2]
def k0_off137 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c512_i32_1115 : BitVec 32 := 512#32
  ![0, v1570.toNat, 512]
def k0_dev57 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_252 : BitVec 32 := 1#32
  let v357 : BitVec 32 := Scalar.addi v5 c1_i32_252
  let c4_i32_1113 : BitVec 32 := 4#32
  let v1595 : BitVec 32 := Scalar.muli v357 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1588 : BitVec 1 := Scalar.cmpi .sge v333 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off138 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c2_i32_1110 : BitVec 32 := 2#32
  ![v333.toNat, 2]
def k0_off139 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c512_i32_1115 : BitVec 32 := 512#32
  ![0, v1570.toNat, 512]
def k0_dev58 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_253 : BitVec 32 := 1#32
  let v358 : BitVec 32 := Scalar.subi v5 c1_i32_253
  let c4_i32_1113 : BitVec 32 := 4#32
  let v1595 : BitVec 32 := Scalar.muli v358 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_238 : BitVec 32 := 0#32
  let v338 : BitVec 1 := Scalar.cmpi .sge v334 c0_i32_238
  let c3_i32_239 : BitVec 32 := 3#32
  let v339 : BitVec 1 := Scalar.cmpi .sle v334 c3_i32_239
  let v340 : BitVec 1 := Scalar.andi v338 v339
  let v363 : BitVec 32 := Scalar.extui v340
  let c0_i32_257 : BitVec 32 := 0#32
  let v364 : BitVec 1 := Scalar.cmpi .ne v363 c0_i32_257
  v364

def k0_off140 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c2_i32_1094 : BitVec 32 := 2#32
  ![v334.toNat, 2]
def k0_off141 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c512_i32_1100 : BitVec 32 := 512#32
  ![0, v1570.toNat, 512]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1583 : BitVec 1 := Scalar.cmpi .sle v334 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off142 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c2_i32_1110 : BitVec 32 := 2#32
  ![v334.toNat, 2]
def k0_off143 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c512_i32_1115 : BitVec 32 := 512#32
  ![0, v1570.toNat, 512]
def k0_dev59 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v361 : BitVec 32 := Scalar.addi v8 c1_i32_255
  let c1_i32_1114 : BitVec 32 := 1#32
  let v1597 : BitVec 32 := Scalar.muli v361 c1_i32_1114
  let v1598 : BitVec 32 := Scalar.addi v1596 v1597
  v1598.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1588 : BitVec 1 := Scalar.cmpi .sge v334 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off144 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c2_i32_1110 : BitVec 32 := 2#32
  ![v334.toNat, 2]
def k0_off145 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c512_i32_1115 : BitVec 32 := 512#32
  ![0, v1570.toNat, 512]
def k0_dev60 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v362 : BitVec 32 := Scalar.subi v8 c1_i32_256
  let c1_i32_1114 : BitVec 32 := 1#32
  let v1597 : BitVec 32 := Scalar.muli v362 c1_i32_1114
  let v1598 : BitVec 32 := Scalar.addi v1596 v1597
  v1598.toNat
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c0_i32_236 : BitVec 32 := 0#32
  let v335 : BitVec 1 := Scalar.cmpi .sge v333 c0_i32_236
  let c3_i32_237 : BitVec 32 := 3#32
  let v336 : BitVec 1 := Scalar.cmpi .sle v333 c3_i32_237
  let v337 : BitVec 1 := Scalar.andi v335 v336
  let v367 : BitVec 32 := Scalar.extui v337
  let c0_i32_260 : BitVec 32 := 0#32
  let v368 : BitVec 1 := Scalar.cmpi .ne v367 c0_i32_260
  v368

def k0_off146 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c3_i32_1094 : BitVec 32 := 3#32
  ![v333.toNat, 3]
def k0_off147 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c768_i32_1100 : BitVec 32 := 768#32
  ![0, v1570.toNat, 768]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1583 : BitVec 1 := Scalar.cmpi .sle v333 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off148 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c3_i32_1110 : BitVec 32 := 3#32
  ![v333.toNat, 3]
def k0_off149 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c768_i32_1115 : BitVec 32 := 768#32
  ![0, v1570.toNat, 768]
def k0_dev61 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_258 : BitVec 32 := 1#32
  let v365 : BitVec 32 := Scalar.addi v5 c1_i32_258
  let c4_i32_1113 : BitVec 32 := 4#32
  let v1595 : BitVec 32 := Scalar.muli v365 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1588 : BitVec 1 := Scalar.cmpi .sge v333 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off150 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let c3_i32_1110 : BitVec 32 := 3#32
  ![v333.toNat, 3]
def k0_off151 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v333 : BitVec 32 := Scalar.addi v5 c_m1_i32
  let v1569 : BitVec 32 := Scalar.muli c224_i32_1090 v333
  let v1570 : BitVec 32 := Scalar.addi c256_i32_1091 v1569
  let c768_i32_1115 : BitVec 32 := 768#32
  ![0, v1570.toNat, 768]
def k0_dev62 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_259 : BitVec 32 := 1#32
  let v366 : BitVec 32 := Scalar.subi v5 c1_i32_259
  let c4_i32_1113 : BitVec 32 := 4#32
  let v1595 : BitVec 32 := Scalar.muli v366 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c0_i32_238 : BitVec 32 := 0#32
  let v338 : BitVec 1 := Scalar.cmpi .sge v334 c0_i32_238
  let c3_i32_239 : BitVec 32 := 3#32
  let v339 : BitVec 1 := Scalar.cmpi .sle v334 c3_i32_239
  let v340 : BitVec 1 := Scalar.andi v338 v339
  let v371 : BitVec 32 := Scalar.extui v340
  let c0_i32_263 : BitVec 32 := 0#32
  let v372 : BitVec 1 := Scalar.cmpi .ne v371 c0_i32_263
  v372

def k0_off152 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c3_i32_1094 : BitVec 32 := 3#32
  ![v334.toNat, 3]
def k0_off153 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c768_i32_1100 : BitVec 32 := 768#32
  ![0, v1570.toNat, 768]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1583 : BitVec 1 := Scalar.cmpi .sle v334 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off154 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c3_i32_1110 : BitVec 32 := 3#32
  ![v334.toNat, 3]
def k0_off155 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c768_i32_1115 : BitVec 32 := 768#32
  ![0, v1570.toNat, 768]
def k0_dev63 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v369 : BitVec 32 := Scalar.addi v8 c1_i32_261
  let c1_i32_1114 : BitVec 32 := 1#32
  let v1597 : BitVec 32 := Scalar.muli v369 c1_i32_1114
  let v1598 : BitVec 32 := Scalar.addi v1596 v1597
  v1598.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1588 : BitVec 1 := Scalar.cmpi .sge v334 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off156 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let c3_i32_1110 : BitVec 32 := 3#32
  ![v334.toNat, 3]
def k0_off157 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_235 : BitVec 32 := 4294967295#32
  let v334 : BitVec 32 := Scalar.addi v8 c_m1_i32_235
  let v1569 : BitVec 32 := Scalar.muli c224_i32_1090 v334
  let v1570 : BitVec 32 := Scalar.addi c1152_i32_1091 v1569
  let c768_i32_1115 : BitVec 32 := 768#32
  ![0, v1570.toNat, 768]
def k0_dev64 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v370 : BitVec 32 := Scalar.subi v8 c1_i32_262
  let c1_i32_1114 : BitVec 32 := 1#32
  let v1597 : BitVec 32 := Scalar.muli v370 c1_i32_1114
  let v1598 : BitVec 32 := Scalar.addi v1596 v1597
  v1598.toNat
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_266 : BitVec 32 := 0#32
  let v375 : BitVec 1 := Scalar.cmpi .sge v373 c0_i32_266
  let c3_i32_267 : BitVec 32 := 3#32
  let v376 : BitVec 1 := Scalar.cmpi .sle v373 c3_i32_267
  let v377 : BitVec 1 := Scalar.andi v375 v376
  let v383 : BitVec 32 := Scalar.extui v377
  let c0_i32_272 : BitVec 32 := 0#32
  let v384 : BitVec 1 := Scalar.cmpi .ne v383 c0_i32_272
  v384

def k0_off158 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_1094 : BitVec 32 := 0#32
  ![v373.toNat, 0]
def k0_off159 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c0_i32_1100 : BitVec 32 := 0#32
  ![0, v1570.toNat, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1583 : BitVec 1 := Scalar.cmpi .sle v373 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off160 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_1110 : BitVec 32 := 0#32
  ![v373.toNat, 0]
def k0_off161 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c0_i32_1115 : BitVec 32 := 0#32
  ![0, v1570.toNat, 0]
def k0_dev65 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_270 : BitVec 32 := 1#32
  let v381 : BitVec 32 := Scalar.addi v5 c1_i32_270
  let c4_i32_1113 : BitVec 32 := 4#32
  let v1595 : BitVec 32 := Scalar.muli v381 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1588 : BitVec 1 := Scalar.cmpi .sge v373 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off162 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_1110 : BitVec 32 := 0#32
  ![v373.toNat, 0]
def k0_off163 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c0_i32_1115 : BitVec 32 := 0#32
  ![0, v1570.toNat, 0]
def k0_dev66 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_271 : BitVec 32 := 1#32
  let v382 : BitVec 32 := Scalar.subi v5 c1_i32_271
  let c4_i32_1113 : BitVec 32 := 4#32
  let v1595 : BitVec 32 := Scalar.muli v382 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_268 : BitVec 32 := 0#32
  let v378 : BitVec 1 := Scalar.cmpi .sge v374 c0_i32_268
  let c3_i32_269 : BitVec 32 := 3#32
  let v379 : BitVec 1 := Scalar.cmpi .sle v374 c3_i32_269
  let v380 : BitVec 1 := Scalar.andi v378 v379
  let v387 : BitVec 32 := Scalar.extui v380
  let c0_i32_275 : BitVec 32 := 0#32
  let v388 : BitVec 1 := Scalar.cmpi .ne v387 c0_i32_275
  v388

def k0_off164 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_1094 : BitVec 32 := 0#32
  ![v374.toNat, 0]
def k0_off165 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c0_i32_1100 : BitVec 32 := 0#32
  ![0, v1570.toNat, 0]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1583 : BitVec 1 := Scalar.cmpi .sle v374 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off166 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_1110 : BitVec 32 := 0#32
  ![v374.toNat, 0]
def k0_off167 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c0_i32_1115 : BitVec 32 := 0#32
  ![0, v1570.toNat, 0]
def k0_dev67 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v385 : BitVec 32 := Scalar.addi v8 c1_i32_273
  let c1_i32_1114 : BitVec 32 := 1#32
  let v1597 : BitVec 32 := Scalar.muli v385 c1_i32_1114
  let v1598 : BitVec 32 := Scalar.addi v1596 v1597
  v1598.toNat
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1588 : BitVec 1 := Scalar.cmpi .sge v374 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off168 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_1110 : BitVec 32 := 0#32
  ![v374.toNat, 0]
def k0_off169 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c0_i32_1115 : BitVec 32 := 0#32
  ![0, v1570.toNat, 0]
def k0_dev68 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v386 : BitVec 32 := Scalar.subi v8 c1_i32_274
  let c1_i32_1114 : BitVec 32 := 1#32
  let v1597 : BitVec 32 := Scalar.muli v386 c1_i32_1114
  let v1598 : BitVec 32 := Scalar.addi v1596 v1597
  v1598.toNat
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_266 : BitVec 32 := 0#32
  let v375 : BitVec 1 := Scalar.cmpi .sge v373 c0_i32_266
  let c3_i32_267 : BitVec 32 := 3#32
  let v376 : BitVec 1 := Scalar.cmpi .sle v373 c3_i32_267
  let v377 : BitVec 1 := Scalar.andi v375 v376
  let v391 : BitVec 32 := Scalar.extui v377
  let c0_i32_278 : BitVec 32 := 0#32
  let v392 : BitVec 1 := Scalar.cmpi .ne v391 c0_i32_278
  v392

def k0_off170 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c1_i32_1094 : BitVec 32 := 1#32
  ![v373.toNat, 1]
def k0_off171 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c256_i32_1100 : BitVec 32 := 256#32
  ![0, v1570.toNat, 256]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1583 : BitVec 1 := Scalar.cmpi .sle v373 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off172 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c1_i32_1110 : BitVec 32 := 1#32
  ![v373.toNat, 1]
def k0_off173 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c256_i32_1115 : BitVec 32 := 256#32
  ![0, v1570.toNat, 256]
def k0_dev69 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_276 : BitVec 32 := 1#32
  let v389 : BitVec 32 := Scalar.addi v5 c1_i32_276
  let c4_i32_1113 : BitVec 32 := 4#32
  let v1595 : BitVec 32 := Scalar.muli v389 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1588 : BitVec 1 := Scalar.cmpi .sge v373 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off174 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c1_i32_1110 : BitVec 32 := 1#32
  ![v373.toNat, 1]
def k0_off175 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c256_i32_1115 : BitVec 32 := 256#32
  ![0, v1570.toNat, 256]
def k0_dev70 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_277 : BitVec 32 := 1#32
  let v390 : BitVec 32 := Scalar.subi v5 c1_i32_277
  let c4_i32_1113 : BitVec 32 := 4#32
  let v1595 : BitVec 32 := Scalar.muli v390 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_268 : BitVec 32 := 0#32
  let v378 : BitVec 1 := Scalar.cmpi .sge v374 c0_i32_268
  let c3_i32_269 : BitVec 32 := 3#32
  let v379 : BitVec 1 := Scalar.cmpi .sle v374 c3_i32_269
  let v380 : BitVec 1 := Scalar.andi v378 v379
  let v395 : BitVec 32 := Scalar.extui v380
  let c0_i32_281 : BitVec 32 := 0#32
  let v396 : BitVec 1 := Scalar.cmpi .ne v395 c0_i32_281
  v396

def k0_off176 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c1_i32_1094 : BitVec 32 := 1#32
  ![v374.toNat, 1]
def k0_off177 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c256_i32_1100 : BitVec 32 := 256#32
  ![0, v1570.toNat, 256]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1583 : BitVec 1 := Scalar.cmpi .sle v374 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off178 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c1_i32_1110 : BitVec 32 := 1#32
  ![v374.toNat, 1]
def k0_off179 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c256_i32_1115 : BitVec 32 := 256#32
  ![0, v1570.toNat, 256]
def k0_dev71 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v393 : BitVec 32 := Scalar.addi v8 c1_i32_279
  let c1_i32_1114 : BitVec 32 := 1#32
  let v1597 : BitVec 32 := Scalar.muli v393 c1_i32_1114
  let v1598 : BitVec 32 := Scalar.addi v1596 v1597
  v1598.toNat
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1588 : BitVec 1 := Scalar.cmpi .sge v374 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off180 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c1_i32_1110 : BitVec 32 := 1#32
  ![v374.toNat, 1]
def k0_off181 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c256_i32_1115 : BitVec 32 := 256#32
  ![0, v1570.toNat, 256]
def k0_dev72 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v394 : BitVec 32 := Scalar.subi v8 c1_i32_280
  let c1_i32_1114 : BitVec 32 := 1#32
  let v1597 : BitVec 32 := Scalar.muli v394 c1_i32_1114
  let v1598 : BitVec 32 := Scalar.addi v1596 v1597
  v1598.toNat
def k0_cond89 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_266 : BitVec 32 := 0#32
  let v375 : BitVec 1 := Scalar.cmpi .sge v373 c0_i32_266
  let c3_i32_267 : BitVec 32 := 3#32
  let v376 : BitVec 1 := Scalar.cmpi .sle v373 c3_i32_267
  let v377 : BitVec 1 := Scalar.andi v375 v376
  let v399 : BitVec 32 := Scalar.extui v377
  let c0_i32_284 : BitVec 32 := 0#32
  let v400 : BitVec 1 := Scalar.cmpi .ne v399 c0_i32_284
  v400

def k0_off182 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c2_i32_1094 : BitVec 32 := 2#32
  ![v373.toNat, 2]
def k0_off183 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c512_i32_1100 : BitVec 32 := 512#32
  ![0, v1570.toNat, 512]
def k0_cond90 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1583 : BitVec 1 := Scalar.cmpi .sle v373 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off184 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c2_i32_1110 : BitVec 32 := 2#32
  ![v373.toNat, 2]
def k0_off185 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c512_i32_1115 : BitVec 32 := 512#32
  ![0, v1570.toNat, 512]
def k0_dev73 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_282 : BitVec 32 := 1#32
  let v397 : BitVec 32 := Scalar.addi v5 c1_i32_282
  let c4_i32_1113 : BitVec 32 := 4#32
  let v1595 : BitVec 32 := Scalar.muli v397 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1588 : BitVec 1 := Scalar.cmpi .sge v373 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off186 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c2_i32_1110 : BitVec 32 := 2#32
  ![v373.toNat, 2]
def k0_off187 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c512_i32_1115 : BitVec 32 := 512#32
  ![0, v1570.toNat, 512]
def k0_dev74 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_283 : BitVec 32 := 1#32
  let v398 : BitVec 32 := Scalar.subi v5 c1_i32_283
  let c4_i32_1113 : BitVec 32 := 4#32
  let v1595 : BitVec 32 := Scalar.muli v398 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_268 : BitVec 32 := 0#32
  let v378 : BitVec 1 := Scalar.cmpi .sge v374 c0_i32_268
  let c3_i32_269 : BitVec 32 := 3#32
  let v379 : BitVec 1 := Scalar.cmpi .sle v374 c3_i32_269
  let v380 : BitVec 1 := Scalar.andi v378 v379
  let v403 : BitVec 32 := Scalar.extui v380
  let c0_i32_287 : BitVec 32 := 0#32
  let v404 : BitVec 1 := Scalar.cmpi .ne v403 c0_i32_287
  v404

def k0_off188 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c2_i32_1094 : BitVec 32 := 2#32
  ![v374.toNat, 2]
def k0_off189 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c512_i32_1100 : BitVec 32 := 512#32
  ![0, v1570.toNat, 512]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1583 : BitVec 1 := Scalar.cmpi .sle v374 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off190 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c2_i32_1110 : BitVec 32 := 2#32
  ![v374.toNat, 2]
def k0_off191 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c512_i32_1115 : BitVec 32 := 512#32
  ![0, v1570.toNat, 512]
def k0_dev75 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v401 : BitVec 32 := Scalar.addi v8 c1_i32_285
  let c1_i32_1114 : BitVec 32 := 1#32
  let v1597 : BitVec 32 := Scalar.muli v401 c1_i32_1114
  let v1598 : BitVec 32 := Scalar.addi v1596 v1597
  v1598.toNat
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1588 : BitVec 1 := Scalar.cmpi .sge v374 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off192 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c2_i32_1110 : BitVec 32 := 2#32
  ![v374.toNat, 2]
def k0_off193 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c512_i32_1115 : BitVec 32 := 512#32
  ![0, v1570.toNat, 512]
def k0_dev76 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v402 : BitVec 32 := Scalar.subi v8 c1_i32_286
  let c1_i32_1114 : BitVec 32 := 1#32
  let v1597 : BitVec 32 := Scalar.muli v402 c1_i32_1114
  let v1598 : BitVec 32 := Scalar.addi v1596 v1597
  v1598.toNat
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c0_i32_266 : BitVec 32 := 0#32
  let v375 : BitVec 1 := Scalar.cmpi .sge v373 c0_i32_266
  let c3_i32_267 : BitVec 32 := 3#32
  let v376 : BitVec 1 := Scalar.cmpi .sle v373 c3_i32_267
  let v377 : BitVec 1 := Scalar.andi v375 v376
  let v407 : BitVec 32 := Scalar.extui v377
  let c0_i32_290 : BitVec 32 := 0#32
  let v408 : BitVec 1 := Scalar.cmpi .ne v407 c0_i32_290
  v408

def k0_off194 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c3_i32_1094 : BitVec 32 := 3#32
  ![v373.toNat, 3]
def k0_off195 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c768_i32_1100 : BitVec 32 := 768#32
  ![0, v1570.toNat, 768]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1583 : BitVec 1 := Scalar.cmpi .sle v373 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off196 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c3_i32_1110 : BitVec 32 := 3#32
  ![v373.toNat, 3]
def k0_off197 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c768_i32_1115 : BitVec 32 := 768#32
  ![0, v1570.toNat, 768]
def k0_dev77 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_288 : BitVec 32 := 1#32
  let v405 : BitVec 32 := Scalar.addi v5 c1_i32_288
  let c4_i32_1113 : BitVec 32 := 4#32
  let v1595 : BitVec 32 := Scalar.muli v405 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1588 : BitVec 1 := Scalar.cmpi .sge v373 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off198 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let c3_i32_1110 : BitVec 32 := 3#32
  ![v373.toNat, 3]
def k0_off199 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_264 : BitVec 32 := 2#32
  let v373 : BitVec 32 := Scalar.addi v5 c2_i32_264
  let v1569 : BitVec 32 := Scalar.muli c224_i32_1090 v373
  let v1570 : BitVec 32 := Scalar.addi c256_i32_1091 v1569
  let c768_i32_1115 : BitVec 32 := 768#32
  ![0, v1570.toNat, 768]
def k0_dev78 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_289 : BitVec 32 := 1#32
  let v406 : BitVec 32 := Scalar.subi v5 c1_i32_289
  let c4_i32_1113 : BitVec 32 := 4#32
  let v1595 : BitVec 32 := Scalar.muli v406 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c0_i32_268 : BitVec 32 := 0#32
  let v378 : BitVec 1 := Scalar.cmpi .sge v374 c0_i32_268
  let c3_i32_269 : BitVec 32 := 3#32
  let v379 : BitVec 1 := Scalar.cmpi .sle v374 c3_i32_269
  let v380 : BitVec 1 := Scalar.andi v378 v379
  let v411 : BitVec 32 := Scalar.extui v380
  let c0_i32_293 : BitVec 32 := 0#32
  let v412 : BitVec 1 := Scalar.cmpi .ne v411 c0_i32_293
  v412

def k0_off200 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c3_i32_1094 : BitVec 32 := 3#32
  ![v374.toNat, 3]
def k0_off201 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c768_i32_1100 : BitVec 32 := 768#32
  ![0, v1570.toNat, 768]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1583 : BitVec 1 := Scalar.cmpi .sle v374 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off202 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c3_i32_1110 : BitVec 32 := 3#32
  ![v374.toNat, 3]
def k0_off203 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c768_i32_1115 : BitVec 32 := 768#32
  ![0, v1570.toNat, 768]
def k0_dev79 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_291 : BitVec 32 := 1#32
  let v409 : BitVec 32 := Scalar.addi v8 c1_i32_291
  let c1_i32_1114 : BitVec 32 := 1#32
  let v1597 : BitVec 32 := Scalar.muli v409 c1_i32_1114
  let v1598 : BitVec 32 := Scalar.addi v1596 v1597
  v1598.toNat
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1588 : BitVec 1 := Scalar.cmpi .sge v374 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off204 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let c3_i32_1110 : BitVec 32 := 3#32
  ![v374.toNat, 3]
def k0_off205 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_265 : BitVec 32 := 2#32
  let v374 : BitVec 32 := Scalar.addi v8 c2_i32_265
  let v1569 : BitVec 32 := Scalar.muli c224_i32_1090 v374
  let v1570 : BitVec 32 := Scalar.addi c1152_i32_1091 v1569
  let c768_i32_1115 : BitVec 32 := 768#32
  ![0, v1570.toNat, 768]
def k0_dev80 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v410 : BitVec 32 := Scalar.subi v8 c1_i32_292
  let c1_i32_1114 : BitVec 32 := 1#32
  let v1597 : BitVec 32 := Scalar.muli v410 c1_i32_1114
  let v1598 : BitVec 32 := Scalar.addi v1596 v1597
  v1598.toNat
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_295 : BitVec 32 := 0#32
  let v415 : BitVec 1 := Scalar.cmpi .sge v413 c0_i32_295
  let c3_i32_296 : BitVec 32 := 3#32
  let v416 : BitVec 1 := Scalar.cmpi .sle v413 c3_i32_296
  let v417 : BitVec 1 := Scalar.andi v415 v416
  let v423 : BitVec 32 := Scalar.extui v417
  let c0_i32_301 : BitVec 32 := 0#32
  let v424 : BitVec 1 := Scalar.cmpi .ne v423 c0_i32_301
  v424

def k0_off206 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_1094 : BitVec 32 := 0#32
  ![v413.toNat, 0]
def k0_off207 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c0_i32_1100 : BitVec 32 := 0#32
  ![0, v1570.toNat, 0]
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1583 : BitVec 1 := Scalar.cmpi .sle v413 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off208 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_1110 : BitVec 32 := 0#32
  ![v413.toNat, 0]
def k0_off209 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c0_i32_1115 : BitVec 32 := 0#32
  ![0, v1570.toNat, 0]
def k0_dev81 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_299 : BitVec 32 := 1#32
  let v421 : BitVec 32 := Scalar.addi v5 c1_i32_299
  let c4_i32_1113 : BitVec 32 := 4#32
  let v1595 : BitVec 32 := Scalar.muli v421 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1588 : BitVec 1 := Scalar.cmpi .sge v413 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off210 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_1110 : BitVec 32 := 0#32
  ![v413.toNat, 0]
def k0_off211 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c0_i32_1115 : BitVec 32 := 0#32
  ![0, v1570.toNat, 0]
def k0_dev82 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_300 : BitVec 32 := 1#32
  let v422 : BitVec 32 := Scalar.subi v5 c1_i32_300
  let c4_i32_1113 : BitVec 32 := 4#32
  let v1595 : BitVec 32 := Scalar.muli v422 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_297 : BitVec 32 := 0#32
  let v418 : BitVec 1 := Scalar.cmpi .sge v414 c0_i32_297
  let c3_i32_298 : BitVec 32 := 3#32
  let v419 : BitVec 1 := Scalar.cmpi .sle v414 c3_i32_298
  let v420 : BitVec 1 := Scalar.andi v418 v419
  let v427 : BitVec 32 := Scalar.extui v420
  let c0_i32_304 : BitVec 32 := 0#32
  let v428 : BitVec 1 := Scalar.cmpi .ne v427 c0_i32_304
  v428

def k0_off212 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_1094 : BitVec 32 := 0#32
  ![v414.toNat, 0]
def k0_off213 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c0_i32_1100 : BitVec 32 := 0#32
  ![0, v1570.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1583 : BitVec 1 := Scalar.cmpi .sle v414 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off214 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_1110 : BitVec 32 := 0#32
  ![v414.toNat, 0]
def k0_off215 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c0_i32_1115 : BitVec 32 := 0#32
  ![0, v1570.toNat, 0]
def k0_dev83 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v425 : BitVec 32 := Scalar.addi v8 c1_i32_302
  let c1_i32_1114 : BitVec 32 := 1#32
  let v1597 : BitVec 32 := Scalar.muli v425 c1_i32_1114
  let v1598 : BitVec 32 := Scalar.addi v1596 v1597
  v1598.toNat
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1588 : BitVec 1 := Scalar.cmpi .sge v414 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off216 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_1110 : BitVec 32 := 0#32
  ![v414.toNat, 0]
def k0_off217 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c0_i32_1115 : BitVec 32 := 0#32
  ![0, v1570.toNat, 0]
def k0_dev84 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v426 : BitVec 32 := Scalar.subi v8 c1_i32_303
  let c1_i32_1114 : BitVec 32 := 1#32
  let v1597 : BitVec 32 := Scalar.muli v426 c1_i32_1114
  let v1598 : BitVec 32 := Scalar.addi v1596 v1597
  v1598.toNat
def k0_cond107 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_295 : BitVec 32 := 0#32
  let v415 : BitVec 1 := Scalar.cmpi .sge v413 c0_i32_295
  let c3_i32_296 : BitVec 32 := 3#32
  let v416 : BitVec 1 := Scalar.cmpi .sle v413 c3_i32_296
  let v417 : BitVec 1 := Scalar.andi v415 v416
  let v431 : BitVec 32 := Scalar.extui v417
  let c0_i32_307 : BitVec 32 := 0#32
  let v432 : BitVec 1 := Scalar.cmpi .ne v431 c0_i32_307
  v432

def k0_off218 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c1_i32_1094 : BitVec 32 := 1#32
  ![v413.toNat, 1]
def k0_off219 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c256_i32_1100 : BitVec 32 := 256#32
  ![0, v1570.toNat, 256]
def k0_cond108 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1583 : BitVec 1 := Scalar.cmpi .sle v413 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off220 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c1_i32_1110 : BitVec 32 := 1#32
  ![v413.toNat, 1]
def k0_off221 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c256_i32_1115 : BitVec 32 := 256#32
  ![0, v1570.toNat, 256]
def k0_dev85 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_305 : BitVec 32 := 1#32
  let v429 : BitVec 32 := Scalar.addi v5 c1_i32_305
  let c4_i32_1113 : BitVec 32 := 4#32
  let v1595 : BitVec 32 := Scalar.muli v429 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1588 : BitVec 1 := Scalar.cmpi .sge v413 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off222 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c1_i32_1110 : BitVec 32 := 1#32
  ![v413.toNat, 1]
def k0_off223 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c256_i32_1115 : BitVec 32 := 256#32
  ![0, v1570.toNat, 256]
def k0_dev86 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_306 : BitVec 32 := 1#32
  let v430 : BitVec 32 := Scalar.subi v5 c1_i32_306
  let c4_i32_1113 : BitVec 32 := 4#32
  let v1595 : BitVec 32 := Scalar.muli v430 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_297 : BitVec 32 := 0#32
  let v418 : BitVec 1 := Scalar.cmpi .sge v414 c0_i32_297
  let c3_i32_298 : BitVec 32 := 3#32
  let v419 : BitVec 1 := Scalar.cmpi .sle v414 c3_i32_298
  let v420 : BitVec 1 := Scalar.andi v418 v419
  let v435 : BitVec 32 := Scalar.extui v420
  let c0_i32_310 : BitVec 32 := 0#32
  let v436 : BitVec 1 := Scalar.cmpi .ne v435 c0_i32_310
  v436

def k0_off224 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c1_i32_1094 : BitVec 32 := 1#32
  ![v414.toNat, 1]
def k0_off225 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c256_i32_1100 : BitVec 32 := 256#32
  ![0, v1570.toNat, 256]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1583 : BitVec 1 := Scalar.cmpi .sle v414 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off226 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c1_i32_1110 : BitVec 32 := 1#32
  ![v414.toNat, 1]
def k0_off227 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c256_i32_1115 : BitVec 32 := 256#32
  ![0, v1570.toNat, 256]
def k0_dev87 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v433 : BitVec 32 := Scalar.addi v8 c1_i32_308
  let c1_i32_1114 : BitVec 32 := 1#32
  let v1597 : BitVec 32 := Scalar.muli v433 c1_i32_1114
  let v1598 : BitVec 32 := Scalar.addi v1596 v1597
  v1598.toNat
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1588 : BitVec 1 := Scalar.cmpi .sge v414 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off228 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c1_i32_1110 : BitVec 32 := 1#32
  ![v414.toNat, 1]
def k0_off229 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c256_i32_1115 : BitVec 32 := 256#32
  ![0, v1570.toNat, 256]
def k0_dev88 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v434 : BitVec 32 := Scalar.subi v8 c1_i32_309
  let c1_i32_1114 : BitVec 32 := 1#32
  let v1597 : BitVec 32 := Scalar.muli v434 c1_i32_1114
  let v1598 : BitVec 32 := Scalar.addi v1596 v1597
  v1598.toNat
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_295 : BitVec 32 := 0#32
  let v415 : BitVec 1 := Scalar.cmpi .sge v413 c0_i32_295
  let c3_i32_296 : BitVec 32 := 3#32
  let v416 : BitVec 1 := Scalar.cmpi .sle v413 c3_i32_296
  let v417 : BitVec 1 := Scalar.andi v415 v416
  let v439 : BitVec 32 := Scalar.extui v417
  let c0_i32_313 : BitVec 32 := 0#32
  let v440 : BitVec 1 := Scalar.cmpi .ne v439 c0_i32_313
  v440

def k0_off230 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c2_i32_1094 : BitVec 32 := 2#32
  ![v413.toNat, 2]
def k0_off231 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c512_i32_1100 : BitVec 32 := 512#32
  ![0, v1570.toNat, 512]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1583 : BitVec 1 := Scalar.cmpi .sle v413 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off232 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c2_i32_1110 : BitVec 32 := 2#32
  ![v413.toNat, 2]
def k0_off233 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c512_i32_1115 : BitVec 32 := 512#32
  ![0, v1570.toNat, 512]
def k0_dev89 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_311 : BitVec 32 := 1#32
  let v437 : BitVec 32 := Scalar.addi v5 c1_i32_311
  let c4_i32_1113 : BitVec 32 := 4#32
  let v1595 : BitVec 32 := Scalar.muli v437 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1588 : BitVec 1 := Scalar.cmpi .sge v413 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off234 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c2_i32_1110 : BitVec 32 := 2#32
  ![v413.toNat, 2]
def k0_off235 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c512_i32_1115 : BitVec 32 := 512#32
  ![0, v1570.toNat, 512]
def k0_dev90 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_312 : BitVec 32 := 1#32
  let v438 : BitVec 32 := Scalar.subi v5 c1_i32_312
  let c4_i32_1113 : BitVec 32 := 4#32
  let v1595 : BitVec 32 := Scalar.muli v438 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_297 : BitVec 32 := 0#32
  let v418 : BitVec 1 := Scalar.cmpi .sge v414 c0_i32_297
  let c3_i32_298 : BitVec 32 := 3#32
  let v419 : BitVec 1 := Scalar.cmpi .sle v414 c3_i32_298
  let v420 : BitVec 1 := Scalar.andi v418 v419
  let v443 : BitVec 32 := Scalar.extui v420
  let c0_i32_316 : BitVec 32 := 0#32
  let v444 : BitVec 1 := Scalar.cmpi .ne v443 c0_i32_316
  v444

def k0_off236 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c2_i32_1094 : BitVec 32 := 2#32
  ![v414.toNat, 2]
def k0_off237 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c512_i32_1100 : BitVec 32 := 512#32
  ![0, v1570.toNat, 512]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1583 : BitVec 1 := Scalar.cmpi .sle v414 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off238 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c2_i32_1110 : BitVec 32 := 2#32
  ![v414.toNat, 2]
def k0_off239 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c512_i32_1115 : BitVec 32 := 512#32
  ![0, v1570.toNat, 512]
def k0_dev91 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v441 : BitVec 32 := Scalar.addi v8 c1_i32_314
  let c1_i32_1114 : BitVec 32 := 1#32
  let v1597 : BitVec 32 := Scalar.muli v441 c1_i32_1114
  let v1598 : BitVec 32 := Scalar.addi v1596 v1597
  v1598.toNat
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1588 : BitVec 1 := Scalar.cmpi .sge v414 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off240 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c2_i32_1110 : BitVec 32 := 2#32
  ![v414.toNat, 2]
def k0_off241 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c512_i32_1115 : BitVec 32 := 512#32
  ![0, v1570.toNat, 512]
def k0_dev92 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v442 : BitVec 32 := Scalar.subi v8 c1_i32_315
  let c1_i32_1114 : BitVec 32 := 1#32
  let v1597 : BitVec 32 := Scalar.muli v442 c1_i32_1114
  let v1598 : BitVec 32 := Scalar.addi v1596 v1597
  v1598.toNat
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c0_i32_295 : BitVec 32 := 0#32
  let v415 : BitVec 1 := Scalar.cmpi .sge v413 c0_i32_295
  let c3_i32_296 : BitVec 32 := 3#32
  let v416 : BitVec 1 := Scalar.cmpi .sle v413 c3_i32_296
  let v417 : BitVec 1 := Scalar.andi v415 v416
  let v447 : BitVec 32 := Scalar.extui v417
  let c0_i32_319 : BitVec 32 := 0#32
  let v448 : BitVec 1 := Scalar.cmpi .ne v447 c0_i32_319
  v448

def k0_off242 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c3_i32_1094 : BitVec 32 := 3#32
  ![v413.toNat, 3]
def k0_off243 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c768_i32_1100 : BitVec 32 := 768#32
  ![0, v1570.toNat, 768]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1583 : BitVec 1 := Scalar.cmpi .sle v413 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off244 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c3_i32_1110 : BitVec 32 := 3#32
  ![v413.toNat, 3]
def k0_off245 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c768_i32_1115 : BitVec 32 := 768#32
  ![0, v1570.toNat, 768]
def k0_dev93 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_317 : BitVec 32 := 1#32
  let v445 : BitVec 32 := Scalar.addi v5 c1_i32_317
  let c4_i32_1113 : BitVec 32 := 4#32
  let v1595 : BitVec 32 := Scalar.muli v445 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1588 : BitVec 1 := Scalar.cmpi .sge v413 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off246 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let c3_i32_1110 : BitVec 32 := 3#32
  ![v413.toNat, 3]
def k0_off247 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v413 : BitVec 32 := Scalar.addi v5 c_m2_i32
  let v1569 : BitVec 32 := Scalar.muli c224_i32_1090 v413
  let v1570 : BitVec 32 := Scalar.addi c256_i32_1091 v1569
  let c768_i32_1115 : BitVec 32 := 768#32
  ![0, v1570.toNat, 768]
def k0_dev94 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_318 : BitVec 32 := 1#32
  let v446 : BitVec 32 := Scalar.subi v5 c1_i32_318
  let c4_i32_1113 : BitVec 32 := 4#32
  let v1595 : BitVec 32 := Scalar.muli v446 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c0_i32_297 : BitVec 32 := 0#32
  let v418 : BitVec 1 := Scalar.cmpi .sge v414 c0_i32_297
  let c3_i32_298 : BitVec 32 := 3#32
  let v419 : BitVec 1 := Scalar.cmpi .sle v414 c3_i32_298
  let v420 : BitVec 1 := Scalar.andi v418 v419
  let v451 : BitVec 32 := Scalar.extui v420
  let c0_i32_322 : BitVec 32 := 0#32
  let v452 : BitVec 1 := Scalar.cmpi .ne v451 c0_i32_322
  v452

def k0_off248 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c3_i32_1094 : BitVec 32 := 3#32
  ![v414.toNat, 3]
def k0_off249 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c768_i32_1100 : BitVec 32 := 768#32
  ![0, v1570.toNat, 768]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1583 : BitVec 1 := Scalar.cmpi .sle v414 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off250 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c3_i32_1110 : BitVec 32 := 3#32
  ![v414.toNat, 3]
def k0_off251 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c768_i32_1115 : BitVec 32 := 768#32
  ![0, v1570.toNat, 768]
def k0_dev95 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v449 : BitVec 32 := Scalar.addi v8 c1_i32_320
  let c1_i32_1114 : BitVec 32 := 1#32
  let v1597 : BitVec 32 := Scalar.muli v449 c1_i32_1114
  let v1598 : BitVec 32 := Scalar.addi v1596 v1597
  v1598.toNat
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1588 : BitVec 1 := Scalar.cmpi .sge v414 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off252 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let c3_i32_1110 : BitVec 32 := 3#32
  ![v414.toNat, 3]
def k0_off253 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_294 : BitVec 32 := 4294967294#32
  let v414 : BitVec 32 := Scalar.addi v8 c_m2_i32_294
  let v1569 : BitVec 32 := Scalar.muli c224_i32_1090 v414
  let v1570 : BitVec 32 := Scalar.addi c1152_i32_1091 v1569
  let c768_i32_1115 : BitVec 32 := 768#32
  ![0, v1570.toNat, 768]
def k0_dev96 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v450 : BitVec 32 := Scalar.subi v8 c1_i32_321
  let c1_i32_1114 : BitVec 32 := 1#32
  let v1597 : BitVec 32 := Scalar.muli v450 c1_i32_1114
  let v1598 : BitVec 32 := Scalar.addi v1596 v1597
  v1598.toNat
def k0_cond125 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_325 : BitVec 32 := 0#32
  let v455 : BitVec 1 := Scalar.cmpi .sge v453 c0_i32_325
  let c3_i32_326 : BitVec 32 := 3#32
  let v456 : BitVec 1 := Scalar.cmpi .sle v453 c3_i32_326
  let v457 : BitVec 1 := Scalar.andi v455 v456
  let v463 : BitVec 32 := Scalar.extui v457
  let c0_i32_331 : BitVec 32 := 0#32
  let v464 : BitVec 1 := Scalar.cmpi .ne v463 c0_i32_331
  v464

def k0_off254 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_1094 : BitVec 32 := 0#32
  ![v453.toNat, 0]
def k0_off255 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c0_i32_1100 : BitVec 32 := 0#32
  ![0, v1570.toNat, 0]
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1583 : BitVec 1 := Scalar.cmpi .sle v453 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off256 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_1110 : BitVec 32 := 0#32
  ![v453.toNat, 0]
def k0_off257 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c0_i32_1115 : BitVec 32 := 0#32
  ![0, v1570.toNat, 0]
def k0_dev97 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_329 : BitVec 32 := 1#32
  let v461 : BitVec 32 := Scalar.addi v5 c1_i32_329
  let c4_i32_1113 : BitVec 32 := 4#32
  let v1595 : BitVec 32 := Scalar.muli v461 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond127 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1588 : BitVec 1 := Scalar.cmpi .sge v453 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off258 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_1110 : BitVec 32 := 0#32
  ![v453.toNat, 0]
def k0_off259 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c0_i32_1115 : BitVec 32 := 0#32
  ![0, v1570.toNat, 0]
def k0_dev98 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_330 : BitVec 32 := 1#32
  let v462 : BitVec 32 := Scalar.subi v5 c1_i32_330
  let c4_i32_1113 : BitVec 32 := 4#32
  let v1595 : BitVec 32 := Scalar.muli v462 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_327 : BitVec 32 := 0#32
  let v458 : BitVec 1 := Scalar.cmpi .sge v454 c0_i32_327
  let c3_i32_328 : BitVec 32 := 3#32
  let v459 : BitVec 1 := Scalar.cmpi .sle v454 c3_i32_328
  let v460 : BitVec 1 := Scalar.andi v458 v459
  let v467 : BitVec 32 := Scalar.extui v460
  let c0_i32_334 : BitVec 32 := 0#32
  let v468 : BitVec 1 := Scalar.cmpi .ne v467 c0_i32_334
  v468

def k0_off260 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_1094 : BitVec 32 := 0#32
  ![v454.toNat, 0]
def k0_off261 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c0_i32_1100 : BitVec 32 := 0#32
  ![0, v1570.toNat, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1583 : BitVec 1 := Scalar.cmpi .sle v454 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off262 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_1110 : BitVec 32 := 0#32
  ![v454.toNat, 0]
def k0_off263 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c0_i32_1115 : BitVec 32 := 0#32
  ![0, v1570.toNat, 0]
def k0_dev99 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_332 : BitVec 32 := 1#32
  let v465 : BitVec 32 := Scalar.addi v8 c1_i32_332
  let c1_i32_1114 : BitVec 32 := 1#32
  let v1597 : BitVec 32 := Scalar.muli v465 c1_i32_1114
  let v1598 : BitVec 32 := Scalar.addi v1596 v1597
  v1598.toNat
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1588 : BitVec 1 := Scalar.cmpi .sge v454 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off264 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_1110 : BitVec 32 := 0#32
  ![v454.toNat, 0]
def k0_off265 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c0_i32_1115 : BitVec 32 := 0#32
  ![0, v1570.toNat, 0]
def k0_dev100 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v466 : BitVec 32 := Scalar.subi v8 c1_i32_333
  let c1_i32_1114 : BitVec 32 := 1#32
  let v1597 : BitVec 32 := Scalar.muli v466 c1_i32_1114
  let v1598 : BitVec 32 := Scalar.addi v1596 v1597
  v1598.toNat
def k0_cond131 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_325 : BitVec 32 := 0#32
  let v455 : BitVec 1 := Scalar.cmpi .sge v453 c0_i32_325
  let c3_i32_326 : BitVec 32 := 3#32
  let v456 : BitVec 1 := Scalar.cmpi .sle v453 c3_i32_326
  let v457 : BitVec 1 := Scalar.andi v455 v456
  let v471 : BitVec 32 := Scalar.extui v457
  let c0_i32_337 : BitVec 32 := 0#32
  let v472 : BitVec 1 := Scalar.cmpi .ne v471 c0_i32_337
  v472

def k0_off266 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c1_i32_1094 : BitVec 32 := 1#32
  ![v453.toNat, 1]
def k0_off267 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c256_i32_1100 : BitVec 32 := 256#32
  ![0, v1570.toNat, 256]
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1583 : BitVec 1 := Scalar.cmpi .sle v453 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off268 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c1_i32_1110 : BitVec 32 := 1#32
  ![v453.toNat, 1]
def k0_off269 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c256_i32_1115 : BitVec 32 := 256#32
  ![0, v1570.toNat, 256]
def k0_dev101 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_335 : BitVec 32 := 1#32
  let v469 : BitVec 32 := Scalar.addi v5 c1_i32_335
  let c4_i32_1113 : BitVec 32 := 4#32
  let v1595 : BitVec 32 := Scalar.muli v469 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond133 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1588 : BitVec 1 := Scalar.cmpi .sge v453 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off270 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c1_i32_1110 : BitVec 32 := 1#32
  ![v453.toNat, 1]
def k0_off271 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c256_i32_1115 : BitVec 32 := 256#32
  ![0, v1570.toNat, 256]
def k0_dev102 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_336 : BitVec 32 := 1#32
  let v470 : BitVec 32 := Scalar.subi v5 c1_i32_336
  let c4_i32_1113 : BitVec 32 := 4#32
  let v1595 : BitVec 32 := Scalar.muli v470 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_327 : BitVec 32 := 0#32
  let v458 : BitVec 1 := Scalar.cmpi .sge v454 c0_i32_327
  let c3_i32_328 : BitVec 32 := 3#32
  let v459 : BitVec 1 := Scalar.cmpi .sle v454 c3_i32_328
  let v460 : BitVec 1 := Scalar.andi v458 v459
  let v475 : BitVec 32 := Scalar.extui v460
  let c0_i32_340 : BitVec 32 := 0#32
  let v476 : BitVec 1 := Scalar.cmpi .ne v475 c0_i32_340
  v476

def k0_off272 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c1_i32_1094 : BitVec 32 := 1#32
  ![v454.toNat, 1]
def k0_off273 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c256_i32_1100 : BitVec 32 := 256#32
  ![0, v1570.toNat, 256]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1583 : BitVec 1 := Scalar.cmpi .sle v454 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off274 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c1_i32_1110 : BitVec 32 := 1#32
  ![v454.toNat, 1]
def k0_off275 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c256_i32_1115 : BitVec 32 := 256#32
  ![0, v1570.toNat, 256]
def k0_dev103 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v473 : BitVec 32 := Scalar.addi v8 c1_i32_338
  let c1_i32_1114 : BitVec 32 := 1#32
  let v1597 : BitVec 32 := Scalar.muli v473 c1_i32_1114
  let v1598 : BitVec 32 := Scalar.addi v1596 v1597
  v1598.toNat
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1588 : BitVec 1 := Scalar.cmpi .sge v454 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off276 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c1_i32_1110 : BitVec 32 := 1#32
  ![v454.toNat, 1]
def k0_off277 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c256_i32_1115 : BitVec 32 := 256#32
  ![0, v1570.toNat, 256]
def k0_dev104 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v474 : BitVec 32 := Scalar.subi v8 c1_i32_339
  let c1_i32_1114 : BitVec 32 := 1#32
  let v1597 : BitVec 32 := Scalar.muli v474 c1_i32_1114
  let v1598 : BitVec 32 := Scalar.addi v1596 v1597
  v1598.toNat
def k0_cond137 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_325 : BitVec 32 := 0#32
  let v455 : BitVec 1 := Scalar.cmpi .sge v453 c0_i32_325
  let c3_i32_326 : BitVec 32 := 3#32
  let v456 : BitVec 1 := Scalar.cmpi .sle v453 c3_i32_326
  let v457 : BitVec 1 := Scalar.andi v455 v456
  let v479 : BitVec 32 := Scalar.extui v457
  let c0_i32_343 : BitVec 32 := 0#32
  let v480 : BitVec 1 := Scalar.cmpi .ne v479 c0_i32_343
  v480

def k0_off278 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c2_i32_1094 : BitVec 32 := 2#32
  ![v453.toNat, 2]
def k0_off279 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c512_i32_1100 : BitVec 32 := 512#32
  ![0, v1570.toNat, 512]
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1583 : BitVec 1 := Scalar.cmpi .sle v453 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off280 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c2_i32_1110 : BitVec 32 := 2#32
  ![v453.toNat, 2]
def k0_off281 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c512_i32_1115 : BitVec 32 := 512#32
  ![0, v1570.toNat, 512]
def k0_dev105 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_341 : BitVec 32 := 1#32
  let v477 : BitVec 32 := Scalar.addi v5 c1_i32_341
  let c4_i32_1113 : BitVec 32 := 4#32
  let v1595 : BitVec 32 := Scalar.muli v477 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond139 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1588 : BitVec 1 := Scalar.cmpi .sge v453 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off282 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c2_i32_1110 : BitVec 32 := 2#32
  ![v453.toNat, 2]
def k0_off283 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c512_i32_1115 : BitVec 32 := 512#32
  ![0, v1570.toNat, 512]
def k0_dev106 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_342 : BitVec 32 := 1#32
  let v478 : BitVec 32 := Scalar.subi v5 c1_i32_342
  let c4_i32_1113 : BitVec 32 := 4#32
  let v1595 : BitVec 32 := Scalar.muli v478 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_327 : BitVec 32 := 0#32
  let v458 : BitVec 1 := Scalar.cmpi .sge v454 c0_i32_327
  let c3_i32_328 : BitVec 32 := 3#32
  let v459 : BitVec 1 := Scalar.cmpi .sle v454 c3_i32_328
  let v460 : BitVec 1 := Scalar.andi v458 v459
  let v483 : BitVec 32 := Scalar.extui v460
  let c0_i32_346 : BitVec 32 := 0#32
  let v484 : BitVec 1 := Scalar.cmpi .ne v483 c0_i32_346
  v484

def k0_off284 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c2_i32_1094 : BitVec 32 := 2#32
  ![v454.toNat, 2]
def k0_off285 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c512_i32_1100 : BitVec 32 := 512#32
  ![0, v1570.toNat, 512]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1583 : BitVec 1 := Scalar.cmpi .sle v454 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off286 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c2_i32_1110 : BitVec 32 := 2#32
  ![v454.toNat, 2]
def k0_off287 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c512_i32_1115 : BitVec 32 := 512#32
  ![0, v1570.toNat, 512]
def k0_dev107 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v481 : BitVec 32 := Scalar.addi v8 c1_i32_344
  let c1_i32_1114 : BitVec 32 := 1#32
  let v1597 : BitVec 32 := Scalar.muli v481 c1_i32_1114
  let v1598 : BitVec 32 := Scalar.addi v1596 v1597
  v1598.toNat
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1588 : BitVec 1 := Scalar.cmpi .sge v454 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off288 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c2_i32_1110 : BitVec 32 := 2#32
  ![v454.toNat, 2]
def k0_off289 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c512_i32_1115 : BitVec 32 := 512#32
  ![0, v1570.toNat, 512]
def k0_dev108 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v482 : BitVec 32 := Scalar.subi v8 c1_i32_345
  let c1_i32_1114 : BitVec 32 := 1#32
  let v1597 : BitVec 32 := Scalar.muli v482 c1_i32_1114
  let v1598 : BitVec 32 := Scalar.addi v1596 v1597
  v1598.toNat
def k0_cond143 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c0_i32_325 : BitVec 32 := 0#32
  let v455 : BitVec 1 := Scalar.cmpi .sge v453 c0_i32_325
  let c3_i32_326 : BitVec 32 := 3#32
  let v456 : BitVec 1 := Scalar.cmpi .sle v453 c3_i32_326
  let v457 : BitVec 1 := Scalar.andi v455 v456
  let v487 : BitVec 32 := Scalar.extui v457
  let c0_i32_349 : BitVec 32 := 0#32
  let v488 : BitVec 1 := Scalar.cmpi .ne v487 c0_i32_349
  v488

def k0_off290 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c3_i32_1094 : BitVec 32 := 3#32
  ![v453.toNat, 3]
def k0_off291 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c768_i32_1100 : BitVec 32 := 768#32
  ![0, v1570.toNat, 768]
def k0_cond144 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1583 : BitVec 1 := Scalar.cmpi .sle v453 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off292 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c3_i32_1110 : BitVec 32 := 3#32
  ![v453.toNat, 3]
def k0_off293 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c768_i32_1115 : BitVec 32 := 768#32
  ![0, v1570.toNat, 768]
def k0_dev109 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_347 : BitVec 32 := 1#32
  let v485 : BitVec 32 := Scalar.addi v5 c1_i32_347
  let c4_i32_1113 : BitVec 32 := 4#32
  let v1595 : BitVec 32 := Scalar.muli v485 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond145 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1588 : BitVec 1 := Scalar.cmpi .sge v453 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off294 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let c3_i32_1110 : BitVec 32 := 3#32
  ![v453.toNat, 3]
def k0_off295 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_323 : BitVec 32 := 3#32
  let v453 : BitVec 32 := Scalar.addi v5 c3_i32_323
  let v1569 : BitVec 32 := Scalar.muli c224_i32_1090 v453
  let v1570 : BitVec 32 := Scalar.addi c256_i32_1091 v1569
  let c768_i32_1115 : BitVec 32 := 768#32
  ![0, v1570.toNat, 768]
def k0_dev110 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_348 : BitVec 32 := 1#32
  let v486 : BitVec 32 := Scalar.subi v5 c1_i32_348
  let c4_i32_1113 : BitVec 32 := 4#32
  let v1595 : BitVec 32 := Scalar.muli v486 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c0_i32_327 : BitVec 32 := 0#32
  let v458 : BitVec 1 := Scalar.cmpi .sge v454 c0_i32_327
  let c3_i32_328 : BitVec 32 := 3#32
  let v459 : BitVec 1 := Scalar.cmpi .sle v454 c3_i32_328
  let v460 : BitVec 1 := Scalar.andi v458 v459
  let v491 : BitVec 32 := Scalar.extui v460
  let c0_i32_352 : BitVec 32 := 0#32
  let v492 : BitVec 1 := Scalar.cmpi .ne v491 c0_i32_352
  v492

def k0_off296 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c3_i32_1094 : BitVec 32 := 3#32
  ![v454.toNat, 3]
def k0_off297 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c768_i32_1100 : BitVec 32 := 768#32
  ![0, v1570.toNat, 768]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1583 : BitVec 1 := Scalar.cmpi .sle v454 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off298 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c3_i32_1110 : BitVec 32 := 3#32
  ![v454.toNat, 3]
def k0_off299 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c768_i32_1115 : BitVec 32 := 768#32
  ![0, v1570.toNat, 768]
def k0_dev111 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v489 : BitVec 32 := Scalar.addi v8 c1_i32_350
  let c1_i32_1114 : BitVec 32 := 1#32
  let v1597 : BitVec 32 := Scalar.muli v489 c1_i32_1114
  let v1598 : BitVec 32 := Scalar.addi v1596 v1597
  v1598.toNat
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1588 : BitVec 1 := Scalar.cmpi .sge v454 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off300 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let c3_i32_1110 : BitVec 32 := 3#32
  ![v454.toNat, 3]
def k0_off301 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v454 : BitVec 32 := Scalar.addi v8 c3_i32_324
  let v1569 : BitVec 32 := Scalar.muli c224_i32_1090 v454
  let v1570 : BitVec 32 := Scalar.addi c1152_i32_1091 v1569
  let c768_i32_1115 : BitVec 32 := 768#32
  ![0, v1570.toNat, 768]
def k0_dev112 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v490 : BitVec 32 := Scalar.subi v8 c1_i32_351
  let c1_i32_1114 : BitVec 32 := 1#32
  let v1597 : BitVec 32 := Scalar.muli v490 c1_i32_1114
  let v1598 : BitVec 32 := Scalar.addi v1596 v1597
  v1598.toNat
def k0_cond149 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_354 : BitVec 32 := 0#32
  let v495 : BitVec 1 := Scalar.cmpi .sge v493 c0_i32_354
  let c3_i32_355 : BitVec 32 := 3#32
  let v496 : BitVec 1 := Scalar.cmpi .sle v493 c3_i32_355
  let v497 : BitVec 1 := Scalar.andi v495 v496
  let v503 : BitVec 32 := Scalar.extui v497
  let c0_i32_360 : BitVec 32 := 0#32
  let v504 : BitVec 1 := Scalar.cmpi .ne v503 c0_i32_360
  v504

def k0_off302 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_1094 : BitVec 32 := 0#32
  ![v493.toNat, 0]
def k0_off303 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c0_i32_1100 : BitVec 32 := 0#32
  ![0, v1570.toNat, 0]
def k0_cond150 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1583 : BitVec 1 := Scalar.cmpi .sle v493 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off304 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_1110 : BitVec 32 := 0#32
  ![v493.toNat, 0]
def k0_off305 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c0_i32_1115 : BitVec 32 := 0#32
  ![0, v1570.toNat, 0]
def k0_dev113 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_358 : BitVec 32 := 1#32
  let v501 : BitVec 32 := Scalar.addi v5 c1_i32_358
  let c4_i32_1113 : BitVec 32 := 4#32
  let v1595 : BitVec 32 := Scalar.muli v501 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond151 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1588 : BitVec 1 := Scalar.cmpi .sge v493 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off306 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_1110 : BitVec 32 := 0#32
  ![v493.toNat, 0]
def k0_off307 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c0_i32_1115 : BitVec 32 := 0#32
  ![0, v1570.toNat, 0]
def k0_dev114 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_359 : BitVec 32 := 1#32
  let v502 : BitVec 32 := Scalar.subi v5 c1_i32_359
  let c4_i32_1113 : BitVec 32 := 4#32
  let v1595 : BitVec 32 := Scalar.muli v502 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond152 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_356 : BitVec 32 := 0#32
  let v498 : BitVec 1 := Scalar.cmpi .sge v494 c0_i32_356
  let c3_i32_357 : BitVec 32 := 3#32
  let v499 : BitVec 1 := Scalar.cmpi .sle v494 c3_i32_357
  let v500 : BitVec 1 := Scalar.andi v498 v499
  let v507 : BitVec 32 := Scalar.extui v500
  let c0_i32_363 : BitVec 32 := 0#32
  let v508 : BitVec 1 := Scalar.cmpi .ne v507 c0_i32_363
  v508

def k0_off308 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_1094 : BitVec 32 := 0#32
  ![v494.toNat, 0]
def k0_off309 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c0_i32_1100 : BitVec 32 := 0#32
  ![0, v1570.toNat, 0]
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1583 : BitVec 1 := Scalar.cmpi .sle v494 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off310 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_1110 : BitVec 32 := 0#32
  ![v494.toNat, 0]
def k0_off311 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c0_i32_1115 : BitVec 32 := 0#32
  ![0, v1570.toNat, 0]
def k0_dev115 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v505 : BitVec 32 := Scalar.addi v8 c1_i32_361
  let c1_i32_1114 : BitVec 32 := 1#32
  let v1597 : BitVec 32 := Scalar.muli v505 c1_i32_1114
  let v1598 : BitVec 32 := Scalar.addi v1596 v1597
  v1598.toNat
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1588 : BitVec 1 := Scalar.cmpi .sge v494 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off312 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_1110 : BitVec 32 := 0#32
  ![v494.toNat, 0]
def k0_off313 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c0_i32_1115 : BitVec 32 := 0#32
  ![0, v1570.toNat, 0]
def k0_dev116 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v506 : BitVec 32 := Scalar.subi v8 c1_i32_362
  let c1_i32_1114 : BitVec 32 := 1#32
  let v1597 : BitVec 32 := Scalar.muli v506 c1_i32_1114
  let v1598 : BitVec 32 := Scalar.addi v1596 v1597
  v1598.toNat
def k0_cond155 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_354 : BitVec 32 := 0#32
  let v495 : BitVec 1 := Scalar.cmpi .sge v493 c0_i32_354
  let c3_i32_355 : BitVec 32 := 3#32
  let v496 : BitVec 1 := Scalar.cmpi .sle v493 c3_i32_355
  let v497 : BitVec 1 := Scalar.andi v495 v496
  let v511 : BitVec 32 := Scalar.extui v497
  let c0_i32_366 : BitVec 32 := 0#32
  let v512 : BitVec 1 := Scalar.cmpi .ne v511 c0_i32_366
  v512

def k0_off314 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c1_i32_1094 : BitVec 32 := 1#32
  ![v493.toNat, 1]
def k0_off315 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c256_i32_1100 : BitVec 32 := 256#32
  ![0, v1570.toNat, 256]
def k0_cond156 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1583 : BitVec 1 := Scalar.cmpi .sle v493 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off316 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c1_i32_1110 : BitVec 32 := 1#32
  ![v493.toNat, 1]
def k0_off317 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c256_i32_1115 : BitVec 32 := 256#32
  ![0, v1570.toNat, 256]
def k0_dev117 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_364 : BitVec 32 := 1#32
  let v509 : BitVec 32 := Scalar.addi v5 c1_i32_364
  let c4_i32_1113 : BitVec 32 := 4#32
  let v1595 : BitVec 32 := Scalar.muli v509 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond157 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1588 : BitVec 1 := Scalar.cmpi .sge v493 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off318 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c1_i32_1110 : BitVec 32 := 1#32
  ![v493.toNat, 1]
def k0_off319 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c256_i32_1115 : BitVec 32 := 256#32
  ![0, v1570.toNat, 256]
def k0_dev118 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_365 : BitVec 32 := 1#32
  let v510 : BitVec 32 := Scalar.subi v5 c1_i32_365
  let c4_i32_1113 : BitVec 32 := 4#32
  let v1595 : BitVec 32 := Scalar.muli v510 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond158 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_356 : BitVec 32 := 0#32
  let v498 : BitVec 1 := Scalar.cmpi .sge v494 c0_i32_356
  let c3_i32_357 : BitVec 32 := 3#32
  let v499 : BitVec 1 := Scalar.cmpi .sle v494 c3_i32_357
  let v500 : BitVec 1 := Scalar.andi v498 v499
  let v515 : BitVec 32 := Scalar.extui v500
  let c0_i32_369 : BitVec 32 := 0#32
  let v516 : BitVec 1 := Scalar.cmpi .ne v515 c0_i32_369
  v516

def k0_off320 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c1_i32_1094 : BitVec 32 := 1#32
  ![v494.toNat, 1]
def k0_off321 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c256_i32_1100 : BitVec 32 := 256#32
  ![0, v1570.toNat, 256]
def k0_cond159 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1583 : BitVec 1 := Scalar.cmpi .sle v494 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off322 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c1_i32_1110 : BitVec 32 := 1#32
  ![v494.toNat, 1]
def k0_off323 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c256_i32_1115 : BitVec 32 := 256#32
  ![0, v1570.toNat, 256]
def k0_dev119 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_367 : BitVec 32 := 1#32
  let v513 : BitVec 32 := Scalar.addi v8 c1_i32_367
  let c1_i32_1114 : BitVec 32 := 1#32
  let v1597 : BitVec 32 := Scalar.muli v513 c1_i32_1114
  let v1598 : BitVec 32 := Scalar.addi v1596 v1597
  v1598.toNat
def k0_cond160 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1588 : BitVec 1 := Scalar.cmpi .sge v494 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off324 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c1_i32_1110 : BitVec 32 := 1#32
  ![v494.toNat, 1]
def k0_off325 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c256_i32_1115 : BitVec 32 := 256#32
  ![0, v1570.toNat, 256]
def k0_dev120 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v514 : BitVec 32 := Scalar.subi v8 c1_i32_368
  let c1_i32_1114 : BitVec 32 := 1#32
  let v1597 : BitVec 32 := Scalar.muli v514 c1_i32_1114
  let v1598 : BitVec 32 := Scalar.addi v1596 v1597
  v1598.toNat
def k0_cond161 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_354 : BitVec 32 := 0#32
  let v495 : BitVec 1 := Scalar.cmpi .sge v493 c0_i32_354
  let c3_i32_355 : BitVec 32 := 3#32
  let v496 : BitVec 1 := Scalar.cmpi .sle v493 c3_i32_355
  let v497 : BitVec 1 := Scalar.andi v495 v496
  let v519 : BitVec 32 := Scalar.extui v497
  let c0_i32_372 : BitVec 32 := 0#32
  let v520 : BitVec 1 := Scalar.cmpi .ne v519 c0_i32_372
  v520

def k0_off326 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c2_i32_1094 : BitVec 32 := 2#32
  ![v493.toNat, 2]
def k0_off327 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c512_i32_1100 : BitVec 32 := 512#32
  ![0, v1570.toNat, 512]
def k0_cond162 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1583 : BitVec 1 := Scalar.cmpi .sle v493 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off328 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c2_i32_1110 : BitVec 32 := 2#32
  ![v493.toNat, 2]
def k0_off329 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c512_i32_1115 : BitVec 32 := 512#32
  ![0, v1570.toNat, 512]
def k0_dev121 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_370 : BitVec 32 := 1#32
  let v517 : BitVec 32 := Scalar.addi v5 c1_i32_370
  let c4_i32_1113 : BitVec 32 := 4#32
  let v1595 : BitVec 32 := Scalar.muli v517 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond163 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1588 : BitVec 1 := Scalar.cmpi .sge v493 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off330 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c2_i32_1110 : BitVec 32 := 2#32
  ![v493.toNat, 2]
def k0_off331 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c512_i32_1115 : BitVec 32 := 512#32
  ![0, v1570.toNat, 512]
def k0_dev122 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_371 : BitVec 32 := 1#32
  let v518 : BitVec 32 := Scalar.subi v5 c1_i32_371
  let c4_i32_1113 : BitVec 32 := 4#32
  let v1595 : BitVec 32 := Scalar.muli v518 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond164 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_356 : BitVec 32 := 0#32
  let v498 : BitVec 1 := Scalar.cmpi .sge v494 c0_i32_356
  let c3_i32_357 : BitVec 32 := 3#32
  let v499 : BitVec 1 := Scalar.cmpi .sle v494 c3_i32_357
  let v500 : BitVec 1 := Scalar.andi v498 v499
  let v523 : BitVec 32 := Scalar.extui v500
  let c0_i32_375 : BitVec 32 := 0#32
  let v524 : BitVec 1 := Scalar.cmpi .ne v523 c0_i32_375
  v524

def k0_off332 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c2_i32_1094 : BitVec 32 := 2#32
  ![v494.toNat, 2]
def k0_off333 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c512_i32_1100 : BitVec 32 := 512#32
  ![0, v1570.toNat, 512]
def k0_cond165 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1583 : BitVec 1 := Scalar.cmpi .sle v494 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off334 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c2_i32_1110 : BitVec 32 := 2#32
  ![v494.toNat, 2]
def k0_off335 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c512_i32_1115 : BitVec 32 := 512#32
  ![0, v1570.toNat, 512]
def k0_dev123 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v521 : BitVec 32 := Scalar.addi v8 c1_i32_373
  let c1_i32_1114 : BitVec 32 := 1#32
  let v1597 : BitVec 32 := Scalar.muli v521 c1_i32_1114
  let v1598 : BitVec 32 := Scalar.addi v1596 v1597
  v1598.toNat
def k0_cond166 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1588 : BitVec 1 := Scalar.cmpi .sge v494 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off336 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c2_i32_1110 : BitVec 32 := 2#32
  ![v494.toNat, 2]
def k0_off337 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c512_i32_1115 : BitVec 32 := 512#32
  ![0, v1570.toNat, 512]
def k0_dev124 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v522 : BitVec 32 := Scalar.subi v8 c1_i32_374
  let c1_i32_1114 : BitVec 32 := 1#32
  let v1597 : BitVec 32 := Scalar.muli v522 c1_i32_1114
  let v1598 : BitVec 32 := Scalar.addi v1596 v1597
  v1598.toNat
def k0_cond167 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c0_i32_354 : BitVec 32 := 0#32
  let v495 : BitVec 1 := Scalar.cmpi .sge v493 c0_i32_354
  let c3_i32_355 : BitVec 32 := 3#32
  let v496 : BitVec 1 := Scalar.cmpi .sle v493 c3_i32_355
  let v497 : BitVec 1 := Scalar.andi v495 v496
  let v527 : BitVec 32 := Scalar.extui v497
  let c0_i32_378 : BitVec 32 := 0#32
  let v528 : BitVec 1 := Scalar.cmpi .ne v527 c0_i32_378
  v528

def k0_off338 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c3_i32_1094 : BitVec 32 := 3#32
  ![v493.toNat, 3]
def k0_off339 (d0 : Dev nD) : Fin 3 → Nat :=
  let c0_i32_1093 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c768_i32_1100 : BitVec 32 := 768#32
  ![0, v1570.toNat, 768]
def k0_cond168 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1583 : BitVec 1 := Scalar.cmpi .sle v493 v5
  let c3_i32_1103 : BitVec 32 := 3#32
  let v1584 : BitVec 1 := Scalar.cmpi .slt v5 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off340 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c3_i32_1110 : BitVec 32 := 3#32
  ![v493.toNat, 3]
def k0_off341 (d0 : Dev nD) : Fin 3 → Nat :=
  let c0_i32_1104 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c768_i32_1115 : BitVec 32 := 768#32
  ![0, v1570.toNat, 768]
def k0_dev125 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_376 : BitVec 32 := 1#32
  let v525 : BitVec 32 := Scalar.addi v5 c1_i32_376
  let c4_i32_1113 : BitVec 32 := 4#32
  let v1595 : BitVec 32 := Scalar.muli v525 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond169 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1588 : BitVec 1 := Scalar.cmpi .sge v493 v5
  let c0_i32_1106 : BitVec 32 := 0#32
  let v1589 : BitVec 1 := Scalar.cmpi .sgt v5 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off342 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let c3_i32_1110 : BitVec 32 := 3#32
  ![v493.toNat, 3]
def k0_off343 (d0 : Dev nD) : Fin 3 → Nat :=
  let c0_i32_1107 : BitVec 32 := 0#32
  let c256_i32_1091 : BitVec 32 := 256#32
  let c224_i32_1090 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v493 : BitVec 32 := Scalar.addi v5 c_m3_i32
  let v1569 : BitVec 32 := Scalar.muli c224_i32_1090 v493
  let v1570 : BitVec 32 := Scalar.addi c256_i32_1091 v1569
  let c768_i32_1115 : BitVec 32 := 768#32
  ![0, v1570.toNat, 768]
def k0_dev126 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_377 : BitVec 32 := 1#32
  let v526 : BitVec 32 := Scalar.subi v5 c1_i32_377
  let c4_i32_1113 : BitVec 32 := 4#32
  let v1595 : BitVec 32 := Scalar.muli v526 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1597 : BitVec 32 := Scalar.muli v8 c1_i32_1114
  let v1598 : BitVec 32 := Scalar.addi v1596 v1597
  v1598.toNat
def k0_cond170 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c0_i32_356 : BitVec 32 := 0#32
  let v498 : BitVec 1 := Scalar.cmpi .sge v494 c0_i32_356
  let c3_i32_357 : BitVec 32 := 3#32
  let v499 : BitVec 1 := Scalar.cmpi .sle v494 c3_i32_357
  let v500 : BitVec 1 := Scalar.andi v498 v499
  let v531 : BitVec 32 := Scalar.extui v500
  let c0_i32_381 : BitVec 32 := 0#32
  let v532 : BitVec 1 := Scalar.cmpi .ne v531 c0_i32_381
  v532

def k0_off344 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c3_i32_1094 : BitVec 32 := 3#32
  ![v494.toNat, 3]
def k0_off345 (d0 : Dev nD) : Fin 3 → Nat :=
  let c0_i32_1093 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c768_i32_1100 : BitVec 32 := 768#32
  ![0, v1570.toNat, 768]
def k0_cond171 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1583 : BitVec 1 := Scalar.cmpi .sle v494 v8
  let c3_i32_1103 : BitVec 32 := 3#32
  let v1584 : BitVec 1 := Scalar.cmpi .slt v8 c3_i32_1103
  let v1585 : BitVec 1 := Scalar.andi v1583 v1584
  let v1586 : BitVec 32 := Scalar.extui v1585
  let c0_i32_1105 : BitVec 32 := 0#32
  let v1587 : BitVec 1 := Scalar.cmpi .ne v1586 c0_i32_1105
  v1587

def k0_off346 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c3_i32_1110 : BitVec 32 := 3#32
  ![v494.toNat, 3]
def k0_off347 (d0 : Dev nD) : Fin 3 → Nat :=
  let c0_i32_1104 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c768_i32_1115 : BitVec 32 := 768#32
  ![0, v1570.toNat, 768]
def k0_dev127 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v529 : BitVec 32 := Scalar.addi v8 c1_i32_379
  let c1_i32_1114 : BitVec 32 := 1#32
  let v1597 : BitVec 32 := Scalar.muli v529 c1_i32_1114
  let v1598 : BitVec 32 := Scalar.addi v1596 v1597
  v1598.toNat
def k0_cond172 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1588 : BitVec 1 := Scalar.cmpi .sge v494 v8
  let c0_i32_1106 : BitVec 32 := 0#32
  let v1589 : BitVec 1 := Scalar.cmpi .sgt v8 c0_i32_1106
  let v1590 : BitVec 1 := Scalar.andi v1588 v1589
  let v1591 : BitVec 32 := Scalar.extui v1590
  let c0_i32_1108 : BitVec 32 := 0#32
  let v1592 : BitVec 1 := Scalar.cmpi .ne v1591 c0_i32_1108
  v1592

def k0_off348 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let c3_i32_1110 : BitVec 32 := 3#32
  ![v494.toNat, 3]
def k0_off349 (d0 : Dev nD) : Fin 3 → Nat :=
  let c0_i32_1107 : BitVec 32 := 0#32
  let c1152_i32_1091 : BitVec 32 := 1152#32
  let c224_i32_1090 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_353 : BitVec 32 := 4294967293#32
  let v494 : BitVec 32 := Scalar.addi v8 c_m3_i32_353
  let v1569 : BitVec 32 := Scalar.muli c224_i32_1090 v494
  let v1570 : BitVec 32 := Scalar.addi c1152_i32_1091 v1569
  let c768_i32_1115 : BitVec 32 := 768#32
  ![0, v1570.toNat, 768]
def k0_dev128 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1111 : BitVec 32 := 16#32
  let v1593 : BitVec 32 := Scalar.muli v2 c16_i32_1111
  let v1594 : BitVec 32 := Scalar.addi c0_i32_1112 v1593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1595 : BitVec 32 := Scalar.muli v5 c4_i32_1113
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v530 : BitVec 32 := Scalar.subi v8 c1_i32_380
  let c1_i32_1114 : BitVec 32 := 1#32
  let v1597 : BitVec 32 := Scalar.muli v530 c1_i32_1114
  let v1598 : BitVec 32 := Scalar.addi v1596 v1597
  v1598.toNat
def k0_cond173 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v629 : BitVec 1 := Scalar.cmpi .sle v617 v5
  let v630 : BitVec 1 := Scalar.andi v621 v629
  let c3_i32_498 : BitVec 32 := 3#32
  let v631 : BitVec 1 := Scalar.cmpi .slt v5 c3_i32_498
  let v632 : BitVec 1 := Scalar.andi v630 v631
  let v633 : BitVec 32 := Scalar.extui v632
  let c0_i32_500 : BitVec 32 := 0#32
  let v634 : BitVec 1 := Scalar.cmpi .ne v633 c0_i32_500
  v634

def k0_off350 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_1090 : BitVec 32 := 0#32
  ![v617.toNat, 0]
def k0_off351 (d0 : Dev nD) : Fin 3 → Nat :=
  let c0_i32_499 : BitVec 32 := 0#32
  let c256_i32_497 : BitVec 32 := 256#32
  let c224_i32_496 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v627 : BitVec 32 := Scalar.muli c224_i32_496 v617
  let v628 : BitVec 32 := Scalar.addi c256_i32_497 v627
  let c0_i32_1093 : BitVec 32 := 0#32
  ![0, v628.toNat, 0]
def k0_cond174 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v635 : BitVec 1 := Scalar.cmpi .sge v617 v5
  let v636 : BitVec 1 := Scalar.andi v621 v635
  let c0_i32_501 : BitVec 32 := 0#32
  let v637 : BitVec 1 := Scalar.cmpi .sgt v5 c0_i32_501
  let v638 : BitVec 1 := Scalar.andi v636 v637
  let v639 : BitVec 32 := Scalar.extui v638
  let c0_i32_503 : BitVec 32 := 0#32
  let v640 : BitVec 1 := Scalar.cmpi .ne v639 c0_i32_503
  v640

def k0_off352 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_1090 : BitVec 32 := 0#32
  ![v617.toNat, 0]
def k0_off353 (d0 : Dev nD) : Fin 3 → Nat :=
  let c0_i32_502 : BitVec 32 := 0#32
  let c256_i32_497 : BitVec 32 := 256#32
  let c224_i32_496 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v627 : BitVec 32 := Scalar.muli c224_i32_496 v617
  let v628 : BitVec 32 := Scalar.addi c256_i32_497 v627
  let c0_i32_1093 : BitVec 32 := 0#32
  ![0, v628.toNat, 0]
def k0_cond175 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v645 : BitVec 1 := Scalar.cmpi .sle v618 v8
  let v646 : BitVec 1 := Scalar.andi v624 v645
  let c3_i32_508 : BitVec 32 := 3#32
  let v647 : BitVec 1 := Scalar.cmpi .slt v8 c3_i32_508
  let v648 : BitVec 1 := Scalar.andi v646 v647
  let v649 : BitVec 32 := Scalar.extui v648
  let c0_i32_510 : BitVec 32 := 0#32
  let v650 : BitVec 1 := Scalar.cmpi .ne v649 c0_i32_510
  v650

def k0_off354 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_1090 : BitVec 32 := 0#32
  ![v618.toNat, 0]
def k0_off355 (d0 : Dev nD) : Fin 3 → Nat :=
  let c0_i32_509 : BitVec 32 := 0#32
  let c1152_i32_507 : BitVec 32 := 1152#32
  let c224_i32_506 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v643 : BitVec 32 := Scalar.muli c224_i32_506 v618
  let v644 : BitVec 32 := Scalar.addi c1152_i32_507 v643
  let c0_i32_1093 : BitVec 32 := 0#32
  ![0, v644.toNat, 0]
def k0_cond176 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v651 : BitVec 1 := Scalar.cmpi .sge v618 v8
  let v652 : BitVec 1 := Scalar.andi v624 v651
  let c0_i32_511 : BitVec 32 := 0#32
  let v653 : BitVec 1 := Scalar.cmpi .sgt v8 c0_i32_511
  let v654 : BitVec 1 := Scalar.andi v652 v653
  let v655 : BitVec 32 := Scalar.extui v654
  let c0_i32_513 : BitVec 32 := 0#32
  let v656 : BitVec 1 := Scalar.cmpi .ne v655 c0_i32_513
  v656

def k0_off356 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_1090 : BitVec 32 := 0#32
  ![v618.toNat, 0]
def k0_off357 (d0 : Dev nD) : Fin 3 → Nat :=
  let c0_i32_512 : BitVec 32 := 0#32
  let c1152_i32_507 : BitVec 32 := 1152#32
  let c224_i32_506 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v643 : BitVec 32 := Scalar.muli c224_i32_506 v618
  let v644 : BitVec 32 := Scalar.addi c1152_i32_507 v643
  let c0_i32_1093 : BitVec 32 := 0#32
  ![0, v644.toNat, 0]
def k0_cond177 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v661 : BitVec 1 := Scalar.cmpi .sle v617 v5
  let v662 : BitVec 1 := Scalar.andi v621 v661
  let c3_i32_518 : BitVec 32 := 3#32
  let v663 : BitVec 1 := Scalar.cmpi .slt v5 c3_i32_518
  let v664 : BitVec 1 := Scalar.andi v662 v663
  let v665 : BitVec 32 := Scalar.extui v664
  let c0_i32_520 : BitVec 32 := 0#32
  let v666 : BitVec 1 := Scalar.cmpi .ne v665 c0_i32_520
  v666

def k0_off358 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c1_i32_1090 : BitVec 32 := 1#32
  ![v617.toNat, 1]
def k0_off359 (d0 : Dev nD) : Fin 3 → Nat :=
  let c0_i32_519 : BitVec 32 := 0#32
  let c256_i32_517 : BitVec 32 := 256#32
  let c224_i32_516 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v659 : BitVec 32 := Scalar.muli c224_i32_516 v617
  let v660 : BitVec 32 := Scalar.addi c256_i32_517 v659
  let c256_i32_1093 : BitVec 32 := 256#32
  ![0, v660.toNat, 256]
def k0_cond178 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v667 : BitVec 1 := Scalar.cmpi .sge v617 v5
  let v668 : BitVec 1 := Scalar.andi v621 v667
  let c0_i32_521 : BitVec 32 := 0#32
  let v669 : BitVec 1 := Scalar.cmpi .sgt v5 c0_i32_521
  let v670 : BitVec 1 := Scalar.andi v668 v669
  let v671 : BitVec 32 := Scalar.extui v670
  let c0_i32_523 : BitVec 32 := 0#32
  let v672 : BitVec 1 := Scalar.cmpi .ne v671 c0_i32_523
  v672

def k0_off360 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c1_i32_1090 : BitVec 32 := 1#32
  ![v617.toNat, 1]
def k0_off361 (d0 : Dev nD) : Fin 3 → Nat :=
  let c0_i32_522 : BitVec 32 := 0#32
  let c256_i32_517 : BitVec 32 := 256#32
  let c224_i32_516 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v659 : BitVec 32 := Scalar.muli c224_i32_516 v617
  let v660 : BitVec 32 := Scalar.addi c256_i32_517 v659
  let c256_i32_1093 : BitVec 32 := 256#32
  ![0, v660.toNat, 256]
def k0_cond179 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v677 : BitVec 1 := Scalar.cmpi .sle v618 v8
  let v678 : BitVec 1 := Scalar.andi v624 v677
  let c3_i32_528 : BitVec 32 := 3#32
  let v679 : BitVec 1 := Scalar.cmpi .slt v8 c3_i32_528
  let v680 : BitVec 1 := Scalar.andi v678 v679
  let v681 : BitVec 32 := Scalar.extui v680
  let c0_i32_530 : BitVec 32 := 0#32
  let v682 : BitVec 1 := Scalar.cmpi .ne v681 c0_i32_530
  v682

def k0_off362 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c1_i32_1090 : BitVec 32 := 1#32
  ![v618.toNat, 1]
def k0_off363 (d0 : Dev nD) : Fin 3 → Nat :=
  let c0_i32_529 : BitVec 32 := 0#32
  let c1152_i32_527 : BitVec 32 := 1152#32
  let c224_i32_526 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v675 : BitVec 32 := Scalar.muli c224_i32_526 v618
  let v676 : BitVec 32 := Scalar.addi c1152_i32_527 v675
  let c256_i32_1093 : BitVec 32 := 256#32
  ![0, v676.toNat, 256]
def k0_cond180 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v683 : BitVec 1 := Scalar.cmpi .sge v618 v8
  let v684 : BitVec 1 := Scalar.andi v624 v683
  let c0_i32_531 : BitVec 32 := 0#32
  let v685 : BitVec 1 := Scalar.cmpi .sgt v8 c0_i32_531
  let v686 : BitVec 1 := Scalar.andi v684 v685
  let v687 : BitVec 32 := Scalar.extui v686
  let c0_i32_533 : BitVec 32 := 0#32
  let v688 : BitVec 1 := Scalar.cmpi .ne v687 c0_i32_533
  v688

def k0_off364 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c1_i32_1090 : BitVec 32 := 1#32
  ![v618.toNat, 1]
def k0_off365 (d0 : Dev nD) : Fin 3 → Nat :=
  let c0_i32_532 : BitVec 32 := 0#32
  let c1152_i32_527 : BitVec 32 := 1152#32
  let c224_i32_526 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v675 : BitVec 32 := Scalar.muli c224_i32_526 v618
  let v676 : BitVec 32 := Scalar.addi c1152_i32_527 v675
  let c256_i32_1093 : BitVec 32 := 256#32
  ![0, v676.toNat, 256]
def k0_cond181 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v693 : BitVec 1 := Scalar.cmpi .sle v617 v5
  let v694 : BitVec 1 := Scalar.andi v621 v693
  let c3_i32_538 : BitVec 32 := 3#32
  let v695 : BitVec 1 := Scalar.cmpi .slt v5 c3_i32_538
  let v696 : BitVec 1 := Scalar.andi v694 v695
  let v697 : BitVec 32 := Scalar.extui v696
  let c0_i32_540 : BitVec 32 := 0#32
  let v698 : BitVec 1 := Scalar.cmpi .ne v697 c0_i32_540
  v698

def k0_off366 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c2_i32_1090 : BitVec 32 := 2#32
  ![v617.toNat, 2]
def k0_off367 (d0 : Dev nD) : Fin 3 → Nat :=
  let c0_i32_539 : BitVec 32 := 0#32
  let c256_i32_537 : BitVec 32 := 256#32
  let c224_i32_536 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v691 : BitVec 32 := Scalar.muli c224_i32_536 v617
  let v692 : BitVec 32 := Scalar.addi c256_i32_537 v691
  let c512_i32_1093 : BitVec 32 := 512#32
  ![0, v692.toNat, 512]
def k0_cond182 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v699 : BitVec 1 := Scalar.cmpi .sge v617 v5
  let v700 : BitVec 1 := Scalar.andi v621 v699
  let c0_i32_541 : BitVec 32 := 0#32
  let v701 : BitVec 1 := Scalar.cmpi .sgt v5 c0_i32_541
  let v702 : BitVec 1 := Scalar.andi v700 v701
  let v703 : BitVec 32 := Scalar.extui v702
  let c0_i32_543 : BitVec 32 := 0#32
  let v704 : BitVec 1 := Scalar.cmpi .ne v703 c0_i32_543
  v704

def k0_off368 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c2_i32_1090 : BitVec 32 := 2#32
  ![v617.toNat, 2]
def k0_off369 (d0 : Dev nD) : Fin 3 → Nat :=
  let c0_i32_542 : BitVec 32 := 0#32
  let c256_i32_537 : BitVec 32 := 256#32
  let c224_i32_536 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v691 : BitVec 32 := Scalar.muli c224_i32_536 v617
  let v692 : BitVec 32 := Scalar.addi c256_i32_537 v691
  let c512_i32_1093 : BitVec 32 := 512#32
  ![0, v692.toNat, 512]
def k0_cond183 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v709 : BitVec 1 := Scalar.cmpi .sle v618 v8
  let v710 : BitVec 1 := Scalar.andi v624 v709
  let c3_i32_548 : BitVec 32 := 3#32
  let v711 : BitVec 1 := Scalar.cmpi .slt v8 c3_i32_548
  let v712 : BitVec 1 := Scalar.andi v710 v711
  let v713 : BitVec 32 := Scalar.extui v712
  let c0_i32_550 : BitVec 32 := 0#32
  let v714 : BitVec 1 := Scalar.cmpi .ne v713 c0_i32_550
  v714

def k0_off370 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c2_i32_1090 : BitVec 32 := 2#32
  ![v618.toNat, 2]
def k0_off371 (d0 : Dev nD) : Fin 3 → Nat :=
  let c0_i32_549 : BitVec 32 := 0#32
  let c1152_i32_547 : BitVec 32 := 1152#32
  let c224_i32_546 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v707 : BitVec 32 := Scalar.muli c224_i32_546 v618
  let v708 : BitVec 32 := Scalar.addi c1152_i32_547 v707
  let c512_i32_1093 : BitVec 32 := 512#32
  ![0, v708.toNat, 512]
def k0_cond184 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v715 : BitVec 1 := Scalar.cmpi .sge v618 v8
  let v716 : BitVec 1 := Scalar.andi v624 v715
  let c0_i32_551 : BitVec 32 := 0#32
  let v717 : BitVec 1 := Scalar.cmpi .sgt v8 c0_i32_551
  let v718 : BitVec 1 := Scalar.andi v716 v717
  let v719 : BitVec 32 := Scalar.extui v718
  let c0_i32_553 : BitVec 32 := 0#32
  let v720 : BitVec 1 := Scalar.cmpi .ne v719 c0_i32_553
  v720

def k0_off372 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c2_i32_1090 : BitVec 32 := 2#32
  ![v618.toNat, 2]
def k0_off373 (d0 : Dev nD) : Fin 3 → Nat :=
  let c0_i32_552 : BitVec 32 := 0#32
  let c1152_i32_547 : BitVec 32 := 1152#32
  let c224_i32_546 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v707 : BitVec 32 := Scalar.muli c224_i32_546 v618
  let v708 : BitVec 32 := Scalar.addi c1152_i32_547 v707
  let c512_i32_1093 : BitVec 32 := 512#32
  ![0, v708.toNat, 512]
def k0_cond185 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v725 : BitVec 1 := Scalar.cmpi .sle v617 v5
  let v726 : BitVec 1 := Scalar.andi v621 v725
  let c3_i32_558 : BitVec 32 := 3#32
  let v727 : BitVec 1 := Scalar.cmpi .slt v5 c3_i32_558
  let v728 : BitVec 1 := Scalar.andi v726 v727
  let v729 : BitVec 32 := Scalar.extui v728
  let c0_i32_560 : BitVec 32 := 0#32
  let v730 : BitVec 1 := Scalar.cmpi .ne v729 c0_i32_560
  v730

def k0_off374 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c3_i32_1090 : BitVec 32 := 3#32
  ![v617.toNat, 3]
def k0_off375 (d0 : Dev nD) : Fin 3 → Nat :=
  let c0_i32_559 : BitVec 32 := 0#32
  let c256_i32_557 : BitVec 32 := 256#32
  let c224_i32_556 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v723 : BitVec 32 := Scalar.muli c224_i32_556 v617
  let v724 : BitVec 32 := Scalar.addi c256_i32_557 v723
  let c768_i32_1093 : BitVec 32 := 768#32
  ![0, v724.toNat, 768]
def k0_cond186 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c0_i32_490 : BitVec 32 := 0#32
  let v619 : BitVec 1 := Scalar.cmpi .sge v617 c0_i32_490
  let c3_i32_491 : BitVec 32 := 3#32
  let v620 : BitVec 1 := Scalar.cmpi .sle v617 c3_i32_491
  let v621 : BitVec 1 := Scalar.andi v619 v620
  let v731 : BitVec 1 := Scalar.cmpi .sge v617 v5
  let v732 : BitVec 1 := Scalar.andi v621 v731
  let c0_i32_561 : BitVec 32 := 0#32
  let v733 : BitVec 1 := Scalar.cmpi .sgt v5 c0_i32_561
  let v734 : BitVec 1 := Scalar.andi v732 v733
  let v735 : BitVec 32 := Scalar.extui v734
  let c0_i32_563 : BitVec 32 := 0#32
  let v736 : BitVec 1 := Scalar.cmpi .ne v735 c0_i32_563
  v736

def k0_off376 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let c3_i32_1090 : BitVec 32 := 3#32
  ![v617.toNat, 3]
def k0_off377 (d0 : Dev nD) : Fin 3 → Nat :=
  let c0_i32_562 : BitVec 32 := 0#32
  let c256_i32_557 : BitVec 32 := 256#32
  let c224_i32_556 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_488 : BitVec 32 := 0#32
  let v617 : BitVec 32 := Scalar.addi v5 c0_i32_488
  let v723 : BitVec 32 := Scalar.muli c224_i32_556 v617
  let v724 : BitVec 32 := Scalar.addi c256_i32_557 v723
  let c768_i32_1093 : BitVec 32 := 768#32
  ![0, v724.toNat, 768]
def k0_cond187 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v741 : BitVec 1 := Scalar.cmpi .sle v618 v8
  let v742 : BitVec 1 := Scalar.andi v624 v741
  let c3_i32_568 : BitVec 32 := 3#32
  let v743 : BitVec 1 := Scalar.cmpi .slt v8 c3_i32_568
  let v744 : BitVec 1 := Scalar.andi v742 v743
  let v745 : BitVec 32 := Scalar.extui v744
  let c0_i32_570 : BitVec 32 := 0#32
  let v746 : BitVec 1 := Scalar.cmpi .ne v745 c0_i32_570
  v746

def k0_off378 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c3_i32_1090 : BitVec 32 := 3#32
  ![v618.toNat, 3]
def k0_off379 (d0 : Dev nD) : Fin 3 → Nat :=
  let c0_i32_569 : BitVec 32 := 0#32
  let c1152_i32_567 : BitVec 32 := 1152#32
  let c224_i32_566 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v739 : BitVec 32 := Scalar.muli c224_i32_566 v618
  let v740 : BitVec 32 := Scalar.addi c1152_i32_567 v739
  let c768_i32_1093 : BitVec 32 := 768#32
  ![0, v740.toNat, 768]
def k0_cond188 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c0_i32_492 : BitVec 32 := 0#32
  let v622 : BitVec 1 := Scalar.cmpi .sge v618 c0_i32_492
  let c3_i32_493 : BitVec 32 := 3#32
  let v623 : BitVec 1 := Scalar.cmpi .sle v618 c3_i32_493
  let v624 : BitVec 1 := Scalar.andi v622 v623
  let v747 : BitVec 1 := Scalar.cmpi .sge v618 v8
  let v748 : BitVec 1 := Scalar.andi v624 v747
  let c0_i32_571 : BitVec 32 := 0#32
  let v749 : BitVec 1 := Scalar.cmpi .sgt v8 c0_i32_571
  let v750 : BitVec 1 := Scalar.andi v748 v749
  let v751 : BitVec 32 := Scalar.extui v750
  let c0_i32_573 : BitVec 32 := 0#32
  let v752 : BitVec 1 := Scalar.cmpi .ne v751 c0_i32_573
  v752

def k0_off380 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let c3_i32_1090 : BitVec 32 := 3#32
  ![v618.toNat, 3]
def k0_off381 (d0 : Dev nD) : Fin 3 → Nat :=
  let c0_i32_572 : BitVec 32 := 0#32
  let c1152_i32_567 : BitVec 32 := 1152#32
  let c224_i32_566 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_489 : BitVec 32 := 0#32
  let v618 : BitVec 32 := Scalar.addi v8 c0_i32_489
  let v739 : BitVec 32 := Scalar.muli c224_i32_566 v618
  let v740 : BitVec 32 := Scalar.addi c1152_i32_567 v739
  let c768_i32_1093 : BitVec 32 := 768#32
  ![0, v740.toNat, 768]
def k0_cond189 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v765 : BitVec 1 := Scalar.cmpi .sle v753 v5
  let v766 : BitVec 1 := Scalar.andi v757 v765
  let c3_i32_584 : BitVec 32 := 3#32
  let v767 : BitVec 1 := Scalar.cmpi .slt v5 c3_i32_584
  let v768 : BitVec 1 := Scalar.andi v766 v767
  let v769 : BitVec 32 := Scalar.extui v768
  let c0_i32_586 : BitVec 32 := 0#32
  let v770 : BitVec 1 := Scalar.cmpi .ne v769 c0_i32_586
  v770

def k0_off382 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_1090 : BitVec 32 := 0#32
  ![v753.toNat, 0]
def k0_off383 (d0 : Dev nD) : Fin 3 → Nat :=
  let c0_i32_585 : BitVec 32 := 0#32
  let c256_i32_583 : BitVec 32 := 256#32
  let c224_i32_582 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v763 : BitVec 32 := Scalar.muli c224_i32_582 v753
  let v764 : BitVec 32 := Scalar.addi c256_i32_583 v763
  let c0_i32_1093 : BitVec 32 := 0#32
  ![0, v764.toNat, 0]
def k0_cond190 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v771 : BitVec 1 := Scalar.cmpi .sge v753 v5
  let v772 : BitVec 1 := Scalar.andi v757 v771
  let c0_i32_587 : BitVec 32 := 0#32
  let v773 : BitVec 1 := Scalar.cmpi .sgt v5 c0_i32_587
  let v774 : BitVec 1 := Scalar.andi v772 v773
  let v775 : BitVec 32 := Scalar.extui v774
  let c0_i32_589 : BitVec 32 := 0#32
  let v776 : BitVec 1 := Scalar.cmpi .ne v775 c0_i32_589
  v776

def k0_off384 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_1090 : BitVec 32 := 0#32
  ![v753.toNat, 0]
def k0_off385 (d0 : Dev nD) : Fin 3 → Nat :=
  let c0_i32_588 : BitVec 32 := 0#32
  let c256_i32_583 : BitVec 32 := 256#32
  let c224_i32_582 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v763 : BitVec 32 := Scalar.muli c224_i32_582 v753
  let v764 : BitVec 32 := Scalar.addi c256_i32_583 v763
  let c0_i32_1093 : BitVec 32 := 0#32
  ![0, v764.toNat, 0]
def k0_cond191 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v781 : BitVec 1 := Scalar.cmpi .sle v754 v8
  let v782 : BitVec 1 := Scalar.andi v760 v781
  let c3_i32_594 : BitVec 32 := 3#32
  let v783 : BitVec 1 := Scalar.cmpi .slt v8 c3_i32_594
  let v784 : BitVec 1 := Scalar.andi v782 v783
  let v785 : BitVec 32 := Scalar.extui v784
  let c0_i32_596 : BitVec 32 := 0#32
  let v786 : BitVec 1 := Scalar.cmpi .ne v785 c0_i32_596
  v786

def k0_off386 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_1090 : BitVec 32 := 0#32
  ![v754.toNat, 0]
def k0_off387 (d0 : Dev nD) : Fin 3 → Nat :=
  let c0_i32_595 : BitVec 32 := 0#32
  let c1152_i32_593 : BitVec 32 := 1152#32
  let c224_i32_592 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v779 : BitVec 32 := Scalar.muli c224_i32_592 v754
  let v780 : BitVec 32 := Scalar.addi c1152_i32_593 v779
  let c0_i32_1093 : BitVec 32 := 0#32
  ![0, v780.toNat, 0]
def k0_cond192 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v787 : BitVec 1 := Scalar.cmpi .sge v754 v8
  let v788 : BitVec 1 := Scalar.andi v760 v787
  let c0_i32_597 : BitVec 32 := 0#32
  let v789 : BitVec 1 := Scalar.cmpi .sgt v8 c0_i32_597
  let v790 : BitVec 1 := Scalar.andi v788 v789
  let v791 : BitVec 32 := Scalar.extui v790
  let c0_i32_599 : BitVec 32 := 0#32
  let v792 : BitVec 1 := Scalar.cmpi .ne v791 c0_i32_599
  v792

def k0_off388 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_1090 : BitVec 32 := 0#32
  ![v754.toNat, 0]
def k0_off389 (d0 : Dev nD) : Fin 3 → Nat :=
  let c0_i32_598 : BitVec 32 := 0#32
  let c1152_i32_593 : BitVec 32 := 1152#32
  let c224_i32_592 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v779 : BitVec 32 := Scalar.muli c224_i32_592 v754
  let v780 : BitVec 32 := Scalar.addi c1152_i32_593 v779
  let c0_i32_1093 : BitVec 32 := 0#32
  ![0, v780.toNat, 0]
def k0_cond193 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v797 : BitVec 1 := Scalar.cmpi .sle v753 v5
  let v798 : BitVec 1 := Scalar.andi v757 v797
  let c3_i32_604 : BitVec 32 := 3#32
  let v799 : BitVec 1 := Scalar.cmpi .slt v5 c3_i32_604
  let v800 : BitVec 1 := Scalar.andi v798 v799
  let v801 : BitVec 32 := Scalar.extui v800
  let c0_i32_606 : BitVec 32 := 0#32
  let v802 : BitVec 1 := Scalar.cmpi .ne v801 c0_i32_606
  v802

def k0_off390 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c1_i32_1090 : BitVec 32 := 1#32
  ![v753.toNat, 1]
def k0_off391 (d0 : Dev nD) : Fin 3 → Nat :=
  let c0_i32_605 : BitVec 32 := 0#32
  let c256_i32_603 : BitVec 32 := 256#32
  let c224_i32_602 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v795 : BitVec 32 := Scalar.muli c224_i32_602 v753
  let v796 : BitVec 32 := Scalar.addi c256_i32_603 v795
  let c256_i32_1093 : BitVec 32 := 256#32
  ![0, v796.toNat, 256]
def k0_cond194 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v803 : BitVec 1 := Scalar.cmpi .sge v753 v5
  let v804 : BitVec 1 := Scalar.andi v757 v803
  let c0_i32_607 : BitVec 32 := 0#32
  let v805 : BitVec 1 := Scalar.cmpi .sgt v5 c0_i32_607
  let v806 : BitVec 1 := Scalar.andi v804 v805
  let v807 : BitVec 32 := Scalar.extui v806
  let c0_i32_609 : BitVec 32 := 0#32
  let v808 : BitVec 1 := Scalar.cmpi .ne v807 c0_i32_609
  v808

def k0_off392 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c1_i32_1090 : BitVec 32 := 1#32
  ![v753.toNat, 1]
def k0_off393 (d0 : Dev nD) : Fin 3 → Nat :=
  let c0_i32_608 : BitVec 32 := 0#32
  let c256_i32_603 : BitVec 32 := 256#32
  let c224_i32_602 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v795 : BitVec 32 := Scalar.muli c224_i32_602 v753
  let v796 : BitVec 32 := Scalar.addi c256_i32_603 v795
  let c256_i32_1093 : BitVec 32 := 256#32
  ![0, v796.toNat, 256]
def k0_cond195 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v813 : BitVec 1 := Scalar.cmpi .sle v754 v8
  let v814 : BitVec 1 := Scalar.andi v760 v813
  let c3_i32_614 : BitVec 32 := 3#32
  let v815 : BitVec 1 := Scalar.cmpi .slt v8 c3_i32_614
  let v816 : BitVec 1 := Scalar.andi v814 v815
  let v817 : BitVec 32 := Scalar.extui v816
  let c0_i32_616 : BitVec 32 := 0#32
  let v818 : BitVec 1 := Scalar.cmpi .ne v817 c0_i32_616
  v818

def k0_off394 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c1_i32_1090 : BitVec 32 := 1#32
  ![v754.toNat, 1]
def k0_off395 (d0 : Dev nD) : Fin 3 → Nat :=
  let c0_i32_615 : BitVec 32 := 0#32
  let c1152_i32_613 : BitVec 32 := 1152#32
  let c224_i32_612 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v811 : BitVec 32 := Scalar.muli c224_i32_612 v754
  let v812 : BitVec 32 := Scalar.addi c1152_i32_613 v811
  let c256_i32_1093 : BitVec 32 := 256#32
  ![0, v812.toNat, 256]
def k0_cond196 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v819 : BitVec 1 := Scalar.cmpi .sge v754 v8
  let v820 : BitVec 1 := Scalar.andi v760 v819
  let c0_i32_617 : BitVec 32 := 0#32
  let v821 : BitVec 1 := Scalar.cmpi .sgt v8 c0_i32_617
  let v822 : BitVec 1 := Scalar.andi v820 v821
  let v823 : BitVec 32 := Scalar.extui v822
  let c0_i32_619 : BitVec 32 := 0#32
  let v824 : BitVec 1 := Scalar.cmpi .ne v823 c0_i32_619
  v824

def k0_off396 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c1_i32_1090 : BitVec 32 := 1#32
  ![v754.toNat, 1]
def k0_off397 (d0 : Dev nD) : Fin 3 → Nat :=
  let c0_i32_618 : BitVec 32 := 0#32
  let c1152_i32_613 : BitVec 32 := 1152#32
  let c224_i32_612 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v811 : BitVec 32 := Scalar.muli c224_i32_612 v754
  let v812 : BitVec 32 := Scalar.addi c1152_i32_613 v811
  let c256_i32_1093 : BitVec 32 := 256#32
  ![0, v812.toNat, 256]
def k0_cond197 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v829 : BitVec 1 := Scalar.cmpi .sle v753 v5
  let v830 : BitVec 1 := Scalar.andi v757 v829
  let c3_i32_624 : BitVec 32 := 3#32
  let v831 : BitVec 1 := Scalar.cmpi .slt v5 c3_i32_624
  let v832 : BitVec 1 := Scalar.andi v830 v831
  let v833 : BitVec 32 := Scalar.extui v832
  let c0_i32_626 : BitVec 32 := 0#32
  let v834 : BitVec 1 := Scalar.cmpi .ne v833 c0_i32_626
  v834

def k0_off398 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c2_i32_1090 : BitVec 32 := 2#32
  ![v753.toNat, 2]
def k0_off399 (d0 : Dev nD) : Fin 3 → Nat :=
  let c0_i32_625 : BitVec 32 := 0#32
  let c256_i32_623 : BitVec 32 := 256#32
  let c224_i32_622 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v827 : BitVec 32 := Scalar.muli c224_i32_622 v753
  let v828 : BitVec 32 := Scalar.addi c256_i32_623 v827
  let c512_i32_1093 : BitVec 32 := 512#32
  ![0, v828.toNat, 512]
def k0_cond198 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v835 : BitVec 1 := Scalar.cmpi .sge v753 v5
  let v836 : BitVec 1 := Scalar.andi v757 v835
  let c0_i32_627 : BitVec 32 := 0#32
  let v837 : BitVec 1 := Scalar.cmpi .sgt v5 c0_i32_627
  let v838 : BitVec 1 := Scalar.andi v836 v837
  let v839 : BitVec 32 := Scalar.extui v838
  let c0_i32_629 : BitVec 32 := 0#32
  let v840 : BitVec 1 := Scalar.cmpi .ne v839 c0_i32_629
  v840

def k0_off400 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c2_i32_1090 : BitVec 32 := 2#32
  ![v753.toNat, 2]
def k0_off401 (d0 : Dev nD) : Fin 3 → Nat :=
  let c0_i32_628 : BitVec 32 := 0#32
  let c256_i32_623 : BitVec 32 := 256#32
  let c224_i32_622 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v827 : BitVec 32 := Scalar.muli c224_i32_622 v753
  let v828 : BitVec 32 := Scalar.addi c256_i32_623 v827
  let c512_i32_1093 : BitVec 32 := 512#32
  ![0, v828.toNat, 512]
def k0_cond199 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v845 : BitVec 1 := Scalar.cmpi .sle v754 v8
  let v846 : BitVec 1 := Scalar.andi v760 v845
  let c3_i32_634 : BitVec 32 := 3#32
  let v847 : BitVec 1 := Scalar.cmpi .slt v8 c3_i32_634
  let v848 : BitVec 1 := Scalar.andi v846 v847
  let v849 : BitVec 32 := Scalar.extui v848
  let c0_i32_636 : BitVec 32 := 0#32
  let v850 : BitVec 1 := Scalar.cmpi .ne v849 c0_i32_636
  v850

def k0_off402 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c2_i32_1090 : BitVec 32 := 2#32
  ![v754.toNat, 2]
def k0_off403 (d0 : Dev nD) : Fin 3 → Nat :=
  let c0_i32_635 : BitVec 32 := 0#32
  let c1152_i32_633 : BitVec 32 := 1152#32
  let c224_i32_632 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v843 : BitVec 32 := Scalar.muli c224_i32_632 v754
  let v844 : BitVec 32 := Scalar.addi c1152_i32_633 v843
  let c512_i32_1093 : BitVec 32 := 512#32
  ![0, v844.toNat, 512]
def k0_cond200 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v851 : BitVec 1 := Scalar.cmpi .sge v754 v8
  let v852 : BitVec 1 := Scalar.andi v760 v851
  let c0_i32_637 : BitVec 32 := 0#32
  let v853 : BitVec 1 := Scalar.cmpi .sgt v8 c0_i32_637
  let v854 : BitVec 1 := Scalar.andi v852 v853
  let v855 : BitVec 32 := Scalar.extui v854
  let c0_i32_639 : BitVec 32 := 0#32
  let v856 : BitVec 1 := Scalar.cmpi .ne v855 c0_i32_639
  v856

def k0_off404 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c2_i32_1090 : BitVec 32 := 2#32
  ![v754.toNat, 2]
def k0_off405 (d0 : Dev nD) : Fin 3 → Nat :=
  let c0_i32_638 : BitVec 32 := 0#32
  let c1152_i32_633 : BitVec 32 := 1152#32
  let c224_i32_632 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v843 : BitVec 32 := Scalar.muli c224_i32_632 v754
  let v844 : BitVec 32 := Scalar.addi c1152_i32_633 v843
  let c512_i32_1093 : BitVec 32 := 512#32
  ![0, v844.toNat, 512]
def k0_cond201 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v861 : BitVec 1 := Scalar.cmpi .sle v753 v5
  let v862 : BitVec 1 := Scalar.andi v757 v861
  let c3_i32_644 : BitVec 32 := 3#32
  let v863 : BitVec 1 := Scalar.cmpi .slt v5 c3_i32_644
  let v864 : BitVec 1 := Scalar.andi v862 v863
  let v865 : BitVec 32 := Scalar.extui v864
  let c0_i32_646 : BitVec 32 := 0#32
  let v866 : BitVec 1 := Scalar.cmpi .ne v865 c0_i32_646
  v866

def k0_off406 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c3_i32_1090 : BitVec 32 := 3#32
  ![v753.toNat, 3]
def k0_off407 (d0 : Dev nD) : Fin 3 → Nat :=
  let c0_i32_645 : BitVec 32 := 0#32
  let c256_i32_643 : BitVec 32 := 256#32
  let c224_i32_642 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v859 : BitVec 32 := Scalar.muli c224_i32_642 v753
  let v860 : BitVec 32 := Scalar.addi c256_i32_643 v859
  let c768_i32_1093 : BitVec 32 := 768#32
  ![0, v860.toNat, 768]
def k0_cond202 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c0_i32_576 : BitVec 32 := 0#32
  let v755 : BitVec 1 := Scalar.cmpi .sge v753 c0_i32_576
  let c3_i32_577 : BitVec 32 := 3#32
  let v756 : BitVec 1 := Scalar.cmpi .sle v753 c3_i32_577
  let v757 : BitVec 1 := Scalar.andi v755 v756
  let v867 : BitVec 1 := Scalar.cmpi .sge v753 v5
  let v868 : BitVec 1 := Scalar.andi v757 v867
  let c0_i32_647 : BitVec 32 := 0#32
  let v869 : BitVec 1 := Scalar.cmpi .sgt v5 c0_i32_647
  let v870 : BitVec 1 := Scalar.andi v868 v869
  let v871 : BitVec 32 := Scalar.extui v870
  let c0_i32_649 : BitVec 32 := 0#32
  let v872 : BitVec 1 := Scalar.cmpi .ne v871 c0_i32_649
  v872

def k0_off408 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let c3_i32_1090 : BitVec 32 := 3#32
  ![v753.toNat, 3]
def k0_off409 (d0 : Dev nD) : Fin 3 → Nat :=
  let c0_i32_648 : BitVec 32 := 0#32
  let c256_i32_643 : BitVec 32 := 256#32
  let c224_i32_642 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v753 : BitVec 32 := Scalar.addi v5 c1_i32_574
  let v859 : BitVec 32 := Scalar.muli c224_i32_642 v753
  let v860 : BitVec 32 := Scalar.addi c256_i32_643 v859
  let c768_i32_1093 : BitVec 32 := 768#32
  ![0, v860.toNat, 768]
def k0_cond203 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v877 : BitVec 1 := Scalar.cmpi .sle v754 v8
  let v878 : BitVec 1 := Scalar.andi v760 v877
  let c3_i32_654 : BitVec 32 := 3#32
  let v879 : BitVec 1 := Scalar.cmpi .slt v8 c3_i32_654
  let v880 : BitVec 1 := Scalar.andi v878 v879
  let v881 : BitVec 32 := Scalar.extui v880
  let c0_i32_656 : BitVec 32 := 0#32
  let v882 : BitVec 1 := Scalar.cmpi .ne v881 c0_i32_656
  v882

def k0_off410 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c3_i32_1090 : BitVec 32 := 3#32
  ![v754.toNat, 3]
def k0_off411 (d0 : Dev nD) : Fin 3 → Nat :=
  let c0_i32_655 : BitVec 32 := 0#32
  let c1152_i32_653 : BitVec 32 := 1152#32
  let c224_i32_652 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v875 : BitVec 32 := Scalar.muli c224_i32_652 v754
  let v876 : BitVec 32 := Scalar.addi c1152_i32_653 v875
  let c768_i32_1093 : BitVec 32 := 768#32
  ![0, v876.toNat, 768]
def k0_cond204 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c0_i32_578 : BitVec 32 := 0#32
  let v758 : BitVec 1 := Scalar.cmpi .sge v754 c0_i32_578
  let c3_i32_579 : BitVec 32 := 3#32
  let v759 : BitVec 1 := Scalar.cmpi .sle v754 c3_i32_579
  let v760 : BitVec 1 := Scalar.andi v758 v759
  let v883 : BitVec 1 := Scalar.cmpi .sge v754 v8
  let v884 : BitVec 1 := Scalar.andi v760 v883
  let c0_i32_657 : BitVec 32 := 0#32
  let v885 : BitVec 1 := Scalar.cmpi .sgt v8 c0_i32_657
  let v886 : BitVec 1 := Scalar.andi v884 v885
  let v887 : BitVec 32 := Scalar.extui v886
  let c0_i32_659 : BitVec 32 := 0#32
  let v888 : BitVec 1 := Scalar.cmpi .ne v887 c0_i32_659
  v888

def k0_off412 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let c3_i32_1090 : BitVec 32 := 3#32
  ![v754.toNat, 3]
def k0_off413 (d0 : Dev nD) : Fin 3 → Nat :=
  let c0_i32_658 : BitVec 32 := 0#32
  let c1152_i32_653 : BitVec 32 := 1152#32
  let c224_i32_652 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v754 : BitVec 32 := Scalar.addi v8 c1_i32_575
  let v875 : BitVec 32 := Scalar.muli c224_i32_652 v754
  let v876 : BitVec 32 := Scalar.addi c1152_i32_653 v875
  let c768_i32_1093 : BitVec 32 := 768#32
  ![0, v876.toNat, 768]
def k0_cond205 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v901 : BitVec 1 := Scalar.cmpi .sle v889 v5
  let v902 : BitVec 1 := Scalar.andi v893 v901
  let c3_i32_670 : BitVec 32 := 3#32
  let v903 : BitVec 1 := Scalar.cmpi .slt v5 c3_i32_670
  let v904 : BitVec 1 := Scalar.andi v902 v903
  let v905 : BitVec 32 := Scalar.extui v904
  let c0_i32_672 : BitVec 32 := 0#32
  let v906 : BitVec 1 := Scalar.cmpi .ne v905 c0_i32_672
  v906

def k0_off414 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_1090 : BitVec 32 := 0#32
  ![v889.toNat, 0]
def k0_off415 (d0 : Dev nD) : Fin 3 → Nat :=
  let c0_i32_671 : BitVec 32 := 0#32
  let c256_i32_669 : BitVec 32 := 256#32
  let c224_i32_668 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v899 : BitVec 32 := Scalar.muli c224_i32_668 v889
  let v900 : BitVec 32 := Scalar.addi c256_i32_669 v899
  let c0_i32_1093 : BitVec 32 := 0#32
  ![0, v900.toNat, 0]
def k0_cond206 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v907 : BitVec 1 := Scalar.cmpi .sge v889 v5
  let v908 : BitVec 1 := Scalar.andi v893 v907
  let c0_i32_673 : BitVec 32 := 0#32
  let v909 : BitVec 1 := Scalar.cmpi .sgt v5 c0_i32_673
  let v910 : BitVec 1 := Scalar.andi v908 v909
  let v911 : BitVec 32 := Scalar.extui v910
  let c0_i32_675 : BitVec 32 := 0#32
  let v912 : BitVec 1 := Scalar.cmpi .ne v911 c0_i32_675
  v912

def k0_off416 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_1090 : BitVec 32 := 0#32
  ![v889.toNat, 0]
def k0_off417 (d0 : Dev nD) : Fin 3 → Nat :=
  let c0_i32_674 : BitVec 32 := 0#32
  let c256_i32_669 : BitVec 32 := 256#32
  let c224_i32_668 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v899 : BitVec 32 := Scalar.muli c224_i32_668 v889
  let v900 : BitVec 32 := Scalar.addi c256_i32_669 v899
  let c0_i32_1093 : BitVec 32 := 0#32
  ![0, v900.toNat, 0]
def k0_cond207 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v917 : BitVec 1 := Scalar.cmpi .sle v890 v8
  let v918 : BitVec 1 := Scalar.andi v896 v917
  let c3_i32_680 : BitVec 32 := 3#32
  let v919 : BitVec 1 := Scalar.cmpi .slt v8 c3_i32_680
  let v920 : BitVec 1 := Scalar.andi v918 v919
  let v921 : BitVec 32 := Scalar.extui v920
  let c0_i32_682 : BitVec 32 := 0#32
  let v922 : BitVec 1 := Scalar.cmpi .ne v921 c0_i32_682
  v922

def k0_off418 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_1090 : BitVec 32 := 0#32
  ![v890.toNat, 0]
def k0_off419 (d0 : Dev nD) : Fin 3 → Nat :=
  let c0_i32_681 : BitVec 32 := 0#32
  let c1152_i32_679 : BitVec 32 := 1152#32
  let c224_i32_678 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v915 : BitVec 32 := Scalar.muli c224_i32_678 v890
  let v916 : BitVec 32 := Scalar.addi c1152_i32_679 v915
  let c0_i32_1093 : BitVec 32 := 0#32
  ![0, v916.toNat, 0]
def k0_cond208 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v923 : BitVec 1 := Scalar.cmpi .sge v890 v8
  let v924 : BitVec 1 := Scalar.andi v896 v923
  let c0_i32_683 : BitVec 32 := 0#32
  let v925 : BitVec 1 := Scalar.cmpi .sgt v8 c0_i32_683
  let v926 : BitVec 1 := Scalar.andi v924 v925
  let v927 : BitVec 32 := Scalar.extui v926
  let c0_i32_685 : BitVec 32 := 0#32
  let v928 : BitVec 1 := Scalar.cmpi .ne v927 c0_i32_685
  v928

def k0_off420 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_1090 : BitVec 32 := 0#32
  ![v890.toNat, 0]
def k0_off421 (d0 : Dev nD) : Fin 3 → Nat :=
  let c0_i32_684 : BitVec 32 := 0#32
  let c1152_i32_679 : BitVec 32 := 1152#32
  let c224_i32_678 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v915 : BitVec 32 := Scalar.muli c224_i32_678 v890
  let v916 : BitVec 32 := Scalar.addi c1152_i32_679 v915
  let c0_i32_1093 : BitVec 32 := 0#32
  ![0, v916.toNat, 0]
def k0_cond209 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v933 : BitVec 1 := Scalar.cmpi .sle v889 v5
  let v934 : BitVec 1 := Scalar.andi v893 v933
  let c3_i32_690 : BitVec 32 := 3#32
  let v935 : BitVec 1 := Scalar.cmpi .slt v5 c3_i32_690
  let v936 : BitVec 1 := Scalar.andi v934 v935
  let v937 : BitVec 32 := Scalar.extui v936
  let c0_i32_692 : BitVec 32 := 0#32
  let v938 : BitVec 1 := Scalar.cmpi .ne v937 c0_i32_692
  v938

def k0_off422 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c1_i32_1090 : BitVec 32 := 1#32
  ![v889.toNat, 1]
def k0_off423 (d0 : Dev nD) : Fin 3 → Nat :=
  let c0_i32_691 : BitVec 32 := 0#32
  let c256_i32_689 : BitVec 32 := 256#32
  let c224_i32_688 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v931 : BitVec 32 := Scalar.muli c224_i32_688 v889
  let v932 : BitVec 32 := Scalar.addi c256_i32_689 v931
  let c256_i32_1093 : BitVec 32 := 256#32
  ![0, v932.toNat, 256]
def k0_cond210 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v939 : BitVec 1 := Scalar.cmpi .sge v889 v5
  let v940 : BitVec 1 := Scalar.andi v893 v939
  let c0_i32_693 : BitVec 32 := 0#32
  let v941 : BitVec 1 := Scalar.cmpi .sgt v5 c0_i32_693
  let v942 : BitVec 1 := Scalar.andi v940 v941
  let v943 : BitVec 32 := Scalar.extui v942
  let c0_i32_695 : BitVec 32 := 0#32
  let v944 : BitVec 1 := Scalar.cmpi .ne v943 c0_i32_695
  v944

def k0_off424 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c1_i32_1090 : BitVec 32 := 1#32
  ![v889.toNat, 1]
def k0_off425 (d0 : Dev nD) : Fin 3 → Nat :=
  let c0_i32_694 : BitVec 32 := 0#32
  let c256_i32_689 : BitVec 32 := 256#32
  let c224_i32_688 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v931 : BitVec 32 := Scalar.muli c224_i32_688 v889
  let v932 : BitVec 32 := Scalar.addi c256_i32_689 v931
  let c256_i32_1093 : BitVec 32 := 256#32
  ![0, v932.toNat, 256]
def k0_cond211 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v949 : BitVec 1 := Scalar.cmpi .sle v890 v8
  let v950 : BitVec 1 := Scalar.andi v896 v949
  let c3_i32_700 : BitVec 32 := 3#32
  let v951 : BitVec 1 := Scalar.cmpi .slt v8 c3_i32_700
  let v952 : BitVec 1 := Scalar.andi v950 v951
  let v953 : BitVec 32 := Scalar.extui v952
  let c0_i32_702 : BitVec 32 := 0#32
  let v954 : BitVec 1 := Scalar.cmpi .ne v953 c0_i32_702
  v954

def k0_off426 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c1_i32_1090 : BitVec 32 := 1#32
  ![v890.toNat, 1]
def k0_off427 (d0 : Dev nD) : Fin 3 → Nat :=
  let c0_i32_701 : BitVec 32 := 0#32
  let c1152_i32_699 : BitVec 32 := 1152#32
  let c224_i32_698 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v947 : BitVec 32 := Scalar.muli c224_i32_698 v890
  let v948 : BitVec 32 := Scalar.addi c1152_i32_699 v947
  let c256_i32_1093 : BitVec 32 := 256#32
  ![0, v948.toNat, 256]
def k0_cond212 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v955 : BitVec 1 := Scalar.cmpi .sge v890 v8
  let v956 : BitVec 1 := Scalar.andi v896 v955
  let c0_i32_703 : BitVec 32 := 0#32
  let v957 : BitVec 1 := Scalar.cmpi .sgt v8 c0_i32_703
  let v958 : BitVec 1 := Scalar.andi v956 v957
  let v959 : BitVec 32 := Scalar.extui v958
  let c0_i32_705 : BitVec 32 := 0#32
  let v960 : BitVec 1 := Scalar.cmpi .ne v959 c0_i32_705
  v960

def k0_off428 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c1_i32_1090 : BitVec 32 := 1#32
  ![v890.toNat, 1]
def k0_off429 (d0 : Dev nD) : Fin 3 → Nat :=
  let c0_i32_704 : BitVec 32 := 0#32
  let c1152_i32_699 : BitVec 32 := 1152#32
  let c224_i32_698 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v947 : BitVec 32 := Scalar.muli c224_i32_698 v890
  let v948 : BitVec 32 := Scalar.addi c1152_i32_699 v947
  let c256_i32_1093 : BitVec 32 := 256#32
  ![0, v948.toNat, 256]
def k0_cond213 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v965 : BitVec 1 := Scalar.cmpi .sle v889 v5
  let v966 : BitVec 1 := Scalar.andi v893 v965
  let c3_i32_710 : BitVec 32 := 3#32
  let v967 : BitVec 1 := Scalar.cmpi .slt v5 c3_i32_710
  let v968 : BitVec 1 := Scalar.andi v966 v967
  let v969 : BitVec 32 := Scalar.extui v968
  let c0_i32_712 : BitVec 32 := 0#32
  let v970 : BitVec 1 := Scalar.cmpi .ne v969 c0_i32_712
  v970

def k0_off430 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c2_i32_1090 : BitVec 32 := 2#32
  ![v889.toNat, 2]
def k0_off431 (d0 : Dev nD) : Fin 3 → Nat :=
  let c0_i32_711 : BitVec 32 := 0#32
  let c256_i32_709 : BitVec 32 := 256#32
  let c224_i32_708 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v963 : BitVec 32 := Scalar.muli c224_i32_708 v889
  let v964 : BitVec 32 := Scalar.addi c256_i32_709 v963
  let c512_i32_1093 : BitVec 32 := 512#32
  ![0, v964.toNat, 512]
def k0_cond214 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v971 : BitVec 1 := Scalar.cmpi .sge v889 v5
  let v972 : BitVec 1 := Scalar.andi v893 v971
  let c0_i32_713 : BitVec 32 := 0#32
  let v973 : BitVec 1 := Scalar.cmpi .sgt v5 c0_i32_713
  let v974 : BitVec 1 := Scalar.andi v972 v973
  let v975 : BitVec 32 := Scalar.extui v974
  let c0_i32_715 : BitVec 32 := 0#32
  let v976 : BitVec 1 := Scalar.cmpi .ne v975 c0_i32_715
  v976

def k0_off432 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c2_i32_1090 : BitVec 32 := 2#32
  ![v889.toNat, 2]
def k0_off433 (d0 : Dev nD) : Fin 3 → Nat :=
  let c0_i32_714 : BitVec 32 := 0#32
  let c256_i32_709 : BitVec 32 := 256#32
  let c224_i32_708 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v963 : BitVec 32 := Scalar.muli c224_i32_708 v889
  let v964 : BitVec 32 := Scalar.addi c256_i32_709 v963
  let c512_i32_1093 : BitVec 32 := 512#32
  ![0, v964.toNat, 512]
def k0_cond215 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v981 : BitVec 1 := Scalar.cmpi .sle v890 v8
  let v982 : BitVec 1 := Scalar.andi v896 v981
  let c3_i32_720 : BitVec 32 := 3#32
  let v983 : BitVec 1 := Scalar.cmpi .slt v8 c3_i32_720
  let v984 : BitVec 1 := Scalar.andi v982 v983
  let v985 : BitVec 32 := Scalar.extui v984
  let c0_i32_722 : BitVec 32 := 0#32
  let v986 : BitVec 1 := Scalar.cmpi .ne v985 c0_i32_722
  v986

def k0_off434 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c2_i32_1090 : BitVec 32 := 2#32
  ![v890.toNat, 2]
def k0_off435 (d0 : Dev nD) : Fin 3 → Nat :=
  let c0_i32_721 : BitVec 32 := 0#32
  let c1152_i32_719 : BitVec 32 := 1152#32
  let c224_i32_718 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v979 : BitVec 32 := Scalar.muli c224_i32_718 v890
  let v980 : BitVec 32 := Scalar.addi c1152_i32_719 v979
  let c512_i32_1093 : BitVec 32 := 512#32
  ![0, v980.toNat, 512]
def k0_cond216 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v987 : BitVec 1 := Scalar.cmpi .sge v890 v8
  let v988 : BitVec 1 := Scalar.andi v896 v987
  let c0_i32_723 : BitVec 32 := 0#32
  let v989 : BitVec 1 := Scalar.cmpi .sgt v8 c0_i32_723
  let v990 : BitVec 1 := Scalar.andi v988 v989
  let v991 : BitVec 32 := Scalar.extui v990
  let c0_i32_725 : BitVec 32 := 0#32
  let v992 : BitVec 1 := Scalar.cmpi .ne v991 c0_i32_725
  v992

def k0_off436 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c2_i32_1090 : BitVec 32 := 2#32
  ![v890.toNat, 2]
def k0_off437 (d0 : Dev nD) : Fin 3 → Nat :=
  let c0_i32_724 : BitVec 32 := 0#32
  let c1152_i32_719 : BitVec 32 := 1152#32
  let c224_i32_718 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v979 : BitVec 32 := Scalar.muli c224_i32_718 v890
  let v980 : BitVec 32 := Scalar.addi c1152_i32_719 v979
  let c512_i32_1093 : BitVec 32 := 512#32
  ![0, v980.toNat, 512]
def k0_cond217 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v997 : BitVec 1 := Scalar.cmpi .sle v889 v5
  let v998 : BitVec 1 := Scalar.andi v893 v997
  let c3_i32_730 : BitVec 32 := 3#32
  let v999 : BitVec 1 := Scalar.cmpi .slt v5 c3_i32_730
  let v1000 : BitVec 1 := Scalar.andi v998 v999
  let v1001 : BitVec 32 := Scalar.extui v1000
  let c0_i32_732 : BitVec 32 := 0#32
  let v1002 : BitVec 1 := Scalar.cmpi .ne v1001 c0_i32_732
  v1002

def k0_off438 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c3_i32_1090 : BitVec 32 := 3#32
  ![v889.toNat, 3]
def k0_off439 (d0 : Dev nD) : Fin 3 → Nat :=
  let c0_i32_731 : BitVec 32 := 0#32
  let c256_i32_729 : BitVec 32 := 256#32
  let c224_i32_728 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v995 : BitVec 32 := Scalar.muli c224_i32_728 v889
  let v996 : BitVec 32 := Scalar.addi c256_i32_729 v995
  let c768_i32_1093 : BitVec 32 := 768#32
  ![0, v996.toNat, 768]
def k0_cond218 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c0_i32_662 : BitVec 32 := 0#32
  let v891 : BitVec 1 := Scalar.cmpi .sge v889 c0_i32_662
  let c3_i32_663 : BitVec 32 := 3#32
  let v892 : BitVec 1 := Scalar.cmpi .sle v889 c3_i32_663
  let v893 : BitVec 1 := Scalar.andi v891 v892
  let v1003 : BitVec 1 := Scalar.cmpi .sge v889 v5
  let v1004 : BitVec 1 := Scalar.andi v893 v1003
  let c0_i32_733 : BitVec 32 := 0#32
  let v1005 : BitVec 1 := Scalar.cmpi .sgt v5 c0_i32_733
  let v1006 : BitVec 1 := Scalar.andi v1004 v1005
  let v1007 : BitVec 32 := Scalar.extui v1006
  let c0_i32_735 : BitVec 32 := 0#32
  let v1008 : BitVec 1 := Scalar.cmpi .ne v1007 c0_i32_735
  v1008

def k0_off440 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let c3_i32_1090 : BitVec 32 := 3#32
  ![v889.toNat, 3]
def k0_off441 (d0 : Dev nD) : Fin 3 → Nat :=
  let c0_i32_734 : BitVec 32 := 0#32
  let c256_i32_729 : BitVec 32 := 256#32
  let c224_i32_728 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_660 : BitVec 32 := 4294967295#32
  let v889 : BitVec 32 := Scalar.addi v5 c_m1_i32_660
  let v995 : BitVec 32 := Scalar.muli c224_i32_728 v889
  let v996 : BitVec 32 := Scalar.addi c256_i32_729 v995
  let c768_i32_1093 : BitVec 32 := 768#32
  ![0, v996.toNat, 768]
def k0_cond219 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v1013 : BitVec 1 := Scalar.cmpi .sle v890 v8
  let v1014 : BitVec 1 := Scalar.andi v896 v1013
  let c3_i32_740 : BitVec 32 := 3#32
  let v1015 : BitVec 1 := Scalar.cmpi .slt v8 c3_i32_740
  let v1016 : BitVec 1 := Scalar.andi v1014 v1015
  let v1017 : BitVec 32 := Scalar.extui v1016
  let c0_i32_742 : BitVec 32 := 0#32
  let v1018 : BitVec 1 := Scalar.cmpi .ne v1017 c0_i32_742
  v1018

def k0_off442 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c3_i32_1090 : BitVec 32 := 3#32
  ![v890.toNat, 3]
def k0_off443 (d0 : Dev nD) : Fin 3 → Nat :=
  let c0_i32_741 : BitVec 32 := 0#32
  let c1152_i32_739 : BitVec 32 := 1152#32
  let c224_i32_738 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v1011 : BitVec 32 := Scalar.muli c224_i32_738 v890
  let v1012 : BitVec 32 := Scalar.addi c1152_i32_739 v1011
  let c768_i32_1093 : BitVec 32 := 768#32
  ![0, v1012.toNat, 768]
def k0_cond220 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c0_i32_664 : BitVec 32 := 0#32
  let v894 : BitVec 1 := Scalar.cmpi .sge v890 c0_i32_664
  let c3_i32_665 : BitVec 32 := 3#32
  let v895 : BitVec 1 := Scalar.cmpi .sle v890 c3_i32_665
  let v896 : BitVec 1 := Scalar.andi v894 v895
  let v1019 : BitVec 1 := Scalar.cmpi .sge v890 v8
  let v1020 : BitVec 1 := Scalar.andi v896 v1019
  let c0_i32_743 : BitVec 32 := 0#32
  let v1021 : BitVec 1 := Scalar.cmpi .sgt v8 c0_i32_743
  let v1022 : BitVec 1 := Scalar.andi v1020 v1021
  let v1023 : BitVec 32 := Scalar.extui v1022
  let c0_i32_745 : BitVec 32 := 0#32
  let v1024 : BitVec 1 := Scalar.cmpi .ne v1023 c0_i32_745
  v1024

def k0_off444 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let c3_i32_1090 : BitVec 32 := 3#32
  ![v890.toNat, 3]
def k0_off445 (d0 : Dev nD) : Fin 3 → Nat :=
  let c0_i32_744 : BitVec 32 := 0#32
  let c1152_i32_739 : BitVec 32 := 1152#32
  let c224_i32_738 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32_661 : BitVec 32 := 4294967295#32
  let v890 : BitVec 32 := Scalar.addi v8 c_m1_i32_661
  let v1011 : BitVec 32 := Scalar.muli c224_i32_738 v890
  let v1012 : BitVec 32 := Scalar.addi c1152_i32_739 v1011
  let c768_i32_1093 : BitVec 32 := 768#32
  ![0, v1012.toNat, 768]
def k0_cond221 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1037 : BitVec 1 := Scalar.cmpi .sle v1025 v5
  let v1038 : BitVec 1 := Scalar.andi v1029 v1037
  let c3_i32_756 : BitVec 32 := 3#32
  let v1039 : BitVec 1 := Scalar.cmpi .slt v5 c3_i32_756
  let v1040 : BitVec 1 := Scalar.andi v1038 v1039
  let v1041 : BitVec 32 := Scalar.extui v1040
  let c0_i32_758 : BitVec 32 := 0#32
  let v1042 : BitVec 1 := Scalar.cmpi .ne v1041 c0_i32_758
  v1042

def k0_off446 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_1090 : BitVec 32 := 0#32
  ![v1025.toNat, 0]
def k0_off447 (d0 : Dev nD) : Fin 3 → Nat :=
  let c0_i32_757 : BitVec 32 := 0#32
  let c256_i32_755 : BitVec 32 := 256#32
  let c224_i32_754 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1035 : BitVec 32 := Scalar.muli c224_i32_754 v1025
  let v1036 : BitVec 32 := Scalar.addi c256_i32_755 v1035
  let c0_i32_1093 : BitVec 32 := 0#32
  ![0, v1036.toNat, 0]
def k0_cond222 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1043 : BitVec 1 := Scalar.cmpi .sge v1025 v5
  let v1044 : BitVec 1 := Scalar.andi v1029 v1043
  let c0_i32_759 : BitVec 32 := 0#32
  let v1045 : BitVec 1 := Scalar.cmpi .sgt v5 c0_i32_759
  let v1046 : BitVec 1 := Scalar.andi v1044 v1045
  let v1047 : BitVec 32 := Scalar.extui v1046
  let c0_i32_761 : BitVec 32 := 0#32
  let v1048 : BitVec 1 := Scalar.cmpi .ne v1047 c0_i32_761
  v1048

def k0_off448 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_1090 : BitVec 32 := 0#32
  ![v1025.toNat, 0]
def k0_off449 (d0 : Dev nD) : Fin 3 → Nat :=
  let c0_i32_760 : BitVec 32 := 0#32
  let c256_i32_755 : BitVec 32 := 256#32
  let c224_i32_754 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1035 : BitVec 32 := Scalar.muli c224_i32_754 v1025
  let v1036 : BitVec 32 := Scalar.addi c256_i32_755 v1035
  let c0_i32_1093 : BitVec 32 := 0#32
  ![0, v1036.toNat, 0]
def k0_cond223 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1053 : BitVec 1 := Scalar.cmpi .sle v1026 v8
  let v1054 : BitVec 1 := Scalar.andi v1032 v1053
  let c3_i32_766 : BitVec 32 := 3#32
  let v1055 : BitVec 1 := Scalar.cmpi .slt v8 c3_i32_766
  let v1056 : BitVec 1 := Scalar.andi v1054 v1055
  let v1057 : BitVec 32 := Scalar.extui v1056
  let c0_i32_768 : BitVec 32 := 0#32
  let v1058 : BitVec 1 := Scalar.cmpi .ne v1057 c0_i32_768
  v1058

def k0_off450 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_1090 : BitVec 32 := 0#32
  ![v1026.toNat, 0]
def k0_off451 (d0 : Dev nD) : Fin 3 → Nat :=
  let c0_i32_767 : BitVec 32 := 0#32
  let c1152_i32_765 : BitVec 32 := 1152#32
  let c224_i32_764 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1051 : BitVec 32 := Scalar.muli c224_i32_764 v1026
  let v1052 : BitVec 32 := Scalar.addi c1152_i32_765 v1051
  let c0_i32_1093 : BitVec 32 := 0#32
  ![0, v1052.toNat, 0]
def k0_cond224 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1059 : BitVec 1 := Scalar.cmpi .sge v1026 v8
  let v1060 : BitVec 1 := Scalar.andi v1032 v1059
  let c0_i32_769 : BitVec 32 := 0#32
  let v1061 : BitVec 1 := Scalar.cmpi .sgt v8 c0_i32_769
  let v1062 : BitVec 1 := Scalar.andi v1060 v1061
  let v1063 : BitVec 32 := Scalar.extui v1062
  let c0_i32_771 : BitVec 32 := 0#32
  let v1064 : BitVec 1 := Scalar.cmpi .ne v1063 c0_i32_771
  v1064

def k0_off452 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_1090 : BitVec 32 := 0#32
  ![v1026.toNat, 0]
def k0_off453 (d0 : Dev nD) : Fin 3 → Nat :=
  let c0_i32_770 : BitVec 32 := 0#32
  let c1152_i32_765 : BitVec 32 := 1152#32
  let c224_i32_764 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1051 : BitVec 32 := Scalar.muli c224_i32_764 v1026
  let v1052 : BitVec 32 := Scalar.addi c1152_i32_765 v1051
  let c0_i32_1093 : BitVec 32 := 0#32
  ![0, v1052.toNat, 0]
def k0_cond225 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1069 : BitVec 1 := Scalar.cmpi .sle v1025 v5
  let v1070 : BitVec 1 := Scalar.andi v1029 v1069
  let c3_i32_776 : BitVec 32 := 3#32
  let v1071 : BitVec 1 := Scalar.cmpi .slt v5 c3_i32_776
  let v1072 : BitVec 1 := Scalar.andi v1070 v1071
  let v1073 : BitVec 32 := Scalar.extui v1072
  let c0_i32_778 : BitVec 32 := 0#32
  let v1074 : BitVec 1 := Scalar.cmpi .ne v1073 c0_i32_778
  v1074

def k0_off454 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c1_i32_1090 : BitVec 32 := 1#32
  ![v1025.toNat, 1]
def k0_off455 (d0 : Dev nD) : Fin 3 → Nat :=
  let c0_i32_777 : BitVec 32 := 0#32
  let c256_i32_775 : BitVec 32 := 256#32
  let c224_i32_774 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1067 : BitVec 32 := Scalar.muli c224_i32_774 v1025
  let v1068 : BitVec 32 := Scalar.addi c256_i32_775 v1067
  let c256_i32_1093 : BitVec 32 := 256#32
  ![0, v1068.toNat, 256]
def k0_cond226 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1075 : BitVec 1 := Scalar.cmpi .sge v1025 v5
  let v1076 : BitVec 1 := Scalar.andi v1029 v1075
  let c0_i32_779 : BitVec 32 := 0#32
  let v1077 : BitVec 1 := Scalar.cmpi .sgt v5 c0_i32_779
  let v1078 : BitVec 1 := Scalar.andi v1076 v1077
  let v1079 : BitVec 32 := Scalar.extui v1078
  let c0_i32_781 : BitVec 32 := 0#32
  let v1080 : BitVec 1 := Scalar.cmpi .ne v1079 c0_i32_781
  v1080

def k0_off456 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c1_i32_1090 : BitVec 32 := 1#32
  ![v1025.toNat, 1]
def k0_off457 (d0 : Dev nD) : Fin 3 → Nat :=
  let c0_i32_780 : BitVec 32 := 0#32
  let c256_i32_775 : BitVec 32 := 256#32
  let c224_i32_774 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1067 : BitVec 32 := Scalar.muli c224_i32_774 v1025
  let v1068 : BitVec 32 := Scalar.addi c256_i32_775 v1067
  let c256_i32_1093 : BitVec 32 := 256#32
  ![0, v1068.toNat, 256]
def k0_cond227 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1085 : BitVec 1 := Scalar.cmpi .sle v1026 v8
  let v1086 : BitVec 1 := Scalar.andi v1032 v1085
  let c3_i32_786 : BitVec 32 := 3#32
  let v1087 : BitVec 1 := Scalar.cmpi .slt v8 c3_i32_786
  let v1088 : BitVec 1 := Scalar.andi v1086 v1087
  let v1089 : BitVec 32 := Scalar.extui v1088
  let c0_i32_788 : BitVec 32 := 0#32
  let v1090 : BitVec 1 := Scalar.cmpi .ne v1089 c0_i32_788
  v1090

def k0_off458 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c1_i32_1090 : BitVec 32 := 1#32
  ![v1026.toNat, 1]
def k0_off459 (d0 : Dev nD) : Fin 3 → Nat :=
  let c0_i32_787 : BitVec 32 := 0#32
  let c1152_i32_785 : BitVec 32 := 1152#32
  let c224_i32_784 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1083 : BitVec 32 := Scalar.muli c224_i32_784 v1026
  let v1084 : BitVec 32 := Scalar.addi c1152_i32_785 v1083
  let c256_i32_1093 : BitVec 32 := 256#32
  ![0, v1084.toNat, 256]
def k0_cond228 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1091 : BitVec 1 := Scalar.cmpi .sge v1026 v8
  let v1092 : BitVec 1 := Scalar.andi v1032 v1091
  let c0_i32_789 : BitVec 32 := 0#32
  let v1093 : BitVec 1 := Scalar.cmpi .sgt v8 c0_i32_789
  let v1094 : BitVec 1 := Scalar.andi v1092 v1093
  let v1095 : BitVec 32 := Scalar.extui v1094
  let c0_i32_791 : BitVec 32 := 0#32
  let v1096 : BitVec 1 := Scalar.cmpi .ne v1095 c0_i32_791
  v1096

def k0_off460 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c1_i32_1090 : BitVec 32 := 1#32
  ![v1026.toNat, 1]
def k0_off461 (d0 : Dev nD) : Fin 3 → Nat :=
  let c0_i32_790 : BitVec 32 := 0#32
  let c1152_i32_785 : BitVec 32 := 1152#32
  let c224_i32_784 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1083 : BitVec 32 := Scalar.muli c224_i32_784 v1026
  let v1084 : BitVec 32 := Scalar.addi c1152_i32_785 v1083
  let c256_i32_1093 : BitVec 32 := 256#32
  ![0, v1084.toNat, 256]
def k0_cond229 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1101 : BitVec 1 := Scalar.cmpi .sle v1025 v5
  let v1102 : BitVec 1 := Scalar.andi v1029 v1101
  let c3_i32_796 : BitVec 32 := 3#32
  let v1103 : BitVec 1 := Scalar.cmpi .slt v5 c3_i32_796
  let v1104 : BitVec 1 := Scalar.andi v1102 v1103
  let v1105 : BitVec 32 := Scalar.extui v1104
  let c0_i32_798 : BitVec 32 := 0#32
  let v1106 : BitVec 1 := Scalar.cmpi .ne v1105 c0_i32_798
  v1106

def k0_off462 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c2_i32_1090 : BitVec 32 := 2#32
  ![v1025.toNat, 2]
def k0_off463 (d0 : Dev nD) : Fin 3 → Nat :=
  let c0_i32_797 : BitVec 32 := 0#32
  let c256_i32_795 : BitVec 32 := 256#32
  let c224_i32_794 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1099 : BitVec 32 := Scalar.muli c224_i32_794 v1025
  let v1100 : BitVec 32 := Scalar.addi c256_i32_795 v1099
  let c512_i32_1093 : BitVec 32 := 512#32
  ![0, v1100.toNat, 512]
def k0_cond230 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1107 : BitVec 1 := Scalar.cmpi .sge v1025 v5
  let v1108 : BitVec 1 := Scalar.andi v1029 v1107
  let c0_i32_799 : BitVec 32 := 0#32
  let v1109 : BitVec 1 := Scalar.cmpi .sgt v5 c0_i32_799
  let v1110 : BitVec 1 := Scalar.andi v1108 v1109
  let v1111 : BitVec 32 := Scalar.extui v1110
  let c0_i32_801 : BitVec 32 := 0#32
  let v1112 : BitVec 1 := Scalar.cmpi .ne v1111 c0_i32_801
  v1112

def k0_off464 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c2_i32_1090 : BitVec 32 := 2#32
  ![v1025.toNat, 2]
def k0_off465 (d0 : Dev nD) : Fin 3 → Nat :=
  let c0_i32_800 : BitVec 32 := 0#32
  let c256_i32_795 : BitVec 32 := 256#32
  let c224_i32_794 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1099 : BitVec 32 := Scalar.muli c224_i32_794 v1025
  let v1100 : BitVec 32 := Scalar.addi c256_i32_795 v1099
  let c512_i32_1093 : BitVec 32 := 512#32
  ![0, v1100.toNat, 512]
def k0_cond231 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1117 : BitVec 1 := Scalar.cmpi .sle v1026 v8
  let v1118 : BitVec 1 := Scalar.andi v1032 v1117
  let c3_i32_806 : BitVec 32 := 3#32
  let v1119 : BitVec 1 := Scalar.cmpi .slt v8 c3_i32_806
  let v1120 : BitVec 1 := Scalar.andi v1118 v1119
  let v1121 : BitVec 32 := Scalar.extui v1120
  let c0_i32_808 : BitVec 32 := 0#32
  let v1122 : BitVec 1 := Scalar.cmpi .ne v1121 c0_i32_808
  v1122

def k0_off466 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c2_i32_1090 : BitVec 32 := 2#32
  ![v1026.toNat, 2]
def k0_off467 (d0 : Dev nD) : Fin 3 → Nat :=
  let c0_i32_807 : BitVec 32 := 0#32
  let c1152_i32_805 : BitVec 32 := 1152#32
  let c224_i32_804 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1115 : BitVec 32 := Scalar.muli c224_i32_804 v1026
  let v1116 : BitVec 32 := Scalar.addi c1152_i32_805 v1115
  let c512_i32_1093 : BitVec 32 := 512#32
  ![0, v1116.toNat, 512]
def k0_cond232 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1123 : BitVec 1 := Scalar.cmpi .sge v1026 v8
  let v1124 : BitVec 1 := Scalar.andi v1032 v1123
  let c0_i32_809 : BitVec 32 := 0#32
  let v1125 : BitVec 1 := Scalar.cmpi .sgt v8 c0_i32_809
  let v1126 : BitVec 1 := Scalar.andi v1124 v1125
  let v1127 : BitVec 32 := Scalar.extui v1126
  let c0_i32_811 : BitVec 32 := 0#32
  let v1128 : BitVec 1 := Scalar.cmpi .ne v1127 c0_i32_811
  v1128

def k0_off468 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c2_i32_1090 : BitVec 32 := 2#32
  ![v1026.toNat, 2]
def k0_off469 (d0 : Dev nD) : Fin 3 → Nat :=
  let c0_i32_810 : BitVec 32 := 0#32
  let c1152_i32_805 : BitVec 32 := 1152#32
  let c224_i32_804 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1115 : BitVec 32 := Scalar.muli c224_i32_804 v1026
  let v1116 : BitVec 32 := Scalar.addi c1152_i32_805 v1115
  let c512_i32_1093 : BitVec 32 := 512#32
  ![0, v1116.toNat, 512]
def k0_cond233 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1133 : BitVec 1 := Scalar.cmpi .sle v1025 v5
  let v1134 : BitVec 1 := Scalar.andi v1029 v1133
  let c3_i32_816 : BitVec 32 := 3#32
  let v1135 : BitVec 1 := Scalar.cmpi .slt v5 c3_i32_816
  let v1136 : BitVec 1 := Scalar.andi v1134 v1135
  let v1137 : BitVec 32 := Scalar.extui v1136
  let c0_i32_818 : BitVec 32 := 0#32
  let v1138 : BitVec 1 := Scalar.cmpi .ne v1137 c0_i32_818
  v1138

def k0_off470 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c3_i32_1090 : BitVec 32 := 3#32
  ![v1025.toNat, 3]
def k0_off471 (d0 : Dev nD) : Fin 3 → Nat :=
  let c0_i32_817 : BitVec 32 := 0#32
  let c256_i32_815 : BitVec 32 := 256#32
  let c224_i32_814 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1131 : BitVec 32 := Scalar.muli c224_i32_814 v1025
  let v1132 : BitVec 32 := Scalar.addi c256_i32_815 v1131
  let c768_i32_1093 : BitVec 32 := 768#32
  ![0, v1132.toNat, 768]
def k0_cond234 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c0_i32_748 : BitVec 32 := 0#32
  let v1027 : BitVec 1 := Scalar.cmpi .sge v1025 c0_i32_748
  let c3_i32_749 : BitVec 32 := 3#32
  let v1028 : BitVec 1 := Scalar.cmpi .sle v1025 c3_i32_749
  let v1029 : BitVec 1 := Scalar.andi v1027 v1028
  let v1139 : BitVec 1 := Scalar.cmpi .sge v1025 v5
  let v1140 : BitVec 1 := Scalar.andi v1029 v1139
  let c0_i32_819 : BitVec 32 := 0#32
  let v1141 : BitVec 1 := Scalar.cmpi .sgt v5 c0_i32_819
  let v1142 : BitVec 1 := Scalar.andi v1140 v1141
  let v1143 : BitVec 32 := Scalar.extui v1142
  let c0_i32_821 : BitVec 32 := 0#32
  let v1144 : BitVec 1 := Scalar.cmpi .ne v1143 c0_i32_821
  v1144

def k0_off472 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let c3_i32_1090 : BitVec 32 := 3#32
  ![v1025.toNat, 3]
def k0_off473 (d0 : Dev nD) : Fin 3 → Nat :=
  let c0_i32_820 : BitVec 32 := 0#32
  let c256_i32_815 : BitVec 32 := 256#32
  let c224_i32_814 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_746 : BitVec 32 := 2#32
  let v1025 : BitVec 32 := Scalar.addi v5 c2_i32_746
  let v1131 : BitVec 32 := Scalar.muli c224_i32_814 v1025
  let v1132 : BitVec 32 := Scalar.addi c256_i32_815 v1131
  let c768_i32_1093 : BitVec 32 := 768#32
  ![0, v1132.toNat, 768]
def k0_cond235 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1149 : BitVec 1 := Scalar.cmpi .sle v1026 v8
  let v1150 : BitVec 1 := Scalar.andi v1032 v1149
  let c3_i32_826 : BitVec 32 := 3#32
  let v1151 : BitVec 1 := Scalar.cmpi .slt v8 c3_i32_826
  let v1152 : BitVec 1 := Scalar.andi v1150 v1151
  let v1153 : BitVec 32 := Scalar.extui v1152
  let c0_i32_828 : BitVec 32 := 0#32
  let v1154 : BitVec 1 := Scalar.cmpi .ne v1153 c0_i32_828
  v1154

def k0_off474 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c3_i32_1090 : BitVec 32 := 3#32
  ![v1026.toNat, 3]
def k0_off475 (d0 : Dev nD) : Fin 3 → Nat :=
  let c0_i32_827 : BitVec 32 := 0#32
  let c1152_i32_825 : BitVec 32 := 1152#32
  let c224_i32_824 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1147 : BitVec 32 := Scalar.muli c224_i32_824 v1026
  let v1148 : BitVec 32 := Scalar.addi c1152_i32_825 v1147
  let c768_i32_1093 : BitVec 32 := 768#32
  ![0, v1148.toNat, 768]
def k0_cond236 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c0_i32_750 : BitVec 32 := 0#32
  let v1030 : BitVec 1 := Scalar.cmpi .sge v1026 c0_i32_750
  let c3_i32_751 : BitVec 32 := 3#32
  let v1031 : BitVec 1 := Scalar.cmpi .sle v1026 c3_i32_751
  let v1032 : BitVec 1 := Scalar.andi v1030 v1031
  let v1155 : BitVec 1 := Scalar.cmpi .sge v1026 v8
  let v1156 : BitVec 1 := Scalar.andi v1032 v1155
  let c0_i32_829 : BitVec 32 := 0#32
  let v1157 : BitVec 1 := Scalar.cmpi .sgt v8 c0_i32_829
  let v1158 : BitVec 1 := Scalar.andi v1156 v1157
  let v1159 : BitVec 32 := Scalar.extui v1158
  let c0_i32_831 : BitVec 32 := 0#32
  let v1160 : BitVec 1 := Scalar.cmpi .ne v1159 c0_i32_831
  v1160

def k0_off476 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let c3_i32_1090 : BitVec 32 := 3#32
  ![v1026.toNat, 3]
def k0_off477 (d0 : Dev nD) : Fin 3 → Nat :=
  let c0_i32_830 : BitVec 32 := 0#32
  let c1152_i32_825 : BitVec 32 := 1152#32
  let c224_i32_824 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_747 : BitVec 32 := 2#32
  let v1026 : BitVec 32 := Scalar.addi v8 c2_i32_747
  let v1147 : BitVec 32 := Scalar.muli c224_i32_824 v1026
  let v1148 : BitVec 32 := Scalar.addi c1152_i32_825 v1147
  let c768_i32_1093 : BitVec 32 := 768#32
  ![0, v1148.toNat, 768]
def k0_cond237 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1173 : BitVec 1 := Scalar.cmpi .sle v1161 v5
  let v1174 : BitVec 1 := Scalar.andi v1165 v1173
  let c3_i32_842 : BitVec 32 := 3#32
  let v1175 : BitVec 1 := Scalar.cmpi .slt v5 c3_i32_842
  let v1176 : BitVec 1 := Scalar.andi v1174 v1175
  let v1177 : BitVec 32 := Scalar.extui v1176
  let c0_i32_844 : BitVec 32 := 0#32
  let v1178 : BitVec 1 := Scalar.cmpi .ne v1177 c0_i32_844
  v1178

def k0_off478 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_1090 : BitVec 32 := 0#32
  ![v1161.toNat, 0]
def k0_off479 (d0 : Dev nD) : Fin 3 → Nat :=
  let c0_i32_843 : BitVec 32 := 0#32
  let c256_i32_841 : BitVec 32 := 256#32
  let c224_i32_840 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1171 : BitVec 32 := Scalar.muli c224_i32_840 v1161
  let v1172 : BitVec 32 := Scalar.addi c256_i32_841 v1171
  let c0_i32_1093 : BitVec 32 := 0#32
  ![0, v1172.toNat, 0]
def k0_cond238 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1179 : BitVec 1 := Scalar.cmpi .sge v1161 v5
  let v1180 : BitVec 1 := Scalar.andi v1165 v1179
  let c0_i32_845 : BitVec 32 := 0#32
  let v1181 : BitVec 1 := Scalar.cmpi .sgt v5 c0_i32_845
  let v1182 : BitVec 1 := Scalar.andi v1180 v1181
  let v1183 : BitVec 32 := Scalar.extui v1182
  let c0_i32_847 : BitVec 32 := 0#32
  let v1184 : BitVec 1 := Scalar.cmpi .ne v1183 c0_i32_847
  v1184

def k0_off480 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_1090 : BitVec 32 := 0#32
  ![v1161.toNat, 0]
def k0_off481 (d0 : Dev nD) : Fin 3 → Nat :=
  let c0_i32_846 : BitVec 32 := 0#32
  let c256_i32_841 : BitVec 32 := 256#32
  let c224_i32_840 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1171 : BitVec 32 := Scalar.muli c224_i32_840 v1161
  let v1172 : BitVec 32 := Scalar.addi c256_i32_841 v1171
  let c0_i32_1093 : BitVec 32 := 0#32
  ![0, v1172.toNat, 0]
def k0_cond239 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1189 : BitVec 1 := Scalar.cmpi .sle v1162 v8
  let v1190 : BitVec 1 := Scalar.andi v1168 v1189
  let c3_i32_852 : BitVec 32 := 3#32
  let v1191 : BitVec 1 := Scalar.cmpi .slt v8 c3_i32_852
  let v1192 : BitVec 1 := Scalar.andi v1190 v1191
  let v1193 : BitVec 32 := Scalar.extui v1192
  let c0_i32_854 : BitVec 32 := 0#32
  let v1194 : BitVec 1 := Scalar.cmpi .ne v1193 c0_i32_854
  v1194

def k0_off482 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_1090 : BitVec 32 := 0#32
  ![v1162.toNat, 0]
def k0_off483 (d0 : Dev nD) : Fin 3 → Nat :=
  let c0_i32_853 : BitVec 32 := 0#32
  let c1152_i32_851 : BitVec 32 := 1152#32
  let c224_i32_850 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1187 : BitVec 32 := Scalar.muli c224_i32_850 v1162
  let v1188 : BitVec 32 := Scalar.addi c1152_i32_851 v1187
  let c0_i32_1093 : BitVec 32 := 0#32
  ![0, v1188.toNat, 0]
def k0_cond240 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1195 : BitVec 1 := Scalar.cmpi .sge v1162 v8
  let v1196 : BitVec 1 := Scalar.andi v1168 v1195
  let c0_i32_855 : BitVec 32 := 0#32
  let v1197 : BitVec 1 := Scalar.cmpi .sgt v8 c0_i32_855
  let v1198 : BitVec 1 := Scalar.andi v1196 v1197
  let v1199 : BitVec 32 := Scalar.extui v1198
  let c0_i32_857 : BitVec 32 := 0#32
  let v1200 : BitVec 1 := Scalar.cmpi .ne v1199 c0_i32_857
  v1200

def k0_off484 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_1090 : BitVec 32 := 0#32
  ![v1162.toNat, 0]
def k0_off485 (d0 : Dev nD) : Fin 3 → Nat :=
  let c0_i32_856 : BitVec 32 := 0#32
  let c1152_i32_851 : BitVec 32 := 1152#32
  let c224_i32_850 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1187 : BitVec 32 := Scalar.muli c224_i32_850 v1162
  let v1188 : BitVec 32 := Scalar.addi c1152_i32_851 v1187
  let c0_i32_1093 : BitVec 32 := 0#32
  ![0, v1188.toNat, 0]
def k0_cond241 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1205 : BitVec 1 := Scalar.cmpi .sle v1161 v5
  let v1206 : BitVec 1 := Scalar.andi v1165 v1205
  let c3_i32_862 : BitVec 32 := 3#32
  let v1207 : BitVec 1 := Scalar.cmpi .slt v5 c3_i32_862
  let v1208 : BitVec 1 := Scalar.andi v1206 v1207
  let v1209 : BitVec 32 := Scalar.extui v1208
  let c0_i32_864 : BitVec 32 := 0#32
  let v1210 : BitVec 1 := Scalar.cmpi .ne v1209 c0_i32_864
  v1210

def k0_off486 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c1_i32_1090 : BitVec 32 := 1#32
  ![v1161.toNat, 1]
def k0_off487 (d0 : Dev nD) : Fin 3 → Nat :=
  let c0_i32_863 : BitVec 32 := 0#32
  let c256_i32_861 : BitVec 32 := 256#32
  let c224_i32_860 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1203 : BitVec 32 := Scalar.muli c224_i32_860 v1161
  let v1204 : BitVec 32 := Scalar.addi c256_i32_861 v1203
  let c256_i32_1093 : BitVec 32 := 256#32
  ![0, v1204.toNat, 256]
def k0_cond242 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1211 : BitVec 1 := Scalar.cmpi .sge v1161 v5
  let v1212 : BitVec 1 := Scalar.andi v1165 v1211
  let c0_i32_865 : BitVec 32 := 0#32
  let v1213 : BitVec 1 := Scalar.cmpi .sgt v5 c0_i32_865
  let v1214 : BitVec 1 := Scalar.andi v1212 v1213
  let v1215 : BitVec 32 := Scalar.extui v1214
  let c0_i32_867 : BitVec 32 := 0#32
  let v1216 : BitVec 1 := Scalar.cmpi .ne v1215 c0_i32_867
  v1216

def k0_off488 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c1_i32_1090 : BitVec 32 := 1#32
  ![v1161.toNat, 1]
def k0_off489 (d0 : Dev nD) : Fin 3 → Nat :=
  let c0_i32_866 : BitVec 32 := 0#32
  let c256_i32_861 : BitVec 32 := 256#32
  let c224_i32_860 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1203 : BitVec 32 := Scalar.muli c224_i32_860 v1161
  let v1204 : BitVec 32 := Scalar.addi c256_i32_861 v1203
  let c256_i32_1093 : BitVec 32 := 256#32
  ![0, v1204.toNat, 256]
def k0_cond243 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1221 : BitVec 1 := Scalar.cmpi .sle v1162 v8
  let v1222 : BitVec 1 := Scalar.andi v1168 v1221
  let c3_i32_872 : BitVec 32 := 3#32
  let v1223 : BitVec 1 := Scalar.cmpi .slt v8 c3_i32_872
  let v1224 : BitVec 1 := Scalar.andi v1222 v1223
  let v1225 : BitVec 32 := Scalar.extui v1224
  let c0_i32_874 : BitVec 32 := 0#32
  let v1226 : BitVec 1 := Scalar.cmpi .ne v1225 c0_i32_874
  v1226

def k0_off490 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c1_i32_1090 : BitVec 32 := 1#32
  ![v1162.toNat, 1]
def k0_off491 (d0 : Dev nD) : Fin 3 → Nat :=
  let c0_i32_873 : BitVec 32 := 0#32
  let c1152_i32_871 : BitVec 32 := 1152#32
  let c224_i32_870 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1219 : BitVec 32 := Scalar.muli c224_i32_870 v1162
  let v1220 : BitVec 32 := Scalar.addi c1152_i32_871 v1219
  let c256_i32_1093 : BitVec 32 := 256#32
  ![0, v1220.toNat, 256]
def k0_cond244 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1227 : BitVec 1 := Scalar.cmpi .sge v1162 v8
  let v1228 : BitVec 1 := Scalar.andi v1168 v1227
  let c0_i32_875 : BitVec 32 := 0#32
  let v1229 : BitVec 1 := Scalar.cmpi .sgt v8 c0_i32_875
  let v1230 : BitVec 1 := Scalar.andi v1228 v1229
  let v1231 : BitVec 32 := Scalar.extui v1230
  let c0_i32_877 : BitVec 32 := 0#32
  let v1232 : BitVec 1 := Scalar.cmpi .ne v1231 c0_i32_877
  v1232

def k0_off492 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c1_i32_1090 : BitVec 32 := 1#32
  ![v1162.toNat, 1]
def k0_off493 (d0 : Dev nD) : Fin 3 → Nat :=
  let c0_i32_876 : BitVec 32 := 0#32
  let c1152_i32_871 : BitVec 32 := 1152#32
  let c224_i32_870 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1219 : BitVec 32 := Scalar.muli c224_i32_870 v1162
  let v1220 : BitVec 32 := Scalar.addi c1152_i32_871 v1219
  let c256_i32_1093 : BitVec 32 := 256#32
  ![0, v1220.toNat, 256]
def k0_cond245 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1237 : BitVec 1 := Scalar.cmpi .sle v1161 v5
  let v1238 : BitVec 1 := Scalar.andi v1165 v1237
  let c3_i32_882 : BitVec 32 := 3#32
  let v1239 : BitVec 1 := Scalar.cmpi .slt v5 c3_i32_882
  let v1240 : BitVec 1 := Scalar.andi v1238 v1239
  let v1241 : BitVec 32 := Scalar.extui v1240
  let c0_i32_884 : BitVec 32 := 0#32
  let v1242 : BitVec 1 := Scalar.cmpi .ne v1241 c0_i32_884
  v1242

def k0_off494 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c2_i32_1090 : BitVec 32 := 2#32
  ![v1161.toNat, 2]
def k0_off495 (d0 : Dev nD) : Fin 3 → Nat :=
  let c0_i32_883 : BitVec 32 := 0#32
  let c256_i32_881 : BitVec 32 := 256#32
  let c224_i32_880 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1235 : BitVec 32 := Scalar.muli c224_i32_880 v1161
  let v1236 : BitVec 32 := Scalar.addi c256_i32_881 v1235
  let c512_i32_1093 : BitVec 32 := 512#32
  ![0, v1236.toNat, 512]
def k0_cond246 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1243 : BitVec 1 := Scalar.cmpi .sge v1161 v5
  let v1244 : BitVec 1 := Scalar.andi v1165 v1243
  let c0_i32_885 : BitVec 32 := 0#32
  let v1245 : BitVec 1 := Scalar.cmpi .sgt v5 c0_i32_885
  let v1246 : BitVec 1 := Scalar.andi v1244 v1245
  let v1247 : BitVec 32 := Scalar.extui v1246
  let c0_i32_887 : BitVec 32 := 0#32
  let v1248 : BitVec 1 := Scalar.cmpi .ne v1247 c0_i32_887
  v1248

def k0_off496 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c2_i32_1090 : BitVec 32 := 2#32
  ![v1161.toNat, 2]
def k0_off497 (d0 : Dev nD) : Fin 3 → Nat :=
  let c0_i32_886 : BitVec 32 := 0#32
  let c256_i32_881 : BitVec 32 := 256#32
  let c224_i32_880 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1235 : BitVec 32 := Scalar.muli c224_i32_880 v1161
  let v1236 : BitVec 32 := Scalar.addi c256_i32_881 v1235
  let c512_i32_1093 : BitVec 32 := 512#32
  ![0, v1236.toNat, 512]
def k0_cond247 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1253 : BitVec 1 := Scalar.cmpi .sle v1162 v8
  let v1254 : BitVec 1 := Scalar.andi v1168 v1253
  let c3_i32_892 : BitVec 32 := 3#32
  let v1255 : BitVec 1 := Scalar.cmpi .slt v8 c3_i32_892
  let v1256 : BitVec 1 := Scalar.andi v1254 v1255
  let v1257 : BitVec 32 := Scalar.extui v1256
  let c0_i32_894 : BitVec 32 := 0#32
  let v1258 : BitVec 1 := Scalar.cmpi .ne v1257 c0_i32_894
  v1258

def k0_off498 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c2_i32_1090 : BitVec 32 := 2#32
  ![v1162.toNat, 2]
def k0_off499 (d0 : Dev nD) : Fin 3 → Nat :=
  let c0_i32_893 : BitVec 32 := 0#32
  let c1152_i32_891 : BitVec 32 := 1152#32
  let c224_i32_890 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1251 : BitVec 32 := Scalar.muli c224_i32_890 v1162
  let v1252 : BitVec 32 := Scalar.addi c1152_i32_891 v1251
  let c512_i32_1093 : BitVec 32 := 512#32
  ![0, v1252.toNat, 512]
def k0_cond248 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1259 : BitVec 1 := Scalar.cmpi .sge v1162 v8
  let v1260 : BitVec 1 := Scalar.andi v1168 v1259
  let c0_i32_895 : BitVec 32 := 0#32
  let v1261 : BitVec 1 := Scalar.cmpi .sgt v8 c0_i32_895
  let v1262 : BitVec 1 := Scalar.andi v1260 v1261
  let v1263 : BitVec 32 := Scalar.extui v1262
  let c0_i32_897 : BitVec 32 := 0#32
  let v1264 : BitVec 1 := Scalar.cmpi .ne v1263 c0_i32_897
  v1264

def k0_off500 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c2_i32_1090 : BitVec 32 := 2#32
  ![v1162.toNat, 2]
def k0_off501 (d0 : Dev nD) : Fin 3 → Nat :=
  let c0_i32_896 : BitVec 32 := 0#32
  let c1152_i32_891 : BitVec 32 := 1152#32
  let c224_i32_890 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1251 : BitVec 32 := Scalar.muli c224_i32_890 v1162
  let v1252 : BitVec 32 := Scalar.addi c1152_i32_891 v1251
  let c512_i32_1093 : BitVec 32 := 512#32
  ![0, v1252.toNat, 512]
def k0_cond249 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1269 : BitVec 1 := Scalar.cmpi .sle v1161 v5
  let v1270 : BitVec 1 := Scalar.andi v1165 v1269
  let c3_i32_902 : BitVec 32 := 3#32
  let v1271 : BitVec 1 := Scalar.cmpi .slt v5 c3_i32_902
  let v1272 : BitVec 1 := Scalar.andi v1270 v1271
  let v1273 : BitVec 32 := Scalar.extui v1272
  let c0_i32_904 : BitVec 32 := 0#32
  let v1274 : BitVec 1 := Scalar.cmpi .ne v1273 c0_i32_904
  v1274

def k0_off502 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c3_i32_1090 : BitVec 32 := 3#32
  ![v1161.toNat, 3]
def k0_off503 (d0 : Dev nD) : Fin 3 → Nat :=
  let c0_i32_903 : BitVec 32 := 0#32
  let c256_i32_901 : BitVec 32 := 256#32
  let c224_i32_900 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1267 : BitVec 32 := Scalar.muli c224_i32_900 v1161
  let v1268 : BitVec 32 := Scalar.addi c256_i32_901 v1267
  let c768_i32_1093 : BitVec 32 := 768#32
  ![0, v1268.toNat, 768]
def k0_cond250 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c0_i32_834 : BitVec 32 := 0#32
  let v1163 : BitVec 1 := Scalar.cmpi .sge v1161 c0_i32_834
  let c3_i32_835 : BitVec 32 := 3#32
  let v1164 : BitVec 1 := Scalar.cmpi .sle v1161 c3_i32_835
  let v1165 : BitVec 1 := Scalar.andi v1163 v1164
  let v1275 : BitVec 1 := Scalar.cmpi .sge v1161 v5
  let v1276 : BitVec 1 := Scalar.andi v1165 v1275
  let c0_i32_905 : BitVec 32 := 0#32
  let v1277 : BitVec 1 := Scalar.cmpi .sgt v5 c0_i32_905
  let v1278 : BitVec 1 := Scalar.andi v1276 v1277
  let v1279 : BitVec 32 := Scalar.extui v1278
  let c0_i32_907 : BitVec 32 := 0#32
  let v1280 : BitVec 1 := Scalar.cmpi .ne v1279 c0_i32_907
  v1280

def k0_off504 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let c3_i32_1090 : BitVec 32 := 3#32
  ![v1161.toNat, 3]
def k0_off505 (d0 : Dev nD) : Fin 3 → Nat :=
  let c0_i32_906 : BitVec 32 := 0#32
  let c256_i32_901 : BitVec 32 := 256#32
  let c224_i32_900 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_832 : BitVec 32 := 4294967294#32
  let v1161 : BitVec 32 := Scalar.addi v5 c_m2_i32_832
  let v1267 : BitVec 32 := Scalar.muli c224_i32_900 v1161
  let v1268 : BitVec 32 := Scalar.addi c256_i32_901 v1267
  let c768_i32_1093 : BitVec 32 := 768#32
  ![0, v1268.toNat, 768]
def k0_cond251 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1285 : BitVec 1 := Scalar.cmpi .sle v1162 v8
  let v1286 : BitVec 1 := Scalar.andi v1168 v1285
  let c3_i32_912 : BitVec 32 := 3#32
  let v1287 : BitVec 1 := Scalar.cmpi .slt v8 c3_i32_912
  let v1288 : BitVec 1 := Scalar.andi v1286 v1287
  let v1289 : BitVec 32 := Scalar.extui v1288
  let c0_i32_914 : BitVec 32 := 0#32
  let v1290 : BitVec 1 := Scalar.cmpi .ne v1289 c0_i32_914
  v1290

def k0_off506 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c3_i32_1090 : BitVec 32 := 3#32
  ![v1162.toNat, 3]
def k0_off507 (d0 : Dev nD) : Fin 3 → Nat :=
  let c0_i32_913 : BitVec 32 := 0#32
  let c1152_i32_911 : BitVec 32 := 1152#32
  let c224_i32_910 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1283 : BitVec 32 := Scalar.muli c224_i32_910 v1162
  let v1284 : BitVec 32 := Scalar.addi c1152_i32_911 v1283
  let c768_i32_1093 : BitVec 32 := 768#32
  ![0, v1284.toNat, 768]
def k0_cond252 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c0_i32_836 : BitVec 32 := 0#32
  let v1166 : BitVec 1 := Scalar.cmpi .sge v1162 c0_i32_836
  let c3_i32_837 : BitVec 32 := 3#32
  let v1167 : BitVec 1 := Scalar.cmpi .sle v1162 c3_i32_837
  let v1168 : BitVec 1 := Scalar.andi v1166 v1167
  let v1291 : BitVec 1 := Scalar.cmpi .sge v1162 v8
  let v1292 : BitVec 1 := Scalar.andi v1168 v1291
  let c0_i32_915 : BitVec 32 := 0#32
  let v1293 : BitVec 1 := Scalar.cmpi .sgt v8 c0_i32_915
  let v1294 : BitVec 1 := Scalar.andi v1292 v1293
  let v1295 : BitVec 32 := Scalar.extui v1294
  let c0_i32_917 : BitVec 32 := 0#32
  let v1296 : BitVec 1 := Scalar.cmpi .ne v1295 c0_i32_917
  v1296

def k0_off508 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let c3_i32_1090 : BitVec 32 := 3#32
  ![v1162.toNat, 3]
def k0_off509 (d0 : Dev nD) : Fin 3 → Nat :=
  let c0_i32_916 : BitVec 32 := 0#32
  let c1152_i32_911 : BitVec 32 := 1152#32
  let c224_i32_910 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32_833 : BitVec 32 := 4294967294#32
  let v1162 : BitVec 32 := Scalar.addi v8 c_m2_i32_833
  let v1283 : BitVec 32 := Scalar.muli c224_i32_910 v1162
  let v1284 : BitVec 32 := Scalar.addi c1152_i32_911 v1283
  let c768_i32_1093 : BitVec 32 := 768#32
  ![0, v1284.toNat, 768]
def k0_cond253 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1309 : BitVec 1 := Scalar.cmpi .sle v1297 v5
  let v1310 : BitVec 1 := Scalar.andi v1301 v1309
  let c3_i32_928 : BitVec 32 := 3#32
  let v1311 : BitVec 1 := Scalar.cmpi .slt v5 c3_i32_928
  let v1312 : BitVec 1 := Scalar.andi v1310 v1311
  let v1313 : BitVec 32 := Scalar.extui v1312
  let c0_i32_930 : BitVec 32 := 0#32
  let v1314 : BitVec 1 := Scalar.cmpi .ne v1313 c0_i32_930
  v1314

def k0_off510 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_1090 : BitVec 32 := 0#32
  ![v1297.toNat, 0]
def k0_off511 (d0 : Dev nD) : Fin 3 → Nat :=
  let c0_i32_929 : BitVec 32 := 0#32
  let c256_i32_927 : BitVec 32 := 256#32
  let c224_i32_926 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1307 : BitVec 32 := Scalar.muli c224_i32_926 v1297
  let v1308 : BitVec 32 := Scalar.addi c256_i32_927 v1307
  let c0_i32_1093 : BitVec 32 := 0#32
  ![0, v1308.toNat, 0]
def k0_cond254 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1315 : BitVec 1 := Scalar.cmpi .sge v1297 v5
  let v1316 : BitVec 1 := Scalar.andi v1301 v1315
  let c0_i32_931 : BitVec 32 := 0#32
  let v1317 : BitVec 1 := Scalar.cmpi .sgt v5 c0_i32_931
  let v1318 : BitVec 1 := Scalar.andi v1316 v1317
  let v1319 : BitVec 32 := Scalar.extui v1318
  let c0_i32_933 : BitVec 32 := 0#32
  let v1320 : BitVec 1 := Scalar.cmpi .ne v1319 c0_i32_933
  v1320

def k0_off512 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_1090 : BitVec 32 := 0#32
  ![v1297.toNat, 0]
def k0_off513 (d0 : Dev nD) : Fin 3 → Nat :=
  let c0_i32_932 : BitVec 32 := 0#32
  let c256_i32_927 : BitVec 32 := 256#32
  let c224_i32_926 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1307 : BitVec 32 := Scalar.muli c224_i32_926 v1297
  let v1308 : BitVec 32 := Scalar.addi c256_i32_927 v1307
  let c0_i32_1093 : BitVec 32 := 0#32
  ![0, v1308.toNat, 0]
def k0_cond255 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1325 : BitVec 1 := Scalar.cmpi .sle v1298 v8
  let v1326 : BitVec 1 := Scalar.andi v1304 v1325
  let c3_i32_938 : BitVec 32 := 3#32
  let v1327 : BitVec 1 := Scalar.cmpi .slt v8 c3_i32_938
  let v1328 : BitVec 1 := Scalar.andi v1326 v1327
  let v1329 : BitVec 32 := Scalar.extui v1328
  let c0_i32_940 : BitVec 32 := 0#32
  let v1330 : BitVec 1 := Scalar.cmpi .ne v1329 c0_i32_940
  v1330

def k0_off514 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_1090 : BitVec 32 := 0#32
  ![v1298.toNat, 0]
def k0_off515 (d0 : Dev nD) : Fin 3 → Nat :=
  let c0_i32_939 : BitVec 32 := 0#32
  let c1152_i32_937 : BitVec 32 := 1152#32
  let c224_i32_936 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1323 : BitVec 32 := Scalar.muli c224_i32_936 v1298
  let v1324 : BitVec 32 := Scalar.addi c1152_i32_937 v1323
  let c0_i32_1093 : BitVec 32 := 0#32
  ![0, v1324.toNat, 0]
def k0_cond256 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1331 : BitVec 1 := Scalar.cmpi .sge v1298 v8
  let v1332 : BitVec 1 := Scalar.andi v1304 v1331
  let c0_i32_941 : BitVec 32 := 0#32
  let v1333 : BitVec 1 := Scalar.cmpi .sgt v8 c0_i32_941
  let v1334 : BitVec 1 := Scalar.andi v1332 v1333
  let v1335 : BitVec 32 := Scalar.extui v1334
  let c0_i32_943 : BitVec 32 := 0#32
  let v1336 : BitVec 1 := Scalar.cmpi .ne v1335 c0_i32_943
  v1336

def k0_off516 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_1090 : BitVec 32 := 0#32
  ![v1298.toNat, 0]
def k0_off517 (d0 : Dev nD) : Fin 3 → Nat :=
  let c0_i32_942 : BitVec 32 := 0#32
  let c1152_i32_937 : BitVec 32 := 1152#32
  let c224_i32_936 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1323 : BitVec 32 := Scalar.muli c224_i32_936 v1298
  let v1324 : BitVec 32 := Scalar.addi c1152_i32_937 v1323
  let c0_i32_1093 : BitVec 32 := 0#32
  ![0, v1324.toNat, 0]
def k0_cond257 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1341 : BitVec 1 := Scalar.cmpi .sle v1297 v5
  let v1342 : BitVec 1 := Scalar.andi v1301 v1341
  let c3_i32_948 : BitVec 32 := 3#32
  let v1343 : BitVec 1 := Scalar.cmpi .slt v5 c3_i32_948
  let v1344 : BitVec 1 := Scalar.andi v1342 v1343
  let v1345 : BitVec 32 := Scalar.extui v1344
  let c0_i32_950 : BitVec 32 := 0#32
  let v1346 : BitVec 1 := Scalar.cmpi .ne v1345 c0_i32_950
  v1346

def k0_off518 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c1_i32_1090 : BitVec 32 := 1#32
  ![v1297.toNat, 1]
def k0_off519 (d0 : Dev nD) : Fin 3 → Nat :=
  let c0_i32_949 : BitVec 32 := 0#32
  let c256_i32_947 : BitVec 32 := 256#32
  let c224_i32_946 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1339 : BitVec 32 := Scalar.muli c224_i32_946 v1297
  let v1340 : BitVec 32 := Scalar.addi c256_i32_947 v1339
  let c256_i32_1093 : BitVec 32 := 256#32
  ![0, v1340.toNat, 256]
def k0_cond258 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1347 : BitVec 1 := Scalar.cmpi .sge v1297 v5
  let v1348 : BitVec 1 := Scalar.andi v1301 v1347
  let c0_i32_951 : BitVec 32 := 0#32
  let v1349 : BitVec 1 := Scalar.cmpi .sgt v5 c0_i32_951
  let v1350 : BitVec 1 := Scalar.andi v1348 v1349
  let v1351 : BitVec 32 := Scalar.extui v1350
  let c0_i32_953 : BitVec 32 := 0#32
  let v1352 : BitVec 1 := Scalar.cmpi .ne v1351 c0_i32_953
  v1352

def k0_off520 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c1_i32_1090 : BitVec 32 := 1#32
  ![v1297.toNat, 1]
def k0_off521 (d0 : Dev nD) : Fin 3 → Nat :=
  let c0_i32_952 : BitVec 32 := 0#32
  let c256_i32_947 : BitVec 32 := 256#32
  let c224_i32_946 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1339 : BitVec 32 := Scalar.muli c224_i32_946 v1297
  let v1340 : BitVec 32 := Scalar.addi c256_i32_947 v1339
  let c256_i32_1093 : BitVec 32 := 256#32
  ![0, v1340.toNat, 256]
def k0_cond259 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1357 : BitVec 1 := Scalar.cmpi .sle v1298 v8
  let v1358 : BitVec 1 := Scalar.andi v1304 v1357
  let c3_i32_958 : BitVec 32 := 3#32
  let v1359 : BitVec 1 := Scalar.cmpi .slt v8 c3_i32_958
  let v1360 : BitVec 1 := Scalar.andi v1358 v1359
  let v1361 : BitVec 32 := Scalar.extui v1360
  let c0_i32_960 : BitVec 32 := 0#32
  let v1362 : BitVec 1 := Scalar.cmpi .ne v1361 c0_i32_960
  v1362

def k0_off522 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c1_i32_1090 : BitVec 32 := 1#32
  ![v1298.toNat, 1]
def k0_off523 (d0 : Dev nD) : Fin 3 → Nat :=
  let c0_i32_959 : BitVec 32 := 0#32
  let c1152_i32_957 : BitVec 32 := 1152#32
  let c224_i32_956 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1355 : BitVec 32 := Scalar.muli c224_i32_956 v1298
  let v1356 : BitVec 32 := Scalar.addi c1152_i32_957 v1355
  let c256_i32_1093 : BitVec 32 := 256#32
  ![0, v1356.toNat, 256]
def k0_cond260 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1363 : BitVec 1 := Scalar.cmpi .sge v1298 v8
  let v1364 : BitVec 1 := Scalar.andi v1304 v1363
  let c0_i32_961 : BitVec 32 := 0#32
  let v1365 : BitVec 1 := Scalar.cmpi .sgt v8 c0_i32_961
  let v1366 : BitVec 1 := Scalar.andi v1364 v1365
  let v1367 : BitVec 32 := Scalar.extui v1366
  let c0_i32_963 : BitVec 32 := 0#32
  let v1368 : BitVec 1 := Scalar.cmpi .ne v1367 c0_i32_963
  v1368

def k0_off524 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c1_i32_1090 : BitVec 32 := 1#32
  ![v1298.toNat, 1]
def k0_off525 (d0 : Dev nD) : Fin 3 → Nat :=
  let c0_i32_962 : BitVec 32 := 0#32
  let c1152_i32_957 : BitVec 32 := 1152#32
  let c224_i32_956 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1355 : BitVec 32 := Scalar.muli c224_i32_956 v1298
  let v1356 : BitVec 32 := Scalar.addi c1152_i32_957 v1355
  let c256_i32_1093 : BitVec 32 := 256#32
  ![0, v1356.toNat, 256]
def k0_cond261 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1373 : BitVec 1 := Scalar.cmpi .sle v1297 v5
  let v1374 : BitVec 1 := Scalar.andi v1301 v1373
  let c3_i32_968 : BitVec 32 := 3#32
  let v1375 : BitVec 1 := Scalar.cmpi .slt v5 c3_i32_968
  let v1376 : BitVec 1 := Scalar.andi v1374 v1375
  let v1377 : BitVec 32 := Scalar.extui v1376
  let c0_i32_970 : BitVec 32 := 0#32
  let v1378 : BitVec 1 := Scalar.cmpi .ne v1377 c0_i32_970
  v1378

def k0_off526 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c2_i32_1090 : BitVec 32 := 2#32
  ![v1297.toNat, 2]
def k0_off527 (d0 : Dev nD) : Fin 3 → Nat :=
  let c0_i32_969 : BitVec 32 := 0#32
  let c256_i32_967 : BitVec 32 := 256#32
  let c224_i32_966 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1371 : BitVec 32 := Scalar.muli c224_i32_966 v1297
  let v1372 : BitVec 32 := Scalar.addi c256_i32_967 v1371
  let c512_i32_1093 : BitVec 32 := 512#32
  ![0, v1372.toNat, 512]
def k0_cond262 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1379 : BitVec 1 := Scalar.cmpi .sge v1297 v5
  let v1380 : BitVec 1 := Scalar.andi v1301 v1379
  let c0_i32_971 : BitVec 32 := 0#32
  let v1381 : BitVec 1 := Scalar.cmpi .sgt v5 c0_i32_971
  let v1382 : BitVec 1 := Scalar.andi v1380 v1381
  let v1383 : BitVec 32 := Scalar.extui v1382
  let c0_i32_973 : BitVec 32 := 0#32
  let v1384 : BitVec 1 := Scalar.cmpi .ne v1383 c0_i32_973
  v1384

def k0_off528 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c2_i32_1090 : BitVec 32 := 2#32
  ![v1297.toNat, 2]
def k0_off529 (d0 : Dev nD) : Fin 3 → Nat :=
  let c0_i32_972 : BitVec 32 := 0#32
  let c256_i32_967 : BitVec 32 := 256#32
  let c224_i32_966 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1371 : BitVec 32 := Scalar.muli c224_i32_966 v1297
  let v1372 : BitVec 32 := Scalar.addi c256_i32_967 v1371
  let c512_i32_1093 : BitVec 32 := 512#32
  ![0, v1372.toNat, 512]
def k0_cond263 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1389 : BitVec 1 := Scalar.cmpi .sle v1298 v8
  let v1390 : BitVec 1 := Scalar.andi v1304 v1389
  let c3_i32_978 : BitVec 32 := 3#32
  let v1391 : BitVec 1 := Scalar.cmpi .slt v8 c3_i32_978
  let v1392 : BitVec 1 := Scalar.andi v1390 v1391
  let v1393 : BitVec 32 := Scalar.extui v1392
  let c0_i32_980 : BitVec 32 := 0#32
  let v1394 : BitVec 1 := Scalar.cmpi .ne v1393 c0_i32_980
  v1394

def k0_off530 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c2_i32_1090 : BitVec 32 := 2#32
  ![v1298.toNat, 2]
def k0_off531 (d0 : Dev nD) : Fin 3 → Nat :=
  let c0_i32_979 : BitVec 32 := 0#32
  let c1152_i32_977 : BitVec 32 := 1152#32
  let c224_i32_976 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1387 : BitVec 32 := Scalar.muli c224_i32_976 v1298
  let v1388 : BitVec 32 := Scalar.addi c1152_i32_977 v1387
  let c512_i32_1093 : BitVec 32 := 512#32
  ![0, v1388.toNat, 512]
def k0_cond264 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1395 : BitVec 1 := Scalar.cmpi .sge v1298 v8
  let v1396 : BitVec 1 := Scalar.andi v1304 v1395
  let c0_i32_981 : BitVec 32 := 0#32
  let v1397 : BitVec 1 := Scalar.cmpi .sgt v8 c0_i32_981
  let v1398 : BitVec 1 := Scalar.andi v1396 v1397
  let v1399 : BitVec 32 := Scalar.extui v1398
  let c0_i32_983 : BitVec 32 := 0#32
  let v1400 : BitVec 1 := Scalar.cmpi .ne v1399 c0_i32_983
  v1400

def k0_off532 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c2_i32_1090 : BitVec 32 := 2#32
  ![v1298.toNat, 2]
def k0_off533 (d0 : Dev nD) : Fin 3 → Nat :=
  let c0_i32_982 : BitVec 32 := 0#32
  let c1152_i32_977 : BitVec 32 := 1152#32
  let c224_i32_976 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1387 : BitVec 32 := Scalar.muli c224_i32_976 v1298
  let v1388 : BitVec 32 := Scalar.addi c1152_i32_977 v1387
  let c512_i32_1093 : BitVec 32 := 512#32
  ![0, v1388.toNat, 512]
def k0_cond265 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1405 : BitVec 1 := Scalar.cmpi .sle v1297 v5
  let v1406 : BitVec 1 := Scalar.andi v1301 v1405
  let c3_i32_988 : BitVec 32 := 3#32
  let v1407 : BitVec 1 := Scalar.cmpi .slt v5 c3_i32_988
  let v1408 : BitVec 1 := Scalar.andi v1406 v1407
  let v1409 : BitVec 32 := Scalar.extui v1408
  let c0_i32_990 : BitVec 32 := 0#32
  let v1410 : BitVec 1 := Scalar.cmpi .ne v1409 c0_i32_990
  v1410

def k0_off534 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c3_i32_1090 : BitVec 32 := 3#32
  ![v1297.toNat, 3]
def k0_off535 (d0 : Dev nD) : Fin 3 → Nat :=
  let c0_i32_989 : BitVec 32 := 0#32
  let c256_i32_987 : BitVec 32 := 256#32
  let c224_i32_986 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1403 : BitVec 32 := Scalar.muli c224_i32_986 v1297
  let v1404 : BitVec 32 := Scalar.addi c256_i32_987 v1403
  let c768_i32_1093 : BitVec 32 := 768#32
  ![0, v1404.toNat, 768]
def k0_cond266 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c0_i32_920 : BitVec 32 := 0#32
  let v1299 : BitVec 1 := Scalar.cmpi .sge v1297 c0_i32_920
  let c3_i32_921 : BitVec 32 := 3#32
  let v1300 : BitVec 1 := Scalar.cmpi .sle v1297 c3_i32_921
  let v1301 : BitVec 1 := Scalar.andi v1299 v1300
  let v1411 : BitVec 1 := Scalar.cmpi .sge v1297 v5
  let v1412 : BitVec 1 := Scalar.andi v1301 v1411
  let c0_i32_991 : BitVec 32 := 0#32
  let v1413 : BitVec 1 := Scalar.cmpi .sgt v5 c0_i32_991
  let v1414 : BitVec 1 := Scalar.andi v1412 v1413
  let v1415 : BitVec 32 := Scalar.extui v1414
  let c0_i32_993 : BitVec 32 := 0#32
  let v1416 : BitVec 1 := Scalar.cmpi .ne v1415 c0_i32_993
  v1416

def k0_off536 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let c3_i32_1090 : BitVec 32 := 3#32
  ![v1297.toNat, 3]
def k0_off537 (d0 : Dev nD) : Fin 3 → Nat :=
  let c0_i32_992 : BitVec 32 := 0#32
  let c256_i32_987 : BitVec 32 := 256#32
  let c224_i32_986 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_918 : BitVec 32 := 3#32
  let v1297 : BitVec 32 := Scalar.addi v5 c3_i32_918
  let v1403 : BitVec 32 := Scalar.muli c224_i32_986 v1297
  let v1404 : BitVec 32 := Scalar.addi c256_i32_987 v1403
  let c768_i32_1093 : BitVec 32 := 768#32
  ![0, v1404.toNat, 768]
def k0_cond267 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1421 : BitVec 1 := Scalar.cmpi .sle v1298 v8
  let v1422 : BitVec 1 := Scalar.andi v1304 v1421
  let c3_i32_998 : BitVec 32 := 3#32
  let v1423 : BitVec 1 := Scalar.cmpi .slt v8 c3_i32_998
  let v1424 : BitVec 1 := Scalar.andi v1422 v1423
  let v1425 : BitVec 32 := Scalar.extui v1424
  let c0_i32_1000 : BitVec 32 := 0#32
  let v1426 : BitVec 1 := Scalar.cmpi .ne v1425 c0_i32_1000
  v1426

def k0_off538 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c3_i32_1090 : BitVec 32 := 3#32
  ![v1298.toNat, 3]
def k0_off539 (d0 : Dev nD) : Fin 3 → Nat :=
  let c0_i32_999 : BitVec 32 := 0#32
  let c1152_i32_997 : BitVec 32 := 1152#32
  let c224_i32_996 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1419 : BitVec 32 := Scalar.muli c224_i32_996 v1298
  let v1420 : BitVec 32 := Scalar.addi c1152_i32_997 v1419
  let c768_i32_1093 : BitVec 32 := 768#32
  ![0, v1420.toNat, 768]
def k0_cond268 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c0_i32_922 : BitVec 32 := 0#32
  let v1302 : BitVec 1 := Scalar.cmpi .sge v1298 c0_i32_922
  let c3_i32_923 : BitVec 32 := 3#32
  let v1303 : BitVec 1 := Scalar.cmpi .sle v1298 c3_i32_923
  let v1304 : BitVec 1 := Scalar.andi v1302 v1303
  let v1427 : BitVec 1 := Scalar.cmpi .sge v1298 v8
  let v1428 : BitVec 1 := Scalar.andi v1304 v1427
  let c0_i32_1001 : BitVec 32 := 0#32
  let v1429 : BitVec 1 := Scalar.cmpi .sgt v8 c0_i32_1001
  let v1430 : BitVec 1 := Scalar.andi v1428 v1429
  let v1431 : BitVec 32 := Scalar.extui v1430
  let c0_i32_1003 : BitVec 32 := 0#32
  let v1432 : BitVec 1 := Scalar.cmpi .ne v1431 c0_i32_1003
  v1432

def k0_off540 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let c3_i32_1090 : BitVec 32 := 3#32
  ![v1298.toNat, 3]
def k0_off541 (d0 : Dev nD) : Fin 3 → Nat :=
  let c0_i32_1002 : BitVec 32 := 0#32
  let c1152_i32_997 : BitVec 32 := 1152#32
  let c224_i32_996 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1298 : BitVec 32 := Scalar.addi v8 c3_i32_919
  let v1419 : BitVec 32 := Scalar.muli c224_i32_996 v1298
  let v1420 : BitVec 32 := Scalar.addi c1152_i32_997 v1419
  let c768_i32_1093 : BitVec 32 := 768#32
  ![0, v1420.toNat, 768]
def k0_cond269 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1445 : BitVec 1 := Scalar.cmpi .sle v1433 v5
  let v1446 : BitVec 1 := Scalar.andi v1437 v1445
  let c3_i32_1014 : BitVec 32 := 3#32
  let v1447 : BitVec 1 := Scalar.cmpi .slt v5 c3_i32_1014
  let v1448 : BitVec 1 := Scalar.andi v1446 v1447
  let v1449 : BitVec 32 := Scalar.extui v1448
  let c0_i32_1016 : BitVec 32 := 0#32
  let v1450 : BitVec 1 := Scalar.cmpi .ne v1449 c0_i32_1016
  v1450

def k0_off542 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1090 : BitVec 32 := 0#32
  ![v1433.toNat, 0]
def k0_off543 (d0 : Dev nD) : Fin 3 → Nat :=
  let c0_i32_1015 : BitVec 32 := 0#32
  let c256_i32_1013 : BitVec 32 := 256#32
  let c224_i32_1012 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1443 : BitVec 32 := Scalar.muli c224_i32_1012 v1433
  let v1444 : BitVec 32 := Scalar.addi c256_i32_1013 v1443
  let c0_i32_1093 : BitVec 32 := 0#32
  ![0, v1444.toNat, 0]
def k0_cond270 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1451 : BitVec 1 := Scalar.cmpi .sge v1433 v5
  let v1452 : BitVec 1 := Scalar.andi v1437 v1451
  let c0_i32_1017 : BitVec 32 := 0#32
  let v1453 : BitVec 1 := Scalar.cmpi .sgt v5 c0_i32_1017
  let v1454 : BitVec 1 := Scalar.andi v1452 v1453
  let v1455 : BitVec 32 := Scalar.extui v1454
  let c0_i32_1019 : BitVec 32 := 0#32
  let v1456 : BitVec 1 := Scalar.cmpi .ne v1455 c0_i32_1019
  v1456

def k0_off544 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1090 : BitVec 32 := 0#32
  ![v1433.toNat, 0]
def k0_off545 (d0 : Dev nD) : Fin 3 → Nat :=
  let c0_i32_1018 : BitVec 32 := 0#32
  let c256_i32_1013 : BitVec 32 := 256#32
  let c224_i32_1012 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1443 : BitVec 32 := Scalar.muli c224_i32_1012 v1433
  let v1444 : BitVec 32 := Scalar.addi c256_i32_1013 v1443
  let c0_i32_1093 : BitVec 32 := 0#32
  ![0, v1444.toNat, 0]
def k0_cond271 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1461 : BitVec 1 := Scalar.cmpi .sle v1434 v8
  let v1462 : BitVec 1 := Scalar.andi v1440 v1461
  let c3_i32_1024 : BitVec 32 := 3#32
  let v1463 : BitVec 1 := Scalar.cmpi .slt v8 c3_i32_1024
  let v1464 : BitVec 1 := Scalar.andi v1462 v1463
  let v1465 : BitVec 32 := Scalar.extui v1464
  let c0_i32_1026 : BitVec 32 := 0#32
  let v1466 : BitVec 1 := Scalar.cmpi .ne v1465 c0_i32_1026
  v1466

def k0_off546 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1090 : BitVec 32 := 0#32
  ![v1434.toNat, 0]
def k0_off547 (d0 : Dev nD) : Fin 3 → Nat :=
  let c0_i32_1025 : BitVec 32 := 0#32
  let c1152_i32_1023 : BitVec 32 := 1152#32
  let c224_i32_1022 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1459 : BitVec 32 := Scalar.muli c224_i32_1022 v1434
  let v1460 : BitVec 32 := Scalar.addi c1152_i32_1023 v1459
  let c0_i32_1093 : BitVec 32 := 0#32
  ![0, v1460.toNat, 0]
def k0_cond272 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1467 : BitVec 1 := Scalar.cmpi .sge v1434 v8
  let v1468 : BitVec 1 := Scalar.andi v1440 v1467
  let c0_i32_1027 : BitVec 32 := 0#32
  let v1469 : BitVec 1 := Scalar.cmpi .sgt v8 c0_i32_1027
  let v1470 : BitVec 1 := Scalar.andi v1468 v1469
  let v1471 : BitVec 32 := Scalar.extui v1470
  let c0_i32_1029 : BitVec 32 := 0#32
  let v1472 : BitVec 1 := Scalar.cmpi .ne v1471 c0_i32_1029
  v1472

def k0_off548 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1090 : BitVec 32 := 0#32
  ![v1434.toNat, 0]
def k0_off549 (d0 : Dev nD) : Fin 3 → Nat :=
  let c0_i32_1028 : BitVec 32 := 0#32
  let c1152_i32_1023 : BitVec 32 := 1152#32
  let c224_i32_1022 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1459 : BitVec 32 := Scalar.muli c224_i32_1022 v1434
  let v1460 : BitVec 32 := Scalar.addi c1152_i32_1023 v1459
  let c0_i32_1093 : BitVec 32 := 0#32
  ![0, v1460.toNat, 0]
def k0_cond273 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1477 : BitVec 1 := Scalar.cmpi .sle v1433 v5
  let v1478 : BitVec 1 := Scalar.andi v1437 v1477
  let c3_i32_1034 : BitVec 32 := 3#32
  let v1479 : BitVec 1 := Scalar.cmpi .slt v5 c3_i32_1034
  let v1480 : BitVec 1 := Scalar.andi v1478 v1479
  let v1481 : BitVec 32 := Scalar.extui v1480
  let c0_i32_1036 : BitVec 32 := 0#32
  let v1482 : BitVec 1 := Scalar.cmpi .ne v1481 c0_i32_1036
  v1482

def k0_off550 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c1_i32_1090 : BitVec 32 := 1#32
  ![v1433.toNat, 1]
def k0_off551 (d0 : Dev nD) : Fin 3 → Nat :=
  let c0_i32_1035 : BitVec 32 := 0#32
  let c256_i32_1033 : BitVec 32 := 256#32
  let c224_i32_1032 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1475 : BitVec 32 := Scalar.muli c224_i32_1032 v1433
  let v1476 : BitVec 32 := Scalar.addi c256_i32_1033 v1475
  let c256_i32_1093 : BitVec 32 := 256#32
  ![0, v1476.toNat, 256]
def k0_cond274 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1483 : BitVec 1 := Scalar.cmpi .sge v1433 v5
  let v1484 : BitVec 1 := Scalar.andi v1437 v1483
  let c0_i32_1037 : BitVec 32 := 0#32
  let v1485 : BitVec 1 := Scalar.cmpi .sgt v5 c0_i32_1037
  let v1486 : BitVec 1 := Scalar.andi v1484 v1485
  let v1487 : BitVec 32 := Scalar.extui v1486
  let c0_i32_1039 : BitVec 32 := 0#32
  let v1488 : BitVec 1 := Scalar.cmpi .ne v1487 c0_i32_1039
  v1488

def k0_off552 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c1_i32_1090 : BitVec 32 := 1#32
  ![v1433.toNat, 1]
def k0_off553 (d0 : Dev nD) : Fin 3 → Nat :=
  let c0_i32_1038 : BitVec 32 := 0#32
  let c256_i32_1033 : BitVec 32 := 256#32
  let c224_i32_1032 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1475 : BitVec 32 := Scalar.muli c224_i32_1032 v1433
  let v1476 : BitVec 32 := Scalar.addi c256_i32_1033 v1475
  let c256_i32_1093 : BitVec 32 := 256#32
  ![0, v1476.toNat, 256]
def k0_cond275 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1493 : BitVec 1 := Scalar.cmpi .sle v1434 v8
  let v1494 : BitVec 1 := Scalar.andi v1440 v1493
  let c3_i32_1044 : BitVec 32 := 3#32
  let v1495 : BitVec 1 := Scalar.cmpi .slt v8 c3_i32_1044
  let v1496 : BitVec 1 := Scalar.andi v1494 v1495
  let v1497 : BitVec 32 := Scalar.extui v1496
  let c0_i32_1046 : BitVec 32 := 0#32
  let v1498 : BitVec 1 := Scalar.cmpi .ne v1497 c0_i32_1046
  v1498

def k0_off554 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c1_i32_1090 : BitVec 32 := 1#32
  ![v1434.toNat, 1]
def k0_off555 (d0 : Dev nD) : Fin 3 → Nat :=
  let c0_i32_1045 : BitVec 32 := 0#32
  let c1152_i32_1043 : BitVec 32 := 1152#32
  let c224_i32_1042 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1491 : BitVec 32 := Scalar.muli c224_i32_1042 v1434
  let v1492 : BitVec 32 := Scalar.addi c1152_i32_1043 v1491
  let c256_i32_1093 : BitVec 32 := 256#32
  ![0, v1492.toNat, 256]
def k0_cond276 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1499 : BitVec 1 := Scalar.cmpi .sge v1434 v8
  let v1500 : BitVec 1 := Scalar.andi v1440 v1499
  let c0_i32_1047 : BitVec 32 := 0#32
  let v1501 : BitVec 1 := Scalar.cmpi .sgt v8 c0_i32_1047
  let v1502 : BitVec 1 := Scalar.andi v1500 v1501
  let v1503 : BitVec 32 := Scalar.extui v1502
  let c0_i32_1049 : BitVec 32 := 0#32
  let v1504 : BitVec 1 := Scalar.cmpi .ne v1503 c0_i32_1049
  v1504

def k0_off556 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c1_i32_1090 : BitVec 32 := 1#32
  ![v1434.toNat, 1]
def k0_off557 (d0 : Dev nD) : Fin 3 → Nat :=
  let c0_i32_1048 : BitVec 32 := 0#32
  let c1152_i32_1043 : BitVec 32 := 1152#32
  let c224_i32_1042 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1491 : BitVec 32 := Scalar.muli c224_i32_1042 v1434
  let v1492 : BitVec 32 := Scalar.addi c1152_i32_1043 v1491
  let c256_i32_1093 : BitVec 32 := 256#32
  ![0, v1492.toNat, 256]
def k0_cond277 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1509 : BitVec 1 := Scalar.cmpi .sle v1433 v5
  let v1510 : BitVec 1 := Scalar.andi v1437 v1509
  let c3_i32_1054 : BitVec 32 := 3#32
  let v1511 : BitVec 1 := Scalar.cmpi .slt v5 c3_i32_1054
  let v1512 : BitVec 1 := Scalar.andi v1510 v1511
  let v1513 : BitVec 32 := Scalar.extui v1512
  let c0_i32_1056 : BitVec 32 := 0#32
  let v1514 : BitVec 1 := Scalar.cmpi .ne v1513 c0_i32_1056
  v1514

def k0_off558 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c2_i32_1090 : BitVec 32 := 2#32
  ![v1433.toNat, 2]
def k0_off559 (d0 : Dev nD) : Fin 3 → Nat :=
  let c0_i32_1055 : BitVec 32 := 0#32
  let c256_i32_1053 : BitVec 32 := 256#32
  let c224_i32_1052 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1507 : BitVec 32 := Scalar.muli c224_i32_1052 v1433
  let v1508 : BitVec 32 := Scalar.addi c256_i32_1053 v1507
  let c512_i32_1093 : BitVec 32 := 512#32
  ![0, v1508.toNat, 512]
def k0_cond278 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1515 : BitVec 1 := Scalar.cmpi .sge v1433 v5
  let v1516 : BitVec 1 := Scalar.andi v1437 v1515
  let c0_i32_1057 : BitVec 32 := 0#32
  let v1517 : BitVec 1 := Scalar.cmpi .sgt v5 c0_i32_1057
  let v1518 : BitVec 1 := Scalar.andi v1516 v1517
  let v1519 : BitVec 32 := Scalar.extui v1518
  let c0_i32_1059 : BitVec 32 := 0#32
  let v1520 : BitVec 1 := Scalar.cmpi .ne v1519 c0_i32_1059
  v1520

def k0_off560 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c2_i32_1090 : BitVec 32 := 2#32
  ![v1433.toNat, 2]
def k0_off561 (d0 : Dev nD) : Fin 3 → Nat :=
  let c0_i32_1058 : BitVec 32 := 0#32
  let c256_i32_1053 : BitVec 32 := 256#32
  let c224_i32_1052 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1507 : BitVec 32 := Scalar.muli c224_i32_1052 v1433
  let v1508 : BitVec 32 := Scalar.addi c256_i32_1053 v1507
  let c512_i32_1093 : BitVec 32 := 512#32
  ![0, v1508.toNat, 512]
def k0_cond279 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1525 : BitVec 1 := Scalar.cmpi .sle v1434 v8
  let v1526 : BitVec 1 := Scalar.andi v1440 v1525
  let c3_i32_1064 : BitVec 32 := 3#32
  let v1527 : BitVec 1 := Scalar.cmpi .slt v8 c3_i32_1064
  let v1528 : BitVec 1 := Scalar.andi v1526 v1527
  let v1529 : BitVec 32 := Scalar.extui v1528
  let c0_i32_1066 : BitVec 32 := 0#32
  let v1530 : BitVec 1 := Scalar.cmpi .ne v1529 c0_i32_1066
  v1530

def k0_off562 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c2_i32_1090 : BitVec 32 := 2#32
  ![v1434.toNat, 2]
def k0_off563 (d0 : Dev nD) : Fin 3 → Nat :=
  let c0_i32_1065 : BitVec 32 := 0#32
  let c1152_i32_1063 : BitVec 32 := 1152#32
  let c224_i32_1062 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1523 : BitVec 32 := Scalar.muli c224_i32_1062 v1434
  let v1524 : BitVec 32 := Scalar.addi c1152_i32_1063 v1523
  let c512_i32_1093 : BitVec 32 := 512#32
  ![0, v1524.toNat, 512]
def k0_cond280 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1531 : BitVec 1 := Scalar.cmpi .sge v1434 v8
  let v1532 : BitVec 1 := Scalar.andi v1440 v1531
  let c0_i32_1067 : BitVec 32 := 0#32
  let v1533 : BitVec 1 := Scalar.cmpi .sgt v8 c0_i32_1067
  let v1534 : BitVec 1 := Scalar.andi v1532 v1533
  let v1535 : BitVec 32 := Scalar.extui v1534
  let c0_i32_1069 : BitVec 32 := 0#32
  let v1536 : BitVec 1 := Scalar.cmpi .ne v1535 c0_i32_1069
  v1536

def k0_off564 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c2_i32_1090 : BitVec 32 := 2#32
  ![v1434.toNat, 2]
def k0_off565 (d0 : Dev nD) : Fin 3 → Nat :=
  let c0_i32_1068 : BitVec 32 := 0#32
  let c1152_i32_1063 : BitVec 32 := 1152#32
  let c224_i32_1062 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1523 : BitVec 32 := Scalar.muli c224_i32_1062 v1434
  let v1524 : BitVec 32 := Scalar.addi c1152_i32_1063 v1523
  let c512_i32_1093 : BitVec 32 := 512#32
  ![0, v1524.toNat, 512]
def k0_cond281 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1541 : BitVec 1 := Scalar.cmpi .sle v1433 v5
  let v1542 : BitVec 1 := Scalar.andi v1437 v1541
  let c3_i32_1074 : BitVec 32 := 3#32
  let v1543 : BitVec 1 := Scalar.cmpi .slt v5 c3_i32_1074
  let v1544 : BitVec 1 := Scalar.andi v1542 v1543
  let v1545 : BitVec 32 := Scalar.extui v1544
  let c0_i32_1076 : BitVec 32 := 0#32
  let v1546 : BitVec 1 := Scalar.cmpi .ne v1545 c0_i32_1076
  v1546

def k0_off566 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c3_i32_1090 : BitVec 32 := 3#32
  ![v1433.toNat, 3]
def k0_off567 (d0 : Dev nD) : Fin 3 → Nat :=
  let c0_i32_1075 : BitVec 32 := 0#32
  let c256_i32_1073 : BitVec 32 := 256#32
  let c224_i32_1072 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1539 : BitVec 32 := Scalar.muli c224_i32_1072 v1433
  let v1540 : BitVec 32 := Scalar.addi c256_i32_1073 v1539
  let c768_i32_1093 : BitVec 32 := 768#32
  ![0, v1540.toNat, 768]
def k0_cond282 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c0_i32_1006 : BitVec 32 := 0#32
  let v1435 : BitVec 1 := Scalar.cmpi .sge v1433 c0_i32_1006
  let c3_i32_1007 : BitVec 32 := 3#32
  let v1436 : BitVec 1 := Scalar.cmpi .sle v1433 c3_i32_1007
  let v1437 : BitVec 1 := Scalar.andi v1435 v1436
  let v1547 : BitVec 1 := Scalar.cmpi .sge v1433 v5
  let v1548 : BitVec 1 := Scalar.andi v1437 v1547
  let c0_i32_1077 : BitVec 32 := 0#32
  let v1549 : BitVec 1 := Scalar.cmpi .sgt v5 c0_i32_1077
  let v1550 : BitVec 1 := Scalar.andi v1548 v1549
  let v1551 : BitVec 32 := Scalar.extui v1550
  let c0_i32_1079 : BitVec 32 := 0#32
  let v1552 : BitVec 1 := Scalar.cmpi .ne v1551 c0_i32_1079
  v1552

def k0_off568 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let c3_i32_1090 : BitVec 32 := 3#32
  ![v1433.toNat, 3]
def k0_off569 (d0 : Dev nD) : Fin 3 → Nat :=
  let c0_i32_1078 : BitVec 32 := 0#32
  let c256_i32_1073 : BitVec 32 := 256#32
  let c224_i32_1072 : BitVec 32 := 224#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32_1004 : BitVec 32 := 4294967293#32
  let v1433 : BitVec 32 := Scalar.addi v5 c_m3_i32_1004
  let v1539 : BitVec 32 := Scalar.muli c224_i32_1072 v1433
  let v1540 : BitVec 32 := Scalar.addi c256_i32_1073 v1539
  let c768_i32_1093 : BitVec 32 := 768#32
  ![0, v1540.toNat, 768]
def k0_cond283 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1557 : BitVec 1 := Scalar.cmpi .sle v1434 v8
  let v1558 : BitVec 1 := Scalar.andi v1440 v1557
  let c3_i32_1084 : BitVec 32 := 3#32
  let v1559 : BitVec 1 := Scalar.cmpi .slt v8 c3_i32_1084
  let v1560 : BitVec 1 := Scalar.andi v1558 v1559
  let v1561 : BitVec 32 := Scalar.extui v1560
  let c0_i32_1086 : BitVec 32 := 0#32
  let v1562 : BitVec 1 := Scalar.cmpi .ne v1561 c0_i32_1086
  v1562

def k0_off570 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c3_i32_1090 : BitVec 32 := 3#32
  ![v1434.toNat, 3]
def k0_off571 (d0 : Dev nD) : Fin 3 → Nat :=
  let c0_i32_1085 : BitVec 32 := 0#32
  let c1152_i32_1083 : BitVec 32 := 1152#32
  let c224_i32_1082 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1555 : BitVec 32 := Scalar.muli c224_i32_1082 v1434
  let v1556 : BitVec 32 := Scalar.addi c1152_i32_1083 v1555
  let c768_i32_1093 : BitVec 32 := 768#32
  ![0, v1556.toNat, 768]
def k0_cond284 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c0_i32_1008 : BitVec 32 := 0#32
  let v1438 : BitVec 1 := Scalar.cmpi .sge v1434 c0_i32_1008
  let c3_i32_1009 : BitVec 32 := 3#32
  let v1439 : BitVec 1 := Scalar.cmpi .sle v1434 c3_i32_1009
  let v1440 : BitVec 1 := Scalar.andi v1438 v1439
  let v1563 : BitVec 1 := Scalar.cmpi .sge v1434 v8
  let v1564 : BitVec 1 := Scalar.andi v1440 v1563
  let c0_i32_1087 : BitVec 32 := 0#32
  let v1565 : BitVec 1 := Scalar.cmpi .sgt v8 c0_i32_1087
  let v1566 : BitVec 1 := Scalar.andi v1564 v1565
  let v1567 : BitVec 32 := Scalar.extui v1566
  let c0_i32_1089 : BitVec 32 := 0#32
  let v1568 : BitVec 1 := Scalar.cmpi .ne v1567 c0_i32_1089
  v1568

def k0_off572 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let c3_i32_1090 : BitVec 32 := 3#32
  ![v1434.toNat, 3]
def k0_off573 (d0 : Dev nD) : Fin 3 → Nat :=
  let c0_i32_1088 : BitVec 32 := 0#32
  let c1152_i32_1083 : BitVec 32 := 1152#32
  let c224_i32_1082 : BitVec 32 := 224#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32_1005 : BitVec 32 := 4294967293#32
  let v1434 : BitVec 32 := Scalar.addi v8 c_m3_i32_1005
  let v1555 : BitVec 32 := Scalar.muli c224_i32_1082 v1434
  let v1556 : BitVec 32 := Scalar.addi c1152_i32_1083 v1555
  let c768_i32_1093 : BitVec 32 := 768#32
  ![0, v1556.toNat, 768]
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .bf16⟩
  | .hbm, ⟨14, _⟩ => ⟨S2x2048x1024, .f32⟩
  | .hbm, ⟨15, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Mesh.lean ====
/-
The mesh of the kernel: 32 devices, numbered `16 x + 4 y + z`. The bulk of an array moves between the two devices
that differ only in `x`; the rest is passed along the lines in `y` (axis `false`, the pieces `B`) and in `z` (axis
`true`, the pieces `C`). This module has the places, the neighbours, who forwards which piece, and the order in
which a device handles the pieces.
-/
module

public import proofs.«01_k».proof.Proof.Gen.KernelIdeal

@[expose] public section

namespace Cert.KProof

open Cert.KernelIdeal Cert.KernelIdeal.Gen
open Idealize.ShloMosaic

/-- A device's place on the line of axis `ax`: its `y` on axis `false`, its `z` on axis `true`. -/
def pos (c : Dev nD) (ax : Bool) : Fin 4 :=
  if ax then ⟨c.val % 4, Nat.mod_lt _ (by decide)⟩ else ⟨c.val / 4 % 4, Nat.mod_lt _ (by decide)⟩

/-- How far apart, in device numbers, neighbours on the line of axis `ax` are. -/
def stride (ax : Bool) : ℕ := if ax then 1 else 4

/-- The neighbour on the line of axis `ax`: the next device for `dir = true`, the previous one for `dir = false`
    (past either end of the line some device of another line, so that this is a permutation). -/
def nb (ax dir : Bool) (c : Dev nD) : Dev nD :=
  ⟨(c.val + (if dir then stride ax else 32 - stride ax)) % 32, Nat.mod_lt _ (by decide)⟩

/-- Whether the neighbour in direction `dir` is on the same line. -/
def has (c : Dev nD) (ax dir : Bool) : Bool := if dir then decide ((pos c ax).val < 3) else decide (0 < (pos c ax).val)

/-- Whether piece `q` of axis `ax` reaches device `c` from its neighbour in direction `dir`. -/
def arr (c : Dev nD) (ax dir : Bool) (q : Fin 4) : Bool := if dir then decide ((pos c ax).val < q.val) else decide (q.val < (pos c ax).val)

/-- Whether device `c` forwards piece `q` of axis `ax` to its neighbour in direction `dir`: the piece reaches that
    neighbour from the other direction. -/
def fok (c : Dev nD) (ax dir : Bool) (q : Fin 4) : Bool := arr (nb ax dir c) ax (!dir) q

/-- The device with the same `y` and `z` with which `c` exchanges its block: itself when the table keeps the order, the
    other one when it swaps. -/
def mate (sw : Bool) (c : Dev nD) : Dev nD := if sw then ⟨(c.val + 16) % 32, Nat.mod_lt _ (by decide)⟩ else c

theorem nb_nb (ax dir : Bool) (c : Dev nD) : nb ax (!dir) (nb ax dir c) = c := by revert ax dir c; decide
theorem nb_nb' (ax dir : Bool) (c : Dev nD) : nb ax dir (nb ax (!dir) c) = c := by revert ax dir c; decide
theorem mate_mate (sw : Bool) (c : Dev nD) : mate sw (mate sw c) = c := by revert sw c; decide
theorem pos_mate (sw : Bool) (c : Dev nD) (ax : Bool) : pos (mate sw c) ax = pos c ax := by revert sw c ax; decide
theorem has_nb (ax dir : Bool) (c : Dev nD) : has (nb ax dir c) ax (!dir) = has c ax dir := by revert ax dir c; decide

/-- The neighbour map as a permutation of the devices. -/
def nbE (ax dir : Bool) : Dev nD ≃ Dev nD := ⟨nb ax dir, nb ax (!dir), nb_nb ax dir, nb_nb' ax dir⟩
/-- The exchange as a permutation of the devices. -/
def mateE (sw : Bool) : Dev nD ≃ Dev nD := ⟨mate sw, mate sw, mate_mate sw, mate_mate sw⟩

/-- A step of the handling order: axis, displacement plus three, column slice. -/
abbrev Slot : Type := Bool × Fin 7 × Fin 4

/-- Whether the displacement of a step stays on the line. -/
def inr (c : Dev nD) (ax : Bool) (δ : Fin 7) : Bool := decide (3 ≤ (pos c ax).val + δ.val ∧ (pos c ax).val + δ.val < 7)
/-- The piece of a step (for a displacement on the line). -/
def slotQ (c : Dev nD) (ax : Bool) (δ : Fin 7) : Fin 4 := ⟨((pos c ax).val + δ.val - 3) % 4, Nat.mod_lt _ (by decide)⟩
/-- The distance the piece of a step has come. -/
def dist (δ : Fin 7) : ℕ := if δ.val < 3 then 3 - δ.val else δ.val - 3

/-- The steps at one displacement, in the kernel's order: slice by slice, axis `false` before axis `true`. -/
def slotsAt (δ : Fin 7) : List Slot := [(false, δ, 0), (true, δ, 0), (false, δ, 1), (true, δ, 1), (false, δ, 2), (true, δ, 2), (false, δ, 3), (true, δ, 3)]
/-- All the steps in the kernel's order: by distance, at each distance the greater piece first. -/
def slots : List Slot := slotsAt 3 ++ slotsAt 4 ++ slotsAt 2 ++ slotsAt 5 ++ slotsAt 1 ++ slotsAt 6 ++ slotsAt 0

/-- What the printed words of a step amount to at device `c`. -/
def HFact (c : Dev nD) (ax : Bool) (δ : Fin 7) (s : Fin 4) (k5 k6 k7 : BitVec 1) (o14 : Fin 2 → ℕ) (o15 : Fin 3 → ℕ) (o16 : Fin 2 → ℕ) (o17 : Fin 3 → ℕ)
    (d17 : ℕ) (o18 : Fin 2 → ℕ) (o19 : Fin 3 → ℕ) (d18 : ℕ) : Prop :=
  (k5 = 1#1 ↔ inr c ax δ = true) ∧ (inr c ax δ = true →
    o14 = ![(slotQ c ax δ).val, s.val] ∧ o15 = ![0, (if ax then 1152 else 256) + 224 * (slotQ c ax δ).val, 256 * s.val]
    ∧ (k6 = 1#1 ↔ fok c ax true (slotQ c ax δ) = true) ∧ (k7 = 1#1 ↔ fok c ax false (slotQ c ax δ) = true)
    ∧ (fok c ax true (slotQ c ax δ) = true → o16 = o14 ∧ o17 = o15 ∧ d17 = (nb ax true c).val)
    ∧ (fok c ax false (slotQ c ax δ) = true → o18 = o14 ∧ o19 = o15 ∧ d18 = (nb ax false c).val))

instance (c : Dev nD) (ax : Bool) (δ : Fin 7) (s : Fin 4) (k5 k6 k7 : BitVec 1) (o14 : Fin 2 → ℕ) (o15 : Fin 3 → ℕ) (o16 : Fin 2 → ℕ) (o17 : Fin 3 → ℕ)
    (d17 : ℕ) (o18 : Fin 2 → ℕ) (o19 : Fin 3 → ℕ) (d18 : ℕ) : Decidable (HFact c ax δ s k5 k6 k7 o14 o15 o16 o17 d17 o18 o19 d18) := by
  unfold HFact; infer_instance

/-- What the printed words of the wait for a forwarded piece amount to at device `c`. -/
def DFact (c : Dev nD) (ax dir : Bool) (δ : Fin 7) (s : Fin 4) (k : BitVec 1) (o : Fin 2 → ℕ) (p : Fin 3 → ℕ) : Prop :=
  (k = 1#1 ↔ (inr c ax δ && fok c ax dir (slotQ c ax δ)) = true)
    ∧ ((inr c ax δ && fok c ax dir (slotQ c ax δ)) = true →
      o = ![(slotQ c ax δ).val, s.val] ∧ p = ![0, (if ax then 1152 else 256) + 224 * (slotQ c ax δ).val, 256 * s.val])

instance (c : Dev nD) (ax dir : Bool) (δ : Fin 7) (s : Fin 4) (k : BitVec 1) (o : Fin 2 → ℕ) (p : Fin 3 → ℕ) : Decidable (DFact c ax dir δ s k o p) := by
  unfold DFact; infer_instance

end Cert.KProof
-- ==== Proof.Facts.lean ====
/-
What the printed words of every step amount to, at every device: the condition, the semaphores' and the pieces' offsets
and the neighbours. Each is decided over the 32 devices.
-/
module

public import proofs.«01_k».proof.Proof.Mesh

@[expose] public section

namespace Cert.KProof

open Cert.KernelIdeal Cert.KernelIdeal.Gen
open Idealize.ShloMosaic

/-- The words of step 0. -/
theorem hf0 (c : Dev nD) : HFact c false 3 0 (k0_cond5 c) (k0_cond6 c) (k0_cond7 c) (k0_off14 c) (k0_off15 c) (k0_off16 c) (k0_off17 c) (k0_dev17 c) (k0_off18 c) (k0_off19 c) (k0_dev18 c) := by
  revert c; decide

/-- The words of step 1. -/
theorem hf1 (c : Dev nD) : HFact c true 3 0 (k0_cond8 c) (k0_cond9 c) (k0_cond10 c) (k0_off20 c) (k0_off21 c) (k0_off22 c) (k0_off23 c) (k0_dev19 c) (k0_off24 c) (k0_off25 c) (k0_dev20 c) := by
  revert c; decide

/-- The words of step 2. -/
theorem hf2 (c : Dev nD) : HFact c false 3 1 (k0_cond11 c) (k0_cond12 c) (k0_cond13 c) (k0_off26 c) (k0_off27 c) (k0_off28 c) (k0_off29 c) (k0_dev21 c) (k0_off30 c) (k0_off31 c) (k0_dev22 c) := by
  revert c; decide

/-- The words of step 3. -/
theorem hf3 (c : Dev nD) : HFact c true 3 1 (k0_cond14 c) (k0_cond15 c) (k0_cond16 c) (k0_off32 c) (k0_off33 c) (k0_off34 c) (k0_off35 c) (k0_dev23 c) (k0_off36 c) (k0_off37 c) (k0_dev24 c) := by
  revert c; decide

/-- The words of step 4. -/
theorem hf4 (c : Dev nD) : HFact c false 3 2 (k0_cond17 c) (k0_cond18 c) (k0_cond19 c) (k0_off38 c) (k0_off39 c) (k0_off40 c) (k0_off41 c) (k0_dev25 c) (k0_off42 c) (k0_off43 c) (k0_dev26 c) := by
  revert c; decide

/-- The words of step 5. -/
theorem hf5 (c : Dev nD) : HFact c true 3 2 (k0_cond20 c) (k0_cond21 c) (k0_cond22 c) (k0_off44 c) (k0_off45 c) (k0_off46 c) (k0_off47 c) (k0_dev27 c) (k0_off48 c) (k0_off49 c) (k0_dev28 c) := by
  revert c; decide

/-- The words of step 6. -/
theorem hf6 (c : Dev nD) : HFact c false 3 3 (k0_cond23 c) (k0_cond24 c) (k0_cond25 c) (k0_off50 c) (k0_off51 c) (k0_off52 c) (k0_off53 c) (k0_dev29 c) (k0_off54 c) (k0_off55 c) (k0_dev30 c) := by
  revert c; decide

/-- The words of step 7. -/
theorem hf7 (c : Dev nD) : HFact c true 3 3 (k0_cond26 c) (k0_cond27 c) (k0_cond28 c) (k0_off56 c) (k0_off57 c) (k0_off58 c) (k0_off59 c) (k0_dev31 c) (k0_off60 c) (k0_off61 c) (k0_dev32 c) := by
  revert c; decide

/-- The words of step 8. -/
theorem hf8 (c : Dev nD) : HFact c false 4 0 (k0_cond29 c) (k0_cond30 c) (k0_cond31 c) (k0_off62 c) (k0_off63 c) (k0_off64 c) (k0_off65 c) (k0_dev33 c) (k0_off66 c) (k0_off67 c) (k0_dev34 c) := by
  revert c; decide

/-- The words of step 9. -/
theorem hf9 (c : Dev nD) : HFact c true 4 0 (k0_cond32 c) (k0_cond33 c) (k0_cond34 c) (k0_off68 c) (k0_off69 c) (k0_off70 c) (k0_off71 c) (k0_dev35 c) (k0_off72 c) (k0_off73 c) (k0_dev36 c) := by
  revert c; decide

/-- The words of step 10. -/
theorem hf10 (c : Dev nD) : HFact c false 4 1 (k0_cond35 c) (k0_cond36 c) (k0_cond37 c) (k0_off74 c) (k0_off75 c) (k0_off76 c) (k0_off77 c) (k0_dev37 c) (k0_off78 c) (k0_off79 c) (k0_dev38 c) := by
  revert c; decide

/-- The words of step 11. -/
theorem hf11 (c : Dev nD) : HFact c true 4 1 (k0_cond38 c) (k0_cond39 c) (k0_cond40 c) (k0_off80 c) (k0_off81 c) (k0_off82 c) (k0_off83 c) (k0_dev39 c) (k0_off84 c) (k0_off85 c) (k0_dev40 c) := by
  revert c; decide

/-- The words of step 12. -/
theorem hf12 (c : Dev nD) : HFact c false 4 2 (k0_cond41 c) (k0_cond42 c) (k0_cond43 c) (k0_off86 c) (k0_off87 c) (k0_off88 c) (k0_off89 c) (k0_dev41 c) (k0_off90 c) (k0_off91 c) (k0_dev42 c) := by
  revert c; decide

/-- The words of step 13. -/
theorem hf13 (c : Dev nD) : HFact c true 4 2 (k0_cond44 c) (k0_cond45 c) (k0_cond46 c) (k0_off92 c) (k0_off93 c) (k0_off94 c) (k0_off95 c) (k0_dev43 c) (k0_off96 c) (k0_off97 c) (k0_dev44 c) := by
  revert c; decide

/-- The words of step 14. -/
theorem hf14 (c : Dev nD) : HFact c false 4 3 (k0_cond47 c) (k0_cond48 c) (k0_cond49 c) (k0_off98 c) (k0_off99 c) (k0_off100 c) (k0_off101 c) (k0_dev45 c) (k0_off102 c) (k0_off103 c) (k0_dev46 c) := by
  revert c; decide

/-- The words of step 15. -/
theorem hf15 (c : Dev nD) : HFact c true 4 3 (k0_cond50 c) (k0_cond51 c) (k0_cond52 c) (k0_off104 c) (k0_off105 c) (k0_off106 c) (k0_off107 c) (k0_dev47 c) (k0_off108 c) (k0_off109 c) (k0_dev48 c) := by
  revert c; decide

/-- The words of step 16. -/
theorem hf16 (c : Dev nD) : HFact c false 2 0 (k0_cond53 c) (k0_cond54 c) (k0_cond55 c) (k0_off110 c) (k0_off111 c) (k0_off112 c) (k0_off113 c) (k0_dev49 c) (k0_off114 c) (k0_off115 c) (k0_dev50 c) := by
  revert c; decide

/-- The words of step 17. -/
theorem hf17 (c : Dev nD) : HFact c true 2 0 (k0_cond56 c) (k0_cond57 c) (k0_cond58 c) (k0_off116 c) (k0_off117 c) (k0_off118 c) (k0_off119 c) (k0_dev51 c) (k0_off120 c) (k0_off121 c) (k0_dev52 c) := by
  revert c; decide

/-- The words of step 18. -/
theorem hf18 (c : Dev nD) : HFact c false 2 1 (k0_cond59 c) (k0_cond60 c) (k0_cond61 c) (k0_off122 c) (k0_off123 c) (k0_off124 c) (k0_off125 c) (k0_dev53 c) (k0_off126 c) (k0_off127 c) (k0_dev54 c) := by
  revert c; decide

/-- The words of step 19. -/
theorem hf19 (c : Dev nD) : HFact c true 2 1 (k0_cond62 c) (k0_cond63 c) (k0_cond64 c) (k0_off128 c) (k0_off129 c) (k0_off130 c) (k0_off131 c) (k0_dev55 c) (k0_off132 c) (k0_off133 c) (k0_dev56 c) := by
  revert c; decide

/-- The words of step 20. -/
theorem hf20 (c : Dev nD) : HFact c false 2 2 (k0_cond65 c) (k0_cond66 c) (k0_cond67 c) (k0_off134 c) (k0_off135 c) (k0_off136 c) (k0_off137 c) (k0_dev57 c) (k0_off138 c) (k0_off139 c) (k0_dev58 c) := by
  revert c; decide

/-- The words of step 21. -/
theorem hf21 (c : Dev nD) : HFact c true 2 2 (k0_cond68 c) (k0_cond69 c) (k0_cond70 c) (k0_off140 c) (k0_off141 c) (k0_off142 c) (k0_off143 c) (k0_dev59 c) (k0_off144 c) (k0_off145 c) (k0_dev60 c) := by
  revert c; decide

/-- The words of step 22. -/
theorem hf22 (c : Dev nD) : HFact c false 2 3 (k0_cond71 c) (k0_cond72 c) (k0_cond73 c) (k0_off146 c) (k0_off147 c) (k0_off148 c) (k0_off149 c) (k0_dev61 c) (k0_off150 c) (k0_off151 c) (k0_dev62 c) := by
  revert c; decide

/-- The words of step 23. -/
theorem hf23 (c : Dev nD) : HFact c true 2 3 (k0_cond74 c) (k0_cond75 c) (k0_cond76 c) (k0_off152 c) (k0_off153 c) (k0_off154 c) (k0_off155 c) (k0_dev63 c) (k0_off156 c) (k0_off157 c) (k0_dev64 c) := by
  revert c; decide

/-- The words of step 24. -/
theorem hf24 (c : Dev nD) : HFact c false 5 0 (k0_cond77 c) (k0_cond78 c) (k0_cond79 c) (k0_off158 c) (k0_off159 c) (k0_off160 c) (k0_off161 c) (k0_dev65 c) (k0_off162 c) (k0_off163 c) (k0_dev66 c) := by
  revert c; decide

/-- The words of step 25. -/
theorem hf25 (c : Dev nD) : HFact c true 5 0 (k0_cond80 c) (k0_cond81 c) (k0_cond82 c) (k0_off164 c) (k0_off165 c) (k0_off166 c) (k0_off167 c) (k0_dev67 c) (k0_off168 c) (k0_off169 c) (k0_dev68 c) := by
  revert c; decide

/-- The words of step 26. -/
theorem hf26 (c : Dev nD) : HFact c false 5 1 (k0_cond83 c) (k0_cond84 c) (k0_cond85 c) (k0_off170 c) (k0_off171 c) (k0_off172 c) (k0_off173 c) (k0_dev69 c) (k0_off174 c) (k0_off175 c) (k0_dev70 c) := by
  revert c; decide

/-- The words of step 27. -/
theorem hf27 (c : Dev nD) : HFact c true 5 1 (k0_cond86 c) (k0_cond87 c) (k0_cond88 c) (k0_off176 c) (k0_off177 c) (k0_off178 c) (k0_off179 c) (k0_dev71 c) (k0_off180 c) (k0_off181 c) (k0_dev72 c) := by
  revert c; decide

/-- The words of step 28. -/
theorem hf28 (c : Dev nD) : HFact c false 5 2 (k0_cond89 c) (k0_cond90 c) (k0_cond91 c) (k0_off182 c) (k0_off183 c) (k0_off184 c) (k0_off185 c) (k0_dev73 c) (k0_off186 c) (k0_off187 c) (k0_dev74 c) := by
  revert c; decide

/-- The words of step 29. -/
theorem hf29 (c : Dev nD) : HFact c true 5 2 (k0_cond92 c) (k0_cond93 c) (k0_cond94 c) (k0_off188 c) (k0_off189 c) (k0_off190 c) (k0_off191 c) (k0_dev75 c) (k0_off192 c) (k0_off193 c) (k0_dev76 c) := by
  revert c; decide

/-- The words of step 30. -/
theorem hf30 (c : Dev nD) : HFact c false 5 3 (k0_cond95 c) (k0_cond96 c) (k0_cond97 c) (k0_off194 c) (k0_off195 c) (k0_off196 c) (k0_off197 c) (k0_dev77 c) (k0_off198 c) (k0_off199 c) (k0_dev78 c) := by
  revert c; decide

/-- The words of step 31. -/
theorem hf31 (c : Dev nD) : HFact c true 5 3 (k0_cond98 c) (k0_cond99 c) (k0_cond100 c) (k0_off200 c) (k0_off201 c) (k0_off202 c) (k0_off203 c) (k0_dev79 c) (k0_off204 c) (k0_off205 c) (k0_dev80 c) := by
  revert c; decide

/-- The words of step 32. -/
theorem hf32 (c : Dev nD) : HFact c false 1 0 (k0_cond101 c) (k0_cond102 c) (k0_cond103 c) (k0_off206 c) (k0_off207 c) (k0_off208 c) (k0_off209 c) (k0_dev81 c) (k0_off210 c) (k0_off211 c) (k0_dev82 c) := by
  revert c; decide

/-- The words of step 33. -/
theorem hf33 (c : Dev nD) : HFact c true 1 0 (k0_cond104 c) (k0_cond105 c) (k0_cond106 c) (k0_off212 c) (k0_off213 c) (k0_off214 c) (k0_off215 c) (k0_dev83 c) (k0_off216 c) (k0_off217 c) (k0_dev84 c) := by
  revert c; decide

/-- The words of step 34. -/
theorem hf34 (c : Dev nD) : HFact c false 1 1 (k0_cond107 c) (k0_cond108 c) (k0_cond109 c) (k0_off218 c) (k0_off219 c) (k0_off220 c) (k0_off221 c) (k0_dev85 c) (k0_off222 c) (k0_off223 c) (k0_dev86 c) := by
  revert c; decide

/-- The words of step 35. -/
theorem hf35 (c : Dev nD) : HFact c true 1 1 (k0_cond110 c) (k0_cond111 c) (k0_cond112 c) (k0_off224 c) (k0_off225 c) (k0_off226 c) (k0_off227 c) (k0_dev87 c) (k0_off228 c) (k0_off229 c) (k0_dev88 c) := by
  revert c; decide

/-- The words of step 36. -/
theorem hf36 (c : Dev nD) : HFact c false 1 2 (k0_cond113 c) (k0_cond114 c) (k0_cond115 c) (k0_off230 c) (k0_off231 c) (k0_off232 c) (k0_off233 c) (k0_dev89 c) (k0_off234 c) (k0_off235 c) (k0_dev90 c) := by
  revert c; decide

/-- The words of step 37. -/
theorem hf37 (c : Dev nD) : HFact c true 1 2 (k0_cond116 c) (k0_cond117 c) (k0_cond118 c) (k0_off236 c) (k0_off237 c) (k0_off238 c) (k0_off239 c) (k0_dev91 c) (k0_off240 c) (k0_off241 c) (k0_dev92 c) := by
  revert c; decide

/-- The words of step 38. -/
theorem hf38 (c : Dev nD) : HFact c false 1 3 (k0_cond119 c) (k0_cond120 c) (k0_cond121 c) (k0_off242 c) (k0_off243 c) (k0_off244 c) (k0_off245 c) (k0_dev93 c) (k0_off246 c) (k0_off247 c) (k0_dev94 c) := by
  revert c; decide

/-- The words of step 39. -/
theorem hf39 (c : Dev nD) : HFact c true 1 3 (k0_cond122 c) (k0_cond123 c) (k0_cond124 c) (k0_off248 c) (k0_off249 c) (k0_off250 c) (k0_off251 c) (k0_dev95 c) (k0_off252 c) (k0_off253 c) (k0_dev96 c) := by
  revert c; decide

/-- The words of step 40. -/
theorem hf40 (c : Dev nD) : HFact c false 6 0 (k0_cond125 c) (k0_cond126 c) (k0_cond127 c) (k0_off254 c) (k0_off255 c) (k0_off256 c) (k0_off257 c) (k0_dev97 c) (k0_off258 c) (k0_off259 c) (k0_dev98 c) := by
  revert c; decide

/-- The words of step 41. -/
theorem hf41 (c : Dev nD) : HFact c true 6 0 (k0_cond128 c) (k0_cond129 c) (k0_cond130 c) (k0_off260 c) (k0_off261 c) (k0_off262 c) (k0_off263 c) (k0_dev99 c) (k0_off264 c) (k0_off265 c) (k0_dev100 c) := by
  revert c; decide

/-- The words of step 42. -/
theorem hf42 (c : Dev nD) : HFact c false 6 1 (k0_cond131 c) (k0_cond132 c) (k0_cond133 c) (k0_off266 c) (k0_off267 c) (k0_off268 c) (k0_off269 c) (k0_dev101 c) (k0_off270 c) (k0_off271 c) (k0_dev102 c) := by
  revert c; decide

/-- The words of step 43. -/
theorem hf43 (c : Dev nD) : HFact c true 6 1 (k0_cond134 c) (k0_cond135 c) (k0_cond136 c) (k0_off272 c) (k0_off273 c) (k0_off274 c) (k0_off275 c) (k0_dev103 c) (k0_off276 c) (k0_off277 c) (k0_dev104 c) := by
  revert c; decide

/-- The words of step 44. -/
theorem hf44 (c : Dev nD) : HFact c false 6 2 (k0_cond137 c) (k0_cond138 c) (k0_cond139 c) (k0_off278 c) (k0_off279 c) (k0_off280 c) (k0_off281 c) (k0_dev105 c) (k0_off282 c) (k0_off283 c) (k0_dev106 c) := by
  revert c; decide

/-- The words of step 45. -/
theorem hf45 (c : Dev nD) : HFact c true 6 2 (k0_cond140 c) (k0_cond141 c) (k0_cond142 c) (k0_off284 c) (k0_off285 c) (k0_off286 c) (k0_off287 c) (k0_dev107 c) (k0_off288 c) (k0_off289 c) (k0_dev108 c) := by
  revert c; decide

/-- The words of step 46. -/
theorem hf46 (c : Dev nD) : HFact c false 6 3 (k0_cond143 c) (k0_cond144 c) (k0_cond145 c) (k0_off290 c) (k0_off291 c) (k0_off292 c) (k0_off293 c) (k0_dev109 c) (k0_off294 c) (k0_off295 c) (k0_dev110 c) := by
  revert c; decide

/-- The words of step 47. -/
theorem hf47 (c : Dev nD) : HFact c true 6 3 (k0_cond146 c) (k0_cond147 c) (k0_cond148 c) (k0_off296 c) (k0_off297 c) (k0_off298 c) (k0_off299 c) (k0_dev111 c) (k0_off300 c) (k0_off301 c) (k0_dev112 c) := by
  revert c; decide

/-- The words of step 48. -/
theorem hf48 (c : Dev nD) : HFact c false 0 0 (k0_cond149 c) (k0_cond150 c) (k0_cond151 c) (k0_off302 c) (k0_off303 c) (k0_off304 c) (k0_off305 c) (k0_dev113 c) (k0_off306 c) (k0_off307 c) (k0_dev114 c) := by
  revert c; decide

/-- The words of step 49. -/
theorem hf49 (c : Dev nD) : HFact c true 0 0 (k0_cond152 c) (k0_cond153 c) (k0_cond154 c) (k0_off308 c) (k0_off309 c) (k0_off310 c) (k0_off311 c) (k0_dev115 c) (k0_off312 c) (k0_off313 c) (k0_dev116 c) := by
  revert c; decide

/-- The words of step 50. -/
theorem hf50 (c : Dev nD) : HFact c false 0 1 (k0_cond155 c) (k0_cond156 c) (k0_cond157 c) (k0_off314 c) (k0_off315 c) (k0_off316 c) (k0_off317 c) (k0_dev117 c) (k0_off318 c) (k0_off319 c) (k0_dev118 c) := by
  revert c; decide

/-- The words of step 51. -/
theorem hf51 (c : Dev nD) : HFact c true 0 1 (k0_cond158 c) (k0_cond159 c) (k0_cond160 c) (k0_off320 c) (k0_off321 c) (k0_off322 c) (k0_off323 c) (k0_dev119 c) (k0_off324 c) (k0_off325 c) (k0_dev120 c) := by
  revert c; decide

/-- The words of step 52. -/
theorem hf52 (c : Dev nD) : HFact c false 0 2 (k0_cond161 c) (k0_cond162 c) (k0_cond163 c) (k0_off326 c) (k0_off327 c) (k0_off328 c) (k0_off329 c) (k0_dev121 c) (k0_off330 c) (k0_off331 c) (k0_dev122 c) := by
  revert c; decide

/-- The words of step 53. -/
theorem hf53 (c : Dev nD) : HFact c true 0 2 (k0_cond164 c) (k0_cond165 c) (k0_cond166 c) (k0_off332 c) (k0_off333 c) (k0_off334 c) (k0_off335 c) (k0_dev123 c) (k0_off336 c) (k0_off337 c) (k0_dev124 c) := by
  revert c; decide

/-- The words of step 54. -/
theorem hf54 (c : Dev nD) : HFact c false 0 3 (k0_cond167 c) (k0_cond168 c) (k0_cond169 c) (k0_off338 c) (k0_off339 c) (k0_off340 c) (k0_off341 c) (k0_dev125 c) (k0_off342 c) (k0_off343 c) (k0_dev126 c) := by
  revert c; decide

/-- The words of step 55. -/
theorem hf55 (c : Dev nD) : HFact c true 0 3 (k0_cond170 c) (k0_cond171 c) (k0_cond172 c) (k0_off344 c) (k0_off345 c) (k0_off346 c) (k0_off347 c) (k0_dev127 c) (k0_off348 c) (k0_off349 c) (k0_dev128 c) := by
  revert c; decide

/-- The words of the wait for what step 0 sent forward. -/
theorem df0 (c : Dev nD) : DFact c false true 3 0 (k0_cond173 c) (k0_off350 c) (k0_off351 c) := by
  revert c; decide

/-- The words of the wait for what step 0 sent backward. -/
theorem df1 (c : Dev nD) : DFact c false false 3 0 (k0_cond174 c) (k0_off352 c) (k0_off353 c) := by
  revert c; decide

/-- The words of the wait for what step 1 sent forward. -/
theorem df2 (c : Dev nD) : DFact c true true 3 0 (k0_cond175 c) (k0_off354 c) (k0_off355 c) := by
  revert c; decide

/-- The words of the wait for what step 1 sent backward. -/
theorem df3 (c : Dev nD) : DFact c true false 3 0 (k0_cond176 c) (k0_off356 c) (k0_off357 c) := by
  revert c; decide

/-- The words of the wait for what step 2 sent forward. -/
theorem df4 (c : Dev nD) : DFact c false true 3 1 (k0_cond177 c) (k0_off358 c) (k0_off359 c) := by
  revert c; decide

/-- The words of the wait for what step 2 sent backward. -/
theorem df5 (c : Dev nD) : DFact c false false 3 1 (k0_cond178 c) (k0_off360 c) (k0_off361 c) := by
  revert c; decide

/-- The words of the wait for what step 3 sent forward. -/
theorem df6 (c : Dev nD) : DFact c true true 3 1 (k0_cond179 c) (k0_off362 c) (k0_off363 c) := by
  revert c; decide

/-- The words of the wait for what step 3 sent backward. -/
theorem df7 (c : Dev nD) : DFact c true false 3 1 (k0_cond180 c) (k0_off364 c) (k0_off365 c) := by
  revert c; decide

/-- The words of the wait for what step 4 sent forward. -/
theorem df8 (c : Dev nD) : DFact c false true 3 2 (k0_cond181 c) (k0_off366 c) (k0_off367 c) := by
  revert c; decide

/-- The words of the wait for what step 4 sent backward. -/
theorem df9 (c : Dev nD) : DFact c false false 3 2 (k0_cond182 c) (k0_off368 c) (k0_off369 c) := by
  revert c; decide

/-- The words of the wait for what step 5 sent forward. -/
theorem df10 (c : Dev nD) : DFact c true true 3 2 (k0_cond183 c) (k0_off370 c) (k0_off371 c) := by
  revert c; decide

/-- The words of the wait for what step 5 sent backward. -/
theorem df11 (c : Dev nD) : DFact c true false 3 2 (k0_cond184 c) (k0_off372 c) (k0_off373 c) := by
  revert c; decide

/-- The words of the wait for what step 6 sent forward. -/
theorem df12 (c : Dev nD) : DFact c false true 3 3 (k0_cond185 c) (k0_off374 c) (k0_off375 c) := by
  revert c; decide

/-- The words of the wait for what step 6 sent backward. -/
theorem df13 (c : Dev nD) : DFact c false false 3 3 (k0_cond186 c) (k0_off376 c) (k0_off377 c) := by
  revert c; decide

/-- The words of the wait for what step 7 sent forward. -/
theorem df14 (c : Dev nD) : DFact c true true 3 3 (k0_cond187 c) (k0_off378 c) (k0_off379 c) := by
  revert c; decide

/-- The words of the wait for what step 7 sent backward. -/
theorem df15 (c : Dev nD) : DFact c true false 3 3 (k0_cond188 c) (k0_off380 c) (k0_off381 c) := by
  revert c; decide

/-- The words of the wait for what step 8 sent forward. -/
theorem df16 (c : Dev nD) : DFact c false true 4 0 (k0_cond189 c) (k0_off382 c) (k0_off383 c) := by
  revert c; decide

/-- The words of the wait for what step 8 sent backward. -/
theorem df17 (c : Dev nD) : DFact c false false 4 0 (k0_cond190 c) (k0_off384 c) (k0_off385 c) := by
  revert c; decide

/-- The words of the wait for what step 9 sent forward. -/
theorem df18 (c : Dev nD) : DFact c true true 4 0 (k0_cond191 c) (k0_off386 c) (k0_off387 c) := by
  revert c; decide

/-- The words of the wait for what step 9 sent backward. -/
theorem df19 (c : Dev nD) : DFact c true false 4 0 (k0_cond192 c) (k0_off388 c) (k0_off389 c) := by
  revert c; decide

/-- The words of the wait for what step 10 sent forward. -/
theorem df20 (c : Dev nD) : DFact c false true 4 1 (k0_cond193 c) (k0_off390 c) (k0_off391 c) := by
  revert c; decide

/-- The words of the wait for what step 10 sent backward. -/
theorem df21 (c : Dev nD) : DFact c false false 4 1 (k0_cond194 c) (k0_off392 c) (k0_off393 c) := by
  revert c; decide

/-- The words of the wait for what step 11 sent forward. -/
theorem df22 (c : Dev nD) : DFact c true true 4 1 (k0_cond195 c) (k0_off394 c) (k0_off395 c) := by
  revert c; decide

/-- The words of the wait for what step 11 sent backward. -/
theorem df23 (c : Dev nD) : DFact c true false 4 1 (k0_cond196 c) (k0_off396 c) (k0_off397 c) := by
  revert c; decide

/-- The words of the wait for what step 12 sent forward. -/
theorem df24 (c : Dev nD) : DFact c false true 4 2 (k0_cond197 c) (k0_off398 c) (k0_off399 c) := by
  revert c; decide

/-- The words of the wait for what step 12 sent backward. -/
theorem df25 (c : Dev nD) : DFact c false false 4 2 (k0_cond198 c) (k0_off400 c) (k0_off401 c) := by
  revert c; decide

/-- The words of the wait for what step 13 sent forward. -/
theorem df26 (c : Dev nD) : DFact c true true 4 2 (k0_cond199 c) (k0_off402 c) (k0_off403 c) := by
  revert c; decide

/-- The words of the wait for what step 13 sent backward. -/
theorem df27 (c : Dev nD) : DFact c true false 4 2 (k0_cond200 c) (k0_off404 c) (k0_off405 c) := by
  revert c; decide

/-- The words of the wait for what step 14 sent forward. -/
theorem df28 (c : Dev nD) : DFact c false true 4 3 (k0_cond201 c) (k0_off406 c) (k0_off407 c) := by
  revert c; decide

/-- The words of the wait for what step 14 sent backward. -/
theorem df29 (c : Dev nD) : DFact c false false 4 3 (k0_cond202 c) (k0_off408 c) (k0_off409 c) := by
  revert c; decide

/-- The words of the wait for what step 15 sent forward. -/
theorem df30 (c : Dev nD) : DFact c true true 4 3 (k0_cond203 c) (k0_off410 c) (k0_off411 c) := by
  revert c; decide

/-- The words of the wait for what step 15 sent backward. -/
theorem df31 (c : Dev nD) : DFact c true false 4 3 (k0_cond204 c) (k0_off412 c) (k0_off413 c) := by
  revert c; decide

/-- The words of the wait for what step 16 sent forward. -/
theorem df32 (c : Dev nD) : DFact c false true 2 0 (k0_cond205 c) (k0_off414 c) (k0_off415 c) := by
  revert c; decide

/-- The words of the wait for what step 16 sent backward. -/
theorem df33 (c : Dev nD) : DFact c false false 2 0 (k0_cond206 c) (k0_off416 c) (k0_off417 c) := by
  revert c; decide

/-- The words of the wait for what step 17 sent forward. -/
theorem df34 (c : Dev nD) : DFact c true true 2 0 (k0_cond207 c) (k0_off418 c) (k0_off419 c) := by
  revert c; decide

/-- The words of the wait for what step 17 sent backward. -/
theorem df35 (c : Dev nD) : DFact c true false 2 0 (k0_cond208 c) (k0_off420 c) (k0_off421 c) := by
  revert c; decide

/-- The words of the wait for what step 18 sent forward. -/
theorem df36 (c : Dev nD) : DFact c false true 2 1 (k0_cond209 c) (k0_off422 c) (k0_off423 c) := by
  revert c; decide

/-- The words of the wait for what step 18 sent backward. -/
theorem df37 (c : Dev nD) : DFact c false false 2 1 (k0_cond210 c) (k0_off424 c) (k0_off425 c) := by
  revert c; decide

/-- The words of the wait for what step 19 sent forward. -/
theorem df38 (c : Dev nD) : DFact c true true 2 1 (k0_cond211 c) (k0_off426 c) (k0_off427 c) := by
  revert c; decide

/-- The words of the wait for what step 19 sent backward. -/
theorem df39 (c : Dev nD) : DFact c true false 2 1 (k0_cond212 c) (k0_off428 c) (k0_off429 c) := by
  revert c; decide

/-- The words of the wait for what step 20 sent forward. -/
theorem df40 (c : Dev nD) : DFact c false true 2 2 (k0_cond213 c) (k0_off430 c) (k0_off431 c) := by
  revert c; decide

/-- The words of the wait for what step 20 sent backward. -/
theorem df41 (c : Dev nD) : DFact c false false 2 2 (k0_cond214 c) (k0_off432 c) (k0_off433 c) := by
  revert c; decide

/-- The words of the wait for what step 21 sent forward. -/
theorem df42 (c : Dev nD) : DFact c true true 2 2 (k0_cond215 c) (k0_off434 c) (k0_off435 c) := by
  revert c; decide

/-- The words of the wait for what step 21 sent backward. -/
theorem df43 (c : Dev nD) : DFact c true false 2 2 (k0_cond216 c) (k0_off436 c) (k0_off437 c) := by
  revert c; decide

/-- The words of the wait for what step 22 sent forward. -/
theorem df44 (c : Dev nD) : DFact c false true 2 3 (k0_cond217 c) (k0_off438 c) (k0_off439 c) := by
  revert c; decide

/-- The words of the wait for what step 22 sent backward. -/
theorem df45 (c : Dev nD) : DFact c false false 2 3 (k0_cond218 c) (k0_off440 c) (k0_off441 c) := by
  revert c; decide

/-- The words of the wait for what step 23 sent forward. -/
theorem df46 (c : Dev nD) : DFact c true true 2 3 (k0_cond219 c) (k0_off442 c) (k0_off443 c) := by
  revert c; decide

/-- The words of the wait for what step 23 sent backward. -/
theorem df47 (c : Dev nD) : DFact c true false 2 3 (k0_cond220 c) (k0_off444 c) (k0_off445 c) := by
  revert c; decide

/-- The words of the wait for what step 24 sent forward. -/
theorem df48 (c : Dev nD) : DFact c false true 5 0 (k0_cond221 c) (k0_off446 c) (k0_off447 c) := by
  revert c; decide

/-- The words of the wait for what step 24 sent backward. -/
theorem df49 (c : Dev nD) : DFact c false false 5 0 (k0_cond222 c) (k0_off448 c) (k0_off449 c) := by
  revert c; decide

/-- The words of the wait for what step 25 sent forward. -/
theorem df50 (c : Dev nD) : DFact c true true 5 0 (k0_cond223 c) (k0_off450 c) (k0_off451 c) := by
  revert c; decide

/-- The words of the wait for what step 25 sent backward. -/
theorem df51 (c : Dev nD) : DFact c true false 5 0 (k0_cond224 c) (k0_off452 c) (k0_off453 c) := by
  revert c; decide

/-- The words of the wait for what step 26 sent forward. -/
theorem df52 (c : Dev nD) : DFact c false true 5 1 (k0_cond225 c) (k0_off454 c) (k0_off455 c) := by
  revert c; decide

/-- The words of the wait for what step 26 sent backward. -/
theorem df53 (c : Dev nD) : DFact c false false 5 1 (k0_cond226 c) (k0_off456 c) (k0_off457 c) := by
  revert c; decide

/-- The words of the wait for what step 27 sent forward. -/
theorem df54 (c : Dev nD) : DFact c true true 5 1 (k0_cond227 c) (k0_off458 c) (k0_off459 c) := by
  revert c; decide

/-- The words of the wait for what step 27 sent backward. -/
theorem df55 (c : Dev nD) : DFact c true false 5 1 (k0_cond228 c) (k0_off460 c) (k0_off461 c) := by
  revert c; decide

/-- The words of the wait for what step 28 sent forward. -/
theorem df56 (c : Dev nD) : DFact c false true 5 2 (k0_cond229 c) (k0_off462 c) (k0_off463 c) := by
  revert c; decide

/-- The words of the wait for what step 28 sent backward. -/
theorem df57 (c : Dev nD) : DFact c false false 5 2 (k0_cond230 c) (k0_off464 c) (k0_off465 c) := by
  revert c; decide

/-- The words of the wait for what step 29 sent forward. -/
theorem df58 (c : Dev nD) : DFact c true true 5 2 (k0_cond231 c) (k0_off466 c) (k0_off467 c) := by
  revert c; decide

/-- The words of the wait for what step 29 sent backward. -/
theorem df59 (c : Dev nD) : DFact c true false 5 2 (k0_cond232 c) (k0_off468 c) (k0_off469 c) := by
  revert c; decide

/-- The words of the wait for what step 30 sent forward. -/
theorem df60 (c : Dev nD) : DFact c false true 5 3 (k0_cond233 c) (k0_off470 c) (k0_off471 c) := by
  revert c; decide

/-- The words of the wait for what step 30 sent backward. -/
theorem df61 (c : Dev nD) : DFact c false false 5 3 (k0_cond234 c) (k0_off472 c) (k0_off473 c) := by
  revert c; decide

/-- The words of the wait for what step 31 sent forward. -/
theorem df62 (c : Dev nD) : DFact c true true 5 3 (k0_cond235 c) (k0_off474 c) (k0_off475 c) := by
  revert c; decide

/-- The words of the wait for what step 31 sent backward. -/
theorem df63 (c : Dev nD) : DFact c true false 5 3 (k0_cond236 c) (k0_off476 c) (k0_off477 c) := by
  revert c; decide

/-- The words of the wait for what step 32 sent forward. -/
theorem df64 (c : Dev nD) : DFact c false true 1 0 (k0_cond237 c) (k0_off478 c) (k0_off479 c) := by
  revert c; decide

/-- The words of the wait for what step 32 sent backward. -/
theorem df65 (c : Dev nD) : DFact c false false 1 0 (k0_cond238 c) (k0_off480 c) (k0_off481 c) := by
  revert c; decide

/-- The words of the wait for what step 33 sent forward. -/
theorem df66 (c : Dev nD) : DFact c true true 1 0 (k0_cond239 c) (k0_off482 c) (k0_off483 c) := by
  revert c; decide

/-- The words of the wait for what step 33 sent backward. -/
theorem df67 (c : Dev nD) : DFact c true false 1 0 (k0_cond240 c) (k0_off484 c) (k0_off485 c) := by
  revert c; decide

/-- The words of the wait for what step 34 sent forward. -/
theorem df68 (c : Dev nD) : DFact c false true 1 1 (k0_cond241 c) (k0_off486 c) (k0_off487 c) := by
  revert c; decide

/-- The words of the wait for what step 34 sent backward. -/
theorem df69 (c : Dev nD) : DFact c false false 1 1 (k0_cond242 c) (k0_off488 c) (k0_off489 c) := by
  revert c; decide

/-- The words of the wait for what step 35 sent forward. -/
theorem df70 (c : Dev nD) : DFact c true true 1 1 (k0_cond243 c) (k0_off490 c) (k0_off491 c) := by
  revert c; decide

/-- The words of the wait for what step 35 sent backward. -/
theorem df71 (c : Dev nD) : DFact c true false 1 1 (k0_cond244 c) (k0_off492 c) (k0_off493 c) := by
  revert c; decide

/-- The words of the wait for what step 36 sent forward. -/
theorem df72 (c : Dev nD) : DFact c false true 1 2 (k0_cond245 c) (k0_off494 c) (k0_off495 c) := by
  revert c; decide

/-- The words of the wait for what step 36 sent backward. -/
theorem df73 (c : Dev nD) : DFact c false false 1 2 (k0_cond246 c) (k0_off496 c) (k0_off497 c) := by
  revert c; decide

/-- The words of the wait for what step 37 sent forward. -/
theorem df74 (c : Dev nD) : DFact c true true 1 2 (k0_cond247 c) (k0_off498 c) (k0_off499 c) := by
  revert c; decide

/-- The words of the wait for what step 37 sent backward. -/
theorem df75 (c : Dev nD) : DFact c true false 1 2 (k0_cond248 c) (k0_off500 c) (k0_off501 c) := by
  revert c; decide

/-- The words of the wait for what step 38 sent forward. -/
theorem df76 (c : Dev nD) : DFact c false true 1 3 (k0_cond249 c) (k0_off502 c) (k0_off503 c) := by
  revert c; decide

/-- The words of the wait for what step 38 sent backward. -/
theorem df77 (c : Dev nD) : DFact c false false 1 3 (k0_cond250 c) (k0_off504 c) (k0_off505 c) := by
  revert c; decide

/-- The words of the wait for what step 39 sent forward. -/
theorem df78 (c : Dev nD) : DFact c true true 1 3 (k0_cond251 c) (k0_off506 c) (k0_off507 c) := by
  revert c; decide

/-- The words of the wait for what step 39 sent backward. -/
theorem df79 (c : Dev nD) : DFact c true false 1 3 (k0_cond252 c) (k0_off508 c) (k0_off509 c) := by
  revert c; decide

/-- The words of the wait for what step 40 sent forward. -/
theorem df80 (c : Dev nD) : DFact c false true 6 0 (k0_cond253 c) (k0_off510 c) (k0_off511 c) := by
  revert c; decide

/-- The words of the wait for what step 40 sent backward. -/
theorem df81 (c : Dev nD) : DFact c false false 6 0 (k0_cond254 c) (k0_off512 c) (k0_off513 c) := by
  revert c; decide

/-- The words of the wait for what step 41 sent forward. -/
theorem df82 (c : Dev nD) : DFact c true true 6 0 (k0_cond255 c) (k0_off514 c) (k0_off515 c) := by
  revert c; decide

/-- The words of the wait for what step 41 sent backward. -/
theorem df83 (c : Dev nD) : DFact c true false 6 0 (k0_cond256 c) (k0_off516 c) (k0_off517 c) := by
  revert c; decide

/-- The words of the wait for what step 42 sent forward. -/
theorem df84 (c : Dev nD) : DFact c false true 6 1 (k0_cond257 c) (k0_off518 c) (k0_off519 c) := by
  revert c; decide

/-- The words of the wait for what step 42 sent backward. -/
theorem df85 (c : Dev nD) : DFact c false false 6 1 (k0_cond258 c) (k0_off520 c) (k0_off521 c) := by
  revert c; decide

/-- The words of the wait for what step 43 sent forward. -/
theorem df86 (c : Dev nD) : DFact c true true 6 1 (k0_cond259 c) (k0_off522 c) (k0_off523 c) := by
  revert c; decide

/-- The words of the wait for what step 43 sent backward. -/
theorem df87 (c : Dev nD) : DFact c true false 6 1 (k0_cond260 c) (k0_off524 c) (k0_off525 c) := by
  revert c; decide

/-- The words of the wait for what step 44 sent forward. -/
theorem df88 (c : Dev nD) : DFact c false true 6 2 (k0_cond261 c) (k0_off526 c) (k0_off527 c) := by
  revert c; decide

/-- The words of the wait for what step 44 sent backward. -/
theorem df89 (c : Dev nD) : DFact c false false 6 2 (k0_cond262 c) (k0_off528 c) (k0_off529 c) := by
  revert c; decide

/-- The words of the wait for what step 45 sent forward. -/
theorem df90 (c : Dev nD) : DFact c true true 6 2 (k0_cond263 c) (k0_off530 c) (k0_off531 c) := by
  revert c; decide

/-- The words of the wait for what step 45 sent backward. -/
theorem df91 (c : Dev nD) : DFact c true false 6 2 (k0_cond264 c) (k0_off532 c) (k0_off533 c) := by
  revert c; decide

/-- The words of the wait for what step 46 sent forward. -/
theorem df92 (c : Dev nD) : DFact c false true 6 3 (k0_cond265 c) (k0_off534 c) (k0_off535 c) := by
  revert c; decide

/-- The words of the wait for what step 46 sent backward. -/
theorem df93 (c : Dev nD) : DFact c false false 6 3 (k0_cond266 c) (k0_off536 c) (k0_off537 c) := by
  revert c; decide

/-- The words of the wait for what step 47 sent forward. -/
theorem df94 (c : Dev nD) : DFact c true true 6 3 (k0_cond267 c) (k0_off538 c) (k0_off539 c) := by
  revert c; decide

/-- The words of the wait for what step 47 sent backward. -/
theorem df95 (c : Dev nD) : DFact c true false 6 3 (k0_cond268 c) (k0_off540 c) (k0_off541 c) := by
  revert c; decide

/-- The words of the wait for what step 48 sent forward. -/
theorem df96 (c : Dev nD) : DFact c false true 0 0 (k0_cond269 c) (k0_off542 c) (k0_off543 c) := by
  revert c; decide

/-- The words of the wait for what step 48 sent backward. -/
theorem df97 (c : Dev nD) : DFact c false false 0 0 (k0_cond270 c) (k0_off544 c) (k0_off545 c) := by
  revert c; decide

/-- The words of the wait for what step 49 sent forward. -/
theorem df98 (c : Dev nD) : DFact c true true 0 0 (k0_cond271 c) (k0_off546 c) (k0_off547 c) := by
  revert c; decide

/-- The words of the wait for what step 49 sent backward. -/
theorem df99 (c : Dev nD) : DFact c true false 0 0 (k0_cond272 c) (k0_off548 c) (k0_off549 c) := by
  revert c; decide

/-- The words of the wait for what step 50 sent forward. -/
theorem df100 (c : Dev nD) : DFact c false true 0 1 (k0_cond273 c) (k0_off550 c) (k0_off551 c) := by
  revert c; decide

/-- The words of the wait for what step 50 sent backward. -/
theorem df101 (c : Dev nD) : DFact c false false 0 1 (k0_cond274 c) (k0_off552 c) (k0_off553 c) := by
  revert c; decide

/-- The words of the wait for what step 51 sent forward. -/
theorem df102 (c : Dev nD) : DFact c true true 0 1 (k0_cond275 c) (k0_off554 c) (k0_off555 c) := by
  revert c; decide

/-- The words of the wait for what step 51 sent backward. -/
theorem df103 (c : Dev nD) : DFact c true false 0 1 (k0_cond276 c) (k0_off556 c) (k0_off557 c) := by
  revert c; decide

/-- The words of the wait for what step 52 sent forward. -/
theorem df104 (c : Dev nD) : DFact c false true 0 2 (k0_cond277 c) (k0_off558 c) (k0_off559 c) := by
  revert c; decide

/-- The words of the wait for what step 52 sent backward. -/
theorem df105 (c : Dev nD) : DFact c false false 0 2 (k0_cond278 c) (k0_off560 c) (k0_off561 c) := by
  revert c; decide

/-- The words of the wait for what step 53 sent forward. -/
theorem df106 (c : Dev nD) : DFact c true true 0 2 (k0_cond279 c) (k0_off562 c) (k0_off563 c) := by
  revert c; decide

/-- The words of the wait for what step 53 sent backward. -/
theorem df107 (c : Dev nD) : DFact c true false 0 2 (k0_cond280 c) (k0_off564 c) (k0_off565 c) := by
  revert c; decide

/-- The words of the wait for what step 54 sent forward. -/
theorem df108 (c : Dev nD) : DFact c false true 0 3 (k0_cond281 c) (k0_off566 c) (k0_off567 c) := by
  revert c; decide

/-- The words of the wait for what step 54 sent backward. -/
theorem df109 (c : Dev nD) : DFact c false false 0 3 (k0_cond282 c) (k0_off568 c) (k0_off569 c) := by
  revert c; decide

/-- The words of the wait for what step 55 sent forward. -/
theorem df110 (c : Dev nD) : DFact c true true 0 3 (k0_cond283 c) (k0_off570 c) (k0_off571 c) := by
  revert c; decide

/-- The words of the wait for what step 55 sent backward. -/
theorem df111 (c : Dev nD) : DFact c true false 0 3 (k0_cond284 c) (k0_off572 c) (k0_off573 c) := by
  revert c; decide

end Cert.KProof
-- ==== Proof.Common.lean ====
/-
The resources of the kernel and the protocol of its semaphores: which memrefs the pieces are, what they hold, and for
each semaphore of a device who raises it, by how much and what its wait hands over — contents included.
-/
module

public import proofs.«01_k».proof.Proof.Facts
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of a cell: `.inl` the two of the exchange (the only one of any cell but the barrier is `.inl false`), `.inr`
    a neighbour's. -/
abbrev Duty : Type := Bool ⊕ (Bool × Bool)
abbrev du : Duty := .inl false

abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR

variable (m : (ℓ : Loc nD τ sig) → Buf (Elt F) ℓ) (ρ : Dev nD → PrngReg) (sw : Bool)

/-- The launch state. -/
def s₀ : MemSt nD τ sig (Elt F) := ⟨m, fun _ => 0, ρ⟩

/-! ## The pieces -/

/-- A piece of the result: quarter `q`, slice `s` of axis `ax`, or piece `s` of the part that only the exchange moves. -/
abbrev PK : Type := (Bool × Fin 4 × Fin 4) ⊕ Fin 2

/-- The first row of quarter `q` of axis `ax`. -/
abbrev rowOf (ax : Bool) (q : Fin 4) : ℕ := (if ax then 1152 else 256) + 224 * q.val

theorem opcInb (ax : Bool) (q s : Fin 4) : ∀ a, (![0, rowOf ax q, 256 * s.val] : Fin 3 → ℕ) a + S1x224x256.size a ≤ S1x2048x1024.size a := by
  revert ax q s; decide
theorem opaInb (s : Fin 2) : ∀ a, (![0, 128 * s.val, 0] : Fin 3 → ℕ) a + S1x128x1024.size a ≤ S1x2048x1024.size a := by
  revert s; decide
theorem spcInb (s : Fin 4) : ∀ a, (![s.val, 0, 0] : Fin 3 → ℕ) a + S1x224x256.size a ≤ S4x224x256.size a := by
  revert s; decide
theorem spaInb (s : Fin 2) : ∀ a, (![s.val, 0, 0] : Fin 3 → ℕ) a + S1x128x1024.size a ≤ S2x128x1024.size a := by
  revert s; decide

/-- A quarter's slice of the result's staging buffer. -/
abbrev opc (ax : Bool) (q s : Fin 4) : Memref sig .tc .vmem S224x256 .bf16 :=
  ((Memref.whole cc0_stg2_0).slice (Rect.unit (s := S1x2048x1024) ![0, rowOf ax q, 256 * s.val] S1x224x256.size (opcInb ax q s)) (fun _ => rfl)).squeeze S224x256 squeezes_S1x224x256_S224x256
/-- One of the first two blocks of 128 rows. -/
abbrev opa (s : Fin 2) : Memref sig .tc .vmem S128x1024 .bf16 :=
  ((Memref.whole cc0_stg2_0).slice (Rect.unit (s := S1x2048x1024) ![0, 128 * s.val, 0] S1x128x1024.size (opaInb s)) (fun _ => rfl)).squeeze S128x1024 squeezes_S1x128x1024_S128x1024
/-- The send buffers' slices. -/
abbrev spB (s : Fin 4) : Memref sig .tc .vmem S224x256 .bf16 :=
  ((Memref.whole cc0_scratch1).slice (Rect.unit (s := S4x224x256) ![s.val, 0, 0] S1x224x256.size (spcInb s)) (fun _ => rfl)).squeeze S224x256 squeezes_S1x224x256_S224x256
abbrev spC (s : Fin 4) : Memref sig .tc .vmem S224x256 .bf16 :=
  ((Memref.whole cc0_scratch2).slice (Rect.unit (s := S4x224x256) ![s.val, 0, 0] S1x224x256.size (spcInb s)) (fun _ => rfl)).squeeze S224x256 squeezes_S1x224x256_S224x256
abbrev spA (s : Fin 2) : Memref sig .tc .vmem S128x1024 .bf16 :=
  ((Memref.whole cc0_scratch0).slice (Rect.unit (s := S2x128x1024) ![s.val, 0, 0] S1x128x1024.size (spaInb s)) (fun _ => rfl)).squeeze S128x1024 squeezes_S1x128x1024_S128x1024

/-- The elements of a piece. -/
def pset : PK → Finset S1x2048x1024.Idx
  | .inl (ax, q, s) => (opc ax q s).view.set
  | .inr s => (opa s).view.set

/-- Piece `k` of device `d`'s result buffer at contents `f`. -/
def pts (d : Dev nD) (k : PK) (sh : PosShare TreeShare) (f : Buf (Elt F) ((d : Thread nD τ).loc cc0_stg2_0)) : sProp 𝕄 :=
  ((d : Thread nD τ).loc cc0_stg2_0) ↦[pset k]{sh} f

/-- The piece at some contents. -/
def ptsE (d : Dev nD) (k : PK) : sProp 𝕄 := iprop(∃ f, pts d k fullShare f)

instance pts_storable (d : Dev nD) (k : PK) (sh) (f) : BI.Storable (upEmb : UEmb _ 𝕄) (pts (F := F) d k sh f) := by unfold pts; infer_instance
instance ptsE_storable (d : Dev nD) (k : PK) : BI.Storable (upEmb : UEmb _ 𝕄) (ptsE (F := F) d k) := by unfold ptsE; infer_instance

/-- The exchange's ten copies in the kernel's order: axis and slice, or one of the last two. -/
def xd : Fin 10 → (Bool × Fin 4) ⊕ Fin 2
  | 0 => .inl (false, 0) | 1 => .inl (true, 0) | 2 => .inl (false, 1) | 3 => .inl (true, 1) | 4 => .inl (false, 2)
  | 5 => .inl (true, 2) | 6 => .inl (false, 3) | 7 => .inl (true, 3) | 8 => .inr 0 | 9 => .inr 1

/-- The piece of the result the `i`-th copy of the exchange lands on, at device `d` and at its mate alike. -/
def xp (d : Dev nD) (i : Fin 10) : PK :=
  match xd i with
  | .inl (ax, s) => .inl (ax, pos d ax, s)
  | .inr s => .inr s

/-- The send buffer's slice of the `i`-th copy at some contents. -/
def sndE (d : Dev nD) (k : (Bool × Fin 4) ⊕ Fin 2) : sProp 𝕄 :=
  match k with
  | .inl (false, s) => iprop(∃ f : Buf (Elt F) ((d : Thread nD τ).loc cc0_scratch1), ((d : Thread nD τ).loc cc0_scratch1) ↦[(spB s).view.set]{fullShare} f)
  | .inl (true, s) => iprop(∃ f : Buf (Elt F) ((d : Thread nD τ).loc cc0_scratch2), ((d : Thread nD τ).loc cc0_scratch2) ↦[(spC s).view.set]{fullShare} f)
  | .inr s => iprop(∃ f : Buf (Elt F) ((d : Thread nD τ).loc cc0_scratch0), ((d : Thread nD τ).loc cc0_scratch0) ↦[(spA s).view.set]{fullShare} f)

instance sndE_storable (d : Dev nD) (k) : BI.Storable (upEmb : UEmb _ 𝕄) (sndE (F := F) d k) := by
  unfold sndE; split <;> infer_instance

/-! ## The semaphores -/

/-- The kernel's own semaphores: the exchange's send (`x`), the receive of `A` pieces, the receive of a quarter's slice, its
    forwarding in each direction. -/
abbrev Kd : Type := Fin 10 ⊕ Fin 2 ⊕ (Bool × Fin 4 × Fin 4) ⊕ (Bool × Bool × Fin 4 × Fin 4)
abbrev Kd.x (i : Fin 10) : Kd := .inl i
abbrev Kd.a (s : Fin 2) : Kd := .inr (.inl s)
abbrev Kd.r (ax : Bool) (q s : Fin 4) : Kd := .inr (.inr (.inl (ax, q, s)))
abbrev Kd.f (ax dir : Bool) (q s : Fin 4) : Kd := .inr (.inr (.inr (ax, dir, q, s)))

/-- A semaphore's number. -/
def semNo : Kd → ℕ
  | .inl i => 3 + i.val
  | .inr (.inl s) => 13 + s.val
  | .inr (.inr (.inl (ax, q, s))) => 15 + 16 * ax.toNat + 4 * q.val + s.val
  | .inr (.inr (.inr (ax, dir, q, s))) => 47 + 32 * ax.toNat + 16 * (!dir).toNat + 4 * q.val + s.val

/-- The semaphore of a number. -/
def decNo (n : ℕ) : Option Kd :=
  if n < 3 then none
  else if n < 13 then some (.x ⟨(n - 3) % 10, Nat.mod_lt _ (by decide)⟩)
  else if n < 15 then some (.a ⟨(n - 13) % 2, Nat.mod_lt _ (by decide)⟩)
  else if n < 47 then some (.r (decide (31 ≤ n)) ⟨(n - 15) / 4 % 4, Nat.mod_lt _ (by decide)⟩ ⟨(n - 15) % 4, Nat.mod_lt _ (by decide)⟩)
  else some (.f (decide (79 ≤ n)) (decide ((n - 47) / 16 % 2 = 0)) ⟨(n - 47) / 4 % 4, Nat.mod_lt _ (by decide)⟩ ⟨(n - 47) % 4, Nat.mod_lt _ (by decide)⟩)

theorem semNo_lt (k : Kd) : semNo k < 111 := by revert k; decide
instance : DecidableEq Kd := instDecidableEqSum
theorem decNo_semNo (k : Kd) : decNo (semNo k) = some k := by revert k; decide

/-- The semaphore itself. -/
abbrev ksem (k : Kd) : DmaSem sig := ⟨semNo k, semNo_lt k⟩
abbrev osem (k : Kd) : SemLoc sig := .dma (ksem k)
abbrev barS : Sem sig := (SemArray.scalar (sig.barrier 0 rfl) : Sems sig S_).sem

/-- A device's cells: the barrier and its own. -/
abbrev CK : Type := Unit ⊕ Kd
abbrev csem : CK → SemLoc sig := fun k => match k with | .inl _ => .reg barS | .inr k => osem k
abbrev kcell (c : Dev nD) (k : Kd) : GSem nD τ sig := ((c : Thread nD τ), osem k)
abbrev barCell (c : Dev nD) : GSem nD τ sig := ((c : Thread nD τ), .reg barS)
abbrev ccell (ck : Dev nD × CK) : GSem nD τ sig := ((ck.1 : Thread nD τ), csem ck.2)

/-- What a quarter's slice, and an `A` piece, credit. -/
abbrev NB : ℕ := (opc false 0 0).view.dmaCredit
abbrev NA : ℕ := (opa 0).view.dmaCredit
theorem NB_pos : 0 < NB := View.dmaCredit_pos _ (by decide)
theorem NA_pos : 0 < NA := View.dmaCredit_pos _ (by decide)

/-! ## Contents -/

/-- Device `c`'s block of `x` as staged, -/
def xstg (c : Dev nD) : (cc0_stg0_0 : Ref sig .tc).ty.Contents (Elt F) :=
  (win0_0.blk (0 : Fin 1)).view.read (Elt F) ((s₀ m ρ).mem ((c : Thread nD τ).loc main_arg0))
/-- and its copy of the table. -/
def tstg (c : Dev nD) : (cc0_stg1_0 : Ref sig .tc).ty.Contents (Elt F) :=
  (win0_1.blk (0 : Fin 1)).view.read (Elt F) ((s₀ m ρ).mem ((c : Thread nD τ).loc main_arg1))

/-- The device on `c`'s line of axis `ax` at place `q`. -/
def setp (ax : Bool) (q : Fin 4) (c : Dev nD) : Dev nD :=
  ⟨(if ax then 4 * (c.val / 4) + q.val else 16 * (c.val / 16) + 4 * q.val + c.val % 4) % 32, Nat.mod_lt _ (by decide)⟩

/-- The device whose block row `r` of device `c`'s result comes from. -/
def org (c : Dev nD) (r : ℕ) : Dev nD :=
  mate sw (if r < 256 then c else if r < 1152 then setp false ⟨(r - 256) / 224 % 4, Nat.mod_lt _ (by decide)⟩ c
    else setp true ⟨(r - 1152) / 224 % 4, Nat.mod_lt _ (by decide)⟩ c)

/-- What device `c`'s result buffer holds in the end. -/
def outAt (c : Dev nD) : (cc0_stg2_0 : Ref sig .tc).ty.Contents (Elt F) :=
  fun i => xstg m ρ (org sw c ((i : S1x2048x1024.Idx) 1).val) i

theorem setp_nb (c : Dev nD) (ax dir : Bool) (q : Fin 4) (h : fok c ax dir q = true) : setp ax q (nb ax dir c) = setp ax q c := by
  revert c ax dir q; decide
theorem setp_pos (c : Dev nD) (ax : Bool) : setp ax (pos c ax) c = c := by revert c ax; decide
theorem fok_has (c : Dev nD) (ax dir : Bool) (q : Fin 4) (h : fok c ax dir q = true) : has c ax dir = true := by
  revert c ax dir q; decide
theorem arr_has (c : Dev nD) (ax dir : Bool) (q : Fin 4) (h : arr c ax dir q = true) : has c ax dir = true := by
  revert c ax dir q; decide

/-! ## The protocol -/

/-- The share of a piece that its forwarding in direction `dir` takes: half of it when it is forwarded both ways. -/
def shr (c : Dev nD) (ax dir : Bool) (q : Fin 4) : PosShare TreeShare :=
  if fok c ax true q && fok c ax false q then (if dir then fullShare.left else fullShare.right) else fullShare

/-- What the exchange's second signal hands over: the pieces of `d`'s result buffer that `d`'s mate fills. -/
def landX (d : Dev nD) : sProp 𝕄 := bigSep Finset.univ fun i : Fin 10 => ptsE d (xp d i)
/-- What a neighbour's signal hands over: the pieces of `d`'s result buffer that its neighbour in direction `dir` fills. -/
def landN (d : Dev nD) (ax dir : Bool) : sProp 𝕄 :=
  bigSep Finset.univ fun qs : Fin 4 × Fin 4 => if arr d ax dir qs.1 = true then ptsE d (.inl (ax, qs.1, qs.2)) else iprop(emp)

instance landX_storable (d : Dev nD) : BI.Storable (upEmb : UEmb _ 𝕄) (landX (F := F) d) := by unfold landX; infer_instance
instance landN_storable (d : Dev nD) (ax dir : Bool) : BI.Storable (upEmb : UEmb _ 𝕄) (landN (F := F) d ax dir) := by
  unfold landN
  have (qs : Fin 4 × Fin 4) : BI.Storable (upEmb : UEmb _ 𝕄) (if arr d ax dir qs.1 = true then ptsE (F := F) d (.inl (ax, qs.1, qs.2)) else iprop(emp)) := by
    split <;> infer_instance
  infer_instance

/-- The barrier's duties at `c`, -/
def barOk (c : Dev nD) : Duty → Bool
  | .inl _ => true
  | .inr (ax, dir) => has c ax dir
def barD (c : Dev nD) : Finset Duty := Finset.univ.filter fun d => barOk c d = true
/-- and what each hands over. -/
def barPay (c : Dev nD) : Duty → sProp 𝕄
  | .inl false => iprop(emp)
  | .inl true => landX (mate sw c)
  | .inr (ax, dir) => landN (nb ax dir c) ax (!dir)

/-- Whether device `c`'s semaphore `k` is raised at all. -/
def kOk (c : Dev nD) : Kd → Bool
  | .inr (.inr (.inr (ax, dir, q, _))) => fok c ax dir q
  | _ => true
/-- By how much, -/
def kAmt : Kd → ℕ
  | .inl i => match xd i with | .inl _ => NB | .inr _ => NA
  | .inr (.inl _) => NA
  | _ => NB
/-- and what its wait hands over. -/
def kPay (c : Dev nD) : Kd → sProp 𝕄
  | .inl i => sndE c (xd i)
  | .inr (.inl s) => pts c (.inr s) fullShare (outAt m ρ sw c)
  | .inr (.inr (.inl k)) => pts c (.inl k) fullShare (outAt m ρ sw c)
  | .inr (.inr (.inr (ax, dir, q, s))) => pts c (.inl (ax, q, s)) (shr c ax dir q) (outAt m ρ sw c)

theorem kAmt_pos (k : Kd) : 0 < kAmt k := by
  unfold kAmt; (repeat' split) <;> first | exact NB_pos | exact NA_pos

instance barPay_storable (c : Dev nD) (d : Duty) : BI.Storable (upEmb : UEmb _ 𝕄) (barPay (F := F) sw c d) := by
  unfold barPay; split <;> infer_instance
instance kPay_storable (c : Dev nD) (k : Kd) : BI.Storable (upEmb : UEmb _ 𝕄) (kPay m ρ sw c k) := by
  unfold kPay; split <;> infer_instance

/-- The protocol as a schedule of one round. -/
def Rd : Rounds.Schedule (GSem nD τ sig) Duty 𝕄 where
  duties g r :=
    if r = 0 ∧ g.1.2 = .tc then
      match g.2 with
      | .reg _ => barD g.1.1
      | .dma n => match decNo n.val with
        | none => ∅
        | some k => if kOk g.1.1 k = true then {du} else ∅
    else ∅
  unitless _ := False
  amount g _ _ := match g.2 with
    | .reg _ => 1
    | .dma n => match decNo n.val with
      | none => 1
      | some k => kAmt k
  payload g _ d := match g.2 with
    | .reg _ => barPay sw g.1.1 d
    | .dma n => match decNo n.val with
      | none => iprop(emp)
      | some k => kPay m ρ sw g.1.1 k
  amount_pos g _ _ _ := by
    (repeat' split) <;> first | exact Nat.one_pos | exact kAmt_pos _

instance Rd_payload_storable (g : GSem nD τ sig) (r : ℕ) (d : Duty) : BI.Storable (upEmb : UEmb _ 𝕄) ((Rd (F := F) m ρ sw).payload g r d) := by
  dsimp only [Rd]
  (repeat' split) <;> infer_instance

section Sched
variable (c : Dev nD)

theorem duties_bar : (Rd (F := F) m ρ sw).duties (barCell c) 0 = barD c := by dsimp only [Rd]; exact if_pos ⟨rfl, rfl⟩
theorem duties_k (k : Kd) (h : kOk c k = true) : (Rd (F := F) m ρ sw).duties (kcell c k) 0 = {du} := by
  dsimp only [Rd]; rw [if_pos ⟨rfl, rfl⟩, decNo_semNo]; exact if_pos h
theorem duties_k_none (k : Kd) (h : kOk c k = false) : ∀ r, 0 ≤ r → (Rd (F := F) m ρ sw).duties (kcell c k) r = ∅ := fun r _ => by
  dsimp only [Rd]; split
  · rw [decNo_semNo]; dsimp only; rw [if_neg (by rw [h]; decide)]
  · rfl
theorem duties_later (g : GSem nD τ sig) : ∀ r, 0 + 1 ≤ r → (Rd (F := F) m ρ sw).duties g r = ∅ :=
  fun r hr => by dsimp only [Rd]; exact if_neg fun h => by omega
theorem amount_bar (d : Duty) : (Rd (F := F) m ρ sw).amount (barCell c) 0 d = 1 := rfl
theorem amount_k (k : Kd) (d : Duty) : (Rd (F := F) m ρ sw).amount (kcell c k) 0 d = kAmt k := by
  dsimp only [Rd]; rw [decNo_semNo]
theorem payload_bar (d : Duty) : (Rd (F := F) m ρ sw).payload (barCell c) 0 d = barPay sw c d := rfl
theorem payload_k (k : Kd) (d : Duty) : (Rd (F := F) m ρ sw).payload (kcell c k) 0 d = kPay m ρ sw c k := by
  dsimp only [Rd]; rw [decNo_semNo]
theorem expect_bar : (Rd (F := F) m ρ sw).expect (barCell c) 0 = (barD c).card := by
  unfold Schedule.expect Schedule.amountOf; rw [duties_bar, Finset.sum_congr rfl fun d _ => amount_bar m ρ sw c d, Finset.sum_const, smul_eq_mul, mul_one]
theorem expect_k (k : Kd) (h : kOk c k = true) : (Rd (F := F) m ρ sw).expect (kcell c k) 0 = kAmt k := by
  unfold Schedule.expect Schedule.amountOf; rw [duties_k m ρ sw c k h, Finset.sum_singleton, amount_k]
theorem rest_bar : bigSep ((Rd (F := F) m ρ sw).duties (barCell c) 0 \ ∅) (fun u => (Rd (F := F) m ρ sw).payload (barCell c) 0 u)
    = bigSep Finset.univ fun d : Duty => if barOk c d = true then barPay sw c d else iprop(emp) := by
  rw [Finset.sdiff_empty, duties_bar]; unfold barD; rw [bigSep_filter]; rfl
theorem rest_k (k : Kd) (h : kOk c k = true) : bigSep ((Rd (F := F) m ρ sw).duties (kcell c k) 0 \ ∅) (fun u => (Rd (F := F) m ρ sw).payload (kcell c k) 0 u)
    = kPay m ρ sw c k := by
  rw [Finset.sdiff_empty, duties_k m ρ sw c k h, bigSep_singleton, payload_k]

end Sched

/-! ## The levels -/

def L (g : GSem nD τ sig) : Finset Unit := if g.1.2 = .tc then {()} else ∅
/-- A cell's level: the barrier's 1, the exchange's landings 2, a forwarded slice's 2 more than the distance it comes. -/
def lv (g : GSem nD τ sig) (_ : Unit) : ℕ := match g.2 with
  | .reg _ => 1
  | .dma n => match decNo n.val with
    | some (.inr (.inl _)) => 2
    | some (.inr (.inr (.inl (ax, q, _)))) => 2 + (((pos g.1.1 ax).val - q.val) + (q.val - (pos g.1.1 ax).val))
    | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_a (c : Dev nD) (s : Fin 2) (u : Unit) : lv (kcell c (.a s)) u = 2 := by dsimp only [lv]; rw [decNo_semNo]
theorem lv_r (c : Dev nD) (ax : Bool) (q s : Fin 4) (u : Unit) :
    lv (kcell c (.r ax q s)) u = 2 + (((pos c ax).val - q.val) + (q.val - (pos c ax).val)) := by dsimp only [lv]; rw [decNo_semNo]

end Cert.KProof

end
-- ==== Proof.State.lean ====
/-
The rules of the run in the protocol's terms: what the pieces hold, which waits are allowed, the wait on a semaphore of
the device's own, the forwarding of a slice.
-/
module

public import proofs.«01_k».proof.Proof.Common

@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

abbrev 𝒱₀ : Variants := Variants.none

/-! ## What the pieces hold -/

/-- The elements of a quarter's slice, by row and column. -/
theorem mem_opc (ax : Bool) (q s : Fin 4) (i : S1x2048x1024.Idx) :
    i ∈ (opc ax q s).view.set ↔ (rowOf ax q ≤ (i 1).val ∧ (i 1).val < rowOf ax q + 224) ∧ (256 * s.val ≤ (i 2).val ∧ (i 2).val < 256 * s.val + 256) := by
  have h : ((opc ax q s).view.set : Finset S1x2048x1024.Idx)
      = (Rect.unit (s := S1x2048x1024) ![0, rowOf ax q, 256 * s.val] S1x224x256.size (opcInb ax q s)).set := by
    rw [Memref.set_view_squeeze]; exact View.set_slice_whole _ _
  rw [h, Rect.mem_set_unit]
  constructor
  · intro h; exact ⟨h 1, h 2⟩
  · rintro ⟨h1, h2⟩ a
    match a with
    | ⟨0, _⟩ => exact ⟨Nat.zero_le _, (i 0).isLt⟩
    | ⟨1, _⟩ => exact h1
    | ⟨2, _⟩ => exact h2

/-- The elements of an `A` piece, by row. -/
theorem mem_opa (s : Fin 2) (i : S1x2048x1024.Idx) :
    i ∈ (opa s).view.set ↔ (128 * s.val ≤ (i 1).val ∧ (i 1).val < 128 * s.val + 128) := by
  have h : ((opa s).view.set : Finset S1x2048x1024.Idx)
      = (Rect.unit (s := S1x2048x1024) ![0, 128 * s.val, 0] S1x128x1024.size (opaInb s)).set := by
    rw [Memref.set_view_squeeze]; exact View.set_slice_whole _ _
  rw [h, Rect.mem_set_unit]
  constructor
  · intro h; exact h 1
  · rintro h1 a
    match a with
    | ⟨0, _⟩ => exact ⟨Nat.zero_le _, (i 0).isLt⟩
    | ⟨1, _⟩ => exact h1
    | ⟨2, _⟩ => exact ⟨Nat.zero_le _, by have := (i 2).isLt; show (i 2).val < 0 + 1024; rw [Nat.zero_add]; exact this⟩

/-- Where the rows of a quarter come from. -/
theorem org_opc (c : Dev nD) (ax : Bool) (q : Fin 4) (r : ℕ) (h1 : rowOf ax q ≤ r) (h2 : r < rowOf ax q + 224) :
    org sw c r = mate sw (setp ax q c) := by
  unfold org
  have hq := q.isLt
  unfold rowOf at h1 h2
  cases ax
  · simp only [Bool.false_eq_true, if_false] at h1 h2
    rw [if_neg (by omega), if_pos (by omega)]
    congr 2; exact Fin.ext (by dsimp only; omega)
  · simp only [if_true] at h1 h2
    rw [if_neg (by omega), if_neg (by omega)]
    congr 2; exact Fin.ext (by dsimp only; omega)

/-- A forwarded slice holds at the neighbour what it holds here. -/
theorem read_fwd (c : Dev nD) (ax dir : Bool) (q s : Fin 4) (h : fok c ax dir q = true) :
    (opc ax q s).view.read (Elt F) (outAt m ρ sw c) = (opc ax q s).view.read (Elt F) (outAt m ρ sw (nb ax dir c)) :=
  View.read_congr fun i hi => by
    have hb := ((mem_opc ax q s i).mp hi).1
    unfold outAt
    rw [org_opc sw c ax q _ hb.1 hb.2, org_opc sw (nb ax dir c) ax q _ hb.1 hb.2, setp_nb c ax dir q h]

/-- A quarter's slice written with what it is to hold, holds it. -/
theorem pts_opc_write (d : Dev nD) (ax : Bool) (q s : Fin 4) (fd : Buf (Elt F) ((d : Thread nD τ).loc cc0_stg2_0)) :
    ((opc ax q s).view.loc (d : Thread nD τ) ↦[(opc ax q s).view.set]{fullShare}
        ((opc ax q s).view.write (Elt F) fd ((opc ax q s).view.read (Elt F) (outAt m ρ sw d)) Finset.univ) : sProp 𝕄)
      = pts d (.inl (ax, q, s)) fullShare (outAt m ρ sw d) :=
  pointsTo_congr fun i hi => by rw [View.write_read_eq_piecewise]; exact Finset.piecewise_eq_of_mem _ _ _ hi
/-- An `A` piece likewise. -/
theorem pts_opa_write (d : Dev nD) (s : Fin 2) (fd : Buf (Elt F) ((d : Thread nD τ).loc cc0_stg2_0)) :
    ((opa s).view.loc (d : Thread nD τ) ↦[(opa s).view.set]{fullShare}
        ((opa s).view.write (Elt F) fd ((opa s).view.read (Elt F) (outAt m ρ sw d)) Finset.univ) : sProp 𝕄)
      = pts d (.inr s) fullShare (outAt m ρ sw d) :=
  pointsTo_congr fun i hi => by rw [View.write_read_eq_piecewise]; exact Finset.piecewise_eq_of_mem _ _ _ hi

/-! ## Owed units above a level -/

/-- Everything owed lies on TensorCore cells above level `n`. -/
def Above (n : ℕ) (O : CellTallies nD τ sig Unit) : Prop := ∀ (g : GSem nD τ sig) (u : Unit), 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · obtain ⟨rfl, rfl⟩ := h'; exact ⟨rfl, h⟩
  · rw [if_neg h'] at hg; exact absurd hg (Nat.lt_irrefl 0)
theorem above_mono {n n' : ℕ} {O : CellTallies nD τ sig Unit} (h : Above n O) (hn : n' ≤ n) : Above n' O :=
  fun g u hg => ⟨(h g u hg).1, lt_of_le_of_lt hn (h g u hg).2⟩

/-- A wait is allowed when all owed lies above its cell's level. -/
theorem mayWait_of (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-! ## The records every device shares -/

/-- Every cell's invariant, and that it is open. -/
def recs (K : Dev nD × CK → ℕ) : sProp 𝕄 :=
  iprop((bigSep Finset.univ fun ck : Dev nD × CK => cellInv ER (Rd m ρ sw) (K ck) (ccell ck))
    ∗ bigSep Finset.univ fun ck : Dev nD × CK => reached ER (ccell ck) 0)
instance recs_persistent (K : Dev nD × CK → ℕ) : BI.Persistent (recs m ρ sw K) := by unfold recs; infer_instance

/-- The records and the levels. -/
def env (K : Dev nD × CK → ℕ) : sProp 𝕄 := iprop(recs m ρ sw K ∗ levAts L lv)
instance env_persistent (K : Dev nD × CK → ℕ) : BI.Persistent (env m ρ sw K) := by unfold env; infer_instance

variable (K : Dev nD × CK → ℕ)

omit [FloatOps F] in
theorem inv_at (ck : Dev nD × CK) :
    (bigSep Finset.univ fun ck : Dev nD × CK => (cellInv ER (Rd m ρ sw) (K ck) (ccell ck) : sProp 𝕄)) ⊢ cellInv ER (Rd m ρ sw) (K ck) (ccell ck) :=
  bigSep_elim (Finset.mem_univ ck)
omit [FloatOps F] in
theorem reached_at (ck : Dev nD × CK) :
    (bigSep Finset.univ fun ck : Dev nD × CK => (reached ER (ccell ck) 0 : sProp 𝕄)) ⊢ reached ER (ccell ck) 0 :=
  bigSep_elim (Finset.mem_univ ck)

theorem env_inv (ck : Dev nD × CK) : env m ρ sw K ⊢ cellInv ER (Rd m ρ sw) (K ck) (ccell ck) := by
  unfold env recs
  iintro ⟨⟨H, -⟩, -⟩
  iapply (inv_at m ρ sw K ck); iexact H
theorem env_reached (ck : Dev nD × CK) : env m ρ sw K ⊢ reached ER (ccell ck) 0 := by
  unfold env recs
  iintro ⟨⟨-, H⟩, -⟩
  iapply (reached_at ck); iexact H
theorem env_lev : (env m ρ sw K : sProp 𝕄) ⊢ (levAts L lv : sProp 𝕄) := by
  unfold env; iintro ⟨-, H⟩; iexact H

theorem env_mayWait (c : Dev nD) (k : Kd) (O : CellTallies nD τ sig Unit) (h : Above (lv (kcell c k) ()) O) :
    env m ρ sw K ⊢ MayWait (c : Thread nD τ) (osem k) () O := by
  unfold env
  iintro ⟨-, H⟩
  iapply (mayWait_of c (osem k) O h); iexact H

/-- A semaphore never raised can be closed as it is. -/
theorem close_none (c : Dev nD) (k : Kd) (h : kOk c k = false) :
    iprop(env m ρ sw K ∗ atPos ER (kcell c k) 0 ∅ 0) ⊢ (|={Set.univ}=> semVal (kcell c k) 0 : sProp 𝕄) := by
  iintro ⟨#He, Ha⟩
  iapply (Rounds.cell_close ER (Rd m ρ sw) (Set.mem_univ (K (c, .inr k))) (fun h => h) (R := 0) (duties_k_none m ρ sw c k h))
  isplitr
  · iapply (env_inv m ρ sw K (c, .inr k)); iexact He
  iexact Ha

section Ops

variable (c : Dev nD)

/-- The wait on one of the device's own semaphores: what it is handed, and the semaphore closed. -/
theorem wp_wait_k {α : Type} {Q : α → sProp 𝕄} {kk : PUnit → Prog (TpuEff nD τ sig (Elt F) Λ₀ .tc) α} (k : Kd) (hk : kOk c k = true) (sem : DmaSem sig) (hsem : sem = ksem k)
    {sp sp' : Space} {s : Shape} {e : EltTy} {src : Memref sig .tc sp s e} {dst : Memref sig .tc sp' s e} {hsrc : src.view.WordExact} {hdst : dst.view.WordExact}
    (hamt : dst.view.dmaCredit = kAmt k) (O : CellTallies nD τ sig Unit) (hA : Above (lv (kcell c k) ()) O) :
    iprop(env m ρ sw K ∗ cred (tallyAt (kcell c k) () (kAmt k)) ∗ (∃ W, owes (c : Thread nD τ) O W) ∗ atPos ER (kcell c k) 0 ∅ 0)
      ⊢ iprop(((semVal (kcell c k) 0 ∗ (∃ W, owes (c : Thread nD τ) O W) ∗ kPay m ρ sw c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hsem
  have hx : 0 + dst.view.dmaCredit = (Rd (F := F) m ρ sw).expect (kcell c k) 0 := by rw [Nat.zero_add, expect_k m ρ sw c k hk, hamt]
  iintro ⟨#He, Hc, ⟨%W, HO⟩, Ha⟩
  iintro Hk
  iapply (Rounds.wp_wait_rest_token 𝒱₀ ER (Rd m ρ sw) (c : Thread nD τ) none (κ := K (c, .inr k))
      (wpE_waitDma2_eq 𝒱₀ (c : Thread nD τ) none Set.univ) (Set.mem_univ _) () (O := O) (W := W) (R := 0) (m := 0) (T := ∅)
      hx) $$ [Hc HO Ha]
  · isplitr; · iapply (env_inv m ρ sw K (c, .inr k)); iexact He
    isplitl [Hc]; · rw [hamt]; iexact Hc
    isplitl [HO]; · iexact HO
    isplitr; · iapply (env_mayWait m ρ sw K c k O hA); iexact He
    iexact Ha
  iintro ⟨HO, Ha, -, Hp⟩
  ihave Hp := (Entails.of_eq (rest_k m ρ sw c k hk)) $$ Hp
  imod (Rounds.cell_close ER (Rd m ρ sw) (Set.mem_univ (K (c, .inr k))) (fun h => h) (R := 0 + 1) (duties_later m ρ sw (kcell c k))) $$ [Ha] with Hz
  · isplitr; · iapply (env_inv m ρ sw K (c, .inr k)); iexact He
    iexact Ha
  iapply Hk
  isplitl [Hz]; · iexact Hz
  isplitl [HO]; · iexists _; iexact HO
  iexact Hp

/-- What forwarding slice `(q, s)` in direction `dir` owes: the neighbour's receive. -/
def owedF (c : Dev nD) (ax dir : Bool) (q s : Fin 4) : CellTallies nD τ sig Unit :=
  if fok c ax dir q = true then tallyAt (kcell (nb ax dir c) (.r ax q s)) () NB else 0

/-- The forwarding of a slice. -/
theorem wp_send_f {α : Type} {Q : α → sProp 𝕄} {kk : PUnit → Prog (TpuEff nD τ sig (Elt F) Λ₀ .tc) α} (ax dir : Bool) (q s : Fin 4) (hf : fok c ax dir q = true) (n : Dev nD) (hn : n = nb ax dir c)
    (sS sR : DmaSem sig) (hS : sS = ksem (.f ax dir q s)) (hR : sR = ksem (.r ax q s))
    {hsc : (opc ax q s : Memref sig (Dev.tc n : Thread nD τ).2.kind .vmem S224x256 .bf16).view.ref.isScScratch = false}
    {hsrc : (opc ax q s).view.WordExact} {hdst : (opc ax q s).view.WordExact}
    {hsem : DmaTarget.Typed .vmem (.dma sR) (.remote (Dev.tc n : Thread nD τ) (opc ax q s : Memref sig .tc .vmem S224x256 .bf16) (.dma sS) hsc)}
    (O : CellTallies nD τ sig Unit) :
    iprop(env m ρ sw K ∗ pts c (.inl (ax, q, s)) (shr c ax dir q) (outAt m ρ sw c) ∗ ptsE (nb ax dir c) (.inl (ax, q, s))
        ∗ (∃ W, owes (c : Thread nD τ) (O + owedF c ax dir q s) W)
        ∗ dutyTok ER (kcell c (.f ax dir q s)) 0 du ∗ dutyTok ER (kcell (nb ax dir c) (.r ax q s)) 0 du)
      ⊢ iprop(((cred (tallyAt (kcell c (.f ax dir q s)) () NB) ∗ ∃ W, owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (opc ax q s) (.remote (Dev.tc n : Thread nD τ) (opc ax q s) (.dma sS) hsc) (.dma sR) hsrc hdst hsem) kk) Q) := by
  subst hn hS hR
  have hd1 : du ∈ (Rd (F := F) m ρ sw).duties (kcell c (.f ax dir q s)) 0 := by
    rw [duties_k m ρ sw c (.f ax dir q s) hf]; exact Finset.mem_singleton_self _
  have hd2 : du ∈ (Rd (F := F) m ρ sw).duties (kcell (nb ax dir c) (.r ax q s)) 0 := by
    rw [duties_k m ρ sw (nb ax dir c) (.r ax q s) rfl]; exact Finset.mem_singleton_self _
  have hO : O + owedF c ax dir q s = O + tallyAt (kcell (nb ax dir c) (.r ax q s)) () NB := by unfold owedF; rw [if_pos hf]
  have hp1 : ((opc ax q s).view.loc (c : Thread nD τ) ↦[(opc ax q s).view.set]{shr c ax dir q} (outAt m ρ sw c) : sProp 𝕄)
      ⊢ (Rd (F := F) m ρ sw).payload (kcell c (.f ax dir q s)) 0 du := by
    rw [payload_k m ρ sw c (.f ax dir q s)]; unfold kPay pts; exact BI.Entails.refl _
  have hp2 (fd : Buf (Elt F) ((nb ax dir c : Thread nD τ).loc cc0_stg2_0)) :
      ((opc ax q s).view.loc (nb ax dir c : Thread nD τ) ↦[(opc ax q s).view.set]{fullShare}
        ((opc ax q s).view.write (Elt F) fd ((opc ax q s).view.read (Elt F) (outAt m ρ sw c)) Finset.univ) : sProp 𝕄)
      ⊢ (Rd (F := F) m ρ sw).payload (kcell (nb ax dir c) (.r ax q s)) 0 du := by
    rw [payload_k m ρ sw (nb ax dir c) (.r ax q s), read_fwd m ρ sw c ax dir q s hf]
    exact Entails.of_eq (pts_opc_write m ρ sw (nb ax dir c) ax q s fd)
  unfold ptsE
  iintro ⟨#He, Hs, ⟨%fd, Hd⟩, ⟨%W, HO⟩, Ht1, Ht2⟩
  iintro Hk
  iapply (Rounds.wp_send_pointsTo 𝒱₀ ER (Rd m ρ sw) (c : Thread nD τ) none (κ₁ := K (c, .inr (.f ax dir q s))) (κ₂ := K (nb ax dir c, .inr (.r ax q s)))
    (c' := (Dev.tc (nb ax dir c) : Thread nD τ))
    (src := opc ax q s) (dst := opc ax q s) (q := shr c ax dir q) (fs := outAt m ρ sw c)
    (r₁ := 0) (r₂ := 0) (d₁ := du) (d₂ := du) (fd := fd)
    hd1 hd2 () () NB rfl (amount_k m ρ sw c (.f ax dir q s) du) (amount_k m ρ sw (nb ax dir c) (.r ax q s) du) O
    hO (W := W) hp1 (hp2 fd)) $$ [Hs Hd HO Ht1 Ht2]
  · isplitr; · iapply (env_inv m ρ sw K (c, .inr (.f ax dir q s))); iexact He
    isplitr; · iapply (env_inv m ρ sw K (nb ax dir c, .inr (.r ax q s))); iexact He
    isplitl [Hs]; · unfold pts; iexact Hs
    isplitl [Hd]; · unfold pts; iexact Hd
    isplitl [HO]; · iexact HO
    isplitl [Ht1]; · iexact Ht1
    isplitr; · iapply (env_reached m ρ sw K (c, .inr (.f ax dir q s))); iexact He
    isplitl [Ht2]; · iexact Ht2
    iapply (env_reached m ρ sw K (nb ax dir c, .inr (.r ax q s))); iexact He
  iintro ⟨Hc, HO⟩
  iapply Hk
  isplitl [Hc]; · iexact Hc
  iexists W; iexact HO

end Ops

end Cert.KProof

end
-- ==== Proof.Hand.lean ====
/-
One step of the kernel: the wait for a slice and its forwarding both ways along the line, at a symbolic device; and the
wait for a forwarding at the end.
-/
module

public import proofs.«01_k».proof.Proof.State
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)
/-! ## What a step holds -/

/-- What forwarding in direction `dir` starts from, but for the piece itself. -/
def fwdPre (c : Dev nD) (ax dir : Bool) (q s : Fin 4) : sProp 𝕄 :=
  iprop(atPos ER (kcell c (.f ax dir q s)) 0 ∅ 0 ∗ if fok c ax dir q = true then
    iprop(dutyTok ER (kcell c (.f ax dir q s)) 0 du ∗ dutyTok ER (kcell (nb ax dir c) (.r ax q s)) 0 du ∗ ptsE (nb ax dir c) (.inl (ax, q, s))) else iprop(emp))
/-- The piece in the share forwarding takes, if it does. -/
def fwdPts (c : Dev nD) (ax dir : Bool) (q s : Fin 4) : sProp 𝕄 :=
  if fok c ax dir q = true then pts c (.inl (ax, q, s)) (shr c ax dir q) (outAt m ρ sw c) else iprop(emp)
/-- What it leaves: the wait for the copy is still to come. -/
def fwdMid (c : Dev nD) (ax dir : Bool) (q s : Fin 4) : sProp 𝕄 :=
  iprop(atPos ER (kcell c (.f ax dir q s)) 0 ∅ 0 ∗ if fok c ax dir q = true then cred (tallyAt (kcell c (.f ax dir q s)) () NB) else iprop(emp))
/-- What that wait leaves. -/
def fwdEnd (c : Dev nD) (ax dir : Bool) (q s : Fin 4) : sProp 𝕄 :=
  iprop(semVal (kcell c (.f ax dir q s)) 0 ∗ fwdPts m ρ sw c ax dir q s)

/-- The piece stays when it is not forwarded. -/
def keep (c : Dev nD) (ax : Bool) (q s : Fin 4) : sProp 𝕄 :=
  if (fok c ax true q || fok c ax false q) = true then iprop(emp) else pts c (.inl (ax, q, s)) fullShare (outAt m ρ sw c)

/-- A step before it is run, -/
def HPre (c : Dev nD) (x : Slot) : sProp 𝕄 :=
  if inr c x.1 x.2.1 = true then
    iprop(atPos ER (kcell c (.r x.1 (slotQ c x.1 x.2.1) x.2.2)) 0 ∅ 0 ∗ cred (tallyAt (kcell c (.r x.1 (slotQ c x.1 x.2.1) x.2.2)) () NB)
      ∗ fwdPre c x.1 true (slotQ c x.1 x.2.1) x.2.2 ∗ fwdPre c x.1 false (slotQ c x.1 x.2.1) x.2.2)
  else iprop(emp)
/-- and after. -/
def HPost (c : Dev nD) (x : Slot) : sProp 𝕄 :=
  if inr c x.1 x.2.1 = true then
    iprop(semVal (kcell c (.r x.1 (slotQ c x.1 x.2.1) x.2.2)) 0 ∗ keep m ρ sw c x.1 (slotQ c x.1 x.2.1) x.2.2
      ∗ fwdMid c x.1 true (slotQ c x.1 x.2.1) x.2.2 ∗ fwdMid c x.1 false (slotQ c x.1 x.2.1) x.2.2)
  else iprop(emp)

/-! ## What the steps owe -/

/-- What a step owes in direction `dir`. -/
def owedX (c : Dev nD) (x : Slot) (dir : Bool) : CellTallies nD τ sig Unit :=
  if inr c x.1 x.2.1 = true then owedF c x.1 dir (slotQ c x.1 x.2.1) x.2.2 else 0
/-- What a list of steps owes. -/
def owedS (c : Dev nD) : List Slot → CellTallies nD τ sig Unit
  | [] => 0
  | x :: l => (owedS c l + owedX c x false) + owedX c x true

theorem owedS_cons (c : Dev nD) (x : Slot) (l : List Slot) : owedS c (x :: l) = (owedS c l + owedX c x false) + owedX c x true := rfl
theorem owedX_pos (c : Dev nD) (ax : Bool) (δ : Fin 7) (s : Fin 4) (dir : Bool) (h : inr c ax δ = true) :
    owedX c (ax, δ, s) dir = owedF c ax dir (slotQ c ax δ) s := if_pos h
theorem owedX_neg (c : Dev nD) (ax : Bool) (δ : Fin 7) (s : Fin 4) (dir : Bool) (h : ¬ inr c ax δ = true) :
    owedX c (ax, δ, s) dir = 0 := if_neg h

theorem lv_fwd (c : Dev nD) (ax dir : Bool) (δ : Fin 7) (h : inr c ax δ = true) (hf : fok c ax dir (slotQ c ax δ) = true) :
    dist δ < ((pos (nb ax dir c) ax).val - (slotQ c ax δ).val) + ((slotQ c ax δ).val - (pos (nb ax dir c) ax).val) := by
  revert c ax dir δ; decide
theorem lv_own (c : Dev nD) (ax : Bool) (δ : Fin 7) (h : inr c ax δ = true) :
    ((pos c ax).val - (slotQ c ax δ).val) + ((slotQ c ax δ).val - (pos c ax).val) = dist δ := by
  revert c ax δ; decide
theorem slots_sorted : slots.Pairwise fun x y => dist x.2.1 ≤ dist y.2.1 := by decide

theorem above_owedX (c : Dev nD) (n : ℕ) (x : Slot) (dir : Bool) (h : n ≤ 2 + dist x.2.1) : Above n (owedX c x dir) := by
  unfold owedX
  split
  · rename_i hi
    unfold owedF
    split
    · rename_i hf
      refine above_tally _ _ _ ?_
      have h1 := lv_r (nb x.1 dir c) x.1 (slotQ c x.1 x.2.1) x.2.2 ()
      have h2 := lv_fwd c x.1 dir x.2.1 hi hf
      rw [h1]; omega
    · exact above_zero n
  · exact above_zero n
theorem above_owedS (c : Dev nD) (n : ℕ) (l : List Slot) (h : ∀ y ∈ l, n ≤ 2 + dist y.2.1) : Above n (owedS c l) := by
  induction l with
  | nil => exact above_zero n
  | cons x l ih =>
    refine above_add (above_add (ih fun y hy => h y (List.mem_cons_of_mem _ hy)) ?_) ?_ <;> exact above_owedX c n x _ (h x List.mem_cons_self)

/-! ## The piece into shares -/

/-- The piece a step has received, in the shares its forwardings take. -/
theorem piece_split (c : Dev nD) (ax : Bool) (q s : Fin 4) :
    (pts c (.inl (ax, q, s)) fullShare (outAt m ρ sw c) : sProp 𝕄)
      ⊣⊢ iprop(keep m ρ sw c ax q s ∗ fwdPts m ρ sw c ax true q s ∗ fwdPts m ρ sw c ax false q s) := by
  unfold keep fwdPts shr
  rcases h1 : fok c ax true q <;> rcases h2 : fok c ax false q <;>
    simp only [Bool.or_self, Bool.or_true, Bool.or_false, Bool.true_or, Bool.false_or, Bool.and_self, Bool.and_true, Bool.and_false, Bool.true_and, Bool.false_and, if_true, if_false, Bool.false_eq_true, reduceIte]
  · constructor
    · iintro H; isplitl [H]; · iexact H
      isplitl <;> iempintro
    · iintro ⟨H, -, -⟩; iexact H
  · constructor
    · iintro H; isplitr; · iempintro
      isplitr; · iempintro
      iexact H
    · iintro ⟨-, -, H⟩; iexact H
  · constructor
    · iintro H; isplitr; · iempintro
      isplitl [H]; · iexact H
      iempintro
    · iintro ⟨-, H, -⟩; iexact H
  · unfold pts
    constructor
    · iintro H
      ihave H := (pointsTo_share (by rw [PosShare.left_op_right]; exact Part.mem_some _)).1 $$ H
      icases H with ⟨Ha, Hb⟩
      isplitr; · iempintro
      isplitl [Ha]; · iexact Ha
      iexact Hb
    · iintro ⟨-, Ha, Hb⟩
      iapply (pointsTo_share (q := fullShare) (q₁ := fullShare.left) (q₂ := fullShare.right) (by rw [PosShare.left_op_right]; exact Part.mem_some _)).2
      isplitl [Ha]; · iexact Ha
      iexact Hb

omit [FloatOps F] in
theorem kPay_x (c : Dev nD) (i : Fin 10) : kPay m ρ sw c (.x i) = sndE c (xd i) := rfl
omit [FloatOps F] in
theorem kPay_a (c : Dev nD) (s : Fin 2) : kPay m ρ sw c (.a s) = pts c (.inr s) fullShare (outAt m ρ sw c) := rfl
omit [FloatOps F] in
theorem kPay_r (c : Dev nD) (ax : Bool) (q s : Fin 4) : kPay m ρ sw c (.r ax q s) = pts c (.inl (ax, q, s)) fullShare (outAt m ρ sw c) := rfl
omit [FloatOps F] in
theorem kPay_f (c : Dev nD) (ax dir : Bool) (q s : Fin 4) : kPay m ρ sw c (.f ax dir q s) = pts c (.inl (ax, q, s)) (shr c ax dir q) (outAt m ρ sw c) := rfl

/-! ## One step of the kernel -/

section Step

variable (c : Dev nD)

theorem wp_pure' {α : Type} (a : α) {Q : α → sProp 𝕄} :
    Q a ⊢ wp frame (wpE (defs₀ (F := F)) 𝒱₀ (c : Thread nD τ) none) Set.univ (pure a) Q := by
  rw [wp_pure]; exact fupd_intro
theorem wp_pure_eq {α : Type} (a : α) {Q : α → sProp 𝕄} {P : sProp 𝕄} {prg : Prog (TpuEff nD τ sig (Elt F) Λ₀ .tc) α} (hprg : prg = pure a) (h : P ⊢ Q a) :
    P ⊢ wp frame (wpE (defs₀ (F := F)) 𝒱₀ (c : Thread nD τ) none) Set.univ prg Q := by
  subst hprg; exact h.trans (wp_pure' c a)
theorem wp_bind' {α β : Type} (p : Prog (TpuEff nD τ sig (Elt F) Λ₀ .tc) α) (k : α → Prog (TpuEff nD τ sig (Elt F) Λ₀ .tc) β) {Q : β → sProp 𝕄} :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q := by
  rw [wp_bind]

/-- Forwarding in one direction, as the program has it: nothing when the piece does not go that way. -/
theorem wp_fwd (ax dir : Bool) (q s : Fin 4) (k : BitVec 1) (o : Fin 2 → ℕ) (p : Fin 3 → ℕ) (d : ℕ) (R Fw : DmaSems sig S4x4)
    (hR : ∀ q s : Fin 4, ∀ h, ((R.slice (Rect.unit (s := S4x4) ![q.val, s.val] S1x1.size h)).squeeze S_ squeezes_S1x1_S_).sem = ksem (.r ax q s))
    (hF : ∀ q s : Fin 4, ∀ h, ((Fw.slice (Rect.unit (s := S4x4) ![q.val, s.val] S1x1.size h)).squeeze S_ squeezes_S1x1_S_).sem = ksem (.f ax dir q s))
    (hk : k = 1#1 ↔ fok c ax dir q = true) (ho : fok c ax dir q = true → o = ![q.val, s.val] ∧ p = ![0, rowOf ax q, 256 * s.val] ∧ d = (nb ax dir c).val)
    (harg2 : (Memref.whole cc0_stg2_0 : Memref sig .tc .vmem S1x2048x1024 .bf16).IsWhole)
    (bo : k = 1#1 → ∀ a, o a + S1x1.size a ≤ S4x4.size a) (bp : k = 1#1 → ∀ a, p a + S1x224x256.size a ≤ S1x2048x1024.size a)
    (bw : ∀ h : k = 1#1, (Rect.unit (s := S1x2048x1024) p S1x224x256.size (bp h)).WholeWords (EltTy.packing .bf16)) (bd : k = 1#1 → d < nD)
    (O : CellTallies nD τ sig Unit) {α : Type} {kt : Prog (TpuEff nD τ sig (Elt F) Λ₀ .tc) α} {Q : α → sProp 𝕄} :
    iprop(env m ρ sw K ∗ fwdPre c ax dir q s ∗ fwdPts m ρ sw c ax dir q s ∗ (∃ W, owes (c : Thread nD τ) (O + owedF c ax dir q s) W))
      ⊢ iprop(((fwdMid c ax dir q s ∗ ∃ W, owes (c : Thread nD τ) O W) -∗ wp frame (wpE (defs₀ (F := F)) 𝒱₀ (c : Thread nD τ) none) Set.univ kt Q)
        -∗ wp frame (wpE (defs₀ (F := F)) 𝒱₀ (c : Thread nD τ) none) Set.univ
          (if h : k = 1#1 then do
            let v1599 : DmaSems sig S1x1 := Fw.slice (Rect.unit (s := S4x4) o S1x1.size (bo h))
            let v1600 : DmaSems sig S_ := v1599.squeeze S_ squeezes_S1x1_S_
            let v1601 : DmaSems sig S1x1 := R.slice (Rect.unit (s := S4x4) o S1x1.size (bo h))
            let v1602 : DmaSems sig S_ := v1601.squeeze S_ squeezes_S1x1_S_
            let v1603 : Memref sig .tc .vmem S1x224x256 .bf16 := (Memref.whole cc0_stg2_0 : Memref sig .tc .vmem S1x2048x1024 .bf16).slice (Rect.unit (s := S1x2048x1024) p S1x224x256.size (bp h)) (fun _ => rfl)
            let v1604 : Memref sig .tc .vmem S224x256 .bf16 := v1603.squeeze S224x256 squeezes_S1x224x256_S224x256
            let v1605 : Memref sig .tc .vmem S1x224x256 .bf16 := (Memref.whole cc0_stg2_0 : Memref sig .tc .vmem S1x2048x1024 .bf16).slice (Rect.unit (s := S1x2048x1024) p S1x224x256.size (bp h)) (fun _ => rfl)
            let v1606 : Memref sig .tc .vmem S224x256 .bf16 := v1605.squeeze S224x256 squeezes_S1x224x256_S224x256
            Prog.lift (.enqueueDma v1606 (.remote (Dev.tc (⟨d, bd h⟩ : Dev nD)) v1604 (.dma v1600.sem)) (.dma v1602.sem) ((harg2.wordExact_slice rfl _ (bw h)).reshape _ _) ((harg2.wordExact_slice rfl _ (bw h)).reshape _ _) ⟨⟨rfl, Or.inl rfl⟩, trivial⟩)
            kt
          else kt) Q) := by
  by_cases h : k = 1#1
  · have hf := hk.mp h
    obtain ⟨rfl, rfl, rfl⟩ := ho hf
    rw [dif_pos h]
    unfold fwdPre fwdPts fwdMid
    rw [if_pos hf, if_pos hf, if_pos hf]
    iintro ⟨#He, ⟨Ha, Ht1, Ht2, Hd⟩, Hs, HO⟩ Hk
    iapply (wp_send_f m ρ sw K c ax dir q s hf ⟨(nb ax dir c).val, bd h⟩ rfl _ _ (hF q s (bo h)) (hR q s (bo h)) O) $$ [Hs Hd HO Ht1 Ht2]
    · isplitr; · iexact He
      isplitl [Hs]; · iexact Hs
      isplitl [Hd]; · iexact Hd
      isplitl [HO]; · iexact HO
      isplitl [Ht1]; · iexact Ht1
      iexact Ht2
    iintro ⟨Hc, HO⟩
    iapply Hk
    isplitl [Ha Hc]
    · isplitl [Ha]; · iexact Ha
      iexact Hc
    iexact HO
  · have hf : ¬ fok c ax dir q = true := fun h' => h (hk.mpr h')
    rw [dif_neg h]
    unfold fwdPre fwdPts fwdMid owedF
    rw [if_neg hf, if_neg hf, if_neg hf, if_neg hf, add_zero]
    iintro ⟨#He, ⟨Ha, -⟩, -, HO⟩ Hk
    iapply Hk
    isplitl [Ha]
    · isplitl [Ha]; · iexact Ha
      iempintro
    iexact HO

/-- One step: the wait for the slice, the two forwardings; nothing when the displacement leaves the line. -/
theorem wp_handle (ax : Bool) (δ : Fin 7) (s : Fin 4) (l : List Slot) (hl : ∀ y ∈ l, dist δ ≤ dist y.2.1)
    (R FR FL : DmaSems sig S4x4)
    (hR : ∀ q s : Fin 4, ∀ h, ((R.slice (Rect.unit (s := S4x4) ![q.val, s.val] S1x1.size h)).squeeze S_ squeezes_S1x1_S_).sem = ksem (.r ax q s))
    (hFR : ∀ q s : Fin 4, ∀ h, ((FR.slice (Rect.unit (s := S4x4) ![q.val, s.val] S1x1.size h)).squeeze S_ squeezes_S1x1_S_).sem = ksem (.f ax true q s))
    (hFL : ∀ q s : Fin 4, ∀ h, ((FL.slice (Rect.unit (s := S4x4) ![q.val, s.val] S1x1.size h)).squeeze S_ squeezes_S1x1_S_).sem = ksem (.f ax false q s))
    {k5 k6 k7 : BitVec 1} {o14 : Fin 2 → ℕ} {o15 : Fin 3 → ℕ} {o16 : Fin 2 → ℕ} {o17 : Fin 3 → ℕ} {d17 : ℕ} {o18 : Fin 2 → ℕ} {o19 : Fin 3 → ℕ} {d18 : ℕ}
    (hf : HFact c ax δ s k5 k6 k7 o14 o15 o16 o17 d17 o18 o19 d18)
    (harg2 : (Memref.whole cc0_stg2_0 : Memref sig .tc .vmem S1x2048x1024 .bf16).IsWhole)
    (harg4 : (Memref.whole cc0_scratch1 : Memref sig .tc .vmem S4x224x256 .bf16).IsWhole)
    (b14 : k5 = 1#1 → ∀ a, o14 a + S1x1.size a ≤ S4x4.size a) (b15 : k5 = 1#1 → ∀ a, o15 a + S1x224x256.size a ≤ S1x2048x1024.size a)
    (w15 : ∀ h : k5 = 1#1, (Rect.unit (s := S1x2048x1024) o15 S1x224x256.size (b15 h)).WholeWords (EltTy.packing .bf16))
    (b16 : k5 = 1#1 → k6 = 1#1 → ∀ a, o16 a + S1x1.size a ≤ S4x4.size a) (b17 : k5 = 1#1 → k6 = 1#1 → ∀ a, o17 a + S1x224x256.size a ≤ S1x2048x1024.size a)
    (w17 : ∀ (h : k5 = 1#1) (h' : k6 = 1#1), (Rect.unit (s := S1x2048x1024) o17 S1x224x256.size (b17 h h')).WholeWords (EltTy.packing .bf16))
    (l17 : k5 = 1#1 → k6 = 1#1 → d17 < nD)
    (b18 : k5 = 1#1 → k7 = 1#1 → ∀ a, o18 a + S1x1.size a ≤ S4x4.size a) (b19 : k5 = 1#1 → k7 = 1#1 → ∀ a, o19 a + S1x224x256.size a ≤ S1x2048x1024.size a)
    (w19 : ∀ (h : k5 = 1#1) (h' : k7 = 1#1), (Rect.unit (s := S1x2048x1024) o19 S1x224x256.size (b19 h h')).WholeWords (EltTy.packing .bf16))
    (l18 : k5 = 1#1 → k7 = 1#1 → d18 < nD)
    {α : Type} {kt : Prog (TpuEff nD τ sig (Elt F) Λ₀ .tc) α} {Q : α → sProp 𝕄} :
    iprop(env m ρ sw K ∗ HPre c (ax, δ, s) ∗ (∃ W, owes (c : Thread nD τ) (owedS c ((ax, δ, s) :: l)) W))
      ⊢ iprop(((HPost m ρ sw c (ax, δ, s) ∗ ∃ W, owes (c : Thread nD τ) (owedS c l) W) -∗ wp frame (wpE (defs₀ (F := F)) 𝒱₀ (c : Thread nD τ) none) Set.univ kt Q)
        -∗ wp frame (wpE (defs₀ (F := F)) 𝒱₀ (c : Thread nD τ) none) Set.univ
          (if h : k5 = 1#1 then do
            let v1577 : DmaSems sig S1x1 := R.slice (Rect.unit (s := S4x4) o14 S1x1.size (b14 h))
            let v1578 : DmaSems sig S_ := v1577.squeeze S_ squeezes_S1x1_S_
            let v1579 : Memref sig .tc .vmem S1x224x256 .bf16 := (Memref.whole cc0_stg2_0 : Memref sig .tc .vmem S1x2048x1024 .bf16).slice (Rect.unit (s := S1x2048x1024) o15 S1x224x256.size (b15 h)) (fun _ => rfl)
            let v1580 : Memref sig .tc .vmem S224x256 .bf16 := v1579.squeeze S224x256 squeezes_S1x224x256_S224x256
            let v1581 : Memref sig .tc .vmem S1x224x256 .bf16 := (Memref.whole cc0_scratch1 : Memref sig .tc .vmem S4x224x256 .bf16).slice (Rect.unit (s := S4x224x256) ![0, 0, 0] S1x224x256.size inb_S4x224x256_S1x224x256_0_0_0) (fun _ => rfl)
            let v1582 : Memref sig .tc .vmem S224x256 .bf16 := v1581.squeeze S224x256 squeezes_S1x224x256_S224x256
            Prog.lift (.waitDma2 v1578.sem v1582 v1580 ((harg4.wordExact_slice rfl _ wordsbf16_S4x224x256_S1x224x256_0_0_0).reshape _ _) ((harg2.wordExact_slice rfl _ (w15 h)).reshape _ _))
            if h' : k6 = 1#1 then do
              let v1599 : DmaSems sig S1x1 := FR.slice (Rect.unit (s := S4x4) o16 S1x1.size (b16 h h'))
              let v1600 : DmaSems sig S_ := v1599.squeeze S_ squeezes_S1x1_S_
              let v1601 : DmaSems sig S1x1 := R.slice (Rect.unit (s := S4x4) o16 S1x1.size (b16 h h'))
              let v1602 : DmaSems sig S_ := v1601.squeeze S_ squeezes_S1x1_S_
              let v1603 : Memref sig .tc .vmem S1x224x256 .bf16 := (Memref.whole cc0_stg2_0 : Memref sig .tc .vmem S1x2048x1024 .bf16).slice (Rect.unit (s := S1x2048x1024) o17 S1x224x256.size (b17 h h')) (fun _ => rfl)
              let v1604 : Memref sig .tc .vmem S224x256 .bf16 := v1603.squeeze S224x256 squeezes_S1x224x256_S224x256
              let v1605 : Memref sig .tc .vmem S1x224x256 .bf16 := (Memref.whole cc0_stg2_0 : Memref sig .tc .vmem S1x2048x1024 .bf16).slice (Rect.unit (s := S1x2048x1024) o17 S1x224x256.size (b17 h h')) (fun _ => rfl)
              let v1606 : Memref sig .tc .vmem S224x256 .bf16 := v1605.squeeze S224x256 squeezes_S1x224x256_S224x256
              Prog.lift (.enqueueDma v1606 (.remote (Dev.tc (⟨d17, l17 h h'⟩ : Dev nD)) v1604 (.dma v1600.sem)) (.dma v1602.sem) ((harg2.wordExact_slice rfl _ (w17 h h')).reshape _ _) ((harg2.wordExact_slice rfl _ (w17 h h')).reshape _ _) ⟨⟨rfl, Or.inl rfl⟩, trivial⟩)
              (if h' : k7 = 1#1 then do
                let v1599 : DmaSems sig S1x1 := FL.slice (Rect.unit (s := S4x4) o18 S1x1.size (b18 h h'))
                let v1600 : DmaSems sig S_ := v1599.squeeze S_ squeezes_S1x1_S_
                let v1601 : DmaSems sig S1x1 := R.slice (Rect.unit (s := S4x4) o18 S1x1.size (b18 h h'))
                let v1602 : DmaSems sig S_ := v1601.squeeze S_ squeezes_S1x1_S_
                let v1603 : Memref sig .tc .vmem S1x224x256 .bf16 := (Memref.whole cc0_stg2_0 : Memref sig .tc .vmem S1x2048x1024 .bf16).slice (Rect.unit (s := S1x2048x1024) o19 S1x224x256.size (b19 h h')) (fun _ => rfl)
                let v1604 : Memref sig .tc .vmem S224x256 .bf16 := v1603.squeeze S224x256 squeezes_S1x224x256_S224x256
                let v1605 : Memref sig .tc .vmem S1x224x256 .bf16 := (Memref.whole cc0_stg2_0 : Memref sig .tc .vmem S1x2048x1024 .bf16).slice (Rect.unit (s := S1x2048x1024) o19 S1x224x256.size (b19 h h')) (fun _ => rfl)
                let v1606 : Memref sig .tc .vmem S224x256 .bf16 := v1605.squeeze S224x256 squeezes_S1x224x256_S224x256
                Prog.lift (.enqueueDma v1606 (.remote (Dev.tc (⟨d18, l18 h h'⟩ : Dev nD)) v1604 (.dma v1600.sem)) (.dma v1602.sem) ((harg2.wordExact_slice rfl _ (w19 h h')).reshape _ _) ((harg2.wordExact_slice rfl _ (w19 h h')).reshape _ _) ⟨⟨rfl, Or.inl rfl⟩, trivial⟩)
                kt
              else kt)
            else (if h' : k7 = 1#1 then do
                let v1599 : DmaSems sig S1x1 := FL.slice (Rect.unit (s := S4x4) o18 S1x1.size (b18 h h'))
                let v1600 : DmaSems sig S_ := v1599.squeeze S_ squeezes_S1x1_S_
                let v1601 : DmaSems sig S1x1 := R.slice (Rect.unit (s := S4x4) o18 S1x1.size (b18 h h'))
                let v1602 : DmaSems sig S_ := v1601.squeeze S_ squeezes_S1x1_S_
                let v1603 : Memref sig .tc .vmem S1x224x256 .bf16 := (Memref.whole cc0_stg2_0 : Memref sig .tc .vmem S1x2048x1024 .bf16).slice (Rect.unit (s := S1x2048x1024) o19 S1x224x256.size (b19 h h')) (fun _ => rfl)
                let v1604 : Memref sig .tc .vmem S224x256 .bf16 := v1603.squeeze S224x256 squeezes_S1x224x256_S224x256
                let v1605 : Memref sig .tc .vmem S1x224x256 .bf16 := (Memref.whole cc0_stg2_0 : Memref sig .tc .vmem S1x2048x1024 .bf16).slice (Rect.unit (s := S1x2048x1024) o19 S1x224x256.size (b19 h h')) (fun _ => rfl)
                let v1606 : Memref sig .tc .vmem S224x256 .bf16 := v1605.squeeze S224x256 squeezes_S1x224x256_S224x256
                Prog.lift (.enqueueDma v1606 (.remote (Dev.tc (⟨d18, l18 h h'⟩ : Dev nD)) v1604 (.dma v1600.sem)) (.dma v1602.sem) ((harg2.wordExact_slice rfl _ (w19 h h')).reshape _ _) ((harg2.wordExact_slice rfl _ (w19 h h')).reshape _ _) ⟨⟨rfl, Or.inl rfl⟩, trivial⟩)
                kt
              else kt)
          else kt) Q) := by
  obtain ⟨hk5, hf⟩ := hf
  by_cases h : k5 = 1#1
  · have hi := hk5.mp h
    obtain ⟨rfl, rfl, hk6, hk7, hR6, hR7⟩ := hf hi
    rw [dif_pos h]
    rw [owedS_cons, owedX_pos c ax δ s _ hi, owedX_pos c ax δ s _ hi]
    unfold HPre HPost
    dsimp only
    rw [if_pos hi, if_pos hi]
    have hA : Above (lv (kcell c (.r ax (slotQ c ax δ) s)) ()) (owedS c l + owedF c ax false (slotQ c ax δ) s + owedF c ax true (slotQ c ax δ) s) := by
      have h1 := lv_r c ax (slotQ c ax δ) s ()
      rw [lv_own c ax δ hi] at h1
      rw [h1]
      have h3 := above_owedX c (2 + dist δ) (ax, δ, s) true (le_refl _)
      have h4 := above_owedX c (2 + dist δ) (ax, δ, s) false (le_refl _)
      rw [owedX_pos c ax δ s _ hi] at h3 h4
      exact above_add (above_add (above_owedS c _ l fun y hy => Nat.add_le_add_left (hl y hy) 2) h4) h3
    iintro ⟨#He, ⟨Ha, Hc, H1, H2⟩, HO⟩ Hk
    iapply (wp_wait_k m ρ sw K c (dst := opc ax (slotQ c ax δ) s) (.r ax (slotQ c ax δ) s) rfl _ (hR (slotQ c ax δ) s (b14 h)) rfl _ hA) $$ [Hc HO Ha]
    · isplitr; · iexact He
      isplitl [Hc]; · iexact Hc
      isplitl [HO]; · iexact HO
      iexact Ha
    iintro ⟨Hz, HO, Hp⟩
    ihave Hp := (Entails.of_eq (kPay_r m ρ sw c ax (slotQ c ax δ) s)) $$ Hp
    ihave Hp := (piece_split m ρ sw c ax (slotQ c ax δ) s).1 $$ [Hp]
    · iexact Hp
    icases Hp with ⟨Hkeep, Hp1, Hp2⟩
    iapply (wp_fwd m ρ sw K c ax true (slotQ c ax δ) s k6 o16 o17 d17 R FR hR hFR hk6 hR6 harg2 (b16 h) (b17 h) (w17 h) (l17 h)
      (owedS c l + owedF c ax false (slotQ c ax δ) s)) $$ [H1 Hp1 HO]
    · isplitr; · iexact He
      isplitl [H1]; · iexact H1
      isplitl [Hp1]; · iexact Hp1
      iexact HO
    iintro ⟨H1, HO⟩
    iapply (wp_fwd m ρ sw K c ax false (slotQ c ax δ) s k7 o18 o19 d18 R FL hR hFL hk7 hR7 harg2 (b18 h) (b19 h) (w19 h) (l18 h)
      (owedS c l)) $$ [H2 Hp2 HO]
    · isplitr; · iexact He
      isplitl [H2]; · iexact H2
      isplitl [Hp2]; · iexact Hp2
      iexact HO
    iintro ⟨H2, HO⟩
    iapply Hk
    isplitr [HO]
    · isplitl [Hz]; · iexact Hz
      isplitl [Hkeep]; · iexact Hkeep
      isplitl [H1]; · iexact H1
      iexact H2
    iexact HO
  · have hi : ¬ inr c ax δ = true := fun h' => h (hk5.mpr h')
    rw [dif_neg h]
    rw [owedS_cons, owedX_neg c ax δ s _ hi, owedX_neg c ax δ s _ hi, add_zero, add_zero]
    unfold HPre HPost
    dsimp only
    rw [if_neg hi, if_neg hi]
    iintro ⟨#He, -, HO⟩ Hk
    iapply Hk
    isplitr; · iempintro
    iexact HO

/-- What the wait for a forwarding starts from, and what it leaves. -/
def DPre (c : Dev nD) (x : Slot) (dir : Bool) : sProp 𝕄 :=
  if inr c x.1 x.2.1 = true then fwdMid c x.1 dir (slotQ c x.1 x.2.1) x.2.2 else iprop(emp)
def DPost (c : Dev nD) (x : Slot) (dir : Bool) : sProp 𝕄 :=
  if inr c x.1 x.2.1 = true then fwdEnd m ρ sw c x.1 dir (slotQ c x.1 x.2.1) x.2.2 else iprop(emp)

/-- The wait for a forwarding, as the program has it. -/
theorem wp_drain (ax dir : Bool) (δ : Fin 7) (s : Fin 4) (Fw : DmaSems sig S4x4)
    (hF : ∀ q s : Fin 4, ∀ h, ((Fw.slice (Rect.unit (s := S4x4) ![q.val, s.val] S1x1.size h)).squeeze S_ squeezes_S1x1_S_).sem = ksem (.f ax dir q s))
    {k : BitVec 1} {o : Fin 2 → ℕ} {p : Fin 3 → ℕ} (hf : DFact c ax dir δ s k o p)
    (harg2 : (Memref.whole cc0_stg2_0 : Memref sig .tc .vmem S1x2048x1024 .bf16).IsWhole)
    (bo : k = 1#1 → ∀ a, o a + S1x1.size a ≤ S4x4.size a) (bp : k = 1#1 → ∀ a, p a + S1x224x256.size a ≤ S1x2048x1024.size a)
    (bw : ∀ h : k = 1#1, (Rect.unit (s := S1x2048x1024) p S1x224x256.size (bp h)).WholeWords (EltTy.packing .bf16))
    {α : Type} {kt : Prog (TpuEff nD τ sig (Elt F) Λ₀ .tc) α} {Q : α → sProp 𝕄} :
    iprop(env m ρ sw K ∗ DPre c (ax, δ, s) dir ∗ (∃ W, owes (c : Thread nD τ) 0 W))
      ⊢ iprop(((DPost m ρ sw c (ax, δ, s) dir ∗ ∃ W, owes (c : Thread nD τ) 0 W) -∗ wp frame (wpE (defs₀ (F := F)) 𝒱₀ (c : Thread nD τ) none) Set.univ kt Q)
        -∗ wp frame (wpE (defs₀ (F := F)) 𝒱₀ (c : Thread nD τ) none) Set.univ
          (if h : k = 1#1 then do
            let v1569 : DmaSems sig S1x1 := Fw.slice (Rect.unit (s := S4x4) o S1x1.size (bo h))
            let v1570 : DmaSems sig S_ := v1569.squeeze S_ squeezes_S1x1_S_
            let v1571 : Memref sig .tc .vmem S1x224x256 .bf16 := (Memref.whole cc0_stg2_0 : Memref sig .tc .vmem S1x2048x1024 .bf16).slice (Rect.unit (s := S1x2048x1024) p S1x224x256.size (bp h)) (fun _ => rfl)
            let v1572 : Memref sig .tc .vmem S224x256 .bf16 := v1571.squeeze S224x256 squeezes_S1x224x256_S224x256
            let v1573 : Memref sig .tc .vmem S1x224x256 .bf16 := (Memref.whole cc0_stg2_0 : Memref sig .tc .vmem S1x2048x1024 .bf16).slice (Rect.unit (s := S1x2048x1024) p S1x224x256.size (bp h)) (fun _ => rfl)
            let v1574 : Memref sig .tc .vmem S224x256 .bf16 := v1573.squeeze S224x256 squeezes_S1x224x256_S224x256
            Prog.lift (.waitDma2 v1570.sem v1574 v1572 ((harg2.wordExact_slice rfl _ (bw h)).reshape _ _) ((harg2.wordExact_slice rfl _ (bw h)).reshape _ _))
            kt
          else kt) Q) := by
  obtain ⟨hk, hf⟩ := hf
  by_cases h : k = 1#1
  · have hb := hk.mp h
    obtain ⟨rfl, rfl⟩ := hf hb
    have hi : inr c ax δ = true := (Bool.and_eq_true_iff.mp hb).1
    have hw : fok c ax dir (slotQ c ax δ) = true := (Bool.and_eq_true_iff.mp hb).2
    rw [dif_pos h]
    unfold DPre DPost fwdMid fwdEnd fwdPts
    dsimp only
    rw [if_pos hi, if_pos hi, if_pos hw, if_pos hw]
    iintro ⟨#He, ⟨Ha, Hc⟩, HO⟩ Hk
    iapply (wp_wait_k m ρ sw K c (dst := opc ax (slotQ c ax δ) s) (.f ax dir (slotQ c ax δ) s) hw _ (hF (slotQ c ax δ) s (bo h)) rfl 0 (above_zero _)) $$ [Hc HO Ha]
    · isplitr; · iexact He
      isplitl [Hc]; · iexact Hc
      isplitl [HO]; · iexact HO
      iexact Ha
    iintro ⟨Hz, HO, Hp⟩
    ihave Hp := (Entails.of_eq (kPay_f m ρ sw c ax dir (slotQ c ax δ) s)) $$ Hp
    iapply Hk
    isplitr [HO]
    · isplitl [Hz]; · iexact Hz
      iexact Hp
    iexact HO
  · rw [dif_neg h]
    unfold DPre DPost fwdMid fwdEnd fwdPts
    dsimp only
    by_cases hi : inr c ax δ = true
    · have hw : ¬ fok c ax dir (slotQ c ax δ) = true := fun h' => h (hk.mpr (Bool.and_eq_true_iff.mpr ⟨hi, h'⟩))
      rw [if_pos hi, if_pos hi, if_neg hw, if_neg hw]
      iintro ⟨#He, ⟨Ha, -⟩, HO⟩ Hk
      imod (close_none m ρ sw K c (.f ax dir (slotQ c ax δ) s) (by show fok c ax dir (slotQ c ax δ) = false; simpa using hw)) $$ [Ha] with Hz
      · isplitr; · iexact He
        iexact Ha
      iapply Hk
      isplitr [HO]
      · isplitl [Hz]; · iexact Hz
        iempintro
      iexact HO
    · rw [if_neg hi, if_neg hi]
      iintro ⟨#He, -, HO⟩ Hk
      iapply Hk
      isplitr; · iempintro
      iexact HO

/-! ## The steps as a state passes through them -/

theorem bigSepL_cons' {I : Type} (i : I) (l : List I) (Φ : I → sProp 𝕄) : bigSepL (i :: l) Φ = iprop(Φ i ∗ bigSepL l Φ) := bigSepL_cons i l Φ

/-- The steps done and those to come. -/
def HSt (c : Dev nD) (done todo : List Slot) : sProp 𝕄 :=
  iprop((∃ W, owes (c : Thread nD τ) (owedS c todo) W) ∗ bigSepL todo (HPre c) ∗ bigSepL done (HPost m ρ sw c))

/-- The state passes one step. -/
theorem step_handle (ax : Bool) (δ : Fin 7) (s : Fin 4) (dn l : List Slot) (X : sProp 𝕄) (hl : ∀ y ∈ l, dist δ ≤ dist y.2.1)
    (R FR FL : DmaSems sig S4x4)
    (hR : ∀ q s : Fin 4, ∀ h, ((R.slice (Rect.unit (s := S4x4) ![q.val, s.val] S1x1.size h)).squeeze S_ squeezes_S1x1_S_).sem = ksem (.r ax q s))
    (hFR : ∀ q s : Fin 4, ∀ h, ((FR.slice (Rect.unit (s := S4x4) ![q.val, s.val] S1x1.size h)).squeeze S_ squeezes_S1x1_S_).sem = ksem (.f ax true q s))
    (hFL : ∀ q s : Fin 4, ∀ h, ((FL.slice (Rect.unit (s := S4x4) ![q.val, s.val] S1x1.size h)).squeeze S_ squeezes_S1x1_S_).sem = ksem (.f ax false q s))
    {k5 k6 k7 : BitVec 1} {o14 : Fin 2 → ℕ} {o15 : Fin 3 → ℕ} {o16 : Fin 2 → ℕ} {o17 : Fin 3 → ℕ} {d17 : ℕ} {o18 : Fin 2 → ℕ} {o19 : Fin 3 → ℕ} {d18 : ℕ}
    (hf : HFact c ax δ s k5 k6 k7 o14 o15 o16 o17 d17 o18 o19 d18)
    (arg2 : Memref sig .tc .vmem S1x2048x1024 .bf16) (e2 : arg2 = Memref.whole cc0_stg2_0) (arg4 : Memref sig .tc .vmem S4x224x256 .bf16) (e4 : arg4 = Memref.whole cc0_scratch1)
    (harg2 : arg2.IsWhole)
    (harg4 : arg4.IsWhole)
    (b14 : k5 = 1#1 → ∀ a, o14 a + S1x1.size a ≤ S4x4.size a) (b15 : k5 = 1#1 → ∀ a, o15 a + S1x224x256.size a ≤ S1x2048x1024.size a)
    (w15 : ∀ h : k5 = 1#1, (Rect.unit (s := S1x2048x1024) o15 S1x224x256.size (b15 h)).WholeWords (EltTy.packing .bf16))
    (b16 : k5 = 1#1 → k6 = 1#1 → ∀ a, o16 a + S1x1.size a ≤ S4x4.size a) (b17 : k5 = 1#1 → k6 = 1#1 → ∀ a, o17 a + S1x224x256.size a ≤ S1x2048x1024.size a)
    (w17 : ∀ (h : k5 = 1#1) (h' : k6 = 1#1), (Rect.unit (s := S1x2048x1024) o17 S1x224x256.size (b17 h h')).WholeWords (EltTy.packing .bf16))
    (l17 : k5 = 1#1 → k6 = 1#1 → d17 < nD)
    (b18 : k5 = 1#1 → k7 = 1#1 → ∀ a, o18 a + S1x1.size a ≤ S4x4.size a) (b19 : k5 = 1#1 → k7 = 1#1 → ∀ a, o19 a + S1x224x256.size a ≤ S1x2048x1024.size a)
    (w19 : ∀ (h : k5 = 1#1) (h' : k7 = 1#1), (Rect.unit (s := S1x2048x1024) o19 S1x224x256.size (b19 h h')).WholeWords (EltTy.packing .bf16))
    (l18 : k5 = 1#1 → k7 = 1#1 → d18 < nD)
    {α : Type} {kt : Prog (TpuEff nD τ sig (Elt F) Λ₀ .tc) α} {Q : α → sProp 𝕄}
    {prg : Prog (TpuEff nD τ sig (Elt F) Λ₀ .tc) α} (hprg : prg = ((if h : k5 = 1#1 then do
            let v1577 : DmaSems sig S1x1 := R.slice (Rect.unit (s := S4x4) o14 S1x1.size (b14 h))
            let v1578 : DmaSems sig S_ := v1577.squeeze S_ squeezes_S1x1_S_
            let v1579 : Memref sig .tc .vmem S1x224x256 .bf16 := arg2.slice (Rect.unit (s := S1x2048x1024) o15 S1x224x256.size (b15 h)) (fun _ => rfl)
            let v1580 : Memref sig .tc .vmem S224x256 .bf16 := v1579.squeeze S224x256 squeezes_S1x224x256_S224x256
            let v1581 : Memref sig .tc .vmem S1x224x256 .bf16 := arg4.slice (Rect.unit (s := S4x224x256) ![0, 0, 0] S1x224x256.size inb_S4x224x256_S1x224x256_0_0_0) (fun _ => rfl)
            let v1582 : Memref sig .tc .vmem S224x256 .bf16 := v1581.squeeze S224x256 squeezes_S1x224x256_S224x256
            Prog.lift (.waitDma2 v1578.sem v1582 v1580 ((harg4.wordExact_slice rfl _ wordsbf16_S4x224x256_S1x224x256_0_0_0).reshape _ _) ((harg2.wordExact_slice rfl _ (w15 h)).reshape _ _))
            if h' : k6 = 1#1 then do
              let v1599 : DmaSems sig S1x1 := FR.slice (Rect.unit (s := S4x4) o16 S1x1.size (b16 h h'))
              let v1600 : DmaSems sig S_ := v1599.squeeze S_ squeezes_S1x1_S_
              let v1601 : DmaSems sig S1x1 := R.slice (Rect.unit (s := S4x4) o16 S1x1.size (b16 h h'))
              let v1602 : DmaSems sig S_ := v1601.squeeze S_ squeezes_S1x1_S_
              let v1603 : Memref sig .tc .vmem S1x224x256 .bf16 := arg2.slice (Rect.unit (s := S1x2048x1024) o17 S1x224x256.size (b17 h h')) (fun _ => rfl)
              let v1604 : Memref sig .tc .vmem S224x256 .bf16 := v1603.squeeze S224x256 squeezes_S1x224x256_S224x256
              let v1605 : Memref sig .tc .vmem S1x224x256 .bf16 := arg2.slice (Rect.unit (s := S1x2048x1024) o17 S1x224x256.size (b17 h h')) (fun _ => rfl)
              let v1606 : Memref sig .tc .vmem S224x256 .bf16 := v1605.squeeze S224x256 squeezes_S1x224x256_S224x256
              Prog.lift (.enqueueDma v1606 (.remote (Dev.tc (⟨d17, l17 h h'⟩ : Dev nD)) v1604 (.dma v1600.sem)) (.dma v1602.sem) ((harg2.wordExact_slice rfl _ (w17 h h')).reshape _ _) ((harg2.wordExact_slice rfl _ (w17 h h')).reshape _ _) ⟨⟨rfl, Or.inl rfl⟩, trivial⟩)
              (if h' : k7 = 1#1 then do
                let v1599 : DmaSems sig S1x1 := FL.slice (Rect.unit (s := S4x4) o18 S1x1.size (b18 h h'))
                let v1600 : DmaSems sig S_ := v1599.squeeze S_ squeezes_S1x1_S_
                let v1601 : DmaSems sig S1x1 := R.slice (Rect.unit (s := S4x4) o18 S1x1.size (b18 h h'))
                let v1602 : DmaSems sig S_ := v1601.squeeze S_ squeezes_S1x1_S_
                let v1603 : Memref sig .tc .vmem S1x224x256 .bf16 := arg2.slice (Rect.unit (s := S1x2048x1024) o19 S1x224x256.size (b19 h h')) (fun _ => rfl)
                let v1604 : Memref sig .tc .vmem S224x256 .bf16 := v1603.squeeze S224x256 squeezes_S1x224x256_S224x256
                let v1605 : Memref sig .tc .vmem S1x224x256 .bf16 := arg2.slice (Rect.unit (s := S1x2048x1024) o19 S1x224x256.size (b19 h h')) (fun _ => rfl)
                let v1606 : Memref sig .tc .vmem S224x256 .bf16 := v1605.squeeze S224x256 squeezes_S1x224x256_S224x256
                Prog.lift (.enqueueDma v1606 (.remote (Dev.tc (⟨d18, l18 h h'⟩ : Dev nD)) v1604 (.dma v1600.sem)) (.dma v1602.sem) ((harg2.wordExact_slice rfl _ (w19 h h')).reshape _ _) ((harg2.wordExact_slice rfl _ (w19 h h')).reshape _ _) ⟨⟨rfl, Or.inl rfl⟩, trivial⟩)
                kt
              else kt)
            else (if h' : k7 = 1#1 then do
                let v1599 : DmaSems sig S1x1 := FL.slice (Rect.unit (s := S4x4) o18 S1x1.size (b18 h h'))
                let v1600 : DmaSems sig S_ := v1599.squeeze S_ squeezes_S1x1_S_
                let v1601 : DmaSems sig S1x1 := R.slice (Rect.unit (s := S4x4) o18 S1x1.size (b18 h h'))
                let v1602 : DmaSems sig S_ := v1601.squeeze S_ squeezes_S1x1_S_
                let v1603 : Memref sig .tc .vmem S1x224x256 .bf16 := arg2.slice (Rect.unit (s := S1x2048x1024) o19 S1x224x256.size (b19 h h')) (fun _ => rfl)
                let v1604 : Memref sig .tc .vmem S224x256 .bf16 := v1603.squeeze S224x256 squeezes_S1x224x256_S224x256
                let v1605 : Memref sig .tc .vmem S1x224x256 .bf16 := arg2.slice (Rect.unit (s := S1x2048x1024) o19 S1x224x256.size (b19 h h')) (fun _ => rfl)
                let v1606 : Memref sig .tc .vmem S224x256 .bf16 := v1605.squeeze S224x256 squeezes_S1x224x256_S224x256
                Prog.lift (.enqueueDma v1606 (.remote (Dev.tc (⟨d18, l18 h h'⟩ : Dev nD)) v1604 (.dma v1600.sem)) (.dma v1602.sem) ((harg2.wordExact_slice rfl _ (w19 h h')).reshape _ _) ((harg2.wordExact_slice rfl _ (w19 h h')).reshape _ _) ⟨⟨rfl, Or.inl rfl⟩, trivial⟩)
                kt
              else kt)
          else kt) : Prog (TpuEff nD τ sig (Elt F) Λ₀ .tc) α))
    (hnext : iprop(env m ρ sw K ∗ HSt m ρ sw c ((ax, δ, s) :: dn) l ∗ X)
      ⊢ wp frame (wpE (defs₀ (F := F)) 𝒱₀ (c : Thread nD τ) none) Set.univ kt Q) :
    iprop(env m ρ sw K ∗ HSt m ρ sw c dn ((ax, δ, s) :: l) ∗ X)
      ⊢ wp frame (wpE (defs₀ (F := F)) 𝒱₀ (c : Thread nD τ) none) Set.univ
          prg Q := by
  subst hprg e2 e4
  unfold HSt at hnext ⊢
  rw [bigSepL_cons'] at hnext ⊢
  iintro ⟨#He, ⟨HO, ⟨Hx, Ht⟩, Hd⟩, HX⟩
  iapply (wp_handle m ρ sw K c ax δ s l hl R FR FL hR hFR hFL hf harg2 harg4 b14 b15 w15 b16 b17 w17 l17 b18 b19 w19 l18) $$ [Hx HO]
  · isplitr; · iexact He
    isplitl [Hx]; · iexact Hx
    iexact HO
  iintro ⟨Hp, HO⟩
  iapply hnext
  isplitr; · iexact He
  isplitr [HX]
  · isplitl [HO]; · iexact HO
    isplitl [Ht]; · iexact Ht
    isplitl [Hp]; · iexact Hp
    iexact Hd
  iexact HX

/-- The closing waits done and those to come. -/
def DSt (c : Dev nD) (done todo : List (Slot × Bool)) : sProp 𝕄 :=
  iprop((∃ W, owes (c : Thread nD τ) 0 W) ∗ bigSepL todo (fun x => DPre c x.1 x.2) ∗ bigSepL done (fun x => DPost m ρ sw c x.1 x.2))

/-- The state passes one closing wait. -/
theorem step_drain (ax dir : Bool) (δ : Fin 7) (s : Fin 4) (Fw : DmaSems sig S4x4)
    (hF : ∀ q s : Fin 4, ∀ h, ((Fw.slice (Rect.unit (s := S4x4) ![q.val, s.val] S1x1.size h)).squeeze S_ squeezes_S1x1_S_).sem = ksem (.f ax dir q s))
    {k : BitVec 1} {o : Fin 2 → ℕ} {p : Fin 3 → ℕ} (hf : DFact c ax dir δ s k o p)
    (arg2 : Memref sig .tc .vmem S1x2048x1024 .bf16) (e2 : arg2 = Memref.whole cc0_stg2_0)
    (harg2 : arg2.IsWhole)
    (bo : k = 1#1 → ∀ a, o a + S1x1.size a ≤ S4x4.size a) (bp : k = 1#1 → ∀ a, p a + S1x224x256.size a ≤ S1x2048x1024.size a)
    (bw : ∀ h : k = 1#1, (Rect.unit (s := S1x2048x1024) p S1x224x256.size (bp h)).WholeWords (EltTy.packing .bf16))
    {α : Type} {kt : Prog (TpuEff nD τ sig (Elt F) Λ₀ .tc) α} {Q : α → sProp 𝕄}
    (dn l : List (Slot × Bool)) (X : sProp 𝕄)
    {prg : Prog (TpuEff nD τ sig (Elt F) Λ₀ .tc) α} (hprg : prg = ((if h : k = 1#1 then do
            let v1569 : DmaSems sig S1x1 := Fw.slice (Rect.unit (s := S4x4) o S1x1.size (bo h))
            let v1570 : DmaSems sig S_ := v1569.squeeze S_ squeezes_S1x1_S_
            let v1571 : Memref sig .tc .vmem S1x224x256 .bf16 := arg2.slice (Rect.unit (s := S1x2048x1024) p S1x224x256.size (bp h)) (fun _ => rfl)
            let v1572 : Memref sig .tc .vmem S224x256 .bf16 := v1571.squeeze S224x256 squeezes_S1x224x256_S224x256
            let v1573 : Memref sig .tc .vmem S1x224x256 .bf16 := arg2.slice (Rect.unit (s := S1x2048x1024) p S1x224x256.size (bp h)) (fun _ => rfl)
            let v1574 : Memref sig .tc .vmem S224x256 .bf16 := v1573.squeeze S224x256 squeezes_S1x224x256_S224x256
            Prog.lift (.waitDma2 v1570.sem v1574 v1572 ((harg2.wordExact_slice rfl _ (bw h)).reshape _ _) ((harg2.wordExact_slice rfl _ (bw h)).reshape _ _))
            kt
          else kt) : Prog (TpuEff nD τ sig (Elt F) Λ₀ .tc) α))
    (hnext : iprop(env m ρ sw K ∗ DSt m ρ sw c (((ax, δ, s), dir) :: dn) l ∗ X)
      ⊢ wp frame (wpE (defs₀ (F := F)) 𝒱₀ (c : Thread nD τ) none) Set.univ kt Q) :
    iprop(env m ρ sw K ∗ DSt m ρ sw c dn (((ax, δ, s), dir) :: l) ∗ X)
      ⊢ wp frame (wpE (defs₀ (F := F)) 𝒱₀ (c : Thread nD τ) none) Set.univ
          prg Q := by
  subst hprg e2
  unfold DSt at hnext ⊢
  rw [bigSepL_cons'] at hnext ⊢
  iintro ⟨#He, ⟨HO, ⟨Hx, Ht⟩, Hd⟩, HX⟩
  iapply (wp_drain m ρ sw K c ax dir δ s Fw hF hf harg2 bo bp bw) $$ [Hx HO]
  · isplitr; · iexact He
    isplitl [Hx]; · iexact Hx
    iexact HO
  iintro ⟨Hp, HO⟩
  iapply hnext
  isplitr; · iexact He
  isplitr [HX]
  · isplitl [HO]; · iexact HO
    isplitl [Ht]; · iexact Ht
    isplitl [Hp]; · iexact Hp
    iexact Hd
  iexact HX

/-! ## The operands -/

/-- The body's operands are the staging buffers, the scratch buffers and the scratch semaphores. -/
structure Args (arg0 : Memref sig .tc .vmem S1x2048x1024 .bf16) (arg1 : Memref sig .tc .smem S2 .i32) (arg2 : Memref sig .tc .vmem S1x2048x1024 .bf16)
    (arg3 : Memref sig .tc .vmem S2x128x1024 .bf16) (arg4 : Memref sig .tc .vmem S4x224x256 .bf16) (arg5 : Memref sig .tc .vmem S4x224x256 .bf16)
    (arg6 : DmaSems sig S10) (arg7 : DmaSems sig S2) (arg8 arg9 arg10 arg11 arg12 arg13 : DmaSems sig S4x4) : Prop where
  e0 : arg0 = Memref.whole cc0_stg0_0
  e1 : arg1 = Memref.whole cc0_stg1_0
  e2 : arg2 = Memref.whole cc0_stg2_0
  e3 : arg3 = Memref.whole cc0_scratch0
  e4 : arg4 = Memref.whole cc0_scratch1
  e5 : arg5 = Memref.whole cc0_scratch2
  e6 : arg6 = cc0_scratch3
  e7 : arg7 = cc0_scratch4
  e8 : arg8 = cc0_scratch5
  e9 : arg9 = cc0_scratch6
  e10 : arg10 = cc0_scratch7
  e11 : arg11 = cc0_scratch8
  e12 : arg12 = cc0_scratch9
  e13 : arg13 = cc0_scratch10

/-! ## The semaphore arrays' members -/

theorem sem_scratch5 (arg : DmaSems sig S4x4) (e : arg = cc0_scratch5) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.r false q s) := by
  subst e; revert h; revert q s; decide
theorem sem_scratch6 (arg : DmaSems sig S4x4) (e : arg = cc0_scratch6) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.r true q s) := by
  subst e; revert h; revert q s; decide
theorem sem_scratch7 (arg : DmaSems sig S4x4) (e : arg = cc0_scratch7) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.f false true q s) := by
  subst e; revert h; revert q s; decide
theorem sem_scratch8 (arg : DmaSems sig S4x4) (e : arg = cc0_scratch8) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.f false false q s) := by
  subst e; revert h; revert q s; decide
theorem sem_scratch9 (arg : DmaSems sig S4x4) (e : arg = cc0_scratch9) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.f true true q s) := by
  subst e; revert h; revert q s; decide
theorem sem_scratch10 (arg : DmaSems sig S4x4) (e : arg = cc0_scratch10) (q s : Fin 4) (h : ∀ a, (![q.val, s.val] : Fin 2 → ℕ) a + S1x1.size a ≤ S4x4.size a) :
    ((arg.slice (Rect.unit (s := S4x4) ![q.val, s.val] S1x1.size h)).squeeze S_ squeezes_S1x1_S_).sem = ksem (.f true false q s) := by
  subst e; revert h; revert q s; decide

end Step

end Cert.KProof

end
-- ==== Proof.Exch.lean ====
/-
The exchange between mates: the filling of the send buffers and the copies, at a symbolic device.
-/
module

public import proofs.«01_k».proof.Proof.Hand
public import Idealize.ShloMosaic.Lib.Pipeline.Value
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## Small rules -/

/-- A program in two halves: the first half, then the rest from what it returns. -/
theorem bind_step (c : Dev nD) {α β : Type} {p : Prog (TpuEff nD τ sig (Elt F) Λ₀ .tc) α} {k : α → Prog (TpuEff nD τ sig (Elt F) Λ₀ .tc) β}
    {Q : β → sProp 𝕄} {S : sProp 𝕄} {prg : Prog (TpuEff nD τ sig (Elt F) Λ₀ .tc) β} (hprg : prg = p >>= k)
    (h : S ⊢ wp frame (wpE (defs₀ (F := F)) 𝒱₀ (c : Thread nD τ) none) Set.univ p (fun a => wp frame (wpE (defs₀ (F := F)) 𝒱₀ (c : Thread nD τ) none) Set.univ (k a) Q)) :
    S ⊢ wp frame (wpE (defs₀ (F := F)) 𝒱₀ (c : Thread nD τ) none) Set.univ prg Q := by
  subst hprg
  rw [wp_bind]; exact h

/-! ## The exchange between mates -/

/-- The receive semaphore at the mate of the `i`-th copy of the exchange. -/
def lk (c : Dev nD) (i : Fin 10) : Kd :=
  match xd i with
  | .inl (ax, s) => .r ax (pos c ax) s
  | .inr s => .a s

theorem lk_ok (c d : Dev nD) (i : Fin 10) : kOk d (lk c i) = true := by unfold lk; split <;> rfl
theorem kAmt_lk (c : Dev nD) (i : Fin 10) : kAmt (lk c i) = kAmt (.x i) := by
  unfold lk; revert i; intro i; fin_cases i <;> rfl
theorem kPay_lk (c : Dev nD) (i : Fin 10) : kPay m ρ sw (mate sw c) (lk c i) = pts (mate sw c) (xp c i) fullShare (outAt m ρ sw (mate sw c)) := by
  fin_cases i <;> rfl

/-- A send buffer's slice holding what the mate is to receive. -/
def sndV (d : Dev nD) (k : (Bool × Fin 4) ⊕ Fin 2) : sProp 𝕄 :=
  match k with
  | .inl (false, s) => iprop(∃ f : Buf (Elt F) ((d : Thread nD τ).loc cc0_scratch1), (((d : Thread nD τ).loc cc0_scratch1) ↦[(spB s).view.set]{fullShare} f)
      ∗ ⌜(spB s).view.read (Elt F) f = (opc false (pos d false) s).view.read (Elt F) (outAt m ρ sw (mate sw d))⌝)
  | .inl (true, s) => iprop(∃ f : Buf (Elt F) ((d : Thread nD τ).loc cc0_scratch2), (((d : Thread nD τ).loc cc0_scratch2) ↦[(spC s).view.set]{fullShare} f)
      ∗ ⌜(spC s).view.read (Elt F) f = (opc true (pos d true) s).view.read (Elt F) (outAt m ρ sw (mate sw d))⌝)
  | .inr s => iprop(∃ f : Buf (Elt F) ((d : Thread nD τ).loc cc0_scratch0), (((d : Thread nD τ).loc cc0_scratch0) ↦[(spA s).view.set]{fullShare} f)
      ∗ ⌜(spA s).view.read (Elt F) f = (opa s).view.read (Elt F) (outAt m ρ sw (mate sw d))⌝)

/-- What a copy of the exchange starts from, before (`false`) and after (`true`) its send buffer is filled, -/
def XPre (c : Dev nD) (x : Fin 10 × Bool) : sProp 𝕄 :=
  iprop((if x.2 = true then sndV m ρ sw c (xd x.1) else sndE c (xd x.1)) ∗ ptsE (mate sw c) (xp c x.1)
    ∗ dutyTok ER (kcell c (.x x.1)) 0 du ∗ dutyTok ER (kcell (mate sw c) (lk c x.1)) 0 du)
/-- and what it leaves. -/
def XPost (c : Dev nD) (x : Fin 10) : sProp 𝕄 := cred (tallyAt (kcell c (.x x)) () (kAmt (.x x)))

/-- What the exchange's copies owe, on top of the forwardings. -/
def owedE (c : Dev nD) : List (Fin 10 × Bool) → CellTallies nD τ sig Unit
  | [] => owedS c slots
  | x :: l => owedE c l + tallyAt (kcell (mate sw c) (lk c x.1)) () (kAmt (.x x.1))

theorem owedE_flag (c : Dev nD) (i : Fin 10) (b b' : Bool) (l : List (Fin 10 × Bool)) : owedE sw c ((i, b) :: l) = owedE sw c ((i, b') :: l) := rfl

/-- The staged block of `x`. -/
def xbuf (c : Dev nD) : sProp 𝕄 := ((c : Thread nD τ).loc cc0_stg0_0) ↦[Finset.univ]{fullShare} (xstg m ρ c)

/-- The exchange under way. -/
def XSt (c : Dev nD) (dn : List (Fin 10)) (l : List (Fin 10 × Bool)) : sProp 𝕄 :=
  iprop((∃ W, owes (c : Thread nD τ) (owedE sw c l) W) ∗ xbuf m ρ c ∗ bigSepL l (XPre m ρ sw c) ∗ bigSepL dn (XPost c))

/-- The rows of `x` a quarter's slice takes, as loaded, -/
def xvB (c : Dev nD) (ax : Bool) (s : Fin 4) : Vec F S1x224x256 .bf16 :=
  (Memref.whole cc0_stg0_0).view.readAt (Elt F) (Rect.unit (s := S1x2048x1024) ![0, rowOf ax (pos c ax), 256 * s.val] S1x224x256.size (opcInb ax (pos c ax) s)).toLoadRect (xstg m ρ c)
/-- and an `A` piece. -/
def xvA (c : Dev nD) (s : Fin 2) : Vec F S1x128x1024 .bf16 :=
  (Memref.whole cc0_stg0_0).view.readAt (Elt F) (Rect.unit (s := S1x2048x1024) ![0, 128 * s.val, 0] S1x128x1024.size (opaInb s)).toLoadRect (xstg m ρ c)

theorem read_mate_opc (c : Dev nD) (ax : Bool) (s : Fin 4) :
    (opc ax (pos c ax) s).view.read (Elt F) (outAt m ρ sw (mate sw c)) = (opc ax (pos c ax) s).view.read (Elt F) (xstg m ρ c) :=
  View.read_congr fun i hi => by
    have hb := ((mem_opc ax (pos c ax) s i).mp hi).1
    unfold outAt
    rw [org_opc sw (mate sw c) ax (pos c ax) _ hb.1 hb.2]
    have : setp ax (pos c ax) (mate sw c) = mate sw c := by
      have := setp_pos (mate sw c) ax
      rwa [pos_mate] at this
    rw [this, mate_mate]
theorem read_mate_opa (c : Dev nD) (s : Fin 2) :
    (opa s).view.read (Elt F) (outAt m ρ sw (mate sw c)) = (opa s).view.read (Elt F) (xstg m ρ c) :=
  View.read_congr fun i hi => by
    have hb := (mem_opa s i).mp hi
    unfold outAt org
    have := s.isLt
    rw [if_pos (by omega), mate_mate]

theorem S1x224x256_casts : S1x224x256.ShapeCasts S224x256 := by decide
theorem S1x128x1024_casts : S1x128x1024.ShapeCasts S128x1024 := by decide

/-- What was written through a rectangle is what is loaded through it. -/
theorem readAt_write {κ : Kind} {cs : Space} {s : Shape} {e : EltTy} {Val : EltTy → Type} (M : Memref sig κ cs s e) (r : Rect s) (f : M.view.ty.Contents Val) (w : r.shape.Idx → Val e) :
    M.view.readAt Val r.toLoadRect ((M.access r).write Val f w Finset.univ) = w := View.read_write_univ (v := M.access r) f w

theorem store_val_B (c : Dev nD) (s : Fin 4) (f : (cc0_scratch1 : Ref sig .tc).ty.Contents (Elt F)) :
    (spB s).view.read (Elt F) (((Memref.whole cc0_scratch1).access (Rect.unit (s := S4x224x256) ![s.val, 0, 0] S1x224x256.size (spcInb s))).write (Elt F) f (xvB m ρ c false s) Finset.univ)
      = (opc false (pos c false) s).view.read (Elt F) (outAt m ρ sw (mate sw c)) := by
  rw [read_mate_opc]
  rw [Memref.read_squeeze_slice (Memref.whole cc0_scratch1) _ _ _ (S1x224x256_casts), Memref.read_squeeze_slice (Memref.whole cc0_stg2_0) _ _ _ (S1x224x256_casts), readAt_write]
  rfl
theorem store_val_C (c : Dev nD) (s : Fin 4) (f : (cc0_scratch2 : Ref sig .tc).ty.Contents (Elt F)) :
    (spC s).view.read (Elt F) (((Memref.whole cc0_scratch2).access (Rect.unit (s := S4x224x256) ![s.val, 0, 0] S1x224x256.size (spcInb s))).write (Elt F) f (xvB m ρ c true s) Finset.univ)
      = (opc true (pos c true) s).view.read (Elt F) (outAt m ρ sw (mate sw c)) := by
  rw [read_mate_opc]
  rw [Memref.read_squeeze_slice (Memref.whole cc0_scratch2) _ _ _ (S1x224x256_casts), Memref.read_squeeze_slice (Memref.whole cc0_stg2_0) _ _ _ (S1x224x256_casts), readAt_write]
  rfl
theorem store_val_A (c : Dev nD) (s : Fin 2) (f : (cc0_scratch0 : Ref sig .tc).ty.Contents (Elt F)) :
    (spA s).view.read (Elt F) (((Memref.whole cc0_scratch0).access (Rect.unit (s := S2x128x1024) ![s.val, 0, 0] S1x128x1024.size (spaInb s))).write (Elt F) f (xvA m ρ c s) Finset.univ)
      = (opa s).view.read (Elt F) (outAt m ρ sw (mate sw c)) := by
  rw [read_mate_opa]
  rw [Memref.read_squeeze_slice (Memref.whole cc0_scratch0) _ _ _ (S1x128x1024_casts), Memref.read_squeeze_slice (Memref.whole cc0_stg2_0) _ _ _ (S1x128x1024_casts), readAt_write]
  rfl

section Step

variable (c : Dev nD)

/-- The load of a quarter's slice of `x`. -/
theorem step_loadB (ax : Bool) (s : Fin 4) (arg0 : Memref sig .tc .vmem S1x2048x1024 .bf16) (e0 : arg0 = Memref.whole cc0_stg0_0)
    {o : Fin 3 → ℕ} (ho : o = ![0, rowOf ax (pos c ax), 256 * s.val]) (bo : ∀ a, o a + S1x224x256.size a ≤ S1x2048x1024.size a)
    {hl : arg0.view.LoadsAt (Rect.unit (s := S1x2048x1024) o S1x224x256.size bo).toLoadRect}
    {α : Type} {kt : Vec F S1x224x256 .bf16 → Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.load arg0 (Rect.unit (s := S1x2048x1024) o S1x224x256.size bo).toLoadRect hl) >>= kt : Prog (TpuEff nD τ sig (Elt F) Λ₀ .tc) α))
    (hnext : iprop(env m ρ sw K ∗ XSt m ρ sw c dn l ∗ X) ⊢ wp frame (wpE (defs₀ (F := F)) 𝒱₀ (c : Thread nD τ) none) Set.univ (kt (xvB m ρ c ax s)) Q) :
    iprop(env m ρ sw K ∗ XSt m ρ sw c dn l ∗ X) ⊢ wp frame (wpE (defs₀ (F := F)) 𝒱₀ (c : Thread nD τ) none) Set.univ prg Q := by
  subst hprg e0 ho
  unfold XSt xbuf at hnext ⊢
  iintro ⟨#He, ⟨HO, Hx, Hl, Hd⟩, HX⟩
  iapply (wp_load 𝒱₀ (c : Thread nD τ) none Set.univ (m := Memref.whole cc0_stg0_0) (Finset.subset_univ _)) $$ Hx; iintro Hx
  iapply hnext
  isplitr; · iexact He
  isplitr [HX]
  · isplitl [HO]; · iexact HO
    isplitl [Hx]; · iexact Hx
    isplitl [Hl]; · iexact Hl
    iexact Hd
  iexact HX
/-- The load of an `A` piece. -/
theorem step_loadA (s : Fin 2) (arg0 : Memref sig .tc .vmem S1x2048x1024 .bf16) (e0 : arg0 = Memref.whole cc0_stg0_0)
    {o : Fin 3 → ℕ} (ho : o = ![0, 128 * s.val, 0]) (bo : ∀ a, o a + S1x128x1024.size a ≤ S1x2048x1024.size a)
    {hl : arg0.view.LoadsAt (Rect.unit (s := S1x2048x1024) o S1x128x1024.size bo).toLoadRect}
    {α : Type} {kt : Vec F S1x128x1024 .bf16 → Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.load arg0 (Rect.unit (s := S1x2048x1024) o S1x128x1024.size bo).toLoadRect hl) >>= kt : Prog (TpuEff nD τ sig (Elt F) Λ₀ .tc) α))
    (hnext : iprop(env m ρ sw K ∗ XSt m ρ sw c dn l ∗ X) ⊢ wp frame (wpE (defs₀ (F := F)) 𝒱₀ (c : Thread nD τ) none) Set.univ (kt (xvA m ρ c s)) Q) :
    iprop(env m ρ sw K ∗ XSt m ρ sw c dn l ∗ X) ⊢ wp frame (wpE (defs₀ (F := F)) 𝒱₀ (c : Thread nD τ) none) Set.univ prg Q := by
  subst hprg e0 ho
  unfold XSt xbuf at hnext ⊢
  iintro ⟨#He, ⟨HO, Hx, Hl, Hd⟩, HX⟩
  iapply (wp_load 𝒱₀ (c : Thread nD τ) none Set.univ (m := Memref.whole cc0_stg0_0) (Finset.subset_univ _)) $$ Hx; iintro Hx
  iapply hnext
  isplitr; · iexact He
  isplitr [HX]
  · isplitl [HO]; · iexact HO
    isplitl [Hx]; · iexact Hx
    isplitl [Hl]; · iexact Hl
    iexact Hd
  iexact HX

/-- The filling of the send buffer of a slice of `B`. -/
theorem step_storeB (i : Fin 10) (s : Fin 4) (hi : xd i = .inl (false, s)) (arg : Memref sig .tc .vmem S4x224x256 .bf16) (e : arg = Memref.whole cc0_scratch1)
    {o : Fin 3 → ℕ} (ho : o = ![s.val, 0, 0]) (bo : ∀ a, o a + S1x224x256.size a ≤ S4x224x256.size a)
    {w : Vec F S1x224x256 .bf16} (hw : w = xvB m ρ c false s)
    {hl : arg.view.LoadsAt (Rect.unit (s := S4x224x256) o S1x224x256.size bo).toLoadRect} {hx : (arg.access (Rect.unit (s := S4x224x256) o S1x224x256.size bo)).Stores Finset.univ} {hm : (Finset.univ : Finset (Rect.unit (s := S4x224x256) o S1x224x256.size bo).shape.Idx) = Finset.univ ∨ ∀ a, (Rect.unit (s := S4x224x256) o S1x224x256.size bo).stride a = 1}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.load arg (Rect.unit (s := S4x224x256) o S1x224x256.size bo).toLoadRect hl) >>= fun _ => Prog.lift (.store arg (Rect.unit (s := S4x224x256) o S1x224x256.size bo) w Finset.univ hx hm) >>= fun _ => kt : Prog (TpuEff nD τ sig (Elt F) Λ₀ .tc) α))
    (hnext : iprop(env m ρ sw K ∗ XSt m ρ sw c dn ((i, true) :: l) ∗ X) ⊢ wp frame (wpE (defs₀ (F := F)) 𝒱₀ (c : Thread nD τ) none) Set.univ kt Q) :
    iprop(env m ρ sw K ∗ XSt m ρ sw c dn ((i, false) :: l) ∗ X) ⊢ wp frame (wpE (defs₀ (F := F)) 𝒱₀ (c : Thread nD τ) none) Set.univ prg Q := by
  subst hprg e ho hw
  unfold XSt at hnext ⊢
  rw [bigSepL_cons'] at hnext ⊢
  unfold XPre at hnext ⊢
  rw [hi] at hnext ⊢
  rw [if_pos rfl] at hnext
  rw [if_neg Bool.false_ne_true]
  unfold sndV at hnext
  unfold sndE
  have hset : ((Memref.whole cc0_scratch1).access (Rect.unit (s := S4x224x256) ![s.val, 0, 0] S1x224x256.size (spcInb s))).set ⊆ (spB s).view.set := by
    rw [Memref.set_view_squeeze]
  iintro ⟨#He, ⟨HO, Hx, ⟨⟨⟨%f, Hs⟩, Hp⟩, Hl⟩, Hd⟩, HX⟩
  iapply (wp_load_rect 𝒱₀ (c : Thread nD τ) none Set.univ (m := Memref.whole cc0_scratch1) hset) $$ Hs; iintro Hs
  iapply (wp_store 𝒱₀ (c : Thread nD τ) none Set.univ (m := Memref.whole cc0_scratch1) (Mk := Finset.univ) hset) $$ Hs; iintro Hs
  iapply hnext
  isplitr; · iexact He
  isplitr [HX]
  · isplitl [HO]; · iexact HO
    isplitl [Hx]; · iexact Hx
    isplitr [Hd]
    · isplitr [Hl]
      · isplitl [Hs]
        · iexists _
          isplitl [Hs]; · iexact Hs
          ipureintro; exact store_val_B m ρ sw c s f
        iexact Hp
      iexact Hl
    iexact Hd
  iexact HX

/-- The filling of the send buffer of a slice of `C`. -/
theorem step_storeC (i : Fin 10) (s : Fin 4) (hi : xd i = .inl (true, s)) (arg : Memref sig .tc .vmem S4x224x256 .bf16) (e : arg = Memref.whole cc0_scratch2)
    {o : Fin 3 → ℕ} (ho : o = ![s.val, 0, 0]) (bo : ∀ a, o a + S1x224x256.size a ≤ S4x224x256.size a)
    {w : Vec F S1x224x256 .bf16} (hw : w = xvB m ρ c true s)
    {hl : arg.view.LoadsAt (Rect.unit (s := S4x224x256) o S1x224x256.size bo).toLoadRect} {hx : (arg.access (Rect.unit (s := S4x224x256) o S1x224x256.size bo)).Stores Finset.univ} {hm : (Finset.univ : Finset (Rect.unit (s := S4x224x256) o S1x224x256.size bo).shape.Idx) = Finset.univ ∨ ∀ a, (Rect.unit (s := S4x224x256) o S1x224x256.size bo).stride a = 1}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.load arg (Rect.unit (s := S4x224x256) o S1x224x256.size bo).toLoadRect hl) >>= fun _ => Prog.lift (.store arg (Rect.unit (s := S4x224x256) o S1x224x256.size bo) w Finset.univ hx hm) >>= fun _ => kt : Prog (TpuEff nD τ sig (Elt F) Λ₀ .tc) α))
    (hnext : iprop(env m ρ sw K ∗ XSt m ρ sw c dn ((i, true) :: l) ∗ X) ⊢ wp frame (wpE (defs₀ (F := F)) 𝒱₀ (c : Thread nD τ) none) Set.univ kt Q) :
    iprop(env m ρ sw K ∗ XSt m ρ sw c dn ((i, false) :: l) ∗ X) ⊢ wp frame (wpE (defs₀ (F := F)) 𝒱₀ (c : Thread nD τ) none) Set.univ prg Q := by
  subst hprg e ho hw
  unfold XSt at hnext ⊢
  rw [bigSepL_cons'] at hnext ⊢
  unfold XPre at hnext ⊢
  rw [hi] at hnext ⊢
  rw [if_pos rfl] at hnext
  rw [if_neg Bool.false_ne_true]
  unfold sndV at hnext
  unfold sndE
  have hset : ((Memref.whole cc0_scratch2).access (Rect.unit (s := S4x224x256) ![s.val, 0, 0] S1x224x256.size (spcInb s))).set ⊆ (spC s).view.set := by
    rw [Memref.set_view_squeeze]
  iintro ⟨#He, ⟨HO, Hx, ⟨⟨⟨%f, Hs⟩, Hp⟩, Hl⟩, Hd⟩, HX⟩
  iapply (wp_load_rect 𝒱₀ (c : Thread nD τ) none Set.univ (m := Memref.whole cc0_scratch2) hset) $$ Hs; iintro Hs
  iapply (wp_store 𝒱₀ (c : Thread nD τ) none Set.univ (m := Memref.whole cc0_scratch2) (Mk := Finset.univ) hset) $$ Hs; iintro Hs
  iapply hnext
  isplitr; · iexact He
  isplitr [HX]
  · isplitl [HO]; · iexact HO
    isplitl [Hx]; · iexact Hx
    isplitr [Hd]
    · isplitr [Hl]
      · isplitl [Hs]
        · iexists _
          isplitl [Hs]; · iexact Hs
          ipureintro; exact store_val_C m ρ sw c s f
        iexact Hp
      iexact Hl
    iexact Hd
  iexact HX

/-- The filling of the send buffer of an `A` piece. -/
theorem step_storeA (i : Fin 10) (s : Fin 2) (hi : xd i = .inr s) (arg : Memref sig .tc .vmem S2x128x1024 .bf16) (e : arg = Memref.whole cc0_scratch0)
    {o : Fin 3 → ℕ} (ho : o = ![s.val, 0, 0]) (bo : ∀ a, o a + S1x128x1024.size a ≤ S2x128x1024.size a)
    {w : Vec F S1x128x1024 .bf16} (hw : w = xvA m ρ c s)
    {hl : arg.view.LoadsAt (Rect.unit (s := S2x128x1024) o S1x128x1024.size bo).toLoadRect} {hx : (arg.access (Rect.unit (s := S2x128x1024) o S1x128x1024.size bo)).Stores Finset.univ} {hm : (Finset.univ : Finset (Rect.unit (s := S2x128x1024) o S1x128x1024.size bo).shape.Idx) = Finset.univ ∨ ∀ a, (Rect.unit (s := S2x128x1024) o S1x128x1024.size bo).stride a = 1}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.load arg (Rect.unit (s := S2x128x1024) o S1x128x1024.size bo).toLoadRect hl) >>= fun _ => Prog.lift (.store arg (Rect.unit (s := S2x128x1024) o S1x128x1024.size bo) w Finset.univ hx hm) >>= fun _ => kt : Prog (TpuEff nD τ sig (Elt F) Λ₀ .tc) α))
    (hnext : iprop(env m ρ sw K ∗ XSt m ρ sw c dn ((i, true) :: l) ∗ X) ⊢ wp frame (wpE (defs₀ (F := F)) 𝒱₀ (c : Thread nD τ) none) Set.univ kt Q) :
    iprop(env m ρ sw K ∗ XSt m ρ sw c dn ((i, false) :: l) ∗ X) ⊢ wp frame (wpE (defs₀ (F := F)) 𝒱₀ (c : Thread nD τ) none) Set.univ prg Q := by
  subst hprg e ho hw
  unfold XSt at hnext ⊢
  rw [bigSepL_cons'] at hnext ⊢
  unfold XPre at hnext ⊢
  rw [hi] at hnext ⊢
  rw [if_pos rfl] at hnext
  rw [if_neg Bool.false_ne_true]
  unfold sndV at hnext
  unfold sndE
  have hset : ((Memref.whole cc0_scratch0).access (Rect.unit (s := S2x128x1024) ![s.val, 0, 0] S1x128x1024.size (spaInb s))).set ⊆ (spA s).view.set := by
    rw [Memref.set_view_squeeze]
  iintro ⟨#He, ⟨HO, Hx, ⟨⟨⟨%f, Hs⟩, Hp⟩, Hl⟩, Hd⟩, HX⟩
  iapply (wp_load_rect 𝒱₀ (c : Thread nD τ) none Set.univ (m := Memref.whole cc0_scratch0) hset) $$ Hs; iintro Hs
  iapply (wp_store 𝒱₀ (c : Thread nD τ) none Set.univ (m := Memref.whole cc0_scratch0) (Mk := Finset.univ) hset) $$ Hs; iintro Hs
  iapply hnext
  isplitr; · iexact He
  isplitr [HX]
  · isplitl [HO]; · iexact HO
    isplitl [Hx]; · iexact Hx
    isplitr [Hd]
    · isplitr [Hl]
      · isplitl [Hs]
        · iexists _
          isplitl [Hs]; · iexact Hs
          ipureintro; exact store_val_A m ρ sw c s f
        iexact Hp
      iexact Hl
    iexact Hd
  iexact HX

/-- The copy of a slice of `B` to the mate. -/
theorem step_sendB (i : Fin 10) (s : Fin 4) (hi : xd i = .inl (false, s)) (arg : Memref sig .tc .vmem S4x224x256 .bf16) (e : arg = Memref.whole cc0_scratch1)
    (arg2 : Memref sig .tc .vmem S1x2048x1024 .bf16) (e2 : arg2 = Memref.whole cc0_stg2_0)
    {o : Fin 3 → ℕ} (ho : o = ![s.val, 0, 0]) (bo : ∀ a, o a + S1x224x256.size a ≤ S4x224x256.size a)
    {o2 : Fin 3 → ℕ} (ho2 : o2 = ![0, rowOf false (pos c false), 256 * s.val]) (bo2 : ∀ a, o2 a + S1x224x256.size a ≤ S1x2048x1024.size a)
    {n : Dev nD} (hn : n = mate sw c) {sS sR : DmaSem sig} (hS : sS = ksem (.x i)) (hR : sR = ksem (.r false (pos c false) s))
    {hsc : ((arg2.slice (Rect.unit (s := S1x2048x1024) o2 S1x224x256.size bo2) (fun _ => rfl)).squeeze S224x256 squeezes_S1x224x256_S224x256 : Memref sig (Dev.tc n : Thread nD τ).2.kind .vmem S224x256 .bf16).view.ref.isScScratch = false}
    {hsrc : ((arg.slice (Rect.unit (s := S4x224x256) o S1x224x256.size bo) (fun _ => rfl)).squeeze S224x256 squeezes_S1x224x256_S224x256).view.WordExact}
    {hdst : ((arg2.slice (Rect.unit (s := S1x2048x1024) o2 S1x224x256.size bo2) (fun _ => rfl)).squeeze S224x256 squeezes_S1x224x256_S224x256).view.WordExact}
    {hsem : DmaTarget.Typed .vmem (.dma sR) (.remote (Dev.tc n : Thread nD τ) ((arg2.slice (Rect.unit (s := S1x2048x1024) o2 S1x224x256.size bo2) (fun _ => rfl)).squeeze S224x256 squeezes_S1x224x256_S224x256 : Memref sig .tc .vmem S224x256 .bf16) (.dma sS) hsc)}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.enqueueDma ((arg.slice (Rect.unit (s := S4x224x256) o S1x224x256.size bo) (fun _ => rfl)).squeeze S224x256 squeezes_S1x224x256_S224x256)
        (.remote (Dev.tc n) ((arg2.slice (Rect.unit (s := S1x2048x1024) o2 S1x224x256.size bo2) (fun _ => rfl)).squeeze S224x256 squeezes_S1x224x256_S224x256) (.dma sS) hsc) (.dma sR) hsrc hdst hsem) >>= fun _ => kt : Prog (TpuEff nD τ sig (Elt F) Λ₀ .tc) α))
    (hnext : iprop(env m ρ sw K ∗ XSt m ρ sw c (i :: dn) l ∗ X) ⊢ wp frame (wpE (defs₀ (F := F)) 𝒱₀ (c : Thread nD τ) none) Set.univ kt Q) :
    iprop(env m ρ sw K ∗ XSt m ρ sw c dn ((i, true) :: l) ∗ X) ⊢ wp frame (wpE (defs₀ (F := F)) 𝒱₀ (c : Thread nD τ) none) Set.univ prg Q := by
  subst hprg e e2 ho ho2 hn hS hR
  have hlk : lk c i = .r false (pos c false) s := by unfold lk; rw [hi]
  have hxp : xp c i = .inl (false, pos c false, s) := by unfold xp; rw [hi]
  have hka : kAmt (.x i) = NB := by unfold kAmt; simp only [hi]
  have hd1 : du ∈ (Rd (F := F) m ρ sw).duties (kcell c (.x i)) 0 := by
    rw [duties_k m ρ sw c (.x i) rfl]; exact Finset.mem_singleton_self _
  have hd2 : du ∈ (Rd (F := F) m ρ sw).duties (kcell (mate sw c) (.r false (pos c false) s)) 0 := by
    rw [duties_k m ρ sw (mate sw c) (.r false (pos c false) s) rfl]; exact Finset.mem_singleton_self _
  have hp1 (f : Buf (Elt F) ((c : Thread nD τ).loc cc0_scratch1)) : ((spB s).view.loc (c : Thread nD τ) ↦[(spB s).view.set]{fullShare} f : sProp 𝕄)
      ⊢ (Rd (F := F) m ρ sw).payload (kcell c (.x i)) 0 du := by
    rw [payload_k m ρ sw c (.x i)]
    show _ ⊢ sndE c (xd i)
    rw [hi]; unfold sndE
    iintro H; iexists f; iexact H
  have hp2 (f : Buf (Elt F) ((c : Thread nD τ).loc cc0_scratch1)) (hv : (spB s).view.read (Elt F) f = (opc false (pos c false) s).view.read (Elt F) (outAt m ρ sw (mate sw c)))
      (fd : Buf (Elt F) ((mate sw c : Thread nD τ).loc cc0_stg2_0)) :
      ((opc false (pos c false) s).view.loc (mate sw c : Thread nD τ) ↦[(opc false (pos c false) s).view.set]{fullShare}
        ((opc false (pos c false) s).view.write (Elt F) fd ((spB s).view.read (Elt F) f) Finset.univ) : sProp 𝕄)
      ⊢ (Rd (F := F) m ρ sw).payload (kcell (mate sw c) (.r false (pos c false) s)) 0 du := by
    rw [payload_k m ρ sw (mate sw c) (.r false (pos c false) s), hv]
    exact Entails.of_eq (pts_opc_write m ρ sw (mate sw c) false (pos c false) s fd)
  unfold XSt at hnext ⊢
  rw [bigSepL_cons'] at hnext ⊢
  unfold XPre XPost
  unfold XPost at hnext
  dsimp only [owedE]
  rw [hlk, hxp, hka, hi, if_pos rfl]
  rw [hka] at hnext
  unfold sndV ptsE
  iintro ⟨#He, ⟨⟨%W, HO⟩, Hx, ⟨⟨⟨%f, Hs, %hv⟩, ⟨%fd, Hp⟩, Ht1, Ht2⟩, Hl⟩, Hd⟩, HX⟩
  iapply (Rounds.wp_send_pointsTo 𝒱₀ ER (Rd m ρ sw) (c : Thread nD τ) none (κ₁ := K (c, .inr (.x i))) (κ₂ := K (mate sw c, .inr (.r false (pos c false) s)))
    (c' := (Dev.tc (mate sw c) : Thread nD τ))
    (src := spB s) (dst := opc false (pos c false) s) (q := fullShare) (fs := f)
    (r₁ := 0) (r₂ := 0) (d₁ := du) (d₂ := du) (fd := fd)
    hd1 hd2 () () NB rfl ((amount_k m ρ sw c (.x i) du).trans hka) (amount_k m ρ sw (mate sw c) (.r false (pos c false) s) du) (owedE sw c l)
    rfl (W := W) (hp1 f) (hp2 f hv fd)) $$ [Hs Hp HO Ht1 Ht2]
  · isplitr; · iapply (env_inv m ρ sw K (c, .inr (.x i))); iexact He
    isplitr; · iapply (env_inv m ρ sw K (mate sw c, .inr (.r false (pos c false) s))); iexact He
    isplitl [Hs]; · iexact Hs
    isplitl [Hp]; · unfold pts; iexact Hp
    isplitl [HO]; · iexact HO
    isplitl [Ht1]; · iexact Ht1
    isplitr; · iapply (env_reached m ρ sw K (c, .inr (.x i))); iexact He
    isplitl [Ht2]; · iexact Ht2
    iapply (env_reached m ρ sw K (mate sw c, .inr (.r false (pos c false) s))); iexact He
  iintro ⟨Hc, HO⟩
  iapply hnext
  isplitr; · iexact He
  isplitr [HX]
  · isplitl [HO]; · iexists W; iexact HO
    isplitl [Hx]; · iexact Hx
    isplitl [Hl]; · iexact Hl
    isplitl [Hc]; · iexact Hc
    iexact Hd
  iexact HX

/-- The copy of a slice of `C` to the mate. -/
theorem step_sendC (i : Fin 10) (s : Fin 4) (hi : xd i = .inl (true, s)) (arg : Memref sig .tc .vmem S4x224x256 .bf16) (e : arg = Memref.whole cc0_scratch2)
    (arg2 : Memref sig .tc .vmem S1x2048x1024 .bf16) (e2 : arg2 = Memref.whole cc0_stg2_0)
    {o : Fin 3 → ℕ} (ho : o = ![s.val, 0, 0]) (bo : ∀ a, o a + S1x224x256.size a ≤ S4x224x256.size a)
    {o2 : Fin 3 → ℕ} (ho2 : o2 = ![0, rowOf true (pos c true), 256 * s.val]) (bo2 : ∀ a, o2 a + S1x224x256.size a ≤ S1x2048x1024.size a)
    {n : Dev nD} (hn : n = mate sw c) {sS sR : DmaSem sig} (hS : sS = ksem (.x i)) (hR : sR = ksem (.r true (pos c true) s))
    {hsc : ((arg2.slice (Rect.unit (s := S1x2048x1024) o2 S1x224x256.size bo2) (fun _ => rfl)).squeeze S224x256 squeezes_S1x224x256_S224x256 : Memref sig (Dev.tc n : Thread nD τ).2.kind .vmem S224x256 .bf16).view.ref.isScScratch = false}
    {hsrc : ((arg.slice (Rect.unit (s := S4x224x256) o S1x224x256.size bo) (fun _ => rfl)).squeeze S224x256 squeezes_S1x224x256_S224x256).view.WordExact}
    {hdst : ((arg2.slice (Rect.unit (s := S1x2048x1024) o2 S1x224x256.size bo2) (fun _ => rfl)).squeeze S224x256 squeezes_S1x224x256_S224x256).view.WordExact}
    {hsem : DmaTarget.Typed .vmem (.dma sR) (.remote (Dev.tc n : Thread nD τ) ((arg2.slice (Rect.unit (s := S1x2048x1024) o2 S1x224x256.size bo2) (fun _ => rfl)).squeeze S224x256 squeezes_S1x224x256_S224x256 : Memref sig .tc .vmem S224x256 .bf16) (.dma sS) hsc)}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.enqueueDma ((arg.slice (Rect.unit (s := S4x224x256) o S1x224x256.size bo) (fun _ => rfl)).squeeze S224x256 squeezes_S1x224x256_S224x256)
        (.remote (Dev.tc n) ((arg2.slice (Rect.unit (s := S1x2048x1024) o2 S1x224x256.size bo2) (fun _ => rfl)).squeeze S224x256 squeezes_S1x224x256_S224x256) (.dma sS) hsc) (.dma sR) hsrc hdst hsem) >>= fun _ => kt : Prog (TpuEff nD τ sig (Elt F) Λ₀ .tc) α))
    (hnext : iprop(env m ρ sw K ∗ XSt m ρ sw c (i :: dn) l ∗ X) ⊢ wp frame (wpE (defs₀ (F := F)) 𝒱₀ (c : Thread nD τ) none) Set.univ kt Q) :
    iprop(env m ρ sw K ∗ XSt m ρ sw c dn ((i, true) :: l) ∗ X) ⊢ wp frame (wpE (defs₀ (F := F)) 𝒱₀ (c : Thread nD τ) none) Set.univ prg Q := by
  subst hprg e e2 ho ho2 hn hS hR
  have hlk : lk c i = .r true (pos c true) s := by unfold lk; rw [hi]
  have hxp : xp c i = .inl (true, pos c true, s) := by unfold xp; rw [hi]
  have hka : kAmt (.x i) = NB := by unfold kAmt; simp only [hi]
  have hd1 : du ∈ (Rd (F := F) m ρ sw).duties (kcell c (.x i)) 0 := by
    rw [duties_k m ρ sw c (.x i) rfl]; exact Finset.mem_singleton_self _
  have hd2 : du ∈ (Rd (F := F) m ρ sw).duties (kcell (mate sw c) (.r true (pos c true) s)) 0 := by
    rw [duties_k m ρ sw (mate sw c) (.r true (pos c true) s) rfl]; exact Finset.mem_singleton_self _
  have hp1 (f : Buf (Elt F) ((c : Thread nD τ).loc cc0_scratch2)) : ((spC s).view.loc (c : Thread nD τ) ↦[(spC s).view.set]{fullShare} f : sProp 𝕄)
      ⊢ (Rd (F := F) m ρ sw).payload (kcell c (.x i)) 0 du := by
    rw [payload_k m ρ sw c (.x i)]
    show _ ⊢ sndE c (xd i)
    rw [hi]; unfold sndE
    iintro H; iexists f; iexact H
  have hp2 (f : Buf (Elt F) ((c : Thread nD τ).loc cc0_scratch2)) (hv : (spC s).view.read (Elt F) f = (opc true (pos c true) s).view.read (Elt F) (outAt m ρ sw (mate sw c)))
      (fd : Buf (Elt F) ((mate sw c : Thread nD τ).loc cc0_stg2_0)) :
      ((opc true (pos c true) s).view.loc (mate sw c : Thread nD τ) ↦[(opc true (pos c true) s).view.set]{fullShare}
        ((opc true (pos c true) s).view.write (Elt F) fd ((spC s).view.read (Elt F) f) Finset.univ) : sProp 𝕄)
      ⊢ (Rd (F := F) m ρ sw).payload (kcell (mate sw c) (.r true (pos c true) s)) 0 du := by
    rw [payload_k m ρ sw (mate sw c) (.r true (pos c true) s), hv]
    exact Entails.of_eq (pts_opc_write m ρ sw (mate sw c) true (pos c true) s fd)
  unfold XSt at hnext ⊢
  rw [bigSepL_cons'] at hnext ⊢
  unfold XPre XPost
  unfold XPost at hnext
  dsimp only [owedE]
  rw [hlk, hxp, hka, hi, if_pos rfl]
  rw [hka] at hnext
  unfold sndV ptsE
  iintro ⟨#He, ⟨⟨%W, HO⟩, Hx, ⟨⟨⟨%f, Hs, %hv⟩, ⟨%fd, Hp⟩, Ht1, Ht2⟩, Hl⟩, Hd⟩, HX⟩
  iapply (Rounds.wp_send_pointsTo 𝒱₀ ER (Rd m ρ sw) (c : Thread nD τ) none (κ₁ := K (c, .inr (.x i))) (κ₂ := K (mate sw c, .inr (.r true (pos c true) s)))
    (c' := (Dev.tc (mate sw c) : Thread nD τ))
    (src := spC s) (dst := opc true (pos c true) s) (q := fullShare) (fs := f)
    (r₁ := 0) (r₂ := 0) (d₁ := du) (d₂ := du) (fd := fd)
    hd1 hd2 () () NB rfl ((amount_k m ρ sw c (.x i) du).trans hka) (amount_k m ρ sw (mate sw c) (.r true (pos c true) s) du) (owedE sw c l)
    rfl (W := W) (hp1 f) (hp2 f hv fd)) $$ [Hs Hp HO Ht1 Ht2]
  · isplitr; · iapply (env_inv m ρ sw K (c, .inr (.x i))); iexact He
    isplitr; · iapply (env_inv m ρ sw K (mate sw c, .inr (.r true (pos c true) s))); iexact He
    isplitl [Hs]; · iexact Hs
    isplitl [Hp]; · unfold pts; iexact Hp
    isplitl [HO]; · iexact HO
    isplitl [Ht1]; · iexact Ht1
    isplitr; · iapply (env_reached m ρ sw K (c, .inr (.x i))); iexact He
    isplitl [Ht2]; · iexact Ht2
    iapply (env_reached m ρ sw K (mate sw c, .inr (.r true (pos c true) s))); iexact He
  iintro ⟨Hc, HO⟩
  iapply hnext
  isplitr; · iexact He
  isplitr [HX]
  · isplitl [HO]; · iexists W; iexact HO
    isplitl [Hx]; · iexact Hx
    isplitl [Hl]; · iexact Hl
    isplitl [Hc]; · iexact Hc
    iexact Hd
  iexact HX

/-- The copy of an `A` piece to the mate. -/
theorem step_sendA (i : Fin 10) (s : Fin 2) (hi : xd i = .inr s) (arg : Memref sig .tc .vmem S2x128x1024 .bf16) (e : arg = Memref.whole cc0_scratch0)
    (arg2 : Memref sig .tc .vmem S1x2048x1024 .bf16) (e2 : arg2 = Memref.whole cc0_stg2_0)
    {o : Fin 3 → ℕ} (ho : o = ![s.val, 0, 0]) (bo : ∀ a, o a + S1x128x1024.size a ≤ S2x128x1024.size a)
    {o2 : Fin 3 → ℕ} (ho2 : o2 = ![0, 128 * s.val, 0]) (bo2 : ∀ a, o2 a + S1x128x1024.size a ≤ S1x2048x1024.size a)
    {n : Dev nD} (hn : n = mate sw c) {sS sR : DmaSem sig} (hS : sS = ksem (.x i)) (hR : sR = ksem (.a s))
    {hsc : ((arg2.slice (Rect.unit (s := S1x2048x1024) o2 S1x128x1024.size bo2) (fun _ => rfl)).squeeze S128x1024 squeezes_S1x128x1024_S128x1024 : Memref sig (Dev.tc n : Thread nD τ).2.kind .vmem S128x1024 .bf16).view.ref.isScScratch = false}
    {hsrc : ((arg.slice (Rect.unit (s := S2x128x1024) o S1x128x1024.size bo) (fun _ => rfl)).squeeze S128x1024 squeezes_S1x128x1024_S128x1024).view.WordExact}
    {hdst : ((arg2.slice (Rect.unit (s := S1x2048x1024) o2 S1x128x1024.size bo2) (fun _ => rfl)).squeeze S128x1024 squeezes_S1x128x1024_S128x1024).view.WordExact}
    {hsem : DmaTarget.Typed .vmem (.dma sR) (.remote (Dev.tc n : Thread nD τ) ((arg2.slice (Rect.unit (s := S1x2048x1024) o2 S1x128x1024.size bo2) (fun _ => rfl)).squeeze S128x1024 squeezes_S1x128x1024_S128x1024 : Memref sig .tc .vmem S128x1024 .bf16) (.dma sS) hsc)}
    {α : Type} {kt : Prog (TpuEff nD τ sig (Elt F) Λ₀ .tc) α} {Q : α → sProp 𝕄} (dn : List (Fin 10)) (l : List (Fin 10 × Bool)) (X : sProp 𝕄)
    {prg : Prog (TpuEff nD τ sig (Elt F) Λ₀ .tc) α}
    (hprg : prg = (Prog.lift (.enqueueDma ((arg.slice (Rect.unit (s := S2x128x1024) o S1x128x1024.size bo) (fun _ => rfl)).squeeze S128x1024 squeezes_S1x128x1024_S128x1024)
        (.remote (Dev.tc n) ((arg2.slice (Rect.unit (s := S1x2048x1024) o2 S1x128x1024.size bo2) (fun _ => rfl)).squeeze S128x1024 squeezes_S1x128x1024_S128x1024) (.dma sS) hsc) (.dma sR) hsrc hdst hsem) >>= fun _ => kt : Prog (TpuEff nD τ sig (Elt F) Λ₀ .tc) α))
    (hnext : iprop(env m ρ sw K ∗ XSt m ρ sw c (i :: dn) l ∗ X) ⊢ wp frame (wpE (defs₀ (F := F)) 𝒱₀ (c : Thread nD τ) none) Set.univ kt Q) :
    iprop(env m ρ sw K ∗ XSt m ρ sw c dn ((i, true) :: l) ∗ X) ⊢ wp frame (wpE (defs₀ (F := F)) 𝒱₀ (c : Thread nD τ) none) Set.univ prg Q := by
  subst hprg e e2 ho ho2 hn hS hR
  have hlk : lk c i = .a s := by unfold lk; rw [hi]
  have hxp : xp c i = .inr s := by unfold xp; rw [hi]
  have hka : kAmt (.x i) = NA := by unfold kAmt; simp only [hi]
  have hd1 : du ∈ (Rd (F := F) m ρ sw).duties (kcell c (.x i)) 0 := by
    rw [duties_k m ρ sw c (.x i) rfl]; exact Finset.mem_singleton_self _
  have hd2 : du ∈ (Rd (F := F) m ρ sw).duties (kcell (mate sw c) (.a s)) 0 := by
    rw [duties_k m ρ sw (mate sw c) (.a s) rfl]; exact Finset.mem_singleton_self _
  have hp1 (f : Buf (Elt F) ((c : Thread nD τ).loc cc0_scratch0)) : ((spA s).view.loc (c : Thread nD τ) ↦[(spA s).view.set]{fullShare} f : sProp 𝕄)
      ⊢ (Rd (F := F) m ρ sw).payload (kcell c (.x i)) 0 du := by
    rw [payload_k m ρ sw c (.x i)]
    show _ ⊢ sndE c (xd i)
    rw [hi]; unfold sndE
    iintro H; iexists f; iexact H
  have hp2 (f : Buf (Elt F) ((c : Thread nD τ).loc cc0_scratch0)) (hv : (spA s).view.read (Elt F) f = (opa s).view.read (Elt F) (outAt m ρ sw (mate sw c)))
      (fd : Buf (Elt F) ((mate sw c : Thread nD τ).loc cc0_stg2_0)) :
      ((opa s).view.loc (mate sw c : Thread nD τ) ↦[(opa s).view.set]{fullShare}
        ((opa s).view.write (Elt F) fd ((spA s).view.read (Elt F) f) Finset.univ) : sProp 𝕄)
      ⊢ (Rd (F := F) m ρ sw).payload (kcell (mate sw c) (.a s)) 0 du := by
    rw [payload_k m ρ sw (mate sw c) (.a s), hv]
    exact Entails.of_eq (pts_opa_write m ρ sw (mate sw c) s fd)
  unfold XSt at hnext ⊢
  rw [bigSepL_cons'] at hnext ⊢
  unfold XPre XPost
  unfold XPost at hnext
  dsimp only [owedE]
  rw [hlk, hxp, hka, hi, if_pos rfl]
  rw [hka] at hnext
  unfold sndV ptsE
  iintro ⟨#He, ⟨⟨%W, HO⟩, Hx, ⟨⟨⟨%f, Hs, %hv⟩, ⟨%fd, Hp⟩, Ht1, Ht2⟩, Hl⟩, Hd⟩, HX⟩
  iapply (Rounds.wp_send_pointsTo 𝒱₀ ER (Rd m ρ sw) (c : Thread nD τ) none (κ₁ := K (c, .inr (.x i))) (κ₂ := K (mate sw c, .inr (.a s)))
    (c' := (Dev.tc (mate sw c) : Thread nD τ))
    (src := spA s) (dst := opa s) (q := fullShare) (fs := f)
    (r₁ := 0) (r₂ := 0) (d₁ := du) (d₂ := du) (fd := fd)
    hd1 hd2 () () NA rfl ((amount_k m ρ sw c (.x i) du).trans hka) (amount_k m ρ sw (mate sw c) (.a s) du) (owedE sw c l)
    rfl (W := W) (hp1 f) (hp2 f hv fd)) $$ [Hs Hp HO Ht1 Ht2]
  · isplitr; · iapply (env_inv m ρ sw K (c, .inr (.x i))); iexact He
    isplitr; · iapply (env_inv m ρ sw K (mate sw c, .inr (.a s))); iexact He
    isplitl [Hs]; · iexact Hs
    isplitl [Hp]; · unfold pts; iexact Hp
    isplitl [HO]; · iexact HO
    isplitl [Ht1]; · iexact Ht1
    isplitr; · iapply (env_reached m ρ sw K (c, .inr (.x i))); iexact He
    isplitl [Ht2]; · iexact Ht2
    iapply (env_reached m ρ sw K (mate sw c, .inr (.a s))); iexact He
  iintro ⟨Hc, HO⟩
  iapply hnext
  isplitr; · iexact He
  isplitr [HX]
  · isplitl [HO]; · iexists W; iexact HO
    isplitl [Hx]; · iexact Hx
    isplitl [Hl]; · iexact Hl
    isplitl [Hc]; · iexact Hc
    iexact Hd
  iexact HX

end Step

end Cert.KProof

end
-- ==== Proof.XFacts.lean ====
/-
What the printed words of the exchange and of the barrier amount to, at each device.
-/
module

public import proofs.«01_k».proof.Proof.Exch
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-- The table's word at a device's own `x`: the mate's `x`. -/
def w10 (sw : Bool) (c : Dev nD) : BitVec 32 := BitVec.ofNat 32 ((mate sw c).val / 16)
/-- The table's first word. -/
def w11 (sw : Bool) : BitVec 32 := if sw then 1#32 else 0#32

/-- The devices the table's words name are in the mesh, -/
theorem chk1_ok (sw : Bool) (c : Dev nD) : k0_chk1 c (w10 sw c) := by revert sw c; decide
theorem chk2_ok (sw : Bool) (c : Dev nD) : k0_chk2 c (w11 sw) := by revert sw c; decide
theorem xoff1 (c : Dev nD) : k0_off1 c = ![c.val / 16] := by revert c; decide
/-- and are the mate. -/
theorem xdev2 (sw : Bool) (c : Dev nD) : k0_dev2 c (w11 sw) = (mate sw c).val := by revert sw c; decide
theorem xdev1 (sw : Bool) (c : Dev nD) : k0_dev1 c (w10 sw c) = (mate sw c).val := by revert sw c; decide
theorem xdev7 (sw : Bool) (c : Dev nD) : k0_dev7 c (w10 sw c) = (mate sw c).val := by revert sw c; decide
theorem xdev8 (sw : Bool) (c : Dev nD) : k0_dev8 c (w10 sw c) = (mate sw c).val := by revert sw c; decide
theorem xdev9 (sw : Bool) (c : Dev nD) : k0_dev9 c (w10 sw c) = (mate sw c).val := by revert sw c; decide
theorem xdev10 (sw : Bool) (c : Dev nD) : k0_dev10 c (w10 sw c) = (mate sw c).val := by revert sw c; decide
theorem xdev11 (sw : Bool) (c : Dev nD) : k0_dev11 c (w10 sw c) = (mate sw c).val := by revert sw c; decide
theorem xdev12 (sw : Bool) (c : Dev nD) : k0_dev12 c (w10 sw c) = (mate sw c).val := by revert sw c; decide
theorem xdev13 (sw : Bool) (c : Dev nD) : k0_dev13 c (w10 sw c) = (mate sw c).val := by revert sw c; decide
theorem xdev14 (sw : Bool) (c : Dev nD) : k0_dev14 c (w10 sw c) = (mate sw c).val := by revert sw c; decide
theorem xdev15 (sw : Bool) (c : Dev nD) : k0_dev15 c (w10 sw c) = (mate sw c).val := by revert sw c; decide
theorem xdev16 (sw : Bool) (c : Dev nD) : k0_dev16 c (w10 sw c) = (mate sw c).val := by revert sw c; decide
/-! ## The offsets of the exchange -/

theorem xoff2_false (c : Dev nD) : k0_off2 c 256#32 4#32 = ![0, rowOf false (pos c false), 256 * (0 : Fin 4).val] := by revert c; decide
theorem xoff2_true (c : Dev nD) : k0_off2 c 1152#32 1#32 = ![0, rowOf true (pos c true), 256 * (0 : Fin 4).val] := by revert c; decide
theorem xoff4_false (c : Dev nD) : k0_off4 c 256#32 4#32 = ![0, rowOf false (pos c false), 256 * (0 : Fin 4).val] := by revert c; decide
theorem xoff4_true (c : Dev nD) : k0_off4 c 1152#32 1#32 = ![0, rowOf true (pos c true), 256 * (0 : Fin 4).val] := by revert c; decide
theorem xoff3_false (c : Dev nD) : k0_off3 c 4#32 = ![(pos c false).val, (0 : Fin 4).val] := by revert c; decide
theorem xoff3_true (c : Dev nD) : k0_off3 c 1#32 = ![(pos c true).val, (0 : Fin 4).val] := by revert c; decide
theorem xoff5_false (c : Dev nD) : k0_off5 c 256#32 4#32 = ![0, rowOf false (pos c false), 256 * (1 : Fin 4).val] := by revert c; decide
theorem xoff5_true (c : Dev nD) : k0_off5 c 1152#32 1#32 = ![0, rowOf true (pos c true), 256 * (1 : Fin 4).val] := by revert c; decide
theorem xoff7_false (c : Dev nD) : k0_off7 c 256#32 4#32 = ![0, rowOf false (pos c false), 256 * (1 : Fin 4).val] := by revert c; decide
theorem xoff7_true (c : Dev nD) : k0_off7 c 1152#32 1#32 = ![0, rowOf true (pos c true), 256 * (1 : Fin 4).val] := by revert c; decide
theorem xoff6_false (c : Dev nD) : k0_off6 c 4#32 = ![(pos c false).val, (1 : Fin 4).val] := by revert c; decide
theorem xoff6_true (c : Dev nD) : k0_off6 c 1#32 = ![(pos c true).val, (1 : Fin 4).val] := by revert c; decide
theorem xoff8_false (c : Dev nD) : k0_off8 c 256#32 4#32 = ![0, rowOf false (pos c false), 256 * (2 : Fin 4).val] := by revert c; decide
theorem xoff8_true (c : Dev nD) : k0_off8 c 1152#32 1#32 = ![0, rowOf true (pos c true), 256 * (2 : Fin 4).val] := by revert c; decide
theorem xoff10_false (c : Dev nD) : k0_off10 c 256#32 4#32 = ![0, rowOf false (pos c false), 256 * (2 : Fin 4).val] := by revert c; decide
theorem xoff10_true (c : Dev nD) : k0_off10 c 1152#32 1#32 = ![0, rowOf true (pos c true), 256 * (2 : Fin 4).val] := by revert c; decide
theorem xoff9_false (c : Dev nD) : k0_off9 c 4#32 = ![(pos c false).val, (2 : Fin 4).val] := by revert c; decide
theorem xoff9_true (c : Dev nD) : k0_off9 c 1#32 = ![(pos c true).val, (2 : Fin 4).val] := by revert c; decide
theorem xoff11_false (c : Dev nD) : k0_off11 c 256#32 4#32 = ![0, rowOf false (pos c false), 256 * (3 : Fin 4).val] := by revert c; decide
theorem xoff11_true (c : Dev nD) : k0_off11 c 1152#32 1#32 = ![0, rowOf true (pos c true), 256 * (3 : Fin 4).val] := by revert c; decide
theorem xoff13_false (c : Dev nD) : k0_off13 c 256#32 4#32 = ![0, rowOf false (pos c false), 256 * (3 : Fin 4).val] := by revert c; decide
theorem xoff13_true (c : Dev nD) : k0_off13 c 1152#32 1#32 = ![0, rowOf true (pos c true), 256 * (3 : Fin 4).val] := by revert c; decide
theorem xoff12_false (c : Dev nD) : k0_off12 c 4#32 = ![(pos c false).val, (3 : Fin 4).val] := by revert c; decide
theorem xoff12_true (c : Dev nD) : k0_off12 c 1#32 = ![(pos c true).val, (3 : Fin 4).val] := by revert c; decide
/-! ## The neighbours' signals -/

theorem xcond1 (c : Dev nD) : k0_cond1 c = 1#1 ↔ has c false false = true := by revert c; decide
theorem xdev3 (c : Dev nD) (h : k0_cond1 c = 1#1) : k0_dev3 c = (nb false false c).val := by revert c; decide
theorem xcond2 (c : Dev nD) : k0_cond2 c = 1#1 ↔ has c false true = true := by revert c; decide
theorem xdev4 (c : Dev nD) (h : k0_cond2 c = 1#1) : k0_dev4 c = (nb false true c).val := by revert c; decide
theorem xcond3 (c : Dev nD) : k0_cond3 c = 1#1 ↔ has c true false = true := by revert c; decide
theorem xdev5 (c : Dev nD) (h : k0_cond3 c = 1#1) : k0_dev5 c = (nb true false c).val := by revert c; decide
theorem xcond4 (c : Dev nD) : k0_cond4 c = 1#1 ↔ has c true true = true := by revert c; decide
theorem xdev6 (c : Dev nD) (h : k0_cond4 c = 1#1) : k0_dev6 c = (nb true true c).val := by revert c; decide
/-- The barrier's wait counts its signals. -/
theorem xamt (c : Dev nD) : (k0_amt1 c).toInt = ((barD c).card : Int) := by revert c; decide
theorem barD_pos (c : Dev nD) : 0 < (barD c).card := by revert c; decide

/-! ## The semaphore arrays' members -/

theorem sem_scratch3 (arg : DmaSems sig S10) (e : arg = cc0_scratch3) (i : Fin 10) {o : Fin 1 → ℕ} (ho : o = ![i.val]) (h : ∀ a, o a + S1.size a ≤ S10.size a) :
    ((arg.slice (Rect.unit (s := S10) o S1.size h)).squeeze S_ squeezes_S1_S_).sem = ksem (.x i) := by
  subst e ho; revert h; revert i; decide
theorem sem_scratch4 (arg : DmaSems sig S2) (e : arg = cc0_scratch4) (i : Fin 2) {o : Fin 1 → ℕ} (ho : o = ![i.val]) (h : ∀ a, o a + S1.size a ≤ S2.size a) :
    ((arg.slice (Rect.unit (s := S2) o S1.size h)).squeeze S_ squeezes_S1_S_).sem = ksem (.a i) := by
  subst e ho; revert h; revert i; decide
theorem sem_scratch5' (arg : DmaSems sig S4x4) (e : arg = cc0_scratch5) (q s : Fin 4) {o : Fin 2 → ℕ} (ho : o = ![q.val, s.val]) (h : ∀ a, o a + S1x1.size a ≤ S4x4.size a) :
    ((arg.slice (Rect.unit (s := S4x4) o S1x1.size h)).squeeze S_ squeezes_S1x1_S_).sem = ksem (.r false q s) := by
  subst ho; exact sem_scratch5 arg e q s h
theorem sem_scratch6' (arg : DmaSems sig S4x4) (e : arg = cc0_scratch6) (q s : Fin 4) {o : Fin 2 → ℕ} (ho : o = ![q.val, s.val]) (h : ∀ a, o a + S1x1.size a ≤ S4x4.size a) :
    ((arg.slice (Rect.unit (s := S4x4) o S1x1.size h)).squeeze S_ squeezes_S1x1_S_).sem = ksem (.r true q s) := by
  subst ho; exact sem_scratch6 arg e q s h

end Cert.KProof

end
-- ==== Proof.Bar.lean ====
/-
The barrier: the table read, the signals to the mate and to the neighbours, the wait for theirs.
-/
module

public import proofs.«01_k».proof.Proof.XFacts
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The barrier -/

/-- The device a signal of the barrier goes to, by the duty it pays as seen from here, -/
def sgDev (c : Dev nD) : Duty → Dev nD
  | .inl _ => mate sw c
  | .inr (ax, dir) => nb ax dir c
/-- and the duty it pays there. -/
def sgDu : Duty → Duty
  | .inl b => .inl b
  | .inr (ax, dir) => .inr (ax, !dir)

theorem sgOk (c : Dev nD) (σ : Duty) (h : barOk c σ = true) : barOk (sgDev sw c σ) (sgDu σ) = true := by
  rcases σ with b | ⟨ax, dir⟩
  · rfl
  · show has (nb ax dir c) ax (!dir) = true
    rw [has_nb]; exact h

/-- What a signal of the barrier starts from, -/
def BPre (c : Dev nD) (σ : Duty) : sProp 𝕄 :=
  if barOk c σ = true then iprop(dutyTok ER (barCell (sgDev sw c σ)) 0 (sgDu σ) ∗ barPay sw (sgDev sw c σ) (sgDu σ)) else iprop(emp)
/-- and what is owed for it. -/
def owedG (c : Dev nD) (σ : Duty) : CellTallies nD τ sig Unit :=
  if barOk c σ = true then tallyAt (barCell (sgDev sw c σ)) () 1 else 0

/-- The exchange's ten copies, before their send buffers are filled. -/
def XL : List (Fin 10 × Bool) :=
  [(0, false), (1, false), (2, false), (3, false), (4, false), (5, false), (6, false), (7, false), (8, false), (9, false)]

/-- What is owed from the barrier on. -/
def owedB (c : Dev nD) : List Duty → CellTallies nD τ sig Unit
  | [] => owedE sw c XL
  | σ :: l => owedB c l + owedG sw c σ

/-- The staged table. -/
def tbuf (c : Dev nD) : sProp 𝕄 := ((c : Thread nD τ).loc cc0_stg1_0) ↦[Finset.univ]{fullShare} (tstg m ρ c)

/-- The barrier under way. -/
def BSt (c : Dev nD) (l : List Duty) : sProp 𝕄 :=
  iprop((∃ W, owes (c : Thread nD τ) (owedB sw c l) W) ∗ tbuf m ρ c ∗ bigSepL l (BPre sw c))

/-- What the barrier's wait hands over. -/
def barGot (c : Dev nD) : sProp 𝕄 := bigSep Finset.univ fun d : Duty => if barOk c d = true then barPay sw c d else iprop(emp)

theorem above_owedE (c : Dev nD) (l : List (Fin 10 × Bool)) : Above 1 (owedE sw c l) := by
  induction l with
  | nil => exact above_owedS c 1 slots fun y _ => by omega
  | cons x l ih =>
    refine above_add ih ?_
    refine above_tally _ _ _ ?_
    unfold lk
    split
    · rename_i ax s h
      rw [lv_r]; omega
    · rw [lv_a]; omega

/-- The table, as every device has it staged. -/
def TabOK : Prop := ∀ (c : Dev nD) (i : S2.Idx), tstg m ρ c i = if (i 0).val = 0 then w11 sw else w11 (!sw)

omit [FloatOps F] in
theorem w_sel (sw : Bool) (c : Dev nD) : (if c.val / 16 = 0 then w11 sw else w11 (!sw) : BitVec 32) = w10 sw c := by
  revert sw c; decide
theorem tab_own (hT : TabOK m ρ sw) (c : Dev nD) (i : S2.Idx) (h : (i 0).val = k0_off1 c 0) : tstg m ρ c i = w10 sw c := by
  have ho : k0_off1 c 0 = c.val / 16 := by rw [xoff1]; rfl
  rw [hT c i, h, ho]
  exact w_sel sw c
theorem tab_fst (hT : TabOK m ρ sw) (c : Dev nD) (i : S2.Idx) (h : (i 0).val = (![0] : Fin 1 → ℕ) 0) : tstg m ρ c i = w11 sw := by
  rw [hT c i, h]; exact if_pos rfl

section Step
variable (c : Dev nD)

/-- The device's own number. -/
theorem step_device {α : Type} {kt : Dev nD → Prog (TpuEff nD τ sig (Elt F) Λ₀ .tc) α} {Q : α → sProp 𝕄} {S : sProp 𝕄}
    {prg : Prog (TpuEff nD τ sig (Elt F) Λ₀ .tc) α} (hprg : prg = (Prog.lift .deviceId >>= kt : Prog (TpuEff nD τ sig (Elt F) Λ₀ .tc) α))
    (hnext : S ⊢ wp frame (wpE (defs₀ (F := F)) 𝒱₀ (c : Thread nD τ) none) Set.univ (kt c) Q) :
    S ⊢ wp frame (wpE (defs₀ (F := F)) 𝒱₀ (c : Thread nD τ) none) Set.univ prg Q := by
  subst hprg
  simp only [Prog.lift, Prog.bind_op, Prog.bind_ret, wp_deviceId]
  exact hnext

/-- A side condition that holds. -/
theorem step_assume {P : Prop} {d : Decidable P} (hP : P) {α : Type} {kt : PLift P → Prog (TpuEff nD τ sig (Elt F) Λ₀ .tc) α} {Q : α → sProp 𝕄} {S : sProp 𝕄}
    {prg : Prog (TpuEff nD τ sig (Elt F) Λ₀ .tc) α} (hprg : prg = (Prog.lift (.assume P d) >>= kt : Prog (TpuEff nD τ sig (Elt F) Λ₀ .tc) α))
    (hnext : S ⊢ wp frame (wpE (defs₀ (F := F)) 𝒱₀ (c : Thread nD τ) none) Set.univ (kt ⟨hP⟩) Q) :
    S ⊢ wp frame (wpE (defs₀ (F := F)) 𝒱₀ (c : Thread nD τ) none) Set.univ prg Q := by
  subst hprg
  simp only [Prog.lift, Prog.bind_op, Prog.bind_ret, wp_assume_of _ _ _ _ (d := d) hP]
  exact hnext

/-- A word of the table. -/
theorem step_word (l : List Duty) (arg1 : Memref sig .tc .smem S2 .i32) (e : arg1 = Memref.whole cc0_stg1_0) {o : Fin 1 → ℕ} (bo : ∀ a, o a + S1.size a ≤ S2.size a)
    (w : Elt F .i32) (hw : ∀ i : S2.Idx, (i 0).val = o 0 → tstg m ρ c i = w) {h1 : (Rect.unit (s := S2) o S1.size bo).shape.numel = 1} {hp : (EltTy.i32).packing = 1}
    {α : Type} {kt : Elt F .i32 → Prog (TpuEff nD τ sig (Elt F) Λ₀ .tc) α} {Q : α → sProp 𝕄} (X : sProp 𝕄)
    {prg : Prog (TpuEff nD τ sig (Elt F) Λ₀ .tc) α}
    (hprg : prg = (smemLoad arg1 (Rect.unit (s := S2) o S1.size bo) h1 hp >>= kt : Prog (TpuEff nD τ sig (Elt F) Λ₀ .tc) α))
    (hnext : iprop(env m ρ sw K ∗ BSt m ρ sw c l ∗ X) ⊢ wp frame (wpE (defs₀ (F := F)) 𝒱₀ (c : Thread nD τ) none) Set.univ (kt w) Q) :
    iprop(env m ρ sw K ∗ BSt m ρ sw c l ∗ X) ⊢ wp frame (wpE (defs₀ (F := F)) 𝒱₀ (c : Thread nD τ) none) Set.univ prg Q := by
  subst hprg e
  have hv : (((Memref.whole cc0_stg1_0 : Memref sig .tc .smem S2 .i32).access (Rect.unit (s := S2) o S1.size bo)).read (Elt F) (tstg m ρ c))
      (Shape.Idx.first (h1.symm ▸ Nat.one_pos)) = w := by
    refine hw _ ?_
    show o 0 + _ = o 0
    have h : ∀ j : S1.Idx, (j 0).val = 0 := by decide
    refine Nat.add_eq_left.mpr ?_
    rw [h]; exact Nat.mul_zero _
  simp only [smemLoad, smemLoadElt, Prog.bind_op, Prog.bind_ret]
  unfold BSt tbuf at hnext ⊢
  iintro ⟨#He, ⟨HO, Ht, Hl⟩, HX⟩
  iapply (wp_load_rect 𝒱₀ (c : Thread nD τ) none Set.univ (m := (Memref.whole cc0_stg1_0 : Memref sig .tc .smem S2 .i32)) (r := Rect.unit (s := S2) o S1.size bo)
    (f := tstg m ρ c) (Finset.subset_univ _)) $$ [Ht]
  · iexact Ht
  iintro Ht
  rw [hv]
  iapply hnext
  isplitr; · iexact He
  isplitr [HX]
  · isplitl [HO]; · iexact HO
    isplitl [Ht]; · iexact Ht
    iexact Hl
  iexact HX

/-- One signal. -/
theorem step_signal (σ : Duty) (hσ : barOk c σ = true) {n : Dev nD} (hn : n = sgDev sw c σ) {sem : Sem sig} (hs : sem = barS)
    {α : Type} {kt : Prog (TpuEff nD τ sig (Elt F) Λ₀ .tc) α} {Q : α → sProp 𝕄} (l : List Duty) (X : sProp 𝕄)
    {prg : Prog (TpuEff nD τ sig (Elt F) Λ₀ .tc) α}
    (hprg : prg = (semSignalWord n sem 1#32 >>= fun _ => kt : Prog (TpuEff nD τ sig (Elt F) Λ₀ .tc) α))
    (hnext : iprop(env m ρ sw K ∗ BSt m ρ sw c l ∗ X) ⊢ wp frame (wpE (defs₀ (F := F)) 𝒱₀ (c : Thread nD τ) none) Set.univ kt Q) :
    iprop(env m ρ sw K ∗ BSt m ρ sw c (σ :: l) ∗ X) ⊢ wp frame (wpE (defs₀ (F := F)) 𝒱₀ (c : Thread nD τ) none) Set.univ prg Q := by
  subst hprg hn hs
  have hd : sgDu σ ∈ (Rd (F := F) m ρ sw).duties (barCell (sgDev sw c σ)) 0 := by
    rw [duties_bar]; exact Finset.mem_filter.mpr ⟨Finset.mem_univ _, sgOk sw c σ hσ⟩
  have hO : owedB sw c (σ :: l) = owedB sw c l + tallyAt (barCell (sgDev sw c σ)) () (1#32 : BitVec 32).toNat := by
    show owedB sw c l + owedG sw c σ = _
    unfold owedG; rw [if_pos hσ]; rfl
  simp only [semSignalWord, Prog.bind_op, Prog.bind_ret]
  rw [show (1#32 : BitVec 32).toInt = ((1#32 : BitVec 32).toNat : Int) from rfl]
  unfold BSt at hnext ⊢
  rw [bigSepL_cons']
  unfold BPre
  rw [if_pos hσ]
  iintro ⟨#He, ⟨⟨%W, HO⟩, Ht, ⟨Htok, Hpay⟩, Hl⟩, HX⟩
  iapply (Rounds.wp_signal 𝒱₀ ER (Rd m ρ sw) (c : Thread nD τ) none (dst := (sgDev sw c σ : Thread nD τ)) (κ := K (sgDev sw c σ, .inl ()))
      hd (show (Rd (F := F) m ρ sw).amount (barCell (sgDev sw c σ)) 0 (sgDu σ) = (1#32 : BitVec 32).toNat from rfl) ()
      (O₀ := owedB sw c (σ :: l)) (owedB sw c l) hO) $$ [HO Htok Hpay]
  · isplitr; · iapply (env_inv m ρ sw K (sgDev sw c σ, .inl ())); iexact He
    isplitl [HO]; · iexact HO
    isplitl [Htok]; · iexact Htok
    isplitl [Hpay]; · rw [payload_bar]; iexact Hpay
    iapply (env_reached m ρ sw K (sgDev sw c σ, .inl ())); iexact He
  iintro HO
  iapply hnext
  isplitr; · iexact He
  isplitr [HX]
  · isplitl [HO]; · iexists W; iexact HO
    isplitl [Ht]; · iexact Ht
    iexact Hl
  iexact HX

/-- A signal to a neighbour, if there is one. -/
theorem step_signal_if (σ : Duty) (k : BitVec 1) (hk : k = 1#1 ↔ barOk c σ = true) {n : k = 1#1 → Dev nD} (hn : ∀ h, n h = sgDev sw c σ) {sem : Sem sig} (hs : sem = barS)
    {α : Type} {kt : Prog (TpuEff nD τ sig (Elt F) Λ₀ .tc) α} {Q : α → sProp 𝕄} (l : List Duty) (X : sProp 𝕄)
    {prg : Prog (TpuEff nD τ sig (Elt F) Λ₀ .tc) α}
    (hprg : prg = (if h : k = 1#1 then (semSignalWord (n h) sem 1#32 >>= fun _ => kt) else kt : Prog (TpuEff nD τ sig (Elt F) Λ₀ .tc) α))
    (hnext : iprop(env m ρ sw K ∗ BSt m ρ sw c l ∗ X) ⊢ wp frame (wpE (defs₀ (F := F)) 𝒱₀ (c : Thread nD τ) none) Set.univ kt Q) :
    iprop(env m ρ sw K ∗ BSt m ρ sw c (σ :: l) ∗ X) ⊢ wp frame (wpE (defs₀ (F := F)) 𝒱₀ (c : Thread nD τ) none) Set.univ prg Q := by
  subst hprg
  by_cases h : k = 1#1
  · rw [dif_pos h]
    exact step_signal m ρ sw K c σ (hk.mp h) (hn h) hs l X rfl hnext
  · rw [dif_neg h]
    have hσ : ¬ barOk c σ = true := fun h' => h (hk.mpr h')
    refine BIBase.Entails.trans ?_ hnext
    unfold BSt
    rw [bigSepL_cons']
    have hO : owedB sw c (σ :: l) = owedB sw c l := by
      show owedB sw c l + owedG sw c σ = _
      unfold owedG; rw [if_neg hσ, add_zero]
    rw [hO]
    unfold BPre
    rw [if_neg hσ]
    iintro ⟨#He, ⟨HO, Ht, -, Hl⟩, HX⟩
    isplitr; · iexact He
    isplitr [HX]
    · isplitl [HO]; · iexact HO
      isplitl [Ht]; · iexact Ht
      iexact Hl
    iexact HX

/-- The barrier's wait. -/
theorem step_barwait {sem : Sem sig} (hs : sem = barS) (w : BitVec 32) (hw : w.toInt = ((barD c).card : Int))
    {α : Type} {kt : Prog (TpuEff nD τ sig (Elt F) Λ₀ .tc) α} {Q : α → sProp 𝕄} (X : sProp 𝕄)
    {prg : Prog (TpuEff nD τ sig (Elt F) Λ₀ .tc) α}
    (hprg : prg = (semWaitWord sem w >>= fun _ => kt : Prog (TpuEff nD τ sig (Elt F) Λ₀ .tc) α))
    (hnext : iprop(env m ρ sw K ∗ (∃ W, owes (c : Thread nD τ) (owedE sw c XL) W) ∗ tbuf m ρ c ∗ barGot sw c ∗ semVal (barCell c) 0 ∗ X)
      ⊢ wp frame (wpE (defs₀ (F := F)) 𝒱₀ (c : Thread nD τ) none) Set.univ kt Q) :
    iprop(env m ρ sw K ∗ BSt m ρ sw c [] ∗ cred (tallyAt (barCell c) () (barD c).card) ∗ atPos ER (barCell c) 0 ∅ 0 ∗ X)
      ⊢ wp frame (wpE (defs₀ (F := F)) 𝒱₀ (c : Thread nD τ) none) Set.univ prg Q := by
  subst hprg hs
  simp only [semWaitWord, Prog.bind_op, Prog.bind_ret]
  rw [hw]
  have hx : 0 + (barD c).card = (Rd (F := F) m ρ sw).expect (barCell c) 0 := by rw [Nat.zero_add, expect_bar m ρ sw c]
  unfold BSt
  iintro ⟨#He, ⟨⟨%W, HO⟩, Ht, -⟩, Hc, Ha, HX⟩
  rw [show owedB sw c [] = owedE sw c XL from rfl]
  iapply (Rounds.wp_wait_rest_token 𝒱₀ ER (Rd m ρ sw) (c : Thread nD τ) none (κ := K (c, .inl ()))
      (wpE_semWait_eq 𝒱₀ (c : Thread nD τ) none Set.univ) (Set.mem_univ _) () (O := owedE sw c XL) (W := W) (R := 0) (m := 0) (T := ∅)
      hx) $$ [Hc HO Ha]
  · isplitr; · iapply (env_inv m ρ sw K (c, .inl ())); iexact He
    isplitl [Hc]; · iexact Hc
    isplitl [HO]; · iexact HO
    isplitr
    · iapply (mayWait_of c (.reg barS) (owedE sw c XL) (above_owedE sw c XL))
      iapply (env_lev m ρ sw K); iexact He
    iexact Ha
  iintro ⟨HO, Ha, -, Hp⟩
  ihave Hp := (Entails.of_eq (rest_bar m ρ sw c)) $$ Hp
  imod (Rounds.cell_close ER (Rd m ρ sw) (Set.mem_univ (K (c, .inl ()))) (fun h => h) (R := 0 + 1) (duties_later m ρ sw (barCell c))) $$ [Ha] with Hz
  · isplitr; · iapply (env_inv m ρ sw K (c, .inl ())); iexact He
    iexact Ha
  iapply hnext
  isplitr; · iexact He
  isplitl [HO]; · iexists _; iexact HO
  isplitl [Ht]; · iexact Ht
  isplitl [Hp]; · unfold barGot; iexact Hp
  isplitl [Hz]; · iexact Hz
  iexact HX

end Step

end Cert.KProof

end
-- ==== Proof.Waits.lean ====
/-
The waits of the exchange.
-/
module

public import proofs.«01_k».proof.Proof.XFacts
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The waits of the exchange -/

/-- What a wait on one of the device's own semaphores starts from, and what it leaves. -/
def KPre (c : Dev nD) (k : Kd) : sProp 𝕄 := iprop(cred (tallyAt (kcell c k) () (kAmt k)) ∗ atPos ER (kcell c k) 0 ∅ 0)
def KPost (c : Dev nD) (k : Kd) : sProp 𝕄 := iprop(semVal (kcell c k) 0 ∗ kPay m ρ sw c k)
/-- The waits under way. -/
def KSt (c : Dev nD) (dn l : List Kd) : sProp 𝕄 :=
  iprop((∃ W, owes (c : Thread nD τ) 0 W) ∗ bigSepL l (KPre c) ∗ bigSepL dn (KPost m ρ sw c))

/-- One wait. -/
theorem step_wait (c : Dev nD) (k : Kd) (hk : kOk c k = true) {sem : DmaSem sig} (hsem : sem = ksem k)
    {sp sp' : Space} {s : Shape} {e : EltTy} {src : Memref sig .tc sp s e} {dst : Memref sig .tc sp' s e} {hsrc : src.view.WordExact} {hdst : dst.view.WordExact}
    (hamt : dst.view.dmaCredit = kAmt k)
    {α : Type} {kt : Prog (TpuEff nD τ sig (Elt F) Λ₀ .tc) α} {Q : α → sProp 𝕄} (dn l : List Kd) (X : sProp 𝕄)
    {prg : Prog (TpuEff nD τ sig (Elt F) Λ₀ .tc) α}
    (hprg : prg = (Prog.lift (.waitDma2 sem src dst hsrc hdst) >>= fun _ => kt : Prog (TpuEff nD τ sig (Elt F) Λ₀ .tc) α))
    (hnext : iprop(env m ρ sw K ∗ KSt m ρ sw c (k :: dn) l ∗ X) ⊢ wp frame (wpE (defs₀ (F := F)) 𝒱₀ (c : Thread nD τ) none) Set.univ kt Q) :
    iprop(env m ρ sw K ∗ KSt m ρ sw c dn (k :: l) ∗ X) ⊢ wp frame (wpE (defs₀ (F := F)) 𝒱₀ (c : Thread nD τ) none) Set.univ prg Q := by
  subst hprg
  unfold KSt at hnext ⊢
  rw [bigSepL_cons'] at hnext ⊢
  unfold KPre
  unfold KPost at hnext
  iintro ⟨#He, ⟨HO, ⟨⟨Hc, Ha⟩, Hl⟩, Hd⟩, HX⟩
  iapply (wp_wait_k m ρ sw K c k hk sem hsem hamt 0 (above_zero _)) $$ [HO Hc Ha]
  · isplitr; · iexact He
    isplitl [Hc]; · iexact Hc
    isplitl [HO]; · iexact HO
    iexact Ha
  iintro ⟨Hz, HO, Hp⟩
  iapply hnext
  isplitr; · iexact He
  isplitr [HX]
  · isplitl [HO]; · iexact HO
    isplitl [Hl]; · iexact Hl
    isplitr [Hd]
    · isplitl [Hz]; · iexact Hz
      iexact Hp
    iexact Hd
  iexact HX

/-- From the steps to the waits. -/
theorem h_to_k (c : Dev nD) (dn : List Slot) (l : List Kd) (X : sProp 𝕄) :
    iprop(env m ρ sw K ∗ HSt m ρ sw c dn [] ∗ bigSepL l (KPre c) ∗ X)
      ⊢ iprop(env m ρ sw K ∗ KSt m ρ sw c [] l ∗ bigSepL dn (HPost m ρ sw c) ∗ X) := by
  unfold KSt HSt
  iintro ⟨#He, ⟨HO, -, Hd⟩, HP, HX⟩
  isplitr; · iexact He
  isplitl [HO HP]
  · isplitl [HO]; · iexact HO
    isplitl [HP]; · iexact HP
    iempintro
  isplitl [Hd]; · iexact Hd
  iexact HX

theorem amt_arg2A (arg : Memref sig .tc .vmem S1x2048x1024 .bf16) (e : arg = Memref.whole cc0_stg2_0) {o : Fin 3 → ℕ} (bo : ∀ a, o a + S1x128x1024.size a ≤ S1x2048x1024.size a) :
    ((arg.slice (Rect.unit (s := S1x2048x1024) o S1x128x1024.size bo) (fun _ => rfl)).squeeze S128x1024 squeezes_S1x128x1024_S128x1024).view.dmaCredit = NA := by
  subst e; rfl
theorem amt_arg3 (arg : Memref sig .tc .vmem S2x128x1024 .bf16) (e : arg = Memref.whole cc0_scratch0) {o : Fin 3 → ℕ} (bo : ∀ a, o a + S1x128x1024.size a ≤ S2x128x1024.size a) :
    ((arg.slice (Rect.unit (s := S2x128x1024) o S1x128x1024.size bo) (fun _ => rfl)).squeeze S128x1024 squeezes_S1x128x1024_S128x1024).view.dmaCredit = NA := by
  subst e; rfl
theorem amt_arg4 (arg : Memref sig .tc .vmem S4x224x256 .bf16) (e : arg = Memref.whole cc0_scratch1) {o : Fin 3 → ℕ} (bo : ∀ a, o a + S1x224x256.size a ≤ S4x224x256.size a) :
    ((arg.slice (Rect.unit (s := S4x224x256) o S1x224x256.size bo) (fun _ => rfl)).squeeze S224x256 squeezes_S1x224x256_S224x256).view.dmaCredit = NB := by
  subst e; rfl
theorem amt_arg5 (arg : Memref sig .tc .vmem S4x224x256 .bf16) (e : arg = Memref.whole cc0_scratch2) {o : Fin 3 → ℕ} (bo : ∀ a, o a + S1x224x256.size a ≤ S4x224x256.size a) :
    ((arg.slice (Rect.unit (s := S4x224x256) o S1x224x256.size bo) (fun _ => rfl)).squeeze S224x256 squeezes_S1x224x256_S224x256).view.dmaCredit = NB := by
  subst e; rfl

end Cert.KProof

end
-- ==== Proof.Mid.lean ====
/-
How what a device holds is regrouped between the phases of the run.
-/
module

public import proofs.«01_k».proof.Proof.Bar
public import proofs.«01_k».proof.Proof.Waits
public import Idealize.ShloMosaic.Lib.Pipeline.BigSepL
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## Regrouping -/

/-- A quarter's slice, and one with a direction before the quarter. -/
abbrev P3 : Type := Bool × Fin 4 × Fin 4
abbrev P4 : Type := Bool × Bool × Fin 4 × Fin 4

section Re
variable {M : Type} [URA M]

omit [FloatOps F] in
theorem bsL_cons {I : Type} (i : I) (l : List I) (Φ : I → sProp M) : bigSepL (i :: l) Φ = iprop(Φ i ∗ bigSepL l Φ) := bigSepL_cons i l Φ
omit [FloatOps F] in
theorem bsL_reverse {I : Type} (l : List I) (Φ : I → sProp M) : bigSepL l.reverse Φ = bigSepL l Φ := by
  induction l with
  | nil => rfl
  | cons x l ih =>
    rw [List.reverse_cons, bigSepL_append, ih, bsL_cons x l]
    have h : (iprop(bigSepL l Φ ∗ Φ x) : sProp M) = iprop(Φ x ∗ bigSepL l Φ) := equiv_iff.mp ⟨Idealize.SL.BI.sep_comm, Idealize.SL.BI.sep_comm⟩
    exact h
omit [FloatOps F] in
theorem bsL_two {I : Type} (l : List I) (Φ : I × Bool → sProp M) :
    bigSepL (l.flatMap fun x => [(x, true), (x, false)]) Φ = bigSepL l fun x => iprop(Φ (x, true) ∗ Φ (x, false)) := by
  induction l with
  | nil => rfl
  | cons x l ih =>
    rw [List.flatMap_cons, bigSepL_append, ih, bsL_cons x l]; rfl
omit [FloatOps F] in
theorem bs_filter {I : Type} (s : Finset I) (p : I → Prop) [DecidablePred p] (Φ : I → sProp M) :
    bigSep (s.filter p) Φ = bigSep s fun i => if p i then Φ i else iprop(emp) := bigSep_filter s p Φ
omit [FloatOps F] in
theorem bs_emp {I : Type} (s : Finset I) : bigSep s (fun _ => (iprop(emp) : sProp M)) = iprop(emp) := bigSep_emp_const s
omit [FloatOps F] in
theorem bs_bool (Φ : Bool → sProp M) : bigSep Finset.univ Φ = iprop(Φ true ∗ Φ false) :=
  bigSep_univ_eq_bigSepL [true, false] (by decide) (by decide) Φ
omit [FloatOps F] in
theorem bs_P4 (Φ : P4 → sProp M) : bigSep Finset.univ Φ
    = bigSep Finset.univ fun k : P3 => iprop(Φ (k.1, true, k.2.1, k.2.2) ∗ Φ (k.1, false, k.2.1, k.2.2)) := by
  rw [bigSep_univ_prod, bigSep_univ_prod]
  refine bigSep_congr fun ax _ => ?_
  rw [bigSep_univ_prod, bs_bool, ← bigSep_sep']
omit [FloatOps F] in
theorem bs_fin10 (Φ : Fin 10 → sProp M) : bigSepL [0, 1, 2, 3, 4, 5, 6, 7, 8, 9] Φ = bigSep Finset.univ Φ :=
  (bigSep_univ_eq_bigSepL [0, 1, 2, 3, 4, 5, 6, 7, 8, 9] (by decide) (by decide) Φ).symm

/-- The displacement at which a quarter is handled. -/
def dOf (c : Dev nD) (ax : Bool) : Fin 4 ↪ Fin 7 :=
  ⟨fun q => ⟨3 + q.val - (pos c ax).val, by have := q.isLt; omega⟩, fun a b h => by
    have h := Fin.mk.inj h; have h1 := a.isLt; have h2 := b.isLt; have h3 := (pos c ax).isLt; exact Fin.ext (by omega)⟩
omit [FloatOps F] in
theorem dOf_set (c : Dev nD) (ax : Bool) : (Finset.univ.filter fun δ : Fin 7 => inr c ax δ = true) = Finset.univ.map (dOf c ax) := by
  ext δ
  have h3 := (pos c ax).isLt
  have h4 := δ.isLt
  simp only [Finset.mem_filter, Finset.mem_univ, true_and, Finset.mem_map, inr, decide_eq_true_eq]
  constructor
  · rintro ⟨h1, h2⟩
    exact ⟨⟨(pos c ax).val + δ.val - 3, by omega⟩, Fin.ext (by show 3 + ((pos c ax).val + δ.val - 3) - (pos c ax).val = δ.val; omega)⟩
  · rintro ⟨q, rfl⟩
    have h5 := q.isLt
    show 3 ≤ (pos c ax).val + (3 + q.val - (pos c ax).val) ∧ (pos c ax).val + (3 + q.val - (pos c ax).val) < 7
    omega
omit [FloatOps F] in
theorem slotQ_dOf (c : Dev nD) (ax : Bool) (q : Fin 4) : slotQ c ax (dOf c ax q) = q := by
  have h3 := (pos c ax).isLt
  have h5 := q.isLt
  refine Fin.ext ?_
  show ((pos c ax).val + (3 + q.val - (pos c ax).val) - 3) % 4 = q.val
  omega

omit [FloatOps F] in
/-- The steps that are on the line are the quarters' slices, one each. -/
theorem slots_regroup (c : Dev nD) (Ψ : P3 → sProp M) :
    bigSepL slots (fun x => if inr c x.1 x.2.1 = true then Ψ (x.1, slotQ c x.1 x.2.1, x.2.2) else iprop(emp)) = bigSep Finset.univ Ψ := by
  rw [← bigSep_univ_eq_bigSepL slots (by decide +kernel) (by decide +kernel), bigSep_univ_prod, bigSep_univ_prod]
  refine bigSep_congr fun ax _ => ?_
  rw [bigSep_univ_prod, bigSep_univ_prod]
  have h : ∀ δ : Fin 7, (bigSep Finset.univ fun s : Fin 4 => if inr c ax δ = true then Ψ (ax, slotQ c ax δ, s) else iprop(emp))
      = if inr c ax δ = true then bigSep Finset.univ fun s : Fin 4 => Ψ (ax, slotQ c ax δ, s) else iprop(emp) := fun δ => by
    split
    · rfl
    · exact bs_emp _
  refine (bigSep_congr fun δ _ => h δ).trans ?_
  rw [← bs_filter, dOf_set, bigSep_map]
  exact bigSep_congr fun q _ => by rw [slotQ_dOf]

omit [FloatOps F] in
theorem bs_weaken {I : Type} (s : Finset I) (p : I → Bool) (Φ : I → sProp M) : bigSep s Φ ⊢ bigSep s fun i => if p i = true then Φ i else iprop(emp) :=
  bigSep_mono fun i _ => by
    show (_ : sProp M) ⊢ _
    split
    · exact .rfl
    · iintro -; iempintro
omit [FloatOps F] in
theorem bs_P4' (Φ : P4 → sProp M) : bigSep Finset.univ Φ
    = iprop(((bigSep Finset.univ fun x : Fin 4 × Fin 4 => Φ (true, true, x)) ∗ bigSep Finset.univ fun x : Fin 4 × Fin 4 => Φ (true, false, x))
      ∗ (bigSep Finset.univ fun x : Fin 4 × Fin 4 => Φ (false, true, x)) ∗ bigSep Finset.univ fun x : Fin 4 × Fin 4 => Φ (false, false, x)) := by
  rw [bigSep_univ_prod, bs_bool, bigSep_univ_prod (fun b : Bool × Fin 4 × Fin 4 => Φ (true, b)), bs_bool,
    bigSep_univ_prod (fun b : Bool × Fin 4 × Fin 4 => Φ (false, b)), bs_bool]
end Re

/-! ## The pieces of a device's result buffer, by who fills them -/

def xdE : Fin 10 ≃ (Bool × Fin 4) ⊕ Fin 2 := Equiv.ofBijective xd (by decide)

/-- The piece an exchanged part lands on. -/
def xq (c : Dev nD) : (Bool × Fin 4) ⊕ Fin 2 → PK
  | .inl (ax, s) => .inl (ax, pos c ax, s)
  | .inr s => .inr s
theorem xq_xd (c : Dev nD) (i : Fin 10) : xq c (xdE i) = xp c i := by fin_cases i <;> rfl
theorem xp_mate (c : Dev nD) (i : Fin 10) : xp (mate sw c) i = xp c i := by
  rw [← xq_xd, ← xq_xd]
  rcases xdE i with ⟨ax, s⟩ | s
  · exact congrArg (fun p => (Sum.inl (ax, p, s) : PK)) (pos_mate sw c ax)
  · rfl

theorem landX_eq (d : Dev nD) : (landX d : sProp 𝕄)
    = iprop((bigSep Finset.univ fun k : Bool × Fin 4 => ptsE d (.inl (k.1, pos d k.1, k.2))) ∗ bigSep Finset.univ fun s : Fin 2 => ptsE d (.inr s)) := by
  unfold landX
  rw [← show (bigSep Finset.univ fun k : (Bool × Fin 4) ⊕ Fin 2 => (ptsE d (xq d k) : sProp 𝕄))
      = iprop((bigSep Finset.univ fun k : Bool × Fin 4 => ptsE d (.inl (k.1, pos d k.1, k.2))) ∗ bigSep Finset.univ fun s : Fin 2 => ptsE d (.inr s)) from bigSep_univ_sum _,
    bigSep_univ_equiv xdE]
  exact bigSep_congr fun i _ => by rw [xq_xd]

theorem arr_cases (c : Dev nD) (ax : Bool) (q : Fin 4) :
    (pos c ax = q ∧ arr c ax true q = false ∧ arr c ax false q = false) ∨ (pos c ax ≠ q ∧ arr c ax true q = true ∧ arr c ax false q = false)
      ∨ (pos c ax ≠ q ∧ arr c ax true q = false ∧ arr c ax false q = true) := by
  revert c ax q; decide

theorem piece_who (c : Dev nD) (k : P3) : (ptsE c (.inl k) : sProp 𝕄)
    ⊢ iprop((if pos c k.1 = k.2.1 then ptsE c (.inl (k.1, k.2.1, k.2.2)) else iprop(emp)) ∗ (if arr c k.1 true k.2.1 = true then ptsE c (.inl (k.1, k.2.1, k.2.2)) else iprop(emp))
      ∗ (if arr c k.1 false k.2.1 = true then ptsE c (.inl (k.1, k.2.1, k.2.2)) else iprop(emp))) := by
  rcases arr_cases c k.1 k.2.1 with ⟨h1, h2, h3⟩ | ⟨h1, h2, h3⟩ | ⟨h1, h2, h3⟩
  · rw [if_pos h1, h2, h3, if_neg Bool.false_ne_true]
    iintro H; isplitl [H]; · iexact H
    isplitl <;> iempintro
  · rw [if_neg h1, h2, h3, if_neg Bool.false_ne_true, if_pos rfl]
    iintro H; isplitr; · iempintro
    isplitl [H]; · iexact H
    iempintro
  · rw [if_neg h1, h2, h3, if_neg Bool.false_ne_true, if_pos rfl]
    iintro H; isplitr; · iempintro
    isplitr; · iempintro
    iexact H

theorem own_line (c : Dev nD) : (bigSep Finset.univ fun k : P3 => (if pos c k.1 = k.2.1 then ptsE c (.inl (k.1, k.2.1, k.2.2)) else iprop(emp) : sProp 𝕄))
    = bigSep Finset.univ fun k : Bool × Fin 4 => ptsE c (.inl (k.1, pos c k.1, k.2)) := by
  rw [bigSep_univ_prod, bigSep_univ_prod]
  refine bigSep_congr fun ax _ => ?_
  rw [bigSep_univ_prod]
  have h : ∀ q : Fin 4, (bigSep Finset.univ fun s : Fin 4 => (if pos c ax = q then ptsE c (.inl (ax, q, s)) else iprop(emp) : sProp 𝕄))
      = if pos c ax = q then bigSep Finset.univ fun s : Fin 4 => ptsE c (.inl (ax, q, s)) else iprop(emp) := fun q => by
    split
    · rfl
    · exact bs_emp _
  refine (bigSep_congr fun q _ => h q).trans ?_
  rw [← bs_filter, Finset.filter_eq, if_pos (Finset.mem_univ _), bigSep_singleton]

theorem lands_line (c : Dev nD) (dir : Bool) : (bigSep Finset.univ fun k : P3 => (if arr c k.1 dir k.2.1 = true then ptsE c (.inl (k.1, k.2.1, k.2.2)) else iprop(emp) : sProp 𝕄))
    = iprop(landN c true dir ∗ landN c false dir) := by
  rw [bigSep_univ_prod, bs_bool]; rfl

/-- The barrier's duties in the order of their signals. -/
abbrev SL : List Duty := [.inl false, .inl true, .inr (false, false), .inr (false, true), .inr (true, false), .inr (true, true)]
theorem bs_SL {M : Type} [URA M] (Φ : Duty → sProp M) : bigSepL SL Φ = bigSep Finset.univ Φ :=
  (bigSep_univ_eq_bigSepL SL (by decide) (by decide) Φ).symm

/-- What a device's signals hand over, in terms of the device's own buffer. -/
def bp (c : Dev nD) : Duty → sProp 𝕄
  | .inl false => iprop(emp)
  | .inl true => landX c
  | .inr (ax, dir) => landN c ax dir
theorem barPay_sg (c : Dev nD) (σ : Duty) : (barPay sw (sgDev sw c σ) (sgDu σ) : sProp 𝕄) = bp c σ := by
  rcases σ with (_ | _) | ⟨ax, dir⟩
  · rfl
  · show landX (mate sw (mate sw c)) = landX c
    rw [mate_mate]
  · show landN (nb ax (!dir) (nb ax dir c)) ax (!!dir) = landN c ax dir
    rw [nb_nb, Bool.not_not]

/-- The whole buffer in pieces is what the signals hand over. -/
theorem pieces_bp (c : Dev nD) : (bigSep Finset.univ (fun k : PK => ptsE c k) : sProp 𝕄) ⊢ bigSep Finset.univ (bp c) := by
  rw [← bs_SL, bigSep_univ_sum]
  refine BIBase.Entails.trans (sep_mono_left (bigSep_mono fun k _ => piece_who c k)) ?_
  rw [bigSep_sep', bigSep_sep', own_line, lands_line, lands_line]
  show _ ⊢ iprop(iprop(emp) ∗ landX c ∗ landN c false false ∗ landN c false true ∗ landN c true false ∗ landN c true true)
  rw [landX_eq]
  iintro ⟨⟨H1, ⟨H2, H3⟩, H4, H5⟩, H6⟩
  isplitr; · iempintro
  isplitl [H1 H6]
  · isplitl [H1]; · iexact H1
    iexact H6
  isplitl [H5]; · iexact H5
  isplitl [H3]; · iexact H3
  isplitl [H4]; · iexact H4
  iexact H2

/-- A signal's duty, where there is one. -/
def sgTok (c : Dev nD) (σ : Duty) : sProp 𝕄 := if barOk c σ = true then dutyTok ER (barCell (sgDev sw c σ)) 0 (sgDu σ) else iprop(emp)

theorem bar_pre (c : Dev nD) : iprop(bigSep Finset.univ (sgTok sw c) ∗ bigSep Finset.univ (fun k : PK => ptsE c k)) ⊢ (bigSepL SL (BPre sw c) : sProp 𝕄) := by
  rw [bs_SL]
  refine BIBase.Entails.trans (sep_mono_right ((pieces_bp c).trans (bs_weaken _ (barOk c) _))) ?_
  rw [← bigSep_sep']
  refine bigSep_mono fun σ _ => ?_
  unfold sgTok BPre
  rw [barPay_sg]
  show (_ : sProp 𝕄) ⊢ _
  split
  · exact .rfl
  · iintro -; iempintro

/-! ## After the barrier -/

theorem fok_none (c : Dev nD) (ax dir : Bool) (h : ¬ has c ax dir = true) (q : Fin 4) : ¬ fok c ax dir q = true := fun h' => h (fok_has c ax dir q h')

/-- Where a forwarded slice lands, at the neighbour. -/
def fland (c : Dev nD) (k : P4) : sProp 𝕄 := if fok c k.1 k.2.1 k.2.2.1 = true then ptsE (nb k.1 k.2.1 c) (.inl (k.1, k.2.2.1, k.2.2.2)) else iprop(emp)

theorem land_nb (c : Dev nD) (ax dir : Bool) : (if has c ax dir = true then landN (nb ax dir c) ax (!dir) else iprop(emp) : sProp 𝕄)
    ⊢ bigSep Finset.univ fun qs : Fin 4 × Fin 4 => fland c (ax, dir, qs) := by
  by_cases h : has c ax dir = true
  · rw [if_pos h]; exact .rfl
  · rw [if_neg h]
    have e : (bigSep Finset.univ fun qs : Fin 4 × Fin 4 => fland (F := F) c (ax, dir, qs)) = (bigSep Finset.univ fun _ : Fin 4 × Fin 4 => (iprop(emp) : sProp 𝕄)) :=
      bigSep_congr fun qs _ => by unfold fland; exact if_neg (fok_none c ax dir h qs.1)
    rw [e, bs_emp]

/-- What the barrier's wait hands over: the places of the exchange's copies at the mate, and those of the forwarded slices. -/
theorem bar_got (c : Dev nD) : (barGot sw c : sProp 𝕄) ⊢ iprop((bigSep Finset.univ fun i : Fin 10 => ptsE (mate sw c) (xp c i)) ∗ bigSep Finset.univ (fland c)) := by
  unfold barGot
  rw [← bs_SL]
  have e : (landX (mate sw c) : sProp 𝕄) = bigSep Finset.univ fun i : Fin 10 => ptsE (mate sw c) (xp c i) :=
    bigSep_congr fun i _ => by rw [xp_mate]
  rw [← e, bs_P4']
  show iprop(iprop(emp) ∗ landX (mate sw c) ∗ (if has c false false = true then landN (nb false false c) false (!false) else iprop(emp))
    ∗ (if has c false true = true then landN (nb false true c) false (!true) else iprop(emp))
    ∗ (if has c true false = true then landN (nb true false c) true (!false) else iprop(emp))
    ∗ (if has c true true = true then landN (nb true true c) true (!true) else iprop(emp))) ⊢ _
  iintro ⟨-, HX, H1, H2, H3, H4⟩
  isplitl [HX]; · iexact HX
  isplitl [H3 H4]
  · isplitl [H4]
    · iapply (land_nb c true true); iexact H4
    iapply (land_nb c true false); iexact H3
  isplitl [H2]
  · iapply (land_nb c false true); iexact H2
  iapply (land_nb c false false); iexact H1

/-- The duties of a forwarding. -/
def ftok (c : Dev nD) (k : P4) : sProp 𝕄 :=
  if fok c k.1 k.2.1 k.2.2.1 = true then iprop(dutyTok ER (kcell c (.f k.1 k.2.1 k.2.2.1 k.2.2.2)) 0 du ∗ dutyTok ER (kcell (nb k.1 k.2.1 c) (.r k.1 k.2.2.1 k.2.2.2)) 0 du) else iprop(emp)

def atK (c : Dev nD) (k : Kd) : sProp 𝕄 := atPos ER (kcell c k) 0 ∅ 0
def semK (c : Dev nD) (k : Kd) : sProp 𝕄 := semVal (kcell c k) 0
def crA (c : Dev nD) (s : Fin 2) : sProp 𝕄 := cred (tallyAt (kcell c (.a s)) () NA)
def crR (c : Dev nD) (k : P3) : sProp 𝕄 := cred (tallyAt (kcell c (.r k.1 k.2.1 k.2.2)) () NB)
def tkX (c : Dev nD) (i : Fin 10) : sProp 𝕄 := dutyTok ER (kcell c (.x i)) 0 du
def tkL (c : Dev nD) (i : Fin 10) : sProp 𝕄 := dutyTok ER (kcell (mate sw c) (lk c i)) 0 du

theorem bs_Kd {M : Type} [URA M] (Φ : Kd → sProp M) : bigSep Finset.univ Φ
    = iprop((bigSep Finset.univ fun i : Fin 10 => Φ (.x i)) ∗ (bigSep Finset.univ fun s : Fin 2 => Φ (.a s))
      ∗ (bigSep Finset.univ fun k : P3 => Φ (.r k.1 k.2.1 k.2.2)) ∗ bigSep Finset.univ fun k : P4 => Φ (.f k.1 k.2.1 k.2.2.1 k.2.2.2)) := by
  rw [bigSep_univ_sum, bigSep_univ_sum, bigSep_univ_sum]; rfl

/-- A step before it is run, by its slice. -/
def hPre (c : Dev nD) (k : P3) : sProp 𝕄 :=
  iprop(atPos ER (kcell c (.r k.1 k.2.1 k.2.2)) 0 ∅ 0 ∗ cred (tallyAt (kcell c (.r k.1 k.2.1 k.2.2)) () NB) ∗ fwdPre c k.1 true k.2.1 k.2.2 ∗ fwdPre c k.1 false k.2.1 k.2.2)
theorem hPre_all (c : Dev nD) : (bigSepL slots (HPre c) : sProp 𝕄) = bigSep Finset.univ (hPre c) := slots_regroup c (hPre c)
def hPost (c : Dev nD) (k : P3) : sProp 𝕄 :=
  iprop(semVal (kcell c (.r k.1 k.2.1 k.2.2)) 0 ∗ keep m ρ sw c k.1 k.2.1 k.2.2 ∗ fwdMid c k.1 true k.2.1 k.2.2 ∗ fwdMid c k.1 false k.2.1 k.2.2)
theorem hPost_all (c : Dev nD) : (bigSepL slots.reverse (HPost m ρ sw c) : sProp 𝕄) = bigSep Finset.univ (hPost m ρ sw c) := by
  rw [bsL_reverse]; exact slots_regroup c (hPost m ρ sw c)

theorem fwdPre_of (c : Dev nD) (k : P4) : iprop(atK c (.f k.1 k.2.1 k.2.2.1 k.2.2.2) ∗ ftok c k ∗ fland c k) ⊢ (fwdPre c k.1 k.2.1 k.2.2.1 k.2.2.2 : sProp 𝕄) := by
  unfold atK ftok fland fwdPre
  split
  · iintro ⟨H1, ⟨H2, H3⟩, H4⟩
    isplitl [H1]; · iexact H1
    isplitl [H2]; · iexact H2
    isplitl [H3]; · iexact H3
    iexact H4
  · iintro ⟨H1, -, -⟩
    isplitl [H1]; · iexact H1
    iempintro

theorem h_pre (c : Dev nD) : iprop((bigSep Finset.univ fun k : P3 => atK c (.r k.1 k.2.1 k.2.2)) ∗ bigSep Finset.univ (crR c)
      ∗ (bigSep Finset.univ fun k : P4 => atK c (.f k.1 k.2.1 k.2.2.1 k.2.2.2)) ∗ bigSep Finset.univ (ftok c) ∗ bigSep Finset.univ (fland c))
    ⊢ (bigSepL slots (HPre c) : sProp 𝕄) := by
  rw [hPre_all]
  rw [← bigSep_sep' _ (ftok c) (fland c), ← bigSep_sep']
  refine BIBase.Entails.trans (sep_mono_right (sep_mono_right (bigSep_mono fun k _ => fwdPre_of c k))) ?_
  rw [bs_P4, ← bigSep_sep', ← bigSep_sep']
  exact .rfl

theorem x_pre (c : Dev nD) : iprop((bigSep Finset.univ fun i : Fin 10 => sndE c (xd i)) ∗ (bigSep Finset.univ fun i : Fin 10 => ptsE (mate sw c) (xp c i))
      ∗ bigSep Finset.univ (tkX c) ∗ bigSep Finset.univ (tkL sw c)) ⊢ (bigSepL XL (XPre m ρ sw c) : sProp 𝕄) := by
  rw [show XL = List.map (fun i : Fin 10 => (i, false)) [0, 1, 2, 3, 4, 5, 6, 7, 8, 9] from rfl, bigSepL_map, bs_fin10, ← bigSep_sep', ← bigSep_sep', ← bigSep_sep']
  refine bigSep_mono fun i _ => ?_
  unfold XPre tkX tkL
  show (_ : sProp 𝕄) ⊢ _
  rw [if_neg Bool.false_ne_true]

/-! ## The four regroupings -/

/-- What is carried over the barrier, -/
def M0 (c : Dev nD) : sProp 𝕄 :=
  iprop(xbuf m ρ c ∗ (bigSep Finset.univ fun i : Fin 10 => sndE c (xd i)) ∗ bigSep Finset.univ (atK c) ∗ bigSep Finset.univ (crA c) ∗ bigSep Finset.univ (crR c)
    ∗ bigSep Finset.univ (tkX c) ∗ bigSep Finset.univ (tkL sw c) ∗ bigSep Finset.univ (ftok c))
/-- over the exchange's sends, -/
def M1 (c : Dev nD) : sProp 𝕄 :=
  iprop(tbuf m ρ c ∗ semVal (barCell c) 0 ∗ (bigSep Finset.univ fun i : Fin 10 => atK c (.x i)) ∗ (bigSep Finset.univ fun s : Fin 2 => atK c (.a s)) ∗ bigSep Finset.univ (crA c))
/-- over the steps, -/
def M2 (c : Dev nD) : sProp 𝕄 := iprop(xbuf m ρ c ∗ tbuf m ρ c ∗ semVal (barCell c) 0)
/-- and over the closing waits. -/
def M3 (c : Dev nD) : sProp 𝕄 :=
  iprop(M2 m ρ c ∗ (bigSep Finset.univ fun s : Fin 2 => KPost m ρ sw c (.a s)) ∗ (bigSep Finset.univ fun i : Fin 10 => KPost m ρ sw c (.x i))
    ∗ bigSep Finset.univ fun k : P3 => iprop(semVal (kcell c (.r k.1 k.2.1 k.2.2)) 0 ∗ keep m ρ sw c k.1 k.2.1 k.2.2))
/-- What the run ends with. -/
def MEnd (c : Dev nD) : sProp 𝕄 :=
  iprop((∃ W, owes (c : Thread nD τ) 0 W) ∗ M2 m ρ c ∗ bigSep Finset.univ (semK c) ∗ (bigSep Finset.univ fun k : PK => pts c k fullShare (outAt m ρ sw c))
    ∗ bigSep Finset.univ fun i : Fin 10 => sndE c (xd i))

theorem regroup_b (c : Dev nD) : iprop(env m ρ sw K ∗ (∃ W, owes (c : Thread nD τ) (owedE sw c XL) W) ∗ tbuf m ρ c ∗ barGot sw c ∗ semVal (barCell c) 0 ∗ M0 m ρ sw c)
    ⊢ iprop(env m ρ sw K ∗ XSt m ρ sw c [] XL ∗ bigSepL slots (HPre c) ∗ M1 m ρ c) := by
  unfold M0 M1 XSt
  rw [bs_Kd]
  iintro ⟨#He, HO, Ht, Hg, Hz, Hx, Hs, ⟨Hax, Haa, Har, Haf⟩, Hca, Hcr, Htx, Htl, Htf⟩
  ihave Hg := (bar_got sw c) $$ Hg
  icases Hg with ⟨Hg1, Hg2⟩
  isplitr; · iexact He
  isplitl [HO Hx Hs Hg1 Htx Htl]
  · isplitl [HO]; · iexact HO
    isplitl [Hx]; · iexact Hx
    isplitl [Hs Hg1 Htx Htl]
    · iapply (x_pre m ρ sw c)
      isplitl [Hs]; · iexact Hs
      isplitl [Hg1]; · iexact Hg1
      isplitl [Htx]; · iexact Htx
      iexact Htl
    iempintro
  isplitl [Har Hcr Haf Htf Hg2]
  · iapply (h_pre c)
    isplitl [Har]; · iexact Har
    isplitl [Hcr]; · iexact Hcr
    isplitl [Haf]; · iexact Haf
    isplitl [Htf]; · iexact Htf
    iexact Hg2
  isplitl [Ht]; · iexact Ht
  isplitl [Hz]; · iexact Hz
  isplitl [Hax]; · iexact Hax
  isplitl [Haa]; · iexact Haa
  iexact Hca

/-- The exchange's waits by kind. -/
theorem bs_kList {M : Type} [URA M] (Φ : Kd → sProp M) :
    bigSepL [.a 0, .a 1, .x 0, .x 1, .x 2, .x 3, .x 4, .x 5, .x 6, .x 7, .x 8, .x 9] Φ
      = iprop((bigSep Finset.univ fun s : Fin 2 => Φ (.a s)) ∗ bigSep Finset.univ fun i : Fin 10 => Φ (.x i)) := by
  rw [bigSep_univ_eq_bigSepL [0, 1] (by decide) (by decide), ← bs_fin10, ← bigSepL_map (fun s : Fin 2 => Kd.a s) [0, 1] Φ,
    ← bigSepL_map (fun i : Fin 10 => Kd.x i) [0, 1, 2, 3, 4, 5, 6, 7, 8, 9] Φ, ← bigSepL_append]
  rfl

theorem regroup_9 (c : Dev nD) (dn l : List Slot) :
    iprop(env m ρ sw K ∗ HSt m ρ sw c dn l ∗ xbuf m ρ c ∗ bigSepL [9, 8, 7, 6, 5, 4, 3, 2, 1, 0] (XPost c) ∗ M1 m ρ c)
    ⊢ iprop(env m ρ sw K ∗ HSt m ρ sw c dn l ∗ bigSepL [.a 0, .a 1, .x 0, .x 1, .x 2, .x 3, .x 4, .x 5, .x 6, .x 7, .x 8, .x 9] (KPre c) ∗ M2 m ρ c) := by
  rw [bs_kList, show ([9, 8, 7, 6, 5, 4, 3, 2, 1, 0] : List (Fin 10)) = [0, 1, 2, 3, 4, 5, 6, 7, 8, 9].reverse from rfl, bsL_reverse, bs_fin10]
  unfold M1 M2
  have ea : (bigSep Finset.univ fun s : Fin 2 => (KPre c (.a s) : sProp 𝕄)) = iprop(bigSep Finset.univ (crA c) ∗ bigSep Finset.univ fun s : Fin 2 => atK c (.a s)) := by
    rw [← bigSep_sep']; rfl
  have ex : (bigSep Finset.univ fun i : Fin 10 => (KPre c (.x i) : sProp 𝕄)) = iprop(bigSep Finset.univ (XPost c) ∗ bigSep Finset.univ fun i : Fin 10 => atK c (.x i)) := by
    rw [← bigSep_sep']; rfl
  rw [ea, ex]
  iintro ⟨#He, HH, Hx, Hp, Ht, Hz, Hax, Haa, Hca⟩
  isplitr; · iexact He
  isplitl [HH]; · iexact HH
  isplitl [Hca Haa Hp Hax]
  · isplitl [Hca Haa]
    · isplitl [Hca]; · iexact Hca
      iexact Haa
    isplitl [Hp]; · iexact Hp
    iexact Hax
  isplitl [Hx]; · iexact Hx
  isplitl [Ht]; · iexact Ht
  iexact Hz

theorem dPre_all (c : Dev nD) : (bigSepL (slots.flatMap fun x => [(x, true), (x, false)]) (fun x => DPre c x.1 x.2) : sProp 𝕄)
    = bigSep Finset.univ fun k : P3 => iprop(fwdMid c k.1 true k.2.1 k.2.2 ∗ fwdMid c k.1 false k.2.1 k.2.2) := by
  rw [bsL_two, ← slots_regroup c]
  congr 1; funext x
  unfold DPre
  split
  · rfl
  · exact equiv_iff.mp emp_sep
theorem dPost_all (c : Dev nD) : (bigSepL (slots.flatMap fun x => [(x, true), (x, false)]) (fun x => DPost m ρ sw c x.1 x.2) : sProp 𝕄)
    = bigSep Finset.univ fun k : P3 => iprop(fwdEnd m ρ sw c k.1 true k.2.1 k.2.2 ∗ fwdEnd m ρ sw c k.1 false k.2.1 k.2.2) := by
  rw [bsL_two, ← slots_regroup c]
  congr 1; funext x
  unfold DPost
  split
  · rfl
  · exact equiv_iff.mp emp_sep

theorem regroup_d (c : Dev nD) :
    iprop(env m ρ sw K ∗ KSt m ρ sw c [.a 0, .a 1, .x 0, .x 1, .x 2, .x 3, .x 4, .x 5, .x 6, .x 7, .x 8, .x 9].reverse [] ∗ bigSepL slots.reverse (HPost m ρ sw c) ∗ M2 m ρ c)
    ⊢ iprop(env m ρ sw K ∗ DSt m ρ sw c [] (slots.flatMap fun x => [(x, true), (x, false)]) ∗ M3 m ρ sw c) := by
  unfold KSt DSt M3
  rw [hPost_all, dPre_all, bsL_reverse, bs_kList]
  have e : (bigSep Finset.univ (hPost m ρ sw c) : sProp 𝕄)
      = iprop((bigSep Finset.univ fun k : P3 => iprop(semVal (kcell c (.r k.1 k.2.1 k.2.2)) 0 ∗ keep m ρ sw c k.1 k.2.1 k.2.2))
        ∗ bigSep Finset.univ fun k : P3 => iprop(fwdMid c k.1 true k.2.1 k.2.2 ∗ fwdMid c k.1 false k.2.1 k.2.2)) := by
    rw [← bigSep_sep']
    refine bigSep_congr fun k _ => ?_
    exact BI.Entails.antisymm
      (by unfold hPost; show (_ : sProp 𝕄) ⊢ _; iintro ⟨H1, H2, H3⟩; isplitl [H1 H2]
          · isplitl [H1]; · iexact H1
            iexact H2
          iexact H3)
      (by unfold hPost; show (_ : sProp 𝕄) ⊢ _; iintro ⟨⟨H1, H2⟩, H3⟩; isplitl [H1]; · iexact H1
          isplitl [H2]; · iexact H2
          iexact H3)
  rw [e]
  iintro ⟨#He, ⟨HO, -, Ha, Hx⟩, ⟨Hk, Hm⟩, H2⟩
  isplitr; · iexact He
  isplitl [HO Hm]
  · isplitl [HO]; · iexact HO
    isplitl [Hm]; · iexact Hm
    iempintro
  isplitl [H2]; · iexact H2
  isplitl [Ha]; · iexact Ha
  isplitl [Hx]; · iexact Hx
  iexact Hk

theorem regroup_e (c : Dev nD) :
    iprop(env m ρ sw K ∗ DSt m ρ sw c (slots.flatMap fun x => [(x, true), (x, false)]).reverse [] ∗ M3 m ρ sw c) ⊢ MEnd m ρ sw c := by
  have hpk : (bigSep Finset.univ fun k : PK => (pts c k fullShare (outAt m ρ sw c) : sProp 𝕄))
      = iprop((bigSep Finset.univ fun k : P3 => pts c (.inl k) fullShare (outAt m ρ sw c)) ∗ bigSep Finset.univ fun s : Fin 2 => pts c (.inr s) fullShare (outAt m ρ sw c)) := bigSep_univ_sum _
  unfold DSt M3 MEnd
  rw [bsL_reverse, dPost_all, bs_Kd (semK c), hpk, bs_P4]
  have ea : (bigSep Finset.univ fun s : Fin 2 => (KPost m ρ sw c (.a s) : sProp 𝕄))
      = iprop((bigSep Finset.univ fun s : Fin 2 => semK c (.a s)) ∗ bigSep Finset.univ fun s : Fin 2 => pts c (.inr s) fullShare (outAt m ρ sw c)) := by
    rw [← bigSep_sep']; rfl
  have ex : (bigSep Finset.univ fun i : Fin 10 => (KPost m ρ sw c (.x i) : sProp 𝕄))
      = iprop((bigSep Finset.univ fun i : Fin 10 => semK c (.x i)) ∗ bigSep Finset.univ fun i : Fin 10 => sndE c (xd i)) := by
    rw [← bigSep_sep']; rfl
  have hr : iprop((bigSep Finset.univ fun k : P3 => iprop(semVal (kcell c (.r k.1 k.2.1 k.2.2)) 0 ∗ keep m ρ sw c k.1 k.2.1 k.2.2))
        ∗ bigSep Finset.univ fun k : P3 => iprop(fwdEnd m ρ sw c k.1 true k.2.1 k.2.2 ∗ fwdEnd m ρ sw c k.1 false k.2.1 k.2.2))
      ⊢ (iprop((bigSep Finset.univ fun k : P3 => semK c (.r k.1 k.2.1 k.2.2))
        ∗ (bigSep Finset.univ fun k : P3 => iprop(semK c (.f k.1 true k.2.1 k.2.2) ∗ semK c (.f k.1 false k.2.1 k.2.2)))
        ∗ bigSep Finset.univ fun k : P3 => pts c (.inl k) fullShare (outAt m ρ sw c)) : sProp 𝕄) := by
    rw [← bigSep_sep', ← bigSep_sep', ← bigSep_sep']
    refine bigSep_mono fun k _ => ?_
    unfold fwdEnd semK
    show (_ : sProp 𝕄) ⊢ _
    iintro ⟨⟨H1, H2⟩, ⟨H3, H4⟩, H5, H6⟩
    isplitl [H1]; · iexact H1
    isplitl [H3 H5]
    · isplitl [H3]; · iexact H3
      iexact H5
    iapply (piece_split m ρ sw c k.1 k.2.1 k.2.2).2
    isplitl [H2]; · iexact H2
    isplitl [H4]; · iexact H4
    iexact H6
  rw [ea, ex]
  iintro ⟨-, ⟨HO, -, Hd⟩, H2, ⟨Ha1, Ha2⟩, ⟨Hx1, Hx2⟩, Hr⟩
  ihave Hr := hr $$ [Hr Hd]
  · isplitl [Hr]; · iexact Hr
    iexact Hd
  icases Hr with ⟨Hr1, Hr2, Hr3⟩
  isplitl [HO]; · iexact HO
  isplitl [H2]; · iexact H2
  isplitl [Ha1 Hx1 Hr1 Hr2]
  · isplitl [Hx1]; · iexact Hx1
    isplitl [Ha1]; · iexact Ha1
    isplitl [Hr1]; · iexact Hr1
    iexact Hr2
  isplitl [Hr3 Ha2]
  · isplitl [Hr3]; · iexact Hr3
    iexact Ha2
  iexact Hx2

end Cert.KProof

end
-- ==== Proof.Split.lean ====
/-
The buffers cut into the pieces the copies move.
-/
module

public import proofs.«01_k».proof.Proof.Mid
public import proofs.«01_k».proof.Proof.State
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The result's staging buffer in pieces -/

theorem pset_disj (k k' : PK) (h : k ≠ k') : Disjoint (pset k) (pset k') := by
  rw [Finset.disjoint_left]
  intro i h1 h2
  apply h
  rcases k with ⟨ax, q, s⟩ | s <;> rcases k' with ⟨ax', q', s'⟩ | s'
  · have h1 := (mem_opc ax q s i).mp h1
    have h2 := (mem_opc ax' q' s' i).mp h2
    have b1 := q.isLt; have b2 := q'.isLt; have b3 := s.isLt; have b4 := s'.isLt
    unfold rowOf at h1 h2
    have e3 : s = s' := Fin.ext (by omega)
    cases ax <;> cases ax' <;> simp only [if_true, if_false, Bool.false_eq_true] at h1 h2
    · have e : q = q' := Fin.ext (by omega)
      rw [e, e3]
    · omega
    · omega
    · have e : q = q' := Fin.ext (by omega)
      rw [e, e3]
  · have h1 := (mem_opc ax q s i).mp h1
    have h2 := (mem_opa s' i).mp h2
    have b4 := s'.isLt
    unfold rowOf at h1
    cases ax <;> simp only [if_true, if_false, Bool.false_eq_true] at h1 <;> omega
  · have h1 := (mem_opa s i).mp h1
    have h2 := (mem_opc ax' q' s' i).mp h2
    have b4 := s.isLt
    unfold rowOf at h2
    cases ax' <;> simp only [if_true, if_false, Bool.false_eq_true] at h2 <;> omega
  · have h1 := (mem_opa s i).mp h1
    have h2 := (mem_opa s' i).mp h2
    have e : s = s' := Fin.ext (by omega)
    rw [e]

theorem mem_pset_a (a : Fin 2) (i : S1x2048x1024.Idx) : i ∈ pset (.inr a) ↔ 128 * a.val ≤ (i 1).val ∧ (i 1).val < 128 * a.val + 128 := mem_opa a i
theorem mem_pset_b (q s : Fin 4) (i : S1x2048x1024.Idx) : i ∈ pset (.inl (false, q, s)) ↔ (256 + 224 * q.val ≤ (i 1).val ∧ (i 1).val < 256 + 224 * q.val + 224) ∧ 256 * s.val ≤ (i 2).val ∧ (i 2).val < 256 * s.val + 256 := mem_opc false q s i
theorem mem_pset_c (q s : Fin 4) (i : S1x2048x1024.Idx) : i ∈ pset (.inl (true, q, s)) ↔ (1152 + 224 * q.val ≤ (i 1).val ∧ (i 1).val < 1152 + 224 * q.val + 224) ∧ 256 * s.val ≤ (i 2).val ∧ (i 2).val < 256 * s.val + 256 := mem_opc true q s i

theorem pset_cover : (Finset.univ : Finset PK).biUnion pset = Finset.univ := by
  ext i
  simp only [Finset.mem_biUnion, Finset.mem_univ, true_and, iff_true]
  have hr : (i 1).val < 2048 := (i 1).isLt
  have hc : (i 2).val < 1024 := (i 2).isLt
  by_cases h1 : (i 1).val < 256
  · exact ⟨.inr ⟨(i 1).val / 128, by omega⟩, (mem_pset_a ⟨(i 1).val / 128, by omega⟩ i).mpr ⟨by show 128 * ((i 1).val / 128) ≤ _; omega, by show _ < 128 * ((i 1).val / 128) + 128; omega⟩⟩
  · by_cases h2 : (i 1).val < 1152
    · exact ⟨.inl (false, ⟨((i 1).val - 256) / 224, by omega⟩, ⟨(i 2).val / 256, by omega⟩), (mem_pset_b ⟨((i 1).val - 256) / 224, by omega⟩ ⟨(i 2).val / 256, by omega⟩ i).mpr
        ⟨⟨by show 256 + 224 * (((i 1).val - 256) / 224) ≤ _; omega, by show _ < 256 + 224 * (((i 1).val - 256) / 224) + 224; omega⟩,
          by show 256 * ((i 2).val / 256) ≤ _; omega, by show _ < 256 * ((i 2).val / 256) + 256; omega⟩⟩
    · exact ⟨.inl (true, ⟨((i 1).val - 1152) / 224, by omega⟩, ⟨(i 2).val / 256, by omega⟩), (mem_pset_c ⟨((i 1).val - 1152) / 224, by omega⟩ ⟨(i 2).val / 256, by omega⟩ i).mpr
        ⟨⟨by show 1152 + 224 * (((i 1).val - 1152) / 224) ≤ _; omega, by show _ < 1152 + 224 * (((i 1).val - 1152) / 224) + 224; omega⟩,
          by show 256 * ((i 2).val / 256) ≤ _; omega, by show _ < 256 * ((i 2).val / 256) + 256; omega⟩⟩

/-- The whole buffer is its pieces. -/
theorem out_pieces (c : Dev nD) (f : Buf (Elt F) ((c : Thread nD τ).loc cc0_stg2_0)) :
    ((((c : Thread nD τ).loc cc0_stg2_0) ↦[Finset.univ]{fullShare} f) : sProp 𝕄) = bigSep Finset.univ fun k : PK => pts c k fullShare f := by
  have h := pointsTo_biUnion (ℓ := (c : Thread nD τ).loc cc0_stg2_0) (q := fullShare) (f := f) (Ix := Unit) (Name := ℕ) (U := UU) (Lvl := ℕ)
    (Finset.univ : Finset PK) pset (fun t _ t' _ ht => pset_disj t t' ht)
  rw [pset_cover] at h
  exact h

/-! ## The send buffers in slices -/

theorem mem_spB (s : Fin 4) (i : S4x224x256.Idx) : i ∈ ((spB s).view.set : Finset S4x224x256.Idx) ↔ (i 0).val = s.val := by
  have h : ((spB s).view.set : Finset S4x224x256.Idx)
      = (Rect.unit (s := S4x224x256) ![s.val, 0, 0] S1x224x256.size (spcInb s)).set := by
    rw [Memref.set_view_squeeze]; exact View.set_slice_whole _ _
  rw [h, Rect.mem_set_unit]
  constructor
  · intro h; have h0 : s.val ≤ (i 0).val ∧ (i 0).val < s.val + 1 := h 0; omega
  · intro h1 a
    match a with
    | ⟨0, _⟩ => show s.val ≤ (i 0).val ∧ (i 0).val < s.val + 1; omega
    | ⟨1, _⟩ => exact ⟨Nat.zero_le _, by have : (i 1).val < 224 := (i 1).isLt; show (i 1).val < 0 + 224; omega⟩
    | ⟨2, _⟩ => exact ⟨Nat.zero_le _, by have : (i 2).val < 256 := (i 2).isLt; show (i 2).val < 0 + 256; omega⟩
theorem mem_spC (s : Fin 4) (i : S4x224x256.Idx) : i ∈ ((spC s).view.set : Finset S4x224x256.Idx) ↔ (i 0).val = s.val := by
  have h : ((spC s).view.set : Finset S4x224x256.Idx)
      = (Rect.unit (s := S4x224x256) ![s.val, 0, 0] S1x224x256.size (spcInb s)).set := by
    rw [Memref.set_view_squeeze]; exact View.set_slice_whole _ _
  rw [h, Rect.mem_set_unit]
  constructor
  · intro h; have h0 : s.val ≤ (i 0).val ∧ (i 0).val < s.val + 1 := h 0; omega
  · intro h1 a
    match a with
    | ⟨0, _⟩ => show s.val ≤ (i 0).val ∧ (i 0).val < s.val + 1; omega
    | ⟨1, _⟩ => exact ⟨Nat.zero_le _, by have : (i 1).val < 224 := (i 1).isLt; show (i 1).val < 0 + 224; omega⟩
    | ⟨2, _⟩ => exact ⟨Nat.zero_le _, by have : (i 2).val < 256 := (i 2).isLt; show (i 2).val < 0 + 256; omega⟩
theorem mem_spA (s : Fin 2) (i : S2x128x1024.Idx) : i ∈ ((spA s).view.set : Finset S2x128x1024.Idx) ↔ (i 0).val = s.val := by
  have h : ((spA s).view.set : Finset S2x128x1024.Idx)
      = (Rect.unit (s := S2x128x1024) ![s.val, 0, 0] S1x128x1024.size (spaInb s)).set := by
    rw [Memref.set_view_squeeze]; exact View.set_slice_whole _ _
  rw [h, Rect.mem_set_unit]
  constructor
  · intro h; have h0 : s.val ≤ (i 0).val ∧ (i 0).val < s.val + 1 := h 0; omega
  · intro h1 a
    match a with
    | ⟨0, _⟩ => show s.val ≤ (i 0).val ∧ (i 0).val < s.val + 1; omega
    | ⟨1, _⟩ => exact ⟨Nat.zero_le _, by have : (i 1).val < 128 := (i 1).isLt; show (i 1).val < 0 + 128; omega⟩
    | ⟨2, _⟩ => exact ⟨Nat.zero_le _, by have : (i 2).val < 1024 := (i 2).isLt; show (i 2).val < 0 + 1024; omega⟩

/-- A buffer at some contents is a disjoint cover of it, each part at some contents. -/
theorem some_pieces {T : Type} [Fintype T] [DecidableEq T] (ℓ : Loc nD τ sig) (P : T → Finset (Idx ℓ)) (f₀ : Buf (Elt F) ℓ)
    (hd : ∀ t t', t ≠ t' → Disjoint (P t) (P t')) (hc : (Finset.univ : Finset T).biUnion P = Finset.univ) :
    (iprop(∃ f : Buf (Elt F) ℓ, ℓ ↦[Finset.univ]{fullShare} f) : sProp 𝕄) ⊣⊢ bigSep Finset.univ fun t : T => iprop(∃ f : Buf (Elt F) ℓ, ℓ ↦[P t]{fullShare} f) := by
  constructor
  · have hm (f : Buf (Elt F) ℓ) : iprop(ℓ ↦[Finset.univ]{fullShare} f)
        ⊢ (iprop(bigSep Finset.univ fun t : T => iprop(∃ f : Buf (Elt F) ℓ, ℓ ↦[P t]{fullShare} f)) : sProp 𝕄) := by
      rw [← hc, pointsTo_biUnion _ P (fun t _ t' _ ht => hd t t' ht)]
      refine bigSep_mono fun t _ => ?_
      show (_ : sProp 𝕄) ⊢ _
      iintro H; iexists f; iexact H
    iintro ⟨%f, H⟩
    iapply (hm f)
    iexact H
  · iintro H
    ihave H := (BI.bigSep_exists_pi Finset.univ (fun (t : T) (f : Buf (Elt F) ℓ) => (ℓ ↦[P t]{fullShare} f : sProp 𝕄))) $$ H
    icases H with ⟨%fs, H⟩
    ihave H := (pointsTo_biUnion_join Finset.univ P fs f₀ (fun t _ t' _ ht => hd t t' ht)) $$ H
    icases H with ⟨%g, -, H⟩
    iexists g
    rw [hc]; iexact H

/-- The elements of a slice of the send buffer. -/
def setB (s : Fin 4) : Finset S4x224x256.Idx := (spB s).view.set
theorem setB_disj (t t' : Fin 4) (ht : t ≠ t') : Disjoint (setB t) (setB t') :=
  Finset.disjoint_left.mpr fun i h1 h2 => ht (Fin.ext (((mem_spB t i).mp h1).symm.trans ((mem_spB t' i).mp h2)))
theorem setB_cover : (Finset.univ : Finset (Fin 4)).biUnion setB = Finset.univ := by
  ext i
  simp only [Finset.mem_biUnion, Finset.mem_univ, true_and, iff_true]
  have h : (i 0).val < 4 := (i 0).isLt
  exact ⟨⟨(i 0).val, h⟩, (mem_spB ⟨(i 0).val, h⟩ i).mpr rfl⟩
theorem spB_pieces (c : Dev nD) (f₀ : Buf (Elt F) ((c : Thread nD τ).loc cc0_scratch1)) :
    (iprop(∃ f : Buf (Elt F) ((c : Thread nD τ).loc cc0_scratch1), ((c : Thread nD τ).loc cc0_scratch1) ↦[Finset.univ]{fullShare} f) : sProp 𝕄)
      ⊣⊢ bigSep Finset.univ fun s : Fin 4 => sndE c (.inl (false, s)) := by
  have h := some_pieces (F := F) ((c : Thread nD τ).loc cc0_scratch1) setB f₀ setB_disj setB_cover
  exact h

/-- The elements of a slice of the send buffer. -/
def setC (s : Fin 4) : Finset S4x224x256.Idx := (spC s).view.set
theorem setC_disj (t t' : Fin 4) (ht : t ≠ t') : Disjoint (setC t) (setC t') :=
  Finset.disjoint_left.mpr fun i h1 h2 => ht (Fin.ext (((mem_spC t i).mp h1).symm.trans ((mem_spC t' i).mp h2)))
theorem setC_cover : (Finset.univ : Finset (Fin 4)).biUnion setC = Finset.univ := by
  ext i
  simp only [Finset.mem_biUnion, Finset.mem_univ, true_and, iff_true]
  have h : (i 0).val < 4 := (i 0).isLt
  exact ⟨⟨(i 0).val, h⟩, (mem_spC ⟨(i 0).val, h⟩ i).mpr rfl⟩
theorem spC_pieces (c : Dev nD) (f₀ : Buf (Elt F) ((c : Thread nD τ).loc cc0_scratch2)) :
    (iprop(∃ f : Buf (Elt F) ((c : Thread nD τ).loc cc0_scratch2), ((c : Thread nD τ).loc cc0_scratch2) ↦[Finset.univ]{fullShare} f) : sProp 𝕄)
      ⊣⊢ bigSep Finset.univ fun s : Fin 4 => sndE c (.inl (true, s)) := by
  have h := some_pieces (F := F) ((c : Thread nD τ).loc cc0_scratch2) setC f₀ setC_disj setC_cover
  exact h

/-- The elements of a slice of the send buffer. -/
def setA (s : Fin 2) : Finset S2x128x1024.Idx := (spA s).view.set
theorem setA_disj (t t' : Fin 2) (ht : t ≠ t') : Disjoint (setA t) (setA t') :=
  Finset.disjoint_left.mpr fun i h1 h2 => ht (Fin.ext (((mem_spA t i).mp h1).symm.trans ((mem_spA t' i).mp h2)))
theorem setA_cover : (Finset.univ : Finset (Fin 2)).biUnion setA = Finset.univ := by
  ext i
  simp only [Finset.mem_biUnion, Finset.mem_univ, true_and, iff_true]
  have h : (i 0).val < 2 := (i 0).isLt
  exact ⟨⟨(i 0).val, h⟩, (mem_spA ⟨(i 0).val, h⟩ i).mpr rfl⟩
theorem spA_pieces (c : Dev nD) (f₀ : Buf (Elt F) ((c : Thread nD τ).loc cc0_scratch0)) :
    (iprop(∃ f : Buf (Elt F) ((c : Thread nD τ).loc cc0_scratch0), ((c : Thread nD τ).loc cc0_scratch0) ↦[Finset.univ]{fullShare} f) : sProp 𝕄)
      ⊣⊢ bigSep Finset.univ fun s : Fin 2 => sndE c (.inr s) := by
  have h := some_pieces (F := F) ((c : Thread nD τ).loc cc0_scratch0) setA f₀ setA_disj setA_cover
  exact h

theorem snd_slices (c : Dev nD) : (bigSep Finset.univ fun i : Fin 10 => (sndE c (xd i) : sProp 𝕄))
    = iprop(((bigSep Finset.univ fun s : Fin 4 => sndE c (.inl (true, s))) ∗ bigSep Finset.univ fun s : Fin 4 => sndE c (.inl (false, s)))
      ∗ bigSep Finset.univ fun s : Fin 2 => sndE c (.inr s)) := by
  have h : (bigSep Finset.univ fun k : (Bool × Fin 4) ⊕ Fin 2 => (sndE c k : sProp 𝕄)) = bigSep Finset.univ fun i : Fin 10 => sndE c (xd i) :=
    bigSep_univ_equiv xdE _
  rw [← h, bigSep_univ_sum, bigSep_univ_prod (fun k : Bool × Fin 4 => (sndE c (.inl k) : sProp 𝕄)), bs_bool]
  rfl

/-- The three send buffers. -/
def scr (c : Dev nD) : sProp 𝕄 :=
  iprop((∃ f : Buf (Elt F) ((c : Thread nD τ).loc cc0_scratch0), ((c : Thread nD τ).loc cc0_scratch0) ↦[Finset.univ]{fullShare} f)
    ∗ (∃ f : Buf (Elt F) ((c : Thread nD τ).loc cc0_scratch1), ((c : Thread nD τ).loc cc0_scratch1) ↦[Finset.univ]{fullShare} f)
    ∗ (∃ f : Buf (Elt F) ((c : Thread nD τ).loc cc0_scratch2), ((c : Thread nD τ).loc cc0_scratch2) ↦[Finset.univ]{fullShare} f))

theorem scr_split (c : Dev nD) : (scr c : sProp 𝕄) ⊢ bigSep Finset.univ fun i : Fin 10 => sndE c (xd i) := by
  unfold scr
  rw [snd_slices]
  iintro ⟨⟨%f0, H0⟩, ⟨%f1, H1⟩, ⟨%f2, H2⟩⟩
  isplitl [H1 H2]
  · isplitl [H2]
    · iapply (spC_pieces c f2).1; iexists f2; iexact H2
    iapply (spB_pieces c f1).1; iexists f1; iexact H1
  iapply (spA_pieces c f0).1; iexists f0; iexact H0

theorem scr_join (c : Dev nD) (f0 : Buf (Elt F) ((c : Thread nD τ).loc cc0_scratch0)) (f1 : Buf (Elt F) ((c : Thread nD τ).loc cc0_scratch1))
    (f2 : Buf (Elt F) ((c : Thread nD τ).loc cc0_scratch2)) : (bigSep Finset.univ fun i : Fin 10 => (sndE c (xd i) : sProp 𝕄)) ⊢ scr c := by
  unfold scr
  rw [snd_slices]
  iintro ⟨⟨H2, H1⟩, H0⟩
  isplitl [H0]
  · iapply (spA_pieces c f0).2; iexact H0
  isplitl [H1]
  · iapply (spB_pieces c f1).2; iexact H1
  iapply (spC_pieces c f2).2; iexact H2

end Cert.KProof

end
-- ==== Proof.Pay.lean ====
/-
The vectors stored to the send buffers are the ones loaded.
-/
module

public import proofs.«01_k».proof.Proof.Exch
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The stored vectors are the loaded ones -/

theorem xpay1 (v : Vec F S1x224x256 .bf16) : k0_pay1 v = v := by unfold k0_pay1; exact shapeCast_shapeCast _ _ _
theorem xpay2 (v : Vec F S1x224x256 .bf16) : k0_pay2 v = v := by unfold k0_pay2; exact shapeCast_shapeCast _ _ _
theorem xpay3 (v : Vec F S1x224x256 .bf16) : k0_pay3 v = v := by unfold k0_pay3; exact shapeCast_shapeCast _ _ _
theorem xpay4 (v : Vec F S1x224x256 .bf16) : k0_pay4 v = v := by unfold k0_pay4; exact shapeCast_shapeCast _ _ _
theorem xpay5 (v : Vec F S1x224x256 .bf16) : k0_pay5 v = v := by unfold k0_pay5; exact shapeCast_shapeCast _ _ _
theorem xpay8 (v : Vec F S1x224x256 .bf16) : k0_pay8 v = v := by unfold k0_pay8; exact shapeCast_shapeCast _ _ _
theorem xpay9 (v : Vec F S1x224x256 .bf16) : k0_pay9 v = v := by unfold k0_pay9; exact shapeCast_shapeCast _ _ _
theorem xpay10 (v : Vec F S1x128x1024 .bf16) : k0_pay10 v = v := by unfold k0_pay10; exact shapeCast_shapeCast _ _ _
theorem xpay11 (v : Vec F S1x128x1024 .bf16) : k0_pay11 v = v := by unfold k0_pay11; exact shapeCast_shapeCast _ _ _
theorem xpay67 (v : Vec F S1x224x256 .bf16) : k0_pay7 (k0_pay6 v) = v := by unfold k0_pay7 k0_pay6; exact shapeCast_shapeCast _ _ _

end Cert.KProof

end
-- ==== Proof.BParts.lean ====
/-
Parts 1 and 2 of the kernel: the barrier.
-/
module

public import proofs.«01_k».proof.Proof.Bar
public import proofs.«01_k».proof.Proof.Pay
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Part 1 of the kernel: the table's two words and the first signals. -/
theorem part1 (c : Dev nD) (hT : TabOK m ρ sw) (X : sProp 𝕄) {Q : (Σ' (d0 : Dev nD) (v2 : BitVec 32) (v5 : BitVec 32) (v8 : BitVec 32) (v10 : Elt F .i32) (k0_hw1 : k0_chk1 d0 v10) (v14 : Sems sig S_), BitVec 32) → sProp 𝕄}
    (h : ∀ v2 v5 v8 hw v31, iprop(env m ρ sw K ∗ BSt m ρ sw c [.inr (false, true), .inr (true, false), .inr (true, true)] ∗ X)
      ⊢ Q ⟨c, v2, v5, v8, w10 sw c, hw, SemArray.scalar (sig.barrier 0 rfl), v31⟩) :
    iprop(env m ρ sw K ∗ BSt m ρ sw c [.inl false, .inl true, .inr (false, false), .inr (false, true), .inr (true, false), .inr (true, true)] ∗ X)
      ⊢ wp frame (wpE (defs₀ (F := F)) 𝒱₀ (c : Thread nD τ) none) Set.univ
          (k0_part1 arg0 harg0 arg1 harg1 arg2 harg2 arg3 harg3 arg4 harg4 arg5 harg5 arg6 arg7 arg8 arg9 arg10 arg11 arg12 arg13) Q := by
  rw [k0_part1_eq_skeleton, k0_part1_skel]
  refine step_device c rfl ?_
  refine step_word m ρ sw K c _ arg1 A.e1 (k0_off1_inb c) (w10 sw c) (tab_own m ρ sw hT c) _ rfl ?_
  refine step_assume c (chk1_ok sw c) rfl ?_
  refine step_word m ρ sw K c _ arg1 A.e1 (o := ![0]) inb_S2_S1_0 (w11 sw) (tab_fst m ρ sw hT c) _ rfl ?_
  refine step_assume c (chk2_ok sw c) rfl ?_
  refine step_signal m ρ sw K c (.inl false) rfl (n := ⟨k0_dev1 c (w10 sw c), k0_dev1_lt c _ (chk1_ok sw c)⟩) (Fin.ext (xdev1 sw c)) rfl _ _ rfl ?_
  refine step_signal m ρ sw K c (.inl true) rfl (n := ⟨k0_dev2 c (w11 sw), k0_dev2_lt c _ (chk2_ok sw c)⟩) (Fin.ext (xdev2 sw c)) rfl _ _ rfl ?_
  refine step_signal_if m ρ sw K c (.inr (false, false)) (k0_cond1 c) (xcond1 c) (n := fun h => ⟨k0_dev3 c, k0_dev3_lt c h⟩) (fun h => Fin.ext (xdev3 c h)) rfl _ _ rfl ?_
  exact wp_pure_eq c _ rfl (h _ _ _ _ _)

/-- Part 2 of the kernel: the other signals, the wait, the first send buffer filled. -/
theorem part2 (c : Dev nD) (v2 : BitVec 32) (v5 : BitVec 32) (v8 : BitVec 32) (v10 : Elt F .i32) (v14 : Sems sig S_) (v31 : BitVec 32) (hv14 : v14 = SemArray.scalar (sig.barrier 0 rfl)) (l : List (Fin 10 × Bool)) (X Y : sProp 𝕄) {Q : (Σ' (v52 : BitVec 32) (v54 : BitVec 32), BitVec 32) → sProp 𝕄}
    (hb : iprop(env m ρ sw K ∗ (∃ W, owes (c : Thread nD τ) (owedE sw c XL) W) ∗ tbuf m ρ c ∗ barGot sw c ∗ semVal (barCell c) 0 ∗ X)
      ⊢ iprop(env m ρ sw K ∗ XSt m ρ sw c [] ((0, false) :: l) ∗ Y))
    (h : ∀ v, iprop(env m ρ sw K ∗ XSt m ρ sw c [] ((0, true) :: l) ∗ Y) ⊢ Q v) :
    iprop(env m ρ sw K ∗ BSt m ρ sw c [.inr (false, true), .inr (true, false), .inr (true, true)] ∗ cred (tallyAt (barCell c) () (barD c).card) ∗ atPos ER (barCell c) 0 ∅ 0 ∗ X)
      ⊢ wp frame (wpE (defs₀ (F := F)) 𝒱₀ (c : Thread nD τ) none) Set.univ
          (k0_part2 arg0 harg0 arg1 harg1 arg2 harg2 arg3 harg3 arg4 harg4 arg5 harg5 arg6 arg7 arg8 arg9 arg10 arg11 arg12 arg13 c v2 v5 v8 v10 v14 v31) Q := by
  subst hv14
  rw [k0_part2_eq_skeleton, k0_part2_skel]
  refine step_signal_if m ρ sw K c (.inr (false, true)) (k0_cond2 c) (xcond2 c) (n := fun h => ⟨k0_dev4 c, k0_dev4_lt c h⟩) (fun h => Fin.ext (xdev4 c h)) rfl _ _ rfl ?_
  refine step_signal_if m ρ sw K c (.inr (true, false)) (k0_cond3 c) (xcond3 c) (n := fun h => ⟨k0_dev5 c, k0_dev5_lt c h⟩) (fun h => Fin.ext (xdev5 c h)) rfl _ _ rfl ?_
  refine step_signal_if m ρ sw K c (.inr (true, true)) (k0_cond4 c) (xcond4 c) (n := fun h => ⟨k0_dev6 c, k0_dev6_lt c h⟩) (fun h => Fin.ext (xdev6 c h)) rfl _ _ rfl ?_
  refine step_barwait m ρ sw K c rfl (k0_amt1 c) (xamt c) _ rfl ?_
  refine hb.trans ?_
  refine step_loadB m ρ sw K c false 0 arg0 A.e0 (xoff2_false c) (k0_off2_inb c 0) _ _ _ rfl ?_
  refine step_storeB m ρ sw K c 0 0 rfl arg4 A.e4 (o := ![0, 0, 0]) rfl inb_S4x224x256_S1x224x256_0_0_0 (xpay1 _) _ _ _ rfl ?_
  exact wp_pure_eq c _ rfl (h _)

end Cert.KProof

end
-- ==== Proof.XParts.lean ====
/-
Parts 3 to 9 of the kernel: the copies of the exchange.
-/
module

public import proofs.«01_k».proof.Proof.XFacts
public import proofs.«01_k».proof.Proof.Pay
public import proofs.«01_k».proof.Proof.Facts
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Part 3 of the kernel: copies of the exchange. -/
theorem part3 (c : Dev nD) (v5 : BitVec 32) (v8 : BitVec 32) (v10 : Elt F .i32) (k0_hw1 : k0_chk1 c v10) (v52 : BitVec 32) (v54 : BitVec 32) (v61 : BitVec 32) (hv : v10 = w10 sw c) (dn : List (Fin 10)) (l : List (Fin 10 × Bool)) (X : sProp 𝕄) {Q : (PUnit) → sProp 𝕄}
    (h : ∀ v, iprop(env m ρ sw K ∗ XSt m ρ sw c (1 :: 0 :: dn) l ∗ X) ⊢ Q v) :
    iprop(env m ρ sw K ∗ XSt m ρ sw c dn ((0, true) :: (1, false) :: l) ∗ X)
      ⊢ wp frame (wpE (defs₀ (F := F)) 𝒱₀ (c : Thread nD τ) none) Set.univ
          (k0_part3 arg0 harg0 arg1 harg1 arg2 harg2 arg3 harg3 arg4 harg4 arg5 harg5 arg6 arg7 arg8 arg9 arg10 arg11 arg12 arg13 c v5 v8 v10 k0_hw1 v52 v54 v61) Q := by
  subst hv
  rw [k0_part3_eq_skeleton, k0_part3_skel]
  refine step_sendB m ρ sw K c 0 0 rfl arg4 A.e4 arg2 A.e2 (o := ![0, 0, 0]) rfl inb_S4x224x256_S1x224x256_0_0_0 (xoff4_false c) (k0_off4_inb c 0) (n := ⟨k0_dev7 c (w10 sw c), k0_dev7_lt c _ k0_hw1⟩) (Fin.ext (xdev7 sw c)) (sem_scratch3 _ A.e6 0 (o := ![0]) rfl inb_S10_S1_0) (sem_scratch5' _ A.e8 _ 0 (xoff3_false c) (k0_off3_inb c 1)) _ _ _ rfl ?_
  refine step_loadB m ρ sw K c true 0 arg0 A.e0 (xoff2_true c) (k0_off2_inb c 1) _ _ _ rfl ?_
  refine step_storeC m ρ sw K c 1 0 rfl arg5 A.e5 (o := ![0, 0, 0]) rfl inb_S4x224x256_S1x224x256_0_0_0 (xpay2 _) _ _ _ rfl ?_
  refine step_sendC m ρ sw K c 1 0 rfl arg5 A.e5 arg2 A.e2 (o := ![0, 0, 0]) rfl inb_S4x224x256_S1x224x256_0_0_0 (xoff4_true c) (k0_off4_inb c 1) (n := ⟨k0_dev8 c (w10 sw c), k0_dev8_lt c _ k0_hw1⟩) (Fin.ext (xdev8 sw c)) (sem_scratch3 _ A.e6 1 (o := ![1]) rfl inb_S10_S1_1) (sem_scratch6' _ A.e9 _ 0 (xoff3_true c) (k0_off3_inb c 0)) _ _ _ rfl ?_
  exact wp_pure_eq c _ rfl (h _)

/-- Part 4 of the kernel: copies of the exchange. -/
theorem part4 (c : Dev nD) (v5 : BitVec 32) (v8 : BitVec 32) (v10 : Elt F .i32) (k0_hw1 : k0_chk1 c v10) (v54 : BitVec 32) (hv : v10 = w10 sw c) (dn : List (Fin 10)) (l : List (Fin 10 × Bool)) (X : sProp 𝕄) {Q : (Σ' (v124 : BitVec 32), BitVec 32) → sProp 𝕄}
    (h : ∀ v, iprop(env m ρ sw K ∗ XSt m ρ sw c (2 :: dn) ((3, true) :: l) ∗ X) ⊢ Q v) :
    iprop(env m ρ sw K ∗ XSt m ρ sw c dn ((2, false) :: (3, false) :: l) ∗ X)
      ⊢ wp frame (wpE (defs₀ (F := F)) 𝒱₀ (c : Thread nD τ) none) Set.univ
          (k0_part4 arg0 harg0 arg1 harg1 arg2 harg2 arg3 harg3 arg4 harg4 arg5 harg5 arg6 arg7 arg8 arg9 arg10 arg11 arg12 arg13 c v5 v8 v10 k0_hw1 v54) Q := by
  subst hv
  rw [k0_part4_eq_skeleton, k0_part4_skel]
  refine step_loadB m ρ sw K c false 1 arg0 A.e0 (xoff5_false c) (k0_off5_inb c 0) _ _ _ rfl ?_
  refine step_storeB m ρ sw K c 2 1 rfl arg4 A.e4 (o := ![1, 0, 0]) rfl inb_S4x224x256_S1x224x256_1_0_0 (xpay3 _) _ _ _ rfl ?_
  refine step_sendB m ρ sw K c 2 1 rfl arg4 A.e4 arg2 A.e2 (o := ![1, 0, 0]) rfl inb_S4x224x256_S1x224x256_1_0_0 (xoff7_false c) (k0_off7_inb c 0) (n := ⟨k0_dev9 c (w10 sw c), k0_dev9_lt c _ k0_hw1⟩) (Fin.ext (xdev9 sw c)) (sem_scratch3 _ A.e6 2 (o := ![2]) rfl inb_S10_S1_2) (sem_scratch5' _ A.e8 _ 1 (xoff6_false c) (k0_off6_inb c 1)) _ _ _ rfl ?_
  refine step_loadB m ρ sw K c true 1 arg0 A.e0 (xoff5_true c) (k0_off5_inb c 1) _ _ _ rfl ?_
  refine step_storeC m ρ sw K c 3 1 rfl arg5 A.e5 (o := ![1, 0, 0]) rfl inb_S4x224x256_S1x224x256_1_0_0 (xpay4 _) _ _ _ rfl ?_
  exact wp_pure_eq c _ rfl (h _)

/-- Part 5 of the kernel: copies of the exchange. -/
theorem part5 (c : Dev nD) (v5 : BitVec 32) (v8 : BitVec 32) (v10 : Elt F .i32) (k0_hw1 : k0_chk1 c v10) (v52 : BitVec 32) (v54 : BitVec 32) (v124 : BitVec 32) (c1_i32_84 : BitVec 32) (hv : v10 = w10 sw c) (dn : List (Fin 10)) (l : List (Fin 10 × Bool)) (X : sProp 𝕄) {Q : (FVec F S224x256 .bf16) → sProp 𝕄}
    (h : iprop(env m ρ sw K ∗ XSt m ρ sw c (4 :: 3 :: dn) ((5, false) :: l) ∗ X) ⊢ Q (k0_pay6 (xvB m ρ c true 2))) :
    iprop(env m ρ sw K ∗ XSt m ρ sw c dn ((3, true) :: (4, false) :: (5, false) :: l) ∗ X)
      ⊢ wp frame (wpE (defs₀ (F := F)) 𝒱₀ (c : Thread nD τ) none) Set.univ
          (k0_part5 arg0 harg0 arg1 harg1 arg2 harg2 arg3 harg3 arg4 harg4 arg5 harg5 arg6 arg7 arg8 arg9 arg10 arg11 arg12 arg13 c v5 v8 v10 k0_hw1 v52 v54 v124 c1_i32_84) Q := by
  subst hv
  rw [k0_part5_eq_skeleton, k0_part5_skel]
  refine step_sendC m ρ sw K c 3 1 rfl arg5 A.e5 arg2 A.e2 (o := ![1, 0, 0]) rfl inb_S4x224x256_S1x224x256_1_0_0 (xoff7_true c) (k0_off7_inb c 1) (n := ⟨k0_dev10 c (w10 sw c), k0_dev10_lt c _ k0_hw1⟩) (Fin.ext (xdev10 sw c)) (sem_scratch3 _ A.e6 3 (o := ![3]) rfl inb_S10_S1_3) (sem_scratch6' _ A.e9 _ 1 (xoff6_true c) (k0_off6_inb c 0)) _ _ _ rfl ?_
  refine step_loadB m ρ sw K c false 2 arg0 A.e0 (xoff8_false c) (k0_off8_inb c 0) _ _ _ rfl ?_
  refine step_storeB m ρ sw K c 4 2 rfl arg4 A.e4 (o := ![2, 0, 0]) rfl inb_S4x224x256_S1x224x256_2_0_0 (xpay5 _) _ _ _ rfl ?_
  refine step_sendB m ρ sw K c 4 2 rfl arg4 A.e4 arg2 A.e2 (o := ![2, 0, 0]) rfl inb_S4x224x256_S1x224x256_2_0_0 (xoff10_false c) (k0_off10_inb c 0) (n := ⟨k0_dev11 c (w10 sw c), k0_dev11_lt c _ k0_hw1⟩) (Fin.ext (xdev11 sw c)) (sem_scratch3 _ A.e6 4 (o := ![4]) rfl inb_S10_S1_4) (sem_scratch5' _ A.e8 _ 2 (xoff9_false c) (k0_off9_inb c 1)) _ _ _ rfl ?_
  refine step_loadB m ρ sw K c true 2 arg0 A.e0 (xoff8_true c) (k0_off8_inb c 1) _ _ _ rfl ?_
  exact wp_pure_eq c _ rfl h

/-- Part 6 of the kernel: copies of the exchange. -/
theorem part6 (c : Dev nD) (v5 : BitVec 32) (v8 : BitVec 32) (v10 : Elt F .i32) (k0_hw1 : k0_chk1 c v10) (v52 : BitVec 32) (v157 : FVec F S224x256 .bf16) (hv : v10 = w10 sw c) (hw : v157 = k0_pay6 (xvB m ρ c true 2)) (dn : List (Fin 10)) (l : List (Fin 10 × Bool)) (X : sProp 𝕄) {Q : (PUnit) → sProp 𝕄}
    (h : ∀ v, iprop(env m ρ sw K ∗ XSt m ρ sw c (5 :: dn) ((6, true) :: l) ∗ X) ⊢ Q v) :
    iprop(env m ρ sw K ∗ XSt m ρ sw c dn ((5, false) :: (6, false) :: l) ∗ X)
      ⊢ wp frame (wpE (defs₀ (F := F)) 𝒱₀ (c : Thread nD τ) none) Set.univ
          (k0_part6 arg0 harg0 arg1 harg1 arg2 harg2 arg3 harg3 arg4 harg4 arg5 harg5 arg6 arg7 arg8 arg9 arg10 arg11 arg12 arg13 c v5 v8 v10 k0_hw1 v52 v157) Q := by
  subst hv
  subst hw
  rw [k0_part6_eq_skeleton, k0_part6_skel]
  refine step_storeC m ρ sw K c 5 2 rfl arg5 A.e5 (o := ![2, 0, 0]) rfl inb_S4x224x256_S1x224x256_2_0_0 (xpay67 _) _ _ _ rfl ?_
  refine step_sendC m ρ sw K c 5 2 rfl arg5 A.e5 arg2 A.e2 (o := ![2, 0, 0]) rfl inb_S4x224x256_S1x224x256_2_0_0 (xoff10_true c) (k0_off10_inb c 1) (n := ⟨k0_dev12 c (w10 sw c), k0_dev12_lt c _ k0_hw1⟩) (Fin.ext (xdev12 sw c)) (sem_scratch3 _ A.e6 5 (o := ![5]) rfl inb_S10_S1_5) (sem_scratch6' _ A.e9 _ 2 (xoff9_true c) (k0_off9_inb c 0)) _ _ _ rfl ?_
  refine step_loadB m ρ sw K c false 3 arg0 A.e0 (xoff11_false c) (k0_off11_inb c 0) _ _ _ rfl ?_
  refine step_storeB m ρ sw K c 6 3 rfl arg4 A.e4 (o := ![3, 0, 0]) rfl inb_S4x224x256_S1x224x256_3_0_0 (xpay8 _) _ _ _ rfl ?_
  exact wp_pure_eq c _ rfl (h _)

/-- Part 7 of the kernel: copies of the exchange. -/
theorem part7 (c : Dev nD) (v5 : BitVec 32) (v8 : BitVec 32) (v10 : Elt F .i32) (k0_hw1 : k0_chk1 c v10) (v54 : BitVec 32) (hv : v10 = w10 sw c) (dn : List (Fin 10)) (l : List (Fin 10 × Bool)) (X : sProp 𝕄) {Q : (PUnit) → sProp 𝕄}
    (h : ∀ v, iprop(env m ρ sw K ∗ XSt m ρ sw c (7 :: 6 :: dn) ((8, true) :: l) ∗ X) ⊢ Q v) :
    iprop(env m ρ sw K ∗ XSt m ρ sw c dn ((6, true) :: (7, false) :: (8, false) :: l) ∗ X)
      ⊢ wp frame (wpE (defs₀ (F := F)) 𝒱₀ (c : Thread nD τ) none) Set.univ
          (k0_part7 arg0 harg0 arg1 harg1 arg2 harg2 arg3 harg3 arg4 harg4 arg5 harg5 arg6 arg7 arg8 arg9 arg10 arg11 arg12 arg13 c v5 v8 v10 k0_hw1 v54) Q := by
  subst hv
  rw [k0_part7_eq_skeleton, k0_part7_skel]
  refine step_sendB m ρ sw K c 6 3 rfl arg4 A.e4 arg2 A.e2 (o := ![3, 0, 0]) rfl inb_S4x224x256_S1x224x256_3_0_0 (xoff13_false c) (k0_off13_inb c 0) (n := ⟨k0_dev13 c (w10 sw c), k0_dev13_lt c _ k0_hw1⟩) (Fin.ext (xdev13 sw c)) (sem_scratch3 _ A.e6 6 (o := ![6]) rfl inb_S10_S1_6) (sem_scratch5' _ A.e8 _ 3 (xoff12_false c) (k0_off12_inb c 1)) _ _ _ rfl ?_
  refine step_loadB m ρ sw K c true 3 arg0 A.e0 (xoff11_true c) (k0_off11_inb c 1) _ _ _ rfl ?_
  refine step_storeC m ρ sw K c 7 3 rfl arg5 A.e5 (o := ![3, 0, 0]) rfl inb_S4x224x256_S1x224x256_3_0_0 (xpay9 _) _ _ _ rfl ?_
  refine step_sendC m ρ sw K c 7 3 rfl arg5 A.e5 arg2 A.e2 (o := ![3, 0, 0]) rfl inb_S4x224x256_S1x224x256_3_0_0 (xoff13_true c) (k0_off13_inb c 1) (n := ⟨k0_dev14 c (w10 sw c), k0_dev14_lt c _ k0_hw1⟩) (Fin.ext (xdev14 sw c)) (sem_scratch3 _ A.e6 7 (o := ![7]) rfl inb_S10_S1_7) (sem_scratch6' _ A.e9 _ 3 (xoff12_true c) (k0_off12_inb c 0)) _ _ _ rfl ?_
  refine step_loadA m ρ sw K c 0 arg0 A.e0 (o := ![0, 0, 0]) rfl inb_S1x2048x1024_S1x128x1024_0_0_0 _ _ _ rfl ?_
  refine step_storeA m ρ sw K c 8 0 rfl arg3 A.e3 (o := ![0, 0, 0]) rfl inb_S2x128x1024_S1x128x1024_0_0_0 (xpay10 _) _ _ _ rfl ?_
  exact wp_pure_eq c _ rfl (h _)

/-- Part 8 of the kernel: copies of the exchange. -/
theorem part8 (c : Dev nD) (v5 : BitVec 32) (v8 : BitVec 32) (v10 : Elt F .i32) (k0_hw1 : k0_chk1 c v10) (hv : v10 = w10 sw c) (dn : List (Fin 10)) (l : List (Fin 10 × Bool)) (X : sProp 𝕄) {Q : (PUnit) → sProp 𝕄}
    (h : ∀ v, iprop(env m ρ sw K ∗ XSt m ρ sw c (8 :: dn) ((9, true) :: l) ∗ X) ⊢ Q v) :
    iprop(env m ρ sw K ∗ XSt m ρ sw c dn ((8, true) :: (9, false) :: l) ∗ X)
      ⊢ wp frame (wpE (defs₀ (F := F)) 𝒱₀ (c : Thread nD τ) none) Set.univ
          (k0_part8 arg0 harg0 arg1 harg1 arg2 harg2 arg3 harg3 arg4 harg4 arg5 harg5 arg6 arg7 arg8 arg9 arg10 arg11 arg12 arg13 c v5 v8 v10 k0_hw1) Q := by
  subst hv
  rw [k0_part8_eq_skeleton, k0_part8_skel]
  refine step_sendA m ρ sw K c 8 0 rfl arg3 A.e3 arg2 A.e2 (o := ![0, 0, 0]) rfl inb_S2x128x1024_S1x128x1024_0_0_0 (o2 := ![0, 0, 0]) rfl inb_S1x2048x1024_S1x128x1024_0_0_0 (n := ⟨k0_dev15 c (w10 sw c), k0_dev15_lt c _ k0_hw1⟩) (Fin.ext (xdev15 sw c)) (sem_scratch3 _ A.e6 8 (o := ![8]) rfl inb_S10_S1_8) (sem_scratch4 _ A.e7 0 (o := ![0]) rfl inb_S2_S1_0) _ _ _ rfl ?_
  refine step_loadA m ρ sw K c 1 arg0 A.e0 (o := ![0, 128, 0]) rfl inb_S1x2048x1024_S1x128x1024_0_128_0 _ _ _ rfl ?_
  refine step_storeA m ρ sw K c 9 1 rfl arg3 A.e3 (o := ![1, 0, 0]) rfl inb_S2x128x1024_S1x128x1024_1_0_0 (xpay11 _) _ _ _ rfl ?_
  exact wp_pure_eq c _ rfl (h _)

omit A in
/-- From the exchange to the steps. -/
theorem x_to_h (c : Dev nD) (dn : List (Fin 10)) (X : sProp 𝕄) :
    iprop(env m ρ sw K ∗ XSt m ρ sw c dn [] ∗ bigSepL slots (HPre c) ∗ X)
      ⊢ iprop(env m ρ sw K ∗ HSt m ρ sw c [] slots ∗ xbuf m ρ c ∗ bigSepL dn (XPost c) ∗ X) := by
  unfold XSt HSt
  iintro ⟨#He, ⟨HO, Hx, -, Hd⟩, HP, HX⟩
  isplitr; · iexact He
  isplitl [HO HP]
  · isplitl [HO]; · iexact HO
    isplitl [HP]; · iexact HP
    iempintro
  isplitl [Hx]; · iexact Hx
  isplitl [Hd]; · iexact Hd
  iexact HX

/-- Part 9 of the kernel: the last copy of the exchange, then the steps 0 to 4. -/
theorem part9 (c : Dev nD) (v2 : BitVec 32) (v5 : BitVec 32) (v8 : BitVec 32) (v10 : Elt F .i32) (k0_hw1 : k0_chk1 c v10) (hv : v10 = w10 sw c) (dn : List (Fin 10)) (l : List Slot) (hs : (false, 3, 0) :: (true, 3, 0) :: (false, 3, 1) :: (true, 3, 1) :: (false, 3, 2) :: l = slots) (X : sProp 𝕄) {Q : (Σ' (v253 : BitVec 32) (v254 : BitVec 32) (v257 : BitVec 1) (v260 : BitVec 1), BitVec 32) → sProp 𝕄}
    (h : ∀ v, iprop(env m ρ sw K ∗ HSt m ρ sw c [(false, 3, 2), (true, 3, 1), (false, 3, 1), (true, 3, 0), (false, 3, 0)] l ∗ xbuf m ρ c ∗ bigSepL (9 :: dn) (XPost c) ∗ X) ⊢ Q v) :
    iprop(env m ρ sw K ∗ XSt m ρ sw c dn [(9, true)] ∗ bigSepL slots (HPre c) ∗ X)
      ⊢ wp frame (wpE (defs₀ (F := F)) 𝒱₀ (c : Thread nD τ) none) Set.univ
          (k0_part9 arg0 harg0 arg1 harg1 arg2 harg2 arg3 harg3 arg4 harg4 arg5 harg5 arg6 arg7 arg8 arg9 arg10 arg11 arg12 arg13 c v2 v5 v8 v10 k0_hw1) Q := by
  subst hv
  have hp : ((false, 3, 0) :: (true, 3, 0) :: (false, 3, 1) :: (true, 3, 1) :: (false, 3, 2) :: l).Pairwise fun x y => dist x.2.1 ≤ dist y.2.1 := hs ▸ slots_sorted
  rw [k0_part9_eq_skeleton, k0_part9_skel]
  refine step_sendA m ρ sw K c 9 1 rfl arg3 A.e3 arg2 A.e2 (o := ![1, 0, 0]) rfl inb_S2x128x1024_S1x128x1024_1_0_0 (o2 := ![0, 128, 0]) rfl inb_S1x2048x1024_S1x128x1024_0_128_0 (n := ⟨k0_dev16 c (w10 sw c), k0_dev16_lt c _ k0_hw1⟩) (Fin.ext (xdev16 sw c)) (sem_scratch3 _ A.e6 9 (o := ![9]) rfl inb_S10_S1_9) (sem_scratch4 _ A.e7 1 (o := ![1]) rfl inb_S2_S1_1) _ _ _ rfl ?_
  refine (x_to_h m ρ sw K c (9 :: dn) X).trans ?_
  rw [← hs]
  refine step_handle m ρ sw K c false 3 0 _ _ _ (List.pairwise_cons.mp hp).1 arg8 arg10 arg11 (sem_scratch5 _ A.e8) (sem_scratch7 _ A.e10) (sem_scratch8 _ A.e11) (hf0 c) arg2 A.e2 arg4 A.e4 harg2 harg4 (k0_off14_inb c) (k0_off15_inb c) (k0_off15_wordsbf16 c) (k0_off16_inb c) (k0_off17_inb c) (k0_off17_wordsbf16 c) (k0_dev17_lt c) (k0_off18_inb c) (k0_off19_inb c) (k0_off19_wordsbf16 c) (k0_dev18_lt c) rfl ?_
  have hp1 := (List.pairwise_cons.mp hp).2
  refine step_handle m ρ sw K c true 3 0 _ _ _ (List.pairwise_cons.mp hp1).1 arg9 arg12 arg13 (sem_scratch6 _ A.e9) (sem_scratch9 _ A.e12) (sem_scratch10 _ A.e13) (hf1 c) arg2 A.e2 arg4 A.e4 harg2 harg4 (k0_off20_inb c) (k0_off21_inb c) (k0_off21_wordsbf16 c) (k0_off22_inb c) (k0_off23_inb c) (k0_off23_wordsbf16 c) (k0_dev19_lt c) (k0_off24_inb c) (k0_off25_inb c) (k0_off25_wordsbf16 c) (k0_dev20_lt c) rfl ?_
  have hp2 := (List.pairwise_cons.mp hp1).2
  refine step_handle m ρ sw K c false 3 1 _ _ _ (List.pairwise_cons.mp hp2).1 arg8 arg10 arg11 (sem_scratch5 _ A.e8) (sem_scratch7 _ A.e10) (sem_scratch8 _ A.e11) (hf2 c) arg2 A.e2 arg4 A.e4 harg2 harg4 (k0_off26_inb c) (k0_off27_inb c) (k0_off27_wordsbf16 c) (k0_off28_inb c) (k0_off29_inb c) (k0_off29_wordsbf16 c) (k0_dev21_lt c) (k0_off30_inb c) (k0_off31_inb c) (k0_off31_wordsbf16 c) (k0_dev22_lt c) rfl ?_
  have hp3 := (List.pairwise_cons.mp hp2).2
  refine step_handle m ρ sw K c true 3 1 _ _ _ (List.pairwise_cons.mp hp3).1 arg9 arg12 arg13 (sem_scratch6 _ A.e9) (sem_scratch9 _ A.e12) (sem_scratch10 _ A.e13) (hf3 c) arg2 A.e2 arg4 A.e4 harg2 harg4 (k0_off32_inb c) (k0_off33_inb c) (k0_off33_wordsbf16 c) (k0_off34_inb c) (k0_off35_inb c) (k0_off35_wordsbf16 c) (k0_dev23_lt c) (k0_off36_inb c) (k0_off37_inb c) (k0_off37_wordsbf16 c) (k0_dev24_lt c) rfl ?_
  have hp4 := (List.pairwise_cons.mp hp3).2
  refine step_handle m ρ sw K c false 3 2 _ _ _ (List.pairwise_cons.mp hp4).1 arg8 arg10 arg11 (sem_scratch5 _ A.e8) (sem_scratch7 _ A.e10) (sem_scratch8 _ A.e11) (hf4 c) arg2 A.e2 arg4 A.e4 harg2 harg4 (k0_off38_inb c) (k0_off39_inb c) (k0_off39_wordsbf16 c) (k0_off40_inb c) (k0_off41_inb c) (k0_off41_wordsbf16 c) (k0_dev25_lt c) (k0_off42_inb c) (k0_off43_inb c) (k0_off43_wordsbf16 c) (k0_dev26_lt c) rfl ?_
  exact wp_pure_eq c _ rfl (h _)

end Cert.KProof

end
-- ==== Proof.WParts.lean ====
/-
Parts 18 to 21 of the kernel: the waits of the exchange.
-/
module

public import proofs.«01_k».proof.Proof.Facts
public import proofs.«01_k».proof.Proof.Waits
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Part 18 of the kernel: the last steps, then the waits for the `A` pieces. -/
theorem part18 (c : Dev nD) (v2 : BitVec 32) (v5 : BitVec 32) (v8 : BitVec 32) (v493 : BitVec 32) (v494 : BitVec 32) (v500 : BitVec 1) (v525 : BitVec 32) (v526 : BitVec 32) (v527 : BitVec 32) (c0_i32_378 : BitVec 32) (dn : List Slot) (l : List Kd) (hp : ([(false, 0, 3), (true, 0, 3)] : List Slot).Pairwise fun x y => dist x.2.1 ≤ dist y.2.1) (X : sProp 𝕄) {Q : (PUnit) → sProp 𝕄}
    (h : ∀ v, iprop(env m ρ sw K ∗ KSt m ρ sw c [.a 1, .a 0] l ∗ bigSepL ((true, 0, 3) :: (false, 0, 3) :: dn) (HPost m ρ sw c) ∗ X) ⊢ Q v) :
    iprop(env m ρ sw K ∗ HSt m ρ sw c dn [(false, 0, 3), (true, 0, 3)] ∗ bigSepL ((.a 0 : Kd) :: .a 1 :: l) (KPre c) ∗ X)
      ⊢ wp frame (wpE (defs₀ (F := F)) 𝒱₀ (c : Thread nD τ) none) Set.univ
          (k0_part18 arg0 harg0 arg1 harg1 arg2 harg2 arg3 harg3 arg4 harg4 arg5 harg5 arg6 arg7 arg8 arg9 arg10 arg11 arg12 arg13 c v2 v5 v8 v493 v494 v500 v525 v526 v527 c0_i32_378) Q := by
  rw [k0_part18_eq_skeleton, k0_part18_skel]
  refine step_handle m ρ sw K c false 0 3 _ _ _ (List.pairwise_cons.mp hp).1 arg8 arg10 arg11 (sem_scratch5 _ A.e8) (sem_scratch7 _ A.e10) (sem_scratch8 _ A.e11) (hf54 c) arg2 A.e2 arg4 A.e4 harg2 harg4 (k0_off338_inb c) (k0_off339_inb c) (k0_off339_wordsbf16 c) (k0_off340_inb c) (k0_off341_inb c) (k0_off341_wordsbf16 c) (k0_dev125_lt c) (k0_off342_inb c) (k0_off343_inb c) (k0_off343_wordsbf16 c) (k0_dev126_lt c) rfl ?_
  have hp1 := (List.pairwise_cons.mp hp).2
  refine step_handle m ρ sw K c true 0 3 _ _ _ (List.pairwise_cons.mp hp1).1 arg9 arg12 arg13 (sem_scratch6 _ A.e9) (sem_scratch9 _ A.e12) (sem_scratch10 _ A.e13) (hf55 c) arg2 A.e2 arg4 A.e4 harg2 harg4 (k0_off344_inb c) (k0_off345_inb c) (k0_off345_wordsbf16 c) (k0_off346_inb c) (k0_off347_inb c) (k0_off347_wordsbf16 c) (k0_dev127_lt c) (k0_off348_inb c) (k0_off349_inb c) (k0_off349_wordsbf16 c) (k0_dev128_lt c) rfl ?_
  refine (h_to_k m ρ sw K c _ _ X).trans ?_
  refine step_wait m ρ sw K c (.a 0) rfl (sem_scratch4 _ A.e7 0 (o := ![0]) rfl inb_S2_S1_0) (amt_arg2A arg2 A.e2 inb_S1x2048x1024_S1x128x1024_0_0_0) _ _ _ rfl ?_
  refine step_wait m ρ sw K c (.a 1) rfl (sem_scratch4 _ A.e7 1 (o := ![1]) rfl inb_S2_S1_1) (amt_arg2A arg2 A.e2 inb_S1x2048x1024_S1x128x1024_0_128_0) _ _ _ rfl ?_
  exact wp_pure_eq c _ rfl (h _)

/-- Part 19 of the kernel: waits of the exchange. -/
theorem part19 (c : Dev nD)  (dn l : List Kd) (X : sProp 𝕄) {Q : (PUnit) → sProp 𝕄}
    (h : ∀ v, iprop(env m ρ sw K ∗ KSt m ρ sw c ((.x 3 : Kd) :: (.x 2 : Kd) :: (.x 1 : Kd) :: (.x 0 : Kd) :: dn) l ∗ X) ⊢ Q v) :
    iprop(env m ρ sw K ∗ KSt m ρ sw c dn ((.x 0 : Kd) :: (.x 1 : Kd) :: (.x 2 : Kd) :: (.x 3 : Kd) :: l) ∗ X)
      ⊢ wp frame (wpE (defs₀ (F := F)) 𝒱₀ (c : Thread nD τ) none) Set.univ
          (k0_part19 arg0 harg0 arg1 harg1 arg2 harg2 arg3 harg3 arg4 harg4 arg5 harg5 arg6 arg7 arg8 arg9 arg10 arg11 arg12 arg13 c) Q := by
  rw [k0_part19_eq_skeleton, k0_part19_skel]
  refine step_wait m ρ sw K c (.x 0) rfl (sem_scratch3 _ A.e6 0 (o := ![0]) rfl inb_S10_S1_0) (amt_arg4 arg4 A.e4 inb_S4x224x256_S1x224x256_0_0_0) _ _ _ rfl ?_
  refine step_wait m ρ sw K c (.x 1) rfl (sem_scratch3 _ A.e6 1 (o := ![1]) rfl inb_S10_S1_1) (amt_arg5 arg5 A.e5 inb_S4x224x256_S1x224x256_0_0_0) _ _ _ rfl ?_
  refine step_wait m ρ sw K c (.x 2) rfl (sem_scratch3 _ A.e6 2 (o := ![2]) rfl inb_S10_S1_2) (amt_arg4 arg4 A.e4 inb_S4x224x256_S1x224x256_1_0_0) _ _ _ rfl ?_
  refine step_wait m ρ sw K c (.x 3) rfl (sem_scratch3 _ A.e6 3 (o := ![3]) rfl inb_S10_S1_3) (amt_arg5 arg5 A.e5 inb_S4x224x256_S1x224x256_1_0_0) _ _ _ rfl ?_
  exact wp_pure_eq c _ rfl (h _)

/-- Part 20 of the kernel: waits of the exchange. -/
theorem part20 (c : Dev nD)  (dn l : List Kd) (X : sProp 𝕄) {Q : (PUnit) → sProp 𝕄}
    (h : ∀ v, iprop(env m ρ sw K ∗ KSt m ρ sw c ((.x 7 : Kd) :: (.x 6 : Kd) :: (.x 5 : Kd) :: (.x 4 : Kd) :: dn) l ∗ X) ⊢ Q v) :
    iprop(env m ρ sw K ∗ KSt m ρ sw c dn ((.x 4 : Kd) :: (.x 5 : Kd) :: (.x 6 : Kd) :: (.x 7 : Kd) :: l) ∗ X)
      ⊢ wp frame (wpE (defs₀ (F := F)) 𝒱₀ (c : Thread nD τ) none) Set.univ
          (k0_part20 arg0 harg0 arg1 harg1 arg2 harg2 arg3 harg3 arg4 harg4 arg5 harg5 arg6 arg7 arg8 arg9 arg10 arg11 arg12 arg13 c) Q := by
  rw [k0_part20_eq_skeleton, k0_part20_skel]
  refine step_wait m ρ sw K c (.x 4) rfl (sem_scratch3 _ A.e6 4 (o := ![4]) rfl inb_S10_S1_4) (amt_arg4 arg4 A.e4 inb_S4x224x256_S1x224x256_2_0_0) _ _ _ rfl ?_
  refine step_wait m ρ sw K c (.x 5) rfl (sem_scratch3 _ A.e6 5 (o := ![5]) rfl inb_S10_S1_5) (amt_arg5 arg5 A.e5 inb_S4x224x256_S1x224x256_2_0_0) _ _ _ rfl ?_
  refine step_wait m ρ sw K c (.x 6) rfl (sem_scratch3 _ A.e6 6 (o := ![6]) rfl inb_S10_S1_6) (amt_arg4 arg4 A.e4 inb_S4x224x256_S1x224x256_3_0_0) _ _ _ rfl ?_
  refine step_wait m ρ sw K c (.x 7) rfl (sem_scratch3 _ A.e6 7 (o := ![7]) rfl inb_S10_S1_7) (amt_arg5 arg5 A.e5 inb_S4x224x256_S1x224x256_3_0_0) _ _ _ rfl ?_
  exact wp_pure_eq c _ rfl (h _)

/-- Part 21 of the kernel: waits of the exchange. -/
theorem part21 (c : Dev nD) (v5 : BitVec 32) (v8 : BitVec 32) (dn l : List Kd) (X : sProp 𝕄) {Q : (Σ' (v617 : BitVec 32) (v618 : BitVec 32) (v621 : BitVec 1) (v624 : BitVec 1), BitVec 32) → sProp 𝕄}
    (h : ∀ v, iprop(env m ρ sw K ∗ KSt m ρ sw c ((.x 9 : Kd) :: (.x 8 : Kd) :: dn) l ∗ X) ⊢ Q v) :
    iprop(env m ρ sw K ∗ KSt m ρ sw c dn ((.x 8 : Kd) :: (.x 9 : Kd) :: l) ∗ X)
      ⊢ wp frame (wpE (defs₀ (F := F)) 𝒱₀ (c : Thread nD τ) none) Set.univ
          (k0_part21 arg0 harg0 arg1 harg1 arg2 harg2 arg3 harg3 arg4 harg4 arg5 harg5 arg6 arg7 arg8 arg9 arg10 arg11 arg12 arg13 v5 v8) Q := by
  rw [k0_part21_eq_skeleton, k0_part21_skel]
  refine step_wait m ρ sw K c (.x 8) rfl (sem_scratch3 _ A.e6 8 (o := ![8]) rfl inb_S10_S1_8) (amt_arg3 arg3 A.e3 inb_S2x128x1024_S1x128x1024_0_0_0) _ _ _ rfl ?_
  refine step_wait m ρ sw K c (.x 9) rfl (sem_scratch3 _ A.e6 9 (o := ![9]) rfl inb_S10_S1_9) (amt_arg3 arg3 A.e3 inb_S2x128x1024_S1x128x1024_1_0_0) _ _ _ rfl ?_
  exact wp_pure_eq c _ rfl (h _)

end Cert.KProof

end
-- ==== Proof.Steps.lean ====
/-
The steps of the kernel, printed part by printed part.
-/
module

public import proofs.«01_k».proof.Proof.Facts
public import proofs.«01_k».proof.Proof.Hand
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Steps 5 to 10 of the kernel. -/
theorem part10 (c : Dev nD) (v2 : BitVec 32) (v5 : BitVec 32) (v8 : BitVec 32) (v253 : BitVec 32) (v254 : BitVec 32) (v257 : BitVec 1) (v260 : BitVec 1) (v281 : BitVec 32) (dn l : List Slot) (hp : ((true, 3, 2) :: (false, 3, 3) :: (true, 3, 3) :: (false, 4, 0) :: (true, 4, 0) :: (false, 4, 1) :: l).Pairwise fun x y => dist x.2.1 ≤ dist y.2.1) (X : sProp 𝕄) {Q : (Σ' (v293 : BitVec 32) (v294 : BitVec 32) (v297 : BitVec 1), BitVec 1) → sProp 𝕄}
    (h : ∀ v, iprop(env m ρ sw K ∗ HSt m ρ sw c ((false, 4, 1) :: (true, 4, 0) :: (false, 4, 0) :: (true, 3, 3) :: (false, 3, 3) :: (true, 3, 2) :: dn) l ∗ X) ⊢ Q v) :
    iprop(env m ρ sw K ∗ HSt m ρ sw c dn ((true, 3, 2) :: (false, 3, 3) :: (true, 3, 3) :: (false, 4, 0) :: (true, 4, 0) :: (false, 4, 1) :: l) ∗ X)
      ⊢ wp frame (wpE (defs₀ (F := F)) 𝒱₀ (c : Thread nD τ) none) Set.univ
          (k0_part10 arg0 harg0 arg1 harg1 arg2 harg2 arg3 harg3 arg4 harg4 arg5 harg5 arg6 arg7 arg8 arg9 arg10 arg11 arg12 arg13 c v2 v5 v8 v253 v254 v257 v260 v281) Q := by
  rw [k0_part10_eq_skeleton, k0_part10_skel]
  refine step_handle m ρ sw K c true 3 2 _ _ _ (List.pairwise_cons.mp hp).1 arg9 arg12 arg13 (sem_scratch6 _ A.e9) (sem_scratch9 _ A.e12) (sem_scratch10 _ A.e13) (hf5 c) arg2 A.e2 arg4 A.e4 harg2 harg4 (k0_off44_inb c) (k0_off45_inb c) (k0_off45_wordsbf16 c) (k0_off46_inb c) (k0_off47_inb c) (k0_off47_wordsbf16 c) (k0_dev27_lt c) (k0_off48_inb c) (k0_off49_inb c) (k0_off49_wordsbf16 c) (k0_dev28_lt c) rfl ?_
  have hp1 := (List.pairwise_cons.mp hp).2
  refine step_handle m ρ sw K c false 3 3 _ _ _ (List.pairwise_cons.mp hp1).1 arg8 arg10 arg11 (sem_scratch5 _ A.e8) (sem_scratch7 _ A.e10) (sem_scratch8 _ A.e11) (hf6 c) arg2 A.e2 arg4 A.e4 harg2 harg4 (k0_off50_inb c) (k0_off51_inb c) (k0_off51_wordsbf16 c) (k0_off52_inb c) (k0_off53_inb c) (k0_off53_wordsbf16 c) (k0_dev29_lt c) (k0_off54_inb c) (k0_off55_inb c) (k0_off55_wordsbf16 c) (k0_dev30_lt c) rfl ?_
  have hp2 := (List.pairwise_cons.mp hp1).2
  refine step_handle m ρ sw K c true 3 3 _ _ _ (List.pairwise_cons.mp hp2).1 arg9 arg12 arg13 (sem_scratch6 _ A.e9) (sem_scratch9 _ A.e12) (sem_scratch10 _ A.e13) (hf7 c) arg2 A.e2 arg4 A.e4 harg2 harg4 (k0_off56_inb c) (k0_off57_inb c) (k0_off57_wordsbf16 c) (k0_off58_inb c) (k0_off59_inb c) (k0_off59_wordsbf16 c) (k0_dev31_lt c) (k0_off60_inb c) (k0_off61_inb c) (k0_off61_wordsbf16 c) (k0_dev32_lt c) rfl ?_
  have hp3 := (List.pairwise_cons.mp hp2).2
  refine step_handle m ρ sw K c false 4 0 _ _ _ (List.pairwise_cons.mp hp3).1 arg8 arg10 arg11 (sem_scratch5 _ A.e8) (sem_scratch7 _ A.e10) (sem_scratch8 _ A.e11) (hf8 c) arg2 A.e2 arg4 A.e4 harg2 harg4 (k0_off62_inb c) (k0_off63_inb c) (k0_off63_wordsbf16 c) (k0_off64_inb c) (k0_off65_inb c) (k0_off65_wordsbf16 c) (k0_dev33_lt c) (k0_off66_inb c) (k0_off67_inb c) (k0_off67_wordsbf16 c) (k0_dev34_lt c) rfl ?_
  have hp4 := (List.pairwise_cons.mp hp3).2
  refine step_handle m ρ sw K c true 4 0 _ _ _ (List.pairwise_cons.mp hp4).1 arg9 arg12 arg13 (sem_scratch6 _ A.e9) (sem_scratch9 _ A.e12) (sem_scratch10 _ A.e13) (hf9 c) arg2 A.e2 arg4 A.e4 harg2 harg4 (k0_off68_inb c) (k0_off69_inb c) (k0_off69_wordsbf16 c) (k0_off70_inb c) (k0_off71_inb c) (k0_off71_wordsbf16 c) (k0_dev35_lt c) (k0_off72_inb c) (k0_off73_inb c) (k0_off73_wordsbf16 c) (k0_dev36_lt c) rfl ?_
  have hp5 := (List.pairwise_cons.mp hp4).2
  refine step_handle m ρ sw K c false 4 1 _ _ _ (List.pairwise_cons.mp hp5).1 arg8 arg10 arg11 (sem_scratch5 _ A.e8) (sem_scratch7 _ A.e10) (sem_scratch8 _ A.e11) (hf10 c) arg2 A.e2 arg4 A.e4 harg2 harg4 (k0_off74_inb c) (k0_off75_inb c) (k0_off75_wordsbf16 c) (k0_off76_inb c) (k0_off77_inb c) (k0_off77_wordsbf16 c) (k0_dev37_lt c) (k0_off78_inb c) (k0_off79_inb c) (k0_off79_wordsbf16 c) (k0_dev38_lt c) rfl ?_
  exact wp_pure_eq c _ rfl (h _)

/-- Steps 11 to 15 of the kernel. -/
theorem part11 (c : Dev nD) (v2 : BitVec 32) (v5 : BitVec 32) (v8 : BitVec 32) (v293 : BitVec 32) (v294 : BitVec 32) (v297 : BitVec 1) (v300 : BitVec 1) (dn l : List Slot) (hp : ((true, 4, 1) :: (false, 4, 2) :: (true, 4, 2) :: (false, 4, 3) :: (true, 4, 3) :: l).Pairwise fun x y => dist x.2.1 ≤ dist y.2.1) (X : sProp 𝕄) {Q : (Σ' (v333 : BitVec 32) (v334 : BitVec 32) (v337 : BitVec 1) (v340 : BitVec 1) (v341 : BitVec 32) (v342 : BitVec 32) (v343 : BitVec 32), BitVec 32) → sProp 𝕄}
    (h : ∀ v, iprop(env m ρ sw K ∗ HSt m ρ sw c ((true, 4, 3) :: (false, 4, 3) :: (true, 4, 2) :: (false, 4, 2) :: (true, 4, 1) :: dn) l ∗ X) ⊢ Q v) :
    iprop(env m ρ sw K ∗ HSt m ρ sw c dn ((true, 4, 1) :: (false, 4, 2) :: (true, 4, 2) :: (false, 4, 3) :: (true, 4, 3) :: l) ∗ X)
      ⊢ wp frame (wpE (defs₀ (F := F)) 𝒱₀ (c : Thread nD τ) none) Set.univ
          (k0_part11 arg0 harg0 arg1 harg1 arg2 harg2 arg3 harg3 arg4 harg4 arg5 harg5 arg6 arg7 arg8 arg9 arg10 arg11 arg12 arg13 c v2 v5 v8 v293 v294 v297 v300) Q := by
  rw [k0_part11_eq_skeleton, k0_part11_skel]
  refine step_handle m ρ sw K c true 4 1 _ _ _ (List.pairwise_cons.mp hp).1 arg9 arg12 arg13 (sem_scratch6 _ A.e9) (sem_scratch9 _ A.e12) (sem_scratch10 _ A.e13) (hf11 c) arg2 A.e2 arg4 A.e4 harg2 harg4 (k0_off80_inb c) (k0_off81_inb c) (k0_off81_wordsbf16 c) (k0_off82_inb c) (k0_off83_inb c) (k0_off83_wordsbf16 c) (k0_dev39_lt c) (k0_off84_inb c) (k0_off85_inb c) (k0_off85_wordsbf16 c) (k0_dev40_lt c) rfl ?_
  have hp1 := (List.pairwise_cons.mp hp).2
  refine step_handle m ρ sw K c false 4 2 _ _ _ (List.pairwise_cons.mp hp1).1 arg8 arg10 arg11 (sem_scratch5 _ A.e8) (sem_scratch7 _ A.e10) (sem_scratch8 _ A.e11) (hf12 c) arg2 A.e2 arg4 A.e4 harg2 harg4 (k0_off86_inb c) (k0_off87_inb c) (k0_off87_wordsbf16 c) (k0_off88_inb c) (k0_off89_inb c) (k0_off89_wordsbf16 c) (k0_dev41_lt c) (k0_off90_inb c) (k0_off91_inb c) (k0_off91_wordsbf16 c) (k0_dev42_lt c) rfl ?_
  have hp2 := (List.pairwise_cons.mp hp1).2
  refine step_handle m ρ sw K c true 4 2 _ _ _ (List.pairwise_cons.mp hp2).1 arg9 arg12 arg13 (sem_scratch6 _ A.e9) (sem_scratch9 _ A.e12) (sem_scratch10 _ A.e13) (hf13 c) arg2 A.e2 arg4 A.e4 harg2 harg4 (k0_off92_inb c) (k0_off93_inb c) (k0_off93_wordsbf16 c) (k0_off94_inb c) (k0_off95_inb c) (k0_off95_wordsbf16 c) (k0_dev43_lt c) (k0_off96_inb c) (k0_off97_inb c) (k0_off97_wordsbf16 c) (k0_dev44_lt c) rfl ?_
  have hp3 := (List.pairwise_cons.mp hp2).2
  refine step_handle m ρ sw K c false 4 3 _ _ _ (List.pairwise_cons.mp hp3).1 arg8 arg10 arg11 (sem_scratch5 _ A.e8) (sem_scratch7 _ A.e10) (sem_scratch8 _ A.e11) (hf14 c) arg2 A.e2 arg4 A.e4 harg2 harg4 (k0_off98_inb c) (k0_off99_inb c) (k0_off99_wordsbf16 c) (k0_off100_inb c) (k0_off101_inb c) (k0_off101_wordsbf16 c) (k0_dev45_lt c) (k0_off102_inb c) (k0_off103_inb c) (k0_off103_wordsbf16 c) (k0_dev46_lt c) rfl ?_
  have hp4 := (List.pairwise_cons.mp hp3).2
  refine step_handle m ρ sw K c true 4 3 _ _ _ (List.pairwise_cons.mp hp4).1 arg9 arg12 arg13 (sem_scratch6 _ A.e9) (sem_scratch9 _ A.e12) (sem_scratch10 _ A.e13) (hf15 c) arg2 A.e2 arg4 A.e4 harg2 harg4 (k0_off104_inb c) (k0_off105_inb c) (k0_off105_wordsbf16 c) (k0_off106_inb c) (k0_off107_inb c) (k0_off107_wordsbf16 c) (k0_dev47_lt c) (k0_off108_inb c) (k0_off109_inb c) (k0_off109_wordsbf16 c) (k0_dev48_lt c) rfl ?_
  exact wp_pure_eq c _ rfl (h _)

/-- Steps 16 to 23 of the kernel. -/
theorem part12 (c : Dev nD) (v2 : BitVec 32) (v5 : BitVec 32) (v8 : BitVec 32) (v333 : BitVec 32) (v334 : BitVec 32) (v337 : BitVec 1) (v340 : BitVec 1) (v341 : BitVec 32) (v342 : BitVec 32) (v343 : BitVec 32) (c0_i32_242 : BitVec 32) (dn l : List Slot) (hp : ((false, 2, 0) :: (true, 2, 0) :: (false, 2, 1) :: (true, 2, 1) :: (false, 2, 2) :: (true, 2, 2) :: (false, 2, 3) :: (true, 2, 3) :: l).Pairwise fun x y => dist x.2.1 ≤ dist y.2.1) (X : sProp 𝕄) {Q : (BitVec 32) → sProp 𝕄}
    (h : ∀ v, iprop(env m ρ sw K ∗ HSt m ρ sw c ((true, 2, 3) :: (false, 2, 3) :: (true, 2, 2) :: (false, 2, 2) :: (true, 2, 1) :: (false, 2, 1) :: (true, 2, 0) :: (false, 2, 0) :: dn) l ∗ X) ⊢ Q v) :
    iprop(env m ρ sw K ∗ HSt m ρ sw c dn ((false, 2, 0) :: (true, 2, 0) :: (false, 2, 1) :: (true, 2, 1) :: (false, 2, 2) :: (true, 2, 2) :: (false, 2, 3) :: (true, 2, 3) :: l) ∗ X)
      ⊢ wp frame (wpE (defs₀ (F := F)) 𝒱₀ (c : Thread nD τ) none) Set.univ
          (k0_part12 arg0 harg0 arg1 harg1 arg2 harg2 arg3 harg3 arg4 harg4 arg5 harg5 arg6 arg7 arg8 arg9 arg10 arg11 arg12 arg13 c v2 v5 v8 v333 v334 v337 v340 v341 v342 v343 c0_i32_242) Q := by
  rw [k0_part12_eq_skeleton, k0_part12_skel]
  refine step_handle m ρ sw K c false 2 0 _ _ _ (List.pairwise_cons.mp hp).1 arg8 arg10 arg11 (sem_scratch5 _ A.e8) (sem_scratch7 _ A.e10) (sem_scratch8 _ A.e11) (hf16 c) arg2 A.e2 arg4 A.e4 harg2 harg4 (k0_off110_inb c) (k0_off111_inb c) (k0_off111_wordsbf16 c) (k0_off112_inb c) (k0_off113_inb c) (k0_off113_wordsbf16 c) (k0_dev49_lt c) (k0_off114_inb c) (k0_off115_inb c) (k0_off115_wordsbf16 c) (k0_dev50_lt c) rfl ?_
  have hp1 := (List.pairwise_cons.mp hp).2
  refine step_handle m ρ sw K c true 2 0 _ _ _ (List.pairwise_cons.mp hp1).1 arg9 arg12 arg13 (sem_scratch6 _ A.e9) (sem_scratch9 _ A.e12) (sem_scratch10 _ A.e13) (hf17 c) arg2 A.e2 arg4 A.e4 harg2 harg4 (k0_off116_inb c) (k0_off117_inb c) (k0_off117_wordsbf16 c) (k0_off118_inb c) (k0_off119_inb c) (k0_off119_wordsbf16 c) (k0_dev51_lt c) (k0_off120_inb c) (k0_off121_inb c) (k0_off121_wordsbf16 c) (k0_dev52_lt c) rfl ?_
  have hp2 := (List.pairwise_cons.mp hp1).2
  refine step_handle m ρ sw K c false 2 1 _ _ _ (List.pairwise_cons.mp hp2).1 arg8 arg10 arg11 (sem_scratch5 _ A.e8) (sem_scratch7 _ A.e10) (sem_scratch8 _ A.e11) (hf18 c) arg2 A.e2 arg4 A.e4 harg2 harg4 (k0_off122_inb c) (k0_off123_inb c) (k0_off123_wordsbf16 c) (k0_off124_inb c) (k0_off125_inb c) (k0_off125_wordsbf16 c) (k0_dev53_lt c) (k0_off126_inb c) (k0_off127_inb c) (k0_off127_wordsbf16 c) (k0_dev54_lt c) rfl ?_
  have hp3 := (List.pairwise_cons.mp hp2).2
  refine step_handle m ρ sw K c true 2 1 _ _ _ (List.pairwise_cons.mp hp3).1 arg9 arg12 arg13 (sem_scratch6 _ A.e9) (sem_scratch9 _ A.e12) (sem_scratch10 _ A.e13) (hf19 c) arg2 A.e2 arg4 A.e4 harg2 harg4 (k0_off128_inb c) (k0_off129_inb c) (k0_off129_wordsbf16 c) (k0_off130_inb c) (k0_off131_inb c) (k0_off131_wordsbf16 c) (k0_dev55_lt c) (k0_off132_inb c) (k0_off133_inb c) (k0_off133_wordsbf16 c) (k0_dev56_lt c) rfl ?_
  have hp4 := (List.pairwise_cons.mp hp3).2
  refine step_handle m ρ sw K c false 2 2 _ _ _ (List.pairwise_cons.mp hp4).1 arg8 arg10 arg11 (sem_scratch5 _ A.e8) (sem_scratch7 _ A.e10) (sem_scratch8 _ A.e11) (hf20 c) arg2 A.e2 arg4 A.e4 harg2 harg4 (k0_off134_inb c) (k0_off135_inb c) (k0_off135_wordsbf16 c) (k0_off136_inb c) (k0_off137_inb c) (k0_off137_wordsbf16 c) (k0_dev57_lt c) (k0_off138_inb c) (k0_off139_inb c) (k0_off139_wordsbf16 c) (k0_dev58_lt c) rfl ?_
  have hp5 := (List.pairwise_cons.mp hp4).2
  refine step_handle m ρ sw K c true 2 2 _ _ _ (List.pairwise_cons.mp hp5).1 arg9 arg12 arg13 (sem_scratch6 _ A.e9) (sem_scratch9 _ A.e12) (sem_scratch10 _ A.e13) (hf21 c) arg2 A.e2 arg4 A.e4 harg2 harg4 (k0_off140_inb c) (k0_off141_inb c) (k0_off141_wordsbf16 c) (k0_off142_inb c) (k0_off143_inb c) (k0_off143_wordsbf16 c) (k0_dev59_lt c) (k0_off144_inb c) (k0_off145_inb c) (k0_off145_wordsbf16 c) (k0_dev60_lt c) rfl ?_
  have hp6 := (List.pairwise_cons.mp hp5).2
  refine step_handle m ρ sw K c false 2 3 _ _ _ (List.pairwise_cons.mp hp6).1 arg8 arg10 arg11 (sem_scratch5 _ A.e8) (sem_scratch7 _ A.e10) (sem_scratch8 _ A.e11) (hf22 c) arg2 A.e2 arg4 A.e4 harg2 harg4 (k0_off146_inb c) (k0_off147_inb c) (k0_off147_wordsbf16 c) (k0_off148_inb c) (k0_off149_inb c) (k0_off149_wordsbf16 c) (k0_dev61_lt c) (k0_off150_inb c) (k0_off151_inb c) (k0_off151_wordsbf16 c) (k0_dev62_lt c) rfl ?_
  have hp7 := (List.pairwise_cons.mp hp6).2
  refine step_handle m ρ sw K c true 2 3 _ _ _ (List.pairwise_cons.mp hp7).1 arg9 arg12 arg13 (sem_scratch6 _ A.e9) (sem_scratch9 _ A.e12) (sem_scratch10 _ A.e13) (hf23 c) arg2 A.e2 arg4 A.e4 harg2 harg4 (k0_off152_inb c) (k0_off153_inb c) (k0_off153_wordsbf16 c) (k0_off154_inb c) (k0_off155_inb c) (k0_off155_wordsbf16 c) (k0_dev63_lt c) (k0_off156_inb c) (k0_off157_inb c) (k0_off157_wordsbf16 c) (k0_dev64_lt c) rfl ?_
  exact wp_pure_eq c _ rfl (h _)

/-- Steps 24 to 29 of the kernel. -/
theorem part13 (c : Dev nD) (v2 : BitVec 32) (v5 : BitVec 32) (v8 : BitVec 32) (v373 : BitVec 32) (dn l : List Slot) (hp : ((false, 5, 0) :: (true, 5, 0) :: (false, 5, 1) :: (true, 5, 1) :: (false, 5, 2) :: (true, 5, 2) :: l).Pairwise fun x y => dist x.2.1 ≤ dist y.2.1) (X : sProp 𝕄) {Q : (Σ' (v374 : BitVec 32) (v377 : BitVec 1), BitVec 1) → sProp 𝕄}
    (h : ∀ v, iprop(env m ρ sw K ∗ HSt m ρ sw c ((true, 5, 2) :: (false, 5, 2) :: (true, 5, 1) :: (false, 5, 1) :: (true, 5, 0) :: (false, 5, 0) :: dn) l ∗ X) ⊢ Q v) :
    iprop(env m ρ sw K ∗ HSt m ρ sw c dn ((false, 5, 0) :: (true, 5, 0) :: (false, 5, 1) :: (true, 5, 1) :: (false, 5, 2) :: (true, 5, 2) :: l) ∗ X)
      ⊢ wp frame (wpE (defs₀ (F := F)) 𝒱₀ (c : Thread nD τ) none) Set.univ
          (k0_part13 arg0 harg0 arg1 harg1 arg2 harg2 arg3 harg3 arg4 harg4 arg5 harg5 arg6 arg7 arg8 arg9 arg10 arg11 arg12 arg13 c v2 v5 v8 v373) Q := by
  rw [k0_part13_eq_skeleton, k0_part13_skel]
  refine step_handle m ρ sw K c false 5 0 _ _ _ (List.pairwise_cons.mp hp).1 arg8 arg10 arg11 (sem_scratch5 _ A.e8) (sem_scratch7 _ A.e10) (sem_scratch8 _ A.e11) (hf24 c) arg2 A.e2 arg4 A.e4 harg2 harg4 (k0_off158_inb c) (k0_off159_inb c) (k0_off159_wordsbf16 c) (k0_off160_inb c) (k0_off161_inb c) (k0_off161_wordsbf16 c) (k0_dev65_lt c) (k0_off162_inb c) (k0_off163_inb c) (k0_off163_wordsbf16 c) (k0_dev66_lt c) rfl ?_
  have hp1 := (List.pairwise_cons.mp hp).2
  refine step_handle m ρ sw K c true 5 0 _ _ _ (List.pairwise_cons.mp hp1).1 arg9 arg12 arg13 (sem_scratch6 _ A.e9) (sem_scratch9 _ A.e12) (sem_scratch10 _ A.e13) (hf25 c) arg2 A.e2 arg4 A.e4 harg2 harg4 (k0_off164_inb c) (k0_off165_inb c) (k0_off165_wordsbf16 c) (k0_off166_inb c) (k0_off167_inb c) (k0_off167_wordsbf16 c) (k0_dev67_lt c) (k0_off168_inb c) (k0_off169_inb c) (k0_off169_wordsbf16 c) (k0_dev68_lt c) rfl ?_
  have hp2 := (List.pairwise_cons.mp hp1).2
  refine step_handle m ρ sw K c false 5 1 _ _ _ (List.pairwise_cons.mp hp2).1 arg8 arg10 arg11 (sem_scratch5 _ A.e8) (sem_scratch7 _ A.e10) (sem_scratch8 _ A.e11) (hf26 c) arg2 A.e2 arg4 A.e4 harg2 harg4 (k0_off170_inb c) (k0_off171_inb c) (k0_off171_wordsbf16 c) (k0_off172_inb c) (k0_off173_inb c) (k0_off173_wordsbf16 c) (k0_dev69_lt c) (k0_off174_inb c) (k0_off175_inb c) (k0_off175_wordsbf16 c) (k0_dev70_lt c) rfl ?_
  have hp3 := (List.pairwise_cons.mp hp2).2
  refine step_handle m ρ sw K c true 5 1 _ _ _ (List.pairwise_cons.mp hp3).1 arg9 arg12 arg13 (sem_scratch6 _ A.e9) (sem_scratch9 _ A.e12) (sem_scratch10 _ A.e13) (hf27 c) arg2 A.e2 arg4 A.e4 harg2 harg4 (k0_off176_inb c) (k0_off177_inb c) (k0_off177_wordsbf16 c) (k0_off178_inb c) (k0_off179_inb c) (k0_off179_wordsbf16 c) (k0_dev71_lt c) (k0_off180_inb c) (k0_off181_inb c) (k0_off181_wordsbf16 c) (k0_dev72_lt c) rfl ?_
  have hp4 := (List.pairwise_cons.mp hp3).2
  refine step_handle m ρ sw K c false 5 2 _ _ _ (List.pairwise_cons.mp hp4).1 arg8 arg10 arg11 (sem_scratch5 _ A.e8) (sem_scratch7 _ A.e10) (sem_scratch8 _ A.e11) (hf28 c) arg2 A.e2 arg4 A.e4 harg2 harg4 (k0_off182_inb c) (k0_off183_inb c) (k0_off183_wordsbf16 c) (k0_off184_inb c) (k0_off185_inb c) (k0_off185_wordsbf16 c) (k0_dev73_lt c) (k0_off186_inb c) (k0_off187_inb c) (k0_off187_wordsbf16 c) (k0_dev74_lt c) rfl ?_
  have hp5 := (List.pairwise_cons.mp hp4).2
  refine step_handle m ρ sw K c true 5 2 _ _ _ (List.pairwise_cons.mp hp5).1 arg9 arg12 arg13 (sem_scratch6 _ A.e9) (sem_scratch9 _ A.e12) (sem_scratch10 _ A.e13) (hf29 c) arg2 A.e2 arg4 A.e4 harg2 harg4 (k0_off188_inb c) (k0_off189_inb c) (k0_off189_wordsbf16 c) (k0_off190_inb c) (k0_off191_inb c) (k0_off191_wordsbf16 c) (k0_dev75_lt c) (k0_off192_inb c) (k0_off193_inb c) (k0_off193_wordsbf16 c) (k0_dev76_lt c) rfl ?_
  exact wp_pure_eq c _ rfl (h _)

/-- Steps 30 to 34 of the kernel. -/
theorem part14 (c : Dev nD) (v2 : BitVec 32) (v5 : BitVec 32) (v8 : BitVec 32) (v373 : BitVec 32) (v374 : BitVec 32) (v377 : BitVec 1) (v380 : BitVec 1) (dn l : List Slot) (hp : ((false, 5, 3) :: (true, 5, 3) :: (false, 1, 0) :: (true, 1, 0) :: (false, 1, 1) :: l).Pairwise fun x y => dist x.2.1 ≤ dist y.2.1) (X : sProp 𝕄) {Q : (Σ' (v413 : BitVec 32) (v414 : BitVec 32) (v417 : BitVec 1) (v420 : BitVec 1) (v433 : BitVec 32) (v434 : BitVec 32) (v435 : BitVec 32), BitVec 32) → sProp 𝕄}
    (h : ∀ v, iprop(env m ρ sw K ∗ HSt m ρ sw c ((false, 1, 1) :: (true, 1, 0) :: (false, 1, 0) :: (true, 5, 3) :: (false, 5, 3) :: dn) l ∗ X) ⊢ Q v) :
    iprop(env m ρ sw K ∗ HSt m ρ sw c dn ((false, 5, 3) :: (true, 5, 3) :: (false, 1, 0) :: (true, 1, 0) :: (false, 1, 1) :: l) ∗ X)
      ⊢ wp frame (wpE (defs₀ (F := F)) 𝒱₀ (c : Thread nD τ) none) Set.univ
          (k0_part14 arg0 harg0 arg1 harg1 arg2 harg2 arg3 harg3 arg4 harg4 arg5 harg5 arg6 arg7 arg8 arg9 arg10 arg11 arg12 arg13 c v2 v5 v8 v373 v374 v377 v380) Q := by
  rw [k0_part14_eq_skeleton, k0_part14_skel]
  refine step_handle m ρ sw K c false 5 3 _ _ _ (List.pairwise_cons.mp hp).1 arg8 arg10 arg11 (sem_scratch5 _ A.e8) (sem_scratch7 _ A.e10) (sem_scratch8 _ A.e11) (hf30 c) arg2 A.e2 arg4 A.e4 harg2 harg4 (k0_off194_inb c) (k0_off195_inb c) (k0_off195_wordsbf16 c) (k0_off196_inb c) (k0_off197_inb c) (k0_off197_wordsbf16 c) (k0_dev77_lt c) (k0_off198_inb c) (k0_off199_inb c) (k0_off199_wordsbf16 c) (k0_dev78_lt c) rfl ?_
  have hp1 := (List.pairwise_cons.mp hp).2
  refine step_handle m ρ sw K c true 5 3 _ _ _ (List.pairwise_cons.mp hp1).1 arg9 arg12 arg13 (sem_scratch6 _ A.e9) (sem_scratch9 _ A.e12) (sem_scratch10 _ A.e13) (hf31 c) arg2 A.e2 arg4 A.e4 harg2 harg4 (k0_off200_inb c) (k0_off201_inb c) (k0_off201_wordsbf16 c) (k0_off202_inb c) (k0_off203_inb c) (k0_off203_wordsbf16 c) (k0_dev79_lt c) (k0_off204_inb c) (k0_off205_inb c) (k0_off205_wordsbf16 c) (k0_dev80_lt c) rfl ?_
  have hp2 := (List.pairwise_cons.mp hp1).2
  refine step_handle m ρ sw K c false 1 0 _ _ _ (List.pairwise_cons.mp hp2).1 arg8 arg10 arg11 (sem_scratch5 _ A.e8) (sem_scratch7 _ A.e10) (sem_scratch8 _ A.e11) (hf32 c) arg2 A.e2 arg4 A.e4 harg2 harg4 (k0_off206_inb c) (k0_off207_inb c) (k0_off207_wordsbf16 c) (k0_off208_inb c) (k0_off209_inb c) (k0_off209_wordsbf16 c) (k0_dev81_lt c) (k0_off210_inb c) (k0_off211_inb c) (k0_off211_wordsbf16 c) (k0_dev82_lt c) rfl ?_
  have hp3 := (List.pairwise_cons.mp hp2).2
  refine step_handle m ρ sw K c true 1 0 _ _ _ (List.pairwise_cons.mp hp3).1 arg9 arg12 arg13 (sem_scratch6 _ A.e9) (sem_scratch9 _ A.e12) (sem_scratch10 _ A.e13) (hf33 c) arg2 A.e2 arg4 A.e4 harg2 harg4 (k0_off212_inb c) (k0_off213_inb c) (k0_off213_wordsbf16 c) (k0_off214_inb c) (k0_off215_inb c) (k0_off215_wordsbf16 c) (k0_dev83_lt c) (k0_off216_inb c) (k0_off217_inb c) (k0_off217_wordsbf16 c) (k0_dev84_lt c) rfl ?_
  have hp4 := (List.pairwise_cons.mp hp3).2
  refine step_handle m ρ sw K c false 1 1 _ _ _ (List.pairwise_cons.mp hp4).1 arg8 arg10 arg11 (sem_scratch5 _ A.e8) (sem_scratch7 _ A.e10) (sem_scratch8 _ A.e11) (hf34 c) arg2 A.e2 arg4 A.e4 harg2 harg4 (k0_off218_inb c) (k0_off219_inb c) (k0_off219_wordsbf16 c) (k0_off220_inb c) (k0_off221_inb c) (k0_off221_wordsbf16 c) (k0_dev85_lt c) (k0_off222_inb c) (k0_off223_inb c) (k0_off223_wordsbf16 c) (k0_dev86_lt c) rfl ?_
  exact wp_pure_eq c _ rfl (h _)

/-- Steps 35 to 40 of the kernel. -/
theorem part15 (c : Dev nD) (v2 : BitVec 32) (v5 : BitVec 32) (v8 : BitVec 32) (v413 : BitVec 32) (v414 : BitVec 32) (v417 : BitVec 1) (v420 : BitVec 1) (v433 : BitVec 32) (v434 : BitVec 32) (v435 : BitVec 32) (c0_i32_310 : BitVec 32) (dn l : List Slot) (hp : ((true, 1, 1) :: (false, 1, 2) :: (true, 1, 2) :: (false, 1, 3) :: (true, 1, 3) :: (false, 6, 0) :: l).Pairwise fun x y => dist x.2.1 ≤ dist y.2.1) (X : sProp 𝕄) {Q : (Σ' (v453 : BitVec 32) (v454 : BitVec 32) (v457 : BitVec 1) (v460 : BitVec 1) (v465 : BitVec 32), BitVec 32) → sProp 𝕄}
    (h : ∀ v, iprop(env m ρ sw K ∗ HSt m ρ sw c ((false, 6, 0) :: (true, 1, 3) :: (false, 1, 3) :: (true, 1, 2) :: (false, 1, 2) :: (true, 1, 1) :: dn) l ∗ X) ⊢ Q v) :
    iprop(env m ρ sw K ∗ HSt m ρ sw c dn ((true, 1, 1) :: (false, 1, 2) :: (true, 1, 2) :: (false, 1, 3) :: (true, 1, 3) :: (false, 6, 0) :: l) ∗ X)
      ⊢ wp frame (wpE (defs₀ (F := F)) 𝒱₀ (c : Thread nD τ) none) Set.univ
          (k0_part15 arg0 harg0 arg1 harg1 arg2 harg2 arg3 harg3 arg4 harg4 arg5 harg5 arg6 arg7 arg8 arg9 arg10 arg11 arg12 arg13 c v2 v5 v8 v413 v414 v417 v420 v433 v434 v435 c0_i32_310) Q := by
  rw [k0_part15_eq_skeleton, k0_part15_skel]
  refine step_handle m ρ sw K c true 1 1 _ _ _ (List.pairwise_cons.mp hp).1 arg9 arg12 arg13 (sem_scratch6 _ A.e9) (sem_scratch9 _ A.e12) (sem_scratch10 _ A.e13) (hf35 c) arg2 A.e2 arg4 A.e4 harg2 harg4 (k0_off224_inb c) (k0_off225_inb c) (k0_off225_wordsbf16 c) (k0_off226_inb c) (k0_off227_inb c) (k0_off227_wordsbf16 c) (k0_dev87_lt c) (k0_off228_inb c) (k0_off229_inb c) (k0_off229_wordsbf16 c) (k0_dev88_lt c) rfl ?_
  have hp1 := (List.pairwise_cons.mp hp).2
  refine step_handle m ρ sw K c false 1 2 _ _ _ (List.pairwise_cons.mp hp1).1 arg8 arg10 arg11 (sem_scratch5 _ A.e8) (sem_scratch7 _ A.e10) (sem_scratch8 _ A.e11) (hf36 c) arg2 A.e2 arg4 A.e4 harg2 harg4 (k0_off230_inb c) (k0_off231_inb c) (k0_off231_wordsbf16 c) (k0_off232_inb c) (k0_off233_inb c) (k0_off233_wordsbf16 c) (k0_dev89_lt c) (k0_off234_inb c) (k0_off235_inb c) (k0_off235_wordsbf16 c) (k0_dev90_lt c) rfl ?_
  have hp2 := (List.pairwise_cons.mp hp1).2
  refine step_handle m ρ sw K c true 1 2 _ _ _ (List.pairwise_cons.mp hp2).1 arg9 arg12 arg13 (sem_scratch6 _ A.e9) (sem_scratch9 _ A.e12) (sem_scratch10 _ A.e13) (hf37 c) arg2 A.e2 arg4 A.e4 harg2 harg4 (k0_off236_inb c) (k0_off237_inb c) (k0_off237_wordsbf16 c) (k0_off238_inb c) (k0_off239_inb c) (k0_off239_wordsbf16 c) (k0_dev91_lt c) (k0_off240_inb c) (k0_off241_inb c) (k0_off241_wordsbf16 c) (k0_dev92_lt c) rfl ?_
  have hp3 := (List.pairwise_cons.mp hp2).2
  refine step_handle m ρ sw K c false 1 3 _ _ _ (List.pairwise_cons.mp hp3).1 arg8 arg10 arg11 (sem_scratch5 _ A.e8) (sem_scratch7 _ A.e10) (sem_scratch8 _ A.e11) (hf38 c) arg2 A.e2 arg4 A.e4 harg2 harg4 (k0_off242_inb c) (k0_off243_inb c) (k0_off243_wordsbf16 c) (k0_off244_inb c) (k0_off245_inb c) (k0_off245_wordsbf16 c) (k0_dev93_lt c) (k0_off246_inb c) (k0_off247_inb c) (k0_off247_wordsbf16 c) (k0_dev94_lt c) rfl ?_
  have hp4 := (List.pairwise_cons.mp hp3).2
  refine step_handle m ρ sw K c true 1 3 _ _ _ (List.pairwise_cons.mp hp4).1 arg9 arg12 arg13 (sem_scratch6 _ A.e9) (sem_scratch9 _ A.e12) (sem_scratch10 _ A.e13) (hf39 c) arg2 A.e2 arg4 A.e4 harg2 harg4 (k0_off248_inb c) (k0_off249_inb c) (k0_off249_wordsbf16 c) (k0_off250_inb c) (k0_off251_inb c) (k0_off251_wordsbf16 c) (k0_dev95_lt c) (k0_off252_inb c) (k0_off253_inb c) (k0_off253_wordsbf16 c) (k0_dev96_lt c) rfl ?_
  have hp5 := (List.pairwise_cons.mp hp4).2
  refine step_handle m ρ sw K c false 6 0 _ _ _ (List.pairwise_cons.mp hp5).1 arg8 arg10 arg11 (sem_scratch5 _ A.e8) (sem_scratch7 _ A.e10) (sem_scratch8 _ A.e11) (hf40 c) arg2 A.e2 arg4 A.e4 harg2 harg4 (k0_off254_inb c) (k0_off255_inb c) (k0_off255_wordsbf16 c) (k0_off256_inb c) (k0_off257_inb c) (k0_off257_wordsbf16 c) (k0_dev97_lt c) (k0_off258_inb c) (k0_off259_inb c) (k0_off259_wordsbf16 c) (k0_dev98_lt c) rfl ?_
  exact wp_pure_eq c _ rfl (h _)

/-- Steps 41 to 47 of the kernel. -/
theorem part16 (c : Dev nD) (v2 : BitVec 32) (v5 : BitVec 32) (v8 : BitVec 32) (v453 : BitVec 32) (v454 : BitVec 32) (v457 : BitVec 1) (v460 : BitVec 1) (v465 : BitVec 32) (v466 : BitVec 32) (dn l : List Slot) (hp : ((true, 6, 0) :: (false, 6, 1) :: (true, 6, 1) :: (false, 6, 2) :: (true, 6, 2) :: (false, 6, 3) :: (true, 6, 3) :: l).Pairwise fun x y => dist x.2.1 ≤ dist y.2.1) (X : sProp 𝕄) {Q : (Σ' (v493 : BitVec 32) (v494 : BitVec 32) (v495 : BitVec 1), BitVec 1) → sProp 𝕄}
    (h : ∀ v, iprop(env m ρ sw K ∗ HSt m ρ sw c ((true, 6, 3) :: (false, 6, 3) :: (true, 6, 2) :: (false, 6, 2) :: (true, 6, 1) :: (false, 6, 1) :: (true, 6, 0) :: dn) l ∗ X) ⊢ Q v) :
    iprop(env m ρ sw K ∗ HSt m ρ sw c dn ((true, 6, 0) :: (false, 6, 1) :: (true, 6, 1) :: (false, 6, 2) :: (true, 6, 2) :: (false, 6, 3) :: (true, 6, 3) :: l) ∗ X)
      ⊢ wp frame (wpE (defs₀ (F := F)) 𝒱₀ (c : Thread nD τ) none) Set.univ
          (k0_part16 arg0 harg0 arg1 harg1 arg2 harg2 arg3 harg3 arg4 harg4 arg5 harg5 arg6 arg7 arg8 arg9 arg10 arg11 arg12 arg13 c v2 v5 v8 v453 v454 v457 v460 v465 v466) Q := by
  rw [k0_part16_eq_skeleton, k0_part16_skel]
  refine step_handle m ρ sw K c true 6 0 _ _ _ (List.pairwise_cons.mp hp).1 arg9 arg12 arg13 (sem_scratch6 _ A.e9) (sem_scratch9 _ A.e12) (sem_scratch10 _ A.e13) (hf41 c) arg2 A.e2 arg4 A.e4 harg2 harg4 (k0_off260_inb c) (k0_off261_inb c) (k0_off261_wordsbf16 c) (k0_off262_inb c) (k0_off263_inb c) (k0_off263_wordsbf16 c) (k0_dev99_lt c) (k0_off264_inb c) (k0_off265_inb c) (k0_off265_wordsbf16 c) (k0_dev100_lt c) rfl ?_
  have hp1 := (List.pairwise_cons.mp hp).2
  refine step_handle m ρ sw K c false 6 1 _ _ _ (List.pairwise_cons.mp hp1).1 arg8 arg10 arg11 (sem_scratch5 _ A.e8) (sem_scratch7 _ A.e10) (sem_scratch8 _ A.e11) (hf42 c) arg2 A.e2 arg4 A.e4 harg2 harg4 (k0_off266_inb c) (k0_off267_inb c) (k0_off267_wordsbf16 c) (k0_off268_inb c) (k0_off269_inb c) (k0_off269_wordsbf16 c) (k0_dev101_lt c) (k0_off270_inb c) (k0_off271_inb c) (k0_off271_wordsbf16 c) (k0_dev102_lt c) rfl ?_
  have hp2 := (List.pairwise_cons.mp hp1).2
  refine step_handle m ρ sw K c true 6 1 _ _ _ (List.pairwise_cons.mp hp2).1 arg9 arg12 arg13 (sem_scratch6 _ A.e9) (sem_scratch9 _ A.e12) (sem_scratch10 _ A.e13) (hf43 c) arg2 A.e2 arg4 A.e4 harg2 harg4 (k0_off272_inb c) (k0_off273_inb c) (k0_off273_wordsbf16 c) (k0_off274_inb c) (k0_off275_inb c) (k0_off275_wordsbf16 c) (k0_dev103_lt c) (k0_off276_inb c) (k0_off277_inb c) (k0_off277_wordsbf16 c) (k0_dev104_lt c) rfl ?_
  have hp3 := (List.pairwise_cons.mp hp2).2
  refine step_handle m ρ sw K c false 6 2 _ _ _ (List.pairwise_cons.mp hp3).1 arg8 arg10 arg11 (sem_scratch5 _ A.e8) (sem_scratch7 _ A.e10) (sem_scratch8 _ A.e11) (hf44 c) arg2 A.e2 arg4 A.e4 harg2 harg4 (k0_off278_inb c) (k0_off279_inb c) (k0_off279_wordsbf16 c) (k0_off280_inb c) (k0_off281_inb c) (k0_off281_wordsbf16 c) (k0_dev105_lt c) (k0_off282_inb c) (k0_off283_inb c) (k0_off283_wordsbf16 c) (k0_dev106_lt c) rfl ?_
  have hp4 := (List.pairwise_cons.mp hp3).2
  refine step_handle m ρ sw K c true 6 2 _ _ _ (List.pairwise_cons.mp hp4).1 arg9 arg12 arg13 (sem_scratch6 _ A.e9) (sem_scratch9 _ A.e12) (sem_scratch10 _ A.e13) (hf45 c) arg2 A.e2 arg4 A.e4 harg2 harg4 (k0_off284_inb c) (k0_off285_inb c) (k0_off285_wordsbf16 c) (k0_off286_inb c) (k0_off287_inb c) (k0_off287_wordsbf16 c) (k0_dev107_lt c) (k0_off288_inb c) (k0_off289_inb c) (k0_off289_wordsbf16 c) (k0_dev108_lt c) rfl ?_
  have hp5 := (List.pairwise_cons.mp hp4).2
  refine step_handle m ρ sw K c false 6 3 _ _ _ (List.pairwise_cons.mp hp5).1 arg8 arg10 arg11 (sem_scratch5 _ A.e8) (sem_scratch7 _ A.e10) (sem_scratch8 _ A.e11) (hf46 c) arg2 A.e2 arg4 A.e4 harg2 harg4 (k0_off290_inb c) (k0_off291_inb c) (k0_off291_wordsbf16 c) (k0_off292_inb c) (k0_off293_inb c) (k0_off293_wordsbf16 c) (k0_dev109_lt c) (k0_off294_inb c) (k0_off295_inb c) (k0_off295_wordsbf16 c) (k0_dev110_lt c) rfl ?_
  have hp6 := (List.pairwise_cons.mp hp5).2
  refine step_handle m ρ sw K c true 6 3 _ _ _ (List.pairwise_cons.mp hp6).1 arg9 arg12 arg13 (sem_scratch6 _ A.e9) (sem_scratch9 _ A.e12) (sem_scratch10 _ A.e13) (hf47 c) arg2 A.e2 arg4 A.e4 harg2 harg4 (k0_off296_inb c) (k0_off297_inb c) (k0_off297_wordsbf16 c) (k0_off298_inb c) (k0_off299_inb c) (k0_off299_wordsbf16 c) (k0_dev111_lt c) (k0_off300_inb c) (k0_off301_inb c) (k0_off301_wordsbf16 c) (k0_dev112_lt c) rfl ?_
  exact wp_pure_eq c _ rfl (h _)

/-- Steps 48 to 53 of the kernel. -/
theorem part17 (c : Dev nD) (v2 : BitVec 32) (v5 : BitVec 32) (v8 : BitVec 32) (v493 : BitVec 32) (v494 : BitVec 32) (v495 : BitVec 1) (v496 : BitVec 1) (dn l : List Slot) (hp : ((false, 0, 0) :: (true, 0, 0) :: (false, 0, 1) :: (true, 0, 1) :: (false, 0, 2) :: (true, 0, 2) :: l).Pairwise fun x y => dist x.2.1 ≤ dist y.2.1) (X : sProp 𝕄) {Q : (Σ' (v500 : BitVec 1) (v525 : BitVec 32) (v526 : BitVec 32) (v527 : BitVec 32), BitVec 32) → sProp 𝕄}
    (h : ∀ v, iprop(env m ρ sw K ∗ HSt m ρ sw c ((true, 0, 2) :: (false, 0, 2) :: (true, 0, 1) :: (false, 0, 1) :: (true, 0, 0) :: (false, 0, 0) :: dn) l ∗ X) ⊢ Q v) :
    iprop(env m ρ sw K ∗ HSt m ρ sw c dn ((false, 0, 0) :: (true, 0, 0) :: (false, 0, 1) :: (true, 0, 1) :: (false, 0, 2) :: (true, 0, 2) :: l) ∗ X)
      ⊢ wp frame (wpE (defs₀ (F := F)) 𝒱₀ (c : Thread nD τ) none) Set.univ
          (k0_part17 arg0 harg0 arg1 harg1 arg2 harg2 arg3 harg3 arg4 harg4 arg5 harg5 arg6 arg7 arg8 arg9 arg10 arg11 arg12 arg13 c v2 v5 v8 v493 v494 v495 v496) Q := by
  rw [k0_part17_eq_skeleton, k0_part17_skel]
  refine step_handle m ρ sw K c false 0 0 _ _ _ (List.pairwise_cons.mp hp).1 arg8 arg10 arg11 (sem_scratch5 _ A.e8) (sem_scratch7 _ A.e10) (sem_scratch8 _ A.e11) (hf48 c) arg2 A.e2 arg4 A.e4 harg2 harg4 (k0_off302_inb c) (k0_off303_inb c) (k0_off303_wordsbf16 c) (k0_off304_inb c) (k0_off305_inb c) (k0_off305_wordsbf16 c) (k0_dev113_lt c) (k0_off306_inb c) (k0_off307_inb c) (k0_off307_wordsbf16 c) (k0_dev114_lt c) rfl ?_
  have hp1 := (List.pairwise_cons.mp hp).2
  refine step_handle m ρ sw K c true 0 0 _ _ _ (List.pairwise_cons.mp hp1).1 arg9 arg12 arg13 (sem_scratch6 _ A.e9) (sem_scratch9 _ A.e12) (sem_scratch10 _ A.e13) (hf49 c) arg2 A.e2 arg4 A.e4 harg2 harg4 (k0_off308_inb c) (k0_off309_inb c) (k0_off309_wordsbf16 c) (k0_off310_inb c) (k0_off311_inb c) (k0_off311_wordsbf16 c) (k0_dev115_lt c) (k0_off312_inb c) (k0_off313_inb c) (k0_off313_wordsbf16 c) (k0_dev116_lt c) rfl ?_
  have hp2 := (List.pairwise_cons.mp hp1).2
  refine step_handle m ρ sw K c false 0 1 _ _ _ (List.pairwise_cons.mp hp2).1 arg8 arg10 arg11 (sem_scratch5 _ A.e8) (sem_scratch7 _ A.e10) (sem_scratch8 _ A.e11) (hf50 c) arg2 A.e2 arg4 A.e4 harg2 harg4 (k0_off314_inb c) (k0_off315_inb c) (k0_off315_wordsbf16 c) (k0_off316_inb c) (k0_off317_inb c) (k0_off317_wordsbf16 c) (k0_dev117_lt c) (k0_off318_inb c) (k0_off319_inb c) (k0_off319_wordsbf16 c) (k0_dev118_lt c) rfl ?_
  have hp3 := (List.pairwise_cons.mp hp2).2
  refine step_handle m ρ sw K c true 0 1 _ _ _ (List.pairwise_cons.mp hp3).1 arg9 arg12 arg13 (sem_scratch6 _ A.e9) (sem_scratch9 _ A.e12) (sem_scratch10 _ A.e13) (hf51 c) arg2 A.e2 arg4 A.e4 harg2 harg4 (k0_off320_inb c) (k0_off321_inb c) (k0_off321_wordsbf16 c) (k0_off322_inb c) (k0_off323_inb c) (k0_off323_wordsbf16 c) (k0_dev119_lt c) (k0_off324_inb c) (k0_off325_inb c) (k0_off325_wordsbf16 c) (k0_dev120_lt c) rfl ?_
  have hp4 := (List.pairwise_cons.mp hp3).2
  refine step_handle m ρ sw K c false 0 2 _ _ _ (List.pairwise_cons.mp hp4).1 arg8 arg10 arg11 (sem_scratch5 _ A.e8) (sem_scratch7 _ A.e10) (sem_scratch8 _ A.e11) (hf52 c) arg2 A.e2 arg4 A.e4 harg2 harg4 (k0_off326_inb c) (k0_off327_inb c) (k0_off327_wordsbf16 c) (k0_off328_inb c) (k0_off329_inb c) (k0_off329_wordsbf16 c) (k0_dev121_lt c) (k0_off330_inb c) (k0_off331_inb c) (k0_off331_wordsbf16 c) (k0_dev122_lt c) rfl ?_
  have hp5 := (List.pairwise_cons.mp hp4).2
  refine step_handle m ρ sw K c true 0 2 _ _ _ (List.pairwise_cons.mp hp5).1 arg9 arg12 arg13 (sem_scratch6 _ A.e9) (sem_scratch9 _ A.e12) (sem_scratch10 _ A.e13) (hf53 c) arg2 A.e2 arg4 A.e4 harg2 harg4 (k0_off332_inb c) (k0_off333_inb c) (k0_off333_wordsbf16 c) (k0_off334_inb c) (k0_off335_inb c) (k0_off335_wordsbf16 c) (k0_dev123_lt c) (k0_off336_inb c) (k0_off337_inb c) (k0_off337_wordsbf16 c) (k0_dev124_lt c) rfl ?_
  exact wp_pure_eq c _ rfl (h _)

end Cert.KProof

end
-- ==== Proof.Drains1.lean ====
/-
Closing waits of the kernel, printed part by printed part.
-/
module

public import proofs.«01_k».proof.Proof.Facts
public import proofs.«01_k».proof.Proof.Hand
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Closing waits 0 to 4 of the kernel. -/
theorem part22 (c : Dev nD) (v5 : BitVec 32) (v8 : BitVec 32) (v617 : BitVec 32) (v618 : BitVec 32) (v621 : BitVec 1) (v624 : BitVec 1) (v633 : BitVec 32) (dn l : List (Slot × Bool)) (X : sProp 𝕄) {Q : (PUnit) → sProp 𝕄}
    (h : ∀ v, iprop(env m ρ sw K ∗ DSt m ρ sw c (((false, 3, 1), true) :: ((true, 3, 0), false) :: ((true, 3, 0), true) :: ((false, 3, 0), false) :: ((false, 3, 0), true) :: dn) l ∗ X) ⊢ Q v) :
    iprop(env m ρ sw K ∗ DSt m ρ sw c dn (((false, 3, 0), true) :: ((false, 3, 0), false) :: ((true, 3, 0), true) :: ((true, 3, 0), false) :: ((false, 3, 1), true) :: l) ∗ X)
      ⊢ wp frame (wpE (defs₀ (F := F)) 𝒱₀ (c : Thread nD τ) none) Set.univ
          (k0_part22 arg0 harg0 arg1 harg1 arg2 harg2 arg3 harg3 arg4 harg4 arg5 harg5 arg6 arg7 arg8 arg9 arg10 arg11 arg12 arg13 c v5 v8 v617 v618 v621 v624 v633) Q := by
  rw [k0_part22_eq_skeleton, k0_part22_skel]
  refine step_drain m ρ sw K c false true 3 0 arg10 (sem_scratch7 _ A.e10) (df0 c) arg2 A.e2 harg2 (k0_off350_inb c) (k0_off351_inb c) (k0_off351_wordsbf16 c) _ _ _ rfl ?_
  refine step_drain m ρ sw K c false false 3 0 arg11 (sem_scratch8 _ A.e11) (df1 c) arg2 A.e2 harg2 (k0_off352_inb c) (k0_off353_inb c) (k0_off353_wordsbf16 c) _ _ _ rfl ?_
  refine step_drain m ρ sw K c true true 3 0 arg12 (sem_scratch9 _ A.e12) (df2 c) arg2 A.e2 harg2 (k0_off354_inb c) (k0_off355_inb c) (k0_off355_wordsbf16 c) _ _ _ rfl ?_
  refine step_drain m ρ sw K c true false 3 0 arg13 (sem_scratch10 _ A.e13) (df3 c) arg2 A.e2 harg2 (k0_off356_inb c) (k0_off357_inb c) (k0_off357_wordsbf16 c) _ _ _ rfl ?_
  refine step_drain m ρ sw K c false true 3 1 arg10 (sem_scratch7 _ A.e10) (df4 c) arg2 A.e2 harg2 (k0_off358_inb c) (k0_off359_inb c) (k0_off359_wordsbf16 c) _ _ _ rfl ?_
  exact wp_pure_eq c _ rfl (h _)

/-- Closing waits 5 to 8 of the kernel. -/
theorem part23 (c : Dev nD) (v5 : BitVec 32) (v8 : BitVec 32) (v617 : BitVec 32) (v618 : BitVec 32) (v621 : BitVec 1) (v624 : BitVec 1) (dn l : List (Slot × Bool)) (X : sProp 𝕄) {Q : (Σ' (v700 : BitVec 1), BitVec 1) → sProp 𝕄}
    (h : ∀ v, iprop(env m ρ sw K ∗ DSt m ρ sw c (((false, 3, 2), true) :: ((true, 3, 1), false) :: ((true, 3, 1), true) :: ((false, 3, 1), false) :: dn) l ∗ X) ⊢ Q v) :
    iprop(env m ρ sw K ∗ DSt m ρ sw c dn (((false, 3, 1), false) :: ((true, 3, 1), true) :: ((true, 3, 1), false) :: ((false, 3, 2), true) :: l) ∗ X)
      ⊢ wp frame (wpE (defs₀ (F := F)) 𝒱₀ (c : Thread nD τ) none) Set.univ
          (k0_part23 arg0 harg0 arg1 harg1 arg2 harg2 arg3 harg3 arg4 harg4 arg5 harg5 arg6 arg7 arg8 arg9 arg10 arg11 arg12 arg13 c v5 v8 v617 v618 v621 v624) Q := by
  rw [k0_part23_eq_skeleton, k0_part23_skel]
  refine step_drain m ρ sw K c false false 3 1 arg11 (sem_scratch8 _ A.e11) (df5 c) arg2 A.e2 harg2 (k0_off360_inb c) (k0_off361_inb c) (k0_off361_wordsbf16 c) _ _ _ rfl ?_
  refine step_drain m ρ sw K c true true 3 1 arg12 (sem_scratch9 _ A.e12) (df6 c) arg2 A.e2 harg2 (k0_off362_inb c) (k0_off363_inb c) (k0_off363_wordsbf16 c) _ _ _ rfl ?_
  refine step_drain m ρ sw K c true false 3 1 arg13 (sem_scratch10 _ A.e13) (df7 c) arg2 A.e2 harg2 (k0_off364_inb c) (k0_off365_inb c) (k0_off365_wordsbf16 c) _ _ _ rfl ?_
  refine step_drain m ρ sw K c false true 3 2 arg10 (sem_scratch7 _ A.e10) (df8 c) arg2 A.e2 harg2 (k0_off366_inb c) (k0_off367_inb c) (k0_off367_wordsbf16 c) _ _ _ rfl ?_
  exact wp_pure_eq c _ rfl (h _)

/-- Closing waits 9 to 12 of the kernel. -/
theorem part24 (c : Dev nD) (v5 : BitVec 32) (v8 : BitVec 32) (v617 : BitVec 32) (v618 : BitVec 32) (v621 : BitVec 1) (v624 : BitVec 1) (v700 : BitVec 1) (v701 : BitVec 1) (dn l : List (Slot × Bool)) (X : sProp 𝕄) {Q : (Σ' (v735 : BitVec 32), BitVec 32) → sProp 𝕄}
    (h : ∀ v, iprop(env m ρ sw K ∗ DSt m ρ sw c (((false, 3, 3), true) :: ((true, 3, 2), false) :: ((true, 3, 2), true) :: ((false, 3, 2), false) :: dn) l ∗ X) ⊢ Q v) :
    iprop(env m ρ sw K ∗ DSt m ρ sw c dn (((false, 3, 2), false) :: ((true, 3, 2), true) :: ((true, 3, 2), false) :: ((false, 3, 3), true) :: l) ∗ X)
      ⊢ wp frame (wpE (defs₀ (F := F)) 𝒱₀ (c : Thread nD τ) none) Set.univ
          (k0_part24 arg0 harg0 arg1 harg1 arg2 harg2 arg3 harg3 arg4 harg4 arg5 harg5 arg6 arg7 arg8 arg9 arg10 arg11 arg12 arg13 c v5 v8 v617 v618 v621 v624 v700 v701) Q := by
  rw [k0_part24_eq_skeleton, k0_part24_skel]
  refine step_drain m ρ sw K c false false 3 2 arg11 (sem_scratch8 _ A.e11) (df9 c) arg2 A.e2 harg2 (k0_off368_inb c) (k0_off369_inb c) (k0_off369_wordsbf16 c) _ _ _ rfl ?_
  refine step_drain m ρ sw K c true true 3 2 arg12 (sem_scratch9 _ A.e12) (df10 c) arg2 A.e2 harg2 (k0_off370_inb c) (k0_off371_inb c) (k0_off371_wordsbf16 c) _ _ _ rfl ?_
  refine step_drain m ρ sw K c true false 3 2 arg13 (sem_scratch10 _ A.e13) (df11 c) arg2 A.e2 harg2 (k0_off372_inb c) (k0_off373_inb c) (k0_off373_wordsbf16 c) _ _ _ rfl ?_
  refine step_drain m ρ sw K c false true 3 3 arg10 (sem_scratch7 _ A.e10) (df12 c) arg2 A.e2 harg2 (k0_off374_inb c) (k0_off375_inb c) (k0_off375_wordsbf16 c) _ _ _ rfl ?_
  exact wp_pure_eq c _ rfl (h _)

/-- Closing waits 13 to 15 of the kernel. -/
theorem part25 (c : Dev nD) (v5 : BitVec 32) (v8 : BitVec 32) (v618 : BitVec 32) (v624 : BitVec 1) (v735 : BitVec 32) (c0_i32_563 : BitVec 32) (dn l : List (Slot × Bool)) (X : sProp 𝕄) {Q : (Σ' (v753 : BitVec 32) (v754 : BitVec 32) (v757 : BitVec 1) (v760 : BitVec 1) (v769 : BitVec 32), BitVec 32) → sProp 𝕄}
    (h : ∀ v, iprop(env m ρ sw K ∗ DSt m ρ sw c (((true, 3, 3), false) :: ((true, 3, 3), true) :: ((false, 3, 3), false) :: dn) l ∗ X) ⊢ Q v) :
    iprop(env m ρ sw K ∗ DSt m ρ sw c dn (((false, 3, 3), false) :: ((true, 3, 3), true) :: ((true, 3, 3), false) :: l) ∗ X)
      ⊢ wp frame (wpE (defs₀ (F := F)) 𝒱₀ (c : Thread nD τ) none) Set.univ
          (k0_part25 arg0 harg0 arg1 harg1 arg2 harg2 arg3 harg3 arg4 harg4 arg5 harg5 arg6 arg7 arg8 arg9 arg10 arg11 arg12 arg13 c v5 v8 v618 v624 v735 c0_i32_563) Q := by
  rw [k0_part25_eq_skeleton, k0_part25_skel]
  refine step_drain m ρ sw K c false false 3 3 arg11 (sem_scratch8 _ A.e11) (df13 c) arg2 A.e2 harg2 (k0_off376_inb c) (k0_off377_inb c) (k0_off377_wordsbf16 c) _ _ _ rfl ?_
  refine step_drain m ρ sw K c true true 3 3 arg12 (sem_scratch9 _ A.e12) (df14 c) arg2 A.e2 harg2 (k0_off378_inb c) (k0_off379_inb c) (k0_off379_wordsbf16 c) _ _ _ rfl ?_
  refine step_drain m ρ sw K c true false 3 3 arg13 (sem_scratch10 _ A.e13) (df15 c) arg2 A.e2 harg2 (k0_off380_inb c) (k0_off381_inb c) (k0_off381_wordsbf16 c) _ _ _ rfl ?_
  exact wp_pure_eq c _ rfl (h _)

/-- Closing waits 16 to 20 of the kernel. -/
theorem part26 (c : Dev nD) (v5 : BitVec 32) (v8 : BitVec 32) (v753 : BitVec 32) (v754 : BitVec 32) (v757 : BitVec 1) (v760 : BitVec 1) (v769 : BitVec 32) (c0_i32_586 : BitVec 32) (dn l : List (Slot × Bool)) (X : sProp 𝕄) {Q : (BitVec 1) → sProp 𝕄}
    (h : ∀ v, iprop(env m ρ sw K ∗ DSt m ρ sw c (((false, 4, 1), true) :: ((true, 4, 0), false) :: ((true, 4, 0), true) :: ((false, 4, 0), false) :: ((false, 4, 0), true) :: dn) l ∗ X) ⊢ Q v) :
    iprop(env m ρ sw K ∗ DSt m ρ sw c dn (((false, 4, 0), true) :: ((false, 4, 0), false) :: ((true, 4, 0), true) :: ((true, 4, 0), false) :: ((false, 4, 1), true) :: l) ∗ X)
      ⊢ wp frame (wpE (defs₀ (F := F)) 𝒱₀ (c : Thread nD τ) none) Set.univ
          (k0_part26 arg0 harg0 arg1 harg1 arg2 harg2 arg3 harg3 arg4 harg4 arg5 harg5 arg6 arg7 arg8 arg9 arg10 arg11 arg12 arg13 c v5 v8 v753 v754 v757 v760 v769 c0_i32_586) Q := by
  rw [k0_part26_eq_skeleton, k0_part26_skel]
  refine step_drain m ρ sw K c false true 4 0 arg10 (sem_scratch7 _ A.e10) (df16 c) arg2 A.e2 harg2 (k0_off382_inb c) (k0_off383_inb c) (k0_off383_wordsbf16 c) _ _ _ rfl ?_
  refine step_drain m ρ sw K c false false 4 0 arg11 (sem_scratch8 _ A.e11) (df17 c) arg2 A.e2 harg2 (k0_off384_inb c) (k0_off385_inb c) (k0_off385_wordsbf16 c) _ _ _ rfl ?_
  refine step_drain m ρ sw K c true true 4 0 arg12 (sem_scratch9 _ A.e12) (df18 c) arg2 A.e2 harg2 (k0_off386_inb c) (k0_off387_inb c) (k0_off387_wordsbf16 c) _ _ _ rfl ?_
  refine step_drain m ρ sw K c true false 4 0 arg13 (sem_scratch10 _ A.e13) (df19 c) arg2 A.e2 harg2 (k0_off388_inb c) (k0_off389_inb c) (k0_off389_wordsbf16 c) _ _ _ rfl ?_
  refine step_drain m ρ sw K c false true 4 1 arg10 (sem_scratch7 _ A.e10) (df20 c) arg2 A.e2 harg2 (k0_off390_inb c) (k0_off391_inb c) (k0_off391_wordsbf16 c) _ _ _ rfl ?_
  exact wp_pure_eq c _ rfl (h _)

/-- Closing waits 21 to 24 of the kernel. -/
theorem part27 (c : Dev nD) (v5 : BitVec 32) (v8 : BitVec 32) (v753 : BitVec 32) (v754 : BitVec 32) (v757 : BitVec 1) (v760 : BitVec 1) (v804 : BitVec 1) (dn l : List (Slot × Bool)) (X : sProp 𝕄) {Q : (BitVec 32) → sProp 𝕄}
    (h : ∀ v, iprop(env m ρ sw K ∗ DSt m ρ sw c (((false, 4, 2), true) :: ((true, 4, 1), false) :: ((true, 4, 1), true) :: ((false, 4, 1), false) :: dn) l ∗ X) ⊢ Q v) :
    iprop(env m ρ sw K ∗ DSt m ρ sw c dn (((false, 4, 1), false) :: ((true, 4, 1), true) :: ((true, 4, 1), false) :: ((false, 4, 2), true) :: l) ∗ X)
      ⊢ wp frame (wpE (defs₀ (F := F)) 𝒱₀ (c : Thread nD τ) none) Set.univ
          (k0_part27 arg0 harg0 arg1 harg1 arg2 harg2 arg3 harg3 arg4 harg4 arg5 harg5 arg6 arg7 arg8 arg9 arg10 arg11 arg12 arg13 c v5 v8 v753 v754 v757 v760 v804) Q := by
  rw [k0_part27_eq_skeleton, k0_part27_skel]
  refine step_drain m ρ sw K c false false 4 1 arg11 (sem_scratch8 _ A.e11) (df21 c) arg2 A.e2 harg2 (k0_off392_inb c) (k0_off393_inb c) (k0_off393_wordsbf16 c) _ _ _ rfl ?_
  refine step_drain m ρ sw K c true true 4 1 arg12 (sem_scratch9 _ A.e12) (df22 c) arg2 A.e2 harg2 (k0_off394_inb c) (k0_off395_inb c) (k0_off395_wordsbf16 c) _ _ _ rfl ?_
  refine step_drain m ρ sw K c true false 4 1 arg13 (sem_scratch10 _ A.e13) (df23 c) arg2 A.e2 harg2 (k0_off396_inb c) (k0_off397_inb c) (k0_off397_wordsbf16 c) _ _ _ rfl ?_
  refine step_drain m ρ sw K c false true 4 2 arg10 (sem_scratch7 _ A.e10) (df24 c) arg2 A.e2 harg2 (k0_off398_inb c) (k0_off399_inb c) (k0_off399_wordsbf16 c) _ _ _ rfl ?_
  exact wp_pure_eq c _ rfl (h _)

/-- Closing waits 25 to 29 of the kernel. -/
theorem part28 (c : Dev nD) (v5 : BitVec 32) (v8 : BitVec 32) (v753 : BitVec 32) (v754 : BitVec 32) (v757 : BitVec 1) (v760 : BitVec 1) (v839 : BitVec 32) (dn l : List (Slot × Bool)) (X : sProp 𝕄) {Q : (PUnit) → sProp 𝕄}
    (h : ∀ v, iprop(env m ρ sw K ∗ DSt m ρ sw c (((false, 4, 3), false) :: ((false, 4, 3), true) :: ((true, 4, 2), false) :: ((true, 4, 2), true) :: ((false, 4, 2), false) :: dn) l ∗ X) ⊢ Q v) :
    iprop(env m ρ sw K ∗ DSt m ρ sw c dn (((false, 4, 2), false) :: ((true, 4, 2), true) :: ((true, 4, 2), false) :: ((false, 4, 3), true) :: ((false, 4, 3), false) :: l) ∗ X)
      ⊢ wp frame (wpE (defs₀ (F := F)) 𝒱₀ (c : Thread nD τ) none) Set.univ
          (k0_part28 arg0 harg0 arg1 harg1 arg2 harg2 arg3 harg3 arg4 harg4 arg5 harg5 arg6 arg7 arg8 arg9 arg10 arg11 arg12 arg13 c v5 v8 v753 v754 v757 v760 v839) Q := by
  rw [k0_part28_eq_skeleton, k0_part28_skel]
  refine step_drain m ρ sw K c false false 4 2 arg11 (sem_scratch8 _ A.e11) (df25 c) arg2 A.e2 harg2 (k0_off400_inb c) (k0_off401_inb c) (k0_off401_wordsbf16 c) _ _ _ rfl ?_
  refine step_drain m ρ sw K c true true 4 2 arg12 (sem_scratch9 _ A.e12) (df26 c) arg2 A.e2 harg2 (k0_off402_inb c) (k0_off403_inb c) (k0_off403_wordsbf16 c) _ _ _ rfl ?_
  refine step_drain m ρ sw K c true false 4 2 arg13 (sem_scratch10 _ A.e13) (df27 c) arg2 A.e2 harg2 (k0_off404_inb c) (k0_off405_inb c) (k0_off405_wordsbf16 c) _ _ _ rfl ?_
  refine step_drain m ρ sw K c false true 4 3 arg10 (sem_scratch7 _ A.e10) (df28 c) arg2 A.e2 harg2 (k0_off406_inb c) (k0_off407_inb c) (k0_off407_wordsbf16 c) _ _ _ rfl ?_
  refine step_drain m ρ sw K c false false 4 3 arg11 (sem_scratch8 _ A.e11) (df29 c) arg2 A.e2 harg2 (k0_off408_inb c) (k0_off409_inb c) (k0_off409_wordsbf16 c) _ _ _ rfl ?_
  exact wp_pure_eq c _ rfl (h _)

/-- Closing waits 30 to 32 of the kernel. -/
theorem part29 (c : Dev nD) (v5 : BitVec 32) (v8 : BitVec 32) (v754 : BitVec 32) (v760 : BitVec 1) (dn l : List (Slot × Bool)) (X : sProp 𝕄) {Q : (Σ' (v889 : BitVec 32) (v890 : BitVec 32) (v893 : BitVec 1), BitVec 1) → sProp 𝕄}
    (h : ∀ v, iprop(env m ρ sw K ∗ DSt m ρ sw c (((false, 2, 0), true) :: ((true, 4, 3), false) :: ((true, 4, 3), true) :: dn) l ∗ X) ⊢ Q v) :
    iprop(env m ρ sw K ∗ DSt m ρ sw c dn (((true, 4, 3), true) :: ((true, 4, 3), false) :: ((false, 2, 0), true) :: l) ∗ X)
      ⊢ wp frame (wpE (defs₀ (F := F)) 𝒱₀ (c : Thread nD τ) none) Set.univ
          (k0_part29 arg0 harg0 arg1 harg1 arg2 harg2 arg3 harg3 arg4 harg4 arg5 harg5 arg6 arg7 arg8 arg9 arg10 arg11 arg12 arg13 c v5 v8 v754 v760) Q := by
  rw [k0_part29_eq_skeleton, k0_part29_skel]
  refine step_drain m ρ sw K c true true 4 3 arg12 (sem_scratch9 _ A.e12) (df30 c) arg2 A.e2 harg2 (k0_off410_inb c) (k0_off411_inb c) (k0_off411_wordsbf16 c) _ _ _ rfl ?_
  refine step_drain m ρ sw K c true false 4 3 arg13 (sem_scratch10 _ A.e13) (df31 c) arg2 A.e2 harg2 (k0_off412_inb c) (k0_off413_inb c) (k0_off413_wordsbf16 c) _ _ _ rfl ?_
  refine step_drain m ρ sw K c false true 2 0 arg10 (sem_scratch7 _ A.e10) (df32 c) arg2 A.e2 harg2 (k0_off414_inb c) (k0_off415_inb c) (k0_off415_wordsbf16 c) _ _ _ rfl ?_
  exact wp_pure_eq c _ rfl (h _)

/-- Closing waits 33 to 36 of the kernel. -/
theorem part30 (c : Dev nD) (v5 : BitVec 32) (v8 : BitVec 32) (v889 : BitVec 32) (v890 : BitVec 32) (v893 : BitVec 1) (v896 : BitVec 1) (dn l : List (Slot × Bool)) (X : sProp 𝕄) {Q : (Σ' (v940 : BitVec 1), BitVec 1) → sProp 𝕄}
    (h : ∀ v, iprop(env m ρ sw K ∗ DSt m ρ sw c (((false, 2, 1), true) :: ((true, 2, 0), false) :: ((true, 2, 0), true) :: ((false, 2, 0), false) :: dn) l ∗ X) ⊢ Q v) :
    iprop(env m ρ sw K ∗ DSt m ρ sw c dn (((false, 2, 0), false) :: ((true, 2, 0), true) :: ((true, 2, 0), false) :: ((false, 2, 1), true) :: l) ∗ X)
      ⊢ wp frame (wpE (defs₀ (F := F)) 𝒱₀ (c : Thread nD τ) none) Set.univ
          (k0_part30 arg0 harg0 arg1 harg1 arg2 harg2 arg3 harg3 arg4 harg4 arg5 harg5 arg6 arg7 arg8 arg9 arg10 arg11 arg12 arg13 c v5 v8 v889 v890 v893 v896) Q := by
  rw [k0_part30_eq_skeleton, k0_part30_skel]
  refine step_drain m ρ sw K c false false 2 0 arg11 (sem_scratch8 _ A.e11) (df33 c) arg2 A.e2 harg2 (k0_off416_inb c) (k0_off417_inb c) (k0_off417_wordsbf16 c) _ _ _ rfl ?_
  refine step_drain m ρ sw K c true true 2 0 arg12 (sem_scratch9 _ A.e12) (df34 c) arg2 A.e2 harg2 (k0_off418_inb c) (k0_off419_inb c) (k0_off419_wordsbf16 c) _ _ _ rfl ?_
  refine step_drain m ρ sw K c true false 2 0 arg13 (sem_scratch10 _ A.e13) (df35 c) arg2 A.e2 harg2 (k0_off420_inb c) (k0_off421_inb c) (k0_off421_wordsbf16 c) _ _ _ rfl ?_
  refine step_drain m ρ sw K c false true 2 1 arg10 (sem_scratch7 _ A.e10) (df36 c) arg2 A.e2 harg2 (k0_off422_inb c) (k0_off423_inb c) (k0_off423_wordsbf16 c) _ _ _ rfl ?_
  exact wp_pure_eq c _ rfl (h _)

end Cert.KProof

end
-- ==== Proof.Drains2.lean ====
/-
Closing waits of the kernel, printed part by printed part.
-/
module

public import proofs.«01_k».proof.Proof.Facts
public import proofs.«01_k».proof.Proof.Hand
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Closing waits 37 to 40 of the kernel. -/
theorem part31 (c : Dev nD) (v5 : BitVec 32) (v8 : BitVec 32) (v889 : BitVec 32) (v890 : BitVec 32) (v893 : BitVec 1) (v896 : BitVec 1) (v940 : BitVec 1) (v941 : BitVec 1) (dn l : List (Slot × Bool)) (X : sProp 𝕄) {Q : (Σ' (v975 : BitVec 32), BitVec 32) → sProp 𝕄}
    (h : ∀ v, iprop(env m ρ sw K ∗ DSt m ρ sw c (((false, 2, 2), true) :: ((true, 2, 1), false) :: ((true, 2, 1), true) :: ((false, 2, 1), false) :: dn) l ∗ X) ⊢ Q v) :
    iprop(env m ρ sw K ∗ DSt m ρ sw c dn (((false, 2, 1), false) :: ((true, 2, 1), true) :: ((true, 2, 1), false) :: ((false, 2, 2), true) :: l) ∗ X)
      ⊢ wp frame (wpE (defs₀ (F := F)) 𝒱₀ (c : Thread nD τ) none) Set.univ
          (k0_part31 arg0 harg0 arg1 harg1 arg2 harg2 arg3 harg3 arg4 harg4 arg5 harg5 arg6 arg7 arg8 arg9 arg10 arg11 arg12 arg13 c v5 v8 v889 v890 v893 v896 v940 v941) Q := by
  rw [k0_part31_eq_skeleton, k0_part31_skel]
  refine step_drain m ρ sw K c false false 2 1 arg11 (sem_scratch8 _ A.e11) (df37 c) arg2 A.e2 harg2 (k0_off424_inb c) (k0_off425_inb c) (k0_off425_wordsbf16 c) _ _ _ rfl ?_
  refine step_drain m ρ sw K c true true 2 1 arg12 (sem_scratch9 _ A.e12) (df38 c) arg2 A.e2 harg2 (k0_off426_inb c) (k0_off427_inb c) (k0_off427_wordsbf16 c) _ _ _ rfl ?_
  refine step_drain m ρ sw K c true false 2 1 arg13 (sem_scratch10 _ A.e13) (df39 c) arg2 A.e2 harg2 (k0_off428_inb c) (k0_off429_inb c) (k0_off429_wordsbf16 c) _ _ _ rfl ?_
  refine step_drain m ρ sw K c false true 2 2 arg10 (sem_scratch7 _ A.e10) (df40 c) arg2 A.e2 harg2 (k0_off430_inb c) (k0_off431_inb c) (k0_off431_wordsbf16 c) _ _ _ rfl ?_
  exact wp_pure_eq c _ rfl (h _)

/-- Closing waits 41 to 45 of the kernel. -/
theorem part32 (c : Dev nD) (v5 : BitVec 32) (v8 : BitVec 32) (v889 : BitVec 32) (v890 : BitVec 32) (v893 : BitVec 1) (v896 : BitVec 1) (v975 : BitVec 32) (c0_i32_715 : BitVec 32) (dn l : List (Slot × Bool)) (X : sProp 𝕄) {Q : (PUnit) → sProp 𝕄}
    (h : ∀ v, iprop(env m ρ sw K ∗ DSt m ρ sw c (((false, 2, 3), false) :: ((false, 2, 3), true) :: ((true, 2, 2), false) :: ((true, 2, 2), true) :: ((false, 2, 2), false) :: dn) l ∗ X) ⊢ Q v) :
    iprop(env m ρ sw K ∗ DSt m ρ sw c dn (((false, 2, 2), false) :: ((true, 2, 2), true) :: ((true, 2, 2), false) :: ((false, 2, 3), true) :: ((false, 2, 3), false) :: l) ∗ X)
      ⊢ wp frame (wpE (defs₀ (F := F)) 𝒱₀ (c : Thread nD τ) none) Set.univ
          (k0_part32 arg0 harg0 arg1 harg1 arg2 harg2 arg3 harg3 arg4 harg4 arg5 harg5 arg6 arg7 arg8 arg9 arg10 arg11 arg12 arg13 c v5 v8 v889 v890 v893 v896 v975 c0_i32_715) Q := by
  rw [k0_part32_eq_skeleton, k0_part32_skel]
  refine step_drain m ρ sw K c false false 2 2 arg11 (sem_scratch8 _ A.e11) (df41 c) arg2 A.e2 harg2 (k0_off432_inb c) (k0_off433_inb c) (k0_off433_wordsbf16 c) _ _ _ rfl ?_
  refine step_drain m ρ sw K c true true 2 2 arg12 (sem_scratch9 _ A.e12) (df42 c) arg2 A.e2 harg2 (k0_off434_inb c) (k0_off435_inb c) (k0_off435_wordsbf16 c) _ _ _ rfl ?_
  refine step_drain m ρ sw K c true false 2 2 arg13 (sem_scratch10 _ A.e13) (df43 c) arg2 A.e2 harg2 (k0_off436_inb c) (k0_off437_inb c) (k0_off437_wordsbf16 c) _ _ _ rfl ?_
  refine step_drain m ρ sw K c false true 2 3 arg10 (sem_scratch7 _ A.e10) (df44 c) arg2 A.e2 harg2 (k0_off438_inb c) (k0_off439_inb c) (k0_off439_wordsbf16 c) _ _ _ rfl ?_
  refine step_drain m ρ sw K c false false 2 3 arg11 (sem_scratch8 _ A.e11) (df45 c) arg2 A.e2 harg2 (k0_off440_inb c) (k0_off441_inb c) (k0_off441_wordsbf16 c) _ _ _ rfl ?_
  exact wp_pure_eq c _ rfl (h _)

/-- Closing waits 46 to 48 of the kernel. -/
theorem part33 (c : Dev nD) (v5 : BitVec 32) (v8 : BitVec 32) (v890 : BitVec 32) (v896 : BitVec 1) (dn l : List (Slot × Bool)) (X : sProp 𝕄) {Q : (Σ' (v1025 : BitVec 32) (v1026 : BitVec 32) (v1029 : BitVec 1) (v1032 : BitVec 1), BitVec 1) → sProp 𝕄}
    (h : ∀ v, iprop(env m ρ sw K ∗ DSt m ρ sw c (((false, 5, 0), true) :: ((true, 2, 3), false) :: ((true, 2, 3), true) :: dn) l ∗ X) ⊢ Q v) :
    iprop(env m ρ sw K ∗ DSt m ρ sw c dn (((true, 2, 3), true) :: ((true, 2, 3), false) :: ((false, 5, 0), true) :: l) ∗ X)
      ⊢ wp frame (wpE (defs₀ (F := F)) 𝒱₀ (c : Thread nD τ) none) Set.univ
          (k0_part33 arg0 harg0 arg1 harg1 arg2 harg2 arg3 harg3 arg4 harg4 arg5 harg5 arg6 arg7 arg8 arg9 arg10 arg11 arg12 arg13 c v5 v8 v890 v896) Q := by
  rw [k0_part33_eq_skeleton, k0_part33_skel]
  refine step_drain m ρ sw K c true true 2 3 arg12 (sem_scratch9 _ A.e12) (df46 c) arg2 A.e2 harg2 (k0_off442_inb c) (k0_off443_inb c) (k0_off443_wordsbf16 c) _ _ _ rfl ?_
  refine step_drain m ρ sw K c true false 2 3 arg13 (sem_scratch10 _ A.e13) (df47 c) arg2 A.e2 harg2 (k0_off444_inb c) (k0_off445_inb c) (k0_off445_wordsbf16 c) _ _ _ rfl ?_
  refine step_drain m ρ sw K c false true 5 0 arg10 (sem_scratch7 _ A.e10) (df48 c) arg2 A.e2 harg2 (k0_off446_inb c) (k0_off447_inb c) (k0_off447_wordsbf16 c) _ _ _ rfl ?_
  exact wp_pure_eq c _ rfl (h _)

/-- Closing waits 49 to 52 of the kernel. -/
theorem part34 (c : Dev nD) (v5 : BitVec 32) (v8 : BitVec 32) (v1025 : BitVec 32) (v1026 : BitVec 32) (v1029 : BitVec 1) (v1032 : BitVec 1) (v1044 : BitVec 1) (dn l : List (Slot × Bool)) (X : sProp 𝕄) {Q : (BitVec 32) → sProp 𝕄}
    (h : ∀ v, iprop(env m ρ sw K ∗ DSt m ρ sw c (((false, 5, 1), true) :: ((true, 5, 0), false) :: ((true, 5, 0), true) :: ((false, 5, 0), false) :: dn) l ∗ X) ⊢ Q v) :
    iprop(env m ρ sw K ∗ DSt m ρ sw c dn (((false, 5, 0), false) :: ((true, 5, 0), true) :: ((true, 5, 0), false) :: ((false, 5, 1), true) :: l) ∗ X)
      ⊢ wp frame (wpE (defs₀ (F := F)) 𝒱₀ (c : Thread nD τ) none) Set.univ
          (k0_part34 arg0 harg0 arg1 harg1 arg2 harg2 arg3 harg3 arg4 harg4 arg5 harg5 arg6 arg7 arg8 arg9 arg10 arg11 arg12 arg13 c v5 v8 v1025 v1026 v1029 v1032 v1044) Q := by
  rw [k0_part34_eq_skeleton, k0_part34_skel]
  refine step_drain m ρ sw K c false false 5 0 arg11 (sem_scratch8 _ A.e11) (df49 c) arg2 A.e2 harg2 (k0_off448_inb c) (k0_off449_inb c) (k0_off449_wordsbf16 c) _ _ _ rfl ?_
  refine step_drain m ρ sw K c true true 5 0 arg12 (sem_scratch9 _ A.e12) (df50 c) arg2 A.e2 harg2 (k0_off450_inb c) (k0_off451_inb c) (k0_off451_wordsbf16 c) _ _ _ rfl ?_
  refine step_drain m ρ sw K c true false 5 0 arg13 (sem_scratch10 _ A.e13) (df51 c) arg2 A.e2 harg2 (k0_off452_inb c) (k0_off453_inb c) (k0_off453_wordsbf16 c) _ _ _ rfl ?_
  refine step_drain m ρ sw K c false true 5 1 arg10 (sem_scratch7 _ A.e10) (df52 c) arg2 A.e2 harg2 (k0_off454_inb c) (k0_off455_inb c) (k0_off455_wordsbf16 c) _ _ _ rfl ?_
  exact wp_pure_eq c _ rfl (h _)

/-- Closing waits 53 to 57 of the kernel. -/
theorem part35 (c : Dev nD) (v5 : BitVec 32) (v8 : BitVec 32) (v1025 : BitVec 32) (v1026 : BitVec 32) (v1029 : BitVec 1) (v1032 : BitVec 1) (v1079 : BitVec 32) (dn l : List (Slot × Bool)) (X : sProp 𝕄) {Q : (PUnit) → sProp 𝕄}
    (h : ∀ v, iprop(env m ρ sw K ∗ DSt m ρ sw c (((false, 5, 2), false) :: ((false, 5, 2), true) :: ((true, 5, 1), false) :: ((true, 5, 1), true) :: ((false, 5, 1), false) :: dn) l ∗ X) ⊢ Q v) :
    iprop(env m ρ sw K ∗ DSt m ρ sw c dn (((false, 5, 1), false) :: ((true, 5, 1), true) :: ((true, 5, 1), false) :: ((false, 5, 2), true) :: ((false, 5, 2), false) :: l) ∗ X)
      ⊢ wp frame (wpE (defs₀ (F := F)) 𝒱₀ (c : Thread nD τ) none) Set.univ
          (k0_part35 arg0 harg0 arg1 harg1 arg2 harg2 arg3 harg3 arg4 harg4 arg5 harg5 arg6 arg7 arg8 arg9 arg10 arg11 arg12 arg13 c v5 v8 v1025 v1026 v1029 v1032 v1079) Q := by
  rw [k0_part35_eq_skeleton, k0_part35_skel]
  refine step_drain m ρ sw K c false false 5 1 arg11 (sem_scratch8 _ A.e11) (df53 c) arg2 A.e2 harg2 (k0_off456_inb c) (k0_off457_inb c) (k0_off457_wordsbf16 c) _ _ _ rfl ?_
  refine step_drain m ρ sw K c true true 5 1 arg12 (sem_scratch9 _ A.e12) (df54 c) arg2 A.e2 harg2 (k0_off458_inb c) (k0_off459_inb c) (k0_off459_wordsbf16 c) _ _ _ rfl ?_
  refine step_drain m ρ sw K c true false 5 1 arg13 (sem_scratch10 _ A.e13) (df55 c) arg2 A.e2 harg2 (k0_off460_inb c) (k0_off461_inb c) (k0_off461_wordsbf16 c) _ _ _ rfl ?_
  refine step_drain m ρ sw K c false true 5 2 arg10 (sem_scratch7 _ A.e10) (df56 c) arg2 A.e2 harg2 (k0_off462_inb c) (k0_off463_inb c) (k0_off463_wordsbf16 c) _ _ _ rfl ?_
  refine step_drain m ρ sw K c false false 5 2 arg11 (sem_scratch8 _ A.e11) (df57 c) arg2 A.e2 harg2 (k0_off464_inb c) (k0_off465_inb c) (k0_off465_wordsbf16 c) _ _ _ rfl ?_
  exact wp_pure_eq c _ rfl (h _)

/-- Closing waits 58 to 61 of the kernel. -/
theorem part36 (c : Dev nD) (v5 : BitVec 32) (v8 : BitVec 32) (v1025 : BitVec 32) (v1026 : BitVec 32) (v1029 : BitVec 1) (v1032 : BitVec 1) (dn l : List (Slot × Bool)) (X : sProp 𝕄) {Q : (PUnit) → sProp 𝕄}
    (h : ∀ v, iprop(env m ρ sw K ∗ DSt m ρ sw c (((false, 5, 3), false) :: ((false, 5, 3), true) :: ((true, 5, 2), false) :: ((true, 5, 2), true) :: dn) l ∗ X) ⊢ Q v) :
    iprop(env m ρ sw K ∗ DSt m ρ sw c dn (((true, 5, 2), true) :: ((true, 5, 2), false) :: ((false, 5, 3), true) :: ((false, 5, 3), false) :: l) ∗ X)
      ⊢ wp frame (wpE (defs₀ (F := F)) 𝒱₀ (c : Thread nD τ) none) Set.univ
          (k0_part36 arg0 harg0 arg1 harg1 arg2 harg2 arg3 harg3 arg4 harg4 arg5 harg5 arg6 arg7 arg8 arg9 arg10 arg11 arg12 arg13 c v5 v8 v1025 v1026 v1029 v1032) Q := by
  rw [k0_part36_eq_skeleton, k0_part36_skel]
  refine step_drain m ρ sw K c true true 5 2 arg12 (sem_scratch9 _ A.e12) (df58 c) arg2 A.e2 harg2 (k0_off466_inb c) (k0_off467_inb c) (k0_off467_wordsbf16 c) _ _ _ rfl ?_
  refine step_drain m ρ sw K c true false 5 2 arg13 (sem_scratch10 _ A.e13) (df59 c) arg2 A.e2 harg2 (k0_off468_inb c) (k0_off469_inb c) (k0_off469_wordsbf16 c) _ _ _ rfl ?_
  refine step_drain m ρ sw K c false true 5 3 arg10 (sem_scratch7 _ A.e10) (df60 c) arg2 A.e2 harg2 (k0_off470_inb c) (k0_off471_inb c) (k0_off471_wordsbf16 c) _ _ _ rfl ?_
  refine step_drain m ρ sw K c false false 5 3 arg11 (sem_scratch8 _ A.e11) (df61 c) arg2 A.e2 harg2 (k0_off472_inb c) (k0_off473_inb c) (k0_off473_wordsbf16 c) _ _ _ rfl ?_
  exact wp_pure_eq c _ rfl (h _)

/-- Closing waits 62 to 64 of the kernel. -/
theorem part37 (c : Dev nD) (v5 : BitVec 32) (v8 : BitVec 32) (v1026 : BitVec 32) (v1032 : BitVec 1) (dn l : List (Slot × Bool)) (X : sProp 𝕄) {Q : (Σ' (v1161 : BitVec 32) (v1162 : BitVec 32) (v1165 : BitVec 1) (v1168 : BitVec 1) (v1180 : BitVec 1), BitVec 1) → sProp 𝕄}
    (h : ∀ v, iprop(env m ρ sw K ∗ DSt m ρ sw c (((false, 1, 0), true) :: ((true, 5, 3), false) :: ((true, 5, 3), true) :: dn) l ∗ X) ⊢ Q v) :
    iprop(env m ρ sw K ∗ DSt m ρ sw c dn (((true, 5, 3), true) :: ((true, 5, 3), false) :: ((false, 1, 0), true) :: l) ∗ X)
      ⊢ wp frame (wpE (defs₀ (F := F)) 𝒱₀ (c : Thread nD τ) none) Set.univ
          (k0_part37 arg0 harg0 arg1 harg1 arg2 harg2 arg3 harg3 arg4 harg4 arg5 harg5 arg6 arg7 arg8 arg9 arg10 arg11 arg12 arg13 c v5 v8 v1026 v1032) Q := by
  rw [k0_part37_eq_skeleton, k0_part37_skel]
  refine step_drain m ρ sw K c true true 5 3 arg12 (sem_scratch9 _ A.e12) (df62 c) arg2 A.e2 harg2 (k0_off474_inb c) (k0_off475_inb c) (k0_off475_wordsbf16 c) _ _ _ rfl ?_
  refine step_drain m ρ sw K c true false 5 3 arg13 (sem_scratch10 _ A.e13) (df63 c) arg2 A.e2 harg2 (k0_off476_inb c) (k0_off477_inb c) (k0_off477_wordsbf16 c) _ _ _ rfl ?_
  refine step_drain m ρ sw K c false true 1 0 arg10 (sem_scratch7 _ A.e10) (df64 c) arg2 A.e2 harg2 (k0_off478_inb c) (k0_off479_inb c) (k0_off479_wordsbf16 c) _ _ _ rfl ?_
  exact wp_pure_eq c _ rfl (h _)

/-- Closing waits 65 to 68 of the kernel. -/
theorem part38 (c : Dev nD) (v5 : BitVec 32) (v8 : BitVec 32) (v1161 : BitVec 32) (v1162 : BitVec 32) (v1165 : BitVec 1) (v1168 : BitVec 1) (v1180 : BitVec 1) (v1181 : BitVec 1) (dn l : List (Slot × Bool)) (X : sProp 𝕄) {Q : (Σ' (v1215 : BitVec 32), BitVec 32) → sProp 𝕄}
    (h : ∀ v, iprop(env m ρ sw K ∗ DSt m ρ sw c (((false, 1, 1), true) :: ((true, 1, 0), false) :: ((true, 1, 0), true) :: ((false, 1, 0), false) :: dn) l ∗ X) ⊢ Q v) :
    iprop(env m ρ sw K ∗ DSt m ρ sw c dn (((false, 1, 0), false) :: ((true, 1, 0), true) :: ((true, 1, 0), false) :: ((false, 1, 1), true) :: l) ∗ X)
      ⊢ wp frame (wpE (defs₀ (F := F)) 𝒱₀ (c : Thread nD τ) none) Set.univ
          (k0_part38 arg0 harg0 arg1 harg1 arg2 harg2 arg3 harg3 arg4 harg4 arg5 harg5 arg6 arg7 arg8 arg9 arg10 arg11 arg12 arg13 c v5 v8 v1161 v1162 v1165 v1168 v1180 v1181) Q := by
  rw [k0_part38_eq_skeleton, k0_part38_skel]
  refine step_drain m ρ sw K c false false 1 0 arg11 (sem_scratch8 _ A.e11) (df65 c) arg2 A.e2 harg2 (k0_off480_inb c) (k0_off481_inb c) (k0_off481_wordsbf16 c) _ _ _ rfl ?_
  refine step_drain m ρ sw K c true true 1 0 arg12 (sem_scratch9 _ A.e12) (df66 c) arg2 A.e2 harg2 (k0_off482_inb c) (k0_off483_inb c) (k0_off483_wordsbf16 c) _ _ _ rfl ?_
  refine step_drain m ρ sw K c true false 1 0 arg13 (sem_scratch10 _ A.e13) (df67 c) arg2 A.e2 harg2 (k0_off484_inb c) (k0_off485_inb c) (k0_off485_wordsbf16 c) _ _ _ rfl ?_
  refine step_drain m ρ sw K c false true 1 1 arg10 (sem_scratch7 _ A.e10) (df68 c) arg2 A.e2 harg2 (k0_off486_inb c) (k0_off487_inb c) (k0_off487_wordsbf16 c) _ _ _ rfl ?_
  exact wp_pure_eq c _ rfl (h _)

/-- Closing waits 69 to 73 of the kernel. -/
theorem part39 (c : Dev nD) (v5 : BitVec 32) (v8 : BitVec 32) (v1161 : BitVec 32) (v1162 : BitVec 32) (v1165 : BitVec 1) (v1168 : BitVec 1) (v1215 : BitVec 32) (c0_i32_867 : BitVec 32) (dn l : List (Slot × Bool)) (X : sProp 𝕄) {Q : (PUnit) → sProp 𝕄}
    (h : ∀ v, iprop(env m ρ sw K ∗ DSt m ρ sw c (((false, 1, 2), false) :: ((false, 1, 2), true) :: ((true, 1, 1), false) :: ((true, 1, 1), true) :: ((false, 1, 1), false) :: dn) l ∗ X) ⊢ Q v) :
    iprop(env m ρ sw K ∗ DSt m ρ sw c dn (((false, 1, 1), false) :: ((true, 1, 1), true) :: ((true, 1, 1), false) :: ((false, 1, 2), true) :: ((false, 1, 2), false) :: l) ∗ X)
      ⊢ wp frame (wpE (defs₀ (F := F)) 𝒱₀ (c : Thread nD τ) none) Set.univ
          (k0_part39 arg0 harg0 arg1 harg1 arg2 harg2 arg3 harg3 arg4 harg4 arg5 harg5 arg6 arg7 arg8 arg9 arg10 arg11 arg12 arg13 c v5 v8 v1161 v1162 v1165 v1168 v1215 c0_i32_867) Q := by
  rw [k0_part39_eq_skeleton, k0_part39_skel]
  refine step_drain m ρ sw K c false false 1 1 arg11 (sem_scratch8 _ A.e11) (df69 c) arg2 A.e2 harg2 (k0_off488_inb c) (k0_off489_inb c) (k0_off489_wordsbf16 c) _ _ _ rfl ?_
  refine step_drain m ρ sw K c true true 1 1 arg12 (sem_scratch9 _ A.e12) (df70 c) arg2 A.e2 harg2 (k0_off490_inb c) (k0_off491_inb c) (k0_off491_wordsbf16 c) _ _ _ rfl ?_
  refine step_drain m ρ sw K c true false 1 1 arg13 (sem_scratch10 _ A.e13) (df71 c) arg2 A.e2 harg2 (k0_off492_inb c) (k0_off493_inb c) (k0_off493_wordsbf16 c) _ _ _ rfl ?_
  refine step_drain m ρ sw K c false true 1 2 arg10 (sem_scratch7 _ A.e10) (df72 c) arg2 A.e2 harg2 (k0_off494_inb c) (k0_off495_inb c) (k0_off495_wordsbf16 c) _ _ _ rfl ?_
  refine step_drain m ρ sw K c false false 1 2 arg11 (sem_scratch8 _ A.e11) (df73 c) arg2 A.e2 harg2 (k0_off496_inb c) (k0_off497_inb c) (k0_off497_wordsbf16 c) _ _ _ rfl ?_
  exact wp_pure_eq c _ rfl (h _)

end Cert.KProof

end
-- ==== Proof.Drains3.lean ====
/-
Closing waits of the kernel, printed part by printed part.
-/
module

public import proofs.«01_k».proof.Proof.Facts
public import proofs.«01_k».proof.Proof.Hand
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- Closing waits 74 to 77 of the kernel. -/
theorem part40 (c : Dev nD) (v5 : BitVec 32) (v8 : BitVec 32) (v1161 : BitVec 32) (v1162 : BitVec 32) (v1165 : BitVec 1) (v1168 : BitVec 1) (dn l : List (Slot × Bool)) (X : sProp 𝕄) {Q : (BitVec 32) → sProp 𝕄}
    (h : ∀ v, iprop(env m ρ sw K ∗ DSt m ρ sw c (((false, 1, 3), false) :: ((false, 1, 3), true) :: ((true, 1, 2), false) :: ((true, 1, 2), true) :: dn) l ∗ X) ⊢ Q v) :
    iprop(env m ρ sw K ∗ DSt m ρ sw c dn (((true, 1, 2), true) :: ((true, 1, 2), false) :: ((false, 1, 3), true) :: ((false, 1, 3), false) :: l) ∗ X)
      ⊢ wp frame (wpE (defs₀ (F := F)) 𝒱₀ (c : Thread nD τ) none) Set.univ
          (k0_part40 arg0 harg0 arg1 harg1 arg2 harg2 arg3 harg3 arg4 harg4 arg5 harg5 arg6 arg7 arg8 arg9 arg10 arg11 arg12 arg13 c v5 v8 v1161 v1162 v1165 v1168) Q := by
  rw [k0_part40_eq_skeleton, k0_part40_skel]
  refine step_drain m ρ sw K c true true 1 2 arg12 (sem_scratch9 _ A.e12) (df74 c) arg2 A.e2 harg2 (k0_off498_inb c) (k0_off499_inb c) (k0_off499_wordsbf16 c) _ _ _ rfl ?_
  refine step_drain m ρ sw K c true false 1 2 arg13 (sem_scratch10 _ A.e13) (df75 c) arg2 A.e2 harg2 (k0_off500_inb c) (k0_off501_inb c) (k0_off501_wordsbf16 c) _ _ _ rfl ?_
  refine step_drain m ρ sw K c false true 1 3 arg10 (sem_scratch7 _ A.e10) (df76 c) arg2 A.e2 harg2 (k0_off502_inb c) (k0_off503_inb c) (k0_off503_wordsbf16 c) _ _ _ rfl ?_
  refine step_drain m ρ sw K c false false 1 3 arg11 (sem_scratch8 _ A.e11) (df77 c) arg2 A.e2 harg2 (k0_off504_inb c) (k0_off505_inb c) (k0_off505_wordsbf16 c) _ _ _ rfl ?_
  exact wp_pure_eq c _ rfl (h _)

/-- Closing waits 78 to 80 of the kernel. -/
theorem part41 (c : Dev nD) (v5 : BitVec 32) (v8 : BitVec 32) (v1162 : BitVec 32) (v1168 : BitVec 1) (v1283 : BitVec 32) (dn l : List (Slot × Bool)) (X : sProp 𝕄) {Q : (Σ' (v1297 : BitVec 32) (v1298 : BitVec 32) (v1301 : BitVec 1) (v1304 : BitVec 1), BitVec 32) → sProp 𝕄}
    (h : ∀ v, iprop(env m ρ sw K ∗ DSt m ρ sw c (((false, 6, 0), true) :: ((true, 1, 3), false) :: ((true, 1, 3), true) :: dn) l ∗ X) ⊢ Q v) :
    iprop(env m ρ sw K ∗ DSt m ρ sw c dn (((true, 1, 3), true) :: ((true, 1, 3), false) :: ((false, 6, 0), true) :: l) ∗ X)
      ⊢ wp frame (wpE (defs₀ (F := F)) 𝒱₀ (c : Thread nD τ) none) Set.univ
          (k0_part41 arg0 harg0 arg1 harg1 arg2 harg2 arg3 harg3 arg4 harg4 arg5 harg5 arg6 arg7 arg8 arg9 arg10 arg11 arg12 arg13 c v5 v8 v1162 v1168 v1283) Q := by
  rw [k0_part41_eq_skeleton, k0_part41_skel]
  refine step_drain m ρ sw K c true true 1 3 arg12 (sem_scratch9 _ A.e12) (df78 c) arg2 A.e2 harg2 (k0_off506_inb c) (k0_off507_inb c) (k0_off507_wordsbf16 c) _ _ _ rfl ?_
  refine step_drain m ρ sw K c true false 1 3 arg13 (sem_scratch10 _ A.e13) (df79 c) arg2 A.e2 harg2 (k0_off508_inb c) (k0_off509_inb c) (k0_off509_wordsbf16 c) _ _ _ rfl ?_
  refine step_drain m ρ sw K c false true 6 0 arg10 (sem_scratch7 _ A.e10) (df80 c) arg2 A.e2 harg2 (k0_off510_inb c) (k0_off511_inb c) (k0_off511_wordsbf16 c) _ _ _ rfl ?_
  exact wp_pure_eq c _ rfl (h _)

/-- Closing waits 81 to 85 of the kernel. -/
theorem part42 (c : Dev nD) (v5 : BitVec 32) (v8 : BitVec 32) (v1297 : BitVec 32) (v1298 : BitVec 32) (v1301 : BitVec 1) (v1304 : BitVec 1) (v1319 : BitVec 32) (dn l : List (Slot × Bool)) (X : sProp 𝕄) {Q : (PUnit) → sProp 𝕄}
    (h : ∀ v, iprop(env m ρ sw K ∗ DSt m ρ sw c (((false, 6, 1), false) :: ((false, 6, 1), true) :: ((true, 6, 0), false) :: ((true, 6, 0), true) :: ((false, 6, 0), false) :: dn) l ∗ X) ⊢ Q v) :
    iprop(env m ρ sw K ∗ DSt m ρ sw c dn (((false, 6, 0), false) :: ((true, 6, 0), true) :: ((true, 6, 0), false) :: ((false, 6, 1), true) :: ((false, 6, 1), false) :: l) ∗ X)
      ⊢ wp frame (wpE (defs₀ (F := F)) 𝒱₀ (c : Thread nD τ) none) Set.univ
          (k0_part42 arg0 harg0 arg1 harg1 arg2 harg2 arg3 harg3 arg4 harg4 arg5 harg5 arg6 arg7 arg8 arg9 arg10 arg11 arg12 arg13 c v5 v8 v1297 v1298 v1301 v1304 v1319) Q := by
  rw [k0_part42_eq_skeleton, k0_part42_skel]
  refine step_drain m ρ sw K c false false 6 0 arg11 (sem_scratch8 _ A.e11) (df81 c) arg2 A.e2 harg2 (k0_off512_inb c) (k0_off513_inb c) (k0_off513_wordsbf16 c) _ _ _ rfl ?_
  refine step_drain m ρ sw K c true true 6 0 arg12 (sem_scratch9 _ A.e12) (df82 c) arg2 A.e2 harg2 (k0_off514_inb c) (k0_off515_inb c) (k0_off515_wordsbf16 c) _ _ _ rfl ?_
  refine step_drain m ρ sw K c true false 6 0 arg13 (sem_scratch10 _ A.e13) (df83 c) arg2 A.e2 harg2 (k0_off516_inb c) (k0_off517_inb c) (k0_off517_wordsbf16 c) _ _ _ rfl ?_
  refine step_drain m ρ sw K c false true 6 1 arg10 (sem_scratch7 _ A.e10) (df84 c) arg2 A.e2 harg2 (k0_off518_inb c) (k0_off519_inb c) (k0_off519_wordsbf16 c) _ _ _ rfl ?_
  refine step_drain m ρ sw K c false false 6 1 arg11 (sem_scratch8 _ A.e11) (df85 c) arg2 A.e2 harg2 (k0_off520_inb c) (k0_off521_inb c) (k0_off521_wordsbf16 c) _ _ _ rfl ?_
  exact wp_pure_eq c _ rfl (h _)

/-- Closing waits 86 to 89 of the kernel. -/
theorem part43 (c : Dev nD) (v5 : BitVec 32) (v8 : BitVec 32) (v1297 : BitVec 32) (v1298 : BitVec 32) (v1301 : BitVec 1) (v1304 : BitVec 1) (dn l : List (Slot × Bool)) (X : sProp 𝕄) {Q : (PUnit) → sProp 𝕄}
    (h : ∀ v, iprop(env m ρ sw K ∗ DSt m ρ sw c (((false, 6, 2), false) :: ((false, 6, 2), true) :: ((true, 6, 1), false) :: ((true, 6, 1), true) :: dn) l ∗ X) ⊢ Q v) :
    iprop(env m ρ sw K ∗ DSt m ρ sw c dn (((true, 6, 1), true) :: ((true, 6, 1), false) :: ((false, 6, 2), true) :: ((false, 6, 2), false) :: l) ∗ X)
      ⊢ wp frame (wpE (defs₀ (F := F)) 𝒱₀ (c : Thread nD τ) none) Set.univ
          (k0_part43 arg0 harg0 arg1 harg1 arg2 harg2 arg3 harg3 arg4 harg4 arg5 harg5 arg6 arg7 arg8 arg9 arg10 arg11 arg12 arg13 c v5 v8 v1297 v1298 v1301 v1304) Q := by
  rw [k0_part43_eq_skeleton, k0_part43_skel]
  refine step_drain m ρ sw K c true true 6 1 arg12 (sem_scratch9 _ A.e12) (df86 c) arg2 A.e2 harg2 (k0_off522_inb c) (k0_off523_inb c) (k0_off523_wordsbf16 c) _ _ _ rfl ?_
  refine step_drain m ρ sw K c true false 6 1 arg13 (sem_scratch10 _ A.e13) (df87 c) arg2 A.e2 harg2 (k0_off524_inb c) (k0_off525_inb c) (k0_off525_wordsbf16 c) _ _ _ rfl ?_
  refine step_drain m ρ sw K c false true 6 2 arg10 (sem_scratch7 _ A.e10) (df88 c) arg2 A.e2 harg2 (k0_off526_inb c) (k0_off527_inb c) (k0_off527_wordsbf16 c) _ _ _ rfl ?_
  refine step_drain m ρ sw K c false false 6 2 arg11 (sem_scratch8 _ A.e11) (df89 c) arg2 A.e2 harg2 (k0_off528_inb c) (k0_off529_inb c) (k0_off529_wordsbf16 c) _ _ _ rfl ?_
  exact wp_pure_eq c _ rfl (h _)

/-- Closing waits 90 to 93 of the kernel. -/
theorem part44 (c : Dev nD) (v5 : BitVec 32) (v8 : BitVec 32) (v1297 : BitVec 32) (v1298 : BitVec 32) (v1301 : BitVec 1) (v1304 : BitVec 1) (dn l : List (Slot × Bool)) (X : sProp 𝕄) {Q : (PUnit) → sProp 𝕄}
    (h : ∀ v, iprop(env m ρ sw K ∗ DSt m ρ sw c (((false, 6, 3), false) :: ((false, 6, 3), true) :: ((true, 6, 2), false) :: ((true, 6, 2), true) :: dn) l ∗ X) ⊢ Q v) :
    iprop(env m ρ sw K ∗ DSt m ρ sw c dn (((true, 6, 2), true) :: ((true, 6, 2), false) :: ((false, 6, 3), true) :: ((false, 6, 3), false) :: l) ∗ X)
      ⊢ wp frame (wpE (defs₀ (F := F)) 𝒱₀ (c : Thread nD τ) none) Set.univ
          (k0_part44 arg0 harg0 arg1 harg1 arg2 harg2 arg3 harg3 arg4 harg4 arg5 harg5 arg6 arg7 arg8 arg9 arg10 arg11 arg12 arg13 c v5 v8 v1297 v1298 v1301 v1304) Q := by
  rw [k0_part44_eq_skeleton, k0_part44_skel]
  refine step_drain m ρ sw K c true true 6 2 arg12 (sem_scratch9 _ A.e12) (df90 c) arg2 A.e2 harg2 (k0_off530_inb c) (k0_off531_inb c) (k0_off531_wordsbf16 c) _ _ _ rfl ?_
  refine step_drain m ρ sw K c true false 6 2 arg13 (sem_scratch10 _ A.e13) (df91 c) arg2 A.e2 harg2 (k0_off532_inb c) (k0_off533_inb c) (k0_off533_wordsbf16 c) _ _ _ rfl ?_
  refine step_drain m ρ sw K c false true 6 3 arg10 (sem_scratch7 _ A.e10) (df92 c) arg2 A.e2 harg2 (k0_off534_inb c) (k0_off535_inb c) (k0_off535_wordsbf16 c) _ _ _ rfl ?_
  refine step_drain m ρ sw K c false false 6 3 arg11 (sem_scratch8 _ A.e11) (df93 c) arg2 A.e2 harg2 (k0_off536_inb c) (k0_off537_inb c) (k0_off537_wordsbf16 c) _ _ _ rfl ?_
  exact wp_pure_eq c _ rfl (h _)

/-- Closing waits 94 to 96 of the kernel. -/
theorem part45 (c : Dev nD) (v5 : BitVec 32) (v8 : BitVec 32) (v1298 : BitVec 32) (v1304 : BitVec 1) (dn l : List (Slot × Bool)) (X : sProp 𝕄) {Q : (Σ' (v1433 : BitVec 32) (v1434 : BitVec 32) (v1437 : BitVec 1) (v1440 : BitVec 1) (v1455 : BitVec 32), BitVec 32) → sProp 𝕄}
    (h : ∀ v, iprop(env m ρ sw K ∗ DSt m ρ sw c (((false, 0, 0), true) :: ((true, 6, 3), false) :: ((true, 6, 3), true) :: dn) l ∗ X) ⊢ Q v) :
    iprop(env m ρ sw K ∗ DSt m ρ sw c dn (((true, 6, 3), true) :: ((true, 6, 3), false) :: ((false, 0, 0), true) :: l) ∗ X)
      ⊢ wp frame (wpE (defs₀ (F := F)) 𝒱₀ (c : Thread nD τ) none) Set.univ
          (k0_part45 arg0 harg0 arg1 harg1 arg2 harg2 arg3 harg3 arg4 harg4 arg5 harg5 arg6 arg7 arg8 arg9 arg10 arg11 arg12 arg13 c v5 v8 v1298 v1304) Q := by
  rw [k0_part45_eq_skeleton, k0_part45_skel]
  refine step_drain m ρ sw K c true true 6 3 arg12 (sem_scratch9 _ A.e12) (df94 c) arg2 A.e2 harg2 (k0_off538_inb c) (k0_off539_inb c) (k0_off539_wordsbf16 c) _ _ _ rfl ?_
  refine step_drain m ρ sw K c true false 6 3 arg13 (sem_scratch10 _ A.e13) (df95 c) arg2 A.e2 harg2 (k0_off540_inb c) (k0_off541_inb c) (k0_off541_wordsbf16 c) _ _ _ rfl ?_
  refine step_drain m ρ sw K c false true 0 0 arg10 (sem_scratch7 _ A.e10) (df96 c) arg2 A.e2 harg2 (k0_off542_inb c) (k0_off543_inb c) (k0_off543_wordsbf16 c) _ _ _ rfl ?_
  exact wp_pure_eq c _ rfl (h _)

/-- Closing waits 97 to 101 of the kernel. -/
theorem part46 (c : Dev nD) (v5 : BitVec 32) (v8 : BitVec 32) (v1433 : BitVec 32) (v1434 : BitVec 32) (v1437 : BitVec 1) (v1440 : BitVec 1) (v1455 : BitVec 32) (c0_i32_1019 : BitVec 32) (dn l : List (Slot × Bool)) (X : sProp 𝕄) {Q : (PUnit) → sProp 𝕄}
    (h : ∀ v, iprop(env m ρ sw K ∗ DSt m ρ sw c (((false, 0, 1), false) :: ((false, 0, 1), true) :: ((true, 0, 0), false) :: ((true, 0, 0), true) :: ((false, 0, 0), false) :: dn) l ∗ X) ⊢ Q v) :
    iprop(env m ρ sw K ∗ DSt m ρ sw c dn (((false, 0, 0), false) :: ((true, 0, 0), true) :: ((true, 0, 0), false) :: ((false, 0, 1), true) :: ((false, 0, 1), false) :: l) ∗ X)
      ⊢ wp frame (wpE (defs₀ (F := F)) 𝒱₀ (c : Thread nD τ) none) Set.univ
          (k0_part46 arg0 harg0 arg1 harg1 arg2 harg2 arg3 harg3 arg4 harg4 arg5 harg5 arg6 arg7 arg8 arg9 arg10 arg11 arg12 arg13 c v5 v8 v1433 v1434 v1437 v1440 v1455 c0_i32_1019) Q := by
  rw [k0_part46_eq_skeleton, k0_part46_skel]
  refine step_drain m ρ sw K c false false 0 0 arg11 (sem_scratch8 _ A.e11) (df97 c) arg2 A.e2 harg2 (k0_off544_inb c) (k0_off545_inb c) (k0_off545_wordsbf16 c) _ _ _ rfl ?_
  refine step_drain m ρ sw K c true true 0 0 arg12 (sem_scratch9 _ A.e12) (df98 c) arg2 A.e2 harg2 (k0_off546_inb c) (k0_off547_inb c) (k0_off547_wordsbf16 c) _ _ _ rfl ?_
  refine step_drain m ρ sw K c true false 0 0 arg13 (sem_scratch10 _ A.e13) (df99 c) arg2 A.e2 harg2 (k0_off548_inb c) (k0_off549_inb c) (k0_off549_wordsbf16 c) _ _ _ rfl ?_
  refine step_drain m ρ sw K c false true 0 1 arg10 (sem_scratch7 _ A.e10) (df100 c) arg2 A.e2 harg2 (k0_off550_inb c) (k0_off551_inb c) (k0_off551_wordsbf16 c) _ _ _ rfl ?_
  refine step_drain m ρ sw K c false false 0 1 arg11 (sem_scratch8 _ A.e11) (df101 c) arg2 A.e2 harg2 (k0_off552_inb c) (k0_off553_inb c) (k0_off553_wordsbf16 c) _ _ _ rfl ?_
  exact wp_pure_eq c _ rfl (h _)

/-- Closing waits 102 to 105 of the kernel. -/
theorem part47 (c : Dev nD) (v5 : BitVec 32) (v8 : BitVec 32) (v1433 : BitVec 32) (v1434 : BitVec 32) (v1437 : BitVec 1) (v1440 : BitVec 1) (dn l : List (Slot × Bool)) (X : sProp 𝕄) {Q : (BitVec 32) → sProp 𝕄}
    (h : ∀ v, iprop(env m ρ sw K ∗ DSt m ρ sw c (((false, 0, 2), false) :: ((false, 0, 2), true) :: ((true, 0, 1), false) :: ((true, 0, 1), true) :: dn) l ∗ X) ⊢ Q v) :
    iprop(env m ρ sw K ∗ DSt m ρ sw c dn (((true, 0, 1), true) :: ((true, 0, 1), false) :: ((false, 0, 2), true) :: ((false, 0, 2), false) :: l) ∗ X)
      ⊢ wp frame (wpE (defs₀ (F := F)) 𝒱₀ (c : Thread nD τ) none) Set.univ
          (k0_part47 arg0 harg0 arg1 harg1 arg2 harg2 arg3 harg3 arg4 harg4 arg5 harg5 arg6 arg7 arg8 arg9 arg10 arg11 arg12 arg13 c v5 v8 v1433 v1434 v1437 v1440) Q := by
  rw [k0_part47_eq_skeleton, k0_part47_skel]
  refine step_drain m ρ sw K c true true 0 1 arg12 (sem_scratch9 _ A.e12) (df102 c) arg2 A.e2 harg2 (k0_off554_inb c) (k0_off555_inb c) (k0_off555_wordsbf16 c) _ _ _ rfl ?_
  refine step_drain m ρ sw K c true false 0 1 arg13 (sem_scratch10 _ A.e13) (df103 c) arg2 A.e2 harg2 (k0_off556_inb c) (k0_off557_inb c) (k0_off557_wordsbf16 c) _ _ _ rfl ?_
  refine step_drain m ρ sw K c false true 0 2 arg10 (sem_scratch7 _ A.e10) (df104 c) arg2 A.e2 harg2 (k0_off558_inb c) (k0_off559_inb c) (k0_off559_wordsbf16 c) _ _ _ rfl ?_
  refine step_drain m ρ sw K c false false 0 2 arg11 (sem_scratch8 _ A.e11) (df105 c) arg2 A.e2 harg2 (k0_off560_inb c) (k0_off561_inb c) (k0_off561_wordsbf16 c) _ _ _ rfl ?_
  exact wp_pure_eq c _ rfl (h _)

/-- Closing waits 106 to 109 of the kernel. -/
theorem part48 (c : Dev nD) (v5 : BitVec 32) (v8 : BitVec 32) (v1433 : BitVec 32) (v1434 : BitVec 32) (v1437 : BitVec 1) (v1440 : BitVec 1) (v1523 : BitVec 32) (dn l : List (Slot × Bool)) (X : sProp 𝕄) {Q : (BitVec 1) → sProp 𝕄}
    (h : ∀ v, iprop(env m ρ sw K ∗ DSt m ρ sw c (((false, 0, 3), false) :: ((false, 0, 3), true) :: ((true, 0, 2), false) :: ((true, 0, 2), true) :: dn) l ∗ X) ⊢ Q v) :
    iprop(env m ρ sw K ∗ DSt m ρ sw c dn (((true, 0, 2), true) :: ((true, 0, 2), false) :: ((false, 0, 3), true) :: ((false, 0, 3), false) :: l) ∗ X)
      ⊢ wp frame (wpE (defs₀ (F := F)) 𝒱₀ (c : Thread nD τ) none) Set.univ
          (k0_part48 arg0 harg0 arg1 harg1 arg2 harg2 arg3 harg3 arg4 harg4 arg5 harg5 arg6 arg7 arg8 arg9 arg10 arg11 arg12 arg13 c v5 v8 v1433 v1434 v1437 v1440 v1523) Q := by
  rw [k0_part48_eq_skeleton, k0_part48_skel]
  refine step_drain m ρ sw K c true true 0 2 arg12 (sem_scratch9 _ A.e12) (df106 c) arg2 A.e2 harg2 (k0_off562_inb c) (k0_off563_inb c) (k0_off563_wordsbf16 c) _ _ _ rfl ?_
  refine step_drain m ρ sw K c true false 0 2 arg13 (sem_scratch10 _ A.e13) (df107 c) arg2 A.e2 harg2 (k0_off564_inb c) (k0_off565_inb c) (k0_off565_wordsbf16 c) _ _ _ rfl ?_
  refine step_drain m ρ sw K c false true 0 3 arg10 (sem_scratch7 _ A.e10) (df108 c) arg2 A.e2 harg2 (k0_off566_inb c) (k0_off567_inb c) (k0_off567_wordsbf16 c) _ _ _ rfl ?_
  refine step_drain m ρ sw K c false false 0 3 arg11 (sem_scratch8 _ A.e11) (df109 c) arg2 A.e2 harg2 (k0_off568_inb c) (k0_off569_inb c) (k0_off569_wordsbf16 c) _ _ _ rfl ?_
  exact wp_pure_eq c _ rfl (h _)

end Cert.KProof

end
-- ==== Proof.Tails.lean ====
/-
What is left of the kernel's run before each of its parts.
-/
module

public import proofs.«01_k».proof.Proof.BParts
public import proofs.«01_k».proof.Proof.XParts
public import proofs.«01_k».proof.Proof.WParts
public import proofs.«01_k».proof.Proof.Steps
public import proofs.«01_k».proof.Proof.Drains1
public import proofs.«01_k».proof.Proof.Drains2
public import proofs.«01_k».proof.Proof.Drains3
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-- One run after another. -/
def andThen {α β : Type} (p : Prog (TpuEff nD τ sig (Elt F) Λ₀ .tc) α) (k : α → Prog (TpuEff nD τ sig (Elt F) Λ₀ .tc) β) : Prog (TpuEff nD τ sig (Elt F) Λ₀ .tc) β := p >>= k

/-- A run after another is proved from the first's proof. -/
theorem andThen_step (c : Dev nD) {α β : Type} {p : Prog (TpuEff nD τ sig (Elt F) Λ₀ .tc) α} {k : α → Prog (TpuEff nD τ sig (Elt F) Λ₀ .tc) β}
    {Q : β → sProp 𝕄} {S : sProp 𝕄}
    (h : ∀ k', k' = k → S ⊢ wp frame (wpE (defs₀ (F := F)) 𝒱₀ (c : Thread nD τ) none) Set.univ p (fun a => wp frame (wpE (defs₀ (F := F)) 𝒱₀ (c : Thread nD τ) none) Set.univ (k' a) Q)) :
    S ⊢ wp frame (wpE (defs₀ (F := F)) 𝒱₀ (c : Thread nD τ) none) Set.univ (andThen p k) Q :=
  bind_step c rfl (h k rfl)

/-- A run proved is proved under any name equal to it. -/
theorem wp_of_eq (c : Dev nD) {β : Type} {prg t : Prog (TpuEff nD τ sig (Elt F) Λ₀ .tc) β} {Q : β → sProp 𝕄} {S : sProp 𝕄}
    (h : S ⊢ wp frame (wpE (defs₀ (F := F)) 𝒱₀ (c : Thread nD τ) none) Set.univ t Q) (e : prg = t) :
    S ⊢ wp frame (wpE (defs₀ (F := F)) 𝒱₀ (c : Thread nD τ) none) Set.univ prg Q := by
  subst e; exact h

/-! ## What is left of the kernel's run before each of its parts -/

/-- The end of the kernel's run but its last wait. -/
def tail49 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v8 : BitVec 32) (v1434 : BitVec 32) (v1440 : BitVec 1) : Prog (TpuEff nD τ sig (Elt F) Λ₀ .tc) (Σ' (c : Dev nD) (v1564 : BitVec 1), BitVec 1) := do
  if k0_h283 : k0_cond283 c = 1#1 then do
    let v1569 : DmaSems sig S1x1 := arg12.slice (Rect.unit (s := S4x4) (k0_off570 c) S1x1.size (k0_off570_inb c k0_h283))
    let v1570 : DmaSems sig S_ := v1569.squeeze S_ squeezes_S1x1_S_
    let v1571 : Memref sig .tc .vmem S1x224x256 .bf16 := arg2.slice (Rect.unit (s := S1x2048x1024) (k0_off571 c) S1x224x256.size (k0_off571_inb c k0_h283)) (fun _ => rfl)
    let v1572 : Memref sig .tc .vmem S224x256 .bf16 := v1571.squeeze S224x256 squeezes_S1x224x256_S224x256
    let v1573 : Memref sig .tc .vmem S1x224x256 .bf16 := arg2.slice (Rect.unit (s := S1x2048x1024) (k0_off571 c) S1x224x256.size (k0_off571_inb c k0_h283)) (fun _ => rfl)
    let v1574 : Memref sig .tc .vmem S224x256 .bf16 := v1573.squeeze S224x256 squeezes_S1x224x256_S224x256
    Prog.lift (.waitDma2 v1570.sem v1574 v1572 ((harg2.wordExact_slice rfl _ (k0_off571_wordsbf16 c k0_h283)).reshape _ _) ((harg2.wordExact_slice rfl _ (k0_off571_wordsbf16 c k0_h283)).reshape _ _))
    pure ⟨⟩
  else do
    pure ⟨⟩
  let v1563 : BitVec 1 := Scalar.cmpi .sge v1434 v8
  let v1564 : BitVec 1 := Scalar.andi v1440 v1563
  let v1565 : BitVec 1 := Scalar.cmpi .sgt v8 0#32
  pure ⟨c, v1564, v1565⟩

/-- The kernel's run from part 48. -/
def tail48 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1433 : BitVec 32) (v1434 : BitVec 32) (v1437 : BitVec 1) (v1440 : BitVec 1) (v1523 : BitVec 32) : Prog (TpuEff nD τ sig (Elt F) Λ₀ .tc) (Σ' (c : Dev nD) (v1564 : BitVec 1), BitVec 1) :=
  andThen (k0_part48 arg0 harg0 arg1 harg1 arg2 harg2 arg3 harg3 arg4 harg4 arg5 harg5 arg6 arg7 arg8 arg9 arg10 arg11 arg12 arg13 c v5 v8 v1433 v1434 v1437 v1440 v1523) fun (v1558 : BitVec 1) =>
  tail49 arg0 harg0 arg1 harg1 arg2 harg2 arg3 harg3 arg4 harg4 arg5 harg5 arg6 arg7 arg8 arg9 arg10 arg11 arg12 arg13 c v8 v1434 v1440

/-- The kernel's run from part 47. -/
def tail47 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1433 : BitVec 32) (v1434 : BitVec 32) (v1437 : BitVec 1) (v1440 : BitVec 1) : Prog (TpuEff nD τ sig (Elt F) Λ₀ .tc) (Σ' (c : Dev nD) (v1564 : BitVec 1), BitVec 1) :=
  andThen (k0_part47 arg0 harg0 arg1 harg1 arg2 harg2 arg3 harg3 arg4 harg4 arg5 harg5 arg6 arg7 arg8 arg9 arg10 arg11 arg12 arg13 c v5 v8 v1433 v1434 v1437 v1440) fun (v1523 : BitVec 32) =>
  tail48 arg0 harg0 arg1 harg1 arg2 harg2 arg3 harg3 arg4 harg4 arg5 harg5 arg6 arg7 arg8 arg9 arg10 arg11 arg12 arg13 c v5 v8 v1433 v1434 v1437 v1440 v1523

/-- The kernel's run from part 46. -/
def tail46 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1433 : BitVec 32) (v1434 : BitVec 32) (v1437 : BitVec 1) (v1440 : BitVec 1) (v1455 : BitVec 32) (c0_i32_1019 : BitVec 32) : Prog (TpuEff nD τ sig (Elt F) Λ₀ .tc) (Σ' (c : Dev nD) (v1564 : BitVec 1), BitVec 1) :=
  andThen (k0_part46 arg0 harg0 arg1 harg1 arg2 harg2 arg3 harg3 arg4 harg4 arg5 harg5 arg6 arg7 arg8 arg9 arg10 arg11 arg12 arg13 c v5 v8 v1433 v1434 v1437 v1440 v1455 c0_i32_1019) fun _ =>
  tail47 arg0 harg0 arg1 harg1 arg2 harg2 arg3 harg3 arg4 harg4 arg5 harg5 arg6 arg7 arg8 arg9 arg10 arg11 arg12 arg13 c v5 v8 v1433 v1434 v1437 v1440

/-- The kernel's run from part 45. -/
def tail45 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1298 : BitVec 32) (v1304 : BitVec 1) : Prog (TpuEff nD τ sig (Elt F) Λ₀ .tc) (Σ' (c : Dev nD) (v1564 : BitVec 1), BitVec 1) :=
  andThen (k0_part45 arg0 harg0 arg1 harg1 arg2 harg2 arg3 harg3 arg4 harg4 arg5 harg5 arg6 arg7 arg8 arg9 arg10 arg11 arg12 arg13 c v5 v8 v1298 v1304) fun ⟨v1433, v1434, v1437, v1440, v1455, c0_i32_1019⟩ =>
  tail46 arg0 harg0 arg1 harg1 arg2 harg2 arg3 harg3 arg4 harg4 arg5 harg5 arg6 arg7 arg8 arg9 arg10 arg11 arg12 arg13 c v5 v8 v1433 v1434 v1437 v1440 v1455 c0_i32_1019

/-- The kernel's run from part 44. -/
def tail44 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1297 : BitVec 32) (v1298 : BitVec 32) (v1301 : BitVec 1) (v1304 : BitVec 1) : Prog (TpuEff nD τ sig (Elt F) Λ₀ .tc) (Σ' (c : Dev nD) (v1564 : BitVec 1), BitVec 1) :=
  andThen (k0_part44 arg0 harg0 arg1 harg1 arg2 harg2 arg3 harg3 arg4 harg4 arg5 harg5 arg6 arg7 arg8 arg9 arg10 arg11 arg12 arg13 c v5 v8 v1297 v1298 v1301 v1304) fun _ =>
  tail45 arg0 harg0 arg1 harg1 arg2 harg2 arg3 harg3 arg4 harg4 arg5 harg5 arg6 arg7 arg8 arg9 arg10 arg11 arg12 arg13 c v5 v8 v1298 v1304

/-- The kernel's run from part 43. -/
def tail43 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1297 : BitVec 32) (v1298 : BitVec 32) (v1301 : BitVec 1) (v1304 : BitVec 1) : Prog (TpuEff nD τ sig (Elt F) Λ₀ .tc) (Σ' (c : Dev nD) (v1564 : BitVec 1), BitVec 1) :=
  andThen (k0_part43 arg0 harg0 arg1 harg1 arg2 harg2 arg3 harg3 arg4 harg4 arg5 harg5 arg6 arg7 arg8 arg9 arg10 arg11 arg12 arg13 c v5 v8 v1297 v1298 v1301 v1304) fun _ =>
  tail44 arg0 harg0 arg1 harg1 arg2 harg2 arg3 harg3 arg4 harg4 arg5 harg5 arg6 arg7 arg8 arg9 arg10 arg11 arg12 arg13 c v5 v8 v1297 v1298 v1301 v1304

/-- The kernel's run from part 42. -/
def tail42 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1297 : BitVec 32) (v1298 : BitVec 32) (v1301 : BitVec 1) (v1304 : BitVec 1) (v1319 : BitVec 32) : Prog (TpuEff nD τ sig (Elt F) Λ₀ .tc) (Σ' (c : Dev nD) (v1564 : BitVec 1), BitVec 1) :=
  andThen (k0_part42 arg0 harg0 arg1 harg1 arg2 harg2 arg3 harg3 arg4 harg4 arg5 harg5 arg6 arg7 arg8 arg9 arg10 arg11 arg12 arg13 c v5 v8 v1297 v1298 v1301 v1304 v1319) fun _ =>
  tail43 arg0 harg0 arg1 harg1 arg2 harg2 arg3 harg3 arg4 harg4 arg5 harg5 arg6 arg7 arg8 arg9 arg10 arg11 arg12 arg13 c v5 v8 v1297 v1298 v1301 v1304

/-- The kernel's run from part 41. -/
def tail41 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1162 : BitVec 32) (v1168 : BitVec 1) (v1283 : BitVec 32) : Prog (TpuEff nD τ sig (Elt F) Λ₀ .tc) (Σ' (c : Dev nD) (v1564 : BitVec 1), BitVec 1) :=
  andThen (k0_part41 arg0 harg0 arg1 harg1 arg2 harg2 arg3 harg3 arg4 harg4 arg5 harg5 arg6 arg7 arg8 arg9 arg10 arg11 arg12 arg13 c v5 v8 v1162 v1168 v1283) fun ⟨v1297, v1298, v1301, v1304, v1319⟩ =>
  tail42 arg0 harg0 arg1 harg1 arg2 harg2 arg3 harg3 arg4 harg4 arg5 harg5 arg6 arg7 arg8 arg9 arg10 arg11 arg12 arg13 c v5 v8 v1297 v1298 v1301 v1304 v1319

/-- The kernel's run from part 40. -/
def tail40 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1161 : BitVec 32) (v1162 : BitVec 32) (v1165 : BitVec 1) (v1168 : BitVec 1) : Prog (TpuEff nD τ sig (Elt F) Λ₀ .tc) (Σ' (c : Dev nD) (v1564 : BitVec 1), BitVec 1) :=
  andThen (k0_part40 arg0 harg0 arg1 harg1 arg2 harg2 arg3 harg3 arg4 harg4 arg5 harg5 arg6 arg7 arg8 arg9 arg10 arg11 arg12 arg13 c v5 v8 v1161 v1162 v1165 v1168) fun (v1283 : BitVec 32) =>
  tail41 arg0 harg0 arg1 harg1 arg2 harg2 arg3 harg3 arg4 harg4 arg5 harg5 arg6 arg7 arg8 arg9 arg10 arg11 arg12 arg13 c v5 v8 v1162 v1168 v1283

/-- The kernel's run from part 39. -/
def tail39 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1161 : BitVec 32) (v1162 : BitVec 32) (v1165 : BitVec 1) (v1168 : BitVec 1) (v1215 : BitVec 32) (c0_i32_867 : BitVec 32) : Prog (TpuEff nD τ sig (Elt F) Λ₀ .tc) (Σ' (c : Dev nD) (v1564 : BitVec 1), BitVec 1) :=
  andThen (k0_part39 arg0 harg0 arg1 harg1 arg2 harg2 arg3 harg3 arg4 harg4 arg5 harg5 arg6 arg7 arg8 arg9 arg10 arg11 arg12 arg13 c v5 v8 v1161 v1162 v1165 v1168 v1215 c0_i32_867) fun _ =>
  tail40 arg0 harg0 arg1 harg1 arg2 harg2 arg3 harg3 arg4 harg4 arg5 harg5 arg6 arg7 arg8 arg9 arg10 arg11 arg12 arg13 c v5 v8 v1161 v1162 v1165 v1168

/-- The kernel's run from part 38. -/
def tail38 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1161 : BitVec 32) (v1162 : BitVec 32) (v1165 : BitVec 1) (v1168 : BitVec 1) (v1180 : BitVec 1) (v1181 : BitVec 1) : Prog (TpuEff nD τ sig (Elt F) Λ₀ .tc) (Σ' (c : Dev nD) (v1564 : BitVec 1), BitVec 1) :=
  andThen (k0_part38 arg0 harg0 arg1 harg1 arg2 harg2 arg3 harg3 arg4 harg4 arg5 harg5 arg6 arg7 arg8 arg9 arg10 arg11 arg12 arg13 c v5 v8 v1161 v1162 v1165 v1168 v1180 v1181) fun ⟨v1215, c0_i32_867⟩ =>
  tail39 arg0 harg0 arg1 harg1 arg2 harg2 arg3 harg3 arg4 harg4 arg5 harg5 arg6 arg7 arg8 arg9 arg10 arg11 arg12 arg13 c v5 v8 v1161 v1162 v1165 v1168 v1215 c0_i32_867

/-- The kernel's run from part 37. -/
def tail37 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1026 : BitVec 32) (v1032 : BitVec 1) : Prog (TpuEff nD τ sig (Elt F) Λ₀ .tc) (Σ' (c : Dev nD) (v1564 : BitVec 1), BitVec 1) :=
  andThen (k0_part37 arg0 harg0 arg1 harg1 arg2 harg2 arg3 harg3 arg4 harg4 arg5 harg5 arg6 arg7 arg8 arg9 arg10 arg11 arg12 arg13 c v5 v8 v1026 v1032) fun ⟨v1161, v1162, v1165, v1168, v1180, v1181⟩ =>
  tail38 arg0 harg0 arg1 harg1 arg2 harg2 arg3 harg3 arg4 harg4 arg5 harg5 arg6 arg7 arg8 arg9 arg10 arg11 arg12 arg13 c v5 v8 v1161 v1162 v1165 v1168 v1180 v1181

/-- The kernel's run from part 36. -/
def tail36 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1025 : BitVec 32) (v1026 : BitVec 32) (v1029 : BitVec 1) (v1032 : BitVec 1) : Prog (TpuEff nD τ sig (Elt F) Λ₀ .tc) (Σ' (c : Dev nD) (v1564 : BitVec 1), BitVec 1) :=
  andThen (k0_part36 arg0 harg0 arg1 harg1 arg2 harg2 arg3 harg3 arg4 harg4 arg5 harg5 arg6 arg7 arg8 arg9 arg10 arg11 arg12 arg13 c v5 v8 v1025 v1026 v1029 v1032) fun _ =>
  tail37 arg0 harg0 arg1 harg1 arg2 harg2 arg3 harg3 arg4 harg4 arg5 harg5 arg6 arg7 arg8 arg9 arg10 arg11 arg12 arg13 c v5 v8 v1026 v1032

/-- The kernel's run from part 35. -/
def tail35 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1025 : BitVec 32) (v1026 : BitVec 32) (v1029 : BitVec 1) (v1032 : BitVec 1) (v1079 : BitVec 32) : Prog (TpuEff nD τ sig (Elt F) Λ₀ .tc) (Σ' (c : Dev nD) (v1564 : BitVec 1), BitVec 1) :=
  andThen (k0_part35 arg0 harg0 arg1 harg1 arg2 harg2 arg3 harg3 arg4 harg4 arg5 harg5 arg6 arg7 arg8 arg9 arg10 arg11 arg12 arg13 c v5 v8 v1025 v1026 v1029 v1032 v1079) fun _ =>
  tail36 arg0 harg0 arg1 harg1 arg2 harg2 arg3 harg3 arg4 harg4 arg5 harg5 arg6 arg7 arg8 arg9 arg10 arg11 arg12 arg13 c v5 v8 v1025 v1026 v1029 v1032

/-- The kernel's run from part 34. -/
def tail34 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v1025 : BitVec 32) (v1026 : BitVec 32) (v1029 : BitVec 1) (v1032 : BitVec 1) (v1044 : BitVec 1) : Prog (TpuEff nD τ sig (Elt F) Λ₀ .tc) (Σ' (c : Dev nD) (v1564 : BitVec 1), BitVec 1) :=
  andThen (k0_part34 arg0 harg0 arg1 harg1 arg2 harg2 arg3 harg3 arg4 harg4 arg5 harg5 arg6 arg7 arg8 arg9 arg10 arg11 arg12 arg13 c v5 v8 v1025 v1026 v1029 v1032 v1044) fun (v1079 : BitVec 32) =>
  tail35 arg0 harg0 arg1 harg1 arg2 harg2 arg3 harg3 arg4 harg4 arg5 harg5 arg6 arg7 arg8 arg9 arg10 arg11 arg12 arg13 c v5 v8 v1025 v1026 v1029 v1032 v1079

/-- The kernel's run from part 33. -/
def tail33 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v890 : BitVec 32) (v896 : BitVec 1) : Prog (TpuEff nD τ sig (Elt F) Λ₀ .tc) (Σ' (c : Dev nD) (v1564 : BitVec 1), BitVec 1) :=
  andThen (k0_part33 arg0 harg0 arg1 harg1 arg2 harg2 arg3 harg3 arg4 harg4 arg5 harg5 arg6 arg7 arg8 arg9 arg10 arg11 arg12 arg13 c v5 v8 v890 v896) fun ⟨v1025, v1026, v1029, v1032, v1044⟩ =>
  tail34 arg0 harg0 arg1 harg1 arg2 harg2 arg3 harg3 arg4 harg4 arg5 harg5 arg6 arg7 arg8 arg9 arg10 arg11 arg12 arg13 c v5 v8 v1025 v1026 v1029 v1032 v1044

/-- The kernel's run from part 32. -/
def tail32 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v889 : BitVec 32) (v890 : BitVec 32) (v893 : BitVec 1) (v896 : BitVec 1) (v975 : BitVec 32) (c0_i32_715 : BitVec 32) : Prog (TpuEff nD τ sig (Elt F) Λ₀ .tc) (Σ' (c : Dev nD) (v1564 : BitVec 1), BitVec 1) :=
  andThen (k0_part32 arg0 harg0 arg1 harg1 arg2 harg2 arg3 harg3 arg4 harg4 arg5 harg5 arg6 arg7 arg8 arg9 arg10 arg11 arg12 arg13 c v5 v8 v889 v890 v893 v896 v975 c0_i32_715) fun _ =>
  tail33 arg0 harg0 arg1 harg1 arg2 harg2 arg3 harg3 arg4 harg4 arg5 harg5 arg6 arg7 arg8 arg9 arg10 arg11 arg12 arg13 c v5 v8 v890 v896

/-- The kernel's run from part 31. -/
def tail31 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v889 : BitVec 32) (v890 : BitVec 32) (v893 : BitVec 1) (v896 : BitVec 1) (v940 : BitVec 1) (v941 : BitVec 1) : Prog (TpuEff nD τ sig (Elt F) Λ₀ .tc) (Σ' (c : Dev nD) (v1564 : BitVec 1), BitVec 1) :=
  andThen (k0_part31 arg0 harg0 arg1 harg1 arg2 harg2 arg3 harg3 arg4 harg4 arg5 harg5 arg6 arg7 arg8 arg9 arg10 arg11 arg12 arg13 c v5 v8 v889 v890 v893 v896 v940 v941) fun ⟨v975, c0_i32_715⟩ =>
  tail32 arg0 harg0 arg1 harg1 arg2 harg2 arg3 harg3 arg4 harg4 arg5 harg5 arg6 arg7 arg8 arg9 arg10 arg11 arg12 arg13 c v5 v8 v889 v890 v893 v896 v975 c0_i32_715

/-- The kernel's run from part 30. -/
def tail30 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v889 : BitVec 32) (v890 : BitVec 32) (v893 : BitVec 1) (v896 : BitVec 1) : Prog (TpuEff nD τ sig (Elt F) Λ₀ .tc) (Σ' (c : Dev nD) (v1564 : BitVec 1), BitVec 1) :=
  andThen (k0_part30 arg0 harg0 arg1 harg1 arg2 harg2 arg3 harg3 arg4 harg4 arg5 harg5 arg6 arg7 arg8 arg9 arg10 arg11 arg12 arg13 c v5 v8 v889 v890 v893 v896) fun ⟨v940, v941⟩ =>
  tail31 arg0 harg0 arg1 harg1 arg2 harg2 arg3 harg3 arg4 harg4 arg5 harg5 arg6 arg7 arg8 arg9 arg10 arg11 arg12 arg13 c v5 v8 v889 v890 v893 v896 v940 v941

/-- The kernel's run from part 29. -/
def tail29 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v754 : BitVec 32) (v760 : BitVec 1) : Prog (TpuEff nD τ sig (Elt F) Λ₀ .tc) (Σ' (c : Dev nD) (v1564 : BitVec 1), BitVec 1) :=
  andThen (k0_part29 arg0 harg0 arg1 harg1 arg2 harg2 arg3 harg3 arg4 harg4 arg5 harg5 arg6 arg7 arg8 arg9 arg10 arg11 arg12 arg13 c v5 v8 v754 v760) fun ⟨v889, v890, v893, v896⟩ =>
  tail30 arg0 harg0 arg1 harg1 arg2 harg2 arg3 harg3 arg4 harg4 arg5 harg5 arg6 arg7 arg8 arg9 arg10 arg11 arg12 arg13 c v5 v8 v889 v890 v893 v896

/-- The kernel's run from part 28. -/
def tail28 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v753 : BitVec 32) (v754 : BitVec 32) (v757 : BitVec 1) (v760 : BitVec 1) (v839 : BitVec 32) : Prog (TpuEff nD τ sig (Elt F) Λ₀ .tc) (Σ' (c : Dev nD) (v1564 : BitVec 1), BitVec 1) :=
  andThen (k0_part28 arg0 harg0 arg1 harg1 arg2 harg2 arg3 harg3 arg4 harg4 arg5 harg5 arg6 arg7 arg8 arg9 arg10 arg11 arg12 arg13 c v5 v8 v753 v754 v757 v760 v839) fun _ =>
  tail29 arg0 harg0 arg1 harg1 arg2 harg2 arg3 harg3 arg4 harg4 arg5 harg5 arg6 arg7 arg8 arg9 arg10 arg11 arg12 arg13 c v5 v8 v754 v760

/-- The kernel's run from part 27. -/
def tail27 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v753 : BitVec 32) (v754 : BitVec 32) (v757 : BitVec 1) (v760 : BitVec 1) (v804 : BitVec 1) : Prog (TpuEff nD τ sig (Elt F) Λ₀ .tc) (Σ' (c : Dev nD) (v1564 : BitVec 1), BitVec 1) :=
  andThen (k0_part27 arg0 harg0 arg1 harg1 arg2 harg2 arg3 harg3 arg4 harg4 arg5 harg5 arg6 arg7 arg8 arg9 arg10 arg11 arg12 arg13 c v5 v8 v753 v754 v757 v760 v804) fun (v839 : BitVec 32) =>
  tail28 arg0 harg0 arg1 harg1 arg2 harg2 arg3 harg3 arg4 harg4 arg5 harg5 arg6 arg7 arg8 arg9 arg10 arg11 arg12 arg13 c v5 v8 v753 v754 v757 v760 v839

/-- The kernel's run from part 26. -/
def tail26 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v753 : BitVec 32) (v754 : BitVec 32) (v757 : BitVec 1) (v760 : BitVec 1) (v769 : BitVec 32) (c0_i32_586 : BitVec 32) : Prog (TpuEff nD τ sig (Elt F) Λ₀ .tc) (Σ' (c : Dev nD) (v1564 : BitVec 1), BitVec 1) :=
  andThen (k0_part26 arg0 harg0 arg1 harg1 arg2 harg2 arg3 harg3 arg4 harg4 arg5 harg5 arg6 arg7 arg8 arg9 arg10 arg11 arg12 arg13 c v5 v8 v753 v754 v757 v760 v769 c0_i32_586) fun (v804 : BitVec 1) =>
  tail27 arg0 harg0 arg1 harg1 arg2 harg2 arg3 harg3 arg4 harg4 arg5 harg5 arg6 arg7 arg8 arg9 arg10 arg11 arg12 arg13 c v5 v8 v753 v754 v757 v760 v804

/-- The kernel's run from part 25. -/
def tail25 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v618 : BitVec 32) (v624 : BitVec 1) (v735 : BitVec 32) (c0_i32_563 : BitVec 32) : Prog (TpuEff nD τ sig (Elt F) Λ₀ .tc) (Σ' (c : Dev nD) (v1564 : BitVec 1), BitVec 1) :=
  andThen (k0_part25 arg0 harg0 arg1 harg1 arg2 harg2 arg3 harg3 arg4 harg4 arg5 harg5 arg6 arg7 arg8 arg9 arg10 arg11 arg12 arg13 c v5 v8 v618 v624 v735 c0_i32_563) fun ⟨v753, v754, v757, v760, v769, c0_i32_586⟩ =>
  tail26 arg0 harg0 arg1 harg1 arg2 harg2 arg3 harg3 arg4 harg4 arg5 harg5 arg6 arg7 arg8 arg9 arg10 arg11 arg12 arg13 c v5 v8 v753 v754 v757 v760 v769 c0_i32_586

/-- The kernel's run from part 24. -/
def tail24 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v617 : BitVec 32) (v618 : BitVec 32) (v621 : BitVec 1) (v624 : BitVec 1) (v700 : BitVec 1) (v701 : BitVec 1) : Prog (TpuEff nD τ sig (Elt F) Λ₀ .tc) (Σ' (c : Dev nD) (v1564 : BitVec 1), BitVec 1) :=
  andThen (k0_part24 arg0 harg0 arg1 harg1 arg2 harg2 arg3 harg3 arg4 harg4 arg5 harg5 arg6 arg7 arg8 arg9 arg10 arg11 arg12 arg13 c v5 v8 v617 v618 v621 v624 v700 v701) fun ⟨v735, c0_i32_563⟩ =>
  tail25 arg0 harg0 arg1 harg1 arg2 harg2 arg3 harg3 arg4 harg4 arg5 harg5 arg6 arg7 arg8 arg9 arg10 arg11 arg12 arg13 c v5 v8 v618 v624 v735 c0_i32_563

/-- The kernel's run from part 23. -/
def tail23 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v617 : BitVec 32) (v618 : BitVec 32) (v621 : BitVec 1) (v624 : BitVec 1) : Prog (TpuEff nD τ sig (Elt F) Λ₀ .tc) (Σ' (c : Dev nD) (v1564 : BitVec 1), BitVec 1) :=
  andThen (k0_part23 arg0 harg0 arg1 harg1 arg2 harg2 arg3 harg3 arg4 harg4 arg5 harg5 arg6 arg7 arg8 arg9 arg10 arg11 arg12 arg13 c v5 v8 v617 v618 v621 v624) fun ⟨v700, v701⟩ =>
  tail24 arg0 harg0 arg1 harg1 arg2 harg2 arg3 harg3 arg4 harg4 arg5 harg5 arg6 arg7 arg8 arg9 arg10 arg11 arg12 arg13 c v5 v8 v617 v618 v621 v624 v700 v701

/-- The kernel's run from part 22. -/
def tail22 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) (v617 : BitVec 32) (v618 : BitVec 32) (v621 : BitVec 1) (v624 : BitVec 1) (v633 : BitVec 32) : Prog (TpuEff nD τ sig (Elt F) Λ₀ .tc) (Σ' (c : Dev nD) (v1564 : BitVec 1), BitVec 1) :=
  andThen (k0_part22 arg0 harg0 arg1 harg1 arg2 harg2 arg3 harg3 arg4 harg4 arg5 harg5 arg6 arg7 arg8 arg9 arg10 arg11 arg12 arg13 c v5 v8 v617 v618 v621 v624 v633) fun _ =>
  tail23 arg0 harg0 arg1 harg1 arg2 harg2 arg3 harg3 arg4 harg4 arg5 harg5 arg6 arg7 arg8 arg9 arg10 arg11 arg12 arg13 c v5 v8 v617 v618 v621 v624

/-- The kernel's run from part 21. -/
def tail21 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) : Prog (TpuEff nD τ sig (Elt F) Λ₀ .tc) (Σ' (c : Dev nD) (v1564 : BitVec 1), BitVec 1) :=
  andThen (k0_part21 arg0 harg0 arg1 harg1 arg2 harg2 arg3 harg3 arg4 harg4 arg5 harg5 arg6 arg7 arg8 arg9 arg10 arg11 arg12 arg13 v5 v8) fun ⟨v617, v618, v621, v624, v633⟩ =>
  tail22 arg0 harg0 arg1 harg1 arg2 harg2 arg3 harg3 arg4 harg4 arg5 harg5 arg6 arg7 arg8 arg9 arg10 arg11 arg12 arg13 c v5 v8 v617 v618 v621 v624 v633

/-- The kernel's run from part 20. -/
def tail20 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) : Prog (TpuEff nD τ sig (Elt F) Λ₀ .tc) (Σ' (c : Dev nD) (v1564 : BitVec 1), BitVec 1) :=
  andThen (k0_part20 arg0 harg0 arg1 harg1 arg2 harg2 arg3 harg3 arg4 harg4 arg5 harg5 arg6 arg7 arg8 arg9 arg10 arg11 arg12 arg13 c) fun _ =>
  tail21 arg0 harg0 arg1 harg1 arg2 harg2 arg3 harg3 arg4 harg4 arg5 harg5 arg6 arg7 arg8 arg9 arg10 arg11 arg12 arg13 c v5 v8

/-- The kernel's run from part 19. -/
def tail19 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v5 : BitVec 32) (v8 : BitVec 32) : Prog (TpuEff nD τ sig (Elt F) Λ₀ .tc) (Σ' (c : Dev nD) (v1564 : BitVec 1), BitVec 1) :=
  andThen (k0_part19 arg0 harg0 arg1 harg1 arg2 harg2 arg3 harg3 arg4 harg4 arg5 harg5 arg6 arg7 arg8 arg9 arg10 arg11 arg12 arg13 c) fun _ =>
  tail20 arg0 harg0 arg1 harg1 arg2 harg2 arg3 harg3 arg4 harg4 arg5 harg5 arg6 arg7 arg8 arg9 arg10 arg11 arg12 arg13 c v5 v8

/-- The kernel's run from part 18. -/
def tail18 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v493 : BitVec 32) (v494 : BitVec 32) (v500 : BitVec 1) (v525 : BitVec 32) (v526 : BitVec 32) (v527 : BitVec 32) (c0_i32_378 : BitVec 32) : Prog (TpuEff nD τ sig (Elt F) Λ₀ .tc) (Σ' (c : Dev nD) (v1564 : BitVec 1), BitVec 1) :=
  andThen (k0_part18 arg0 harg0 arg1 harg1 arg2 harg2 arg3 harg3 arg4 harg4 arg5 harg5 arg6 arg7 arg8 arg9 arg10 arg11 arg12 arg13 c v2 v5 v8 v493 v494 v500 v525 v526 v527 c0_i32_378) fun _ =>
  tail19 arg0 harg0 arg1 harg1 arg2 harg2 arg3 harg3 arg4 harg4 arg5 harg5 arg6 arg7 arg8 arg9 arg10 arg11 arg12 arg13 c v5 v8

/-- The kernel's run from part 17. -/
def tail17 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v493 : BitVec 32) (v494 : BitVec 32) (v495 : BitVec 1) (v496 : BitVec 1) : Prog (TpuEff nD τ sig (Elt F) Λ₀ .tc) (Σ' (c : Dev nD) (v1564 : BitVec 1), BitVec 1) :=
  andThen (k0_part17 arg0 harg0 arg1 harg1 arg2 harg2 arg3 harg3 arg4 harg4 arg5 harg5 arg6 arg7 arg8 arg9 arg10 arg11 arg12 arg13 c v2 v5 v8 v493 v494 v495 v496) fun ⟨v500, v525, v526, v527, c0_i32_378⟩ =>
  tail18 arg0 harg0 arg1 harg1 arg2 harg2 arg3 harg3 arg4 harg4 arg5 harg5 arg6 arg7 arg8 arg9 arg10 arg11 arg12 arg13 c v2 v5 v8 v493 v494 v500 v525 v526 v527 c0_i32_378

/-- The kernel's run from part 16. -/
def tail16 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v453 : BitVec 32) (v454 : BitVec 32) (v457 : BitVec 1) (v460 : BitVec 1) (v465 : BitVec 32) (v466 : BitVec 32) : Prog (TpuEff nD τ sig (Elt F) Λ₀ .tc) (Σ' (c : Dev nD) (v1564 : BitVec 1), BitVec 1) :=
  andThen (k0_part16 arg0 harg0 arg1 harg1 arg2 harg2 arg3 harg3 arg4 harg4 arg5 harg5 arg6 arg7 arg8 arg9 arg10 arg11 arg12 arg13 c v2 v5 v8 v453 v454 v457 v460 v465 v466) fun ⟨v493, v494, v495, v496⟩ =>
  tail17 arg0 harg0 arg1 harg1 arg2 harg2 arg3 harg3 arg4 harg4 arg5 harg5 arg6 arg7 arg8 arg9 arg10 arg11 arg12 arg13 c v2 v5 v8 v493 v494 v495 v496

/-- The kernel's run from part 15. -/
def tail15 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v413 : BitVec 32) (v414 : BitVec 32) (v417 : BitVec 1) (v420 : BitVec 1) (v433 : BitVec 32) (v434 : BitVec 32) (v435 : BitVec 32) (c0_i32_310 : BitVec 32) : Prog (TpuEff nD τ sig (Elt F) Λ₀ .tc) (Σ' (c : Dev nD) (v1564 : BitVec 1), BitVec 1) :=
  andThen (k0_part15 arg0 harg0 arg1 harg1 arg2 harg2 arg3 harg3 arg4 harg4 arg5 harg5 arg6 arg7 arg8 arg9 arg10 arg11 arg12 arg13 c v2 v5 v8 v413 v414 v417 v420 v433 v434 v435 c0_i32_310) fun ⟨v453, v454, v457, v460, v465, v466⟩ =>
  tail16 arg0 harg0 arg1 harg1 arg2 harg2 arg3 harg3 arg4 harg4 arg5 harg5 arg6 arg7 arg8 arg9 arg10 arg11 arg12 arg13 c v2 v5 v8 v453 v454 v457 v460 v465 v466

/-- The kernel's run from part 14. -/
def tail14 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v373 : BitVec 32) (v374 : BitVec 32) (v377 : BitVec 1) (v380 : BitVec 1) : Prog (TpuEff nD τ sig (Elt F) Λ₀ .tc) (Σ' (c : Dev nD) (v1564 : BitVec 1), BitVec 1) :=
  andThen (k0_part14 arg0 harg0 arg1 harg1 arg2 harg2 arg3 harg3 arg4 harg4 arg5 harg5 arg6 arg7 arg8 arg9 arg10 arg11 arg12 arg13 c v2 v5 v8 v373 v374 v377 v380) fun ⟨v413, v414, v417, v420, v433, v434, v435, c0_i32_310⟩ =>
  tail15 arg0 harg0 arg1 harg1 arg2 harg2 arg3 harg3 arg4 harg4 arg5 harg5 arg6 arg7 arg8 arg9 arg10 arg11 arg12 arg13 c v2 v5 v8 v413 v414 v417 v420 v433 v434 v435 c0_i32_310

/-- The kernel's run from part 13. -/
def tail13 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v373 : BitVec 32) : Prog (TpuEff nD τ sig (Elt F) Λ₀ .tc) (Σ' (c : Dev nD) (v1564 : BitVec 1), BitVec 1) :=
  andThen (k0_part13 arg0 harg0 arg1 harg1 arg2 harg2 arg3 harg3 arg4 harg4 arg5 harg5 arg6 arg7 arg8 arg9 arg10 arg11 arg12 arg13 c v2 v5 v8 v373) fun ⟨v374, v377, v380⟩ =>
  tail14 arg0 harg0 arg1 harg1 arg2 harg2 arg3 harg3 arg4 harg4 arg5 harg5 arg6 arg7 arg8 arg9 arg10 arg11 arg12 arg13 c v2 v5 v8 v373 v374 v377 v380

/-- The kernel's run from part 12. -/
def tail12 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v333 : BitVec 32) (v334 : BitVec 32) (v337 : BitVec 1) (v340 : BitVec 1) (v341 : BitVec 32) (v342 : BitVec 32) (v343 : BitVec 32) (c0_i32_242 : BitVec 32) : Prog (TpuEff nD τ sig (Elt F) Λ₀ .tc) (Σ' (c : Dev nD) (v1564 : BitVec 1), BitVec 1) :=
  andThen (k0_part12 arg0 harg0 arg1 harg1 arg2 harg2 arg3 harg3 arg4 harg4 arg5 harg5 arg6 arg7 arg8 arg9 arg10 arg11 arg12 arg13 c v2 v5 v8 v333 v334 v337 v340 v341 v342 v343 c0_i32_242) fun (v373 : BitVec 32) =>
  tail13 arg0 harg0 arg1 harg1 arg2 harg2 arg3 harg3 arg4 harg4 arg5 harg5 arg6 arg7 arg8 arg9 arg10 arg11 arg12 arg13 c v2 v5 v8 v373

/-- The kernel's run from part 11. -/
def tail11 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v293 : BitVec 32) (v294 : BitVec 32) (v297 : BitVec 1) (v300 : BitVec 1) : Prog (TpuEff nD τ sig (Elt F) Λ₀ .tc) (Σ' (c : Dev nD) (v1564 : BitVec 1), BitVec 1) :=
  andThen (k0_part11 arg0 harg0 arg1 harg1 arg2 harg2 arg3 harg3 arg4 harg4 arg5 harg5 arg6 arg7 arg8 arg9 arg10 arg11 arg12 arg13 c v2 v5 v8 v293 v294 v297 v300) fun ⟨v333, v334, v337, v340, v341, v342, v343, c0_i32_242⟩ =>
  tail12 arg0 harg0 arg1 harg1 arg2 harg2 arg3 harg3 arg4 harg4 arg5 harg5 arg6 arg7 arg8 arg9 arg10 arg11 arg12 arg13 c v2 v5 v8 v333 v334 v337 v340 v341 v342 v343 c0_i32_242

/-- The kernel's run from part 10. -/
def tail10 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v253 : BitVec 32) (v254 : BitVec 32) (v257 : BitVec 1) (v260 : BitVec 1) (v281 : BitVec 32) : Prog (TpuEff nD τ sig (Elt F) Λ₀ .tc) (Σ' (c : Dev nD) (v1564 : BitVec 1), BitVec 1) :=
  andThen (k0_part10 arg0 harg0 arg1 harg1 arg2 harg2 arg3 harg3 arg4 harg4 arg5 harg5 arg6 arg7 arg8 arg9 arg10 arg11 arg12 arg13 c v2 v5 v8 v253 v254 v257 v260 v281) fun ⟨v293, v294, v297, v300⟩ =>
  tail11 arg0 harg0 arg1 harg1 arg2 harg2 arg3 harg3 arg4 harg4 arg5 harg5 arg6 arg7 arg8 arg9 arg10 arg11 arg12 arg13 c v2 v5 v8 v293 v294 v297 v300

/-- The kernel's run from part 9. -/
def tail9 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) : Prog (TpuEff nD τ sig (Elt F) Λ₀ .tc) (Σ' (c : Dev nD) (v1564 : BitVec 1), BitVec 1) :=
  andThen (k0_part9 arg0 harg0 arg1 harg1 arg2 harg2 arg3 harg3 arg4 harg4 arg5 harg5 arg6 arg7 arg8 arg9 arg10 arg11 arg12 arg13 c v2 v5 v8 v10 k0_hw1) fun ⟨v253, v254, v257, v260, v281⟩ =>
  tail10 arg0 harg0 arg1 harg1 arg2 harg2 arg3 harg3 arg4 harg4 arg5 harg5 arg6 arg7 arg8 arg9 arg10 arg11 arg12 arg13 c v2 v5 v8 v253 v254 v257 v260 v281

/-- The kernel's run from part 8. -/
def tail8 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) : Prog (TpuEff nD τ sig (Elt F) Λ₀ .tc) (Σ' (c : Dev nD) (v1564 : BitVec 1), BitVec 1) :=
  andThen (k0_part8 arg0 harg0 arg1 harg1 arg2 harg2 arg3 harg3 arg4 harg4 arg5 harg5 arg6 arg7 arg8 arg9 arg10 arg11 arg12 arg13 c v5 v8 v10 k0_hw1) fun _ =>
  tail9 arg0 harg0 arg1 harg1 arg2 harg2 arg3 harg3 arg4 harg4 arg5 harg5 arg6 arg7 arg8 arg9 arg10 arg11 arg12 arg13 c v2 v5 v8 v10 k0_hw1

/-- The kernel's run from part 7. -/
def tail7 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v54 : BitVec 32) : Prog (TpuEff nD τ sig (Elt F) Λ₀ .tc) (Σ' (c : Dev nD) (v1564 : BitVec 1), BitVec 1) :=
  andThen (k0_part7 arg0 harg0 arg1 harg1 arg2 harg2 arg3 harg3 arg4 harg4 arg5 harg5 arg6 arg7 arg8 arg9 arg10 arg11 arg12 arg13 c v5 v8 v10 k0_hw1 v54) fun _ =>
  tail8 arg0 harg0 arg1 harg1 arg2 harg2 arg3 harg3 arg4 harg4 arg5 harg5 arg6 arg7 arg8 arg9 arg10 arg11 arg12 arg13 c v2 v5 v8 v10 k0_hw1

/-- The kernel's run from part 6. -/
def tail6 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v52 : BitVec 32) (v54 : BitVec 32) (v157 : FVec F S224x256 .bf16) : Prog (TpuEff nD τ sig (Elt F) Λ₀ .tc) (Σ' (c : Dev nD) (v1564 : BitVec 1), BitVec 1) :=
  andThen (k0_part6 arg0 harg0 arg1 harg1 arg2 harg2 arg3 harg3 arg4 harg4 arg5 harg5 arg6 arg7 arg8 arg9 arg10 arg11 arg12 arg13 c v5 v8 v10 k0_hw1 v52 v157) fun _ =>
  tail7 arg0 harg0 arg1 harg1 arg2 harg2 arg3 harg3 arg4 harg4 arg5 harg5 arg6 arg7 arg8 arg9 arg10 arg11 arg12 arg13 c v2 v5 v8 v10 k0_hw1 v54

/-- The kernel's run from part 5. -/
def tail5 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v52 : BitVec 32) (v54 : BitVec 32) (v124 : BitVec 32) (c1_i32_84 : BitVec 32) : Prog (TpuEff nD τ sig (Elt F) Λ₀ .tc) (Σ' (c : Dev nD) (v1564 : BitVec 1), BitVec 1) :=
  andThen (k0_part5 arg0 harg0 arg1 harg1 arg2 harg2 arg3 harg3 arg4 harg4 arg5 harg5 arg6 arg7 arg8 arg9 arg10 arg11 arg12 arg13 c v5 v8 v10 k0_hw1 v52 v54 v124 c1_i32_84) fun (v157 : FVec F S224x256 .bf16) =>
  tail6 arg0 harg0 arg1 harg1 arg2 harg2 arg3 harg3 arg4 harg4 arg5 harg5 arg6 arg7 arg8 arg9 arg10 arg11 arg12 arg13 c v2 v5 v8 v10 k0_hw1 v52 v54 v157

/-- The kernel's run from part 4. -/
def tail4 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v52 : BitVec 32) (v54 : BitVec 32) : Prog (TpuEff nD τ sig (Elt F) Λ₀ .tc) (Σ' (c : Dev nD) (v1564 : BitVec 1), BitVec 1) :=
  andThen (k0_part4 arg0 harg0 arg1 harg1 arg2 harg2 arg3 harg3 arg4 harg4 arg5 harg5 arg6 arg7 arg8 arg9 arg10 arg11 arg12 arg13 c v5 v8 v10 k0_hw1 v54) fun ⟨v124, c1_i32_84⟩ =>
  tail5 arg0 harg0 arg1 harg1 arg2 harg2 arg3 harg3 arg4 harg4 arg5 harg5 arg6 arg7 arg8 arg9 arg10 arg11 arg12 arg13 c v2 v5 v8 v10 k0_hw1 v52 v54 v124 c1_i32_84

/-- The kernel's run from part 3. -/
def tail3 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v52 : BitVec 32) (v54 : BitVec 32) (v61 : BitVec 32) : Prog (TpuEff nD τ sig (Elt F) Λ₀ .tc) (Σ' (c : Dev nD) (v1564 : BitVec 1), BitVec 1) :=
  andThen (k0_part3 arg0 harg0 arg1 harg1 arg2 harg2 arg3 harg3 arg4 harg4 arg5 harg5 arg6 arg7 arg8 arg9 arg10 arg11 arg12 arg13 c v5 v8 v10 k0_hw1 v52 v54 v61) fun _ =>
  tail4 arg0 harg0 arg1 harg1 arg2 harg2 arg3 harg3 arg4 harg4 arg5 harg5 arg6 arg7 arg8 arg9 arg10 arg11 arg12 arg13 c v2 v5 v8 v10 k0_hw1 v52 v54

/-- The kernel's run from part 2. -/
def tail2 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (c : Dev nD) (v2 : BitVec 32) (v5 : BitVec 32) (v8 : BitVec 32) (v10 : Elt F .i32) (k0_hw1 : k0_chk1 c v10) (v14 : Sems sig S_) (v31 : BitVec 32) : Prog (TpuEff nD τ sig (Elt F) Λ₀ .tc) (Σ' (c : Dev nD) (v1564 : BitVec 1), BitVec 1) :=
  andThen (k0_part2 arg0 harg0 arg1 harg1 arg2 harg2 arg3 harg3 arg4 harg4 arg5 harg5 arg6 arg7 arg8 arg9 arg10 arg11 arg12 arg13 c v2 v5 v8 v10 v14 v31) fun ⟨v52, v54, v61⟩ =>
  tail3 arg0 harg0 arg1 harg1 arg2 harg2 arg3 harg3 arg4 harg4 arg5 harg5 arg6 arg7 arg8 arg9 arg10 arg11 arg12 arg13 c v2 v5 v8 v10 k0_hw1 v52 v54 v61

/-- The kernel's run from part 1. -/
def tail1 (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
     : Prog (TpuEff nD τ sig (Elt F) Λ₀ .tc) (Σ' (c : Dev nD) (v1564 : BitVec 1), BitVec 1) :=
  andThen (k0_part1 arg0 harg0 arg1 harg1 arg2 harg2 arg3 harg3 arg4 harg4 arg5 harg5 arg6 arg7 arg8 arg9 arg10 arg11 arg12 arg13) fun ⟨c, v2, v5, v8, v10, k0_hw1, v14, v31⟩ =>
  tail2 arg0 harg0 arg1 harg1 arg2 harg2 arg3 harg3 arg4 harg4 arg5 harg5 arg6 arg7 arg8 arg9 arg10 arg11 arg12 arg13 c v2 v5 v8 v10 k0_hw1 v14 v31

/-! ## The steps and the closing waits, cut where the parts are -/

/-- No steps left. -/
abbrev rs19 : List Slot := []

/-- The steps from part 18. -/
abbrev rs18 : List Slot := (false, 0, 3) :: (true, 0, 3) :: rs19

/-- The steps from part 17. -/
abbrev rs17 : List Slot := (false, 0, 0) :: (true, 0, 0) :: (false, 0, 1) :: (true, 0, 1) :: (false, 0, 2) :: (true, 0, 2) :: rs18

/-- The steps from part 16. -/
abbrev rs16 : List Slot := (true, 6, 0) :: (false, 6, 1) :: (true, 6, 1) :: (false, 6, 2) :: (true, 6, 2) :: (false, 6, 3) :: (true, 6, 3) :: rs17

/-- The steps from part 15. -/
abbrev rs15 : List Slot := (true, 1, 1) :: (false, 1, 2) :: (true, 1, 2) :: (false, 1, 3) :: (true, 1, 3) :: (false, 6, 0) :: rs16

/-- The steps from part 14. -/
abbrev rs14 : List Slot := (false, 5, 3) :: (true, 5, 3) :: (false, 1, 0) :: (true, 1, 0) :: (false, 1, 1) :: rs15

/-- The steps from part 13. -/
abbrev rs13 : List Slot := (false, 5, 0) :: (true, 5, 0) :: (false, 5, 1) :: (true, 5, 1) :: (false, 5, 2) :: (true, 5, 2) :: rs14

/-- The steps from part 12. -/
abbrev rs12 : List Slot := (false, 2, 0) :: (true, 2, 0) :: (false, 2, 1) :: (true, 2, 1) :: (false, 2, 2) :: (true, 2, 2) :: (false, 2, 3) :: (true, 2, 3) :: rs13

/-- The steps from part 11. -/
abbrev rs11 : List Slot := (true, 4, 1) :: (false, 4, 2) :: (true, 4, 2) :: (false, 4, 3) :: (true, 4, 3) :: rs12

/-- The steps from part 10. -/
abbrev rs10 : List Slot := (true, 3, 2) :: (false, 3, 3) :: (true, 3, 3) :: (false, 4, 0) :: (true, 4, 0) :: (false, 4, 1) :: rs11

/-- The steps before part 10. -/
abbrev ds10 : List Slot := (false, 3, 2) :: (true, 3, 1) :: (false, 3, 1) :: (true, 3, 0) :: (false, 3, 0) :: []

/-- The steps before part 11. -/
abbrev ds11 : List Slot := (false, 4, 1) :: (true, 4, 0) :: (false, 4, 0) :: (true, 3, 3) :: (false, 3, 3) :: (true, 3, 2) :: ds10

/-- The steps before part 12. -/
abbrev ds12 : List Slot := (true, 4, 3) :: (false, 4, 3) :: (true, 4, 2) :: (false, 4, 2) :: (true, 4, 1) :: ds11

/-- The steps before part 13. -/
abbrev ds13 : List Slot := (true, 2, 3) :: (false, 2, 3) :: (true, 2, 2) :: (false, 2, 2) :: (true, 2, 1) :: (false, 2, 1) :: (true, 2, 0) :: (false, 2, 0) :: ds12

/-- The steps before part 14. -/
abbrev ds14 : List Slot := (true, 5, 2) :: (false, 5, 2) :: (true, 5, 1) :: (false, 5, 1) :: (true, 5, 0) :: (false, 5, 0) :: ds13

/-- The steps before part 15. -/
abbrev ds15 : List Slot := (false, 1, 1) :: (true, 1, 0) :: (false, 1, 0) :: (true, 5, 3) :: (false, 5, 3) :: ds14

/-- The steps before part 16. -/
abbrev ds16 : List Slot := (false, 6, 0) :: (true, 1, 3) :: (false, 1, 3) :: (true, 1, 2) :: (false, 1, 2) :: (true, 1, 1) :: ds15

/-- The steps before part 17. -/
abbrev ds17 : List Slot := (true, 6, 3) :: (false, 6, 3) :: (true, 6, 2) :: (false, 6, 2) :: (true, 6, 1) :: (false, 6, 1) :: (true, 6, 0) :: ds16

/-- The steps before part 18. -/
abbrev ds18 : List Slot := (true, 0, 2) :: (false, 0, 2) :: (true, 0, 1) :: (false, 0, 1) :: (true, 0, 0) :: (false, 0, 0) :: ds17

/-- The steps before part 19. -/
abbrev ds19 : List Slot := (true, 0, 3) :: (false, 0, 3) :: ds18

/-- The closing waits after the parts. -/
abbrev rd49 : List (Slot × Bool) := ((true, 0, 3), true) :: ((true, 0, 3), false) :: []

/-- The closing waits from part 48. -/
abbrev rd48 : List (Slot × Bool) := ((true, 0, 2), true) :: ((true, 0, 2), false) :: ((false, 0, 3), true) :: ((false, 0, 3), false) :: rd49

/-- The closing waits from part 47. -/
abbrev rd47 : List (Slot × Bool) := ((true, 0, 1), true) :: ((true, 0, 1), false) :: ((false, 0, 2), true) :: ((false, 0, 2), false) :: rd48

/-- The closing waits from part 46. -/
abbrev rd46 : List (Slot × Bool) := ((false, 0, 0), false) :: ((true, 0, 0), true) :: ((true, 0, 0), false) :: ((false, 0, 1), true) :: ((false, 0, 1), false) :: rd47

/-- The closing waits from part 45. -/
abbrev rd45 : List (Slot × Bool) := ((true, 6, 3), true) :: ((true, 6, 3), false) :: ((false, 0, 0), true) :: rd46

/-- The closing waits from part 44. -/
abbrev rd44 : List (Slot × Bool) := ((true, 6, 2), true) :: ((true, 6, 2), false) :: ((false, 6, 3), true) :: ((false, 6, 3), false) :: rd45

/-- The closing waits from part 43. -/
abbrev rd43 : List (Slot × Bool) := ((true, 6, 1), true) :: ((true, 6, 1), false) :: ((false, 6, 2), true) :: ((false, 6, 2), false) :: rd44

/-- The closing waits from part 42. -/
abbrev rd42 : List (Slot × Bool) := ((false, 6, 0), false) :: ((true, 6, 0), true) :: ((true, 6, 0), false) :: ((false, 6, 1), true) :: ((false, 6, 1), false) :: rd43

/-- The closing waits from part 41. -/
abbrev rd41 : List (Slot × Bool) := ((true, 1, 3), true) :: ((true, 1, 3), false) :: ((false, 6, 0), true) :: rd42

/-- The closing waits from part 40. -/
abbrev rd40 : List (Slot × Bool) := ((true, 1, 2), true) :: ((true, 1, 2), false) :: ((false, 1, 3), true) :: ((false, 1, 3), false) :: rd41

/-- The closing waits from part 39. -/
abbrev rd39 : List (Slot × Bool) := ((false, 1, 1), false) :: ((true, 1, 1), true) :: ((true, 1, 1), false) :: ((false, 1, 2), true) :: ((false, 1, 2), false) :: rd40

/-- The closing waits from part 38. -/
abbrev rd38 : List (Slot × Bool) := ((false, 1, 0), false) :: ((true, 1, 0), true) :: ((true, 1, 0), false) :: ((false, 1, 1), true) :: rd39

/-- The closing waits from part 37. -/
abbrev rd37 : List (Slot × Bool) := ((true, 5, 3), true) :: ((true, 5, 3), false) :: ((false, 1, 0), true) :: rd38

/-- The closing waits from part 36. -/
abbrev rd36 : List (Slot × Bool) := ((true, 5, 2), true) :: ((true, 5, 2), false) :: ((false, 5, 3), true) :: ((false, 5, 3), false) :: rd37

/-- The closing waits from part 35. -/
abbrev rd35 : List (Slot × Bool) := ((false, 5, 1), false) :: ((true, 5, 1), true) :: ((true, 5, 1), false) :: ((false, 5, 2), true) :: ((false, 5, 2), false) :: rd36

/-- The closing waits from part 34. -/
abbrev rd34 : List (Slot × Bool) := ((false, 5, 0), false) :: ((true, 5, 0), true) :: ((true, 5, 0), false) :: ((false, 5, 1), true) :: rd35

/-- The closing waits from part 33. -/
abbrev rd33 : List (Slot × Bool) := ((true, 2, 3), true) :: ((true, 2, 3), false) :: ((false, 5, 0), true) :: rd34

/-- The closing waits from part 32. -/
abbrev rd32 : List (Slot × Bool) := ((false, 2, 2), false) :: ((true, 2, 2), true) :: ((true, 2, 2), false) :: ((false, 2, 3), true) :: ((false, 2, 3), false) :: rd33

/-- The closing waits from part 31. -/
abbrev rd31 : List (Slot × Bool) := ((false, 2, 1), false) :: ((true, 2, 1), true) :: ((true, 2, 1), false) :: ((false, 2, 2), true) :: rd32

/-- The closing waits from part 30. -/
abbrev rd30 : List (Slot × Bool) := ((false, 2, 0), false) :: ((true, 2, 0), true) :: ((true, 2, 0), false) :: ((false, 2, 1), true) :: rd31

/-- The closing waits from part 29. -/
abbrev rd29 : List (Slot × Bool) := ((true, 4, 3), true) :: ((true, 4, 3), false) :: ((false, 2, 0), true) :: rd30

/-- The closing waits from part 28. -/
abbrev rd28 : List (Slot × Bool) := ((false, 4, 2), false) :: ((true, 4, 2), true) :: ((true, 4, 2), false) :: ((false, 4, 3), true) :: ((false, 4, 3), false) :: rd29

/-- The closing waits from part 27. -/
abbrev rd27 : List (Slot × Bool) := ((false, 4, 1), false) :: ((true, 4, 1), true) :: ((true, 4, 1), false) :: ((false, 4, 2), true) :: rd28

/-- The closing waits from part 26. -/
abbrev rd26 : List (Slot × Bool) := ((false, 4, 0), true) :: ((false, 4, 0), false) :: ((true, 4, 0), true) :: ((true, 4, 0), false) :: ((false, 4, 1), true) :: rd27

/-- The closing waits from part 25. -/
abbrev rd25 : List (Slot × Bool) := ((false, 3, 3), false) :: ((true, 3, 3), true) :: ((true, 3, 3), false) :: rd26

/-- The closing waits from part 24. -/
abbrev rd24 : List (Slot × Bool) := ((false, 3, 2), false) :: ((true, 3, 2), true) :: ((true, 3, 2), false) :: ((false, 3, 3), true) :: rd25

/-- The closing waits from part 23. -/
abbrev rd23 : List (Slot × Bool) := ((false, 3, 1), false) :: ((true, 3, 1), true) :: ((true, 3, 1), false) :: ((false, 3, 2), true) :: rd24

/-- The closing waits from part 22. -/
abbrev rd22 : List (Slot × Bool) := ((false, 3, 0), true) :: ((false, 3, 0), false) :: ((true, 3, 0), true) :: ((true, 3, 0), false) :: ((false, 3, 1), true) :: rd23

/-- No closing waits done. -/
abbrev dd22 : List (Slot × Bool) := []

/-- The closing waits before part 23. -/
abbrev dd23 : List (Slot × Bool) := ((false, 3, 1), true) :: ((true, 3, 0), false) :: ((true, 3, 0), true) :: ((false, 3, 0), false) :: ((false, 3, 0), true) :: dd22

/-- The closing waits before part 24. -/
abbrev dd24 : List (Slot × Bool) := ((false, 3, 2), true) :: ((true, 3, 1), false) :: ((true, 3, 1), true) :: ((false, 3, 1), false) :: dd23

/-- The closing waits before part 25. -/
abbrev dd25 : List (Slot × Bool) := ((false, 3, 3), true) :: ((true, 3, 2), false) :: ((true, 3, 2), true) :: ((false, 3, 2), false) :: dd24

/-- The closing waits before part 26. -/
abbrev dd26 : List (Slot × Bool) := ((true, 3, 3), false) :: ((true, 3, 3), true) :: ((false, 3, 3), false) :: dd25

/-- The closing waits before part 27. -/
abbrev dd27 : List (Slot × Bool) := ((false, 4, 1), true) :: ((true, 4, 0), false) :: ((true, 4, 0), true) :: ((false, 4, 0), false) :: ((false, 4, 0), true) :: dd26

/-- The closing waits before part 28. -/
abbrev dd28 : List (Slot × Bool) := ((false, 4, 2), true) :: ((true, 4, 1), false) :: ((true, 4, 1), true) :: ((false, 4, 1), false) :: dd27

/-- The closing waits before part 29. -/
abbrev dd29 : List (Slot × Bool) := ((false, 4, 3), false) :: ((false, 4, 3), true) :: ((true, 4, 2), false) :: ((true, 4, 2), true) :: ((false, 4, 2), false) :: dd28

/-- The closing waits before part 30. -/
abbrev dd30 : List (Slot × Bool) := ((false, 2, 0), true) :: ((true, 4, 3), false) :: ((true, 4, 3), true) :: dd29

/-- The closing waits before part 31. -/
abbrev dd31 : List (Slot × Bool) := ((false, 2, 1), true) :: ((true, 2, 0), false) :: ((true, 2, 0), true) :: ((false, 2, 0), false) :: dd30

/-- The closing waits before part 32. -/
abbrev dd32 : List (Slot × Bool) := ((false, 2, 2), true) :: ((true, 2, 1), false) :: ((true, 2, 1), true) :: ((false, 2, 1), false) :: dd31

/-- The closing waits before part 33. -/
abbrev dd33 : List (Slot × Bool) := ((false, 2, 3), false) :: ((false, 2, 3), true) :: ((true, 2, 2), false) :: ((true, 2, 2), true) :: ((false, 2, 2), false) :: dd32

/-- The closing waits before part 34. -/
abbrev dd34 : List (Slot × Bool) := ((false, 5, 0), true) :: ((true, 2, 3), false) :: ((true, 2, 3), true) :: dd33

/-- The closing waits before part 35. -/
abbrev dd35 : List (Slot × Bool) := ((false, 5, 1), true) :: ((true, 5, 0), false) :: ((true, 5, 0), true) :: ((false, 5, 0), false) :: dd34

/-- The closing waits before part 36. -/
abbrev dd36 : List (Slot × Bool) := ((false, 5, 2), false) :: ((false, 5, 2), true) :: ((true, 5, 1), false) :: ((true, 5, 1), true) :: ((false, 5, 1), false) :: dd35

/-- The closing waits before part 37. -/
abbrev dd37 : List (Slot × Bool) := ((false, 5, 3), false) :: ((false, 5, 3), true) :: ((true, 5, 2), false) :: ((true, 5, 2), true) :: dd36

/-- The closing waits before part 38. -/
abbrev dd38 : List (Slot × Bool) := ((false, 1, 0), true) :: ((true, 5, 3), false) :: ((true, 5, 3), true) :: dd37

/-- The closing waits before part 39. -/
abbrev dd39 : List (Slot × Bool) := ((false, 1, 1), true) :: ((true, 1, 0), false) :: ((true, 1, 0), true) :: ((false, 1, 0), false) :: dd38

/-- The closing waits before part 40. -/
abbrev dd40 : List (Slot × Bool) := ((false, 1, 2), false) :: ((false, 1, 2), true) :: ((true, 1, 1), false) :: ((true, 1, 1), true) :: ((false, 1, 1), false) :: dd39

/-- The closing waits before part 41. -/
abbrev dd41 : List (Slot × Bool) := ((false, 1, 3), false) :: ((false, 1, 3), true) :: ((true, 1, 2), false) :: ((true, 1, 2), true) :: dd40

/-- The closing waits before part 42. -/
abbrev dd42 : List (Slot × Bool) := ((false, 6, 0), true) :: ((true, 1, 3), false) :: ((true, 1, 3), true) :: dd41

/-- The closing waits before part 43. -/
abbrev dd43 : List (Slot × Bool) := ((false, 6, 1), false) :: ((false, 6, 1), true) :: ((true, 6, 0), false) :: ((true, 6, 0), true) :: ((false, 6, 0), false) :: dd42

/-- The closing waits before part 44. -/
abbrev dd44 : List (Slot × Bool) := ((false, 6, 2), false) :: ((false, 6, 2), true) :: ((true, 6, 1), false) :: ((true, 6, 1), true) :: dd43

/-- The closing waits before part 45. -/
abbrev dd45 : List (Slot × Bool) := ((false, 6, 3), false) :: ((false, 6, 3), true) :: ((true, 6, 2), false) :: ((true, 6, 2), true) :: dd44

/-- The closing waits before part 46. -/
abbrev dd46 : List (Slot × Bool) := ((false, 0, 0), true) :: ((true, 6, 3), false) :: ((true, 6, 3), true) :: dd45

/-- The closing waits before part 47. -/
abbrev dd47 : List (Slot × Bool) := ((false, 0, 1), false) :: ((false, 0, 1), true) :: ((true, 0, 0), false) :: ((true, 0, 0), true) :: ((false, 0, 0), false) :: dd46

/-- The closing waits before part 48. -/
abbrev dd48 : List (Slot × Bool) := ((false, 0, 2), false) :: ((false, 0, 2), true) :: ((true, 0, 1), false) :: ((true, 0, 1), true) :: dd47

/-- The closing waits before part 49. -/
abbrev dd49 : List (Slot × Bool) := ((false, 0, 3), false) :: ((false, 0, 3), true) :: ((true, 0, 2), false) :: ((true, 0, 2), true) :: dd48

/-- The waits of the exchange in the kernel's order. -/
abbrev kList : List Kd := (.a 0 : Kd) :: .a 1 :: .x 0 :: .x 1 :: .x 2 :: .x 3 :: .x 4 :: .x 5 :: .x 6 :: .x 7 :: .x 8 :: .x 9 :: []

/-- The same, last first. -/
abbrev kDone : List Kd := (.x 9 : Kd) :: .x 8 :: .x 7 :: .x 6 :: .x 5 :: .x 4 :: .x 3 :: .x 2 :: .x 1 :: .x 0 :: .a 1 :: .a 0 :: []

end Cert.KProof

end
-- ==== Proof.TailsB.lean ====
/-
From the closing waits to the end.
-/
module

public import proofs.«01_k».proof.Proof.Tails
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- From part 49 to the end. -/
theorem tail49_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v8 : BitVec 32) (v1434 : BitVec 32) (v1440 : BitVec 1) :
    iprop(env m ρ sw K ∗ DSt m ρ sw c dd49 rd49 ∗ X3)
      ⊢ wp frame (wpE (defs₀ (F := F)) 𝒱₀ (c : Thread nD τ) none) Set.univ (tail49 arg0 harg0 arg1 harg1 arg2 harg2 arg3 harg3 arg4 harg4 arg5 harg5 arg6 arg7 arg8 arg9 arg10 arg11 arg12 arg13 c v8 v1434 v1440) Q := by
  rw [tail49]
  refine step_drain m ρ sw K c true true 0 3 arg12 (sem_scratch9 _ A.e12) (df110 c) arg2 A.e2 harg2 (k0_off570_inb c) (k0_off571_inb c) (k0_off571_wordsbf16 c) _ _ _ rfl ?_
  exact wp_pure_eq c _ rfl (he _ _)

/-- From part 48 to the end. -/
theorem tail48_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1433 : BitVec 32) (v1434 : BitVec 32) (v1437 : BitVec 1) (v1440 : BitVec 1) (v1523 : BitVec 32) :
    iprop(env m ρ sw K ∗ DSt m ρ sw c dd48 rd48 ∗ X3)
      ⊢ wp frame (wpE (defs₀ (F := F)) 𝒱₀ (c : Thread nD τ) none) Set.univ (tail48 arg0 harg0 arg1 harg1 arg2 harg2 arg3 harg3 arg4 harg4 arg5 harg5 arg6 arg7 arg8 arg9 arg10 arg11 arg12 arg13 c v5 v8 v1433 v1434 v1437 v1440 v1523) Q := by
  rw [tail48]
  refine andThen_step c fun k' hk => ?_
  refine part48 m ρ sw K arg0 harg0 arg1 harg1 arg2 harg2 arg3 harg3 arg4 harg4 arg5 harg5 arg6 arg7 arg8 arg9 arg10 arg11 arg12 arg13 A c _ _ _ _ _ _ _ _ _ _ ?_
  intro v1558
  refine wp_of_eq c (tail49_wp m ρ sw K arg0 harg0 arg1 harg1 arg2 harg2 arg3 harg3 arg4 harg4 arg5 harg5 arg6 arg7 arg8 arg9 arg10 arg11 arg12 arg13 A c X3 he v8 v1434 v1440) ?_
  exact congrFun hk _

/-- From part 47 to the end. -/
theorem tail47_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1433 : BitVec 32) (v1434 : BitVec 32) (v1437 : BitVec 1) (v1440 : BitVec 1) :
    iprop(env m ρ sw K ∗ DSt m ρ sw c dd47 rd47 ∗ X3)
      ⊢ wp frame (wpE (defs₀ (F := F)) 𝒱₀ (c : Thread nD τ) none) Set.univ (tail47 arg0 harg0 arg1 harg1 arg2 harg2 arg3 harg3 arg4 harg4 arg5 harg5 arg6 arg7 arg8 arg9 arg10 arg11 arg12 arg13 c v5 v8 v1433 v1434 v1437 v1440) Q := by
  rw [tail47]
  refine andThen_step c fun k' hk => ?_
  refine part47 m ρ sw K arg0 harg0 arg1 harg1 arg2 harg2 arg3 harg3 arg4 harg4 arg5 harg5 arg6 arg7 arg8 arg9 arg10 arg11 arg12 arg13 A c _ _ _ _ _ _ _ _ _ ?_
  intro v1523
  refine wp_of_eq c (tail48_wp m ρ sw K arg0 harg0 arg1 harg1 arg2 harg2 arg3 harg3 arg4 harg4 arg5 harg5 arg6 arg7 arg8 arg9 arg10 arg11 arg12 arg13 A c X3 he v5 v8 v1433 v1434 v1437 v1440 v1523) ?_
  exact congrFun hk _

/-- From part 46 to the end. -/
theorem tail46_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1433 : BitVec 32) (v1434 : BitVec 32) (v1437 : BitVec 1) (v1440 : BitVec 1) (v1455 : BitVec 32) (c0_i32_1019 : BitVec 32) :
    iprop(env m ρ sw K ∗ DSt m ρ sw c dd46 rd46 ∗ X3)
      ⊢ wp frame (wpE (defs₀ (F := F)) 𝒱₀ (c : Thread nD τ) none) Set.univ (tail46 arg0 harg0 arg1 harg1 arg2 harg2 arg3 harg3 arg4 harg4 arg5 harg5 arg6 arg7 arg8 arg9 arg10 arg11 arg12 arg13 c v5 v8 v1433 v1434 v1437 v1440 v1455 c0_i32_1019) Q := by
  rw [tail46]
  refine andThen_step c fun k' hk => ?_
  refine part46 m ρ sw K arg0 harg0 arg1 harg1 arg2 harg2 arg3 harg3 arg4 harg4 arg5 harg5 arg6 arg7 arg8 arg9 arg10 arg11 arg12 arg13 A c _ _ _ _ _ _ _ _ _ _ _ ?_
  intro _
  refine wp_of_eq c (tail47_wp m ρ sw K arg0 harg0 arg1 harg1 arg2 harg2 arg3 harg3 arg4 harg4 arg5 harg5 arg6 arg7 arg8 arg9 arg10 arg11 arg12 arg13 A c X3 he v5 v8 v1433 v1434 v1437 v1440) ?_
  exact congrFun hk _

/-- From part 45 to the end. -/
theorem tail45_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1298 : BitVec 32) (v1304 : BitVec 1) :
    iprop(env m ρ sw K ∗ DSt m ρ sw c dd45 rd45 ∗ X3)
      ⊢ wp frame (wpE (defs₀ (F := F)) 𝒱₀ (c : Thread nD τ) none) Set.univ (tail45 arg0 harg0 arg1 harg1 arg2 harg2 arg3 harg3 arg4 harg4 arg5 harg5 arg6 arg7 arg8 arg9 arg10 arg11 arg12 arg13 c v5 v8 v1298 v1304) Q := by
  rw [tail45]
  refine andThen_step c fun k' hk => ?_
  refine part45 m ρ sw K arg0 harg0 arg1 harg1 arg2 harg2 arg3 harg3 arg4 harg4 arg5 harg5 arg6 arg7 arg8 arg9 arg10 arg11 arg12 arg13 A c _ _ _ _ _ _ _ ?_
  rintro ⟨v1433, v1434, v1437, v1440, v1455, c0_i32_1019⟩
  refine wp_of_eq c (tail46_wp m ρ sw K arg0 harg0 arg1 harg1 arg2 harg2 arg3 harg3 arg4 harg4 arg5 harg5 arg6 arg7 arg8 arg9 arg10 arg11 arg12 arg13 A c X3 he v5 v8 v1433 v1434 v1437 v1440 v1455 c0_i32_1019) ?_
  exact congrFun hk _

/-- From part 44 to the end. -/
theorem tail44_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1297 : BitVec 32) (v1298 : BitVec 32) (v1301 : BitVec 1) (v1304 : BitVec 1) :
    iprop(env m ρ sw K ∗ DSt m ρ sw c dd44 rd44 ∗ X3)
      ⊢ wp frame (wpE (defs₀ (F := F)) 𝒱₀ (c : Thread nD τ) none) Set.univ (tail44 arg0 harg0 arg1 harg1 arg2 harg2 arg3 harg3 arg4 harg4 arg5 harg5 arg6 arg7 arg8 arg9 arg10 arg11 arg12 arg13 c v5 v8 v1297 v1298 v1301 v1304) Q := by
  rw [tail44]
  refine andThen_step c fun k' hk => ?_
  refine part44 m ρ sw K arg0 harg0 arg1 harg1 arg2 harg2 arg3 harg3 arg4 harg4 arg5 harg5 arg6 arg7 arg8 arg9 arg10 arg11 arg12 arg13 A c _ _ _ _ _ _ _ _ _ ?_
  intro _
  refine wp_of_eq c (tail45_wp m ρ sw K arg0 harg0 arg1 harg1 arg2 harg2 arg3 harg3 arg4 harg4 arg5 harg5 arg6 arg7 arg8 arg9 arg10 arg11 arg12 arg13 A c X3 he v5 v8 v1298 v1304) ?_
  exact congrFun hk _

/-- From part 43 to the end. -/
theorem tail43_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1297 : BitVec 32) (v1298 : BitVec 32) (v1301 : BitVec 1) (v1304 : BitVec 1) :
    iprop(env m ρ sw K ∗ DSt m ρ sw c dd43 rd43 ∗ X3)
      ⊢ wp frame (wpE (defs₀ (F := F)) 𝒱₀ (c : Thread nD τ) none) Set.univ (tail43 arg0 harg0 arg1 harg1 arg2 harg2 arg3 harg3 arg4 harg4 arg5 harg5 arg6 arg7 arg8 arg9 arg10 arg11 arg12 arg13 c v5 v8 v1297 v1298 v1301 v1304) Q := by
  rw [tail43]
  refine andThen_step c fun k' hk => ?_
  refine part43 m ρ sw K arg0 harg0 arg1 harg1 arg2 harg2 arg3 harg3 arg4 harg4 arg5 harg5 arg6 arg7 arg8 arg9 arg10 arg11 arg12 arg13 A c _ _ _ _ _ _ _ _ _ ?_
  intro _
  refine wp_of_eq c (tail44_wp m ρ sw K arg0 harg0 arg1 harg1 arg2 harg2 arg3 harg3 arg4 harg4 arg5 harg5 arg6 arg7 arg8 arg9 arg10 arg11 arg12 arg13 A c X3 he v5 v8 v1297 v1298 v1301 v1304) ?_
  exact congrFun hk _

/-- From part 42 to the end. -/
theorem tail42_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1297 : BitVec 32) (v1298 : BitVec 32) (v1301 : BitVec 1) (v1304 : BitVec 1) (v1319 : BitVec 32) :
    iprop(env m ρ sw K ∗ DSt m ρ sw c dd42 rd42 ∗ X3)
      ⊢ wp frame (wpE (defs₀ (F := F)) 𝒱₀ (c : Thread nD τ) none) Set.univ (tail42 arg0 harg0 arg1 harg1 arg2 harg2 arg3 harg3 arg4 harg4 arg5 harg5 arg6 arg7 arg8 arg9 arg10 arg11 arg12 arg13 c v5 v8 v1297 v1298 v1301 v1304 v1319) Q := by
  rw [tail42]
  refine andThen_step c fun k' hk => ?_
  refine part42 m ρ sw K arg0 harg0 arg1 harg1 arg2 harg2 arg3 harg3 arg4 harg4 arg5 harg5 arg6 arg7 arg8 arg9 arg10 arg11 arg12 arg13 A c _ _ _ _ _ _ _ _ _ _ ?_
  intro _
  refine wp_of_eq c (tail43_wp m ρ sw K arg0 harg0 arg1 harg1 arg2 harg2 arg3 harg3 arg4 harg4 arg5 harg5 arg6 arg7 arg8 arg9 arg10 arg11 arg12 arg13 A c X3 he v5 v8 v1297 v1298 v1301 v1304) ?_
  exact congrFun hk _

/-- From part 41 to the end. -/
theorem tail41_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1162 : BitVec 32) (v1168 : BitVec 1) (v1283 : BitVec 32) :
    iprop(env m ρ sw K ∗ DSt m ρ sw c dd41 rd41 ∗ X3)
      ⊢ wp frame (wpE (defs₀ (F := F)) 𝒱₀ (c : Thread nD τ) none) Set.univ (tail41 arg0 harg0 arg1 harg1 arg2 harg2 arg3 harg3 arg4 harg4 arg5 harg5 arg6 arg7 arg8 arg9 arg10 arg11 arg12 arg13 c v5 v8 v1162 v1168 v1283) Q := by
  rw [tail41]
  refine andThen_step c fun k' hk => ?_
  refine part41 m ρ sw K arg0 harg0 arg1 harg1 arg2 harg2 arg3 harg3 arg4 harg4 arg5 harg5 arg6 arg7 arg8 arg9 arg10 arg11 arg12 arg13 A c _ _ _ _ _ _ _ _ ?_
  rintro ⟨v1297, v1298, v1301, v1304, v1319⟩
  refine wp_of_eq c (tail42_wp m ρ sw K arg0 harg0 arg1 harg1 arg2 harg2 arg3 harg3 arg4 harg4 arg5 harg5 arg6 arg7 arg8 arg9 arg10 arg11 arg12 arg13 A c X3 he v5 v8 v1297 v1298 v1301 v1304 v1319) ?_
  exact congrFun hk _

/-- From part 40 to the end. -/
theorem tail40_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1161 : BitVec 32) (v1162 : BitVec 32) (v1165 : BitVec 1) (v1168 : BitVec 1) :
    iprop(env m ρ sw K ∗ DSt m ρ sw c dd40 rd40 ∗ X3)
      ⊢ wp frame (wpE (defs₀ (F := F)) 𝒱₀ (c : Thread nD τ) none) Set.univ (tail40 arg0 harg0 arg1 harg1 arg2 harg2 arg3 harg3 arg4 harg4 arg5 harg5 arg6 arg7 arg8 arg9 arg10 arg11 arg12 arg13 c v5 v8 v1161 v1162 v1165 v1168) Q := by
  rw [tail40]
  refine andThen_step c fun k' hk => ?_
  refine part40 m ρ sw K arg0 harg0 arg1 harg1 arg2 harg2 arg3 harg3 arg4 harg4 arg5 harg5 arg6 arg7 arg8 arg9 arg10 arg11 arg12 arg13 A c _ _ _ _ _ _ _ _ _ ?_
  intro v1283
  refine wp_of_eq c (tail41_wp m ρ sw K arg0 harg0 arg1 harg1 arg2 harg2 arg3 harg3 arg4 harg4 arg5 harg5 arg6 arg7 arg8 arg9 arg10 arg11 arg12 arg13 A c X3 he v5 v8 v1162 v1168 v1283) ?_
  exact congrFun hk _

/-- From part 39 to the end. -/
theorem tail39_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1161 : BitVec 32) (v1162 : BitVec 32) (v1165 : BitVec 1) (v1168 : BitVec 1) (v1215 : BitVec 32) (c0_i32_867 : BitVec 32) :
    iprop(env m ρ sw K ∗ DSt m ρ sw c dd39 rd39 ∗ X3)
      ⊢ wp frame (wpE (defs₀ (F := F)) 𝒱₀ (c : Thread nD τ) none) Set.univ (tail39 arg0 harg0 arg1 harg1 arg2 harg2 arg3 harg3 arg4 harg4 arg5 harg5 arg6 arg7 arg8 arg9 arg10 arg11 arg12 arg13 c v5 v8 v1161 v1162 v1165 v1168 v1215 c0_i32_867) Q := by
  rw [tail39]
  refine andThen_step c fun k' hk => ?_
  refine part39 m ρ sw K arg0 harg0 arg1 harg1 arg2 harg2 arg3 harg3 arg4 harg4 arg5 harg5 arg6 arg7 arg8 arg9 arg10 arg11 arg12 arg13 A c _ _ _ _ _ _ _ _ _ _ _ ?_
  intro _
  refine wp_of_eq c (tail40_wp m ρ sw K arg0 harg0 arg1 harg1 arg2 harg2 arg3 harg3 arg4 harg4 arg5 harg5 arg6 arg7 arg8 arg9 arg10 arg11 arg12 arg13 A c X3 he v5 v8 v1161 v1162 v1165 v1168) ?_
  exact congrFun hk _

/-- From part 38 to the end. -/
theorem tail38_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1161 : BitVec 32) (v1162 : BitVec 32) (v1165 : BitVec 1) (v1168 : BitVec 1) (v1180 : BitVec 1) (v1181 : BitVec 1) :
    iprop(env m ρ sw K ∗ DSt m ρ sw c dd38 rd38 ∗ X3)
      ⊢ wp frame (wpE (defs₀ (F := F)) 𝒱₀ (c : Thread nD τ) none) Set.univ (tail38 arg0 harg0 arg1 harg1 arg2 harg2 arg3 harg3 arg4 harg4 arg5 harg5 arg6 arg7 arg8 arg9 arg10 arg11 arg12 arg13 c v5 v8 v1161 v1162 v1165 v1168 v1180 v1181) Q := by
  rw [tail38]
  refine andThen_step c fun k' hk => ?_
  refine part38 m ρ sw K arg0 harg0 arg1 harg1 arg2 harg2 arg3 harg3 arg4 harg4 arg5 harg5 arg6 arg7 arg8 arg9 arg10 arg11 arg12 arg13 A c _ _ _ _ _ _ _ _ _ _ _ ?_
  rintro ⟨v1215, c0_i32_867⟩
  refine wp_of_eq c (tail39_wp m ρ sw K arg0 harg0 arg1 harg1 arg2 harg2 arg3 harg3 arg4 harg4 arg5 harg5 arg6 arg7 arg8 arg9 arg10 arg11 arg12 arg13 A c X3 he v5 v8 v1161 v1162 v1165 v1168 v1215 c0_i32_867) ?_
  exact congrFun hk _

/-- From part 37 to the end. -/
theorem tail37_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1026 : BitVec 32) (v1032 : BitVec 1) :
    iprop(env m ρ sw K ∗ DSt m ρ sw c dd37 rd37 ∗ X3)
      ⊢ wp frame (wpE (defs₀ (F := F)) 𝒱₀ (c : Thread nD τ) none) Set.univ (tail37 arg0 harg0 arg1 harg1 arg2 harg2 arg3 harg3 arg4 harg4 arg5 harg5 arg6 arg7 arg8 arg9 arg10 arg11 arg12 arg13 c v5 v8 v1026 v1032) Q := by
  rw [tail37]
  refine andThen_step c fun k' hk => ?_
  refine part37 m ρ sw K arg0 harg0 arg1 harg1 arg2 harg2 arg3 harg3 arg4 harg4 arg5 harg5 arg6 arg7 arg8 arg9 arg10 arg11 arg12 arg13 A c _ _ _ _ _ _ _ ?_
  rintro ⟨v1161, v1162, v1165, v1168, v1180, v1181⟩
  refine wp_of_eq c (tail38_wp m ρ sw K arg0 harg0 arg1 harg1 arg2 harg2 arg3 harg3 arg4 harg4 arg5 harg5 arg6 arg7 arg8 arg9 arg10 arg11 arg12 arg13 A c X3 he v5 v8 v1161 v1162 v1165 v1168 v1180 v1181) ?_
  exact congrFun hk _

/-- From part 36 to the end. -/
theorem tail36_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1025 : BitVec 32) (v1026 : BitVec 32) (v1029 : BitVec 1) (v1032 : BitVec 1) :
    iprop(env m ρ sw K ∗ DSt m ρ sw c dd36 rd36 ∗ X3)
      ⊢ wp frame (wpE (defs₀ (F := F)) 𝒱₀ (c : Thread nD τ) none) Set.univ (tail36 arg0 harg0 arg1 harg1 arg2 harg2 arg3 harg3 arg4 harg4 arg5 harg5 arg6 arg7 arg8 arg9 arg10 arg11 arg12 arg13 c v5 v8 v1025 v1026 v1029 v1032) Q := by
  rw [tail36]
  refine andThen_step c fun k' hk => ?_
  refine part36 m ρ sw K arg0 harg0 arg1 harg1 arg2 harg2 arg3 harg3 arg4 harg4 arg5 harg5 arg6 arg7 arg8 arg9 arg10 arg11 arg12 arg13 A c _ _ _ _ _ _ _ _ _ ?_
  intro _
  refine wp_of_eq c (tail37_wp m ρ sw K arg0 harg0 arg1 harg1 arg2 harg2 arg3 harg3 arg4 harg4 arg5 harg5 arg6 arg7 arg8 arg9 arg10 arg11 arg12 arg13 A c X3 he v5 v8 v1026 v1032) ?_
  exact congrFun hk _

/-- From part 35 to the end. -/
theorem tail35_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1025 : BitVec 32) (v1026 : BitVec 32) (v1029 : BitVec 1) (v1032 : BitVec 1) (v1079 : BitVec 32) :
    iprop(env m ρ sw K ∗ DSt m ρ sw c dd35 rd35 ∗ X3)
      ⊢ wp frame (wpE (defs₀ (F := F)) 𝒱₀ (c : Thread nD τ) none) Set.univ (tail35 arg0 harg0 arg1 harg1 arg2 harg2 arg3 harg3 arg4 harg4 arg5 harg5 arg6 arg7 arg8 arg9 arg10 arg11 arg12 arg13 c v5 v8 v1025 v1026 v1029 v1032 v1079) Q := by
  rw [tail35]
  refine andThen_step c fun k' hk => ?_
  refine part35 m ρ sw K arg0 harg0 arg1 harg1 arg2 harg2 arg3 harg3 arg4 harg4 arg5 harg5 arg6 arg7 arg8 arg9 arg10 arg11 arg12 arg13 A c _ _ _ _ _ _ _ _ _ _ ?_
  intro _
  refine wp_of_eq c (tail36_wp m ρ sw K arg0 harg0 arg1 harg1 arg2 harg2 arg3 harg3 arg4 harg4 arg5 harg5 arg6 arg7 arg8 arg9 arg10 arg11 arg12 arg13 A c X3 he v5 v8 v1025 v1026 v1029 v1032) ?_
  exact congrFun hk _

/-- From part 34 to the end. -/
theorem tail34_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v1025 : BitVec 32) (v1026 : BitVec 32) (v1029 : BitVec 1) (v1032 : BitVec 1) (v1044 : BitVec 1) :
    iprop(env m ρ sw K ∗ DSt m ρ sw c dd34 rd34 ∗ X3)
      ⊢ wp frame (wpE (defs₀ (F := F)) 𝒱₀ (c : Thread nD τ) none) Set.univ (tail34 arg0 harg0 arg1 harg1 arg2 harg2 arg3 harg3 arg4 harg4 arg5 harg5 arg6 arg7 arg8 arg9 arg10 arg11 arg12 arg13 c v5 v8 v1025 v1026 v1029 v1032 v1044) Q := by
  rw [tail34]
  refine andThen_step c fun k' hk => ?_
  refine part34 m ρ sw K arg0 harg0 arg1 harg1 arg2 harg2 arg3 harg3 arg4 harg4 arg5 harg5 arg6 arg7 arg8 arg9 arg10 arg11 arg12 arg13 A c _ _ _ _ _ _ _ _ _ _ ?_
  intro v1079
  refine wp_of_eq c (tail35_wp m ρ sw K arg0 harg0 arg1 harg1 arg2 harg2 arg3 harg3 arg4 harg4 arg5 harg5 arg6 arg7 arg8 arg9 arg10 arg11 arg12 arg13 A c X3 he v5 v8 v1025 v1026 v1029 v1032 v1079) ?_
  exact congrFun hk _

/-- From part 33 to the end. -/
theorem tail33_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v890 : BitVec 32) (v896 : BitVec 1) :
    iprop(env m ρ sw K ∗ DSt m ρ sw c dd33 rd33 ∗ X3)
      ⊢ wp frame (wpE (defs₀ (F := F)) 𝒱₀ (c : Thread nD τ) none) Set.univ (tail33 arg0 harg0 arg1 harg1 arg2 harg2 arg3 harg3 arg4 harg4 arg5 harg5 arg6 arg7 arg8 arg9 arg10 arg11 arg12 arg13 c v5 v8 v890 v896) Q := by
  rw [tail33]
  refine andThen_step c fun k' hk => ?_
  refine part33 m ρ sw K arg0 harg0 arg1 harg1 arg2 harg2 arg3 harg3 arg4 harg4 arg5 harg5 arg6 arg7 arg8 arg9 arg10 arg11 arg12 arg13 A c _ _ _ _ _ _ _ ?_
  rintro ⟨v1025, v1026, v1029, v1032, v1044⟩
  refine wp_of_eq c (tail34_wp m ρ sw K arg0 harg0 arg1 harg1 arg2 harg2 arg3 harg3 arg4 harg4 arg5 harg5 arg6 arg7 arg8 arg9 arg10 arg11 arg12 arg13 A c X3 he v5 v8 v1025 v1026 v1029 v1032 v1044) ?_
  exact congrFun hk _

/-- From part 32 to the end. -/
theorem tail32_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v889 : BitVec 32) (v890 : BitVec 32) (v893 : BitVec 1) (v896 : BitVec 1) (v975 : BitVec 32) (c0_i32_715 : BitVec 32) :
    iprop(env m ρ sw K ∗ DSt m ρ sw c dd32 rd32 ∗ X3)
      ⊢ wp frame (wpE (defs₀ (F := F)) 𝒱₀ (c : Thread nD τ) none) Set.univ (tail32 arg0 harg0 arg1 harg1 arg2 harg2 arg3 harg3 arg4 harg4 arg5 harg5 arg6 arg7 arg8 arg9 arg10 arg11 arg12 arg13 c v5 v8 v889 v890 v893 v896 v975 c0_i32_715) Q := by
  rw [tail32]
  refine andThen_step c fun k' hk => ?_
  refine part32 m ρ sw K arg0 harg0 arg1 harg1 arg2 harg2 arg3 harg3 arg4 harg4 arg5 harg5 arg6 arg7 arg8 arg9 arg10 arg11 arg12 arg13 A c _ _ _ _ _ _ _ _ _ _ _ ?_
  intro _
  refine wp_of_eq c (tail33_wp m ρ sw K arg0 harg0 arg1 harg1 arg2 harg2 arg3 harg3 arg4 harg4 arg5 harg5 arg6 arg7 arg8 arg9 arg10 arg11 arg12 arg13 A c X3 he v5 v8 v890 v896) ?_
  exact congrFun hk _

/-- From part 31 to the end. -/
theorem tail31_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v889 : BitVec 32) (v890 : BitVec 32) (v893 : BitVec 1) (v896 : BitVec 1) (v940 : BitVec 1) (v941 : BitVec 1) :
    iprop(env m ρ sw K ∗ DSt m ρ sw c dd31 rd31 ∗ X3)
      ⊢ wp frame (wpE (defs₀ (F := F)) 𝒱₀ (c : Thread nD τ) none) Set.univ (tail31 arg0 harg0 arg1 harg1 arg2 harg2 arg3 harg3 arg4 harg4 arg5 harg5 arg6 arg7 arg8 arg9 arg10 arg11 arg12 arg13 c v5 v8 v889 v890 v893 v896 v940 v941) Q := by
  rw [tail31]
  refine andThen_step c fun k' hk => ?_
  refine part31 m ρ sw K arg0 harg0 arg1 harg1 arg2 harg2 arg3 harg3 arg4 harg4 arg5 harg5 arg6 arg7 arg8 arg9 arg10 arg11 arg12 arg13 A c _ _ _ _ _ _ _ _ _ _ _ ?_
  rintro ⟨v975, c0_i32_715⟩
  refine wp_of_eq c (tail32_wp m ρ sw K arg0 harg0 arg1 harg1 arg2 harg2 arg3 harg3 arg4 harg4 arg5 harg5 arg6 arg7 arg8 arg9 arg10 arg11 arg12 arg13 A c X3 he v5 v8 v889 v890 v893 v896 v975 c0_i32_715) ?_
  exact congrFun hk _

/-- From part 30 to the end. -/
theorem tail30_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v889 : BitVec 32) (v890 : BitVec 32) (v893 : BitVec 1) (v896 : BitVec 1) :
    iprop(env m ρ sw K ∗ DSt m ρ sw c dd30 rd30 ∗ X3)
      ⊢ wp frame (wpE (defs₀ (F := F)) 𝒱₀ (c : Thread nD τ) none) Set.univ (tail30 arg0 harg0 arg1 harg1 arg2 harg2 arg3 harg3 arg4 harg4 arg5 harg5 arg6 arg7 arg8 arg9 arg10 arg11 arg12 arg13 c v5 v8 v889 v890 v893 v896) Q := by
  rw [tail30]
  refine andThen_step c fun k' hk => ?_
  refine part30 m ρ sw K arg0 harg0 arg1 harg1 arg2 harg2 arg3 harg3 arg4 harg4 arg5 harg5 arg6 arg7 arg8 arg9 arg10 arg11 arg12 arg13 A c _ _ _ _ _ _ _ _ _ ?_
  rintro ⟨v940, v941⟩
  refine wp_of_eq c (tail31_wp m ρ sw K arg0 harg0 arg1 harg1 arg2 harg2 arg3 harg3 arg4 harg4 arg5 harg5 arg6 arg7 arg8 arg9 arg10 arg11 arg12 arg13 A c X3 he v5 v8 v889 v890 v893 v896 v940 v941) ?_
  exact congrFun hk _

/-- From part 29 to the end. -/
theorem tail29_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v754 : BitVec 32) (v760 : BitVec 1) :
    iprop(env m ρ sw K ∗ DSt m ρ sw c dd29 rd29 ∗ X3)
      ⊢ wp frame (wpE (defs₀ (F := F)) 𝒱₀ (c : Thread nD τ) none) Set.univ (tail29 arg0 harg0 arg1 harg1 arg2 harg2 arg3 harg3 arg4 harg4 arg5 harg5 arg6 arg7 arg8 arg9 arg10 arg11 arg12 arg13 c v5 v8 v754 v760) Q := by
  rw [tail29]
  refine andThen_step c fun k' hk => ?_
  refine part29 m ρ sw K arg0 harg0 arg1 harg1 arg2 harg2 arg3 harg3 arg4 harg4 arg5 harg5 arg6 arg7 arg8 arg9 arg10 arg11 arg12 arg13 A c _ _ _ _ _ _ _ ?_
  rintro ⟨v889, v890, v893, v896⟩
  refine wp_of_eq c (tail30_wp m ρ sw K arg0 harg0 arg1 harg1 arg2 harg2 arg3 harg3 arg4 harg4 arg5 harg5 arg6 arg7 arg8 arg9 arg10 arg11 arg12 arg13 A c X3 he v5 v8 v889 v890 v893 v896) ?_
  exact congrFun hk _

/-- From part 28 to the end. -/
theorem tail28_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v753 : BitVec 32) (v754 : BitVec 32) (v757 : BitVec 1) (v760 : BitVec 1) (v839 : BitVec 32) :
    iprop(env m ρ sw K ∗ DSt m ρ sw c dd28 rd28 ∗ X3)
      ⊢ wp frame (wpE (defs₀ (F := F)) 𝒱₀ (c : Thread nD τ) none) Set.univ (tail28 arg0 harg0 arg1 harg1 arg2 harg2 arg3 harg3 arg4 harg4 arg5 harg5 arg6 arg7 arg8 arg9 arg10 arg11 arg12 arg13 c v5 v8 v753 v754 v757 v760 v839) Q := by
  rw [tail28]
  refine andThen_step c fun k' hk => ?_
  refine part28 m ρ sw K arg0 harg0 arg1 harg1 arg2 harg2 arg3 harg3 arg4 harg4 arg5 harg5 arg6 arg7 arg8 arg9 arg10 arg11 arg12 arg13 A c _ _ _ _ _ _ _ _ _ _ ?_
  intro _
  refine wp_of_eq c (tail29_wp m ρ sw K arg0 harg0 arg1 harg1 arg2 harg2 arg3 harg3 arg4 harg4 arg5 harg5 arg6 arg7 arg8 arg9 arg10 arg11 arg12 arg13 A c X3 he v5 v8 v754 v760) ?_
  exact congrFun hk _

/-- From part 27 to the end. -/
theorem tail27_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v753 : BitVec 32) (v754 : BitVec 32) (v757 : BitVec 1) (v760 : BitVec 1) (v804 : BitVec 1) :
    iprop(env m ρ sw K ∗ DSt m ρ sw c dd27 rd27 ∗ X3)
      ⊢ wp frame (wpE (defs₀ (F := F)) 𝒱₀ (c : Thread nD τ) none) Set.univ (tail27 arg0 harg0 arg1 harg1 arg2 harg2 arg3 harg3 arg4 harg4 arg5 harg5 arg6 arg7 arg8 arg9 arg10 arg11 arg12 arg13 c v5 v8 v753 v754 v757 v760 v804) Q := by
  rw [tail27]
  refine andThen_step c fun k' hk => ?_
  refine part27 m ρ sw K arg0 harg0 arg1 harg1 arg2 harg2 arg3 harg3 arg4 harg4 arg5 harg5 arg6 arg7 arg8 arg9 arg10 arg11 arg12 arg13 A c _ _ _ _ _ _ _ _ _ _ ?_
  intro v839
  refine wp_of_eq c (tail28_wp m ρ sw K arg0 harg0 arg1 harg1 arg2 harg2 arg3 harg3 arg4 harg4 arg5 harg5 arg6 arg7 arg8 arg9 arg10 arg11 arg12 arg13 A c X3 he v5 v8 v753 v754 v757 v760 v839) ?_
  exact congrFun hk _

/-- From part 26 to the end. -/
theorem tail26_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v753 : BitVec 32) (v754 : BitVec 32) (v757 : BitVec 1) (v760 : BitVec 1) (v769 : BitVec 32) (c0_i32_586 : BitVec 32) :
    iprop(env m ρ sw K ∗ DSt m ρ sw c dd26 rd26 ∗ X3)
      ⊢ wp frame (wpE (defs₀ (F := F)) 𝒱₀ (c : Thread nD τ) none) Set.univ (tail26 arg0 harg0 arg1 harg1 arg2 harg2 arg3 harg3 arg4 harg4 arg5 harg5 arg6 arg7 arg8 arg9 arg10 arg11 arg12 arg13 c v5 v8 v753 v754 v757 v760 v769 c0_i32_586) Q := by
  rw [tail26]
  refine andThen_step c fun k' hk => ?_
  refine part26 m ρ sw K arg0 harg0 arg1 harg1 arg2 harg2 arg3 harg3 arg4 harg4 arg5 harg5 arg6 arg7 arg8 arg9 arg10 arg11 arg12 arg13 A c _ _ _ _ _ _ _ _ _ _ _ ?_
  intro v804
  refine wp_of_eq c (tail27_wp m ρ sw K arg0 harg0 arg1 harg1 arg2 harg2 arg3 harg3 arg4 harg4 arg5 harg5 arg6 arg7 arg8 arg9 arg10 arg11 arg12 arg13 A c X3 he v5 v8 v753 v754 v757 v760 v804) ?_
  exact congrFun hk _

/-- From part 25 to the end. -/
theorem tail25_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v618 : BitVec 32) (v624 : BitVec 1) (v735 : BitVec 32) (c0_i32_563 : BitVec 32) :
    iprop(env m ρ sw K ∗ DSt m ρ sw c dd25 rd25 ∗ X3)
      ⊢ wp frame (wpE (defs₀ (F := F)) 𝒱₀ (c : Thread nD τ) none) Set.univ (tail25 arg0 harg0 arg1 harg1 arg2 harg2 arg3 harg3 arg4 harg4 arg5 harg5 arg6 arg7 arg8 arg9 arg10 arg11 arg12 arg13 c v5 v8 v618 v624 v735 c0_i32_563) Q := by
  rw [tail25]
  refine andThen_step c fun k' hk => ?_
  refine part25 m ρ sw K arg0 harg0 arg1 harg1 arg2 harg2 arg3 harg3 arg4 harg4 arg5 harg5 arg6 arg7 arg8 arg9 arg10 arg11 arg12 arg13 A c _ _ _ _ _ _ _ _ _ ?_
  rintro ⟨v753, v754, v757, v760, v769, c0_i32_586⟩
  refine wp_of_eq c (tail26_wp m ρ sw K arg0 harg0 arg1 harg1 arg2 harg2 arg3 harg3 arg4 harg4 arg5 harg5 arg6 arg7 arg8 arg9 arg10 arg11 arg12 arg13 A c X3 he v5 v8 v753 v754 v757 v760 v769 c0_i32_586) ?_
  exact congrFun hk _

/-- From part 24 to the end. -/
theorem tail24_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v617 : BitVec 32) (v618 : BitVec 32) (v621 : BitVec 1) (v624 : BitVec 1) (v700 : BitVec 1) (v701 : BitVec 1) :
    iprop(env m ρ sw K ∗ DSt m ρ sw c dd24 rd24 ∗ X3)
      ⊢ wp frame (wpE (defs₀ (F := F)) 𝒱₀ (c : Thread nD τ) none) Set.univ (tail24 arg0 harg0 arg1 harg1 arg2 harg2 arg3 harg3 arg4 harg4 arg5 harg5 arg6 arg7 arg8 arg9 arg10 arg11 arg12 arg13 c v5 v8 v617 v618 v621 v624 v700 v701) Q := by
  rw [tail24]
  refine andThen_step c fun k' hk => ?_
  refine part24 m ρ sw K arg0 harg0 arg1 harg1 arg2 harg2 arg3 harg3 arg4 harg4 arg5 harg5 arg6 arg7 arg8 arg9 arg10 arg11 arg12 arg13 A c _ _ _ _ _ _ _ _ _ _ _ ?_
  rintro ⟨v735, c0_i32_563⟩
  refine wp_of_eq c (tail25_wp m ρ sw K arg0 harg0 arg1 harg1 arg2 harg2 arg3 harg3 arg4 harg4 arg5 harg5 arg6 arg7 arg8 arg9 arg10 arg11 arg12 arg13 A c X3 he v5 v8 v618 v624 v735 c0_i32_563) ?_
  exact congrFun hk _

/-- From part 23 to the end. -/
theorem tail23_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v617 : BitVec 32) (v618 : BitVec 32) (v621 : BitVec 1) (v624 : BitVec 1) :
    iprop(env m ρ sw K ∗ DSt m ρ sw c dd23 rd23 ∗ X3)
      ⊢ wp frame (wpE (defs₀ (F := F)) 𝒱₀ (c : Thread nD τ) none) Set.univ (tail23 arg0 harg0 arg1 harg1 arg2 harg2 arg3 harg3 arg4 harg4 arg5 harg5 arg6 arg7 arg8 arg9 arg10 arg11 arg12 arg13 c v5 v8 v617 v618 v621 v624) Q := by
  rw [tail23]
  refine andThen_step c fun k' hk => ?_
  refine part23 m ρ sw K arg0 harg0 arg1 harg1 arg2 harg2 arg3 harg3 arg4 harg4 arg5 harg5 arg6 arg7 arg8 arg9 arg10 arg11 arg12 arg13 A c _ _ _ _ _ _ _ _ _ ?_
  rintro ⟨v700, v701⟩
  refine wp_of_eq c (tail24_wp m ρ sw K arg0 harg0 arg1 harg1 arg2 harg2 arg3 harg3 arg4 harg4 arg5 harg5 arg6 arg7 arg8 arg9 arg10 arg11 arg12 arg13 A c X3 he v5 v8 v617 v618 v621 v624 v700 v701) ?_
  exact congrFun hk _

/-- From part 22 to the end. -/
theorem tail22_wp (c : Dev nD) (X3 : sProp 𝕄) {Q : (Σ' (d0 : Dev nD) (v1564 : BitVec 1), BitVec 1) → sProp 𝕄}
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) (v617 : BitVec 32) (v618 : BitVec 32) (v621 : BitVec 1) (v624 : BitVec 1) (v633 : BitVec 32) :
    iprop(env m ρ sw K ∗ DSt m ρ sw c dd22 rd22 ∗ X3)
      ⊢ wp frame (wpE (defs₀ (F := F)) 𝒱₀ (c : Thread nD τ) none) Set.univ (tail22 arg0 harg0 arg1 harg1 arg2 harg2 arg3 harg3 arg4 harg4 arg5 harg5 arg6 arg7 arg8 arg9 arg10 arg11 arg12 arg13 c v5 v8 v617 v618 v621 v624 v633) Q := by
  rw [tail22]
  refine andThen_step c fun k' hk => ?_
  refine part22 m ρ sw K arg0 harg0 arg1 harg1 arg2 harg2 arg3 harg3 arg4 harg4 arg5 harg5 arg6 arg7 arg8 arg9 arg10 arg11 arg12 arg13 A c _ _ _ _ _ _ _ _ _ _ ?_
  intro _
  refine wp_of_eq c (tail23_wp m ρ sw K arg0 harg0 arg1 harg1 arg2 harg2 arg3 harg3 arg4 harg4 arg5 harg5 arg6 arg7 arg8 arg9 arg10 arg11 arg12 arg13 A c X3 he v5 v8 v617 v618 v621 v624) ?_
  exact congrFun hk _

end Cert.KProof

end
-- ==== Proof.TailsA.lean ====
/-
From the first part to the end.
-/
module

public import proofs.«01_k».proof.Proof.TailsB
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

/-- From part 21 to the end. -/
theorem tail21_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) :
    iprop(env m ρ sw K ∗ KSt m ρ sw c (.x 7 :: .x 6 :: .x 5 :: .x 4 :: .x 3 :: .x 2 :: .x 1 :: .x 0 :: .a 1 :: (.a 0 : Kd) :: []) (.x 8 :: .x 9 :: []) ∗ bigSepL ds19 (HPost m ρ sw c) ∗ X2)
      ⊢ wp frame (wpE (defs₀ (F := F)) 𝒱₀ (c : Thread nD τ) none) Set.univ (tail21 arg0 harg0 arg1 harg1 arg2 harg2 arg3 harg3 arg4 harg4 arg5 harg5 arg6 arg7 arg8 arg9 arg10 arg11 arg12 arg13 c v5 v8) Q := by
  rw [tail21]
  refine andThen_step c fun k' hk => ?_
  refine part21 m ρ sw K arg0 harg0 arg1 harg1 arg2 harg2 arg3 harg3 arg4 harg4 arg5 harg5 arg6 arg7 arg8 arg9 arg10 arg11 arg12 arg13 A c _ _ _ _ _ ?_
  rintro ⟨v617, v618, v621, v624, v633⟩
  refine wp_of_eq c (hd.trans (tail22_wp m ρ sw K arg0 harg0 arg1 harg1 arg2 harg2 arg3 harg3 arg4 harg4 arg5 harg5 arg6 arg7 arg8 arg9 arg10 arg11 arg12 arg13 A c X3 he v5 v8 v617 v618 v621 v624 v633)) ?_
  exact congrFun hk _

/-- From part 20 to the end. -/
theorem tail20_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) :
    iprop(env m ρ sw K ∗ KSt m ρ sw c (.x 3 :: .x 2 :: .x 1 :: .x 0 :: .a 1 :: (.a 0 : Kd) :: []) (.x 4 :: .x 5 :: .x 6 :: .x 7 :: .x 8 :: .x 9 :: []) ∗ bigSepL ds19 (HPost m ρ sw c) ∗ X2)
      ⊢ wp frame (wpE (defs₀ (F := F)) 𝒱₀ (c : Thread nD τ) none) Set.univ (tail20 arg0 harg0 arg1 harg1 arg2 harg2 arg3 harg3 arg4 harg4 arg5 harg5 arg6 arg7 arg8 arg9 arg10 arg11 arg12 arg13 c v5 v8) Q := by
  rw [tail20]
  refine andThen_step c fun k' hk => ?_
  refine part20 m ρ sw K arg0 harg0 arg1 harg1 arg2 harg2 arg3 harg3 arg4 harg4 arg5 harg5 arg6 arg7 arg8 arg9 arg10 arg11 arg12 arg13 A c  _ _ _ ?_
  intro _
  refine wp_of_eq c (tail21_wp m ρ sw K arg0 harg0 arg1 harg1 arg2 harg2 arg3 harg3 arg4 harg4 arg5 harg5 arg6 arg7 arg8 arg9 arg10 arg11 arg12 arg13 A c X2 X3 hd he v5 v8) ?_
  exact congrFun hk _

/-- From part 19 to the end. -/
theorem tail19_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v5 : BitVec 32) (v8 : BitVec 32) :
    iprop(env m ρ sw K ∗ KSt m ρ sw c (.a 1 :: (.a 0 : Kd) :: []) (.x 0 :: .x 1 :: .x 2 :: .x 3 :: .x 4 :: .x 5 :: .x 6 :: .x 7 :: .x 8 :: .x 9 :: []) ∗ bigSepL ds19 (HPost m ρ sw c) ∗ X2)
      ⊢ wp frame (wpE (defs₀ (F := F)) 𝒱₀ (c : Thread nD τ) none) Set.univ (tail19 arg0 harg0 arg1 harg1 arg2 harg2 arg3 harg3 arg4 harg4 arg5 harg5 arg6 arg7 arg8 arg9 arg10 arg11 arg12 arg13 c v5 v8) Q := by
  rw [tail19]
  refine andThen_step c fun k' hk => ?_
  refine part19 m ρ sw K arg0 harg0 arg1 harg1 arg2 harg2 arg3 harg3 arg4 harg4 arg5 harg5 arg6 arg7 arg8 arg9 arg10 arg11 arg12 arg13 A c  _ _ _ ?_
  intro _
  refine wp_of_eq c (tail20_wp m ρ sw K arg0 harg0 arg1 harg1 arg2 harg2 arg3 harg3 arg4 harg4 arg5 harg5 arg6 arg7 arg8 arg9 arg10 arg11 arg12 arg13 A c X2 X3 hd he v5 v8) ?_
  exact congrFun hk _

/-- From part 18 to the end. -/
theorem tail18_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v493 : BitVec 32) (v494 : BitVec 32) (v500 : BitVec 1) (v525 : BitVec 32) (v526 : BitVec 32) (v527 : BitVec 32) (c0_i32_378 : BitVec 32) :
    iprop(env m ρ sw K ∗ HSt m ρ sw c ds18 rs18 ∗ bigSepL kList (KPre c) ∗ X2)
      ⊢ wp frame (wpE (defs₀ (F := F)) 𝒱₀ (c : Thread nD τ) none) Set.univ (tail18 arg0 harg0 arg1 harg1 arg2 harg2 arg3 harg3 arg4 harg4 arg5 harg5 arg6 arg7 arg8 arg9 arg10 arg11 arg12 arg13 c v2 v5 v8 v493 v494 v500 v525 v526 v527 c0_i32_378) Q := by
  rw [tail18]
  refine andThen_step c fun k' hk => ?_
  refine part18 m ρ sw K arg0 harg0 arg1 harg1 arg2 harg2 arg3 harg3 arg4 harg4 arg5 harg5 arg6 arg7 arg8 arg9 arg10 arg11 arg12 arg13 A c _ _ _ _ _ _ _ _ _ _ _ _ (by decide +kernel) _ ?_
  intro _
  refine wp_of_eq c (tail19_wp m ρ sw K arg0 harg0 arg1 harg1 arg2 harg2 arg3 harg3 arg4 harg4 arg5 harg5 arg6 arg7 arg8 arg9 arg10 arg11 arg12 arg13 A c X2 X3 hd he v5 v8) ?_
  exact congrFun hk _

/-- From part 17 to the end. -/
theorem tail17_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v493 : BitVec 32) (v494 : BitVec 32) (v495 : BitVec 1) (v496 : BitVec 1) :
    iprop(env m ρ sw K ∗ HSt m ρ sw c ds17 rs17 ∗ bigSepL kList (KPre c) ∗ X2)
      ⊢ wp frame (wpE (defs₀ (F := F)) 𝒱₀ (c : Thread nD τ) none) Set.univ (tail17 arg0 harg0 arg1 harg1 arg2 harg2 arg3 harg3 arg4 harg4 arg5 harg5 arg6 arg7 arg8 arg9 arg10 arg11 arg12 arg13 c v2 v5 v8 v493 v494 v495 v496) Q := by
  rw [tail17]
  refine andThen_step c fun k' hk => ?_
  refine part17 m ρ sw K arg0 harg0 arg1 harg1 arg2 harg2 arg3 harg3 arg4 harg4 arg5 harg5 arg6 arg7 arg8 arg9 arg10 arg11 arg12 arg13 A c _ _ _ _ _ _ _ _ _ (by decide +kernel) _ ?_
  rintro ⟨v500, v525, v526, v527, c0_i32_378⟩
  refine wp_of_eq c (tail18_wp m ρ sw K arg0 harg0 arg1 harg1 arg2 harg2 arg3 harg3 arg4 harg4 arg5 harg5 arg6 arg7 arg8 arg9 arg10 arg11 arg12 arg13 A c X2 X3 hd he v2 v5 v8 v493 v494 v500 v525 v526 v527 c0_i32_378) ?_
  exact congrFun hk _

/-- From part 16 to the end. -/
theorem tail16_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v453 : BitVec 32) (v454 : BitVec 32) (v457 : BitVec 1) (v460 : BitVec 1) (v465 : BitVec 32) (v466 : BitVec 32) :
    iprop(env m ρ sw K ∗ HSt m ρ sw c ds16 rs16 ∗ bigSepL kList (KPre c) ∗ X2)
      ⊢ wp frame (wpE (defs₀ (F := F)) 𝒱₀ (c : Thread nD τ) none) Set.univ (tail16 arg0 harg0 arg1 harg1 arg2 harg2 arg3 harg3 arg4 harg4 arg5 harg5 arg6 arg7 arg8 arg9 arg10 arg11 arg12 arg13 c v2 v5 v8 v453 v454 v457 v460 v465 v466) Q := by
  rw [tail16]
  refine andThen_step c fun k' hk => ?_
  refine part16 m ρ sw K arg0 harg0 arg1 harg1 arg2 harg2 arg3 harg3 arg4 harg4 arg5 harg5 arg6 arg7 arg8 arg9 arg10 arg11 arg12 arg13 A c _ _ _ _ _ _ _ _ _ _ _ (by decide +kernel) _ ?_
  rintro ⟨v493, v494, v495, v496⟩
  refine wp_of_eq c (tail17_wp m ρ sw K arg0 harg0 arg1 harg1 arg2 harg2 arg3 harg3 arg4 harg4 arg5 harg5 arg6 arg7 arg8 arg9 arg10 arg11 arg12 arg13 A c X2 X3 hd he v2 v5 v8 v493 v494 v495 v496) ?_
  exact congrFun hk _

/-- From part 15 to the end. -/
theorem tail15_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v413 : BitVec 32) (v414 : BitVec 32) (v417 : BitVec 1) (v420 : BitVec 1) (v433 : BitVec 32) (v434 : BitVec 32) (v435 : BitVec 32) (c0_i32_310 : BitVec 32) :
    iprop(env m ρ sw K ∗ HSt m ρ sw c ds15 rs15 ∗ bigSepL kList (KPre c) ∗ X2)
      ⊢ wp frame (wpE (defs₀ (F := F)) 𝒱₀ (c : Thread nD τ) none) Set.univ (tail15 arg0 harg0 arg1 harg1 arg2 harg2 arg3 harg3 arg4 harg4 arg5 harg5 arg6 arg7 arg8 arg9 arg10 arg11 arg12 arg13 c v2 v5 v8 v413 v414 v417 v420 v433 v434 v435 c0_i32_310) Q := by
  rw [tail15]
  refine andThen_step c fun k' hk => ?_
  refine part15 m ρ sw K arg0 harg0 arg1 harg1 arg2 harg2 arg3 harg3 arg4 harg4 arg5 harg5 arg6 arg7 arg8 arg9 arg10 arg11 arg12 arg13 A c _ _ _ _ _ _ _ _ _ _ _ _ _ (by decide +kernel) _ ?_
  rintro ⟨v453, v454, v457, v460, v465, v466⟩
  refine wp_of_eq c (tail16_wp m ρ sw K arg0 harg0 arg1 harg1 arg2 harg2 arg3 harg3 arg4 harg4 arg5 harg5 arg6 arg7 arg8 arg9 arg10 arg11 arg12 arg13 A c X2 X3 hd he v2 v5 v8 v453 v454 v457 v460 v465 v466) ?_
  exact congrFun hk _

/-- From part 14 to the end. -/
theorem tail14_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v373 : BitVec 32) (v374 : BitVec 32) (v377 : BitVec 1) (v380 : BitVec 1) :
    iprop(env m ρ sw K ∗ HSt m ρ sw c ds14 rs14 ∗ bigSepL kList (KPre c) ∗ X2)
      ⊢ wp frame (wpE (defs₀ (F := F)) 𝒱₀ (c : Thread nD τ) none) Set.univ (tail14 arg0 harg0 arg1 harg1 arg2 harg2 arg3 harg3 arg4 harg4 arg5 harg5 arg6 arg7 arg8 arg9 arg10 arg11 arg12 arg13 c v2 v5 v8 v373 v374 v377 v380) Q := by
  rw [tail14]
  refine andThen_step c fun k' hk => ?_
  refine part14 m ρ sw K arg0 harg0 arg1 harg1 arg2 harg2 arg3 harg3 arg4 harg4 arg5 harg5 arg6 arg7 arg8 arg9 arg10 arg11 arg12 arg13 A c _ _ _ _ _ _ _ _ _ (by decide +kernel) _ ?_
  rintro ⟨v413, v414, v417, v420, v433, v434, v435, c0_i32_310⟩
  refine wp_of_eq c (tail15_wp m ρ sw K arg0 harg0 arg1 harg1 arg2 harg2 arg3 harg3 arg4 harg4 arg5 harg5 arg6 arg7 arg8 arg9 arg10 arg11 arg12 arg13 A c X2 X3 hd he v2 v5 v8 v413 v414 v417 v420 v433 v434 v435 c0_i32_310) ?_
  exact congrFun hk _

/-- From part 13 to the end. -/
theorem tail13_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v373 : BitVec 32) :
    iprop(env m ρ sw K ∗ HSt m ρ sw c ds13 rs13 ∗ bigSepL kList (KPre c) ∗ X2)
      ⊢ wp frame (wpE (defs₀ (F := F)) 𝒱₀ (c : Thread nD τ) none) Set.univ (tail13 arg0 harg0 arg1 harg1 arg2 harg2 arg3 harg3 arg4 harg4 arg5 harg5 arg6 arg7 arg8 arg9 arg10 arg11 arg12 arg13 c v2 v5 v8 v373) Q := by
  rw [tail13]
  refine andThen_step c fun k' hk => ?_
  refine part13 m ρ sw K arg0 harg0 arg1 harg1 arg2 harg2 arg3 harg3 arg4 harg4 arg5 harg5 arg6 arg7 arg8 arg9 arg10 arg11 arg12 arg13 A c _ _ _ _ _ _ (by decide +kernel) _ ?_
  rintro ⟨v374, v377, v380⟩
  refine wp_of_eq c (tail14_wp m ρ sw K arg0 harg0 arg1 harg1 arg2 harg2 arg3 harg3 arg4 harg4 arg5 harg5 arg6 arg7 arg8 arg9 arg10 arg11 arg12 arg13 A c X2 X3 hd he v2 v5 v8 v373 v374 v377 v380) ?_
  exact congrFun hk _

/-- From part 12 to the end. -/
theorem tail12_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v333 : BitVec 32) (v334 : BitVec 32) (v337 : BitVec 1) (v340 : BitVec 1) (v341 : BitVec 32) (v342 : BitVec 32) (v343 : BitVec 32) (c0_i32_242 : BitVec 32) :
    iprop(env m ρ sw K ∗ HSt m ρ sw c ds12 rs12 ∗ bigSepL kList (KPre c) ∗ X2)
      ⊢ wp frame (wpE (defs₀ (F := F)) 𝒱₀ (c : Thread nD τ) none) Set.univ (tail12 arg0 harg0 arg1 harg1 arg2 harg2 arg3 harg3 arg4 harg4 arg5 harg5 arg6 arg7 arg8 arg9 arg10 arg11 arg12 arg13 c v2 v5 v8 v333 v334 v337 v340 v341 v342 v343 c0_i32_242) Q := by
  rw [tail12]
  refine andThen_step c fun k' hk => ?_
  refine part12 m ρ sw K arg0 harg0 arg1 harg1 arg2 harg2 arg3 harg3 arg4 harg4 arg5 harg5 arg6 arg7 arg8 arg9 arg10 arg11 arg12 arg13 A c _ _ _ _ _ _ _ _ _ _ _ _ _ (by decide +kernel) _ ?_
  intro v373
  refine wp_of_eq c (tail13_wp m ρ sw K arg0 harg0 arg1 harg1 arg2 harg2 arg3 harg3 arg4 harg4 arg5 harg5 arg6 arg7 arg8 arg9 arg10 arg11 arg12 arg13 A c X2 X3 hd he v2 v5 v8 v373) ?_
  exact congrFun hk _

/-- From part 11 to the end. -/
theorem tail11_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v293 : BitVec 32) (v294 : BitVec 32) (v297 : BitVec 1) (v300 : BitVec 1) :
    iprop(env m ρ sw K ∗ HSt m ρ sw c ds11 rs11 ∗ bigSepL kList (KPre c) ∗ X2)
      ⊢ wp frame (wpE (defs₀ (F := F)) 𝒱₀ (c : Thread nD τ) none) Set.univ (tail11 arg0 harg0 arg1 harg1 arg2 harg2 arg3 harg3 arg4 harg4 arg5 harg5 arg6 arg7 arg8 arg9 arg10 arg11 arg12 arg13 c v2 v5 v8 v293 v294 v297 v300) Q := by
  rw [tail11]
  refine andThen_step c fun k' hk => ?_
  refine part11 m ρ sw K arg0 harg0 arg1 harg1 arg2 harg2 arg3 harg3 arg4 harg4 arg5 harg5 arg6 arg7 arg8 arg9 arg10 arg11 arg12 arg13 A c _ _ _ _ _ _ _ _ _ (by decide +kernel) _ ?_
  rintro ⟨v333, v334, v337, v340, v341, v342, v343, c0_i32_242⟩
  refine wp_of_eq c (tail12_wp m ρ sw K arg0 harg0 arg1 harg1 arg2 harg2 arg3 harg3 arg4 harg4 arg5 harg5 arg6 arg7 arg8 arg9 arg10 arg11 arg12 arg13 A c X2 X3 hd he v2 v5 v8 v333 v334 v337 v340 v341 v342 v343 c0_i32_242) ?_
  exact congrFun hk _

/-- From part 10 to the end. -/
theorem tail10_wp (c : Dev nD) (X2 X3 : sProp 𝕄) {Q : (Σ' (d0 : Dev nD) (v1564 : BitVec 1), BitVec 1) → sProp 𝕄}
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v253 : BitVec 32) (v254 : BitVec 32) (v257 : BitVec 1) (v260 : BitVec 1) (v281 : BitVec 32) :
    iprop(env m ρ sw K ∗ HSt m ρ sw c ds10 rs10 ∗ bigSepL kList (KPre c) ∗ X2)
      ⊢ wp frame (wpE (defs₀ (F := F)) 𝒱₀ (c : Thread nD τ) none) Set.univ (tail10 arg0 harg0 arg1 harg1 arg2 harg2 arg3 harg3 arg4 harg4 arg5 harg5 arg6 arg7 arg8 arg9 arg10 arg11 arg12 arg13 c v2 v5 v8 v253 v254 v257 v260 v281) Q := by
  rw [tail10]
  refine andThen_step c fun k' hk => ?_
  refine part10 m ρ sw K arg0 harg0 arg1 harg1 arg2 harg2 arg3 harg3 arg4 harg4 arg5 harg5 arg6 arg7 arg8 arg9 arg10 arg11 arg12 arg13 A c _ _ _ _ _ _ _ _ _ _ (by decide +kernel) _ ?_
  rintro ⟨v293, v294, v297, v300⟩
  refine wp_of_eq c (tail11_wp m ρ sw K arg0 harg0 arg1 harg1 arg2 harg2 arg3 harg3 arg4 harg4 arg5 harg5 arg6 arg7 arg8 arg9 arg10 arg11 arg12 arg13 A c X2 X3 hd he v2 v5 v8 v293 v294 v297 v300) ?_
  exact congrFun hk _

/-- From part 9 to the end. -/
theorem tail9_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (hv : v10 = w10 sw c) :
    iprop(env m ρ sw K ∗ XSt m ρ sw c (8 :: 7 :: 6 :: 5 :: 4 :: 3 :: 2 :: 1 :: 0 :: []) ((9, true) :: []) ∗ bigSepL slots (HPre c) ∗ X1)
      ⊢ wp frame (wpE (defs₀ (F := F)) 𝒱₀ (c : Thread nD τ) none) Set.univ (tail9 arg0 harg0 arg1 harg1 arg2 harg2 arg3 harg3 arg4 harg4 arg5 harg5 arg6 arg7 arg8 arg9 arg10 arg11 arg12 arg13 c v2 v5 v8 v10 k0_hw1) Q := by
  rw [tail9]
  refine andThen_step c fun k' hk => ?_
  refine part9 m ρ sw K arg0 harg0 arg1 harg1 arg2 harg2 arg3 harg3 arg4 harg4 arg5 harg5 arg6 arg7 arg8 arg9 arg10 arg11 arg12 arg13 A c _ _ _ _ _ hv _ rs10 rfl _ ?_
  rintro ⟨v253, v254, v257, v260, v281⟩
  refine wp_of_eq c (h9.trans (tail10_wp m ρ sw K arg0 harg0 arg1 harg1 arg2 harg2 arg3 harg3 arg4 harg4 arg5 harg5 arg6 arg7 arg8 arg9 arg10 arg11 arg12 arg13 A c X2 X3 hd he v2 v5 v8 v253 v254 v257 v260 v281)) ?_
  exact congrFun hk _

/-- From part 8 to the end. -/
theorem tail8_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (hv : v10 = w10 sw c) :
    iprop(env m ρ sw K ∗ XSt m ρ sw c (7 :: 6 :: 5 :: 4 :: 3 :: 2 :: 1 :: 0 :: []) ((8, true) :: (9, false) :: []) ∗ bigSepL slots (HPre c) ∗ X1)
      ⊢ wp frame (wpE (defs₀ (F := F)) 𝒱₀ (c : Thread nD τ) none) Set.univ (tail8 arg0 harg0 arg1 harg1 arg2 harg2 arg3 harg3 arg4 harg4 arg5 harg5 arg6 arg7 arg8 arg9 arg10 arg11 arg12 arg13 c v2 v5 v8 v10 k0_hw1) Q := by
  rw [tail8]
  refine andThen_step c fun k' hk => ?_
  refine part8 m ρ sw K arg0 harg0 arg1 harg1 arg2 harg2 arg3 harg3 arg4 harg4 arg5 harg5 arg6 arg7 arg8 arg9 arg10 arg11 arg12 arg13 A c _ _ _ _ hv _ _ _ ?_
  intro _
  refine wp_of_eq c (tail9_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 hv) ?_
  exact congrFun hk _

/-- From part 7 to the end. -/
theorem tail7_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v54 : BitVec 32) (hv : v10 = w10 sw c) :
    iprop(env m ρ sw K ∗ XSt m ρ sw c (5 :: 4 :: 3 :: 2 :: 1 :: 0 :: []) ((6, true) :: (7, false) :: (8, false) :: (9, false) :: []) ∗ bigSepL slots (HPre c) ∗ X1)
      ⊢ wp frame (wpE (defs₀ (F := F)) 𝒱₀ (c : Thread nD τ) none) Set.univ (tail7 arg0 harg0 arg1 harg1 arg2 harg2 arg3 harg3 arg4 harg4 arg5 harg5 arg6 arg7 arg8 arg9 arg10 arg11 arg12 arg13 c v2 v5 v8 v10 k0_hw1 v54) Q := by
  rw [tail7]
  refine andThen_step c fun k' hk => ?_
  refine part7 m ρ sw K arg0 harg0 arg1 harg1 arg2 harg2 arg3 harg3 arg4 harg4 arg5 harg5 arg6 arg7 arg8 arg9 arg10 arg11 arg12 arg13 A c _ _ _ _ _ hv _ _ _ ?_
  intro _
  refine wp_of_eq c (tail8_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 hv) ?_
  exact congrFun hk _

/-- From part 6 to the end. -/
theorem tail6_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v52 : BitVec 32) (v54 : BitVec 32) (v157 : FVec F S224x256 .bf16) (hv : v10 = w10 sw c) (hw : v157 = k0_pay6 (xvB m ρ c true 2)) :
    iprop(env m ρ sw K ∗ XSt m ρ sw c (4 :: 3 :: 2 :: 1 :: 0 :: []) ((5, false) :: (6, false) :: (7, false) :: (8, false) :: (9, false) :: []) ∗ bigSepL slots (HPre c) ∗ X1)
      ⊢ wp frame (wpE (defs₀ (F := F)) 𝒱₀ (c : Thread nD τ) none) Set.univ (tail6 arg0 harg0 arg1 harg1 arg2 harg2 arg3 harg3 arg4 harg4 arg5 harg5 arg6 arg7 arg8 arg9 arg10 arg11 arg12 arg13 c v2 v5 v8 v10 k0_hw1 v52 v54 v157) Q := by
  rw [tail6]
  refine andThen_step c fun k' hk => ?_
  refine part6 m ρ sw K arg0 harg0 arg1 harg1 arg2 harg2 arg3 harg3 arg4 harg4 arg5 harg5 arg6 arg7 arg8 arg9 arg10 arg11 arg12 arg13 A c _ _ _ _ _ _ hv hw _ _ _ ?_
  intro _
  refine wp_of_eq c (tail7_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 v54 hv) ?_
  exact congrFun hk _

/-- From part 5 to the end. -/
theorem tail5_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v52 : BitVec 32) (v54 : BitVec 32) (v124 : BitVec 32) (c1_i32_84 : BitVec 32) (hv : v10 = w10 sw c) :
    iprop(env m ρ sw K ∗ XSt m ρ sw c (2 :: 1 :: 0 :: []) ((3, true) :: (4, false) :: (5, false) :: (6, false) :: (7, false) :: (8, false) :: (9, false) :: []) ∗ bigSepL slots (HPre c) ∗ X1)
      ⊢ wp frame (wpE (defs₀ (F := F)) 𝒱₀ (c : Thread nD τ) none) Set.univ (tail5 arg0 harg0 arg1 harg1 arg2 harg2 arg3 harg3 arg4 harg4 arg5 harg5 arg6 arg7 arg8 arg9 arg10 arg11 arg12 arg13 c v2 v5 v8 v10 k0_hw1 v52 v54 v124 c1_i32_84) Q := by
  rw [tail5]
  refine andThen_step c fun k' hk => ?_
  refine part5 m ρ sw K arg0 harg0 arg1 harg1 arg2 harg2 arg3 harg3 arg4 harg4 arg5 harg5 arg6 arg7 arg8 arg9 arg10 arg11 arg12 arg13 A c _ _ _ _ _ _ _ _ hv _ _ _ ?_
  refine wp_of_eq c (tail6_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 v52 v54 (k0_pay6 (xvB m ρ c true 2)) hv rfl) ?_
  exact congrFun hk _

/-- From part 4 to the end. -/
theorem tail4_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v52 : BitVec 32) (v54 : BitVec 32) (hv : v10 = w10 sw c) :
    iprop(env m ρ sw K ∗ XSt m ρ sw c (1 :: 0 :: []) ((2, false) :: (3, false) :: (4, false) :: (5, false) :: (6, false) :: (7, false) :: (8, false) :: (9, false) :: []) ∗ bigSepL slots (HPre c) ∗ X1)
      ⊢ wp frame (wpE (defs₀ (F := F)) 𝒱₀ (c : Thread nD τ) none) Set.univ (tail4 arg0 harg0 arg1 harg1 arg2 harg2 arg3 harg3 arg4 harg4 arg5 harg5 arg6 arg7 arg8 arg9 arg10 arg11 arg12 arg13 c v2 v5 v8 v10 k0_hw1 v52 v54) Q := by
  rw [tail4]
  refine andThen_step c fun k' hk => ?_
  refine part4 m ρ sw K arg0 harg0 arg1 harg1 arg2 harg2 arg3 harg3 arg4 harg4 arg5 harg5 arg6 arg7 arg8 arg9 arg10 arg11 arg12 arg13 A c _ _ _ _ _ hv _ _ _ ?_
  rintro ⟨v124, c1_i32_84⟩
  refine wp_of_eq c (tail5_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 v52 v54 v124 c1_i32_84 hv) ?_
  exact congrFun hk _

/-- From part 3 to the end. -/
theorem tail3_wp (c : Dev nD) (X1 X2 X3 : sProp 𝕄) {Q : (Σ' (d0 : Dev nD) (v1564 : BitVec 1), BitVec 1) → sProp 𝕄}
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v52 : BitVec 32) (v54 : BitVec 32) (v61 : BitVec 32) (hv : v10 = w10 sw c) :
    iprop(env m ρ sw K ∗ XSt m ρ sw c ([]) ((0, true) :: (1, false) :: (2, false) :: (3, false) :: (4, false) :: (5, false) :: (6, false) :: (7, false) :: (8, false) :: (9, false) :: []) ∗ bigSepL slots (HPre c) ∗ X1)
      ⊢ wp frame (wpE (defs₀ (F := F)) 𝒱₀ (c : Thread nD τ) none) Set.univ (tail3 arg0 harg0 arg1 harg1 arg2 harg2 arg3 harg3 arg4 harg4 arg5 harg5 arg6 arg7 arg8 arg9 arg10 arg11 arg12 arg13 c v2 v5 v8 v10 k0_hw1 v52 v54 v61) Q := by
  rw [tail3]
  refine andThen_step c fun k' hk => ?_
  refine part3 m ρ sw K arg0 harg0 arg1 harg1 arg2 harg2 arg3 harg3 arg4 harg4 arg5 harg5 arg6 arg7 arg8 arg9 arg10 arg11 arg12 arg13 A c _ _ _ _ _ _ _ hv _ _ _ ?_
  intro _
  refine wp_of_eq c (tail4_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 v52 v54 hv) ?_
  exact congrFun hk _

/-- From part 2 to the end. -/
theorem tail2_wp (c : Dev nD) (X0 X1 X2 X3 : sProp 𝕄) {Q : (Σ' (d0 : Dev nD) (v1564 : BitVec 1), BitVec 1) → sProp 𝕄}
    (hb : iprop(env m ρ sw K ∗ (∃ W, owes (c : Thread nD τ) (owedE sw c XL) W) ∗ tbuf m ρ c ∗ barGot sw c ∗ semVal (barCell c) 0 ∗ X0)
      ⊢ iprop(env m ρ sw K ∗ XSt m ρ sw c [] XL ∗ bigSepL slots (HPre c) ∗ X1))
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩)
    (v2 : BitVec 32) (v5 : BitVec 32) (v8 : BitVec 32) (v10 : Elt F .i32) (k0_hw1 : k0_chk1 c v10) (v14 : Sems sig S_) (v31 : BitVec 32) (hv : v10 = w10 sw c) (hv14 : v14 = SemArray.scalar (sig.barrier 0 rfl)) :
    iprop(env m ρ sw K ∗ BSt m ρ sw c [.inr (false, true), .inr (true, false), .inr (true, true)] ∗ cred (tallyAt (barCell c) () (barD c).card) ∗ atPos ER (barCell c) 0 ∅ 0 ∗ X0)
      ⊢ wp frame (wpE (defs₀ (F := F)) 𝒱₀ (c : Thread nD τ) none) Set.univ (tail2 arg0 harg0 arg1 harg1 arg2 harg2 arg3 harg3 arg4 harg4 arg5 harg5 arg6 arg7 arg8 arg9 arg10 arg11 arg12 arg13 c v2 v5 v8 v10 k0_hw1 v14 v31) Q := by
  rw [tail2]
  refine andThen_step c fun k' hk => ?_
  refine part2 m ρ sw K arg0 harg0 arg1 harg1 arg2 harg2 arg3 harg3 arg4 harg4 arg5 harg5 arg6 arg7 arg8 arg9 arg10 arg11 arg12 arg13 A c _ _ _ _ _ _ hv14 _ _ _ hb ?_
  rintro ⟨v52, v54, v61⟩
  refine wp_of_eq c (tail3_wp m ρ sw K arg0 harg0 arg1 harg1 arg2 harg2 arg3 harg3 arg4 harg4 arg5 harg5 arg6 arg7 arg8 arg9 arg10 arg11 arg12 arg13 A c X1 X2 X3 h9 hd he v2 v5 v8 v10 k0_hw1 v52 v54 v61 hv) ?_
  exact congrFun hk _

/-- From part 1 to the end. -/
theorem tail1_wp (hT : TabOK m ρ sw) (c : Dev nD) (X0 X1 X2 X3 : sProp 𝕄) {Q : (Σ' (d0 : Dev nD) (v1564 : BitVec 1), BitVec 1) → sProp 𝕄}
    (hb : iprop(env m ρ sw K ∗ (∃ W, owes (c : Thread nD τ) (owedE sw c XL) W) ∗ tbuf m ρ c ∗ barGot sw c ∗ semVal (barCell c) 0 ∗ X0)
      ⊢ iprop(env m ρ sw K ∗ XSt m ρ sw c [] XL ∗ bigSepL slots (HPre c) ∗ X1))
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : ∀ v w, iprop(env m ρ sw K ∗ DSt m ρ sw c (((true, 0, 3), true) :: dd49) (((true, 0, 3), false) :: []) ∗ X3) ⊢ Q ⟨c, v, w⟩) :
    iprop(env m ρ sw K ∗ BSt m ρ sw c [.inl false, .inl true, .inr (false, false), .inr (false, true), .inr (true, false), .inr (true, true)]
        ∗ cred (tallyAt (barCell c) () (barD c).card) ∗ atPos ER (barCell c) 0 ∅ 0 ∗ X0)
      ⊢ wp frame (wpE (defs₀ (F := F)) 𝒱₀ (c : Thread nD τ) none) Set.univ (tail1 arg0 harg0 arg1 harg1 arg2 harg2 arg3 harg3 arg4 harg4 arg5 harg5 arg6 arg7 arg8 arg9 arg10 arg11 arg12 arg13) Q := by
  rw [tail1]
  refine andThen_step c fun k' hk => ?_
  refine part1 m ρ sw K arg0 harg0 arg1 harg1 arg2 harg2 arg3 harg3 arg4 harg4 arg5 harg5 arg6 arg7 arg8 arg9 arg10 arg11 arg12 arg13 A c hT _ ?_
  intro v2 v5 v8 k0_hw1 v31
  refine wp_of_eq c (tail2_wp m ρ sw K arg0 harg0 arg1 harg1 arg2 harg2 arg3 harg3 arg4 harg4 arg5 harg5 arg6 arg7 arg8 arg9 arg10 arg11 arg12 arg13 A c X0 X1 X2 X3 hb h9 hd he v2 v5 v8 (w10 sw c) k0_hw1 (SemArray.scalar (sig.barrier 0 rfl)) v31 rfl rfl) ?_
  exact congrFun hk _

end Cert.KProof

end
-- ==== Proof.Body.lean ====
/-
The kernel's run: its parts one after another.
-/
module

public import proofs.«01_k».proof.Proof.TailsA
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

variable (arg0 : Memref sig .tc .vmem S1x2048x1024 .bf16) (harg0 : arg0.IsWhole) (arg1 : Memref sig .tc .smem S2 .i32) (harg1 : arg1.IsWhole) (arg2 : Memref sig .tc .vmem S1x2048x1024 .bf16) (harg2 : arg2.IsWhole) (arg3 : Memref sig .tc .vmem S2x128x1024 .bf16) (harg3 : arg3.IsWhole) (arg4 : Memref sig .tc .vmem S4x224x256 .bf16) (harg4 : arg4.IsWhole) (arg5 : Memref sig .tc .vmem S4x224x256 .bf16) (harg5 : arg5.IsWhole) (arg6 : DmaSems sig S10) (arg7 : DmaSems sig S2) (arg8 : DmaSems sig S4x4) (arg9 : DmaSems sig S4x4) (arg10 : DmaSems sig S4x4) (arg11 : DmaSems sig S4x4) (arg12 : DmaSems sig S4x4) (arg13 : DmaSems sig S4x4)
    (A : Args arg0 arg1 arg2 arg3 arg4 arg5 arg6 arg7 arg8 arg9 arg10 arg11 arg12 arg13)

include A

omit A in
/-- The kernel's run is what is left of it before its first part. -/
theorem k0_part49_tails : k0_part49 (F := F) arg0 harg0 arg1 harg1 arg2 harg2 arg3 harg3 arg4 harg4 arg5 harg5 arg6 arg7 arg8 arg9 arg10 arg11 arg12 arg13 = tail1 arg0 harg0 arg1 harg1 arg2 harg2 arg3 harg3 arg4 harg4 arg5 harg5 arg6 arg7 arg8 arg9 arg10 arg11 arg12 arg13 := by
  rw [k0_part49_eq_skeleton]
  rfl

/-- The kernel's run after its parts: the last closing wait. -/
def lastDrain (arg2 : Memref sig .tc .vmem S1x2048x1024 .bf16) (harg2 : arg2.IsWhole) (arg13 : DmaSems sig S4x4) (d0 : Dev nD) : Prog (TpuEff nD τ sig (Elt F) Λ₀ .tc) PUnit := do

  if k0_h284 : k0_cond284 d0 = 1#1 then do
    let v1569 : DmaSems sig S1x1 := arg13.slice (Rect.unit (s := S4x4) (k0_off572 d0) S1x1.size (k0_off572_inb d0 k0_h284))
    let v1570 : DmaSems sig S_ := v1569.squeeze S_ squeezes_S1x1_S_
    let v1571 : Memref sig .tc .vmem S1x224x256 .bf16 := arg2.slice (Rect.unit (s := S1x2048x1024) (k0_off573 d0) S1x224x256.size (k0_off573_inb d0 k0_h284)) (fun _ => rfl)
    let v1572 : Memref sig .tc .vmem S224x256 .bf16 := v1571.squeeze S224x256 squeezes_S1x224x256_S224x256
    let v1573 : Memref sig .tc .vmem S1x224x256 .bf16 := arg2.slice (Rect.unit (s := S1x2048x1024) (k0_off573 d0) S1x224x256.size (k0_off573_inb d0 k0_h284)) (fun _ => rfl)
    let v1574 : Memref sig .tc .vmem S224x256 .bf16 := v1573.squeeze S224x256 squeezes_S1x224x256_S224x256
    Prog.lift (.waitDma2 v1570.sem v1574 v1572 ((harg2.wordExact_slice rfl _ (k0_off573_wordsbf16 d0 k0_h284)).reshape _ _) ((harg2.wordExact_slice rfl _ (k0_off573_wordsbf16 d0 k0_h284)).reshape _ _))
    pure ⟨⟩
  else do
    pure ⟨⟩
  pure ⟨⟩

omit A in
/-- The kernel's run is its parts and then the last closing wait. -/
theorem cc0_body_tails : cc0_body (F := F) arg0 harg0 arg1 harg1 arg2 harg2 arg3 harg3 arg4 harg4 arg5 harg5 arg6 arg7 arg8 arg9 arg10 arg11 arg12 arg13
    = andThen (k0_part49 (F := F) arg0 harg0 arg1 harg1 arg2 harg2 arg3 harg3 arg4 harg4 arg5 harg5 arg6 arg7 arg8 arg9 arg10 arg11 arg12 arg13) fun x => lastDrain arg2 harg2 arg13 x.1 := by
  rw [cc0_body_eq_skeleton]
  rfl

/-- The last closing wait. -/
theorem lastDrain_wp (c : Dev nD) (X3 : sProp 𝕄) {Q : PUnit → sProp 𝕄}
    (he : iprop(env m ρ sw K ∗ DSt m ρ sw c (((true, 0, 3), false) :: ((true, 0, 3), true) :: dd49) [] ∗ X3) ⊢ Q ⟨⟩) :
    iprop(env m ρ sw K ∗ DSt m ρ sw c (((true, 0, 3), true) :: dd49) (((true, 0, 3), false) :: []) ∗ X3)
      ⊢ wp frame (wpE (defs₀ (F := F)) 𝒱₀ (c : Thread nD τ) none) Set.univ (lastDrain arg2 harg2 arg13 c) Q := by
  rw [lastDrain]
  refine step_drain m ρ sw K c true false 0 3 arg13 (sem_scratch10 _ A.e13) (df111 c) arg2 A.e2 harg2 (k0_off572_inb c) (k0_off573_inb c) (k0_off573_wordsbf16 c) _ _ _ rfl ?_
  exact wp_pure_eq c _ rfl he

/-- The kernel's run, given how what it holds is regrouped after the barrier, before the steps, before the closing waits and at the end. -/
theorem run_body (c : Dev nD) (hT : TabOK m ρ sw) (X0 X1 X2 X3 : sProp 𝕄) {Q : PUnit → sProp 𝕄}
    (hb : iprop(env m ρ sw K ∗ (∃ W, owes (c : Thread nD τ) (owedE sw c XL) W) ∗ tbuf m ρ c ∗ barGot sw c ∗ semVal (barCell c) 0 ∗ X0)
      ⊢ iprop(env m ρ sw K ∗ XSt m ρ sw c [] XL ∗ bigSepL slots (HPre c) ∗ X1))
    (h9 : iprop(env m ρ sw K ∗ HSt m ρ sw c ds10 rs10 ∗ xbuf m ρ c ∗ bigSepL [9, 8, 7, 6, 5, 4, 3, 2, 1, 0] (XPost c) ∗ X1)
      ⊢ iprop(env m ρ sw K ∗ HSt m ρ sw c ds10 rs10 ∗ bigSepL kList (KPre c) ∗ X2))
    (hd : iprop(env m ρ sw K ∗ KSt m ρ sw c kDone [] ∗ bigSepL ds19 (HPost m ρ sw c) ∗ X2)
      ⊢ iprop(env m ρ sw K ∗ DSt m ρ sw c dd22 rd22 ∗ X3))
    (he : iprop(env m ρ sw K ∗ DSt m ρ sw c (((true, 0, 3), false) :: ((true, 0, 3), true) :: dd49) [] ∗ X3) ⊢ Q ⟨⟩) :
    iprop(env m ρ sw K ∗ BSt m ρ sw c [.inl false, .inl true, .inr (false, false), .inr (false, true), .inr (true, false), .inr (true, true)]
        ∗ cred (tallyAt (barCell c) () (barD c).card) ∗ atPos ER (barCell c) 0 ∅ 0 ∗ X0)
      ⊢ wp frame (wpE (defs₀ (F := F)) 𝒱₀ (c : Thread nD τ) none) Set.univ (cc0_body arg0 harg0 arg1 harg1 arg2 harg2 arg3 harg3 arg4 harg4 arg5 harg5 arg6 arg7 arg8 arg9 arg10 arg11 arg12 arg13) Q := by
  rw [cc0_body_tails, k0_part49_tails]
  refine andThen_step c fun k' hk => ?_
  refine tail1_wp m ρ sw K arg0 harg0 arg1 harg1 arg2 harg2 arg3 harg3 arg4 harg4 arg5 harg5 arg6 arg7 arg8 arg9 arg10 arg11 arg12 arg13 A hT c X0 X1 X2 X3 hb h9 hd ?_
  intro v w
  refine wp_of_eq c (lastDrain_wp (m := m) (ρ := ρ) (sw := sw) (K := K) (harg2 := harg2) (A := A) (c := c) (X3 := X3) (he := he)) ?_
  exact congrFun hk _

end Cert.KProof

end
-- ==== Proof.Deal.lean ====
/-
The launch tokens, dealt to the devices that spend them.
-/
module

public import proofs.«01_k».proof.Proof.Mid
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The launch's tokens, dealt to who spends them -/

/-- A piece's landing semaphore. -/
def lcell (d : Dev nD) : PK → GSem nD τ sig
  | .inl k => kcell d (.r k.1 k.2.1 k.2.2)
  | .inr s => kcell d (.a s)
theorem lcell_xp (d : Dev nD) (i : Fin 10) : lcell d (xp d i) = kcell d (lk d i) := by
  unfold xp lk; generalize xd i = t; rcases t with ⟨ax, s⟩ | s <;> rfl
theorem lk_mate (c : Dev nD) (i : Fin 10) : lk (mate sw c) i = lk c i := by
  unfold lk; split
  · rw [pos_mate]
  · rfl

section Who
variable {M : Type} [URA M]

omit [FloatOps F] in
theorem who (c : Dev nD) (Φ : PK → sProp M) (k : P3) : Φ (.inl k)
    = iprop((if pos c k.1 = k.2.1 then Φ (.inl (k.1, k.2.1, k.2.2)) else iprop(emp)) ∗ (if arr c k.1 true k.2.1 = true then Φ (.inl (k.1, k.2.1, k.2.2)) else iprop(emp))
      ∗ (if arr c k.1 false k.2.1 = true then Φ (.inl (k.1, k.2.1, k.2.2)) else iprop(emp))) := by
  have he : ∀ P : sProp M, iprop(P ∗ emp) = P := fun P => equiv_iff.mp ⟨sep_emp.1, sep_emp.2⟩
  have he' : ∀ P : sProp M, iprop(emp ∗ P) = P := fun P => equiv_iff.mp ⟨emp_sep.1, emp_sep.2⟩
  rcases arr_cases c k.1 k.2.1 with ⟨h1, h2, h3⟩ | ⟨h1, h2, h3⟩ | ⟨h1, h2, h3⟩
  · rw [if_pos h1, h2, h3, if_neg Bool.false_ne_true, he', he]
  · rw [if_neg h1, h2, h3, if_neg Bool.false_ne_true, if_pos rfl, he, he']
  · rw [if_neg h1, h2, h3, if_neg Bool.false_ne_true, if_pos rfl, he', he']

omit [FloatOps F] in
theorem who_own (c : Dev nD) (Φ : PK → sProp M) : (bigSep Finset.univ fun k : P3 => (if pos c k.1 = k.2.1 then Φ (.inl (k.1, k.2.1, k.2.2)) else iprop(emp) : sProp M))
    = bigSep Finset.univ fun k : Bool × Fin 4 => Φ (.inl (k.1, pos c k.1, k.2)) := by
  rw [bigSep_univ_prod, bigSep_univ_prod]
  refine bigSep_congr fun ax _ => ?_
  rw [bigSep_univ_prod]
  have h : ∀ q : Fin 4, (bigSep Finset.univ fun s : Fin 4 => (if pos c ax = q then Φ (.inl (ax, q, s)) else iprop(emp) : sProp M))
      = if pos c ax = q then bigSep Finset.univ fun s : Fin 4 => Φ (.inl (ax, q, s)) else iprop(emp) := fun q => by
    split
    · rfl
    · exact bs_emp _
  refine (bigSep_congr fun q _ => h q).trans ?_
  rw [← bs_filter, Finset.filter_eq, if_pos (Finset.mem_univ _), bigSep_singleton]

omit [FloatOps F] in
/-- The pieces of a device, by who fills them. -/
theorem who_all (c : Dev nD) (Φ : PK → sProp M) : bigSep Finset.univ Φ
    = iprop((bigSep Finset.univ fun i : Fin 10 => Φ (xp c i))
      ∗ bigSep Finset.univ fun k : P4 => if arr c k.1 k.2.1 k.2.2.1 = true then Φ (.inl (k.1, k.2.2.1, k.2.2.2)) else iprop(emp)) := by
  have hx : (bigSep Finset.univ fun i : Fin 10 => Φ (xp c i)) = iprop((bigSep Finset.univ fun k : Bool × Fin 4 => Φ (.inl (k.1, pos c k.1, k.2))) ∗ bigSep Finset.univ fun s : Fin 2 => Φ (.inr s)) := by
    rw [← show (bigSep Finset.univ fun k : (Bool × Fin 4) ⊕ Fin 2 => Φ (xq c k))
        = iprop((bigSep Finset.univ fun k : Bool × Fin 4 => Φ (.inl (k.1, pos c k.1, k.2))) ∗ bigSep Finset.univ fun s : Fin 2 => Φ (.inr s)) from bigSep_univ_sum _,
      bigSep_univ_equiv xdE]
    exact bigSep_congr fun i _ => by rw [xq_xd]
  rw [bigSep_univ_sum, bigSep_congr (s := Finset.univ) (fun (k : P3) _ => who c Φ k), bigSep_sep', who_own, hx, bs_P4]
  have h1 : ∀ A B C : sProp M, iprop((A ∗ B) ∗ C) ⊢ iprop((A ∗ C) ∗ B) := fun A B C => by
    iintro ⟨⟨HA, HB⟩, HC⟩
    isplitr [HB]
    · isplitl [HA] <;> iassumption
    · iexact HB
  exact equiv_iff.mp ⟨h1 _ _ _, h1 _ _ _⟩

omit [FloatOps F] in
/-- What arrives at a device from its neighbours is what the neighbours send. -/
theorem around_nb (Φ : Dev nD → PK → sProp M) :
    (bigSep Finset.univ fun c : Dev nD => bigSep Finset.univ fun k : P4 => if arr c k.1 k.2.1 k.2.2.1 = true then Φ c (.inl (k.1, k.2.2.1, k.2.2.2)) else iprop(emp))
    = bigSep Finset.univ fun c : Dev nD => bigSep Finset.univ fun k : P4 => if fok c k.1 k.2.1 k.2.2.1 = true then Φ (nb k.1 k.2.1 c) (.inl (k.1, k.2.2.1, k.2.2.2)) else iprop(emp) := by
  have h (ax dir : Bool) : (bigSep Finset.univ fun c : Dev nD => bigSep Finset.univ fun x : Fin 4 × Fin 4 => if arr c ax dir x.1 = true then Φ c (.inl (ax, x.1, x.2)) else iprop(emp))
      = bigSep Finset.univ fun c : Dev nD => bigSep Finset.univ fun x : Fin 4 × Fin 4 => if fok c ax (!dir) x.1 = true then Φ (nb ax (!dir) c) (.inl (ax, x.1, x.2)) else iprop(emp) := by
    rw [bigSep_univ_equiv (nbE ax (!dir))]
    refine bigSep_congr fun c _ => bigSep_congr fun x _ => ?_
    show (if arr (nb ax (!dir) c) ax dir x.1 = true then Φ (nb ax (!dir) c) (.inl (ax, x.1, x.2)) else iprop(emp)) = _
    unfold fok; rw [Bool.not_not]
  have e1 (c : Dev nD) := bs_P4' fun k : P4 => if arr c k.1 k.2.1 k.2.2.1 = true then Φ c (.inl (k.1, k.2.2.1, k.2.2.2)) else iprop(emp)
  have e2 (c : Dev nD) := bs_P4' fun k : P4 => if fok c k.1 k.2.1 k.2.2.1 = true then Φ (nb k.1 k.2.1 c) (.inl (k.1, k.2.2.1, k.2.2.2)) else iprop(emp)
  rw [bigSep_congr (s := Finset.univ) (fun (c : Dev nD) _ => e1 c), bigSep_congr (s := Finset.univ) (fun (c : Dev nD) _ => e2 c)]
  simp only [bigSep_sep']
  rw [h true true, h true false, h false true, h false false]
  have h1 : ∀ A B C D : sProp M, iprop((A ∗ B) ∗ C ∗ D) ⊢ iprop((B ∗ A) ∗ D ∗ C) := fun A B C D => by
    iintro ⟨⟨HA, HB⟩, HC, HD⟩
    isplitl [HA HB]
    · isplitl [HB] <;> iassumption
    · isplitl [HD] <;> iassumption
  exact equiv_iff.mp ⟨h1 _ _ _ _, h1 _ _ _ _⟩

omit [FloatOps F] in
/-- What a device's exchange signals pay lies at its mate. -/
theorem around_mate (Φ : Dev nD → PK → sProp M) :
    (bigSep Finset.univ fun c : Dev nD => bigSep Finset.univ fun i : Fin 10 => Φ c (xp c i))
    = bigSep Finset.univ fun c : Dev nD => bigSep Finset.univ fun i : Fin 10 => Φ (mate sw c) (xp c i) := by
  rw [bigSep_univ_equiv (mateE sw)]
  refine bigSep_congr fun c _ => bigSep_congr fun i _ => ?_
  show Φ (mate sw c) (xp (mate sw c) i) = _
  rw [xp_mate]
end Who

/-- Every device's landing tokens, dealt to the devices that send. -/
theorem land_around : (bigSep Finset.univ fun c : Dev nD => bigSep Finset.univ fun k : PK => (dutyTok ER (lcell c k) 0 du : sProp 𝕄))
    = iprop((bigSep Finset.univ fun c : Dev nD => bigSep Finset.univ (tkL sw c))
      ∗ bigSep Finset.univ fun c : Dev nD => bigSep Finset.univ fun k : P4 =>
          if fok c k.1 k.2.1 k.2.2.1 = true then dutyTok ER (kcell (nb k.1 k.2.1 c) (.r k.1 k.2.2.1 k.2.2.2)) 0 du else iprop(emp)) := by
  rw [bigSep_congr (s := Finset.univ) (fun (c : Dev nD) _ => who_all c fun k : PK => (dutyTok ER (lcell c k) 0 du : sProp 𝕄)), bigSep_sep',
    around_mate sw (fun c k => (dutyTok ER (lcell c k) 0 du : sProp 𝕄)), around_nb (fun c k => (dutyTok ER (lcell c k) 0 du : sProp 𝕄))]
  have h : (bigSep Finset.univ fun c : Dev nD => bigSep Finset.univ fun i : Fin 10 => (dutyTok ER (lcell (mate sw c) (xp c i)) 0 du : sProp 𝕄))
      = bigSep Finset.univ fun c : Dev nD => bigSep Finset.univ (tkL sw c) :=
    bigSep_congr fun c _ => bigSep_congr fun i _ => by unfold tkL; rw [← xp_mate sw, lcell_xp, lk_mate]
  rw [h]
  rfl

/-- Every device's barrier tokens, dealt to the devices that signal. -/
theorem bar_around : (bigSep Finset.univ fun c : Dev nD => bigSep Finset.univ fun σ : Duty => (dutyTok ER (barCell c) 0 σ : sProp 𝕄))
    ⊢ (iprop(bigSep Finset.univ fun c : Dev nD => bigSep Finset.univ (sgTok sw c)) : sProp 𝕄) := by
  have hm (b : Bool) : (bigSep Finset.univ fun c : Dev nD => (dutyTok ER (barCell c) 0 (.inl b) : sProp 𝕄))
      = bigSep Finset.univ fun c : Dev nD => dutyTok ER (barCell (mate sw c)) 0 (.inl b) := bigSep_univ_equiv (mateE sw) _
  have hn (ax dir : Bool) : (bigSep Finset.univ fun c : Dev nD => (dutyTok ER (barCell c) 0 (.inr (ax, !dir)) : sProp 𝕄))
      = bigSep Finset.univ fun c : Dev nD => dutyTok ER (barCell (nb ax dir c)) 0 (.inr (ax, !dir)) := bigSep_univ_equiv (nbE ax dir) _
  have e1 : (bigSep Finset.univ fun c : Dev nD => bigSep Finset.univ fun σ : Duty => (dutyTok ER (barCell c) 0 σ : sProp 𝕄))
      ⊢ (iprop(bigSep Finset.univ fun c : Dev nD => bigSep Finset.univ fun σ : Duty => dutyTok ER (barCell (sgDev sw c σ)) 0 (sgDu σ)) : sProp 𝕄) := by
    simp only [← bs_SL]
    show (bigSep Finset.univ fun c : Dev nD => (iprop(dutyTok ER (barCell c) 0 (.inl false) ∗ dutyTok ER (barCell c) 0 (.inl true) ∗ dutyTok ER (barCell c) 0 (.inr (false, false))
        ∗ dutyTok ER (barCell c) 0 (.inr (false, true)) ∗ dutyTok ER (barCell c) 0 (.inr (true, false)) ∗ dutyTok ER (barCell c) 0 (.inr (true, true))) : sProp 𝕄))
      ⊢ (iprop(bigSep Finset.univ fun c : Dev nD => iprop(dutyTok ER (barCell (mate sw c)) 0 (.inl false) ∗ dutyTok ER (barCell (mate sw c)) 0 (.inl true)
        ∗ dutyTok ER (barCell (nb false false c)) 0 (.inr (false, true)) ∗ dutyTok ER (barCell (nb false true c)) 0 (.inr (false, false))
        ∗ dutyTok ER (barCell (nb true false c)) 0 (.inr (true, true)) ∗ dutyTok ER (barCell (nb true true c)) 0 (.inr (true, false)))) : sProp 𝕄)
    simp only [bigSep_sep']
    rw [hm false, hm true, show (bigSep Finset.univ fun c : Dev nD => (dutyTok ER (barCell c) 0 (.inr (false, false)) : sProp 𝕄)) = _ from hn false true,
      show (bigSep Finset.univ fun c : Dev nD => (dutyTok ER (barCell c) 0 (.inr (false, true)) : sProp 𝕄)) = _ from hn false false,
      show (bigSep Finset.univ fun c : Dev nD => (dutyTok ER (barCell c) 0 (.inr (true, false)) : sProp 𝕄)) = _ from hn true true,
      show (bigSep Finset.univ fun c : Dev nD => (dutyTok ER (barCell c) 0 (.inr (true, true)) : sProp 𝕄)) = _ from hn true false]
    iintro ⟨H1, H2, H3, H4, H5, H6⟩
    isplitl [H1]; · iexact H1
    isplitl [H2]; · iexact H2
    isplitl [H4]; · iexact H4
    isplitl [H3]; · iexact H3
    isplitl [H6]; · iexact H6
    iexact H5
  refine BIBase.Entails.trans e1 ?_
  exact bigSep_mono fun c _ => bs_weaken _ (barOk c) _

/-- The tokens of one device's cells, as minted. -/
def toks (c : Dev nD) : sProp 𝕄 :=
  iprop((bigSep Finset.univ fun σ : Duty => dutyTok ER (barCell c) 0 σ) ∗ bigSep Finset.univ fun k : Kd => dutyTok ER (kcell c k) 0 du)
/-- The tokens of the duties a device pays. -/
def payToks (c : Dev nD) : sProp 𝕄 :=
  iprop(bigSep Finset.univ (sgTok sw c) ∗ bigSep Finset.univ (tkX c) ∗ bigSep Finset.univ (tkL sw c) ∗ bigSep Finset.univ (ftok c))

theorem ftok_eq (c : Dev nD) : (bigSep Finset.univ (ftok c) : sProp 𝕄)
    = iprop((bigSep Finset.univ fun k : P4 => if fok c k.1 k.2.1 k.2.2.1 = true then dutyTok ER (kcell c (.f k.1 k.2.1 k.2.2.1 k.2.2.2)) 0 du else iprop(emp))
      ∗ bigSep Finset.univ fun k : P4 => if fok c k.1 k.2.1 k.2.2.1 = true then dutyTok ER (kcell (nb k.1 k.2.1 c) (.r k.1 k.2.2.1 k.2.2.2)) 0 du else iprop(emp)) := by
  rw [← bigSep_sep']
  refine bigSep_congr fun k _ => ?_
  unfold ftok
  split
  · rfl
  · exact (equiv_iff.mp ⟨emp_sep.1, emp_sep.2⟩ : iprop(emp ∗ (emp : sProp 𝕄)) = iprop(emp)).symm

theorem toks_eq (c : Dev nD) : (toks c : sProp 𝕄) = iprop((bigSep Finset.univ fun σ : Duty => dutyTok ER (barCell c) 0 σ) ∗ bigSep Finset.univ (tkX c)
    ∗ (bigSep Finset.univ fun k : PK => dutyTok ER (lcell c k) 0 du)
    ∗ bigSep Finset.univ fun k : P4 => dutyTok ER (kcell c (.f k.1 k.2.1 k.2.2.1 k.2.2.2)) 0 du) := by
  unfold toks
  rw [bs_Kd, bigSep_univ_sum (fun k : PK => (dutyTok ER (lcell c k) 0 du : sProp 𝕄))]
  have h1 : ∀ A B C D E : sProp 𝕄, iprop(A ∗ B ∗ C ∗ D ∗ E) ⊢ iprop(A ∗ B ∗ (D ∗ C) ∗ E) := fun A B C D E => by
    iintro ⟨HA, HB, HC, HD, HE⟩
    isplitl [HA]; · iexact HA
    isplitl [HB]; · iexact HB
    isplitr [HE]
    · isplitl [HD] <;> iassumption
    · iexact HE
  have h2 : ∀ A B C D E : sProp 𝕄, iprop(A ∗ B ∗ (D ∗ C) ∗ E) ⊢ iprop(A ∗ B ∗ C ∗ D ∗ E) := fun A B C D E => by
    iintro ⟨HA, HB, ⟨HD, HC⟩, HE⟩
    isplitl [HA]; · iexact HA
    isplitl [HB]; · iexact HB
    isplitl [HC]; · iexact HC
    isplitl [HD] <;> iassumption
  exact equiv_iff.mp ⟨h1 _ _ _ _ _, h2 _ _ _ _ _⟩

/-- All the tokens, dealt. -/
theorem toks_around : (bigSep Finset.univ fun c : Dev nD => (toks c : sProp 𝕄)) ⊢ (iprop(bigSep Finset.univ fun c : Dev nD => payToks sw c) : sProp 𝕄) := by
  have h1 : (bigSep Finset.univ fun c : Dev nD => (toks c : sProp 𝕄)) = iprop((bigSep Finset.univ fun c : Dev nD => bigSep Finset.univ fun σ : Duty => dutyTok ER (barCell c) 0 σ)
      ∗ (bigSep Finset.univ fun c : Dev nD => bigSep Finset.univ (tkX c)) ∗ (bigSep Finset.univ fun c : Dev nD => bigSep Finset.univ fun k : PK => dutyTok ER (lcell c k) 0 du)
      ∗ bigSep Finset.univ fun c : Dev nD => bigSep Finset.univ fun k : P4 => dutyTok ER (kcell c (.f k.1 k.2.1 k.2.2.1 k.2.2.2)) 0 du) := by
    rw [bigSep_congr (s := Finset.univ) (fun (c : Dev nD) _ => toks_eq c), bigSep_sep', bigSep_sep', bigSep_sep']
  have hf : (bigSep Finset.univ fun c : Dev nD => bigSep Finset.univ fun k : P4 => (dutyTok ER (kcell c (.f k.1 k.2.1 k.2.2.1 k.2.2.2)) 0 du : sProp 𝕄))
      ⊢ (iprop(bigSep Finset.univ fun c : Dev nD => bigSep Finset.univ fun k : P4 => if fok c k.1 k.2.1 k.2.2.1 = true then dutyTok ER (kcell c (.f k.1 k.2.1 k.2.2.1 k.2.2.2)) 0 du else iprop(emp)) : sProp 𝕄) :=
    bigSep_mono fun c _ => bs_weaken _ (fun k : P4 => fok c k.1 k.2.1 k.2.2.1) _
  have h2 : (bigSep Finset.univ fun c : Dev nD => (payToks sw c : sProp 𝕄)) = iprop((bigSep Finset.univ fun c : Dev nD => bigSep Finset.univ (sgTok sw c))
      ∗ (bigSep Finset.univ fun c : Dev nD => bigSep Finset.univ (tkX c)) ∗ (bigSep Finset.univ fun c : Dev nD => bigSep Finset.univ (tkL sw c))
      ∗ (bigSep Finset.univ fun c : Dev nD => bigSep Finset.univ fun k : P4 => if fok c k.1 k.2.1 k.2.2.1 = true then dutyTok ER (kcell c (.f k.1 k.2.1 k.2.2.1 k.2.2.2)) 0 du else iprop(emp))
      ∗ bigSep Finset.univ fun c : Dev nD => bigSep Finset.univ fun k : P4 => if fok c k.1 k.2.1 k.2.2.1 = true then dutyTok ER (kcell (nb k.1 k.2.1 c) (.r k.1 k.2.2.1 k.2.2.2)) 0 du else iprop(emp)) := by
    unfold payToks
    rw [bigSep_sep', bigSep_sep', bigSep_sep', bigSep_congr (s := Finset.univ) (fun (c : Dev nD) _ => ftok_eq c), bigSep_sep']
  rw [h1, h2, land_around sw]
  iintro ⟨H1, H2, ⟨H3, H4⟩, H5⟩
  ihave H1 := (bar_around sw) $$ H1
  ihave H5 := hf $$ H5
  isplitl [H1]; · iexact H1
  isplitl [H2]; · iexact H2
  isplitl [H3]; · iexact H3
  isplitl [H5]; · iexact H5
  iexact H4

end Cert.KProof

end
-- ==== Proof.Owe.lean ====
/-
What is owed at launch, and the credit it gives.
-/
module

public import proofs.«01_k».proof.Proof.Deal
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## What is owed at launch, by who owes it and by who is owed -/

/-- What is owed at launch: the barrier's signals, the exchange's copies and the forwarded slices. -/
def O₀ (c : Dev nD) : CellTallies nD τ sig Unit := owedB sw c SL

theorem owedS_sum (c : Dev nD) (l : List Slot) : owedS c l = (l.map fun x => owedX c x false + owedX c x true).sum := by
  induction l with
  | nil => rfl
  | cons x l ih => rw [owedS_cons, ih, List.map_cons, List.sum_cons]; ac_rfl

theorem owedS_slots (c : Dev nD) : owedS c slots = ∑ k : P3, (owedF c k.1 false k.2.1 k.2.2 + owedF c k.1 true k.2.1 k.2.2) := by
  rw [owedS_sum, ← List.sum_toFinset _ (by decide +kernel : slots.Nodup), show slots.toFinset = Finset.univ from by decide +kernel,
    Fintype.sum_prod_type, Fintype.sum_prod_type]
  refine Finset.sum_congr rfl fun ax _ => ?_
  rw [Fintype.sum_prod_type, Fintype.sum_prod_type]
  have h : ∀ δ : Fin 7, (∑ s : Fin 4, (owedX c (ax, δ, s) false + owedX c (ax, δ, s) true))
      = if inr c ax δ = true then ∑ s : Fin 4, (owedF c ax false (slotQ c ax δ) s + owedF c ax true (slotQ c ax δ) s) else 0 := fun δ => by
    split
    · rename_i hi
      exact Finset.sum_congr rfl fun s _ => by rw [owedX_pos c ax δ s false hi, owedX_pos c ax δ s true hi]
    · rename_i hi
      exact Finset.sum_eq_zero fun s _ => by rw [owedX_neg c ax δ s false hi, owedX_neg c ax δ s true hi, add_zero]
  rw [Finset.sum_congr rfl fun δ _ => h δ, ← Finset.sum_filter, dOf_set, Finset.sum_map]
  exact Finset.sum_congr rfl fun q _ => by rw [slotQ_dOf]

theorem owedE_XL (c : Dev nD) : owedE sw c XL = owedS c slots + ∑ i : Fin 10, tallyAt (kcell (mate sw c) (lk c i)) () (kAmt (.x i)) := by
  have h : ∀ f : Fin 10 → CellTallies nD τ sig Unit, ∑ i : Fin 10, f i = (([0, 1, 2, 3, 4, 5, 6, 7, 8, 9] : List (Fin 10)).map f).sum := fun f => by
    rw [← List.sum_toFinset _ (by decide : ([0, 1, 2, 3, 4, 5, 6, 7, 8, 9] : List (Fin 10)).Nodup), show ([0, 1, 2, 3, 4, 5, 6, 7, 8, 9] : List (Fin 10)).toFinset = Finset.univ from by decide]
  rw [h]
  simp only [XL, owedE, List.map_cons, List.map_nil, List.sum_cons, List.sum_nil, add_zero]
  ac_rfl

theorem O₀_eq (c : Dev nD) : O₀ sw c = (∑ σ : Duty, owedG sw c σ) + (∑ i : Fin 10, tallyAt (kcell (mate sw c) (lk c i)) () (kAmt (.x i)))
    + ∑ k : P4, owedF c k.1 k.2.1 k.2.2.1 k.2.2.2 := by
  have h1 : ∑ σ : Duty, owedG sw c σ = (SL.map (owedG sw c)).sum := by
    rw [← List.sum_toFinset _ (by decide : SL.Nodup), show SL.toFinset = Finset.univ from by decide]
  have h2 : ∑ k : P4, owedF c k.1 k.2.1 k.2.2.1 k.2.2.2 = owedS c slots := by
    rw [owedS_slots, Fintype.sum_prod_type, Fintype.sum_prod_type]
    refine Finset.sum_congr rfl fun ax _ => ?_
    rw [Fintype.sum_prod_type, Fintype.sum_bool, Finset.sum_add_distrib, add_comm]
  rw [h1, h2]
  show owedE sw c XL + _ + _ + _ + _ + _ + _ = _
  rw [owedE_XL]
  simp only [SL, List.map_cons, List.map_nil, List.sum_cons, List.sum_nil, add_zero]
  ac_rfl

/-- What is owed to device `c`, -/
def T₁ (c : Dev nD) : CellTallies nD τ sig Unit :=
  (∑ σ : Duty, if barOk c σ = true then tallyAt (barCell c) () 1 else 0) + (∑ i : Fin 10, tallyAt (kcell c (lk c i)) () (kAmt (.x i)))
    + ∑ k : P4, if arr c k.1 k.2.1 k.2.2.1 = true then tallyAt (kcell c (.r k.1 k.2.2.1 k.2.2.2)) () NB else 0
/-- cell by cell. -/
def T₂ (c : Dev nD) : CellTallies nD τ sig Unit :=
  tallyAt (barCell c) () (barD c).card + ((∑ s : Fin 2, tallyAt (kcell c (.a s)) () NA) + ∑ k : P3, tallyAt (kcell c (.r k.1 k.2.1 k.2.2)) () NB)

theorem sum_bar : ∑ c : Dev nD, ∑ σ : Duty, owedG sw c σ = ∑ c : Dev nD, ∑ σ : Duty, (if barOk c σ = true then tallyAt (barCell c) () 1 else 0 : CellTallies nD τ sig Unit) := by
  rw [Finset.sum_comm]
  conv_rhs => rw [Finset.sum_comm]
  have e : Function.Involutive sgDu := fun σ => by revert σ; decide
  rw [← Equiv.sum_comp e.toPerm]
  refine Finset.sum_congr rfl fun σ _ => ?_
  rcases σ with b | ⟨ax, dir⟩
  · rw [← Equiv.sum_comp (mateE sw)]
    exact Finset.sum_congr rfl fun c _ => by
      show (if barOk (mate sw c) (.inl b) = true then tallyAt (barCell (mate sw (mate sw c))) () 1 else 0) = _
      rw [mate_mate]; rfl
  · rw [← Equiv.sum_comp (nbE ax dir)]
    exact Finset.sum_congr rfl fun c _ => by
      show (if has (nb ax dir c) ax (!dir) = true then tallyAt (barCell (nb ax (!dir) (nb ax dir c))) () 1 else 0) = if has c ax dir = true then tallyAt (barCell c) () 1 else 0
      rw [nb_nb, has_nb]

theorem sum_mate : ∑ c : Dev nD, ∑ i : Fin 10, (tallyAt (kcell (mate sw c) (lk c i)) () (kAmt (.x i)) : CellTallies nD τ sig Unit)
    = ∑ c : Dev nD, ∑ i : Fin 10, tallyAt (kcell c (lk c i)) () (kAmt (.x i)) := by
  rw [← Equiv.sum_comp (mateE sw)]
  exact Finset.sum_congr rfl fun c _ => Finset.sum_congr rfl fun i _ => by
    show tallyAt (kcell (mate sw (mate sw c)) (lk (mate sw c) i)) () _ = _
    rw [mate_mate, lk_mate]

theorem sum_nb : ∑ c : Dev nD, ∑ k : P4, owedF c k.1 k.2.1 k.2.2.1 k.2.2.2
    = ∑ c : Dev nD, ∑ k : P4, (if arr c k.1 k.2.1 k.2.2.1 = true then tallyAt (kcell c (.r k.1 k.2.2.1 k.2.2.2)) () NB else 0 : CellTallies nD τ sig Unit) := by
  let g : P4 → P4 := fun k => (k.1, !k.2.1, k.2.2)
  have e : Function.Involutive g := fun k => by show (k.1, !!k.2.1, k.2.2) = k; rw [Bool.not_not]
  rw [Finset.sum_comm]
  conv_rhs => rw [Finset.sum_comm]
  rw [← Equiv.sum_comp e.toPerm]
  refine Finset.sum_congr rfl fun k _ => ?_
  rw [← Equiv.sum_comp (nbE k.1 k.2.1)]
  refine Finset.sum_congr rfl fun c _ => ?_
  show owedF (nb k.1 k.2.1 c) k.1 (!k.2.1) k.2.2.1 k.2.2.2 = _
  unfold owedF fok
  rw [nb_nb, Bool.not_not]

theorem sum_owed : ∑ c : Dev nD, O₀ sw c = ∑ c : Dev nD, T₁ c := by
  rw [Finset.sum_congr rfl fun c _ => O₀_eq sw c]
  unfold T₁
  rw [Finset.sum_add_distrib, Finset.sum_add_distrib, Finset.sum_add_distrib, Finset.sum_add_distrib, sum_bar, sum_mate, sum_nb]

/-- One landing's tally. -/
def lt (c : Dev nD) (k : PK) : CellTallies nD τ sig Unit := match k with
  | .inl k => tallyAt (kcell c (.r k.1 k.2.1 k.2.2)) () NB
  | .inr s => tallyAt (kcell c (.a s)) () NA

theorem lt_lk (c : Dev nD) (i : Fin 10) : tallyAt (kcell c (lk c i)) () (kAmt (.x i)) = lt c (xp c i) := by
  have e : kAmt (.x i) = match xd i with | .inl _ => NB | .inr _ => NA := rfl
  rw [e]
  unfold lk xp; generalize xd i = t; rcases t with ⟨ax, s⟩ | s <;> rfl

theorem sum_xp (c : Dev nD) (f : PK → CellTallies nD τ sig Unit) :
    (∑ i : Fin 10, f (xp c i)) + (∑ k : P4, if arr c k.1 k.2.1 k.2.2.1 = true then f (.inl (k.1, k.2.2.1, k.2.2.2)) else 0) = ∑ k : PK, f k := by
  have hx : (∑ i : Fin 10, f (xp c i)) = (∑ k : Bool × Fin 4, f (.inl (k.1, pos c k.1, k.2))) + ∑ s : Fin 2, f (.inr s) := by
    rw [← show (∑ k : (Bool × Fin 4) ⊕ Fin 2, f (xq c k)) = (∑ k : Bool × Fin 4, f (.inl (k.1, pos c k.1, k.2))) + ∑ s : Fin 2, f (.inr s) from Fintype.sum_sum_type _,
      ← Equiv.sum_comp xdE]
    exact Finset.sum_congr rfl fun i _ => by rw [xq_xd]
  have ho : (∑ k : Bool × Fin 4, f (.inl (k.1, pos c k.1, k.2))) = ∑ k : P3, if pos c k.1 = k.2.1 then f (.inl k) else 0 := by
    rw [Fintype.sum_prod_type, Fintype.sum_prod_type]
    refine Finset.sum_congr rfl fun ax _ => ?_
    rw [Fintype.sum_prod_type, Finset.sum_comm]
    exact Finset.sum_congr rfl fun s _ => (by dsimp only; rw [Finset.sum_ite_eq, if_pos (Finset.mem_univ _)])
  have h4 : (∑ k : P4, if arr c k.1 k.2.1 k.2.2.1 = true then f (.inl (k.1, k.2.2.1, k.2.2.2)) else 0)
      = ∑ k : P3, ((if arr c k.1 true k.2.1 = true then f (.inl k) else 0) + if arr c k.1 false k.2.1 = true then f (.inl k) else 0) := by
    rw [Fintype.sum_prod_type, Fintype.sum_prod_type]
    refine Finset.sum_congr rfl fun ax _ => ?_
    rw [Fintype.sum_prod_type, Fintype.sum_bool, Finset.sum_add_distrib]
  rw [hx, ho, h4, Fintype.sum_sum_type, add_right_comm, ← Finset.sum_add_distrib]
  congr 1
  refine Finset.sum_congr rfl fun k _ => ?_
  rcases arr_cases c k.1 k.2.1 with ⟨h1, h2, h3⟩ | ⟨h1, h2, h3⟩ | ⟨h1, h2, h3⟩
  · rw [if_pos h1, h2, h3, if_neg Bool.false_ne_true, add_zero, add_zero]
  · rw [if_neg h1, h2, h3, if_neg Bool.false_ne_true, if_pos rfl, add_zero, zero_add]
  · rw [if_neg h1, h2, h3, if_neg Bool.false_ne_true, if_pos rfl, zero_add, zero_add]

theorem sum_card (c : Dev nD) : (∑ σ : Duty, if barOk c σ = true then tallyAt (barCell c) () 1 else 0 : CellTallies nD τ sig Unit) = tallyAt (barCell c) () (barD c).card := by
  rw [← Finset.sum_filter]
  show ∑ σ ∈ barD c, tallyAt (barCell c) () 1 = _
  generalize barD c = s
  induction s using Finset.induction_on with
  | empty => rw [Finset.sum_empty, Finset.card_empty, tallyAt_zero]
  | insert a s ha ih => rw [Finset.sum_insert ha, ih, Finset.card_insert_of_notMem ha, tallyAt_add, Nat.add_comm]

theorem T₁_eq (c : Dev nD) : T₁ c = T₂ c := by
  unfold T₁ T₂
  rw [sum_card, add_assoc]
  congr 1
  rw [Finset.sum_congr rfl fun i _ => lt_lk c i,
    show (∑ k : P4, (if arr c k.1 k.2.1 k.2.2.1 = true then tallyAt (kcell c (.r k.1 k.2.2.1 k.2.2.2)) () NB else 0 : CellTallies nD τ sig Unit))
      = ∑ k : P4, if arr c k.1 k.2.1 k.2.2.1 = true then lt c (.inl (k.1, k.2.2.1, k.2.2.2)) else 0 from rfl, sum_xp, Fintype.sum_sum_type, add_comm]
  rfl

theorem T₂_own (d : Dev nD) (g : GSem nD τ sig) (h : T₂ d g ≠ 0) : g.1 = (d.tc : Thread nD τ) := by
  by_contra hg
  have hz (sm : SemLoc sig) (n : ℕ) : (tallyAt ((d : Thread nD τ), sm) () n : CellTallies nD τ sig Unit) g = 0 :=
    tallyAt_ne_cell (g' := g) (fun e => hg (by rw [e])) () n
  refine h ?_
  unfold T₂
  rw [Pi.add_apply, Pi.add_apply, Finset.sum_apply, Finset.sum_apply, hz, Finset.sum_eq_zero (fun s _ => hz _ _), Finset.sum_eq_zero (fun k _ => hz _ _), add_zero, add_zero]

theorem creds (c : Dev nD) : (Pipeline.launchCred (O₀ sw) c : sProp 𝕄)
    = iprop(cred (tallyAt (barCell c) () (barD c).card) ∗ bigSep Finset.univ (crA c) ∗ bigSep Finset.univ (crR c)) := by
  rw [Pipeline.launchCred_of_sum (O₀ sw) T₂ ((sum_owed sw).trans (Finset.sum_congr rfl fun c _ => T₁_eq c)) T₂_own c]
  have ha (a b : CellTallies nD τ sig Unit) : (cred (a + b) : sProp 𝕄) = iprop(cred a ∗ cred b) := equiv_iff.mp ⟨(cred_add _ _).1, (cred_add _ _).2⟩
  unfold T₂
  rw [ha, ha, Pipeline.cred_finsetSum, Pipeline.cred_finsetSum]
  rfl

/-- Everything owed at launch lies above level 0. -/
theorem above_O₀ (c : Dev nD) : Above 0 (O₀ sw c) := by
  have hg (σ : Duty) : Above 0 (owedG sw c σ) := by
    unfold owedG; split
    · exact above_tally _ _ _ (by rw [lv_bar]; exact Nat.one_pos)
    · exact above_zero 0
  exact above_add (above_add (above_add (above_add (above_add (above_add (above_mono (above_owedE sw c XL) (Nat.zero_le 1)) (hg _)) (hg _)) (hg _)) (hg _)) (hg _)) (hg _)

end Cert.KProof

end
-- ==== Proof.Run.lean ====
/-
The run of one device, and the pipeline around it.
-/
module

public import proofs.«01_k».proof.Proof.Split
public import proofs.«01_k».proof.Proof.Body
public import proofs.«01_k».proof.Proof.Owe
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The lists of the phases -/

theorem kd_eq : kDone = [.a 0, .a 1, .x 0, .x 1, .x 2, .x 3, .x 4, .x 5, .x 6, .x 7, .x 8, .x 9].reverse := rfl
theorem ds_eq : ds19 = slots.reverse := rfl
theorem dd_eq : rd22 = slots.flatMap fun x => [(x, true), (x, false)] := rfl
theorem de_eq : (((true, 0, 3), false) :: ((true, 0, 3), true) :: dd49) = (slots.flatMap fun x => [(x, true), (x, false)]).reverse := rfl

/-! ## What a device starts with and ends with -/

/-- The launch's ghost state at device `c`. -/
def ghost (K : Dev nD × CK → ℕ) (c : Dev nD) : sProp 𝕄 :=
  iprop(recs m ρ sw K ∗ atPos ER (barCell c) 0 ∅ 0 ∗ bigSep Finset.univ (atK c) ∗ bigSep Finset.univ (sgTok sw c) ∗ bigSep Finset.univ (tkX c)
    ∗ bigSep Finset.univ (tkL sw c) ∗ bigSep Finset.univ (ftok c))
/-- The credit of what reaches device `c`. -/
def creds₀ (c : Dev nD) : sProp 𝕄 := iprop(cred (tallyAt (barCell c) () (barD c).card) ∗ bigSep Finset.univ (crA c) ∗ bigSep Finset.univ (crR c))
def start (c : Dev nD) : sProp 𝕄 := iprop((∃ K, ghost m ρ sw K c) ∗ creds₀ c ∗ levAts L lv)
def Φ₀ (c : Dev nD) : sProp 𝕄 := iprop(start m ρ sw c ∗ scr c)
def Φ₁ (c : Dev nD) : sProp 𝕄 := iprop(scr c ∗ semVal (barCell c) 0 ∗ bigSep Finset.univ (semK c))

theorem ptsE_of (c : Dev nD) (fo : Buf (Elt F) ((c : Thread nD τ).loc cc0_stg2_0)) :
    iprop(bigSep Finset.univ fun k : PK => pts c k fullShare fo) ⊢ (iprop(bigSep Finset.univ fun k : PK => ptsE c k) : sProp 𝕄) := by
  refine bigSep_mono fun k _ => ?_
  show (_ : sProp 𝕄) ⊢ _
  unfold ptsE; iintro H; iexists fo; iexact H

/-- The run between the staging copies: from what the launch deals a device to its result in place. -/
theorem run_mid (K : Dev nD × CK → ℕ) (c : Dev nD) (hT : TabOK m ρ sw) (W : Waits sig Unit) (fo : Buf (Elt F) ((c : Thread nD τ).loc cc0_stg2_0))
    (Kt : PUnit → sProp 𝕄) :
    iprop((ghost m ρ sw K c ∗ creds₀ c ∗ levAts L lv ∗ scr c) ∗ owes (c : Thread nD τ) (O₀ sw c) W ∗ xbuf m ρ c ∗ tbuf m ρ c
        ∗ (((c : Thread nD τ).loc cc0_stg2_0) ↦[Finset.univ]{fullShare} fo)
        ∗ ((Φ₁ c ∗ (∃ W, owes (c : Thread nD τ) 0 W) ∗ xbuf m ρ c ∗ tbuf m ρ c ∗ (((c : Thread nD τ).loc cc0_stg2_0) ↦[Finset.univ]{fullShare} (outAt m ρ sw c))) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8 cc0_scratch9 cc0_scratch10) Kt := by
  generalize hP : iprop((Φ₁ c ∗ (∃ W, owes (c : Thread nD τ) 0 W) ∗ xbuf m ρ c ∗ tbuf m ρ c ∗ (((c : Thread nD τ).loc cc0_stg2_0) ↦[Finset.univ]{fullShare} (outAt m ρ sw c))) -∗ Kt ⟨⟩) = P
  have hR := run_body m ρ sw K (Memref.whole cc0_stg0_0) (Memref.isWhole_whole _) (Memref.whole cc0_stg1_0) (Memref.isWhole_whole _) (Memref.whole cc0_stg2_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10
    (⟨rfl, rfl, rfl, rfl, rfl, rfl, rfl, rfl, rfl, rfl, rfl, rfl, rfl, rfl⟩ : Args (Memref.whole cc0_stg0_0) (Memref.whole cc0_stg1_0) (Memref.whole cc0_stg2_0)
      (Memref.whole cc0_scratch0) (Memref.whole cc0_scratch1) (Memref.whole cc0_scratch2) cc0_scratch3 cc0_scratch4 cc0_scratch5 cc0_scratch6 cc0_scratch7 cc0_scratch8
      cc0_scratch9 cc0_scratch10) c hT iprop(M0 m ρ sw c ∗ P) iprop(M1 m ρ c ∗ P) iprop(M2 m ρ c ∗ P) iprop(M3 m ρ sw c ∗ P) (Q := Kt)
    (by
      iintro ⟨#He, HO, Ht, Hg, Hz, H0, HP⟩
      ihave H := (regroup_b m ρ sw K c) $$ [HO Ht Hg Hz H0]
      · isplitr; · iexact He
        isplitl [HO]; · iexact HO
        isplitl [Ht]; · iexact Ht
        isplitl [Hg]; · iexact Hg
        isplitl [Hz]; · iexact Hz
        iexact H0
      icases H with ⟨H1, H2, H3, H4⟩
      isplitl [H1]; · iexact H1
      isplitl [H2]; · iexact H2
      isplitl [H3]; · iexact H3
      isplitl [H4]; · iexact H4
      iexact HP)
    (by
      iintro ⟨#He, HH, Hx, Hp, H0, HP⟩
      ihave H := (regroup_9 m ρ sw K c ds10 rs10) $$ [HH Hx Hp H0]
      · isplitr; · iexact He
        isplitl [HH]; · iexact HH
        isplitl [Hx]; · iexact Hx
        isplitl [Hp]; · iexact Hp
        iexact H0
      icases H with ⟨H1, H2, H3, H4⟩
      isplitl [H1]; · iexact H1
      isplitl [H2]; · iexact H2
      isplitl [H3]; · iexact H3
      isplitl [H4]; · iexact H4
      iexact HP)
    (by
      rw [dd_eq, ds_eq, kd_eq]
      iintro ⟨#He, HH, Hp, H0, HP⟩
      ihave H := (regroup_d m ρ sw K c) $$ [HH Hp H0]
      · isplitr; · iexact He
        isplitl [HH]; · iexact HH
        isplitl [Hp]; · iexact Hp
        iexact H0
      icases H with ⟨H1, H2, H4⟩
      isplitl [H1]; · iexact H1
      isplitl [H2]; · iexact H2
      isplitl [H4]; · iexact H4
      iexact HP)
    (by
      rw [de_eq]
      subst hP
      iintro ⟨#He, HH, H0, HP⟩
      ihave H := (regroup_e m ρ sw K c) $$ [HH H0]
      · isplitr; · iexact He
        isplitl [HH]; · iexact HH
        iexact H0
      iapply HP
      unfold MEnd M2 Φ₁
      icases H with ⟨HO, ⟨Hx, Ht, Hz⟩, Hk, Ho, Hs⟩
      isplitl [Hs Hz Hk]
      · isplitl [Hs]
        · iapply (scr_join c (m _) (m _) (m _)); iexact Hs
        isplitl [Hz]; · iexact Hz
        iexact Hk
      isplitl [HO]; · iexact HO
      isplitl [Hx]; · iexact Hx
      isplitl [Ht]; · iexact Ht
      rw [out_pieces]; iexact Ho)
  refine BIBase.Entails.trans ?_ hR
  unfold ghost creds₀ O₀ env BSt M0
  iintro ⟨⟨⟨#Hr, Hab, Hak, Hsg, Htx, Htl, Htf⟩, ⟨Hcb, Hca, Hcr⟩, #Hlev, Hs⟩, HO, Hx, Ht, Ho, HP⟩
  isplitr
  · isplitl; · iexact Hr
    iexact Hlev
  isplitl [HO Ht Hsg Ho]
  · isplitl [HO]; · iexists W; iexact HO
    isplitl [Ht]; · iexact Ht
    iapply (bar_pre sw c)
    isplitl [Hsg]; · iexact Hsg
    iapply (show iprop((((c : Thread nD τ).loc cc0_stg2_0) ↦[Finset.univ]{fullShare} fo)) ⊢ (iprop(bigSep Finset.univ fun k : PK => ptsE c k) : sProp 𝕄) from by
      rw [out_pieces]; exact ptsE_of c fo)
    iexact Ho
  isplitl [Hcb]; · iexact Hcb
  isplitl [Hab]; · iexact Hab
  isplitr [HP]
  · isplitl [Hx]; · iexact Hx
    isplitl [Hs]; · iapply (scr_split c); iexact Hs
    isplitl [Hak]; · iexact Hak
    isplitl [Hca]; · iexact Hca
    isplitl [Hcr]; · iexact Hcr
    isplitl [Htx]; · iexact Htx
    isplitl [Htl]; · iexact Htl
    iexact Htf
  iexact HP

/-! ## The pipeline's data and its body -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => outAt m ρ sw c
  Φ t := match t with
    | ⟨0, _⟩ => Φ₀ m ρ sw c
    | ⟨_ + 1, _⟩ => Φ₁ (F := F) c
  q _ := fullShare
  owed t := match t with
    | ⟨0, _⟩ => O₀ sw c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ sw c ∗ (dats m ρ sw 0 c).owesAt () t₀.castSucc
    ∗ (∃ d, stg c cc0_stg0_0 ((dats m ρ sw 0 c).before (0 : Fin 3) t₀ d))
    ∗ (∃ d, stg c cc0_stg1_0 ((dats m ρ sw 0 c).before (1 : Fin 3) t₀ d))
    ∗ (∃ d, stg c cc0_stg2_0 ((dats m ρ sw 0 c).before (2 : Fin 3) t₀ d)))
def bodyPost (c : Dev nD) : sProp 𝕄 :=
  iprop(Φ₁ (F := F) c ∗ (dats m ρ sw 0 c).owesAt () t₀.succ ∗ stg c cc0_stg0_0 (xstg m ρ c) ∗ stg c cc0_stg1_0 (tstg m ρ c) ∗ stg c cc0_stg2_0 (outAt m ρ sw c))

/-- The run from what the pipeline hands the body to what it takes back. -/
theorem sound_body (hT : TabOK m ρ sw) (c : Dev nD) : bodyPre' m ρ sw c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8 cc0_scratch9 cc0_scratch10)
    (fun _ => bodyPost m ρ sw c) := by
  unfold bodyPre' Φ₀ start
  iintro ⟨⟨⟨⟨%K, Hg⟩, Hc, Hlev⟩, Hs⟩, Ho, ⟨%d0, %g0, %hg0, Hx⟩, ⟨%d1, %g1, %hg1, Ht⟩, ⟨%d2, %g2, %hg2, Hout⟩⟩
  have hx : g0 = xstg m ρ c := by rw [hg0]; unfold Dat.before; rw [if_pos (fetch_0 t₀)]; rfl
  subst hx
  have ht : g1 = tstg m ρ c := by rw [hg1]; unfold Dat.before; rw [if_pos (fetch_1 t₀)]; rfl
  subst ht
  unfold Dat.owesAt Pipeline.owesWithin
  icases Ho with ⟨%W, %hW, HO⟩
  rw [show (dats m ρ sw 0 c).owed t₀.castSucc = O₀ sw c from rfl]
  iapply (run_mid m ρ sw K c hT W g2 (fun _ => bodyPost m ρ sw c))
  isplitl [Hg Hc Hlev Hs]
  · isplitl [Hg]; · iexact Hg
    isplitl [Hc]; · iexact Hc
    isplitl [Hlev]; · iexact Hlev
    iexact Hs
  isplitl [HO]; · iexact HO
  isplitl [Hx]; · unfold xbuf; iexact Hx
  isplitl [Ht]; · unfold tbuf; iexact Ht
  isplitl [Hout]; · iexact Hout
  iintro ⟨Hp, ⟨%W', HO⟩, Hx, Ht, Hout⟩
  unfold bodyPost Dat.owesAt Pipeline.owesWithin
  rw [show (dats m ρ sw 0 c).owed t₀.succ = 0 from rfl]
  isplitl [Hp]; · iexact Hp
  isplitl [HO]
  · iexists W'
    isplitr; · ipureintro; exact fun _ _ => Or.inl trivial
    iexact HO
  isplitl [Hx]
  · iexists _; isplitr; · (ipureintro; rfl)
    unfold xbuf; iexact Hx
  isplitl [Ht]
  · iexists _; isplitr; · (ipureintro; rfl)
    unfold tbuf; iexact Ht
  iexists _; isplitr; · (ipureintro; rfl)
  iexact Hout

/-- The library's body obligation on device `c`. -/
theorem body_obligation (hT : TabOK m ρ sw) (c : Dev nD) : BodyObligation (dats (F := F) m ρ sw 0 c) (defs₀ (F := F)) 𝒱₀ () Set.univ := fun t => by
  rw [fin_N t]
  rw [bigSep_W, bigSep_W]
  simp only [owns_whole_eq]
  show bodyPre' m ρ sw c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7 cc0_scratch8 cc0_scratch9 cc0_scratch10)
    (fun _ => bodyPost m ρ sw c)
  exact sound_body m ρ sw hT c

end Cert.KProof

end
-- ==== Proof.Launch.lean ====
/-
The launch of the kernel on all devices.
-/
module

public import proofs.«01_k».proof.Proof.Run
public import Idealize.ShloMosaic.Lib.Pipeline.CollectiveSegs
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The launch -/

theorem csem_injective : Function.Injective csem := by
  rintro (a | k) (a' | k') h
  · rfl
  · exact absurd h (by intro h; cases h)
  · exact absurd h (by intro h; cases h)
  · have h1 : semNo k = semNo k' := by
      have h2 : ksem k = ksem k' := by injection h
      exact congrArg (fun n : DmaSem sig => n.val) h2
    have h3 : decNo (semNo k) = decNo (semNo k') := by rw [h1]
    rw [decNo_semNo, decNo_semNo] at h3
    injection h3 with h4
    rw [h4]

theorem osem_injective : Function.Injective osem := fun a b h => by
  have := csem_injective (a₁ := .inr a) (a₂ := .inr b) h
  injection this

theorem ccell_injective : Function.Injective (ccell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨ccell, ccell_injective⟩

/-- The duty tokens minted at a device: the barrier's, by their duty, and one of each of its own semaphores. -/
abbrev tokOf (x : Dev nD × (Duty ⊕ Kd)) : GSem nD τ sig × ℕ × Duty := match x.2 with
  | .inl σ => (ccell (x.1, .inl ()), 0, σ)
  | .inr k => (ccell (x.1, .inr k), 0, du)
theorem tokOf_injective : Function.Injective (tokOf : Dev nD × (Duty ⊕ Kd) → GSem nD τ sig × ℕ × Duty) := by
  rintro ⟨c, j⟩ ⟨c', j'⟩ h
  rcases j with σ | k <;> rcases j' with σ' | k'
  · have h1 := ccell_injective (congrArg Prod.fst h)
    have h2 : σ = σ' := congrArg (fun x : GSem nD τ sig × ℕ × Duty => x.2.2) h
    have h3 : c = c' := congrArg Prod.fst h1
    rw [h3, h2]
  · have h1 := congrArg Prod.snd (ccell_injective (congrArg Prod.fst h)); cases h1
  · have h1 := congrArg Prod.snd (ccell_injective (congrArg Prod.fst h)); cases h1
  · have h1 := ccell_injective (congrArg Prod.fst h)
    have h2 : k = k' := Sum.inr.inj (congrArg Prod.snd h1)
    have h3 : c = c' := congrArg Prod.fst h1
    rw [h3, h2]
def ringToks : Finset (GSem nD τ sig × ℕ × Duty) := Finset.univ.map ⟨tokOf, tokOf_injective⟩

theorem ownSemFacts : Pipeline.OwnSemFacts cfg0.spec osem := by decide +kernel

theorem share_eq (c : Dev nD) (w : Fin cfg0.W) : (dats m ρ sw 0 c).share w = fullShare := by unfold Dat.share; split <;> rfl

def u₀ : UU :=
  (initOf (Pipeline.cells cfgs cellOf_inj) (Pipeline.launchToks cfgs cellOf_inj), initOf ringCells ringToks)

/-- What the launch element deals device `c`, -/
def G (c : Dev nD) : sProp 𝕄 :=
  iprop((bigSep Finset.univ fun k : CK => roundState ER (Rd m ρ sw) (ccell (c, k)) 0)
    ∗ (bigSep Finset.univ fun k : CK => iprop(atPos ER (ccell (c, k)) 0 ∅ 0 ∗ reached ER (ccell (c, k)) 0)) ∗ toks c)
/-- and what the step over all devices makes of it. -/
def G' (c : Dev nD) : sProp 𝕄 := iprop(∃ K, ghost m ρ sw K c)

theorem fund_ring : BI.own (ER (initOf ringCells ringToks)) ⊢ (|==> bigSep Finset.univ (G m ρ sw) : sProp 𝕄) := by
  have hX (Φ : GSem nD τ sig → sProp 𝕄) : bigSep ringCells Φ = bigSep Finset.univ fun c : Dev nD => bigSep Finset.univ fun k : CK => Φ (ccell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m ρ sw) ringCells ringToks) $$ HX with ⟨Hst, Hr, Hat, Htok⟩
  imodintro
  ihave Hst' := (Entails.of_eq (hX fun g => roundState ER (Rd m ρ sw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ (semK c) := rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem bs_CK (Φ : CK → sProp 𝕄) : bigSep Finset.univ Φ = iprop(Φ (.inl ()) ∗ bigSep Finset.univ fun k : Kd => Φ (.inr k)) := by
  rw [bigSep_univ_sum, bigSep_univ_eq_bigSepL [()] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (ccell (c, k)) 0 : sProp 𝕄) := by
  rw [ownSems0_eq, unscopedSems0_eq, bs_CK]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ sw c)
      ⊢ |={Set.univ}=> iprop((bigSep Finset.univ fun k => iprop(∃ κ : ℕ, cellInv ER (Rd m ρ sw) κ (ccell (c, k))))
          ∗ (bigSep Finset.univ fun k => iprop(atPos ER (ccell (c, k)) 0 ∅ 0 ∗ reached ER (ccell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (ccell (c, k)) 0) ∗ bigSep Finset.univ fun k : CK => roundState ER (Rd m ρ sw) (ccell (c, k)) 0)
      ⊢ (|={Set.univ}=> bigSep Finset.univ fun k => iprop(∃ κ : ℕ, cellInv ER (Rd m ρ sw) κ (ccell (c, k))) : sProp 𝕄) from by
        rw [← bigSep_sep']
        exact (bigSep_mono fun k _ => (Rounds.body_intro ER (Rd m ρ sw) (ccell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop((bigSep Finset.univ fun k : CK => atPos ER (ccell (c, k)) 0 ∅ 0) ∗ payToks sw c)

theorem ghost_intro (K : Dev nD × CK → ℕ) (c : Dev nD) : iprop(recs m ρ sw K ∗ linear sw c) ⊢ G' m ρ sw c := by
  unfold linear payToks G' ghost
  rw [bs_CK]
  iintro ⟨#HR, ⟨Hb, Hk⟩, H1, H2, H3, H4⟩
  iexists K
  isplitr; · iexact HR
  isplitl [Hb]; · iexact Hb
  isplitl [Hk]; · iexact Hk
  isplitl [H1]; · iexact H1
  isplitl [H2]; · iexact H2
  isplitl [H3]; · iexact H3
  iexact H4

theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ sw) κ (ccell (c, k))))
          ∗ (bigSep Finset.univ fun k => iprop(atPos ER (ccell (c, k)) 0 ∅ 0 ∗ reached ER (ccell (c, k)) 0)) ∗ toks c) : sProp 𝕄)
      ⊢ bigSep Finset.univ (G' m ρ sw) := by
  rw [bigSep_sep', bigSep_sep', ← bigSep_univ_prod (fun ck : Dev nD × CK => iprop(∃ κ : ℕ, cellInv ER (Rd m ρ sw) κ (ccell ck))),
    bigSep_congr (s := Finset.univ) (fun (c : Dev nD) _ => bigSep_sep' Finset.univ (fun k : CK => (atPos ER (ccell (c, k)) 0 ∅ 0 : sProp 𝕄)) (fun k => reached ER (ccell (c, k)) 0)),
    bigSep_sep', ← bigSep_univ_prod (fun ck : Dev nD × CK => (reached ER (ccell ck) 0 : sProp 𝕄))]
  iintro ⟨HI, ⟨Hat, #HR⟩, Htok⟩
  ihave HK := (BI.bigSep_exists_pi Finset.univ (fun (ck : Dev nD × CK) (κ : ℕ) => (cellInv ER (Rd m ρ sw) κ (ccell ck) : sProp 𝕄))) $$ HI
  icases HK with ⟨%K, #HI⟩
  ihave Htk := (toks_around (F := F) sw) $$ Htok
  iapply (bigSep_persist (R := recs m ρ sw K) fun c _ => ghost_intro m ρ sw K c)
  isplitr
  · unfold recs; isplitl; · iexact HI
    iexact HR
  · iapply (show iprop((bigSep Finset.univ fun c : Dev nD => bigSep Finset.univ fun k : CK => atPos ER (ccell (c, k)) 0 ∅ 0) ∗ bigSep Finset.univ fun c : Dev nD => payToks sw c)
        ⊢ (iprop(bigSep Finset.univ fun c : Dev nD => linear sw c) : sProp 𝕄) from by
      unfold linear; rw [bigSep_sep'])
    isplitl [Hat]; · iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ sw c) : sProp 𝕄)
    ⊢ |={Set.univ}=> bigSep Finset.univ (G' m ρ sw) :=
  ((bigSep_mono fun c _ => core_alloc m ρ sw c).trans (bigSep_fupd _ _)).trans (BI.fupd_mono (regroup m ρ sw))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' m ρ sw c)
      ⊢ |={Set.univ}=> iprop(start m ρ sw c ∗ emp) := by
  rw [creds]
  iintro ⟨-, Hlev, Hcr, -, HG⟩
  imodintro
  unfold start G' creds₀
  isplitl
  · isplitl [HG]; · iexact HG
    isplitl [Hcr]; · iexact Hcr
    iexact Hlev
  · iempintro

theorem phi0_intro (c : Dev nD) :
    iprop(start m ρ sw c ∗ Pipeline.prefHeld Pipeline.Prefetch.none c (fun _ => fullShare.right) (fun k => k.elim0) ∗ Pipeline.scopedRest cfg0.spec c)
      ⊢ (dats m ρ sw 0 c).Φ 0 := by
  rw [show (dats m ρ sw 0 c).Φ 0 = Φ₀ m ρ sw c from rfl, scopedRest0_eq]
  unfold Φ₀ scr
  iintro ⟨Hs, -, Hr⟩
  isplitl [Hs]; · iexact Hs
  iexact Hr

theorem phi1_exit (c : Dev nD) :
    (dats m ρ sw 0 c).Φ (Fin.last cfg0.N) ⊢ iprop(unscopedSems0 c ∗ Pipeline.ownSems0 osem c ∗ Pipeline.scopedRest cfg0.spec c) := by
  rw [show (dats m ρ sw 0 c).Φ (Fin.last cfg0.N) = Φ₁ (F := F) c from rfl, scopedRest0_eq, ownSems0_eq, unscopedSems0_eq]
  unfold Φ₁ scr
  iintro ⟨Hr, Hb, Hk⟩
  isplitl [Hb]; · iexact Hb
  isplitl [Hk]; · iexact Hk
  iexact Hr

theorem waits (c : Dev nD) : (levAts L lv : sProp 𝕄) ⊢ Pipeline.cellsWaits cfgs (dats m ρ sw) () 0 c :=
  Pipeline.cellsWaits_intro cfgs (dats m ρ sw) () 0 c fun w s t => by
    refine mayWait_of c _ _ ?_
    rw [show lv ((c : Thread nD τ), SemLoc.dma (((cfgs 0).win w).sem s)) () = 0 from by fin_cases w <;> fin_cases s <;> rfl]
    rcases t with ⟨_ | _, ht⟩
    · exact above_O₀ sw c
    · exact above_zero 0

/-! ## The run -/

def finalA (c : Dev nD) (w : Fin cfg0.W) : Buf (Elt F) ((cfg0.win w).arr.view.loc (c : Thread nD τ)) := (dats m ρ sw 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ sw c w

set_option maxHeartbeats 2000000 in
set_option maxRecDepth 20000 in
/-- At the compiled mesh of 32 devices, for any float values, from any memory whose table is one of the two permutations and whose counters are
    zero: every weakly fair execution of @main terminates, with each window's array at what the kernel computes and every counter at zero. -/
theorem run_main (hT : TabOK m ρ sw) : θ_run defs (onTc (τ := τ) (main (F := F))) (s₀ m ρ) (fun r => QC m ρ sw r ∧ r.2.sem = fun _ => 0) :=
  Pipeline.θ_run_region_owing_glob_pf (fun p => (cfgs p).toPCfg) (fun p => (cfgs p).toPCfg_adm) (dats m ρ sw) () cellOf_inj (0 : Fin 1)
    winFacts0.to₀ ownSemFacts (Pipeline.PreFacts.none _) EP defs₀ 𝒱₀ m ρ main
    (hmain := fun _ => rfl)
    (hbody := body_obligation m ρ sw hT) (hne := block_pos0) (harr := arr_whole0) (hstage := stage_whole0) (hshare := share_eq m ρ sw)
    (hdistinct := winFacts0.arr_inj)
    (O₀ := O₀ sw) (howed₀ := fun _ => rfl) (howedN := fun _ => rfl)
    (L := L) (lv := lv) (hL := L_of_ne) (hwaits := waits m ρ sw)
    (G := G m ρ sw) (G' := G' m ρ sw) (u₀ := u₀)
    (hu₀ := by
      unfold u₀
      iintro Hu
      ihave H := (ownU_pair _ _) $$ Hu
      icases H with ⟨HP, HX⟩
      imod (fund_ring m ρ sw) $$ HX with HG
      imodintro
      isplitl [HP] <;> iassumption)
    (hglob := glob m ρ sw)
    (hA := fun _ _ => rfl) (hpf := fun _ k => k.elim0)
    (X := start m ρ sw) (Y := fun c => unscopedSems0 c) (Z := fun _ => iprop(emp))
    (hX := start_intro m ρ sw) (hin := phi0_intro m ρ sw) (hout := phi1_exit m ρ sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the arguments after the run hold what they held. -/
theorem finalA_x (c : Dev nD) : finalA m ρ sw c (0 : Fin 3) = (s₀ m ρ).mem (win0_0.arr.view.loc (c : Thread nD τ)) :=
  (dats (F := F) m ρ sw 0 c).arrAt_in (0 : Fin 3) rfl _
theorem finalA_pi (c : Dev nD) : finalA m ρ sw c (1 : Fin 3) = (s₀ m ρ).mem (win0_1.arr.view.loc (c : Thread nD τ)) :=
  (dats (F := F) m ρ sw 0 c).arrAt_in (1 : Fin 3) rfl _

end Cert.KProof

end
-- ==== Proof.Final.lean ====
/-
What the run leaves, of the arguments, under each of the two preconditions.
-/
module

public import proofs.«01_k».proof.Proof.Launch
public import proofs.«01_k».proof.Pre_pi_keeps_Kernel
public import proofs.«01_k».proof.Pre_pi_swaps_Kernel
public import Idealize.ShloMosaic.Lib.Pipeline.Value
@[expose] public section

set_option maxRecDepth 20000

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

variable (K : Dev nD × CK → ℕ)

/-! ## The values at the windows -/

omit [FloatOps F] in
/-- The staged block is the argument, -/
theorem xstg_at (c : Dev nD) (i : S1x2048x1024.Idx) : xstg m ρ c i = (s₀ m ρ).mem ((c : Thread nD τ).loc main_arg0) i := by
  unfold xstg
  rw [View.read_apply]
  refine congrArg ((s₀ m ρ).mem ((c : Thread nD τ).loc main_arg0)) (funext fun a => Fin.ext ?_)
  exact win0_0.rect_emb_val_of_index_zero (0 : Fin 1) a (by fin_cases a <;> rfl) i
omit [FloatOps F] in
/-- and the staged table the table. -/
theorem tstg_at (c : Dev nD) (i : S2.Idx) : tstg m ρ c i = (s₀ m ρ).mem ((c : Thread nD τ).loc main_arg1) i := by
  unfold tstg
  rw [View.read_apply]
  refine congrArg ((s₀ m ρ).mem ((c : Thread nD τ).loc main_arg1)) (funext fun a => Fin.ext ?_)
  exact win0_1.rect_emb_val_of_index_zero (0 : Fin 1) a (by fin_cases a <;> rfl) i

/-- The array of the result after the run holds, at every row, the row of the block that row comes from. -/
theorem finalA_out (c : Dev nD) (i : S1x2048x1024.Idx) : finalA m ρ sw c (2 : Fin 3) i = outAt m ρ sw c i := by
  have hd : ∀ t t' : Fin cfg0.N, (cfg0.win (2 : Fin 3)).flush t = true → (cfg0.win (2 : Fin 3)).flush t' = true → t ≠ t' →
      Disjoint ((cfg0.win (2 : Fin 3)).blk t).view.set ((cfg0.win (2 : Fin 3)).blk t').view.set :=
    fun t t' _ _ h => absurd ((fin_N t).trans (fin_N t').symm) h
  have h := (dats m ρ sw 0 c).arrAt_emb_eq_flushed (2 : Fin 3) hd t₀ rfl i
  rw [show ((cfg0.win (2 : Fin 3)).blk t₀).view.emb i = i from funext fun a => Fin.ext
    (win0_2.rect_emb_val_of_index_zero (0 : Fin 1) a (by fin_cases a <;> rfl) i)] at h
  exact h

/-- What a device's result holds, of the arguments of the mesh. -/
theorem final_value (c : Dev nD) (i : S1x2048x1024.Idx) :
    finalA m ρ sw c (2 : Fin 3) i = m (((org sw c (i 1).val : Dev nD) : Thread nD τ).loc main_arg0) i := by
  rw [finalA_out, outAt, xstg_at]
  rfl

/-! ## The table -/

/-- The two indices of the table. -/
def ix2 (k : Fin 2) : S2.Idx := fun a => match a with | ⟨0, _⟩ => k
theorem ix2_eq (i : S2.Idx) : i = ix2 (i 0) := funext fun a => by fin_cases a; rfl

/-- The tables of the two permutations. -/
def tblOf : S2.Idx → BitVec 32 := fun i => if (i 0).val = 0 then w11 sw else w11 (!sw)

theorem tbl_of_words (t : S2.Idx → BitVec 32) (h0 : t (ix2 0) = w11 sw) (h1 : t (ix2 1) = w11 (!sw)) : t = tblOf sw := by
  funext i
  rw [ix2_eq i]
  generalize i 0 = k
  change Fin 2 at k
  fin_cases k
  · exact h0
  · exact h1

theorem tabOK_of (h : ∀ c : Dev nD, m ((c : Thread nD τ).loc main_arg1) = tblOf sw) : TabOK m ρ sw := fun c i => by
  rw [tstg_at]
  exact congrFun (h c) i

/-- A conjunction of two comparisons that holds gives the two equations. -/
theorem eqs_of_andi (a b u v : BitVec 32) (h : IntOp.andi (IntOp.cmpi .eq a b) (IntOp.cmpi .eq u v) = 1#1) : a = b ∧ u = v := by
  have hand : ∀ p q : Bool, IntOp.andi (BitVec.ofBool p) (BitVec.ofBool q) = 1#1 → p = true ∧ q = true := by decide
  obtain ⟨h1, h2⟩ := hand _ _ h
  exact ⟨eq_of_beq h1, eq_of_beq h2⟩

/-- The first precondition at its one element: the two comparisons of the table's words, conjoined; -/
theorem keeps_at [Cert.Pre_pi_keeps_Kernel.Facts] (x : FVec F S1x2048x1024 .bf16) (t : IVec S2 32) :
    Cert.Pre_pi_keeps_Kernel.fn (F := F) x t (fun a => a.elim0) = IntOp.andi (IntOp.cmpi .eq (t (ix2 0)) 0#32) (IntOp.cmpi .eq (t (ix2 1)) 1#32) := by
  have h1 : (shapeCast Cert.Pre_pi_keeps_Kernel.S_ (extractStridedSlice Cert.Pre_pi_keeps_Kernel.S1 ![0] t Cert.Pre_pi_keeps_Kernel.Facts.slices_S2_S1_0)
      Cert.Pre_pi_keeps_Kernel.Facts.shapeCasts_S1_S_) (fun a => a.elim0) = t (ix2 0) :=
    congrArg t (funext fun a => by
      fin_cases a
      have hz : ∀ z : Fin 1, 0 + z.val = 0 := by decide
      exact Fin.ext (hz _))
  have h2 : (shapeCast Cert.Pre_pi_keeps_Kernel.S_ (extractStridedSlice Cert.Pre_pi_keeps_Kernel.S1 ![1] t Cert.Pre_pi_keeps_Kernel.Facts.slices_S2_S1_1)
      Cert.Pre_pi_keeps_Kernel.Facts.shapeCasts_S1_S_) (fun a => a.elim0) = t (ix2 1) :=
    congrArg t (funext fun a => by
      fin_cases a
      have hz : ∀ z : Fin 1, 1 + z.val = 1 := by decide
      exact Fin.ext (hz _))
  rw [← h1, ← h2]
  rfl

/-- and the second. -/
theorem swaps_at [Cert.Pre_pi_swaps_Kernel.Facts] (x : FVec F S1x2048x1024 .bf16) (t : IVec S2 32) :
    Cert.Pre_pi_swaps_Kernel.fn (F := F) x t (fun a => a.elim0) = IntOp.andi (IntOp.cmpi .eq (t (ix2 0)) 1#32) (IntOp.cmpi .eq (t (ix2 1)) 0#32) := by
  have h1 : (shapeCast Cert.Pre_pi_swaps_Kernel.S_ (extractStridedSlice Cert.Pre_pi_swaps_Kernel.S1 ![0] t Cert.Pre_pi_swaps_Kernel.Facts.slices_S2_S1_0)
      Cert.Pre_pi_swaps_Kernel.Facts.shapeCasts_S1_S_) (fun a => a.elim0) = t (ix2 0) :=
    congrArg t (funext fun a => by
      fin_cases a
      have hz : ∀ z : Fin 1, 0 + z.val = 0 := by decide
      exact Fin.ext (hz _))
  have h2 : (shapeCast Cert.Pre_pi_swaps_Kernel.S_ (extractStridedSlice Cert.Pre_pi_swaps_Kernel.S1 ![1] t Cert.Pre_pi_swaps_Kernel.Facts.slices_S2_S1_1)
      Cert.Pre_pi_swaps_Kernel.Facts.shapeCasts_S1_S_) (fun a => a.elim0) = t (ix2 1) :=
    congrArg t (funext fun a => by
      fin_cases a
      have hz : ∀ z : Fin 1, 1 + z.val = 1 := by decide
      exact Fin.ext (hz _))
  rw [← h1, ← h2]
  rfl

theorem tbl_of_keeps [Cert.Pre_pi_keeps_Kernel.Facts] (x : FVec F S1x2048x1024 .bf16) (t : IVec S2 32)
    (h : Cert.Pre_pi_keeps_Kernel.fn (F := F) x t = fun _ => 1#1) : t = tblOf false := by
  have e := congrFun h (fun a => a.elim0)
  rw [keeps_at] at e
  obtain ⟨h0, h1⟩ := eqs_of_andi _ _ _ _ e
  exact tbl_of_words false t h0 h1
theorem tbl_of_swaps [Cert.Pre_pi_swaps_Kernel.Facts] (x : FVec F S1x2048x1024 .bf16) (t : IVec S2 32)
    (h : Cert.Pre_pi_swaps_Kernel.fn (F := F) x t = fun _ => 1#1) : t = tblOf true := by
  have e := congrFun h (fun a => a.elim0)
  rw [swaps_at] at e
  obtain ⟨h0, h1⟩ := eqs_of_andi _ _ _ _ e
  exact tbl_of_words true t h0 h1

/-! ## The run, as the claims put it -/

/-- From a table that is one of the two permutations: every device's result holds, at every row, the row of the block it comes from; the
    arguments are unchanged and every counter is zero. -/
theorem run_claim (h : ∀ c : Dev nD, m ((c : Thread nD τ).loc main_arg1) = tblOf sw) :
    θ_run defs (onTc (τ := τ) (main (F := F))) ⟨m, fun _ => 0, ρ⟩ fun r =>
      (∀ c : Dev nD, (∀ i : S1x2048x1024.Idx, r.2.mem ((c : Thread nD τ).loc main_v1) i = m (((org sw c (i 1).val : Dev nD) : Thread nD τ).loc main_arg0) i)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun r hr => ⟨fun c => ⟨fun i => (congrFun (hr.1 c (2 : Fin 3)) i).trans (final_value m ρ sw c i),
      (hr.1 c (0 : Fin 3)).trans (finalA_x m ρ sw c), (hr.1 c (1 : Fin 3)).trans (finalA_pi m ρ sw c)⟩, hr.2⟩)
    (run_main m ρ sw (tabOK_of m ρ sw h))

/-- The frame of that run. -/
theorem run_frame (h : ∀ c : Dev nD, m ((c : Thread nD τ).loc main_arg1) = tblOf sw) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ hr => ⟨fun c => (hr.1 c).2, hr.2⟩) (run_claim m ρ sw h)

end Cert.KProof

end
-- ==== Proof.RefVal.lean ====
/-
The value of the reference: the blocks of its argument, in the order the sorted table gives.
-/
module

public import proofs.«01_k».proof.Defs
public import proofs.«01_k».proof.Proof.Gen.ReferenceIdeal
public import proofs.«01_k».proof.Proof.Gen.ReferenceIdeal.Run
public import proofs.«01_k».proof.Proof.Mesh
public import Idealize.ShloMosaic.Lib.Layout
@[expose] public section

set_option maxRecDepth 20000

noncomputable section

namespace Cert.KProof.Ref

open Cert.ReferenceIdeal Cert.ReferenceIdeal.Gen
open Idealize.ShloMosaic
open Idealize.ShloMosaic.TcCoe
open Idealize.SL.Sem

/-- Which of the two blocks a permutation of two takes for block `k`. -/
def flip2 (sw : Bool) (k : Fin 2) : Fin 2 := if sw then (if k = 0 then 1 else 0) else k

/-- The tables of the two permutations, as words. -/
def tbl (sw : Bool) : S2.Idx → BitVec 32 := fun i => if (i 0).val = 0 then (if sw then 1#32 else 0#32) else (if !sw then 1#32 else 0#32)

/-- The start indices the reference makes of the table: the sorting order, a negative one wrapped. -/
def starts (t : S2.Idx → BitVec 32) : S2x1.Idx → BitVec 32 :=
  broadcastInDim S2x1 ![0] bcast_S2_S2x1_0 (select (cmpi .slt ((Host.sort2 S2 0 comparator_i32_i32_d0 t (iotaInDim S2 32 0)).2) (broadcastInDim S2 ![] bcast_S_S2 (constantI S_ 32 0#32)))
    (addi ((Host.sort2 S2 0 comparator_i32_i32_d0 t (iotaInDim S2 32 0)).2) (broadcastInDim S2 ![] bcast_S_S2 (constantI S_ 32 2#32)))
    ((Host.sort2 S2 0 comparator_i32_i32_d0 t (iotaInDim S2 32 0)).2))

/-- The index of the start of result block `k`. -/
def si (k : Fin 2) : S2x1.Idx := fun a => match a with | ⟨0, _⟩ => k | ⟨1, _⟩ => (0 : Fin 1)

/-- The start of result block `k` is the block the permutation takes. -/
theorem starts_at (sw : Bool) (k : Fin 2) : min (starts (tbl sw) (si k)).toInt.toNat 1 = (flip2 sw k).val := by
  revert sw k; decide +kernel

/-- The index of the argument that result index `y` reads. -/
def perm (sw : Bool) (y : S2x2048x1024.Idx) : S2x2048x1024.Idx :=
  fun a => match a with | ⟨0, _⟩ => flip2 sw (y 0) | ⟨1, _⟩ => y 1 | ⟨2, _⟩ => y 2

/-- The gather read at an index. -/
theorem gather_at {α : Type} (sw : Bool) (x : S2x2048x1024.Idx → α) (y : S2x2048x1024.Idx) :
    Host.gather gather_S2x2048x1024_S2x1_S2x2048x1024_12_0_n_n_0_1_120481024 x (starts (tbl sw)) y = x (perm sw y) := by
  unfold Host.gather
  refine congrArg x (funext fun a => Fin.ext ?_)
  show gather_S2x2048x1024_S2x1_S2x2048x1024_12_0_n_n_0_1_120481024.start y (starts (tbl sw)) a
      + gather_S2x2048x1024_S2x1_S2x2048x1024_12_0_n_n_0_1_120481024.batchCoord y a
      + gather_S2x2048x1024_S2x1_S2x2048x1024_12_0_n_n_0_1_120481024.offCoord y a = _
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S2x2048x1024_S2x1_S2x2048x1024_12_0_n_n_0_1_120481024.startIndexMap from List.mem_singleton.mpr rfl)]
    have hsi : gather_S2x2048x1024_S2x1_S2x2048x1024_12_0_n_n_0_1_120481024.siIdx y
        ⟨List.idxOf (0 : Fin 3) gather_S2x2048x1024_S2x1_S2x2048x1024_12_0_n_n_0_1_120481024.startIndexMap, List.idxOf_lt_length_iff.2 (List.mem_singleton.mpr rfl)⟩ = si (y 0) := by
      funext b; refine Fin.ext ?_
      match b with
      | ⟨0, _⟩ => rfl
      | ⟨1, _⟩ => rfl
    have h := starts_at sw (y 0)
    rw [← hsi] at h
    exact h
  · exact Nat.zero_add _
  · exact Nat.zero_add _

/-- The reference's result, of its arguments. -/
def out (x : FVec Ideal S2x2048x1024 .bf16) (t : S2.Idx → BitVec 32) : FVec Ideal S2x2048x1024 .bf16 :=
  truncf .bf16 (extf .f32 (Host.gather gather_S2x2048x1024_S2x1_S2x2048x1024_12_0_n_n_0_1_120481024 x (starts t)) bitsLt_bf16_f32) bitsLt_bf16_f32

theorem out_at (sw : Bool) (x : FVec Ideal S2x2048x1024 .bf16) (y : S2x2048x1024.Idx) : out x (tbl sw) y = x (perm sw y) :=
  gather_at sw x y

/-- The block of a device along the cut axis. -/
theorem meshBlock_x (c : Fin 32) : ((Layout.meshBlock [2, 4, 4] ![[0], [], []] c : (b : Fin 3) → Fin (Layout.cutSize [2, 4, 4] ((![[0], [], []] : Fin 3 → List ℕ) b))) 0).val = c.val / 16 := by
  revert c; decide +kernel
theorem meshBlock_r (c : Fin 32) : ((Layout.meshBlock [2, 4, 4] ![[0], [], []] c : (b : Fin 3) → Fin (Layout.cutSize [2, 4, 4] ((![[0], [], []] : Fin 3 → List ℕ) b))) 1).val = 0 := rfl
theorem meshBlock_c (c : Fin 32) : ((Layout.meshBlock [2, 4, 4] ![[0], [], []] c : (b : Fin 3) → Fin (Layout.cutSize [2, 4, 4] ((![[0], [], []] : Fin 3 → List ℕ) b))) 2).val = 0 := rfl

/-- An index of a device's block, read through the permutation, is that index of the block of the device it comes from. -/
theorem perm_block {α : Type} (sw : Bool) (c d : Fin 32) (hd : d.val / 16 = (flip2 sw ⟨c.val / 16, by have := c.isLt; omega⟩).val)
    (i : (⟨3, ![1, 2048, 1024]⟩ : Shape).Idx) (X : S2x2048x1024.Idx → α)
    (v : S2x2048x1024.Idx → α) (hv : ∀ y, v y = X (perm sw y)) :
    (Layout.blockN ⟨3, ![1, 2048, 1024]⟩ ⟨3, ![2, 2048, 1024]⟩ (Layout.meshBlock [2, 4, 4] ![[0], [], []] d) X) i
      = (Layout.blockN ⟨3, ![1, 2048, 1024]⟩ ⟨3, ![2, 2048, 1024]⟩ (Layout.meshBlock [2, 4, 4] ![[0], [], []] c) v) i := by
  rw [Layout.blockN_apply, Layout.blockN_apply, hv]
  refine congrArg X (funext fun a => Fin.ext ?_)
  have h0 : (i 0).val = 0 := Nat.lt_one_iff.mp (i 0).isLt
  match a with
  | ⟨0, _⟩ =>
    have e1 := meshBlock_x d
    have e2 := meshBlock_x c
    refine (show _ = d.val / 16 from ?_).trans (hd.trans (congrArg (fun k => (flip2 sw k).val) (Fin.ext ?_)))
    · rw [Layout.TilesN.idx_val]
      show ((Layout.meshBlock [2, 4, 4] ![[0], [], []] d : (b : Fin 3) → Fin (Layout.cutSize [2, 4, 4] ((![[0], [], []] : Fin 3 → List ℕ) b))) 0).val * 1 + (i 0).val = _
      rw [h0, e1]; omega
    · show c.val / 16 = ((Layout.meshBlock [2, 4, 4] ![[0], [], []] c : (b : Fin 3) → Fin (Layout.cutSize [2, 4, 4] ((![[0], [], []] : Fin 3 → List ℕ) b))) 0).val * 1 + (i 0).val
      rw [h0, e2]; omega
  | ⟨1, _⟩ => rfl
  | ⟨2, _⟩ => rfl

end Cert.KProof.Ref

end
-- ==== Proof.Same.lean ====
/-
The two printings of the kernel are one program: the body tables are equal.
-/
module

public import proofs.«01_k».proof.Defs
public import proofs.«01_k».proof.Proof.Gen.Kernel
public import proofs.«01_k».proof.Proof.Gen.KernelIdeal

@[expose] public section

set_option maxRecDepth 100000
set_option maxHeartbeats 20000000

noncomputable section

namespace Cert.KProof

open Idealize.ShloMosaic Idealize.SL.Sem

variable {F : FTy → Type} [FloatOps F]

/-- The bodies are the same, -/
theorem same_body : Kernel.cc0_body (F := F) = KernelIdeal.cc0_body (F := F) := rfl

/-- so are the tables of the bodies, -/
theorem same_defs₀ : Kernel.defs₀ (F := F) = KernelIdeal.defs₀ (F := F) := by
  unfold Kernel.defs₀ KernelIdeal.defs₀
  refine congrArg Defs.onTc (funext fun ℓ => funext fun x => ?_)
  match ℓ, x with
  | ⟨0, _⟩, (t, s) => rfl
  | ⟨_ + 1, h⟩, _ => exact absurd h (Nat.not_lt.2 (Nat.le_add_left _ _))

/-- and so are the tables with the pipeline. -/
theorem same_defs : Kernel.defs (F := F) = KernelIdeal.defs (F := F) := by
  unfold Kernel.defs KernelIdeal.defs
  exact congrArg (Pipeline.defs (KernelIdeal.pcfgs (F := F))) same_defs₀

/-- The mains are the same. -/
theorem same_main : Kernel.main (F := F) = KernelIdeal.main (F := F) := rfl

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.Pre_pi_keeps_Kernel
public import proofs.«01_k».proof.Proof.Gen.Pre_pi_swaps_Kernel
public import proofs.«01_k».proof.Proof.Gen.Pre_pi_keeps_ReferenceIdeal
public import proofs.«01_k».proof.Proof.Gen.Pre_pi_swaps_ReferenceIdeal
public import proofs.«01_k».proof.Proof.Final
public import proofs.«01_k».proof.Proof.RefVal
public import proofs.«01_k».proof.Proof.Same

@[expose] public section

noncomputable section

namespace Cert.Proof

open Idealize.ShloMosaic Idealize.ShloMosaic.TcCoe Idealize.SL.Sem
open Cert.KProof (tblOf org mate setp tbl_of_keeps tbl_of_swaps run_frame run_claim)
open Cert.KProof.Ref (flip2 tbl out)

/-- The run of the compiled kernel is the run of the same program as it is read over the ideal values, at `Bits`. -/
theorem frame_of_same (sw : Bool) (m : (ℓ : Loc Cert.Kernel.nD Cert.Kernel.τ Cert.Kernel.sig) → Buf (Elt Bits) ℓ) (ρ : Dev Cert.Kernel.nD → PrngReg)
    (ht : ∀ c : Dev Cert.Kernel.nD, m ((c.tc : Thread Cert.Kernel.nD Cert.Kernel.τ).loc Cert.Kernel.main_arg1) = tblOf sw) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  Eq.mpr (congrArg (fun D => θ_run D (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) (Cert.KProof.same_defs (F := Bits))) (run_frame (F := Bits) m ρ sw ht)

/-- The compiled kernel, the identity table. -/
theorem frame_kernel : Cert.quiescent_Kernel := fun m ρ h => frame_of_same false m ρ fun c => tbl_of_keeps _ _ (h c)

/-- The compiled kernel, the swapping table. -/
theorem frame_kernel_swaps : Cert.quiescent_Kernel_pre_pi_swaps_Kernel := fun m ρ h => frame_of_same true m ρ fun c => tbl_of_swaps _ _ (h c)

/-- The same program over the ideal values, the identity table. -/
theorem frame_kernelIdeal : Cert.quiescent_KernelIdeal := fun m ρ h =>
  run_frame (F := Ideal) m ρ false fun c => tbl_of_keeps _ _ (h c)

/-- The same program over the ideal values, the swapping table. -/
theorem frame_kernelIdeal_swaps : Cert.quiescent_KernelIdeal_pre_pi_swaps_Kernel := fun m ρ h =>
  run_frame (F := Ideal) m ρ true fun c => tbl_of_swaps _ _ (h c)

/-- The reference keeps its arguments and has no counters. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_reference : Cert.quiescent_ReferenceIdeal := fun m g _ => ref_frame m g
theorem frame_reference_keeps : Cert.quiescent_ReferenceIdeal_pre_pi_keeps_ReferenceIdeal := fun m g _ => ref_frame m g
theorem frame_reference_swaps : Cert.quiescent_ReferenceIdeal_pre_pi_swaps_ReferenceIdeal := fun m g _ => ref_frame m g

theorem mate_div (sw : Bool) (c : Fin 32) : (mate sw c).val / 16 = (flip2 sw ⟨c.val / 16, by have := c.isLt; omega⟩).val := by
  revert sw c; decide
theorem setp_div (ax : Bool) (q : Fin 4) (c : Fin 32) : (setp ax q c).val / 16 = c.val / 16 := by
  revert ax q c; decide
/-- The device a row comes from lies in the half of the mesh the permutation names. -/
theorem org_div (sw : Bool) (c : Fin 32) (r : ℕ) : (org sw c r).val / 16 = (flip2 sw ⟨c.val / 16, by have := c.isLt; omega⟩).val := by
  unfold org
  rw [mate_div]
  refine congrArg (fun k => (flip2 sw k).val) (Fin.ext ?_)
  show Fin.val _ / 16 = c.val / 16
  split
  · rfl
  split
  · exact setp_div _ _ _
  · exact setp_div _ _ _

/-- The value claim, for either table. -/
theorem algebraic (sw : Bool) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : ∀ c : Dev Cert.KernelIdeal.nD, m ((c.tc : Thread Cert.KernelIdeal.nD Cert.KernelIdeal.τ).loc Cert.KernelIdeal.main_arg1) = tblOf sw)
    (hag : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht' : m' (((0 : Dev Cert.ReferenceIdeal.nD).tc : Thread Cert.ReferenceIdeal.nD Cert.ReferenceIdeal.τ).loc Cert.ReferenceIdeal.main_arg1) = tbl sw :=
    ((hag (0 : Fin 32)).2.symm.trans (ht (0 : Fin 32)))
  refine ⟨out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨funext fun i => ((hr.1 c).1 i).trans ?_, (hr.1 c).2⟩) (run_claim (F := Ideal) m g sw ht)
    refine (congrFun (hag (org sw c (i 1).val)).1 i).trans ?_
    exact Cert.KProof.Ref.perm_block sw c (org sw c (i 1).val) (org_div sw c (i 1).val) i _ _ fun y => by
      rw [ht']; exact Cert.KProof.Ref.out_at sw _ y
  · exact (θ_run Cert.ReferenceIdeal.defs _ _).mono (fun r h => h 0) (Cert.ReferenceIdeal.Value.run (F := Ideal) m' g')

/-- The value claim at the identity table, -/
theorem algebraic_keeps : Cert.algebraic_KernelIdeal_ReferenceIdeal := fun m g m' g' h hag =>
  algebraic false m g m' g' (fun c => tbl_of_keeps _ _ (h c)) hag
/-- and at the swapping one. -/
theorem algebraic_swaps : Cert.algebraic_KernelIdeal_ReferenceIdeal_pre_pi_swaps_Kernel := fun m g m' g' h hag =>
  algebraic true m g m' g' (fun c => tbl_of_swaps _ _ (h c)) hag

theorem claim : Cert.Claim := ⟨Cert.Kernel.Gen.facts, Cert.KernelIdeal.Gen.facts, Cert.ReferenceIdeal.Gen.facts,
  Cert.Pre_pi_keeps_Kernel.Gen.facts, Cert.Pre_pi_swaps_Kernel.Gen.facts, Cert.Pre_pi_keeps_ReferenceIdeal.Gen.facts, Cert.Pre_pi_swaps_ReferenceIdeal.Gen.facts,
  frame_kernel, frame_kernel_swaps, frame_kernelIdeal, frame_kernelIdeal_swaps, frame_reference, frame_reference_keeps, frame_reference_swaps,
  trivial, algebraic_keeps, algebraic_swaps⟩

end Cert.Proof

end
